-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_swiglu [hPre_finite_swiglu : Cert.Pre_finite_swiglu.Facts] (m : (ℓ : Loc Cert.KernelIdeal.nD Cert.KernelIdeal.τ Cert.KernelIdeal.sig) → Buf (Elt Ideal) ℓ) : Prop :=
  ∀ c : Dev Cert.KernelIdeal.nD,
    (Cert.Pre_finite_swiglu.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_swiglu [hPre_finite_swiglu : Cert.Pre_finite_swiglu.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_swiglu.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_fox [hPre_finite_fox : Cert.Pre_finite_fox.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_fox.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_fox [hPre_finite_fox : Cert.Pre_finite_fox.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_fox.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mix [hPre_finite_mix : Cert.Pre_finite_mix.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mix [hPre_finite_mix : Cert.Pre_finite_mix.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gates [hPre_finite_gates : Cert.Pre_finite_gates.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gates.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gates [hPre_finite_gates : Cert.Pre_finite_gates.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gates.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_normed [hPre_finite_normed : Cert.Pre_finite_normed.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_normed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_normed [hPre_finite_normed : Cert.Pre_finite_normed.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_normed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_projected [hPre_finite_projected : Cert.Pre_finite_projected.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_projected.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_projected [hPre_finite_projected : Cert.Pre_finite_projected.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_projected.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_loss [hPre_finite_loss : Cert.Pre_finite_loss.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_loss.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_loss [hPre_finite_loss : Cert.Pre_finite_loss.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_loss.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_lse [hPre_finite_lse : Cert.Pre_finite_lse.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_lse.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_lse [hPre_finite_lse : Cert.Pre_finite_lse.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_lse.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_swiglu [hKernelIdeal : Cert.KernelIdeal.Facts] [hPre_finite_swiglu : Cert.Pre_finite_swiglu.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_swiglu m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_swiglu [hReferenceIdeal : Cert.ReferenceIdeal.Facts] [hPre_finite_swiglu : Cert.Pre_finite_swiglu.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_swiglu m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_fox [hKernel2Ideal : Cert.Kernel2Ideal.Facts] [hPre_finite_fox : Cert.Pre_finite_fox.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_fox m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_fox [hReference2Ideal : Cert.Reference2Ideal.Facts] [hPre_finite_fox : Cert.Pre_finite_fox.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_fox m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_mix [hKernel3Ideal : Cert.Kernel3Ideal.Facts] [hPre_finite_mix : Cert.Pre_finite_mix.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mix m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_mix [hReference3Ideal : Cert.Reference3Ideal.Facts] [hPre_finite_mix : Cert.Pre_finite_mix.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mix m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_gates [hKernel4Ideal : Cert.Kernel4Ideal.Facts] [hPre_finite_gates : Cert.Pre_finite_gates.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gates m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_gates [hReference4Ideal : Cert.Reference4Ideal.Facts] [hPre_finite_gates : Cert.Pre_finite_gates.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gates m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_normed [hKernel6Ideal : Cert.Kernel6Ideal.Facts] [hPre_finite_normed : Cert.Pre_finite_normed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_normed m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_normed [hReference6Ideal : Cert.Reference6Ideal.Facts] [hPre_finite_normed : Cert.Pre_finite_normed.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_normed m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_projected [hKernel7Ideal : Cert.Kernel7Ideal.Facts] [hPre_finite_projected : Cert.Pre_finite_projected.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_projected m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_projected [hReference7Ideal : Cert.Reference7Ideal.Facts] [hPre_finite_projected : Cert.Pre_finite_projected.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_projected m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_loss [hKernel8Ideal : Cert.Kernel8Ideal.Facts] [hPre_finite_loss : Cert.Pre_finite_loss.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_loss m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_loss [hReference8Ideal : Cert.Reference8Ideal.Facts] [hPre_finite_loss : Cert.Pre_finite_loss.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_loss m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_finite_lse [hKernel12Ideal : Cert.Kernel12Ideal.Facts] [hPre_finite_lse : Cert.Pre_finite_lse.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_lse m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_finite_lse [hReference12Ideal : Cert.Reference12Ideal.Facts] [hPre_finite_lse : Cert.Pre_finite_lse.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_lse m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal_pre_finite_swiglu [hKernelIdeal : Cert.KernelIdeal.Facts] [hReferenceIdeal : Cert.ReferenceIdeal.Facts] [hPre_finite_swiglu : Cert.Pre_finite_swiglu.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_swiglu m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_fox [hKernel2Ideal : Cert.Kernel2Ideal.Facts] [hReference2Ideal : Cert.Reference2Ideal.Facts] [hPre_finite_fox : Cert.Pre_finite_fox.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_fox m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v86_0)) (v1 : (c : Dev Cert.Kernel2Ideal.nD) → Buf (Elt Ideal) ((c.tc : Thread Cert.Kernel2Ideal.nD Cert.Kernel2Ideal.τ).loc Cert.Kernel2Ideal.main_v86_1)) (v2 : (c : Dev Cert.Kernel2Ideal.nD) → Buf (Elt Ideal) ((c.tc : Thread Cert.Kernel2Ideal.nD Cert.Kernel2Ideal.τ).loc Cert.Kernel2Ideal.main_v86_2)) (v3 : (c : Dev Cert.Kernel2Ideal.nD) → Buf (Elt Ideal) ((c.tc : Thread Cert.Kernel2Ideal.nD Cert.Kernel2Ideal.τ).loc Cert.Kernel2Ideal.main_v86_3)) (v4 : (c : Dev Cert.Kernel2Ideal.nD) → Buf (Elt Ideal) ((c.tc : Thread Cert.Kernel2Ideal.nD Cert.Kernel2Ideal.τ).loc Cert.Kernel2Ideal.main_v86_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v86_0) = v0 c
          ∧ r.2.mem ((c.tc : Thread Cert.Kernel2Ideal.nD Cert.Kernel2Ideal.τ).loc Cert.Kernel2Ideal.main_v86_1) = v1 c
          ∧ r.2.mem ((c.tc : Thread Cert.Kernel2Ideal.nD Cert.Kernel2Ideal.τ).loc Cert.Kernel2Ideal.main_v86_2) = v2 c
          ∧ r.2.mem ((c.tc : Thread Cert.Kernel2Ideal.nD Cert.Kernel2Ideal.τ).loc Cert.Kernel2Ideal.main_v86_3) = v3 c
          ∧ r.2.mem ((c.tc : Thread Cert.Kernel2Ideal.nD Cert.Kernel2Ideal.τ).loc Cert.Kernel2Ideal.main_v86_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v85) = v2 c
          ∧ r.2.mem ((c.tc : Thread Cert.Reference2Ideal.nD Cert.Reference2Ideal.τ).loc Cert.Reference2Ideal.main_v89) = v3 c
          ∧ r.2.mem ((c.tc : Thread Cert.Reference2Ideal.nD Cert.Reference2Ideal.τ).loc Cert.Reference2Ideal.main_v91) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_mix [hKernel3Ideal : Cert.Kernel3Ideal.Facts] [hReference3Ideal : Cert.Reference3Ideal.Facts] [hPre_finite_mix : Cert.Pre_finite_mix.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mix m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)) (v3 : (c : Dev Cert.Kernel3Ideal.nD) → Buf (Elt Ideal) ((c.tc : Thread Cert.Kernel3Ideal.nD Cert.Kernel3Ideal.τ).loc Cert.Kernel3Ideal.main_v27_3)) (v4 : (c : Dev Cert.Kernel3Ideal.nD) → Buf (Elt Ideal) ((c.tc : Thread Cert.Kernel3Ideal.nD Cert.Kernel3Ideal.τ).loc Cert.Kernel3Ideal.main_v27_4)) (v5 : (c : Dev Cert.Kernel3Ideal.nD) → Buf (Elt Ideal) ((c.tc : Thread Cert.Kernel3Ideal.nD Cert.Kernel3Ideal.τ).loc Cert.Kernel3Ideal.main_v27_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_v27_3) = v3 c
          ∧ r.2.mem ((c.tc : Thread Cert.Kernel3Ideal.nD Cert.Kernel3Ideal.τ).loc Cert.Kernel3Ideal.main_v27_4) = v4 c
          ∧ r.2.mem ((c.tc : Thread Cert.Kernel3Ideal.nD Cert.Kernel3Ideal.τ).loc Cert.Kernel3Ideal.main_v27_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v75) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_v83) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_gates [hKernel4Ideal : Cert.Kernel4Ideal.Facts] [hReference4Ideal : Cert.Reference4Ideal.Facts] [hPre_finite_gates : Cert.Pre_finite_gates.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gates m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v27) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_normed [hKernel6Ideal : Cert.Kernel6Ideal.Facts] [hReference6Ideal : Cert.Reference6Ideal.Facts] [hPre_finite_normed : Cert.Pre_finite_normed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_normed m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite_projected [hKernel7Ideal : Cert.Kernel7Ideal.Facts] [hReference7Ideal : Cert.Reference7Ideal.Facts] [hPre_finite_projected : Cert.Pre_finite_projected.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_projected m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_loss [hKernel8Ideal : Cert.Kernel8Ideal.Facts] [hReference8Ideal : Cert.Reference8Ideal.Facts] [hPre_finite_loss : Cert.Pre_finite_loss.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_loss m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v51) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_v34) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite_lse [hKernel12Ideal : Cert.Kernel12Ideal.Facts] [hReference12Ideal : Cert.Reference12Ideal.Facts] [hPre_finite_lse : Cert.Pre_finite_lse.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_lse m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v26)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v26) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_swiglu : Cert.Pre_finite_swiglu.Facts) (hPre_finite_fox : Cert.Pre_finite_fox.Facts) (hPre_finite_mix : Cert.Pre_finite_mix.Facts) (hPre_finite_gates : Cert.Pre_finite_gates.Facts) (hPre_finite_normed : Cert.Pre_finite_normed.Facts) (hPre_finite_projected : Cert.Pre_finite_projected.Facts) (hPre_finite_loss : Cert.Pre_finite_loss.Facts) (hPre_finite_lse : Cert.Pre_finite_lse.Facts),
    quiescent_Kernel (hKernel := hKernel)
    ∧ quiescent_KernelIdeal (hKernelIdeal := hKernelIdeal)
    ∧ quiescent_KernelIdeal_pre_finite_swiglu (hKernelIdeal := hKernelIdeal) (hPre_finite_swiglu := hPre_finite_swiglu)
    ∧ quiescent_ReferenceIdeal (hReferenceIdeal := hReferenceIdeal)
    ∧ quiescent_ReferenceIdeal_pre_finite_swiglu (hReferenceIdeal := hReferenceIdeal) (hPre_finite_swiglu := hPre_finite_swiglu)
    ∧ quiescent_Kernel2 (hKernel2 := hKernel2)
    ∧ quiescent_Kernel2Ideal (hKernel2Ideal := hKernel2Ideal)
    ∧ quiescent_Kernel2Ideal_pre_finite_fox (hKernel2Ideal := hKernel2Ideal) (hPre_finite_fox := hPre_finite_fox)
    ∧ quiescent_Reference2Ideal (hReference2Ideal := hReference2Ideal)
    ∧ quiescent_Reference2Ideal_pre_finite_fox (hReference2Ideal := hReference2Ideal) (hPre_finite_fox := hPre_finite_fox)
    ∧ quiescent_Kernel3 (hKernel3 := hKernel3)
    ∧ quiescent_Kernel3Ideal (hKernel3Ideal := hKernel3Ideal)
    ∧ quiescent_Kernel3Ideal_pre_finite_mix (hKernel3Ideal := hKernel3Ideal) (hPre_finite_mix := hPre_finite_mix)
    ∧ quiescent_Reference3Ideal (hReference3Ideal := hReference3Ideal)
    ∧ quiescent_Reference3Ideal_pre_finite_mix (hReference3Ideal := hReference3Ideal) (hPre_finite_mix := hPre_finite_mix)
    ∧ quiescent_Kernel4 (hKernel4 := hKernel4)
    ∧ quiescent_Kernel4Ideal (hKernel4Ideal := hKernel4Ideal)
    ∧ quiescent_Kernel4Ideal_pre_finite_gates (hKernel4Ideal := hKernel4Ideal) (hPre_finite_gates := hPre_finite_gates)
    ∧ quiescent_Reference4Ideal (hReference4Ideal := hReference4Ideal)
    ∧ quiescent_Reference4Ideal_pre_finite_gates (hReference4Ideal := hReference4Ideal) (hPre_finite_gates := hPre_finite_gates)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_normed (hKernel6Ideal := hKernel6Ideal) (hPre_finite_normed := hPre_finite_normed)
    ∧ quiescent_Reference6Ideal (hReference6Ideal := hReference6Ideal)
    ∧ quiescent_Reference6Ideal_pre_finite_normed (hReference6Ideal := hReference6Ideal) (hPre_finite_normed := hPre_finite_normed)
    ∧ quiescent_Kernel7 (hKernel7 := hKernel7)
    ∧ quiescent_Kernel7Ideal (hKernel7Ideal := hKernel7Ideal)
    ∧ quiescent_Kernel7Ideal_pre_finite_projected (hKernel7Ideal := hKernel7Ideal) (hPre_finite_projected := hPre_finite_projected)
    ∧ quiescent_Reference7Ideal (hReference7Ideal := hReference7Ideal)
    ∧ quiescent_Reference7Ideal_pre_finite_projected (hReference7Ideal := hReference7Ideal) (hPre_finite_projected := hPre_finite_projected)
    ∧ quiescent_Kernel8 (hKernel8 := hKernel8)
    ∧ quiescent_Kernel8Ideal (hKernel8Ideal := hKernel8Ideal)
    ∧ quiescent_Kernel8Ideal_pre_finite_loss (hKernel8Ideal := hKernel8Ideal) (hPre_finite_loss := hPre_finite_loss)
    ∧ quiescent_Reference8Ideal (hReference8Ideal := hReference8Ideal)
    ∧ quiescent_Reference8Ideal_pre_finite_loss (hReference8Ideal := hReference8Ideal) (hPre_finite_loss := hPre_finite_loss)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_lse (hKernel12Ideal := hKernel12Ideal) (hPre_finite_lse := hPre_finite_lse)
    ∧ quiescent_Reference12Ideal (hReference12Ideal := hReference12Ideal)
    ∧ quiescent_Reference12Ideal_pre_finite_lse (hReference12Ideal := hReference12Ideal) (hPre_finite_lse := hPre_finite_lse)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_swiglu (hKernelIdeal := hKernelIdeal) (hReferenceIdeal := hReferenceIdeal) (hPre_finite_swiglu := hPre_finite_swiglu)
    ∧ preserves_Kernel2_Kernel2Ideal
    ∧ algebraic_Kernel2Ideal_Reference2Ideal_pre_finite_fox (hKernel2Ideal := hKernel2Ideal) (hReference2Ideal := hReference2Ideal) (hPre_finite_fox := hPre_finite_fox)
    ∧ preserves_Kernel3_Kernel3Ideal
    ∧ algebraic_Kernel3Ideal_Reference3Ideal_pre_finite_mix (hKernel3Ideal := hKernel3Ideal) (hReference3Ideal := hReference3Ideal) (hPre_finite_mix := hPre_finite_mix)
    ∧ preserves_Kernel4_Kernel4Ideal
    ∧ algebraic_Kernel4Ideal_Reference4Ideal_pre_finite_gates (hKernel4Ideal := hKernel4Ideal) (hReference4Ideal := hReference4Ideal) (hPre_finite_gates := hPre_finite_gates)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_normed (hKernel6Ideal := hKernel6Ideal) (hReference6Ideal := hReference6Ideal) (hPre_finite_normed := hPre_finite_normed)
    ∧ preserves_Kernel7_Kernel7Ideal
    ∧ algebraic_Kernel7Ideal_Reference7Ideal_pre_finite_projected (hKernel7Ideal := hKernel7Ideal) (hReference7Ideal := hReference7Ideal) (hPre_finite_projected := hPre_finite_projected)
    ∧ preserves_Kernel8_Kernel8Ideal
    ∧ algebraic_Kernel8Ideal_Reference8Ideal_pre_finite_loss (hKernel8Ideal := hKernel8Ideal) (hReference8Ideal := hReference8Ideal) (hPre_finite_loss := hPre_finite_loss)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_lse (hKernel12Ideal := hKernel12Ideal) (hReference12Ideal := hReference12Ideal) (hPre_finite_lse := hPre_finite_lse)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite_fox.lean ====
abbrev S4096x8x64 : Shape := ⟨3, ![4096, 8, 64]⟩
abbrev S4096x8 : Shape := ⟨2, ![4096, 8]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S4096x8x64 .f32) (main_arg3 : FVec F S4096x8 .f32) (main_arg4 : FVec F S4096x8x64 .f32) (main_v12 : IVec S_ 1) (main_v14 : IVec S4096x8x64 1) (main_v15 : FVec F S4096x8x64 .f32) : IVec S_ 1 :=
  let main_v16 : IVec S4096x8x64 1 := cmpf .olt main_arg2 main_v15
  let main_v17 : IVec S4096x8x64 1 := andi main_v14 main_v16
  let main_c_6 : IVec S_ 1 := constantI S_ 1 1#1
  let main_v18 : IVec S_ 1 := (fun x v => Host.reduce IntOp.andi x v reducesTo_S4096x8x64_S_d0_1_2 h_S_) main_v17 main_c_6
  let main_v19 : IVec S_ 1 := andi main_v12 main_v18
  let main_cst_7 : FVec F S_ .f32 := constant S_ .f32 0xFF800000#32
  let main_v20 : FVec F S4096x8 .f32 := broadcastInDim S4096x8 ![] bcast_S_S4096x8 main_cst_7
  let main_v21 : IVec S4096x8 1 := cmpf .ogt main_arg3 main_v20
  let main_cst_8 : FVec F S_ .f32 := constant S_ .f32 0x7F800000#32
  let main_v22 : FVec F S4096x8 .f32 := broadcastInDim S4096x8 ![] bcast_S_S4096x8 main_cst_8
  let main_v23 : IVec S4096x8 1 := cmpf .olt main_arg3 main_v22
  let main_v24 : IVec S4096x8 1 := andi main_v21 main_v23
  let main_c_9 : IVec S_ 1 := constantI S_ 1 1#1
  let main_v25 : IVec S_ 1 := (fun x v => Host.reduce IntOp.andi x v reducesTo_S4096x8_S_d0_1 h_S_) main_v24 main_c_9
  let main_v26 : IVec S_ 1 := andi main_v19 main_v25
  let main_cst_10 : FVec F S_ .f32 := constant S_ .f32 0xFF800000#32
  let main_v27 : FVec F S4096x8x64 .f32 := broadcastInDim S4096x8x64 ![] bcast_S_S4096x8x64 main_cst_10
  let main_v28 : IVec S4096x8x64 1 := cmpf .ogt main_arg4 main_v27
  let main_cst_11 : FVec F S_ .f32 := constant S_ .f32 0x7F800000#32
  let main_v29 : FVec F S4096x8x64 .f32 := broadcastInDim S4096x8x64 ![] bcast_S_S4096x8x64 main_cst_11
  let main_v30 : IVec S4096x8x64 1 := cmpf .olt main_arg4 main_v29
  let main_v31 : IVec S4096x8x64 1 := andi main_v28 main_v30
  let main_c_12 : IVec S_ 1 := constantI S_ 1 1#1
  let main_v32 : IVec S_ 1 := (fun x v => Host.reduce IntOp.andi x v reducesTo_S4096x8x64_S_d0_1_2 h_S_) main_v31 main_c_12
  fn_part2 (F := F) main_v26 main_v32

def fn {F : FTy → Type} [FloatOps F] (main_arg0 : FVec F S4096x8x64 .f32) (main_arg1 : FVec F S4096x8x64 .f32) (main_arg2 : FVec F S4096x8x64 .f32) (main_arg3 : FVec F S4096x8 .f32) (main_arg4 : FVec F S4096x8x64 .f32) : IVec S_ 1 :=
  let main_cst : FVec F S_ .f32 := constant S_ .f32 0xFF800000#32
  let main_v0 : FVec F S4096x8x64 .f32 := broadcastInDim S4096x8x64 ![] bcast_S_S4096x8x64 main_cst
  let main_v1 : IVec S4096x8x64 1 := cmpf .ogt main_arg0 main_v0
  let main_cst_0 : FVec F S_ .f32 := constant S_ .f32 0x7F800000#32
  let main_v2 : FVec F S4096x8x64 .f32 := broadcastInDim S4096x8x64 ![] bcast_S_S4096x8x64 main_cst_0
  let main_v3 : IVec S4096x8x64 1 := cmpf .olt main_arg0 main_v2
  let main_v4 : IVec S4096x8x64 1 := andi main_v1 main_v3
  let main_c : IVec S_ 1 := constantI S_ 1 1#1
  let main_v5 : IVec S_ 1 := (fun x v => Host.reduce IntOp.andi x v reducesTo_S4096x8x64_S_d0_1_2 h_S_) main_v4 main_c
  let main_cst_1 : FVec F S_ .f32 := constant S_ .f32 0xFF800000#32
  let main_v6 : FVec F S4096x8x64 .f32 := broadcastInDim S4096x8x64 ![] bcast_S_S4096x8x64 main_cst_1
  let main_v7 : IVec S4096x8x64 1 := cmpf .ogt main_arg1 main_v6
  let main_cst_2 : FVec F S_ .f32 := constant S_ .f32 0x7F800000#32
  let main_v8 : FVec F S4096x8x64 .f32 := broadcastInDim S4096x8x64 ![] bcast_S_S4096x8x64 main_cst_2
  let main_v9 : IVec S4096x8x64 1 := cmpf .olt main_arg1 main_v8
  let main_v10 : IVec S4096x8x64 1 := andi main_v7 main_v9
  let main_c_3 : IVec S_ 1 := constantI S_ 1 1#1
  let main_v11 : IVec S_ 1 := (fun x v => Host.reduce IntOp.andi x v reducesTo_S4096x8x64_S_d0_1_2 h_S_) main_v10 main_c_3
  let main_v12 : IVec S_ 1 := andi main_v5 main_v11
  let main_cst_4 : FVec F S_ .f32 := constant S_ .f32 0xFF800000#32
  let main_v13 : FVec F S4096x8x64 .f32 := broadcastInDim S4096x8x64 ![] bcast_S_S4096x8x64 main_cst_4
  let main_v14 : IVec S4096x8x64 1 := cmpf .ogt main_arg2 main_v13
  let main_cst_5 : FVec F S_ .f32 := constant S_ .f32 0x7F800000#32
  let main_v15 : FVec F S4096x8x64 .f32 := broadcastInDim S4096x8x64 ![] bcast_S_S4096x8x64 main_cst_5
  fn_part1 (F := F) main_arg2 main_arg3 main_arg4 main_v12 main_v14 main_v15
-- ==== Pre_finite_gates.lean ====
abbrev S4096x8 : Shape := ⟨2, ![4096, 8]⟩
abbrev S1x8 : Shape := ⟨2, ![1, 8]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel

variable [Facts]

def fn {F : FTy → Type} [FloatOps F] (main_arg0 : FVec F S4096x8 .f32) (main_arg1 : FVec F S1x8 .f32) (main_arg2 : FVec F S4096x8 .f32) : IVec S_ 1 :=
  let main_cst : FVec F S_ .f32 := constant S_ .f32 0xFF800000#32
  let main_v0 : FVec F S4096x8 .f32 := broadcastInDim S4096x8 ![] bcast_S_S4096x8 main_cst
  let main_v1 : IVec S4096x8 1 := cmpf .ogt main_arg2 main_v0
  let main_cst_0 : FVec F S_ .f32 := constant S_ .f32 0x7F800000#32
  let main_v2 : FVec F S4096x8 .f32 := broadcastInDim S4096x8 ![] bcast_S_S4096x8 main_cst_0
  let main_v3 : IVec S4096x8 1 := cmpf .olt main_arg2 main_v2
  let main_v4 : IVec S4096x8 1 := andi main_v1 main_v3
  let main_c : IVec S_ 1 := constantI S_ 1 1#1
  let main_v5 : IVec S_ 1 := (fun x v => Host.reduce IntOp.andi x v reducesTo_S4096x8_S_d0_1 h_S_) main_v4 main_c
  main_v5
-- ==== Pre_finite_loss.lean ====
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S4096x2816 .f32) (main_arg3 : FVec F S2816x1024 .f32) (main_arg4 : FVec F S4096x1024 .f32) (main_v12 : IVec S_ 1) (main_v14 : IVec S4096x2816 1) (main_v15 : FVec F S4096x2816 .f32) : IVec S_ 1 :=
  let main_v16 : IVec S4096x2816 1 := cmpf .olt main_arg2 main_v15
  let main_v17 : IVec S4096x2816 1 := andi main_v14 main_v16
  let main_c_6 : IVec S_ 1 := constantI S_ 1 1#1
  let main_v18 : IVec S_ 1 := (fun x v => Host.reduce IntOp.andi x v reducesTo_S4096x2816_S_d0_1 h_S_) main_v17 main_c_6
  let main_v19 : IVec S_ 1 := andi main_v12 main_v18
  let main_cst_7 : FVec F S_ .f32 := constant S_ .f32 0xFF800000#32
  let main_v20 : FVec F S2816x1024 .f32 := broadcastInDim S2816x1024 ![] bcast_S_S2816x1024 main_cst_7
  let main_v21 : IVec S2816x1024 1 := cmpf .ogt main_arg3 main_v20
  let main_cst_8 : FVec F S_ .f32 := constant S_ .f32 0x7F800000#32
  let main_v22 : FVec F S2816x1024 .f32 := broadcastInDim S2816x1024 ![] bcast_S_S2816x1024 main_cst_8
  let main_v23 : IVec S2816x1024 1 := cmpf .olt main_arg3 main_v22
  let main_v24 : IVec S2816x1024 1 := andi main_v21 main_v23
  let main_c_9 : IVec S_ 1 := constantI S_ 1 1#1
  let main_v25 : IVec S_ 1 := (fun x v => Host.reduce IntOp.andi x v reducesTo_S2816x1024_S_d0_1 h_S_) main_v24 main_c_9
  let main_v26 : IVec S_ 1 := andi main_v19 main_v25
  let main_cst_10 : FVec F S_ .f32 := constant S_ .f32 0xFF800000#32
  let main_v27 : FVec F S4096x1024 .f32 := broadcastInDim S4096x1024 ![] bcast_S_S4096x1024 main_cst_10
  let main_v28 : IVec S4096x1024 1 := cmpf .ogt main_arg4 main_v27
  let main_cst_11 : FVec F S_ .f32 := constant S_ .f32 0x7F800000#32
  let main_v29 : FVec F S4096x1024 .f32 := broadcastInDim S4096x1024 ![] bcast_S_S4096x1024 main_cst_11
  let main_v30 : IVec S4096x1024 1 := cmpf .olt main_arg4 main_v29
  let main_v31 : IVec S4096x1024 1 := andi main_v28 main_v30
  let main_c_12 : IVec S_ 1 := constantI S_ 1 1#1
  let main_v32 : IVec S_ 1 := (fun x v => Host.reduce IntOp.andi x v reducesTo_S4096x1024_S_d0_1 h_S_) main_v31 main_c_12
  fn_part2 (F := F) main_v26 main_v32

def fn {F : FTy → Type} [FloatOps F] (main_arg0 : FVec F S4096x1024 .f32) (main_arg1 : FVec F S1x1024 .f32) (main_arg2 : FVec F S4096x2816 .f32) (main_arg3 : FVec F S2816x1024 .f32) (main_arg4 : FVec F S4096x1024 .f32) : IVec S_ 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg1 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0xFF800000#32
  let main_v13 : FVec F S4096x2816 .f32 := broadcastInDim S4096x2816 ![] bcast_S_S4096x2816 main_cst_4
  let main_v14 : IVec S4096x2816 1 := cmpf .ogt main_arg2 main_v13
  let main_cst_5 : FVec F S_ .f32 := constant S_ .f32 0x7F800000#32
  let main_v15 : FVec F S4096x2816 .f32 := broadcastInDim S4096x2816 ![] bcast_S_S4096x2816 main_cst_5
  fn_part1 (F := F) main_arg2 main_arg3 main_arg4 main_v12 main_v14 main_v15
-- ==== Pre_finite_lse.lean ====
abbrev S3x4096x4 : Shape := ⟨3, ![3, 4096, 4]⟩
abbrev S3x4096x4x64 : Shape := ⟨4, ![3, 4096, 4, 64]⟩
abbrev S_ : Shape := ⟨0, ![]⟩

class Facts : Prop where
  bcast_S_S3x4096x4 : S_.BroadcastsInDim S3x4096x4 (![] : Fin 0 → Fin S3x4096x4.rank)
  reducesTo_S3x4096x4_S_d0_1_2 : S3x4096x4.ReducesTo [0, 1, 2] S_
  h_S_ : 0 < S_.numel

variable [Facts]

def fn {F : FTy → Type} [FloatOps F] (main_arg0 : FVec F S3x4096x4 .f32) (main_arg1 : FVec F S3x4096x4x64 .f32) : IVec S_ 1 :=
  let main_cst : FVec F S_ .f32 := constant S_ .f32 0xFF800000#32
  let main_v0 : FVec F S3x4096x4 .f32 := broadcastInDim S3x4096x4 ![] bcast_S_S3x4096x4 main_cst
  let main_v1 : IVec S3x4096x4 1 := cmpf .ogt main_arg0 main_v0
  let main_cst_0 : FVec F S_ .f32 := constant S_ .f32 0x7F800000#32
  let main_v2 : FVec F S3x4096x4 .f32 := broadcastInDim S3x4096x4 ![] bcast_S_S3x4096x4 main_cst_0
  let main_v3 : IVec S3x4096x4 1 := cmpf .olt main_arg0 main_v2
  let main_v4 : IVec S3x4096x4 1 := andi main_v1 main_v3
  let main_c : IVec S_ 1 := constantI S_ 1 1#1
  let main_v5 : IVec S_ 1 := (fun x v => Host.reduce IntOp.andi x v reducesTo_S3x4096x4_S_d0_1_2 h_S_) main_v4 main_c
  main_v5
-- ==== Pre_finite_mix.lean ====
abbrev S3x4096x4 : Shape := ⟨3, ![3, 4096, 4]⟩
abbrev S3x4096x4x64 : Shape := ⟨4, ![3, 4096, 4, 64]⟩
abbrev S4096x4x64 : Shape := ⟨3, ![4096, 4, 64]⟩
abbrev S_ : Shape := ⟨0, ![]⟩

class Facts : Prop where
  bcast_S_S3x4096x4 : S_.BroadcastsInDim S3x4096x4 (![] : Fin 0 → Fin S3x4096x4.rank)
  reducesTo_S3x4096x4_S_d0_1_2 : S3x4096x4.ReducesTo [0, 1, 2] S_
  h_S_ : 0 < S_.numel
  bcast_S_S3x4096x4x64 : S_.BroadcastsInDim S3x4096x4x64 (![] : Fin 0 → Fin S3x4096x4x64.rank)
  reducesTo_S3x4096x4x64_S_d0_1_2_3 : S3x4096x4x64.ReducesTo [0, 1, 2, 3] S_
  bcast_S_S4096x4x64 : S_.BroadcastsInDim S4096x4x64 (![] : Fin 0 → Fin S4096x4x64.rank)
  reducesTo_S4096x4x64_S_d0_1_2 : S4096x4x64.ReducesTo [0, 1, 2] S_

variable [Facts]

def fn_part1 {F : FTy → Type} [FloatOps F] (main_arg2 : FVec F S4096x4x64 .f32) (main_v12 : IVec S_ 1) (main_v14 : IVec S4096x4x64 1) (main_v15 : FVec F S4096x4x64 .f32) : IVec S_ 1 :=
  let main_v16 : IVec S4096x4x64 1 := cmpf .olt main_arg2 main_v15
  let main_v17 : IVec S4096x4x64 1 := andi main_v14 main_v16
  let main_c_6 : IVec S_ 1 := constantI S_ 1 1#1
  let main_v18 : IVec S_ 1 := (fun x v => Host.reduce IntOp.andi x v reducesTo_S4096x4x64_S_d0_1_2 h_S_) main_v17 main_c_6
  let main_v19 : IVec S_ 1 := andi main_v12 main_v18
  main_v19

def fn {F : FTy → Type} [FloatOps F] (main_arg0 : FVec F S3x4096x4 .f32) (main_arg1 : FVec F S3x4096x4x64 .f32) (main_arg2 : FVec F S4096x4x64 .f32) : IVec S_ 1 :=
  let main_cst : FVec F S_ .f32 := constant S_ .f32 0xFF800000#32
  let main_v0 : FVec F S3x4096x4 .f32 := broadcastInDim S3x4096x4 ![] bcast_S_S3x4096x4 main_cst
  let main_v1 : IVec S3x4096x4 1 := cmpf .ogt main_arg0 main_v0
  let main_cst_0 : FVec F S_ .f32 := constant S_ .f32 0x7F800000#32
  let main_v2 : FVec F S3x4096x4 .f32 := broadcastInDim S3x4096x4 ![] bcast_S_S3x4096x4 main_cst_0
  let main_v3 : IVec S3x4096x4 1 := cmpf .olt main_arg0 main_v2
  let main_v4 : IVec S3x4096x4 1 := andi main_v1 main_v3
  let main_c : IVec S_ 1 := constantI S_ 1 1#1
  let main_v5 : IVec S_ 1 := (fun x v => Host.reduce IntOp.andi x v reducesTo_S3x4096x4_S_d0_1_2 h_S_) main_v4 main_c
  let main_cst_1 : FVec F S_ .f32 := constant S_ .f32 0xFF800000#32
  let main_v6 : FVec F S3x4096x4x64 .f32 := broadcastInDim S3x4096x4x64 ![] bcast_S_S3x4096x4x64 main_cst_1
  let main_v7 : IVec S3x4096x4x64 1 := cmpf .ogt main_arg1 main_v6
  let main_cst_2 : FVec F S_ .f32 := constant S_ .f32 0x7F800000#32
  let main_v8 : FVec F S3x4096x4x64 .f32 := broadcastInDim S3x4096x4x64 ![] bcast_S_S3x4096x4x64 main_cst_2
  let main_v9 : IVec S3x4096x4x64 1 := cmpf .olt main_arg1 main_v8
  let main_v10 : IVec S3x4096x4x64 1 := andi main_v7 main_v9
  let main_c_3 : IVec S_ 1 := constantI S_ 1 1#1
  let main_v11 : IVec S_ 1 := (fun x v => Host.reduce IntOp.andi x v reducesTo_S3x4096x4x64_S_d0_1_2_3 h_S_) main_v10 main_c_3
  let main_v12 : IVec S_ 1 := andi main_v5 main_v11
  let main_cst_4 : FVec F S_ .f32 := constant S_ .f32 0xFF800000#32
  let main_v13 : FVec F S4096x4x64 .f32 := broadcastInDim S4096x4x64 ![] bcast_S_S4096x4x64 main_cst_4
  let main_v14 : IVec S4096x4x64 1 := cmpf .ogt main_arg2 main_v13
  let main_cst_5 : FVec F S_ .f32 := constant S_ .f32 0x7F800000#32
  let main_v15 : FVec F S4096x4x64 .f32 := broadcastInDim S4096x4x64 ![] bcast_S_S4096x4x64 main_cst_5
  fn_part1 (F := F) main_arg2 main_v12 main_v14 main_v15
-- ==== Pre_finite_normed.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S1024x5632 .f32) (main_arg3 : FVec F S4096x1024 .f32) (main_arg4 : FVec F S4096x5632 .f32) (main_v12 : IVec S_ 1) (main_v14 : IVec S1024x5632 1) (main_v15 : FVec F S1024x5632 .f32) : IVec S_ 1 :=
  let main_v16 : IVec S1024x5632 1 := cmpf .olt main_arg2 main_v15
  let main_v17 : IVec S1024x5632 1 := andi main_v14 main_v16
  let main_c_6 : IVec S_ 1 := constantI S_ 1 1#1
  let main_v18 : IVec S_ 1 := (fun x v => Host.reduce IntOp.andi x v reducesTo_S1024x5632_S_d0_1 h_S_) main_v17 main_c_6
  let main_v19 : IVec S_ 1 := andi main_v12 main_v18
  let main_cst_7 : FVec F S_ .f32 := constant S_ .f32 0xFF800000#32
  let main_v20 : FVec F S4096x1024 .f32 := broadcastInDim S4096x1024 ![] bcast_S_S4096x1024 main_cst_7
  let main_v21 : IVec S4096x1024 1 := cmpf .ogt main_arg3 main_v20
  let main_cst_8 : FVec F S_ .f32 := constant S_ .f32 0x7F800000#32
  let main_v22 : FVec F S4096x1024 .f32 := broadcastInDim S4096x1024 ![] bcast_S_S4096x1024 main_cst_8
  let main_v23 : IVec S4096x1024 1 := cmpf .olt main_arg3 main_v22
  let main_v24 : IVec S4096x1024 1 := andi main_v21 main_v23
  let main_c_9 : IVec S_ 1 := constantI S_ 1 1#1
  let main_v25 : IVec S_ 1 := (fun x v => Host.reduce IntOp.andi x v reducesTo_S4096x1024_S_d0_1 h_S_) main_v24 main_c_9
  let main_v26 : IVec S_ 1 := andi main_v19 main_v25
  let main_cst_10 : FVec F S_ .f32 := constant S_ .f32 0xFF800000#32
  let main_v27 : FVec F S4096x5632 .f32 := broadcastInDim S4096x5632 ![] bcast_S_S4096x5632 main_cst_10
  let main_v28 : IVec S4096x5632 1 := cmpf .ogt main_arg4 main_v27
  let main_cst_11 : FVec F S_ .f32 := constant S_ .f32 0x7F800000#32
  let main_v29 : FVec F S4096x5632 .f32 := broadcastInDim S4096x5632 ![] bcast_S_S4096x5632 main_cst_11
  let main_v30 : IVec S4096x5632 1 := cmpf .olt main_arg4 main_v29
  let main_v31 : IVec S4096x5632 1 := andi main_v28 main_v30
  let main_c_12 : IVec S_ 1 := constantI S_ 1 1#1
  let main_v32 : IVec S_ 1 := (fun x v => Host.reduce IntOp.andi x v reducesTo_S4096x5632_S_d0_1 h_S_) main_v31 main_c_12
  fn_part2 (F := F) main_v26 main_v32

def fn {F : FTy → Type} [FloatOps F] (main_arg0 : FVec F S4096x1024 .f32) (main_arg1 : FVec F S1x1024 .f32) (main_arg2 : FVec F S1024x5632 .f32) (main_arg3 : FVec F S4096x1024 .f32) (main_arg4 : FVec F S4096x5632 .f32) : IVec S_ 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg1 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0xFF800000#32
  let main_v13 : FVec F S1024x5632 .f32 := broadcastInDim S1024x5632 ![] bcast_S_S1024x5632 main_cst_4
  let main_v14 : IVec S1024x5632 1 := cmpf .ogt main_arg2 main_v13
  let main_cst_5 : FVec F S_ .f32 := constant S_ .f32 0x7F800000#32
  let main_v15 : FVec F S1024x5632 .f32 := broadcastInDim S1024x5632 ![] bcast_S_S1024x5632 main_cst_5
  fn_part1 (F := F) main_arg2 main_arg3 main_arg4 main_v12 main_v14 main_v15
-- ==== Pre_finite_projected.lean ====
abbrev S4096x1024 : Shape := ⟨2, ![4096, 1024]⟩
abbrev S1x1024 : Shape := ⟨2, ![1, 1024]⟩
abbrev S1024x5896 : Shape := ⟨2, ![1024, 5896]⟩
abbrev S4096x5896 : Shape := ⟨2, ![4096, 5896]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5896 : S_.BroadcastsInDim S1024x5896 (![] : Fin 0 → Fin S1024x5896.rank)
  reducesTo_S1024x5896_S_d0_1 : S1024x5896.ReducesTo [0, 1] S_
  bcast_S_S4096x5896 : S_.BroadcastsInDim S4096x5896 (![] : Fin 0 → Fin S4096x5896.rank)
  reducesTo_S4096x5896_S_d0_1 : S4096x5896.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S1024x5896 .f32) (main_arg3 : FVec F S4096x1024 .f32) (main_arg4 : FVec F S4096x5896 .f32) (main_v12 : IVec S_ 1) (main_v14 : IVec S1024x5896 1) (main_v15 : FVec F S1024x5896 .f32) : IVec S_ 1 :=
  let main_v16 : IVec S1024x5896 1 := cmpf .olt main_arg2 main_v15
  let main_v17 : IVec S1024x5896 1 := andi main_v14 main_v16
  let main_c_6 : IVec S_ 1 := constantI S_ 1 1#1
  let main_v18 : IVec S_ 1 := (fun x v => Host.reduce IntOp.andi x v reducesTo_S1024x5896_S_d0_1 h_S_) main_v17 main_c_6
  let main_v19 : IVec S_ 1 := andi main_v12 main_v18
  let main_cst_7 : FVec F S_ .f32 := constant S_ .f32 0xFF800000#32
  let main_v20 : FVec F S4096x1024 .f32 := broadcastInDim S4096x1024 ![] bcast_S_S4096x1024 main_cst_7
  let main_v21 : IVec S4096x1024 1 := cmpf .ogt main_arg3 main_v20
  let main_cst_8 : FVec F S_ .f32 := constant S_ .f32 0x7F800000#32
  let main_v22 : FVec F S4096x1024 .f32 := broadcastInDim S4096x1024 ![] bcast_S_S4096x1024 main_cst_8
  let main_v23 : IVec S4096x1024 1 := cmpf .olt main_arg3 main_v22
  let main_v24 : IVec S4096x1024 1 := andi main_v21 main_v23
  let main_c_9 : IVec S_ 1 := constantI S_ 1 1#1
  let main_v25 : IVec S_ 1 := (fun x v => Host.reduce IntOp.andi x v reducesTo_S4096x1024_S_d0_1 h_S_) main_v24 main_c_9
  let main_v26 : IVec S_ 1 := andi main_v19 main_v25
  let main_cst_10 : FVec F S_ .f32 := constant S_ .f32 0xFF800000#32
  let main_v27 : FVec F S4096x5896 .f32 := broadcastInDim S4096x5896 ![] bcast_S_S4096x5896 main_cst_10
  let main_v28 : IVec S4096x5896 1 := cmpf .ogt main_arg4 main_v27
  let main_cst_11 : FVec F S_ .f32 := constant S_ .f32 0x7F800000#32
  let main_v29 : FVec F S4096x5896 .f32 := broadcastInDim S4096x5896 ![] bcast_S_S4096x5896 main_cst_11
  let main_v30 : IVec S4096x5896 1 := cmpf .olt main_arg4 main_v29
  let main_v31 : IVec S4096x5896 1 := andi main_v28 main_v30
  let main_c_12 : IVec S_ 1 := constantI S_ 1 1#1
  let main_v32 : IVec S_ 1 := (fun x v => Host.reduce IntOp.andi x v reducesTo_S4096x5896_S_d0_1 h_S_) main_v31 main_c_12
  fn_part2 (F := F) main_v26 main_v32

def fn {F : FTy → Type} [FloatOps F] (main_arg0 : FVec F S4096x1024 .f32) (main_arg1 : FVec F S1x1024 .f32) (main_arg2 : FVec F S1024x5896 .f32) (main_arg3 : FVec F S4096x1024 .f32) (main_arg4 : FVec F S4096x5896 .f32) : IVec S_ 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg1 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0xFF800000#32
  let main_v13 : FVec F S1024x5896 .f32 := broadcastInDim S1024x5896 ![] bcast_S_S1024x5896 main_cst_4
  let main_v14 : IVec S1024x5896 1 := cmpf .ogt main_arg2 main_v13
  let main_cst_5 : FVec F S_ .f32 := constant S_ .f32 0x7F800000#32
  let main_v15 : FVec F S1024x5896 .f32 := broadcastInDim S1024x5896 ![] bcast_S_S1024x5896 main_cst_5
  fn_part1 (F := F) main_arg2 main_arg3 main_arg4 main_v12 main_v14 main_v15
-- ==== Pre_finite_swiglu.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩

class Facts : Prop where
  slices_S4096x5632_S4096x2816_0_2816 : S4096x5632.Slices ![0, 2816] S4096x2816
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg2 : FVec F S4096x1024 .f32) (main_v13 : IVec S_ 1) (main_v15 : IVec S4096x1024 1) (main_cst_5 : FVec F S_ .f32) : IVec S_ 1 :=
  let main_v16 : FVec F S4096x1024 .f32 := broadcastInDim S4096x1024 ![] bcast_S_S4096x1024 main_cst_5
  let main_v17 : IVec S4096x1024 1 := cmpf .olt main_arg2 main_v16
  let main_v18 : IVec S4096x1024 1 := andi main_v15 main_v17
  let main_c_6 : IVec S_ 1 := constantI S_ 1 1#1
  let main_v19 : IVec S_ 1 := (fun x v => Host.reduce IntOp.andi x v reducesTo_S4096x1024_S_d0_1 h_S_) main_v18 main_c_6
  let main_v20 : IVec S_ 1 := andi main_v13 main_v19
  main_v20

def fn {F : FTy → Type} [FloatOps F] (main_arg0 : FVec F S4096x5632 .f32) (main_arg1 : FVec F S2816x1024 .f32) (main_arg2 : FVec F S4096x1024 .f32) : IVec S_ 1 :=
  let main_v0 : FVec F S4096x2816 .f32 := (extractStridedSlice S4096x2816 ![0, 2816] · slices_S4096x5632_S4096x2816_0_2816) main_arg0
  let main_cst : FVec F S_ .f32 := constant S_ .f32 0xFF800000#32
  let main_v1 : FVec F S4096x2816 .f32 := broadcastInDim S4096x2816 ![] bcast_S_S4096x2816 main_cst
  let main_v2 : IVec S4096x2816 1 := cmpf .ogt main_v0 main_v1
  let main_cst_0 : FVec F S_ .f32 := constant S_ .f32 0x7F800000#32
  let main_v3 : FVec F S4096x2816 .f32 := broadcastInDim S4096x2816 ![] bcast_S_S4096x2816 main_cst_0
  let main_v4 : IVec S4096x2816 1 := cmpf .olt main_v0 main_v3
  let main_v5 : IVec S4096x2816 1 := andi main_v2 main_v4
  let main_c : IVec S_ 1 := constantI S_ 1 1#1
  let main_v6 : IVec S_ 1 := (fun x v => Host.reduce IntOp.andi x v reducesTo_S4096x2816_S_d0_1 h_S_) main_v5 main_c
  let main_cst_1 : FVec F S_ .f32 := constant S_ .f32 0xFF800000#32
  let main_v7 : FVec F S2816x1024 .f32 := broadcastInDim S2816x1024 ![] bcast_S_S2816x1024 main_cst_1
  let main_v8 : IVec S2816x1024 1 := cmpf .ogt main_arg1 main_v7
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_arg1 main_v9
  let main_v11 : IVec S2816x1024 1 := andi main_v8 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v6 main_v12
  let main_cst_4 : FVec F S_ .f32 := constant S_ .f32 0xFF800000#32
  let main_v14 : FVec F S4096x1024 .f32 := broadcastInDim S4096x1024 ![] bcast_S_S4096x1024 main_cst_4
  let main_v15 : IVec S4096x1024 1 := cmpf .ogt main_arg2 main_v14
  let main_cst_5 : FVec F S_ .f32 := constant S_ .f32 0x7F800000#32
  fn_part1 (F := F) main_arg2 main_v13 main_v15 main_cst_5
-- ==== Kernel.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S2x4096x2816 : Shape := ⟨3, ![2, 4096, 2816]⟩
abbrev S512x1024 : Shape := ⟨2, ![512, 1024]⟩
abbrev S1408x1024 : Shape := ⟨2, ![1408, 1024]⟩
abbrev S512x1408 : Shape := ⟨2, ![512, 1408]⟩
abbrev S2x512x1408 : Shape := ⟨3, ![2, 512, 1408]⟩
abbrev S1x512x1408 : Shape := ⟨3, ![1, 512, 1408]⟩

abbrev nBuf : Space → Nat
  | .hbm => 9
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S4096x2816, .f32⟩
  | .hbm, ⟨5, _⟩ => ⟨S4096x2816, .bf16⟩
  | .hbm, ⟨6, _⟩ => ⟨S4096x2816, .f32⟩
  | .hbm, ⟨7, _⟩ => ⟨S4096x2816, .bf16⟩
  | .hbm, ⟨8, _⟩ => ⟨S2x4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 31
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S1x4096x2816, .f32⟩
  | .hbm, ⟨28, _⟩ => ⟨S1x4096x2816, .f32⟩
  | .hbm, ⟨29, _⟩ => ⟨S2x4096x2816, .f32⟩
  | .hbm, ⟨30, _⟩ => ⟨S2x4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Kernel2.lean ====
abbrev S4096x8x64 : Shape := ⟨3, ![4096, 8, 64]⟩
abbrev S4096x8 : Shape := ⟨2, ![4096, 8]⟩
abbrev S36 : Shape := ⟨1, ![36]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4096x8x3 : Shape := ⟨3, ![4096, 8, 3]⟩
abbrev S4096x8x1 : Shape := ⟨3, ![4096, 8, 1]⟩
abbrev S4096x8x58 : Shape := ⟨3, ![4096, 8, 58]⟩
abbrev S4096x8x128 : Shape := ⟨3, ![4096, 8, 128]⟩
abbrev S4096x1024 : Shape := ⟨2, ![4096, 1024]⟩
abbrev S4096x8x61 : Shape := ⟨3, ![4096, 8, 61]⟩
abbrev S4096x512 : Shape := ⟨2, ![4096, 512]⟩
abbrev S512x1024 : Shape := ⟨2, ![512, 1024]⟩
abbrev S1 : Shape := ⟨1, ![1]⟩
abbrev S512x512 : Shape := ⟨2, ![512, 512]⟩
abbrev S8x512x1 : Shape := ⟨3, ![8, 512, 1]⟩
abbrev S512x128 : Shape := ⟨2, ![512, 128]⟩
abbrev S1x512x1 : Shape := ⟨3, ![1, 512, 1]⟩
abbrev S512x1 : Shape := ⟨2, ![512, 1]⟩
abbrev S512 : Shape := ⟨1, ![512]⟩
abbrev S1x1x512 : Shape := ⟨3, ![1, 1, 512]⟩
abbrev S1x512 : Shape := ⟨2, ![1, 512]⟩
abbrev S512x64 : Shape := ⟨2, ![512, 64]⟩
abbrev S4096x64 : Shape := ⟨2, ![4096, 64]⟩

abbrev nBuf : Space → Nat
  | .hbm => 110
  | .vmem => 21
  | .smem => 2
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8, .f32⟩
  | .hbm, ⟨4, _⟩ => ⟨S4096x8x64, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S8x4096, .f32⟩
  | .hbm, ⟨10, _⟩ => ⟨S8x4096x1, .f32⟩
  | .hbm, ⟨11, _⟩ => ⟨S8x4096, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x4096x4096, .f32⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096, .f32⟩
  | .hbm, ⟨40, _⟩ => ⟨S4096x8, .f32⟩
  | .hbm, ⟨41, _⟩ => ⟨S8x4096x4096, .f32⟩
  | .hbm, ⟨42, _⟩ => ⟨S8x4096x4096, .f32⟩
  | .hbm, ⟨43, _⟩ => ⟨S8x64x4096, .f32⟩
  | .hbm, ⟨44, _⟩ => ⟨S4096x8x64, .f32⟩
  | .hbm, ⟨45, _⟩ => ⟨S4096x8x64, .f32⟩
  | .hbm, ⟨46, _⟩ => ⟨S_, .f32⟩
  | .hbm, ⟨47, _⟩ => ⟨S4096x8, .f32⟩
  | .hbm, ⟨48, _⟩ => ⟨S_, .f32⟩
  | .hbm, ⟨49, _⟩ => ⟨S4096x8x3, .f32⟩
  | .hbm, ⟨50, _⟩ => ⟨S_, .f32⟩
  | .hbm, ⟨51, _⟩ => ⟨S4096x8x64, .f32⟩
  | .hbm, ⟨52, _⟩ => ⟨S4096x8x64, .f32⟩
  | .hbm, ⟨53, _⟩ => ⟨S4096x8, .f32⟩
  | .hbm, ⟨54, _⟩ => ⟨S4096x8x1, .f32⟩
  | .hbm, ⟨55, _⟩ => ⟨S4096x8x1, .bf16⟩
  | .hbm, ⟨56, _⟩ => ⟨S4096x8x1, .f32⟩
  | .hbm, ⟨57, _⟩ => ⟨S4096x8x1, .f32⟩
  | .hbm, ⟨58, _⟩ => ⟨S4096x8x1, .bf16⟩
  | .hbm, ⟨59, _⟩ => ⟨S4096x8x1, .f32⟩
  | .hbm, ⟨60, _⟩ => ⟨S4096x8x1, .f32⟩
  | .hbm, ⟨61, _⟩ => ⟨S4096x8x1, .bf16⟩
  | .hbm, ⟨62, _⟩ => ⟨S4096x8x1, .f32⟩
  | .hbm, ⟨63, _⟩ => ⟨S_, .f32⟩
  | .hbm, ⟨64, _⟩ => ⟨S4096x8x58, .f32⟩
  | .hbm, ⟨65, _⟩ => ⟨S4096x8x128, .f32⟩
  | .hbm, ⟨66, _⟩ => ⟨S4096x8x128, .bf16⟩
  | .hbm, ⟨67, _⟩ => ⟨S4096x1024, .bf16⟩
  | .hbm, ⟨68, _⟩ => ⟨S4096x8x1, .f32⟩
  | .hbm, ⟨69, _⟩ => ⟨S4096x8x1, .bf16⟩
  | .hbm, ⟨70, _⟩ => ⟨S4096x8x1, .f32⟩
  | .hbm, ⟨71, _⟩ => ⟨S4096x8x1, .f32⟩
  | .hbm, ⟨72, _⟩ => ⟨S4096x8x1, .bf16⟩
  | .hbm, ⟨73, _⟩ => ⟨S4096x8x1, .f32⟩
  | .hbm, ⟨74, _⟩ => ⟨S4096x8x1, .f32⟩
  | .hbm, ⟨75, _⟩ => ⟨S4096x8x1, .bf16⟩
  | .hbm, ⟨76, _⟩ => ⟨S4096x8x1, .f32⟩
  | .hbm, ⟨77, _⟩ => ⟨S4096x8x1, .f32⟩
  | .hbm, ⟨78, _⟩ => ⟨S4096x8x1, .f32⟩
  | .hbm, ⟨79, _⟩ => ⟨S4096x8x1, .f32⟩
  | .hbm, ⟨80, _⟩ => ⟨S_, .f32⟩
  | .hbm, ⟨81, _⟩ => ⟨S4096x8x58, .f32⟩
  | .hbm, ⟨82, _⟩ => ⟨S4096x8x128, .f32⟩
  | .hbm, ⟨83, _⟩ => ⟨S4096x8x128, .bf16⟩
  | .hbm, ⟨84, _⟩ => ⟨S4096x1024, .bf16⟩
  | .hbm, ⟨85, _⟩ => ⟨S_, .f32⟩
  | .hbm, ⟨86, _⟩ => ⟨S4096x8x61, .f32⟩
  | .hbm, ⟨87, _⟩ => ⟨S4096x8x128, .f32⟩
  | .hbm, ⟨88, _⟩ => ⟨S4096x8x128, .bf16⟩
  | .hbm, ⟨89, _⟩ => ⟨S4096x1024, .bf16⟩
  | .hbm, ⟨90, _⟩ => ⟨S4096x8x1, .f32⟩
  | .hbm, ⟨91, _⟩ => ⟨S4096x8x1, .f32⟩
  | .hbm, ⟨92, _⟩ => ⟨S4096x8x1, .bf16⟩
  | .hbm, ⟨93, _⟩ => ⟨S4096x8x1, .f32⟩
  | .hbm, ⟨94, _⟩ => ⟨S4096x8x1, .f32⟩
  | .hbm, ⟨95, _⟩ => ⟨S4096x8x1, .bf16⟩
  | .hbm, ⟨96, _⟩ => ⟨S4096x8x1, .f32⟩
  | .hbm, ⟨97, _⟩ => ⟨S4096x8x1, .f32⟩
  | .hbm, ⟨98, _⟩ => ⟨S4096x8x1, .bf16⟩
  | .hbm, ⟨99, _⟩ => ⟨S4096x8x1, .f32⟩
  | .hbm, ⟨100, _⟩ => ⟨S_, .f32⟩
  | .hbm, ⟨101, _⟩ => ⟨S4096x8x61, .f32⟩
  | .hbm, ⟨102, _⟩ => ⟨S4096x8x128, .f32⟩
  | .hbm, ⟨103, _⟩ => ⟨S4096x8x128, .bf16⟩
  | .hbm, ⟨104, _⟩ => ⟨S4096x1024, .bf16⟩
  | .hbm, ⟨105, _⟩ => ⟨S4096x512, .bf16⟩
  | .hbm, ⟨106, _⟩ => ⟨S4096x512, .bf16⟩
  | .hbm, ⟨107, _⟩ => ⟨S4096x512, .bf16⟩
  | .hbm, ⟨108, _⟩ => ⟨S4096x512, .f32⟩
  | .hbm, ⟨109, _⟩ => ⟨S8x1x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4096x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S8x1x4096, .f32⟩
  | .local _ .vmem, ⟨16, _⟩ => ⟨S4096x1024, .f32⟩
  | .local _ .vmem, ⟨17, _⟩ => ⟨S512x1024, .f32⟩
  | .local _ .vmem, ⟨18, _⟩ => ⟨S512x1024, .f32⟩
  | .local _ .vmem, ⟨19, _⟩ => ⟨S8x512x1, .f32⟩
  | .local _ .vmem, ⟨20, _⟩ => ⟨S8x1x4096, .f32⟩
  | .local _ .smem, ⟨0, _⟩ => ⟨S36, .i32⟩
  | .local _ .smem, ⟨1, _⟩ => ⟨S36, .i32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_10 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86_0 : Ref sig .tc := ⟨.hbm, 105, rfl⟩
abbrev main_v86_1 : Ref sig .tc := ⟨.hbm, 106, rfl⟩
abbrev main_v86_2 : Ref sig .tc := ⟨.hbm, 107, rfl⟩
abbrev main_v86_3 : Ref sig .tc := ⟨.hbm, 108, rfl⟩
abbrev main_v86_4 : Ref sig .tc := ⟨.hbm, 109, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![1, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v22 : BitVec 32 := Scalar.muli v1 c512_i32
  v22
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 3 → Nat :=
  let c0_21 : Index := 0#32
  let c0_22 : Index := 0#32
  let c512_i32 : BitVec 32 := 512#32
  let v22 : BitVec 32 := Scalar.muli v1 c512_i32
  let v23 : BitVec 32 := v22
  let v45 : Index := Scalar.indexCast v23
  ![0, 0, v45.toNat]
def k0_off3 (v1 : BitVec 32) : Fin 2 → Nat :=
  let c512_i32 : BitVec 32 := 512#32
  let v22 : BitVec 32 := Scalar.muli v1 c512_i32
  let v23 : BitVec 32 := v22
  let v68 : Index := Scalar.indexCast v23
  let c0_36 : Index := 0#32
  ![v68.toNat, 0]
def k0_off4 (v1 : BitVec 32) : Fin 3 → Nat :=
  let c1_54 : Index := 1#32
  let c0_55 : Index := 0#32
  let c512_i32 : BitVec 32 := 512#32
  let v22 : BitVec 32 := Scalar.muli v1 c512_i32
  let v23 : BitVec 32 := v22
  let v97 : Index := Scalar.indexCast v23
  ![1, 0, v97.toNat]
def k0_off5 (v1 : BitVec 32) : Fin 2 → Nat :=
  let c512_i32 : BitVec 32 := 512#32
  let v22 : BitVec 32 := Scalar.muli v1 c512_i32
  let v23 : BitVec 32 := v22
  let v120 : Index := Scalar.indexCast v23
  let c128_69 : Index := 128#32
  ![v120.toNat, 128]
def k0_off6 (v1 : BitVec 32) : Fin 3 → Nat :=
  let c2_87 : Index := 2#32
  let c0_88 : Index := 0#32
  let c512_i32 : BitVec 32 := 512#32
  let v22 : BitVec 32 := Scalar.muli v1 c512_i32
  let v23 : BitVec 32 := v22
  let v149 : Index := Scalar.indexCast v23
  ![2, 0, v149.toNat]
def k0_off7 (v1 : BitVec 32) : Fin 2 → Nat :=
  let c512_i32 : BitVec 32 := 512#32
  let v22 : BitVec 32 := Scalar.muli v1 c512_i32
  let v23 : BitVec 32 := v22
  let v172 : Index := Scalar.indexCast v23
  let c256_102 : Index := 256#32
  ![v172.toNat, 256]
def k0_off8 (v1 : BitVec 32) : Fin 3 → Nat :=
  let c3_120 : Index := 3#32
  let c0_121 : Index := 0#32
  let c512_i32 : BitVec 32 := 512#32
  let v22 : BitVec 32 := Scalar.muli v1 c512_i32
  let v23 : BitVec 32 := v22
  let v201 : Index := Scalar.indexCast v23
  ![3, 0, v201.toNat]
def k0_off9 (v1 : BitVec 32) : Fin 2 → Nat :=
  let c512_i32 : BitVec 32 := 512#32
  let v22 : BitVec 32 := Scalar.muli v1 c512_i32
  let v23 : BitVec 32 := v22
  let v224 : Index := Scalar.indexCast v23
  let c384_135 : Index := 384#32
  ![v224.toNat, 384]
def k0_off10 (v1 : BitVec 32) : Fin 3 → Nat :=
  let c4_153 : Index := 4#32
  let c0_154 : Index := 0#32
  let c512_i32 : BitVec 32 := 512#32
  let v22 : BitVec 32 := Scalar.muli v1 c512_i32
  let v23 : BitVec 32 := v22
  let v253 : Index := Scalar.indexCast v23
  ![4, 0, v253.toNat]
def k0_off11 (v1 : BitVec 32) : Fin 2 → Nat :=
  let c512_i32 : BitVec 32 := 512#32
  let v22 : BitVec 32 := Scalar.muli v1 c512_i32
  let v23 : BitVec 32 := v22
  let v276 : Index := Scalar.indexCast v23
  let c512_168 : Index := 512#32
  ![v276.toNat, 512]
def k0_off12 (v1 : BitVec 32) : Fin 3 → Nat :=
  let c5_186 : Index := 5#32
  let c0_187 : Index := 0#32
  let c512_i32 : BitVec 32 := 512#32
  let v22 : BitVec 32 := Scalar.muli v1 c512_i32
  let v23 : BitVec 32 := v22
  let v305 : Index := Scalar.indexCast v23
  ![5, 0, v305.toNat]
def k0_off13 (v1 : BitVec 32) : Fin 2 → Nat :=
  let c512_i32 : BitVec 32 := 512#32
  let v22 : BitVec 32 := Scalar.muli v1 c512_i32
  let v23 : BitVec 32 := v22
  let v328 : Index := Scalar.indexCast v23
  let c640_201 : Index := 640#32
  ![v328.toNat, 640]
def k0_off14 (v1 : BitVec 32) : Fin 3 → Nat :=
  let c6_219 : Index := 6#32
  let c0_220 : Index := 0#32
  let c512_i32 : BitVec 32 := 512#32
  let v22 : BitVec 32 := Scalar.muli v1 c512_i32
  let v23 : BitVec 32 := v22
  let v357 : Index := Scalar.indexCast v23
  ![6, 0, v357.toNat]
def k0_off15 (v1 : BitVec 32) : Fin 2 → Nat :=
  let c512_i32 : BitVec 32 := 512#32
  let v22 : BitVec 32 := Scalar.muli v1 c512_i32
  let v23 : BitVec 32 := v22
  let v380 : Index := Scalar.indexCast v23
  let c768_234 : Index := 768#32
  ![v380.toNat, 768]
def k0_off16 (v1 : BitVec 32) : Fin 3 → Nat :=
  let c7_252 : Index := 7#32
  let c0_253 : Index := 0#32
  let c512_i32 : BitVec 32 := 512#32
  let v22 : BitVec 32 := Scalar.muli v1 c512_i32
  let v23 : BitVec 32 := v22
  let v409 : Index := Scalar.indexCast v23
  ![7, 0, v409.toNat]
def k0_off17 (v1 : BitVec 32) : Fin 2 → Nat :=
  let c512_i32 : BitVec 32 := 512#32
  let v22 : BitVec 32 := Scalar.muli v1 c512_i32
  let v23 : BitVec 32 := v22
  let v432 : Index := Scalar.indexCast v23
  let c896_267 : Index := 896#32
  ![v432.toNat, 896]
def k0_mult2 (v1 : BitVec 32) : BitVec 32 :=
  let c512_i32 : BitVec 32 := 512#32
  let v22 : BitVec 32 := Scalar.muli v1 c512_i32
  v22
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off18 (v1 : BitVec 32) : Fin 3 → Nat :=
  let c0_22 : Index := 0#32
  let c0_23 : Index := 0#32
  let c512_i32 : BitVec 32 := 512#32
  let v22 : BitVec 32 := Scalar.muli v1 c512_i32
  let v23 : BitVec 32 := v22
  let v50 : Index := Scalar.indexCast v23
  ![0, 0, v50.toNat]
def k0_off19 (v1 : BitVec 32) : Fin 2 → Nat :=
  let c512_i32 : BitVec 32 := 512#32
  let v22 : BitVec 32 := Scalar.muli v1 c512_i32
  let v23 : BitVec 32 := v22
  let v73 : Index := Scalar.indexCast v23
  let c0_37 : Index := 0#32
  ![v73.toNat, 0]
def k0_off20 (v1 : BitVec 32) : Fin 3 → Nat :=
  let c1_56 : Index := 1#32
  let c0_57 : Index := 0#32
  let c512_i32 : BitVec 32 := 512#32
  let v22 : BitVec 32 := Scalar.muli v1 c512_i32
  let v23 : BitVec 32 := v22
  let v107 : Index := Scalar.indexCast v23
  ![1, 0, v107.toNat]
def k0_off21 (v1 : BitVec 32) : Fin 2 → Nat :=
  let c512_i32 : BitVec 32 := 512#32
  let v22 : BitVec 32 := Scalar.muli v1 c512_i32
  let v23 : BitVec 32 := v22
  let v130 : Index := Scalar.indexCast v23
  let c128_71 : Index := 128#32
  ![v130.toNat, 128]
def k0_off22 (v1 : BitVec 32) : Fin 3 → Nat :=
  let c2_90 : Index := 2#32
  let c0_91 : Index := 0#32
  let c512_i32 : BitVec 32 := 512#32
  let v22 : BitVec 32 := Scalar.muli v1 c512_i32
  let v23 : BitVec 32 := v22
  let v164 : Index := Scalar.indexCast v23
  ![2, 0, v164.toNat]
def k0_off23 (v1 : BitVec 32) : Fin 2 → Nat :=
  let c512_i32 : BitVec 32 := 512#32
  let v22 : BitVec 32 := Scalar.muli v1 c512_i32
  let v23 : BitVec 32 := v22
  let v187 : Index := Scalar.indexCast v23
  let c256_105 : Index := 256#32
  ![v187.toNat, 256]
def k0_off24 (v1 : BitVec 32) : Fin 3 → Nat :=
  let c3_124 : Index := 3#32
  let c0_125 : Index := 0#32
  let c512_i32 : BitVec 32 := 512#32
  let v22 : BitVec 32 := Scalar.muli v1 c512_i32
  let v23 : BitVec 32 := v22
  let v221 : Index := Scalar.indexCast v23
  ![3, 0, v221.toNat]
def k0_off25 (v1 : BitVec 32) : Fin 2 → Nat :=
  let c512_i32 : BitVec 32 := 512#32
  let v22 : BitVec 32 := Scalar.muli v1 c512_i32
  let v23 : BitVec 32 := v22
  let v244 : Index := Scalar.indexCast v23
  let c384_139 : Index := 384#32
  ![v244.toNat, 384]
def k0_off26 (v1 : BitVec 32) : Fin 3 → Nat :=
  let c4_158 : Index := 4#32
  let c0_159 : Index := 0#32
  let c512_i32 : BitVec 32 := 512#32
  let v22 : BitVec 32 := Scalar.muli v1 c512_i32
  let v23 : BitVec 32 := v22
  let v278 : Index := Scalar.indexCast v23
  ![4, 0, v278.toNat]
def k0_off27 (v1 : BitVec 32) : Fin 2 → Nat :=
  let c512_i32 : BitVec 32 := 512#32
  let v22 : BitVec 32 := Scalar.muli v1 c512_i32
  let v23 : BitVec 32 := v22
  let v301 : Index := Scalar.indexCast v23
  let c512_173 : Index := 512#32
  ![v301.toNat, 512]
def k0_off28 (v1 : BitVec 32) : Fin 3 → Nat :=
  let c5_192 : Index := 5#32
  let c0_193 : Index := 0#32
  let c512_i32 : BitVec 32 := 512#32
  let v22 : BitVec 32 := Scalar.muli v1 c512_i32
  let v23 : BitVec 32 := v22
  let v335 : Index := Scalar.indexCast v23
  ![5, 0, v335.toNat]
def k0_off29 (v1 : BitVec 32) : Fin 2 → Nat :=
  let c512_i32 : BitVec 32 := 512#32
  let v22 : BitVec 32 := Scalar.muli v1 c512_i32
  let v23 : BitVec 32 := v22
  let v358 : Index := Scalar.indexCast v23
  let c640_207 : Index := 640#32
  ![v358.toNat, 640]
def k0_off30 (v1 : BitVec 32) : Fin 3 → Nat :=
  let c6_226 : Index := 6#32
  let c0_227 : Index := 0#32
  let c512_i32 : BitVec 32 := 512#32
  let v22 : BitVec 32 := Scalar.muli v1 c512_i32
  let v23 : BitVec 32 := v22
  let v392 : Index := Scalar.indexCast v23
  ![6, 0, v392.toNat]
def k0_off31 (v1 : BitVec 32) : Fin 2 → Nat :=
  let c512_i32 : BitVec 32 := 512#32
  let v22 : BitVec 32 := Scalar.muli v1 c512_i32
  let v23 : BitVec 32 := v22
  let v415 : Index := Scalar.indexCast v23
  let c768_241 : Index := 768#32
  ![v415.toNat, 768]
def k0_off32 (v1 : BitVec 32) : Fin 3 → Nat :=
  let c7_260 : Index := 7#32
  let c0_261 : Index := 0#32
  let c512_i32 : BitVec 32 := 512#32
  let v22 : BitVec 32 := Scalar.muli v1 c512_i32
  let v23 : BitVec 32 := v22
  let v449 : Index := Scalar.indexCast v23
  ![7, 0, v449.toNat]
def k0_off33 (v1 : BitVec 32) : Fin 2 → Nat :=
  let c512_i32 : BitVec 32 := 512#32
  let v22 : BitVec 32 := Scalar.muli v1 c512_i32
  let v23 : BitVec 32 := v22
  let v472 : Index := Scalar.indexCast v23
  let c896_275 : Index := 896#32
  ![v472.toNat, 896]

def k0_chk1_0 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S1x1x512.size a ≤ S8x1x4096.size a) ∧
  (∀ (k0_h3 : k0_cond3 v1 v3 = 1#1), ∀ a, (k0_off3 v1) a + S512x128.size a ≤ S4096x1024.size a) ∧
  (∀ (k0_h3 : k0_cond3 v1 v3 = 1#1), ∀ a, (k0_off4 v1) a + S1x1x512.size a ≤ S8x1x4096.size a) ∧
  (∀ (k0_h3 : k0_cond3 v1 v3 = 1#1), ∀ a, (k0_off5 v1) a + S512x128.size a ≤ S4096x1024.size a) ∧
  (∀ (k0_h3 : k0_cond3 v1 v3 = 1#1), ∀ a, (k0_off6 v1) a + S1x1x512.size a ≤ S8x1x4096.size a) ∧
  (∀ (k0_h3 : k0_cond3 v1 v3 = 1#1), ∀ a, (k0_off7 v1) a + S512x128.size a ≤ S4096x1024.size a) ∧
  (∀ (k0_h3 : k0_cond3 v1 v3 = 1#1), ∀ a, (k0_off8 v1) a + S1x1x512.size a ≤ S8x1x4096.size a) ∧
  (∀ (k0_h3 : k0_cond3 v1 v3 = 1#1), ∀ a, (k0_off9 v1) a + S512x128.size a ≤ S4096x1024.size a) ∧
  (∀ (k0_h3 : k0_cond3 v1 v3 = 1#1), ∀ a, (k0_off10 v1) a + S1x1x512.size a ≤ S8x1x4096.size a) ∧
  (∀ (k0_h3 : k0_cond3 v1 v3 = 1#1), ∀ a, (k0_off11 v1) a + S512x128.size a ≤ S4096x1024.size a) ∧
  (∀ (k0_h3 : k0_cond3 v1 v3 = 1#1), ∀ a, (k0_off12 v1) a + S1x1x512.size a ≤ S8x1x4096.size a) ∧
  (∀ (k0_h3 : k0_cond3 v1 v3 = 1#1), ∀ a, (k0_off13 v1) a + S512x128.size a ≤ S4096x1024.size a) ∧
  (∀ (k0_h3 : k0_cond3 v1 v3 = 1#1), ∀ a, (k0_off14 v1) a + S1x1x512.size a ≤ S8x1x4096.size a) ∧
  (∀ (k0_h3 : k0_cond3 v1 v3 = 1#1), ∀ a, (k0_off15 v1) a + S512x128.size a ≤ S4096x1024.size a) ∧
  (∀ (k0_h3 : k0_cond3 v1 v3 = 1#1), ∀ a, (k0_off16 v1) a + S1x1x512.size a ≤ S8x1x4096.size a) ∧
  (∀ (k0_h3 : k0_cond3 v1 v3 = 1#1), ∀ a, (k0_off17 v1) a + S512x128.size a ≤ S4096x1024.size a) ∧
  (∀ (k0_h4 : k0_cond4 v1 v3 = 1#1), 512 ∣ (k0_mult2 v1).toNat) ∧
  (∀ (k0_h4 : k0_cond4 v1 v3 = 1#1), ∀ a, (k0_off18 v1) a + S1x1x512.size a ≤ S8x1x4096.size a) ∧
  (∀ (k0_h4 : k0_cond4 v1 v3 = 1#1), ∀ a, (k0_off19 v1) a + S512x128.size a ≤ S4096x1024.size a) ∧
  (∀ (k0_h4 : k0_cond4 v1 v3 = 1#1), ∀ a, (k0_off20 v1) a + S1x1x512.size a ≤ S8x1x4096.size a) ∧
  (∀ (k0_h4 : k0_cond4 v1 v3 = 1#1), ∀ a, (k0_off21 v1) a + S512x128.size a ≤ S4096x1024.size a) ∧
  (∀ (k0_h4 : k0_cond4 v1 v3 = 1#1), ∀ a, (k0_off22 v1) a + S1x1x512.size a ≤ S8x1x4096.size a) ∧
  (∀ (k0_h4 : k0_cond4 v1 v3 = 1#1), ∀ a, (k0_off23 v1) a + S512x128.size a ≤ S4096x1024.size a) ∧
  (∀ (k0_h4 : k0_cond4 v1 v3 = 1#1), ∀ a, (k0_off24 v1) a + S1x1x512.size a ≤ S8x1x4096.size a) ∧
  (∀ (k0_h4 : k0_cond4 v1 v3 = 1#1), ∀ a, (k0_off25 v1) a + S512x128.size a ≤ S4096x1024.size a) ∧
  (∀ (k0_h4 : k0_cond4 v1 v3 = 1#1), ∀ a, (k0_off26 v1) a + S1x1x512.size a ≤ S8x1x4096.size a) ∧
  (∀ (k0_h4 : k0_cond4 v1 v3 = 1#1), ∀ a, (k0_off27 v1) a + S512x128.size a ≤ S4096x1024.size a) ∧
  (∀ (k0_h4 : k0_cond4 v1 v3 = 1#1), ∀ a, (k0_off28 v1) a + S1x1x512.size a ≤ S8x1x4096.size a) ∧
  (∀ (k0_h4 : k0_cond4 v1 v3 = 1#1), ∀ a, (k0_off29 v1) a + S512x128.size a ≤ S4096x1024.size a) ∧
  (∀ (k0_h4 : k0_cond4 v1 v3 = 1#1), ∀ a, (k0_off30 v1) a + S1x1x512.size a ≤ S8x1x4096.size a) ∧
  (∀ (k0_h4 : k0_cond4 v1 v3 = 1#1), ∀ a, (k0_off31 v1) a + S512x128.size a ≤ S4096x1024.size a)
def k0_chk1_1 (v1 : BitVec 32) (v3 : BitVec 32) : Prop :=
  (∀ (k0_h4 : k0_cond4 v1 v3 = 1#1), ∀ a, (k0_off32 v1) a + S1x1x512.size a ≤ S8x1x4096.size a) ∧
  (∀ (k0_h4 : k0_cond4 v1 v3 = 1#1), ∀ a, (k0_off33 v1) a + S512x128.size a ≤ S4096x1024.size a)
def k0_chk1 (v1 : BitVec 32) (v3 : BitVec 32) : Prop :=
  k0_chk1_0 v1 v3 ∧
  k0_chk1_1 v1 v3
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1.1 k0_h3
theorem k0_off2_inb : ∀ (v1 : BitVec 32) (v3 : BitVec 32) (k0_hw1 : k0_chk1 v1 v3), ∀ (k0_h3 : k0_cond3 v1 v3 = 1#1), ∀ a, (k0_off2 v1) a + S1x1x512.size a ≤ S8x1x4096.size a := fun v1 v3 k0_hw1 k0_h3 => k0_hw1.1.2.1 k0_h3
theorem k0_off3_inb : ∀ (v1 : BitVec 32) (v3 : BitVec 32) (k0_hw1 : k0_chk1 v1 v3), ∀ (k0_h3 : k0_cond3 v1 v3 = 1#1), ∀ a, (k0_off3 v1) a + S512x128.size a ≤ S4096x1024.size a := fun v1 v3 k0_hw1 k0_h3 => k0_hw1.1.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S1x1x512.size a ≤ S8x1x4096.size a := fun v1 v3 k0_hw1 k0_h3 => k0_hw1.1.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S512x128.size a ≤ S4096x1024.size a := fun v1 v3 k0_hw1 k0_h3 => k0_hw1.1.2.2.2.2.1 k0_h3
theorem k0_off6_inb : ∀ (v1 : BitVec 32) (v3 : BitVec 32) (k0_hw1 : k0_chk1 v1 v3), ∀ (k0_h3 : k0_cond3 v1 v3 = 1#1), ∀ a, (k0_off6 v1) a + S1x1x512.size a ≤ S8x1x4096.size a := fun v1 v3 k0_hw1 k0_h3 => k0_hw1.1.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1) a + S512x128.size a ≤ S4096x1024.size a := fun v1 v3 k0_hw1 k0_h3 => k0_hw1.1.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v1) a + S1x1x512.size a ≤ S8x1x4096.size a := fun v1 v3 k0_hw1 k0_h3 => k0_hw1.1.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v1) a + S512x128.size a ≤ S4096x1024.size a := fun v1 v3 k0_hw1 k0_h3 => k0_hw1.1.2.2.2.2.2.2.2.2.1 k0_h3
theorem k0_off10_inb : ∀ (v1 : BitVec 32) (v3 : BitVec 32) (k0_hw1 : k0_chk1 v1 v3), ∀ (k0_h3 : k0_cond3 v1 v3 = 1#1), ∀ a, (k0_off10 v1) a + S1x1x512.size a ≤ S8x1x4096.size a := fun v1 v3 k0_hw1 k0_h3 => k0_hw1.1.2.2.2.2.2.2.2.2.2.1 k0_h3
theorem k0_off11_inb : ∀ (v1 : BitVec 32) (v3 : BitVec 32) (k0_hw1 : k0_chk1 v1 v3), ∀ (k0_h3 : k0_cond3 v1 v3 = 1#1), ∀ a, (k0_off11 v1) a + S512x128.size a ≤ S4096x1024.size a := fun v1 v3 k0_hw1 k0_h3 => k0_hw1.1.2.2.2.2.2.2.2.2.2.2.1 k0_h3
theorem k0_off12_inb : ∀ (v1 : BitVec 32) (v3 : BitVec 32) (k0_hw1 : k0_chk1 v1 v3), ∀ (k0_h3 : k0_cond3 v1 v3 = 1#1), ∀ a, (k0_off12 v1) a + S1x1x512.size a ≤ S8x1x4096.size a := fun v1 v3 k0_hw1 k0_h3 => k0_hw1.1.2.2.2.2.2.2.2.2.2.2.2.1 k0_h3
theorem k0_off13_inb : ∀ (v1 : BitVec 32) (v3 : BitVec 32) (k0_hw1 : k0_chk1 v1 v3), ∀ (k0_h3 : k0_cond3 v1 v3 = 1#1), ∀ a, (k0_off13 v1) a + S512x128.size a ≤ S4096x1024.size a := fun v1 v3 k0_hw1 k0_h3 => k0_hw1.1.2.2.2.2.2.2.2.2.2.2.2.2.1 k0_h3
theorem k0_off14_inb : ∀ (v1 : BitVec 32) (v3 : BitVec 32) (k0_hw1 : k0_chk1 v1 v3), ∀ (k0_h3 : k0_cond3 v1 v3 = 1#1), ∀ a, (k0_off14 v1) a + S1x1x512.size a ≤ S8x1x4096.size a := fun v1 v3 k0_hw1 k0_h3 => k0_hw1.1.2.2.2.2.2.2.2.2.2.2.2.2.2.1 k0_h3
theorem k0_off15_inb : ∀ (v1 : BitVec 32) (v3 : BitVec 32) (k0_hw1 : k0_chk1 v1 v3), ∀ (k0_h3 : k0_cond3 v1 v3 = 1#1), ∀ a, (k0_off15 v1) a + S512x128.size a ≤ S4096x1024.size a := fun v1 v3 k0_hw1 k0_h3 => k0_hw1.1.2.2.2.2.2.2.2.2.2.2.2.2.2.2.1 k0_h3
theorem k0_off16_inb : ∀ (v1 : BitVec 32) (v3 : BitVec 32) (k0_hw1 : k0_chk1 v1 v3), ∀ (k0_h3 : k0_cond3 v1 v3 = 1#1), ∀ a, (k0_off16 v1) a + S1x1x512.size a ≤ S8x1x4096.size a := fun v1 v3 k0_hw1 k0_h3 => k0_hw1.1.2.2.2.2.2.2.2.2.2.2.2.2.2.2.2.1 k0_h3
theorem k0_off17_inb : ∀ (v1 : BitVec 32) (v3 : BitVec 32) (k0_hw1 : k0_chk1 v1 v3), ∀ (k0_h3 : k0_cond3 v1 v3 = 1#1), ∀ a, (k0_off17 v1) a + S512x128.size a ≤ S4096x1024.size a := fun v1 v3 k0_hw1 k0_h3 => k0_hw1.1.2.2.2.2.2.2.2.2.2.2.2.2.2.2.2.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.1.2.2.2.2.2.2.2.2.2.2.2.2.2.2.2.2.2.1 k0_h4
theorem k0_off18_inb : ∀ (v1 : BitVec 32) (v3 : BitVec 32) (k0_hw1 : k0_chk1 v1 v3), ∀ (k0_h4 : k0_cond4 v1 v3 = 1#1), ∀ a, (k0_off18 v1) a + S1x1x512.size a ≤ S8x1x4096.size a := fun v1 v3 k0_hw1 k0_h4 => k0_hw1.1.2.2.2.2.2.2.2.2.2.2.2.2.2.2.2.2.2.2.1 k0_h4
theorem k0_off19_inb : ∀ (v1 : BitVec 32) (v3 : BitVec 32) (k0_hw1 : k0_chk1 v1 v3), ∀ (k0_h4 : k0_cond4 v1 v3 = 1#1), ∀ a, (k0_off19 v1) a + S512x128.size a ≤ S4096x1024.size a := fun v1 v3 k0_hw1 k0_h4 => k0_hw1.1.2.2.2.2.2.2.2.2.2.2.2.2.2.2.2.2.2.2.2.1 k0_h4
theorem k0_off20_inb : ∀ (v1 : BitVec 32) (v3 : BitVec 32) (k0_hw1 : k0_chk1 v1 v3), ∀ (k0_h4 : k0_cond4 v1 v3 = 1#1), ∀ a, (k0_off20 v1) a + S1x1x512.size a ≤ S8x1x4096.size a := fun v1 v3 k0_hw1 k0_h4 => k0_hw1.1.2.2.2.2.2.2.2.2.2.2.2.2.2.2.2.2.2.2.2.2.1 k0_h4
theorem k0_off21_inb : ∀ (v1 : BitVec 32) (v3 : BitVec 32) (k0_hw1 : k0_chk1 v1 v3), ∀ (k0_h4 : k0_cond4 v1 v3 = 1#1), ∀ a, (k0_off21 v1) a + S512x128.size a ≤ S4096x1024.size a := fun v1 v3 k0_hw1 k0_h4 => k0_hw1.1.2.2.2.2.2.2.2.2.2.2.2.2.2.2.2.2.2.2.2.2.2.1 k0_h4
theorem k0_off22_inb : ∀ (v1 : BitVec 32) (v3 : BitVec 32) (k0_hw1 : k0_chk1 v1 v3), ∀ (k0_h4 : k0_cond4 v1 v3 = 1#1), ∀ a, (k0_off22 v1) a + S1x1x512.size a ≤ S8x1x4096.size a := fun v1 v3 k0_hw1 k0_h4 => k0_hw1.1.2.2.2.2.2.2.2.2.2.2.2.2.2.2.2.2.2.2.2.2.2.2.1 k0_h4
theorem k0_off23_inb : ∀ (v1 : BitVec 32) (v3 : BitVec 32) (k0_hw1 : k0_chk1 v1 v3), ∀ (k0_h4 : k0_cond4 v1 v3 = 1#1), ∀ a, (k0_off23 v1) a + S512x128.size a ≤ S4096x1024.size a := fun v1 v3 k0_hw1 k0_h4 => k0_hw1.1.2.2.2.2.2.2.2.2.2.2.2.2.2.2.2.2.2.2.2.2.2.2.2.1 k0_h4
theorem k0_off24_inb : ∀ (v1 : BitVec 32) (v3 : BitVec 32) (k0_hw1 : k0_chk1 v1 v3), ∀ (k0_h4 : k0_cond4 v1 v3 = 1#1), ∀ a, (k0_off24 v1) a + S1x1x512.size a ≤ S8x1x4096.size a := fun v1 v3 k0_hw1 k0_h4 => k0_hw1.1.2.2.2.2.2.2.2.2.2.2.2.2.2.2.2.2.2.2.2.2.2.2.2.2.1 k0_h4
theorem k0_off25_inb : ∀ (v1 : BitVec 32) (v3 : BitVec 32) (k0_hw1 : k0_chk1 v1 v3), ∀ (k0_h4 : k0_cond4 v1 v3 = 1#1), ∀ a, (k0_off25 v1) a + S512x128.size a ≤ S4096x1024.size a := fun v1 v3 k0_hw1 k0_h4 => k0_hw1.1.2.2.2.2.2.2.2.2.2.2.2.2.2.2.2.2.2.2.2.2.2.2.2.2.2.1 k0_h4
theorem k0_off26_inb : ∀ (v1 : BitVec 32) (v3 : BitVec 32) (k0_hw1 : k0_chk1 v1 v3), ∀ (k0_h4 : k0_cond4 v1 v3 = 1#1), ∀ a, (k0_off26 v1) a + S1x1x512.size a ≤ S8x1x4096.size a := fun v1 v3 k0_hw1 k0_h4 => k0_hw1.1.2.2.2.2.2.2.2.2.2.2.2.2.2.2.2.2.2.2.2.2.2.2.2.2.2.2.1 k0_h4
theorem k0_off27_inb : ∀ (v1 : BitVec 32) (v3 : BitVec 32) (k0_hw1 : k0_chk1 v1 v3), ∀ (k0_h4 : k0_cond4 v1 v3 = 1#1), ∀ a, (k0_off27 v1) a + S512x128.size a ≤ S4096x1024.size a := fun v1 v3 k0_hw1 k0_h4 => k0_hw1.1.2.2.2.2.2.2.2.2.2.2.2.2.2.2.2.2.2.2.2.2.2.2.2.2.2.2.2.1 k0_h4
theorem k0_off28_inb : ∀ (v1 : BitVec 32) (v3 : BitVec 32) (k0_hw1 : k0_chk1 v1 v3), ∀ (k0_h4 : k0_cond4 v1 v3 = 1#1), ∀ a, (k0_off28 v1) a + S1x1x512.size a ≤ S8x1x4096.size a := fun v1 v3 k0_hw1 k0_h4 => k0_hw1.1.2.2.2.2.2.2.2.2.2.2.2.2.2.2.2.2.2.2.2.2.2.2.2.2.2.2.2.2.1 k0_h4
theorem k0_off29_inb : ∀ (v1 : BitVec 32) (v3 : BitVec 32) (k0_hw1 : k0_chk1 v1 v3), ∀ (k0_h4 : k0_cond4 v1 v3 = 1#1), ∀ a, (k0_off29 v1) a + S512x128.size a ≤ S4096x1024.size a := fun v1 v3 k0_hw1 k0_h4 => k0_hw1.1.2.2.2.2.2.2.2.2.2.2.2.2.2.2.2.2.2.2.2.2.2.2.2.2.2.2.2.2.2.1 k0_h4
theorem k0_off30_inb : ∀ (v1 : BitVec 32) (v3 : BitVec 32) (k0_hw1 : k0_chk1 v1 v3), ∀ (k0_h4 : k0_cond4 v1 v3 = 1#1), ∀ a, (k0_off30 v1) a + S1x1x512.size a ≤ S8x1x4096.size a := fun v1 v3 k0_hw1 k0_h4 => k0_hw1.1.2.2.2.2.2.2.2.2.2.2.2.2.2.2.2.2.2.2.2.2.2.2.2.2.2.2.2.2.2.2.1 k0_h4
theorem k0_off31_inb : ∀ (v1 : BitVec 32) (v3 : BitVec 32) (k0_hw1 : k0_chk1 v1 v3), ∀ (k0_h4 : k0_cond4 v1 v3 = 1#1), ∀ a, (k0_off31 v1) a + S512x128.size a ≤ S4096x1024.size a := fun v1 v3 k0_hw1 k0_h4 => k0_hw1.1.2.2.2.2.2.2.2.2.2.2.2.2.2.2.2.2.2.2.2.2.2.2.2.2.2.2.2.2.2.2.2 k0_h4
theorem k0_off32_inb : ∀ (v1 : BitVec 32) (v3 : BitVec 32) (k0_hw1 : k0_chk1 v1 v3), ∀ (k0_h4 : k0_cond4 v1 v3 = 1#1), ∀ a, (k0_off32 v1) a + S1x1x512.size a ≤ S8x1x4096.size a := fun v1 v3 k0_hw1 k0_h4 => k0_hw1.2.1 k0_h4
theorem k0_off33_inb : ∀ (v1 : BitVec 32) (v3 : BitVec 32) (k0_hw1 : k0_chk1 v1 v3), ∀ (k0_h4 : k0_cond4 v1 v3 = 1#1), ∀ a, (k0_off33 v1) a + S512x128.size a ≤ S4096x1024.size a := fun v1 v3 k0_hw1 k0_h4 => k0_hw1.2.2 k0_h4

def k0_cond6 (i : grid0.Coords) : BitVec 1 :=
  let arg1 : BitVec 32 := BitVec.ofNat 32 (i 1).val
  let c35_i32 : BitVec 32 := 35#32
  let v19 : BitVec 1 := Scalar.cmpi .eq arg1 c35_i32
  let v20 : BitVec 32 := Scalar.extui v19
  let c0_i32_5 : BitVec 32 := 0#32
  let v21 : BitVec 1 := Scalar.cmpi .ne v20 c0_i32_5
  v21

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference2Ideal.lean ====
abbrev S4096x8x64 : Shape := ⟨3, ![4096, 8, 64]⟩
abbrev S4096x8 : Shape := ⟨2, ![4096, 8]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩
abbrev S4096x512 : Shape := ⟨2, ![4096, 512]⟩
abbrev S4096x8x1 : Shape := ⟨3, ![4096, 8, 1]⟩

abbrev nBuf : Space → Nat
  | .hbm => 123
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8, .f32⟩
  | .hbm, ⟨4, _⟩ => ⟨S4096x8x64, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S8x4096, .f32⟩
  | .hbm, ⟨10, _⟩ => ⟨S8x4096x1, .f32⟩
  | .hbm, ⟨11, _⟩ => ⟨S8x4096, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x4096x4096, .f32⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .i1⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x64x4096, .f32⟩
  | .hbm, ⟨69, _⟩ => ⟨S4096x8x64, .f32⟩
  | .hbm, ⟨70, _⟩ => ⟨S8x64x4096, .f32⟩
  | .hbm, ⟨71, _⟩ => ⟨S8x4096x4096, .f32⟩
  | .hbm, ⟨72, _⟩ => ⟨S8x64x4096, .f32⟩
  | .hbm, ⟨73, _⟩ => ⟨S4096x8x64, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096, .f32⟩
  | .hbm, ⟨93, _⟩ => ⟨S8x4096x1, .f32⟩
  | .hbm, ⟨94, _⟩ => ⟨S8x4096x4096, .f32⟩
  | .hbm, ⟨95, _⟩ => ⟨S_, .f32⟩
  | .hbm, ⟨96, _⟩ => ⟨S8x4096, .f32⟩
  | .hbm, ⟨97, _⟩ => ⟨S8x1x4096, .f32⟩
  | .hbm, ⟨98, _⟩ => ⟨S_, .f32⟩
  | .hbm, ⟨99, _⟩ => ⟨S8x4096, .f32⟩
  | .hbm, ⟨100, _⟩ => ⟨S4096x8, .f32⟩
  | .hbm, ⟨101, _⟩ => ⟨S_, .f32⟩
  | .hbm, ⟨102, _⟩ => ⟨S8x4096, .f32⟩
  | .hbm, ⟨103, _⟩ => ⟨S4096x8, .f32⟩
  | .hbm, ⟨104, _⟩ => ⟨S_, .f32⟩
  | .hbm, ⟨105, _⟩ => ⟨S8x4096x4096, .f32⟩
  | .hbm, ⟨106, _⟩ => ⟨S8x4096x4096, .f32⟩
  | .hbm, ⟨107, _⟩ => ⟨S8x4096x64, .f32⟩
  | .hbm, ⟨108, _⟩ => ⟨S4096x8x64, .f32⟩
  | .hbm, ⟨109, _⟩ => ⟨S8x4096x64, .f32⟩
  | .hbm, ⟨110, _⟩ => ⟨S4096x8x64, .f32⟩
  | .hbm, ⟨111, _⟩ => ⟨S4096x512, .f32⟩
  | .hbm, ⟨112, _⟩ => ⟨S4096x512, .bf16⟩
  | .hbm, ⟨113, _⟩ => ⟨S4096x512, .f32⟩
  | .hbm, ⟨114, _⟩ => ⟨S4096x512, .bf16⟩
  | .hbm, ⟨115, _⟩ => ⟨S4096x512, .f32⟩
  | .hbm, ⟨116, _⟩ => ⟨S4096x512, .bf16⟩
  | .hbm, ⟨117, _⟩ => ⟨S4096x8x1, .f32⟩
  | .hbm, ⟨118, _⟩ => ⟨S4096x8x1, .f32⟩
  | .hbm, ⟨119, _⟩ => ⟨S4096x8x64, .f32⟩
  | .hbm, ⟨120, _⟩ => ⟨S4096x512, .f32⟩
  | .hbm, ⟨121, _⟩ => ⟨S8x4096, .f32⟩
  | .hbm, ⟨122, _⟩ => ⟨S8x1x4096, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== Kernel3.lean ====
abbrev S3x4096x4 : Shape := ⟨3, ![3, 4096, 4]⟩
abbrev S3x4096x4x64 : Shape := ⟨4, ![3, 4096, 4, 64]⟩
abbrev S4096x4x64 : Shape := ⟨3, ![4096, 4, 64]⟩
abbrev S3x4096x4x1 : Shape := ⟨4, ![3, 4096, 4, 1]⟩
abbrev S4096x256 : Shape := ⟨2, ![4096, 256]⟩
abbrev S1x4096x4x64 : Shape := ⟨4, ![1, 4096, 4, 64]⟩
abbrev S4096x2x128 : Shape := ⟨3, ![4096, 2, 128]⟩
abbrev S2x4096x128 : Shape := ⟨3, ![2, 4096, 128]⟩
abbrev S512x256 : Shape := ⟨2, ![512, 256]⟩
abbrev S2x512x128 : Shape := ⟨3, ![2, 512, 128]⟩
abbrev S512x128 : Shape := ⟨2, ![512, 128]⟩
abbrev S1x512x128 : Shape := ⟨3, ![1, 512, 128]⟩
abbrev S128x128 : Shape := ⟨2, ![128, 128]⟩

abbrev nBuf : Space → Nat
  | .hbm => 36
  | .vmem => 26
  | .smem => 0
  | _ => 0

abbrev bufTy : (tb : Table) → Fin (tcTables nBuf tb) → BufTy
  | .hbm, ⟨0, _⟩ => ⟨S3x4096x4, .f32⟩
  | .hbm, ⟨1, _⟩ => ⟨S3x4096x4x64, .f32⟩
  | .hbm, ⟨2, _⟩ => ⟨S4096x4x64, .f32⟩
  | .hbm, ⟨3, _⟩ => ⟨S3x4096x4x1, .f32⟩
  | .hbm, ⟨4, _⟩ => ⟨S3x4096x4x64, .f32⟩
  | .hbm, ⟨5, _⟩ => ⟨S4096x256, .f32⟩
  | .hbm, ⟨6, _⟩ => ⟨S1x4096x4x64, .f32⟩
  | .hbm, ⟨7, _⟩ => ⟨S4096x4x64, .f32⟩
  | .hbm, ⟨8, _⟩ => ⟨S4096x2x128, .f32⟩
  | .hbm, ⟨9, _⟩ => ⟨S2x4096x128, .f32⟩
  | .hbm, ⟨10, _⟩ => ⟨S1x4096x4x64, .f32⟩
  | .hbm, ⟨11, _⟩ => ⟨S4096x4x64, .f32⟩
  | .hbm, ⟨12, _⟩ => ⟨S4096x2x128, .f32⟩
  | .hbm, ⟨13, _⟩ => ⟨S2x4096x128, .f32⟩
  | .hbm, ⟨14, _⟩ => ⟨S1x4096x4x64, .f32⟩
  | .hbm, ⟨15, _⟩ => ⟨S4096x4x64, .f32⟩
  | .hbm, ⟨16, _⟩ => ⟨S4096x2x128, .f32⟩
  | .hbm, ⟨17, _⟩ => ⟨S2x4096x128, .f32⟩
  | .hbm, ⟨18, _⟩ => ⟨S1x4096x4x64, .f32⟩
  | .hbm, ⟨19, _⟩ => ⟨S4096x4x64, .f32⟩
  | .hbm, ⟨20, _⟩ => ⟨S4096x2x128, .f32⟩
  | .hbm, ⟨21, _⟩ => ⟨S2x4096x128, .f32⟩
  | .hbm, ⟨22, _⟩ => ⟨S1x4096x4x64, .f32⟩
  | .hbm, ⟨23, _⟩ => ⟨S4096x4x64, .f32⟩
  | .hbm, ⟨24, _⟩ => ⟨S4096x2x128, .f32⟩
  | .hbm, ⟨25, _⟩ => ⟨S2x4096x128, .f32⟩
  | .hbm, ⟨26, _⟩ => ⟨S1x4096x4x64, .f32⟩
  | .hbm, ⟨27, _⟩ => ⟨S4096x4x64, .f32⟩
  | .hbm, ⟨28, _⟩ => ⟨S4096x2x128, .f32⟩
  | .hbm, ⟨29, _⟩ => ⟨S2x4096x128, .f32⟩
  | .hbm, ⟨30, _⟩ => ⟨S2x4096x128, .f32⟩
  | .hbm, ⟨31, _⟩ => ⟨S2x4096x128, .f32⟩
  | .hbm, ⟨32, _⟩ => ⟨S2x4096x128, .f32⟩
  | .hbm, ⟨33, _⟩ => ⟨S2x4096x128, .f32⟩
  | .hbm, ⟨34, _⟩ => ⟨S2x4096x128, .f32⟩
  | .hbm, ⟨35, _⟩ => ⟨S2x4096x128, .f32⟩
  | .local _ .vmem, ⟨0, _⟩ => ⟨S512x256, .f32⟩
  | .local _ .vmem, ⟨1, _⟩ => ⟨S512x256, .f32⟩
  | .local _ .vmem, ⟨2, _⟩ => ⟨S2x512x128, .f32⟩
  | .local _ .vmem, ⟨3, _⟩ => ⟨S2x512x128, .f32⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S2x512x128, .f32⟩
  | .local _ .vmem, ⟨15, _⟩ => ⟨S2x512x128, .f32⟩
  | .local _ .vmem, ⟨16, _⟩ => ⟨S2x512x128, .f32⟩
  | .local _ .vmem, ⟨17, _⟩ => ⟨S2x512x128, .f32⟩
  | .local _ .vmem, ⟨18, _⟩ => ⟨S2x512x128, .f32⟩
  | .local _ .vmem, ⟨19, _⟩ => ⟨S2x512x128, .f32⟩
  | .local _ .vmem, ⟨20, _⟩ => ⟨S2x512x128, .f32⟩
  | .local _ .vmem, ⟨21, _⟩ => ⟨S2x512x128, .f32⟩
  | .local _ .vmem, ⟨22, _⟩ => ⟨S2x512x128, .f32⟩
  | .local _ .vmem, ⟨23, _⟩ => ⟨S2x512x128, .f32⟩
  | .local _ .vmem, ⟨24, _⟩ => ⟨S2x512x128, .f32⟩
  | .local _ .vmem, ⟨25, _⟩ => ⟨S2x512x128, .f32⟩
  | _, _ => ⟨S3x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27_0 : Ref sig .tc := ⟨.hbm, 30, rfl⟩
abbrev main_v27_1 : Ref sig .tc := ⟨.hbm, 31, rfl⟩
abbrev main_v27_2 : Ref sig .tc := ⟨.hbm, 32, rfl⟩
abbrev main_v27_3 : Ref sig .tc := ⟨.hbm, 33, rfl⟩
abbrev main_v27_4 : Ref sig .tc := ⟨.hbm, 34, rfl⟩
abbrev main_v27_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S3x4096x4 : Shape := ⟨3, ![3, 4096, 4]⟩
abbrev S3x4096x4x64 : Shape := ⟨4, ![3, 4096, 4, 64]⟩
abbrev S4096x4x64 : Shape := ⟨3, ![4096, 4, 64]⟩
abbrev S_ : Shape := ⟨0, ![]⟩
abbrev S4096x4 : Shape := ⟨2, ![4096, 4]⟩
abbrev S1x4096x4 : Shape := ⟨3, ![1, 4096, 4]⟩
abbrev S3x4096x4x1 : Shape := ⟨4, ![3, 4096, 4, 1]⟩
abbrev S64 : Shape := ⟨1, ![64]⟩
abbrev S1x4096x4x64 : Shape := ⟨4, ![1, 4096, 4, 64]⟩
abbrev S4096x2x128 : Shape := ⟨3, ![4096, 2, 128]⟩
abbrev S2x4096x128 : Shape := ⟨3, ![2, 4096, 128]⟩

abbrev nBuf : Space → Nat
  | .hbm => 107
  | .vmem => 0
  | .smem => 0
  | _ => 0

abbrev bufTy : (tb : Table) → Fin (tcTables nBuf tb) → BufTy
  | .hbm, ⟨0, _⟩ => ⟨S3x4096x4, .f32⟩
  | .hbm, ⟨1, _⟩ => ⟨S3x4096x4x64, .f32⟩
  | .hbm, ⟨2, _⟩ => ⟨S4096x4x64, .f32⟩
  | .hbm, ⟨3, _⟩ => ⟨S_, .f32⟩
  | .hbm, ⟨4, _⟩ => ⟨S4096x4, .f32⟩
  | .hbm, ⟨5, _⟩ => ⟨S1x4096x4, .f32⟩
  | .hbm, ⟨6, _⟩ => ⟨S3x4096x4, .f32⟩
  | .hbm, ⟨7, _⟩ => ⟨S3x4096x4, .i1⟩
  | .hbm, ⟨8, _⟩ => ⟨S3x4096x4, .f32⟩
  | .hbm, ⟨9, _⟩ => ⟨S_, .f32⟩
  | .hbm, ⟨10, _⟩ => ⟨S4096x4, .f32⟩
  | .hbm, ⟨11, _⟩ => ⟨S_, .f32⟩
  | .hbm, ⟨12, _⟩ => ⟨S4096x4, .f32⟩
  | .hbm, ⟨13, _⟩ => ⟨S4096x4, .f32⟩
  | .hbm, ⟨14, _⟩ => ⟨S_, .f32⟩
  | .hbm, ⟨15, _⟩ => ⟨S4096x4, .f32⟩
  | .hbm, ⟨16, _⟩ => ⟨S4096x4, .i1⟩
  | .hbm, ⟨17, _⟩ => ⟨S_, .f32⟩
  | .hbm, ⟨18, _⟩ => ⟨S4096x4, .f32⟩
  | .hbm, ⟨19, _⟩ => ⟨S4096x4, .i1⟩
  | .hbm, ⟨20, _⟩ => ⟨S_, .f32⟩
  | .hbm, ⟨21, _⟩ => ⟨S4096x4, .f32⟩
  | .hbm, ⟨22, _⟩ => ⟨S_, .f32⟩
  | .hbm, ⟨23, _⟩ => ⟨S4096x4, .f32⟩
  | .hbm, ⟨24, _⟩ => ⟨S_, .f32⟩
  | .hbm, ⟨25, _⟩ => ⟨S4096x4, .f32⟩
  | .hbm, ⟨26, _⟩ => ⟨S4096x4, .f32⟩
  | .hbm, ⟨27, _⟩ => ⟨S4096x4, .f32⟩
  | .hbm, ⟨28, _⟩ => ⟨S1x4096x4, .f32⟩
  | .hbm, ⟨29, _⟩ => ⟨S3x4096x4, .f32⟩
  | .hbm, ⟨30, _⟩ => ⟨S3x4096x4, .f32⟩
  | .hbm, ⟨31, _⟩ => ⟨S3x4096x4, .f32⟩
  | .hbm, ⟨32, _⟩ => ⟨S_, .f32⟩
  | .hbm, ⟨33, _⟩ => ⟨S4096x4, .f32⟩
  | .hbm, ⟨34, _⟩ => ⟨S1x4096x4, .f32⟩
  | .hbm, ⟨35, _⟩ => ⟨S3x4096x4, .f32⟩
  | .hbm, ⟨36, _⟩ => ⟨S3x4096x4, .f32⟩
  | .hbm, ⟨37, _⟩ => ⟨S1x4096x4, .f32⟩
  | .hbm, ⟨38, _⟩ => ⟨S_, .f32⟩
  | .hbm, ⟨39, _⟩ => ⟨S1x4096x4, .f32⟩
  | .hbm, ⟨40, _⟩ => ⟨S1x4096x4, .f32⟩
  | .hbm, ⟨41, _⟩ => ⟨S3x4096x4x1, .f32⟩
  | .hbm, ⟨42, _⟩ => ⟨S3x4096x4x64, .f32⟩
  | .hbm, ⟨43, _⟩ => ⟨S3x4096x4x64, .f32⟩
  | .hbm, ⟨44, _⟩ => ⟨S_, .f32⟩
  | .hbm, ⟨45, _⟩ => ⟨S4096x4x64, .f32⟩
  | .hbm, ⟨46, _⟩ => ⟨S3x4096x4x64, .f32⟩
  | .hbm, ⟨47, _⟩ => ⟨S3x4096x4x64, .f32⟩
  | .hbm, ⟨48, _⟩ => ⟨S3x4096x4x64, .f32⟩
  | .hbm, ⟨49, _⟩ => ⟨S3x4096x4x64, .f32⟩
  | .hbm, ⟨50, _⟩ => ⟨S_, .f32⟩
  | .hbm, ⟨51, _⟩ => ⟨S3x4096x4, .f32⟩
  | .hbm, ⟨52, _⟩ => ⟨S3x4096x4x1, .f32⟩
  | .hbm, ⟨53, _⟩ => ⟨S_, .f32⟩
  | .hbm, ⟨54, _⟩ => ⟨S3x4096x4, .f32⟩
  | .hbm, ⟨55, _⟩ => ⟨S3x4096x4, .f32⟩
  | .hbm, ⟨56, _⟩ => ⟨S3x4096x4, .f32⟩
  | .hbm, ⟨57, _⟩ => ⟨S3x4096x4, .f32⟩
  | .hbm, ⟨58, _⟩ => ⟨S_, .f32⟩
  | .hbm, ⟨59, _⟩ => ⟨S4096x4, .f32⟩
  | .hbm, ⟨60, _⟩ => ⟨S1x4096x4, .f32⟩
  | .hbm, ⟨61, _⟩ => ⟨S1x4096x4, .f32⟩
  | .hbm, ⟨62, _⟩ => ⟨S3x4096x4, .f32⟩
  | .hbm, ⟨63, _⟩ => ⟨S3x4096x4, .f32⟩
  | .hbm, ⟨64, _⟩ => ⟨S_, .f32⟩
  | .hbm, ⟨65, _⟩ => ⟨S4096x4, .f32⟩
  | .hbm, ⟨66, _⟩ => ⟨S3x4096x4, .f32⟩
  | .hbm, ⟨67, _⟩ => ⟨S3x4096x4, .f32⟩
  | .hbm, ⟨68, _⟩ => ⟨S3x4096x4, .f32⟩
  | .hbm, ⟨69, _⟩ => ⟨S3x4096x4x64, .f32⟩
  | .hbm, ⟨70, _⟩ => ⟨S_, .f32⟩
  | .hbm, ⟨71, _⟩ => ⟨S3x4096x4, .f32⟩
  | .hbm, ⟨72, _⟩ => ⟨S3x4096x4, .f32⟩
  | .hbm, ⟨73, _⟩ => ⟨S64, .i32⟩
  | .hbm, ⟨74, _⟩ => ⟨S_, .i32⟩
  | .hbm, ⟨75, _⟩ => ⟨S64, .i32⟩
  | .hbm, ⟨76, _⟩ => ⟨S64, .i1⟩
  | .hbm, ⟨77, _⟩ => ⟨S3x4096x4x1, .f32⟩
  | .hbm, ⟨78, _⟩ => ⟨S3x4096x4x1, .f32⟩
  | .hbm, ⟨79, _⟩ => ⟨S3x4096x4x64, .i1⟩
  | .hbm, ⟨80, _⟩ => ⟨S3x4096x4x64, .f32⟩
  | .hbm, ⟨81, _⟩ => ⟨S3x4096x4x64, .f32⟩
  | .hbm, ⟨82, _⟩ => ⟨S3x4096x4x64, .f32⟩
  | .hbm, ⟨83, _⟩ => ⟨S1x4096x4x64, .f32⟩
  | .hbm, ⟨84, _⟩ => ⟨S4096x4x64, .f32⟩
  | .hbm, ⟨85, _⟩ => ⟨S4096x2x128, .f32⟩
  | .hbm, ⟨86, _⟩ => ⟨S2x4096x128, .f32⟩
  | .hbm, ⟨87, _⟩ => ⟨S1x4096x4x64, .f32⟩
  | .hbm, ⟨88, _⟩ => ⟨S4096x4x64, .f32⟩
  | .hbm, ⟨89, _⟩ => ⟨S4096x2x128, .f32⟩
  | .hbm, ⟨90, _⟩ => ⟨S2x4096x128, .f32⟩
  | .hbm, ⟨91, _⟩ => ⟨S1x4096x4x64, .f32⟩
  | .hbm, ⟨92, _⟩ => ⟨S4096x4x64, .f32⟩
  | .hbm, ⟨93, _⟩ => ⟨S4096x2x128, .f32⟩
  | .hbm, ⟨94, _⟩ => ⟨S2x4096x128, .f32⟩
  | .hbm, ⟨95, _⟩ => ⟨S1x4096x4x64, .f32⟩
  | .hbm, ⟨96, _⟩ => ⟨S4096x4x64, .f32⟩
  | .hbm, ⟨97, _⟩ => ⟨S4096x2x128, .f32⟩
  | .hbm, ⟨98, _⟩ => ⟨S2x4096x128, .f32⟩
  | .hbm, ⟨99, _⟩ => ⟨S1x4096x4x64, .f32⟩
  | .hbm, ⟨100, _⟩ => ⟨S4096x4x64, .f32⟩
  | .hbm, ⟨101, _⟩ => ⟨S4096x2x128, .f32⟩
  | .hbm, ⟨102, _⟩ => ⟨S2x4096x128, .f32⟩
  | .hbm, ⟨103, _⟩ => ⟨S1x4096x4x64, .f32⟩
  | .hbm, ⟨104, _⟩ => ⟨S4096x4x64, .f32⟩
  | .hbm, ⟨105, _⟩ => ⟨S4096x2x128, .f32⟩
  | .hbm, ⟨106, _⟩ => ⟨S2x4096x128, .f32⟩
  | _, _ => ⟨S3x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_13 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== Kernel4.lean ====
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩
abbrev S128x128 : Shape := ⟨2, ![128, 128]⟩
abbrev S128 : Shape := ⟨1, ![128]⟩

abbrev nBuf : Space → Nat
  | .hbm => 14
  | .vmem => 5
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S4096x128, .f32⟩
  | .hbm, ⟨13, _⟩ => ⟨S1x128, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .f32⟩
  | .local _ .vmem, ⟨4, _⟩ => ⟨S1x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
def k0_mult1 (k0_t1 : Fin k0_t1_loop.trips) : BitVec 32 :=
  let c31_i32 : BitVec 32 := 31#32
  let c0_i32 : BitVec 32 := 0#32
  let c1_i32 : BitVec 32 := 1#32
  let arg5 : BitVec 32 := Scf.iv c0_i32 c1_i32 k0_t1
  let v11 : BitVec 32 := Scalar.subi c31_i32 arg5
  let c128_i32 : BitVec 32 := 128#32
  let v12 : BitVec 32 := Scalar.muli v11 c128_i32
  v12
def k0_off1 (k0_t1 : Fin k0_t1_loop.trips) : Fin 2 → Nat :=
  let c31_i32 : BitVec 32 := 31#32
  let c0_i32 : BitVec 32 := 0#32
  let c1_i32 : BitVec 32 := 1#32
  let arg5 : BitVec 32 := Scf.iv c0_i32 c1_i32 k0_t1
  let v11 : BitVec 32 := Scalar.subi c31_i32 arg5
  let c128_i32 : BitVec 32 := 128#32
  let v12 : BitVec 32 := Scalar.muli v11 c128_i32
  let v13 : BitVec 32 := v12
  let v14 : Index := Scalar.indexCast v13
  let c0_3 : Index := 0#32
  ![v14.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference4Ideal.lean ====
abbrev S4096x8 : Shape := ⟨2, ![4096, 8]⟩
abbrev S1x8 : Shape := ⟨2, ![1, 8]⟩
abbrev S_ : Shape := ⟨0, ![]⟩
abbrev S8 : Shape := ⟨1, ![8]⟩
abbrev S4096x128 : Shape := ⟨2, ![4096, 128]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S_, .f32⟩
  | .hbm, ⟨7, _⟩ => ⟨S4096x8, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .i1⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096x8, .f32⟩
  | .hbm, ⟨22, _⟩ => ⟨S4096x8, .i1⟩
  | .hbm, ⟨23, _⟩ => ⟨S_, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x8, .f32⟩
  | .hbm, ⟨28, _⟩ => ⟨S4096x8, .i1⟩
  | .hbm, ⟨29, _⟩ => ⟨S_, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x8, .f32⟩
  | .hbm, ⟨42, _⟩ => ⟨S4096x8, .i1⟩
  | .hbm, ⟨43, _⟩ => ⟨S_, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S_, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S_, .f32⟩
  | .hbm, ⟨54, _⟩ => ⟨S_, .f32⟩
  | .hbm, ⟨55, _⟩ => ⟨S4096x8, .f32⟩
  | .hbm, ⟨56, _⟩ => ⟨S_, .f32⟩
  | .hbm, ⟨57, _⟩ => ⟨S_, .f32⟩
  | .hbm, ⟨58, _⟩ => ⟨S4096x8, .f32⟩
  | .hbm, ⟨59, _⟩ => ⟨S4096x8, .f32⟩
  | .hbm, ⟨60, _⟩ => ⟨S4096x8, .f32⟩
  | .hbm, ⟨61, _⟩ => ⟨S4096x8, .f32⟩
  | .hbm, ⟨62, _⟩ => ⟨S_, .f32⟩
  | .hbm, ⟨63, _⟩ => ⟨S8, .f32⟩
  | .hbm, ⟨64, _⟩ => ⟨S1x8, .f32⟩
  | .hbm, ⟨65, _⟩ => ⟨S_, .i32⟩
  | .hbm, ⟨66, _⟩ => ⟨S_, .f32⟩
  | .hbm, ⟨67, _⟩ => ⟨S4096x128, .f32⟩
  | .hbm, ⟨68, _⟩ => ⟨S_, .i32⟩
  | .hbm, ⟨69, _⟩ => ⟨S_, .f32⟩
  | .hbm, ⟨70, _⟩ => ⟨S1x128, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_c : Ref sig .tc := ⟨.hbm, 65, rfl⟩
abbrev main_call4_v0 : Ref sig .tc := ⟨.hbm, 66, rfl⟩
abbrev main_v8 : Ref sig .tc := ⟨.hbm, 67, rfl⟩
abbrev main_c_0 : Ref sig .tc := ⟨.hbm, 68, rfl⟩
abbrev main_call5_v0 : Ref sig .tc := ⟨.hbm, 69, rfl⟩
abbrev main_v9 : Ref sig .tc := ⟨.hbm, 70, rfl⟩

abbrev nD : Nat := 1
abbrev τ : Topo := Topo.v7x

variable {F : FTy → Type} [FloatOps F]
-- ==== Kernel5.lean ====
abbrev S4096x2048 : Shape := ⟨2, ![4096, 2048]⟩
abbrev S1x2048 : Shape := ⟨2, ![1, 2048]⟩
abbrev S4096x1024 : Shape := ⟨2, ![4096, 1024]⟩
abbrev S1024x1024 : Shape := ⟨2, ![1024, 1024]⟩
abbrev S512x1024 : Shape := ⟨2, ![512, 1024]⟩
abbrev S1x1024 : Shape := ⟨2, ![1, 1024]⟩
abbrev S512x2048 : Shape := ⟨2, ![512, 2048]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1024x1024, .bf16⟩
  | .hbm, ⟨7, _⟩ => ⟨S4096x2048, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x2048, .bf16⟩
  | .hbm, ⟨13, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_32 : BitVec 32 := 0#32
  let v63 : BitVec 1 := Scalar.cmpi .ne v62 c0_i32_32
  v63

def k0_cond2 (i : grid0.Coords) : BitVec 1 :=
  let arg0 : BitVec 32 := BitVec.ofNat 32 (i 0).val
  let c0_i32_33 : BitVec 32 := 0#32
  let v64 : BitVec 1 := Scalar.cmpi .sgt arg0 c0_i32_33
  let v65 : BitVec 32 := Scalar.extui v64
  let c0_i32_34 : BitVec 32 := 0#32
  let v66 : BitVec 1 := Scalar.cmpi .ne v65 c0_i32_34
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S4096x2048 : Shape := ⟨2, ![4096, 2048]⟩
abbrev S1x2048 : Shape := ⟨2, ![1, 2048]⟩
abbrev S4096x1024 : Shape := ⟨2, ![4096, 1024]⟩
abbrev S1024x1024 : Shape := ⟨2, ![1024, 1024]⟩
abbrev S_ : Shape := ⟨0, ![]⟩
abbrev S2048 : Shape := ⟨1, ![2048]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x2048, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x1024, .bf16⟩
  | .hbm, ⟨41, _⟩ => ⟨S4096x1024, .bf16⟩
  | .hbm, ⟨42, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S1x256x2816 : Shape := ⟨3, ![1, 256, 2816]⟩
abbrev S256x1024 : Shape := ⟨2, ![256, 1024]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x5632, .bf16⟩
  | .hbm, ⟨6, _⟩ => ⟨S4096x2x2816, .bf16⟩
  | .hbm, ⟨7, _⟩ => ⟨S2x4096x2816, .bf16⟩
  | .hbm, ⟨8, _⟩ => ⟨S1024x5632, .bf16⟩
  | .hbm, ⟨9, _⟩ => ⟨S1024x4x1408, .bf16⟩
  | .hbm, ⟨10, _⟩ => ⟨S4x1024x1408, .bf16⟩
  | .hbm, ⟨11, _⟩ => ⟨S4096x1024, .f32⟩
  | .hbm, ⟨12, _⟩ => ⟨S1x1024, .f32⟩
  | .local _ .vmem, ⟨0, _⟩ => ⟨S1x256x2816, .bf16⟩
  | .local _ .vmem, ⟨1, _⟩ => ⟨S1x256x2816, .bf16⟩
  | .local _ .vmem, ⟨2, _⟩ => ⟨S1x256x2816, .bf16⟩
  | .local _ .vmem, ⟨3, _⟩ => ⟨S1x256x2816, .bf16⟩
  | .local _ .vmem, ⟨4, _⟩ => ⟨S4x1024x1408, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_36 : BitVec 32 := 0#32
  let v55 : BitVec 1 := Scalar.cmpi .ne v54 c0_i32_36
  v55

def k0_cond2 (i : grid0.Coords) : BitVec 1 :=
  let arg0 : BitVec 32 := BitVec.ofNat 32 (i 0).val
  let c0_i32 : BitVec 32 := 0#32
  let v53 : BitVec 1 := Scalar.cmpi .eq arg0 c0_i32
  let v_true : BitVec 1 := 1#1
  let v56 : BitVec 1 := Scalar.xori v53 v_true
  let v57 : BitVec 32 := Scalar.extui v56
  let c0_i32_37 : BitVec 32 := 0#32
  let v58 : BitVec 1 := Scalar.cmpi .ne v57 c0_i32_37
  v58

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x5896 : Shape := ⟨2, ![1024, 5896]⟩
abbrev S4096x5896 : Shape := ⟨2, ![4096, 5896]⟩
abbrev S1024x3840 : Shape := ⟨2, ![1024, 3840]⟩
abbrev S1024x8 : Shape := ⟨2, ![1024, 8]⟩
abbrev S1024x2048 : Shape := ⟨2, ![1024, 2048]⟩
abbrev S_ : Shape := ⟨0, ![]⟩
abbrev S1024x128 : Shape := ⟨2, ![1024, 128]⟩
abbrev S4096x3840 : Shape := ⟨2, ![4096, 3840]⟩
abbrev S4096x8 : Shape := ⟨2, ![4096, 8]⟩
abbrev S4096x2048 : Shape := ⟨2, ![4096, 2048]⟩
abbrev S4096x128 : Shape := ⟨2, ![4096, 128]⟩
abbrev S256x3840 : Shape := ⟨2, ![256, 3840]⟩
abbrev S256x2048 : Shape := ⟨2, ![256, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 22
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5896, .f32⟩
  | .hbm, ⟨3, _⟩ => ⟨S4096x1024, .f32⟩
  | .hbm, ⟨4, _⟩ => ⟨S4096x5896, .f32⟩
  | .hbm, ⟨5, _⟩ => ⟨S1024x5896, .bf16⟩
  | .hbm, ⟨6, _⟩ => ⟨S1024x3840, .bf16⟩
  | .hbm, ⟨7, _⟩ => ⟨S1024x8, .bf16⟩
  | .hbm, ⟨8, _⟩ => ⟨S1024x2048, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S4096x3840, .f32⟩
  | .hbm, ⟨13, _⟩ => ⟨S4096x8, .f32⟩
  | .hbm, ⟨14, _⟩ => ⟨S4096x2048, .f32⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x3840, .bf16⟩
  | .hbm, ⟨19, _⟩ => ⟨S4096x2048, .bf16⟩
  | .hbm, ⟨20, _⟩ => ⟨S4096x1024, .f32⟩
  | .hbm, ⟨21, _⟩ => ⟨S1x1024, .f32⟩
  | .local _ .vmem, ⟨0, _⟩ => ⟨S256x3840, .bf16⟩
  | .local _ .vmem, ⟨1, _⟩ => ⟨S256x3840, .bf16⟩
  | .local _ .vmem, ⟨2, _⟩ => ⟨S1024x3840, .bf16⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S256x128, .f32⟩
  | .local _ .vmem, ⟨7, _⟩ => ⟨S256x128, .f32⟩
  | .local _ .vmem, ⟨8, _⟩ => ⟨S1024x128, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_27 : BitVec 32 := 0#32
  let v50 : BitVec 1 := Scalar.cmpi .ne v49 c0_i32_27
  v50

def k0_cond2 (i : grid0.Coords) : BitVec 1 :=
  let arg0 : BitVec 32 := BitVec.ofNat 32 (i 0).val
  let c0_i32 : BitVec 32 := 0#32
  let v48 : BitVec 1 := Scalar.cmpi .eq arg0 c0_i32
  let v_true : BitVec 1 := 1#1
  let v51 : BitVec 1 := Scalar.xori v48 v_true
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference7Ideal.lean ====
abbrev S4096x1024 : Shape := ⟨2, ![4096, 1024]⟩
abbrev S1x1024 : Shape := ⟨2, ![1, 1024]⟩
abbrev S1024x5896 : Shape := ⟨2, ![1024, 5896]⟩
abbrev S4096x5896 : Shape := ⟨2, ![4096, 5896]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5896, .f32⟩
  | .hbm, ⟨3, _⟩ => ⟨S4096x1024, .f32⟩
  | .hbm, ⟨4, _⟩ => ⟨S4096x5896, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5896, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .f32⟩
  | .hbm, ⟨3, _⟩ => ⟨S2816x1024, .f32⟩
  | .hbm, ⟨4, _⟩ => ⟨S4096x1024, .f32⟩
  | .hbm, ⟨5, _⟩ => ⟨S4096x2816, .bf16⟩
  | .hbm, ⟨6, _⟩ => ⟨S2816x1024, .bf16⟩
  | .hbm, ⟨7, _⟩ => ⟨S1x1, .f32⟩
  | .hbm, ⟨8, _⟩ => ⟨S4096x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_22 : BitVec 32 := 0#32
  let v51 : BitVec 1 := Scalar.cmpi .ne v50 c0_i32_22
  v51

def k0_cond2 (i : grid0.Coords) : BitVec 1 :=
  let arg0 : BitVec 32 := BitVec.ofNat 32 (i 0).val
  let c0_i32_23 : BitVec 32 := 0#32
  let v52 : BitVec 1 := Scalar.cmpi .sgt arg0 c0_i32_23
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1x1024, .f32⟩
  | .hbm, ⟨7, _⟩ => ⟨S4096x2048, .bf16⟩
  | .hbm, ⟨8, _⟩ => ⟨S4096x1024, .bf16⟩
  | .hbm, ⟨9, _⟩ => ⟨S4096x1024, .bf16⟩
  | .hbm, ⟨10, _⟩ => ⟨S1024x1024, .bf16⟩
  | .hbm, ⟨11, _⟩ => ⟨S4096x1024, .bf16⟩
  | .hbm, ⟨12, _⟩ => ⟨S4096x1024, .f32⟩
  | .hbm, ⟨13, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference10Ideal.lean ====
abbrev S4096x2048 : Shape := ⟨2, ![4096, 2048]⟩
abbrev S1x2048 : Shape := ⟨2, ![1, 2048]⟩
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1x1024, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel11.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S4096x1024, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .bf16⟩
  | .hbm, ⟨6, _⟩ => ⟨S4096x2816, .bf16⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel12.lean ====
abbrev S3x4096x4 : Shape := ⟨3, ![3, 4096, 4]⟩
abbrev S3x4096x4x64 : Shape := ⟨4, ![3, 4096, 4, 64]⟩
abbrev S3x4096x4x1 : Shape := ⟨4, ![3, 4096, 4, 1]⟩
abbrev S1x4096x4x64 : Shape := ⟨4, ![1, 4096, 4, 64]⟩
abbrev S4096x4x64 : Shape := ⟨3, ![4096, 4, 64]⟩
abbrev S4096x2x128 : Shape := ⟨3, ![4096, 2, 128]⟩
abbrev S2x4096x128 : Shape := ⟨3, ![2, 4096, 128]⟩
abbrev S4096x256 : Shape := ⟨2, ![4096, 256]⟩
abbrev S2x512x128 : Shape := ⟨3, ![2, 512, 128]⟩
abbrev S512x256 : Shape := ⟨2, ![512, 256]⟩
abbrev S1x512x128 : Shape := ⟨3, ![1, 512, 128]⟩
abbrev S512x128 : Shape := ⟨2, ![512, 128]⟩

abbrev nBuf : Space → Nat
  | .hbm => 29
  | .vmem => 14
  | .smem => 0
  | _ => 0

abbrev bufTy : (tb : Table) → Fin (tcTables nBuf tb) → BufTy
  | .hbm, ⟨0, _⟩ => ⟨S3x4096x4, .f32⟩
  | .hbm, ⟨1, _⟩ => ⟨S3x4096x4x64, .f32⟩
  | .hbm, ⟨2, _⟩ => ⟨S3x4096x4x1, .f32⟩
  | .hbm, ⟨3, _⟩ => ⟨S3x4096x4x64, .f32⟩
  | .hbm, ⟨4, _⟩ => ⟨S1x4096x4x64, .f32⟩
  | .hbm, ⟨5, _⟩ => ⟨S4096x4x64, .f32⟩
  | .hbm, ⟨6, _⟩ => ⟨S4096x2x128, .f32⟩
  | .hbm, ⟨7, _⟩ => ⟨S2x4096x128, .f32⟩
  | .hbm, ⟨8, _⟩ => ⟨S1x4096x4x64, .f32⟩
  | .hbm, ⟨9, _⟩ => ⟨S4096x4x64, .f32⟩
  | .hbm, ⟨10, _⟩ => ⟨S4096x2x128, .f32⟩
  | .hbm, ⟨11, _⟩ => ⟨S2x4096x128, .f32⟩
  | .hbm, ⟨12, _⟩ => ⟨S1x4096x4x64, .f32⟩
  | .hbm, ⟨13, _⟩ => ⟨S4096x4x64, .f32⟩
  | .hbm, ⟨14, _⟩ => ⟨S4096x2x128, .f32⟩
  | .hbm, ⟨15, _⟩ => ⟨S2x4096x128, .f32⟩
  | .hbm, ⟨16, _⟩ => ⟨S1x4096x4x64, .f32⟩
  | .hbm, ⟨17, _⟩ => ⟨S4096x4x64, .f32⟩
  | .hbm, ⟨18, _⟩ => ⟨S4096x2x128, .f32⟩
  | .hbm, ⟨19, _⟩ => ⟨S2x4096x128, .f32⟩
  | .hbm, ⟨20, _⟩ => ⟨S1x4096x4x64, .f32⟩
  | .hbm, ⟨21, _⟩ => ⟨S4096x4x64, .f32⟩
  | .hbm, ⟨22, _⟩ => ⟨S4096x2x128, .f32⟩
  | .hbm, ⟨23, _⟩ => ⟨S2x4096x128, .f32⟩
  | .hbm, ⟨24, _⟩ => ⟨S1x4096x4x64, .f32⟩
  | .hbm, ⟨25, _⟩ => ⟨S4096x4x64, .f32⟩
  | .hbm, ⟨26, _⟩ => ⟨S4096x2x128, .f32⟩
  | .hbm, ⟨27, _⟩ => ⟨S2x4096x128, .f32⟩
  | .hbm, ⟨28, _⟩ => ⟨S4096x256, .bf16⟩
  | .local _ .vmem, ⟨0, _⟩ => ⟨S2x512x128, .f32⟩
  | .local _ .vmem, ⟨1, _⟩ => ⟨S2x512x128, .f32⟩
  | .local _ .vmem, ⟨2, _⟩ => ⟨S2x512x128, .f32⟩
  | .local _ .vmem, ⟨3, _⟩ => ⟨S2x512x128, .f32⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S512x256, .bf16⟩
  | .local _ .vmem, ⟨13, _⟩ => ⟨S512x256, .bf16⟩
  | _, _ => ⟨S3x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S3x4096x4 : Shape := ⟨3, ![3, 4096, 4]⟩
abbrev S3x4096x4x64 : Shape := ⟨4, ![3, 4096, 4, 64]⟩
abbrev S_ : Shape := ⟨0, ![]⟩
abbrev S4096x4 : Shape := ⟨2, ![4096, 4]⟩
abbrev S1x4096x4 : Shape := ⟨3, ![1, 4096, 4]⟩
abbrev S3x4096x4x1 : Shape := ⟨4, ![3, 4096, 4, 1]⟩
abbrev S4096x4x64 : Shape := ⟨3, ![4096, 4, 64]⟩
abbrev S4096x256 : Shape := ⟨2, ![4096, 256]⟩

abbrev nBuf : Space → Nat
  | .hbm => 23
  | .vmem => 0
  | .smem => 0
  | _ => 0

abbrev bufTy : (tb : Table) → Fin (tcTables nBuf tb) → BufTy
  | .hbm, ⟨0, _⟩ => ⟨S3x4096x4, .f32⟩
  | .hbm, ⟨1, _⟩ => ⟨S3x4096x4x64, .f32⟩
  | .hbm, ⟨2, _⟩ => ⟨S_, .f32⟩
  | .hbm, ⟨3, _⟩ => ⟨S4096x4, .f32⟩
  | .hbm, ⟨4, _⟩ => ⟨S_, .f32⟩
  | .hbm, ⟨5, _⟩ => ⟨S4096x4, .f32⟩
  | .hbm, ⟨6, _⟩ => ⟨S4096x4, .f32⟩
  | .hbm, ⟨7, _⟩ => ⟨S1x4096x4, .f32⟩
  | .hbm, ⟨8, _⟩ => ⟨S3x4096x4, .f32⟩
  | .hbm, ⟨9, _⟩ => ⟨S3x4096x4, .f32⟩
  | .hbm, ⟨10, _⟩ => ⟨S3x4096x4, .f32⟩
  | .hbm, ⟨11, _⟩ => ⟨S_, .f32⟩
  | .hbm, ⟨12, _⟩ => ⟨S4096x4, .f32⟩
  | .hbm, ⟨13, _⟩ => ⟨S1x4096x4, .f32⟩
  | .hbm, ⟨14, _⟩ => ⟨S3x4096x4, .f32⟩
  | .hbm, ⟨15, _⟩ => ⟨S3x4096x4, .f32⟩
  | .hbm, ⟨16, _⟩ => ⟨S3x4096x4x1, .f32⟩
  | .hbm, ⟨17, _⟩ => ⟨S3x4096x4x64, .f32⟩
  | .hbm, ⟨18, _⟩ => ⟨S3x4096x4x64, .f32⟩
  | .hbm, ⟨19, _⟩ => ⟨S_, .f32⟩
  | .hbm, ⟨20, _⟩ => ⟨S4096x4x64, .f32⟩
  | .hbm, ⟨21, _⟩ => ⟨S4096x256, .f32⟩
  | .hbm, ⟨22, _⟩ => ⟨S4096x256, .bf16⟩
  | _, _ => ⟨S3x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel13.lean ====
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩
abbrev S128x128 : Shape := ⟨2, ![128, 128]⟩

abbrev nBuf : Space → Nat
  | .hbm => 9
  | .vmem => 3
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S4096x128, .f32⟩
  | .local _ .vmem, ⟨0, _⟩ => ⟨S4096x128, .f32⟩
  | .local _ .vmem, ⟨1, _⟩ => ⟨S1x128, .f32⟩
  | .local _ .vmem, ⟨2, _⟩ => ⟨S4096x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c128_i32 : BitVec 32 := 128#32
  let v9 : BitVec 32 := Scalar.muli arg3 c128_i32
  v9
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c128_i32 : BitVec 32 := 128#32
  let v9 : BitVec 32 := Scalar.muli arg3 c128_i32
  let v10 : BitVec 32 := v9
  let v11 : Index := Scalar.indexCast v10
  let c0 : Index := 0#32
  ![v11.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference13Ideal.lean ====
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .i1⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S_, .f32⟩
  | .hbm, ⟨28, _⟩ => ⟨S4096x128, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call2_v0 : Ref sig .tc := ⟨.hbm, 10, rfl⟩
abbrev main_call2_call0_cst : Ref sig .tc := ⟨.hbm, 11, rfl⟩
abbrev main_call2_call0_v0 : Ref sig .tc := ⟨.hbm, 12, rfl⟩
abbrev main_call2_call0_v1 : Ref sig .tc := ⟨.hbm, 13, rfl⟩
abbrev main_call2_call0_v2 : Ref sig .tc := ⟨.hbm, 14, rfl⟩
abbrev main_call2_call0_v3 : Ref sig .tc := ⟨.hbm, 15, rfl⟩
abbrev main_call2_call0_v4 : Ref sig .tc := ⟨.hbm, 16, rfl⟩
abbrev main_call2_call0_v5 : Ref sig .tc := ⟨.hbm, 17, rfl⟩
abbrev main_call2_call0_v6 : Ref sig .tc := ⟨.hbm, 18, rfl⟩
abbrev main_call2_call0_v7 : Ref sig .tc := ⟨.hbm, 19, rfl⟩
abbrev main_call2_call0_v8 : Ref sig .tc := ⟨.hbm, 20, rfl⟩
abbrev main_call2_call0_v9 : Ref sig .tc := ⟨.hbm, 21, rfl⟩
abbrev main_call2_call0_v10 : Ref sig .tc := ⟨.hbm, 22, rfl⟩
abbrev main_call2_call0_v11 : Ref sig .tc := ⟨.hbm, 23, rfl⟩
abbrev main_call2_v1 : Ref sig .tc := ⟨.hbm, 24, rfl⟩
abbrev main_v4 : Ref sig .tc := ⟨.hbm, 25, rfl⟩
abbrev main_call3_call0_cst : Ref sig .tc := ⟨.hbm, 26, rfl⟩
abbrev main_call3_call0_v0 : Ref sig .tc := ⟨.hbm, 27, rfl⟩
abbrev main_v5 : Ref sig .tc := ⟨.hbm, 28, rfl⟩

abbrev nD : Nat := 1
abbrev τ : Topo := Topo.v7x

variable {F : FTy → Type} [FloatOps F]
-- ==== Kernel14.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Common.lean ====
/- Facts that the claims share: what a printed "every element is finite" says, and the algebra of real numbers inside
   the extended reals. -/
module

public import Idealize.ShloMosaic.Lib.Pointwise
public import Idealize.ShloMosaic.Lib.ReduceAll
public import Idealize.ShloMosaic.Lib.StableHlo.ReadAt

@[expose] public section

noncomputable section

namespace Cert.Common

open Idealize.ShloMosaic

/-- The extended real `x` is a real number. -/
def IsReal (x : EReal) : Prop := ∃ r : ℝ, x = (r : EReal)

theorem IsReal.coe (r : ℝ) : IsReal (r : EReal) := ⟨r, rfl⟩

theorem IsReal.of_ne {x : EReal} (h1 : x ≠ ⊥) (h2 : x ≠ ⊤) : IsReal x :=
  ⟨x.toReal, (EReal.coe_toReal h2 h1).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem ofBits_neg_inf : Ideal.ofBits .f32 0xFF800000#32 = (⊥ : EReal) := by
  simp [Ideal.ofBits, Ideal.ieee]

theorem ofBits_pos_inf : Ideal.ofBits .f32 0x7F800000#32 = (⊤ : EReal) := by
  simp [Ideal.ofBits, Ideal.ieee]

/-- One element of the mask `(x > -inf) & (x < inf)`. -/
theorem isReal_of_mask {x : EReal}
    (h : IntOp.andi (Ideal.cmp .ogt x (Ideal.ofBits .f32 0xFF800000#32)) (Ideal.cmp .olt x (Ideal.ofBits .f32 0x7F800000#32)) = 1#1) :
    IsReal x := by
  obtain ⟨h1, h2⟩ := IntOp.andi_eq_one.1 h
  rw [ofBits_neg_inf] at h1
  rw [ofBits_pos_inf] at h2
  refine IsReal.of_ne ?_ ?_
  · rintro rfl; simp [Ideal.cmp] at h1
  · rintro rfl; simp [Ideal.cmp] at h2

/-- A whole array under a printed `jnp.all((x > -inf) & (x < inf))`. -/
theorem isReal_of_all {s t u : Shape} [Subsingleton t.Idx] {axes : List (Fin s.rank)} {x lo hi : FVec Ideal s .f32} {init : u.Idx → BitVec 1}
    {h : s.ReducesTo axes t} {hu : 0 < u.numel} {j : t.Idx}
    (e : Host.reduce IntOp.andi (andi (cmpf .ogt x lo) (cmpf .olt x hi)) init h hu j = 1#1)
    (hlo : ∀ i, lo i = Ideal.ofBits .f32 0xFF800000#32) (hhi : ∀ i, hi i = Ideal.ofBits .f32 0x7F800000#32) (i : s.Idx) : IsReal (x i) := by
  have k := Host.reduce_andi_all _ _ h hu j e i
  refine isReal_of_mask ?_
  rw [← hlo i, ← hhi i]
  exact k

instance : Subsingleton (⟨0, ![]⟩ : Shape).Idx := ⟨fun a b => funext fun k => k.elim0⟩

end Cert.Common

end
-- ==== Proof.Win.lean ====
module

public import proofs.«01_k».proof.Defs
public import Idealize.ShloMosaic.Lib.Pointwise.Index
public import Idealize.ShloMosaic.Lib.Pipeline.ValueKit.Tiles

@[expose] public section

noncomputable section

namespace Cert.Common

open Idealize.ShloMosaic Idealize.ShloMosaic.TcCoe Idealize.SL.Sem
open Idealize.ShloMosaic.Pipeline (Dat RDat)

theorem hz2 : (![0, 0] : Fin 2 → Nat) = fun _ => 0 := funext fun a => by fin_cases a <;> rfl
theorem fall2 {p : Fin 2 → Prop} (h0 : p 0) (h1 : p 1) : ∀ a, p a := Fin.forall_fin_two.2 ⟨h0, h1⟩
theorem fall3 {p : Fin 3 → Prop} (h0 : p 0) (h1 : p 1) (h2 : p 2) : ∀ a, p a
  | ⟨0, _⟩ => h0
  | ⟨1, _⟩ => h1
  | ⟨2, _⟩ => h2

/-- A place in an array from the block's number and the place in the block, and the other way round. -/
theorem toBlk {i y k q n : ℕ} (h : i = q * n + y) (f : k = q) : i = k * n + y := f ▸ h
theorem toBlk0 {i y k n : ℕ} (h : i = y) (f : k = 0) : i = k * n + y := by rw [f, Nat.zero_mul, Nat.zero_add, h]
theorem ofBlk {i y k q n : ℕ} (h : i = k * n + y) (f : k = q) : i = q * n + y := f ▸ h
theorem ofBlk0 {i y k n : ℕ} (h : i = k * n + y) (f : k = 0) : i = y := by rw [h, f, Nat.zero_mul, Nat.zero_add]
theorem inBlk {i k q n : ℕ} (f : k = q) (h : q * n ≤ i ∧ i < q * n + n) : k * n ≤ i ∧ i < k * n + n := f ▸ h

section
variable {τ : Topo} {sig : RefSig}
theorem emb_of {G : Pipeline.Grid} (W : Pipeline.Window sig G) (t : Fin G.N) (y : (W.xblock (G.coords t)).Idx) (i : W.shape.Idx)
    (h : ∀ a, (i a : ℕ) = W.index t a * W.size a + (y a : ℕ)) (hk : W.kind = .blocked := by first | rfl | decide) : (W.rect t).emb y = i :=
  funext fun a => Fin.ext ((W.rect_emb_val t y a hk).trans (h a).symm)
theorem emb_at {G : Pipeline.Grid} (W : Pipeline.Window sig G) (t : Fin G.N) (y : (W.xblock (G.coords t)).Idx) (i : W.shape.Idx)
    (h : (W.rect t).emb y = i) (a : Fin W.shape.rank) (hk : W.kind = .blocked := by first | rfl | decide) : (i a : ℕ) = W.index t a * W.size a + (y a : ℕ) :=
  h ▸ W.rect_emb_val t y a hk
theorem in_blk {κ : Kind} {b : Ref sig κ} {off size : Fin b.ty.shape.rank → ℕ} {inb} {i : b.ty.shape.Idx}
    (h : ∀ a, off a ≤ (i a : ℕ) ∧ (i a : ℕ) < off a + size a) : i ∈ ((View.whole b).slice (Rect.unit off size inb)).set := by
  rw [View.set_slice_whole, Rect.mem_set_unit]
  exact h
end

theorem eta2 {a b : Nat} (y : (⟨2, ![a, b]⟩ : Shape).Idx) : y = ix2 (y 0) (y 1) := by
  funext k
  match k with
  | ⟨0, _⟩ => rfl
  | ⟨1, _⟩ => rfl
theorem by2 {α : Type} {A B C D : ℕ} {f : (⟨2, ![A, B]⟩ : Shape).Idx → α} {g : (⟨2, ![C, D]⟩ : Shape).Idx → α} {y : (⟨2, ![A, B]⟩ : Shape).Idx} {i : (⟨2, ![C, D]⟩ : Shape).Idx}
    (h : f (ix2 (y 0) (y 1)) = g (ix2 (i 0) (i 1))) : f y = g i :=
  (congrArg f (eta2 y)).trans (h.trans (congrArg g (eta2 i).symm))

end Cert.Common
-- ==== Proof.Swiglu.lean ====
module

public import proofs.«01_k».proof.Proof.Gen.Kernel.Frame
public import proofs.«01_k».proof.Proof.Gen.KernelIdeal.Value
public import proofs.«01_k».proof.Proof.Gen.ReferenceIdeal.Read
public import proofs.«01_k».proof.Proof.Gen.Pre_finite_swiglu
public import proofs.«01_k».proof.Proof.Common
public import proofs.«01_k».proof.Proof.Win

@[expose] public section

set_option maxRecDepth 16384

noncomputable section

namespace Cert.Swiglu

open Idealize.ShloMosaic Idealize.ShloMosaic.TcCoe Idealize.SL.Sem Cert.Common
open Idealize.ShloMosaic.Pipeline (Dat)
open Cert.ReferenceIdeal.Read
open Cert.KernelIdeal Cert.KernelIdeal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)
abbrev ar2 (c : Dev nD) := m ((c : Thread nD τ).loc main_arg2)

/-- The two results at one element, from `dv` (the product's cotangent), the gate's and the up product's element. -/
def dGate (dv g u : EReal) : EReal :=
  dv * u * (Ideal.div 1 (1 + Ideal.exp (0 - g)) * (1 + g * (1 - Ideal.div 1 (1 + Ideal.exp (0 - g)))))
def dUp (dv g : EReal) : EReal := dv * (g * Ideal.div 1 (1 + Ideal.exp (0 - g)))

theorem pay4_at (x0 : Vec Ideal S512x1024 .f32) (x1 : Vec Ideal S1408x1024 .bf16) (x2 x3 : Vec Ideal S512x1408 .bf16) (j : S1x512x1408.Idx) :
    k0_pay4 x0 x1 x2 x3 j = dGate (∑ k : Fin 1024, x0 (ix2 (j 1) k) * x1 (ix2 (j 2) k)) (x2 (ix2 (j 1) (j 2))) (x3 (ix2 (j 1) (j 2))) := by
  idx_vars j
  unfold_payloads
  pointwise [dGate]

theorem pay5_at (x0 : Vec Ideal S512x1024 .f32) (x1 : Vec Ideal S1408x1024 .bf16) (x2 : Vec Ideal S512x1408 .bf16) (j : S1x512x1408.Idx) :
    k0_pay5 x0 x1 x2 j = dUp (∑ k : Fin 1024, x0 (ix2 (j 1) k) * x1 (ix2 (j 2) k)) (x2 (ix2 (j 1) (j 2))) := by
  idx_vars j
  unfold_payloads
  pointwise [dUp]

/-- One element of the block that a grid point writes. -/
def blockVal (x0 : Vec Ideal S512x1024 .f32) (x1 : Vec Ideal S1408x1024 .bf16) (x2 x3 : Vec Ideal S512x1408 .bf16) (j : S2x512x1408.Idx) : EReal :=
  if (j 0).val < 1 then dGate (∑ k : Fin 1024, x0 (ix2 (j 1) k) * x1 (ix2 (j 2) k)) (x2 (ix2 (j 1) (j 2))) (x3 (ix2 (j 1) (j 2)))
  else dUp (∑ k : Fin 1024, x0 (ix2 (j 1) k) * x1 (ix2 (j 2) k)) (x2 (ix2 (j 1) (j 2)))

theorem out_at (x0 : Vec Ideal S512x1024 .f32) (x1 : Vec Ideal S1408x1024 .bf16) (x2 x3 : Vec Ideal S512x1408 .bf16) (j : S2x512x1408.Idx) :
    out0_4 x0 x1 x2 x3 j = blockVal x0 x1 x2 x3 j := by
  unfold out0_4
  rw [View.ld_unit_zero hz2, View.ld_unit_zero hz2, View.ld_unit_zero hz2, View.ld_unit_zero hz2]
  refine View.canon_apply_of_pieces (Val := Elt Ideal) (e := .bf16) (blockVal x0 x1 x2 x3) _ ?_ j ?_
  · intro p hp x
    rcases List.mem_cons.1 hp with rfl | hp
    · have e : r0_4.emb x = (ix3 1 (x 1) (x 2) : S2x512x1408.Idx) := by
        funext a
        refine Fin.ext ?_
        match a with
        | ⟨0, _⟩ => have := (x 0).isLt; show 1 + 1 * (x 0).val = 1; change (x 0).val < 1 at this; omega
        | ⟨1, _⟩ => show 0 + 1 * (x 1).val = (x 1).val; omega
        | ⟨2, _⟩ => show 0 + 1 * (x 2).val = (x 2).val; omega
      show k0_pay5 x0 x1 x2 x = blockVal x0 x1 x2 x3 (r0_4.emb x)
      rw [e, pay5_at]
      rfl
    · rcases List.mem_cons.1 hp with rfl | hp
      · have e : r0_3.emb x = (ix3 0 (x 1) (x 2) : S2x512x1408.Idx) := by
          funext a
          refine Fin.ext ?_
          match a with
          | ⟨0, _⟩ => have := (x 0).isLt; show 0 + 1 * (x 0).val = 0; change (x 0).val < 1 at this; omega
          | ⟨1, _⟩ => show 0 + 1 * (x 1).val = (x 1).val; omega
          | ⟨2, _⟩ => show 0 + 1 * (x 2).val = (x 2).val; omega
        show k0_pay4 x0 x1 x2 x3 x = blockVal x0 x1 x2 x3 (r0_3.emb x)
        rw [e, pay4_at]
        rfl
      · cases hp
  · have h1 := (j 1).isLt
    have h2 := (j 2).isLt
    have h0 := (j 0).isLt
    change (j 0).val < 2 at h0
    change (j 1).val < 512 at h1
    change (j 2).val < 1408 at h2
    by_cases h : (j 0).val < 1
    · refine ⟨_, List.mem_cons_of_mem _ (List.mem_cons_self ..), ?_⟩
      show j ∈ r0_3.set
      rw [Rect.mem_set_unit]
      intro a
      match a with
      | ⟨0, _⟩ => exact ⟨Nat.zero_le _, by show (j 0).val < 0 + 1; omega⟩
      | ⟨1, _⟩ => exact ⟨Nat.zero_le _, by show (j 1).val < 0 + 512; omega⟩
      | ⟨2, _⟩ => exact ⟨Nat.zero_le _, by show (j 2).val < 0 + 1408; omega⟩
    · refine ⟨_, List.mem_cons_self .., ?_⟩
      show j ∈ r0_4.set
      rw [Rect.mem_set_unit]
      intro a
      match a with
      | ⟨0, _⟩ => exact ⟨by show 1 ≤ (j 0).val; omega, by show (j 0).val < 1 + 1; omega⟩
      | ⟨1, _⟩ => exact ⟨Nat.zero_le _, by show (j 1).val < 0 + 512; omega⟩
      | ⟨2, _⟩ => exact ⟨Nat.zero_le _, by show (j 2).val < 0 + 1408; omega⟩

theorem idx_facts : ∀ t : Fin cfg0.N,
    win0_0.index t 0 = t.val / 2 ∧ win0_0.index t 1 = 0 ∧ win0_1.index t 0 = t.val % 2 ∧ win0_1.index t 1 = 0
    ∧ win0_2.index t 0 = t.val / 2 ∧ win0_2.index t 1 = t.val % 2 ∧ win0_3.index t 0 = t.val / 2 ∧ win0_3.index t 1 = t.val % 2
    ∧ win0_4.index t 0 = 0 ∧ win0_4.index t 1 = t.val / 2 ∧ win0_4.index t 2 = t.val % 2 ∧ t.val < 16 :=
  (by decide +kernel : ∀ t : Fin grid0.N, _)

theorem iblk0_at (c : Dev nD) (t : Fin cfg0.N) (y : S512x1024.Idx) (i : S4096x1024.Idx)
    (h0 : (i 0).val = t.val / 2 * 512 + (y 0).val) (h1 : (i 1).val = (y 1).val) :
    iblk m c 0 t y = ar2 m c i :=
  (congrArg (V m c main_arg2) (emb_of win0_0 t y i (fall2 (toBlk h0 (idx_facts t).1) (toBlk0 h1 (idx_facts t).2.1)))).trans (congrFun (V_main_arg2 m c) i)

theorem iblk1_at (c : Dev nD) (t : Fin cfg0.N) (y : S1408x1024.Idx) (i : S2816x1024.Idx)
    (h0 : (i 0).val = t.val % 2 * 1408 + (y 0).val) (h1 : (i 1).val = (y 1).val) :
    iblk m c 1 t y = ar1 m c i :=
  congrArg (V m c main_v0) (emb_of win0_1 t y i (fall2 (toBlk h0 (idx_facts t).2.2.1) (toBlk0 h1 (idx_facts t).2.2.2.1)))

theorem V_gate (c : Dev nD) (i : S4096x2816.Idx) :
    V m c main_v2 i = ar0 m c (ix2 (i 0) ⟨(i 1).val, by have := (i 1).isLt; change (i 1).val < 2816 at this; omega⟩ : S4096x5632.Idx) := by
  unfold V
  after_reads_at

theorem V_up (c : Dev nD) (i : S4096x2816.Idx) :
    V m c main_v4 i = ar0 m c (ix2 (i 0) ⟨2816 + (i 1).val, by have := (i 1).isLt; change (i 1).val < 2816 at this; omega⟩ : S4096x5632.Idx) := by
  unfold V
  after_reads_at

theorem iblk2_at (c : Dev nD) (t : Fin cfg0.N) (y : S512x1408.Idx) (i : S4096x2816.Idx)
    (h0 : (i 0).val = t.val / 2 * 512 + (y 0).val) (h1 : (i 1).val = t.val % 2 * 1408 + (y 1).val) :
    iblk m c 2 t y = V m c main_v2 i :=
  congrArg (V m c main_v2) (emb_of win0_2 t y i (fall2 (toBlk h0 (idx_facts t).2.2.2.2.1) (toBlk h1 (idx_facts t).2.2.2.2.2.1)))

theorem iblk3_at (c : Dev nD) (t : Fin cfg0.N) (y : S512x1408.Idx) (i : S4096x2816.Idx)
    (h0 : (i 0).val = t.val / 2 * 512 + (y 0).val) (h1 : (i 1).val = t.val % 2 * 1408 + (y 1).val) :
    iblk m c 3 t y = V m c main_v4 i :=
  congrArg (V m c main_v4) (emb_of win0_3 t y i (fall2 (toBlk h0 (idx_facts t).2.2.2.2.2.2.1) (toBlk h1 (idx_facts t).2.2.2.2.2.2.2.1)))

/-- The whole result as one function of the arguments. -/
def result (gu : FVec Ideal S4096x5632 .f32) (w : FVec Ideal S2816x1024 .f32) (ct : FVec Ideal S4096x1024 .f32) (i : S2x4096x2816.Idx) : EReal :=
  if (i 0).val < 1 then
    dGate (∑ k : Fin 1024, ct (ix2 (i 1) k) * w (ix2 (i 2) k))
      (gu (ix2 (i 1) ⟨(i 2).val, by have := (i 2).isLt; change (i 2).val < 2816 at this; omega⟩))
      (gu (ix2 (i 1) ⟨2816 + (i 2).val, by have := (i 2).isLt; change (i 2).val < 2816 at this; omega⟩))
  else dUp (∑ k : Fin 1024, ct (ix2 (i 1) k) * w (ix2 (i 2) k))
      (gu (ix2 (i 1) ⟨(i 2).val, by have := (i 2).isLt; change (i 2).val < 2816 at this; omega⟩))

theorem cover (i : S2x4096x2816.Idx) :
    ∃ t : Fin cfg0.N, (cfg0.win 4).flush t = true ∧ i ∈ ((cfg0.win 4).blk t).view.set := by
  have h0 : (i 0).val < 2 := (i 0).isLt
  have h1 : (i 1).val < 4096 := (i 1).isLt
  have h2 : (i 2).val < 2816 := (i 2).isLt
  have hN : cfg0.N = 16 := N_0
  obtain ⟨t, ht⟩ : ∃ t : Fin cfg0.N, t.val = (i 1).val / 512 * 2 + (i 2).val / 1408 := ⟨⟨_, by omega⟩, rfl⟩
  have f := idx_facts t
  refine ⟨t, flush0_4 t, ?_⟩
  show i ∈ ((View.whole main_v5).slice (win0_4.rect t)).set
  rw [View.set_slice_whole, Rect.mem_set_unit]
  intro a
  match a with
  | ⟨0, _⟩ => show win0_4.index t 0 * 2 ≤ (i 0).val ∧ (i 0).val < win0_4.index t 0 * 2 + 2; omega
  | ⟨1, _⟩ => show win0_4.index t 1 * 512 ≤ (i 1).val ∧ (i 1).val < win0_4.index t 1 * 512 + 512; omega
  | ⟨2, _⟩ => show win0_4.index t 2 * 1408 ≤ (i 2).val ∧ (i 2).val < win0_4.index t 2 * 1408 + 1408; omega

theorem emb4 (t : Fin cfg0.N) (y : S2x512x1408.Idx) (i : S2x4096x2816.Idx) (h : ((cfg0.win 4).blk t).view.emb y = i) :
    (i 0).val = (y 0).val ∧ (i 1).val = t.val / 2 * 512 + (y 1).val ∧ (i 2).val = t.val % 2 * 1408 + (y 2).val :=
  ⟨ofBlk0 (emb_at win0_4 t y i h 0) (idx_facts t).2.2.2.2.2.2.2.2.1, ofBlk (emb_at win0_4 t y i h 1) (idx_facts t).2.2.2.2.2.2.2.2.2.1, ofBlk (emb_at win0_4 t y i h 2) (idx_facts t).2.2.2.2.2.2.2.2.2.2.1⟩

theorem final (c : Dev nD) :
    (dats m 0 c).arrAt 4 cfg0.N = result (ar0 m c) (ar1 m c) (ar2 m c) := by
  funext i
  refine (dats m 0 c).arrAt_forall_of_cover 4 (fun i v => v = result (ar0 m c) (ar1 m c) (ar2 m c) i)
    (fun t _ y => ?_) cover i
  generalize hi : ((cfg0.win 4).blk t).view.emb y = i'
  obtain ⟨k0, k1, k2⟩ := emb4 t y i' hi
  have hf : (dats m 0 c).flushed 4 t y = blockVal (iblk m c 0 t) (iblk m c 1 t) (iblk m c 2 t) (iblk m c 3 t) y := by
    rw [Cert.KernelIdeal.Value.flushed4]
    exact out_at (iblk m c 0 t) (iblk m c 1 t) (iblk m c 2 t) (iblk m c 3 t) y
  refine (hf : _ = _).trans ?_
  unfold blockVal result
  have e1 : ∀ k : Fin 1024, iblk m c 0 t (ix2 (y 1) k : S512x1024.Idx) = ar2 m c (ix2 (i' 1) k : S4096x1024.Idx) :=
    fun k => iblk0_at m c t _ _ k1 rfl
  have e2 : ∀ k : Fin 1024, iblk m c 1 t (ix2 (y 2) k : S1408x1024.Idx) = ar1 m c (ix2 (i' 2) k : S2816x1024.Idx) :=
    fun k => iblk1_at m c t _ _ k2 rfl
  have e3 := iblk2_at m c t (ix2 (y 1) (y 2)) (ix2 (i' 1) (i' 2)) k1 k2
  have e4 := iblk3_at m c t (ix2 (y 1) (y 2)) (ix2 (i' 1) (i' 2)) k1 k2
  rw [V_gate] at e3
  rw [V_up] at e4
  rw [k0]
  simp only [e1, e2, e3, e4]
  rfl

/-- The reference's two results at one element. -/
def refGate (dv g u : EReal) : EReal :=
  dv * u * Ideal.logistic g + g * (dv * u) * (Ideal.logistic g * (1 - Ideal.logistic g))

theorem logistic_eq (g : EReal) : Ideal.div 1 (1 + Ideal.exp (0 - g)) = Ideal.logistic g := by
  rw [Ideal.logistic, zero_sub]

theorem dGate_eq {dv u : EReal} (hd : IsReal dv) (hu : IsReal u) (g : EReal) : dGate dv g u = refGate dv g u := by
  obtain ⟨d, rfl⟩ := hd
  obtain ⟨u, rfl⟩ := hu
  unfold dGate refGate
  rw [logistic_eq]
  have h1 : (1 : EReal) - 1 = 0 := by rw [← EReal.coe_one, ← EReal.coe_sub, sub_self, EReal.coe_zero]
  induction g using EReal.rec with
  | bot => simp
  | top => simp [h1]
  | coe g =>
    rw [Ideal.logistic_coe]
    generalize (1 + Real.exp (-g))⁻¹ = s
    rw [← EReal.coe_one]
    norm_cast
    ring

theorem ref_v8 (x0 : FVec Ideal S4096x5632 .f32) (x1 : FVec Ideal S2816x1024 .f32) (x2 : FVec Ideal S4096x1024 .f32) (j : S4096x2816.Idx) :
    val_main_v8 (F := Ideal) x0 x1 x2 j
      = refGate (∑ k : Fin 1024, x2 (ix2 (j 0) k) * x1 (ix2 (j 1) k))
          (x0 (ix2 (j 0) ⟨(j 1).val, by have := (j 1).isLt; change (j 1).val < 2816 at this; omega⟩))
          (x0 (ix2 (j 0) ⟨2816 + (j 1).val, by have := (j 1).isLt; change (j 1).val < 2816 at this; omega⟩)) := by
  idx_vars j
  unfold val_main_v8 val_main_call1_v1 val_main_call1_v2
    val_main_call1_v0 val_main_v7 val_main_v2_1
    val_main_call0_v7 val_main_v2_2 val_main_call0_v6
    val_main_v5 val_main_v1
    val_main_call0_v4 val_main_call0_v3 val_main_call0_v2
    val_main_call0_v1 val_main_call0_v0 val_main_v0
    val_main_call0_cst val_main_call0_cst_0 val_main_call0_cst_1
  pointwise [refGate, Ideal.logistic]

theorem ref_v6 (x0 : FVec Ideal S4096x5632 .f32) (x1 : FVec Ideal S2816x1024 .f32) (x2 : FVec Ideal S4096x1024 .f32) (j : S4096x2816.Idx) :
    val_main_v6 (F := Ideal) x0 x1 x2 j
      = x0 (ix2 (j 0) ⟨(j 1).val, by have := (j 1).isLt; change (j 1).val < 2816 at this; omega⟩)
          * Ideal.logistic (x0 (ix2 (j 0) ⟨(j 1).val, by have := (j 1).isLt; change (j 1).val < 2816 at this; omega⟩))
          * ∑ k : Fin 1024, x2 (ix2 (j 0) k) * x1 (ix2 (j 1) k) := by
  idx_vars j
  unfold val_main_v6 val_main_v2_0 val_main_v2_2
    val_main_v5
    val_main_call0_v4 val_main_call0_v3 val_main_call0_v2
    val_main_call0_v1 val_main_call0_v0 val_main_v0
    val_main_call0_cst val_main_call0_cst_0
  pointwise [Ideal.logistic]

theorem ref_eq (x0 : FVec Ideal S4096x5632 .f32) (x1 : FVec Ideal S2816x1024 .f32) (x2 : FVec Ideal S4096x1024 .f32)
    (hu : ∀ (i : Fin 4096) (f : Fin 2816), IsReal (x0 (ix2 i ⟨2816 + f.val, by omega⟩)))
    (hw : ∀ i, IsReal (x1 i)) (hc : ∀ i, IsReal (x2 i)) :
    val_main_v12 (F := Ideal) x0 x1 x2 = result x0 x1 x2 := by
  funext j
  idx_vars j
  rw [val_main_v12_apply]
  unfold val_main_v11
  pointwise
  unfold result
  show _ = if (j0 : Nat) < 1 then _ else _
  split
  · rw [val_main_v9_apply, ref_v8]
    exact (dGate_eq (IsReal.sum _ fun k _ => (hc _).mul (hw _)) (hu j1 j2) _).symm
  · rw [val_main_v10_apply, ref_v6]
    unfold dUp
    rw [logistic_eq]
    exact mul_comm _ _

/-- What the precondition says. -/
theorem finite_of_pre (x0 : FVec Ideal S4096x5632 .f32) (x1 : FVec Ideal S2816x1024 .f32) (x2 : FVec Ideal S4096x1024 .f32)
    (h : Cert.Pre_finite_swiglu.fn (F := Ideal) x0 x1 x2 = fun _ => 1#1) :
    (∀ (i : Fin 4096) (f : Fin 2816), IsReal (x0 (ix2 i ⟨2816 + f.val, by omega⟩))) ∧ (∀ i, IsReal (x1 i)) ∧ ∀ i, IsReal (x2 i) := by
  have e := congrFun h (fun a => a.elim0)
  unfold Cert.Pre_finite_swiglu.fn Cert.Pre_finite_swiglu.fn_part1 at e
  obtain ⟨e12, e3⟩ := IntOp.andi_eq_one.1 e
  obtain ⟨e1, e2⟩ := IntOp.andi_eq_one.1 e12
  refine ⟨fun i f => ?_, fun i => isReal_of_all e2 (fun i => rfl) (fun i => rfl) i, fun i => isReal_of_all e3 (fun i => rfl) (fun i => rfl) i⟩
  have := isReal_of_all e1 (fun i => rfl) (fun i => rfl) (ix2 i f)
  revert this
  pointwise
  exact id

theorem run (c : Dev nD) : θ_run (Cert.KernelIdeal.defs (F := Ideal)) (onTc (τ := τ) (Cert.KernelIdeal.main (F := Ideal))) ⟨m, fun _ => 0, ρ⟩ fun r => ∀ c : Dev nD,
      r.2.mem ((c : Thread nD τ).loc main_v5)
        = result (ar0 m c) (ar1 m c) (ar2 m c)
      ∧ r.2.mem ((c : Thread nD τ).loc main_arg0) = ar0 m c
      ∧ r.2.mem ((c : Thread nD τ).loc main_arg1) = ar1 m c
      ∧ r.2.mem ((c : Thread nD τ).loc main_arg2) = ar2 m c :=
  (θ_run _ _ _).mono (fun _ h c => ⟨(h c).1.trans (final m c), (h c).2⟩) (Cert.KernelIdeal.Value.run_blocks (F := Ideal) m ρ)

theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal_pre_finite_swiglu := by
  intro m ρ m' ρ' hpre hagree
  refine ⟨fun c => result (ar0 m c) (ar1 m c) (ar2 m c), ?_, ?_⟩
  · exact run m ρ 0
  · refine (θ_run Cert.ReferenceIdeal.defs _ _).mono (fun _ h c => ⟨(h c).1.trans ?_, (h c).2⟩) (Cert.ReferenceIdeal.Value.run (F := Ideal) m' ρ')
    rw [val_main_v12_eq, (hagree c).1, (hagree c).2.1, (hagree c).2.2]
    obtain ⟨h0, h1, h2⟩ := finite_of_pre _ _ _ (hpre c)
    exact ref_eq _ _ _ h0 h1 h2

end Cert.Swiglu
end
-- ==== Proof.FoxRun.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Claim
public import Idealize.ShloMosaic.Lib.Ring
public import Idealize.ShloMosaic.Lib.WordCmp

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word of a prefetched table at a point of the grid. -/
abbrev wordAt (i : grid0.Coords) (M : Memref sig .tc .smem S36 .i32) (T : M.view.ty.Contents (Elt F)) : BitVec 32 :=
  M.view.readAt (Elt F) (Rect.unit (s := S36) (k0_off1 i) S1.size (k0_off1_inb i)).toLoadRect T (Shape.Idx.first (numel1_S1.symm ▸ Nat.one_pos))

section
variable (c : Dev nD) (i : grid0.Coords) (arg2 : Memref sig .tc .smem S36 .i32) (harg2 : arg2.IsWhole) (arg3 : Memref sig .tc .smem S36 .i32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S8x1x4096 .f32) (harg12 : arg12.IsWhole) (arg13 : Memref sig .tc .vmem S4096x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S8x512x1 .f32) (harg16 : arg16.IsWhole) (arg17 : Memref sig .tc .vmem S8x1x4096 .f32) (harg17 : arg17.IsWhole)
    (T2 : Buf (Elt F) (arg2.view.loc (c : Thread nD τ))) (T3 : Buf (Elt F) (arg3.view.loc (c : Thread nD τ)))
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ)))
    (hchk : k0_chk1 (wordAt i arg2 T2) (wordAt i arg3 T3))

/-- What a run of the body at a point is: the contents it leaves, and that it leaves them. -/
abbrev RunOf :=
    Σ' (out0 : Buf (Elt F) (arg8.view.loc (c : Thread nD τ))) (out1 : Buf (Elt F) (arg9.view.loc (c : Thread nD τ))) (out2 : Buf (Elt F) (arg10.view.loc (c : Thread nD τ))) (out3 : Buf (Elt F) (arg11.view.loc (c : Thread nD τ))) (out4 : Buf (Elt F) (arg12.view.loc (c : Thread nD τ))) (out5 : Buf (Elt F) (arg13.view.loc (c : Thread nD τ))) (out6 : Buf (Elt F) (arg14.view.loc (c : Thread nD τ))) (out7 : Buf (Elt F) (arg15.view.loc (c : Thread nD τ))) (out8 : Buf (Elt F) (arg16.view.loc (c : Thread nD τ))), { out9 : Buf (Elt F) (arg17.view.loc (c : Thread nD τ)) //
      ∀ (K : PUnit → sProp 𝕄),
        iprop(iprop((arg2.view.loc (c : Thread nD τ) ↦{fullShare.right} T2) ∗ (arg3.view.loc (c : Thread nD τ) ↦{fullShare.right} T3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦{fullShare} f13) ∗ (arg14.view.loc (c : Thread nD τ) ↦{fullShare} f14) ∗ (arg15.view.loc (c : Thread nD τ) ↦{fullShare} f15) ∗ (arg16.view.loc (c : Thread nD τ) ↦{fullShare} f16) ∗ (arg17.view.loc (c : Thread nD τ) ↦{fullShare} f17))
          ∗ (iprop((arg2.view.loc (c : Thread nD τ) ↦{fullShare.right} T2) ∗ (arg3.view.loc (c : Thread nD τ) ↦{fullShare.right} T3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} out0) ∗ (arg9.view.loc (c : Thread nD τ) ↦[arg9.view.set]{fullShare} out1) ∗ (arg10.view.loc (c : Thread nD τ) ↦[arg10.view.set]{fullShare} out2) ∗ (arg11.view.loc (c : Thread nD τ) ↦[arg11.view.set]{fullShare} out3) ∗ (arg12.view.loc (c : Thread nD τ) ↦[arg12.view.set]{fullShare} out4) ∗ (arg13.view.loc (c : Thread nD τ) ↦{fullShare} out5) ∗ (arg14.view.loc (c : Thread nD τ) ↦{fullShare} out6) ∗ (arg15.view.loc (c : Thread nD τ) ↦{fullShare} out7) ∗ (arg16.view.loc (c : Thread nD τ) ↦{fullShare} out8) ∗ (arg17.view.loc (c : Thread nD τ) ↦{fullShare} out9)) -∗ K ⟨⟩))
          ⊢ wp frame (wpE (defs₀ (F := F)) Variants.none c none) Set.univ (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K }

set_option maxHeartbeats 40000000 in
/-- The first point: both kinds of sums are cleared, then the first tile on the diagonal is added. -/
def runFirst
    (h1 : Scalar.cmpi .ne (Scalar.extui (Scalar.cmpi .eq (BitVec.ofNat 32 (i 1).val) 0#32) : BitVec 32) 0#32 = 1#1)
    (h2 : Scalar.cmpi .ne (Scalar.extui (Scalar.cmpi .eq (wordAt i arg2 T2) (wordAt i arg3 T3)) : BitVec 32) 0#32 = 1#1)
    (h3 : ¬ k0_cond3 (wordAt i arg2 T2) (wordAt i arg3 T3) = 1#1)
    (h4 : k0_cond4 (wordAt i arg2 T2) (wordAt i arg3 T3) = 1#1)
    (h5 : ¬ k0_cond5 (wordAt i arg2 T2) = 1#1)
    (h6 : ¬ k0_cond6 i = 1#1) :
    RunOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 T2 T3 f4 f5 f6 f7 f8 f9 f10 f11 f12 f13 f14 f15 f16 f17 := by
  refine ⟨?_, ?_, ?_, ?_, ?_, ?_, ?_, ?_, ?_, ?_, fun K => ?run⟩
  case run =>
    rw [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    iintro ⟨⟨H0, H1, H2, H3, H4, H5, H6, H7, H8, H9, H10, H11, H12, H13, H14, H15⟩, Hk⟩
    sl_exec (disch := first | exact hchk | exact h1 | exact h2 | exact h3 | exact h4 | exact h5 | exact h6)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

set_option maxHeartbeats 40000000 in
/-- A tile below the diagonal that is not the last of its column. -/
def runBelow
    (h1 : ¬ Scalar.cmpi .ne (Scalar.extui (Scalar.cmpi .eq (BitVec.ofNat 32 (i 1).val) 0#32) : BitVec 32) 0#32 = 1#1)
    (h2 : ¬ Scalar.cmpi .ne (Scalar.extui (Scalar.cmpi .eq (wordAt i arg2 T2) (wordAt i arg3 T3)) : BitVec 32) 0#32 = 1#1)
    (h3 : k0_cond3 (wordAt i arg2 T2) (wordAt i arg3 T3) = 1#1)
    (h4 : ¬ k0_cond4 (wordAt i arg2 T2) (wordAt i arg3 T3) = 1#1)
    (h5 : ¬ k0_cond5 (wordAt i arg2 T2) = 1#1)
    (h6 : ¬ k0_cond6 i = 1#1) :
    RunOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 T2 T3 f4 f5 f6 f7 f8 f9 f10 f11 f12 f13 f14 f15 f16 f17 := by
  refine ⟨?_, ?_, ?_, ?_, ?_, ?_, ?_, ?_, ?_, ?_, fun K => ?run⟩
  case run =>
    rw [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    iintro ⟨⟨H0, H1, H2, H3, H4, H5, H6, H7, H8, H9, H10, H11, H12, H13, H14, H15⟩, Hk⟩
    sl_exec (disch := first | exact hchk | exact h1 | exact h2 | exact h3 | exact h4 | exact h5 | exact h6)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

set_option maxHeartbeats 40000000 in
/-- A tile below the diagonal that is the last of its column. -/
def runBottom
    (h1 : ¬ Scalar.cmpi .ne (Scalar.extui (Scalar.cmpi .eq (BitVec.ofNat 32 (i 1).val) 0#32) : BitVec 32) 0#32 = 1#1)
    (h2 : ¬ Scalar.cmpi .ne (Scalar.extui (Scalar.cmpi .eq (wordAt i arg2 T2) (wordAt i arg3 T3)) : BitVec 32) 0#32 = 1#1)
    (h3 : k0_cond3 (wordAt i arg2 T2) (wordAt i arg3 T3) = 1#1)
    (h4 : ¬ k0_cond4 (wordAt i arg2 T2) (wordAt i arg3 T3) = 1#1)
    (h5 : k0_cond5 (wordAt i arg2 T2) = 1#1)
    (h6 : ¬ k0_cond6 i = 1#1) :
    RunOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 T2 T3 f4 f5 f6 f7 f8 f9 f10 f11 f12 f13 f14 f15 f16 f17 := by
  refine ⟨?_, ?_, ?_, ?_, ?_, ?_, ?_, ?_, ?_, ?_, fun K => ?run⟩
  case run =>
    rw [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    iintro ⟨⟨H0, H1, H2, H3, H4, H5, H6, H7, H8, H9, H10, H11, H12, H13, H14, H15⟩, Hk⟩
    sl_exec (disch := first | exact hchk | exact h1 | exact h2 | exact h3 | exact h4 | exact h5 | exact h6)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

set_option maxHeartbeats 40000000 in
/-- A tile on the diagonal that is neither the first nor the last: the column sums are cleared first. -/
def runDiag
    (h1 : ¬ Scalar.cmpi .ne (Scalar.extui (Scalar.cmpi .eq (BitVec.ofNat 32 (i 1).val) 0#32) : BitVec 32) 0#32 = 1#1)
    (h2 : Scalar.cmpi .ne (Scalar.extui (Scalar.cmpi .eq (wordAt i arg2 T2) (wordAt i arg3 T3)) : BitVec 32) 0#32 = 1#1)
    (h3 : ¬ k0_cond3 (wordAt i arg2 T2) (wordAt i arg3 T3) = 1#1)
    (h4 : k0_cond4 (wordAt i arg2 T2) (wordAt i arg3 T3) = 1#1)
    (h5 : ¬ k0_cond5 (wordAt i arg2 T2) = 1#1)
    (h6 : ¬ k0_cond6 i = 1#1) :
    RunOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 T2 T3 f4 f5 f6 f7 f8 f9 f10 f11 f12 f13 f14 f15 f16 f17 := by
  refine ⟨?_, ?_, ?_, ?_, ?_, ?_, ?_, ?_, ?_, ?_, fun K => ?run⟩
  case run =>
    rw [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    iintro ⟨⟨H0, H1, H2, H3, H4, H5, H6, H7, H8, H9, H10, H11, H12, H13, H14, H15⟩, Hk⟩
    sl_exec (disch := first | exact hchk | exact h1 | exact h2 | exact h3 | exact h4 | exact h5 | exact h6)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

set_option maxHeartbeats 40000000 in
/-- The last tile: it is on the diagonal, and everything is written out. -/
def runLast
    (h1 : ¬ Scalar.cmpi .ne (Scalar.extui (Scalar.cmpi .eq (BitVec.ofNat 32 (i 1).val) 0#32) : BitVec 32) 0#32 = 1#1)
    (h2 : Scalar.cmpi .ne (Scalar.extui (Scalar.cmpi .eq (wordAt i arg2 T2) (wordAt i arg3 T3)) : BitVec 32) 0#32 = 1#1)
    (h3 : ¬ k0_cond3 (wordAt i arg2 T2) (wordAt i arg3 T3) = 1#1)
    (h4 : k0_cond4 (wordAt i arg2 T2) (wordAt i arg3 T3) = 1#1)
    (h5 : k0_cond5 (wordAt i arg2 T2) = 1#1)
    (h6 : k0_cond6 i = 1#1) :
    RunOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 T2 T3 f4 f5 f6 f7 f8 f9 f10 f11 f12 f13 f14 f15 f16 f17 := by
  refine ⟨?_, ?_, ?_, ?_, ?_, ?_, ?_, ?_, ?_, ?_, fun K => ?run⟩
  case run =>
    rw [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    iintro ⟨⟨H0, H1, H2, H3, H4, H5, H6, H7, H8, H9, H10, H11, H12, H13, H14, H15⟩, Hk⟩
    sl_exec (disch := first | exact hchk | exact h1 | exact h2 | exact h3 | exact h4 | exact h5 | exact h6)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end

end Cert.Fox
-- ==== Proof.FoxTab.lean ====
module

public import proofs.«01_k».proof.Proof.FoxRun

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point of the grid with a given second coordinate. -/
abbrev pointAt (b : Fin 36) : grid0.Coords := fun
  | 0 => (0 : Fin 1)
  | 1 => b
  | ⟨_ + 2, h⟩ => absurd h (Nat.not_lt.2 (Nat.le_add_left _ _))

theorem eq_pointAt (i : grid0.Coords) : i = pointAt (i 1) := by
  funext a
  match a with
  | 0 => exact Subsingleton.elim (α := Fin 1) _ _
  | 1 => rfl

theorem forall_points {P : grid0.Coords → Prop} (h : ∀ b : Fin 36, P (pointAt b)) (i : grid0.Coords) : P i := by
  rw [eq_pointAt i]; exact h _

/-- The word the first table holds for a point of the grid: the tile's row block. -/
abbrev rowW (i : grid0.Coords) : BitVec 32 := lit0 (i 1)
/-- The word the second table holds for a point of the grid: the tile's column block. -/
abbrev colW (i : grid0.Coords) : BitVec 32 := lit1 (i 1)

/-- The two tables as the host writes them. -/
def tabs : pre0.Contents (Elt F) := fun
  | 0 => fun x => lit0 (S36.rowMajor x)
  | 1 => fun x => lit1 (S36.rowMajor x)
  | ⟨_ + 2, h⟩ => absurd h (Nat.not_lt.2 (Nat.le_add_left _ _))

theorem place (i : grid0.Coords) :
    S36.rowMajor ((Rect.unit (s := S36) (k0_off1 i) S1.size (k0_off1_inb i)).idx (Shape.Idx.first (numel1_S1.symm ▸ Nat.one_pos))) = i 1 :=
  Fin.ext (forall_points (P := fun i => (S36.rowMajor ((Rect.unit (s := S36) (k0_off1 i) S1.size (k0_off1_inb i)).idx
    (Shape.Idx.first (numel1_S1.symm ▸ Nat.one_pos)))).val = (i 1).val) (by decide +kernel) i)

theorem word_row (i : grid0.Coords) : wordAt (F := F) i (Memref.whole main_c) (tabs (F := F) 0) = rowW i :=
  congrArg lit0 (place i)
theorem word_col (i : grid0.Coords) : wordAt (F := F) i (Memref.whole main_c_0) (tabs (F := F) 1) = colW i :=
  congrArg lit1 (place i)

theorem at_row (i : grid0.Coords) (h) : (tabs (F := F)).at 0 (Rect.unit (s := S36) (k0_off1 i) S1.size (k0_off1_inb i)) h = rowW i :=
  congrArg lit0 (place i)
theorem at_col (i : grid0.Coords) (h) : (tabs (F := F)).at 1 (Rect.unit (s := S36) (k0_off1 i) S1.size (k0_off1_inb i)) h = colW i :=
  congrArg lit1 (place i)

theorem chk_all (i : grid0.Coords) : k0_chk1 (rowW i) (colW i) := by
  revert i; exact forall_points (by decide +kernel)

theorem tr0 (i : grid0.Coords) : cc0_transform_0 (F := F) k0_off1_inb numel1_S1 tabs i = ![(rowW i).toNat, 0] := by
  revert i
  refine forall_points fun b => ?_
  exact congrArg (fun w : BitVec 32 => ![w.toNat, 0]) (at_row (F := F) (pointAt b) numel1_S1)
theorem tr1 (i : grid0.Coords) : cc0_transform_1 (F := F) k0_off1_inb numel1_S1 tabs i = ![(colW i).toNat, 0] := by
  revert i
  refine forall_points fun b => ?_
  exact congrArg (fun w : BitVec 32 => ![w.toNat, 0]) (at_col (F := F) (pointAt b) numel1_S1)
theorem tr2 (i : grid0.Coords) : cc0_transform_2 (F := F) k0_off1_inb numel1_S1 tabs i = ![(colW i).toNat, 0] := by
  revert i
  refine forall_points fun b => ?_
  exact congrArg (fun w : BitVec 32 => ![w.toNat, 0]) (at_col (F := F) (pointAt b) numel1_S1)
theorem tr3 (i : grid0.Coords) : cc0_transform_3 (F := F) k0_off1_inb numel1_S1 tabs i = ![(rowW i).toNat, 0] := by
  revert i
  refine forall_points fun b => ?_
  exact congrArg (fun w : BitVec 32 => ![w.toNat, 0]) (at_row (F := F) (pointAt b) numel1_S1)
theorem tr5 (i : grid0.Coords) : cc0_transform_5 (F := F) k0_off1_inb numel1_S1 tabs i = ![(colW i).toNat, 0] := by
  revert i
  refine forall_points fun b => ?_
  exact congrArg (fun w : BitVec 32 => ![w.toNat, 0]) (at_col (F := F) (pointAt b) numel1_S1)
theorem tr6 (i : grid0.Coords) : cc0_transform_6 (F := F) k0_off1_inb numel1_S1 tabs i = ![(colW i).toNat, 0] := by
  revert i
  refine forall_points fun b => ?_
  exact congrArg (fun w : BitVec 32 => ![w.toNat, 0]) (at_col (F := F) (pointAt b) numel1_S1)
theorem tr7 (i : grid0.Coords) : cc0_transform_7 (F := F) k0_off1_inb numel1_S1 tabs i = ![(colW i).toNat, 0] := by
  revert i
  refine forall_points fun b => ?_
  exact congrArg (fun w : BitVec 32 => ![w.toNat, 0]) (at_col (F := F) (pointAt b) numel1_S1)

theorem ok_row (i : grid0.Coords) : ∃ h : (∀ a : Fin 2, (![(rowW i).toNat, 0] a + 1) * (![512, 1024] : Fin 2 → Nat) a ≤ (![4096, 1024] : Fin 2 → Nat) a),
    EltTy.bits .bf16 = 32 ∨ (Rect.block (s := S4096x1024) ![512, 1024] ![(rowW i).toNat, 0] h).WholeWords (EltTy.packing .bf16) := by
  revert i; exact forall_points (by decide +kernel)
theorem ok_col (i : grid0.Coords) : ∃ h : (∀ a : Fin 2, (![(colW i).toNat, 0] a + 1) * (![512, 1024] : Fin 2 → Nat) a ≤ (![4096, 1024] : Fin 2 → Nat) a),
    EltTy.bits .bf16 = 32 ∨ (Rect.block (s := S4096x1024) ![512, 1024] ![(colW i).toNat, 0] h).WholeWords (EltTy.packing .bf16) := by
  revert i; exact forall_points (by decide +kernel)
theorem ok_half (i : grid0.Coords) : ∃ h : (∀ a : Fin 2, (![(colW i).toNat, 0] a + 1) * (![512, 512] : Fin 2 → Nat) a ≤ (![4096, 512] : Fin 2 → Nat) a),
    EltTy.bits .bf16 = 32 ∨ (Rect.block (s := S4096x512) ![512, 512] ![(colW i).toNat, 0] h).WholeWords (EltTy.packing .bf16) := by
  revert i; exact forall_points (by decide +kernel)
theorem ok_sums (i : grid0.Coords) : ∃ h : (∀ a : Fin 2, (![(colW i).toNat, 0] a + 1) * (![512, 512] : Fin 2 → Nat) a ≤ (![4096, 512] : Fin 2 → Nat) a),
    EltTy.bits .f32 = 32 ∨ (Rect.block (s := S4096x512) ![512, 512] ![(colW i).toNat, 0] h).WholeWords (EltTy.packing .f32) := by
  revert i; exact forall_points (by decide +kernel)

/-- Each table gives a block inside the arrays the windows cut. -/
theorem tabs_ok : ok0 (F := F) tabs := by
  unfold ok0
  simp only [tr0, tr1, tr2, tr3, tr5, tr6, tr7]
  exact ⟨ok_row, ok_col, ok_col, ok_row, ok_half, ok_half, ok_sums⟩

/-- The tables, admissible. -/
def adm : (pcfg0 (F := F)).Adm := ⟨tabs, tabs_ok⟩

end Cert.Fox
-- ==== Proof.FoxBody.lean ====
module

public import proofs.«01_k».proof.Proof.FoxTab

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a scratch buffer holds. -/
abbrev Scr0 : Type := cc0_scratch0.ty.Contents (Elt F)
/-- What a scratch buffer holds. -/
abbrev Scr1 : Type := cc0_scratch1.ty.Contents (Elt F)
/-- What a scratch buffer holds. -/
abbrev Scr2 : Type := cc0_scratch2.ty.Contents (Elt F)
/-- What a scratch buffer holds. -/
abbrev Scr3 : Type := cc0_scratch3.ty.Contents (Elt F)
/-- What a scratch buffer holds. -/
abbrev Scr4 : Type := cc0_scratch4.ty.Contents (Elt F)

/-- What the staged outputs and the scratch buffers hold. -/
structure Outs (F : FTy → Type) [FloatOps F] (c : Dev nD) (arg8 : Memref sig .tc .vmem S4096x512 .bf16) (arg9 : Memref sig .tc .vmem S512x512 .bf16) (arg10 : Memref sig .tc .vmem S512x512 .bf16) (arg11 : Memref sig .tc .vmem S512x512 .f32) (arg12 : Memref sig .tc .vmem S8x1x4096 .f32) where
  o0 : Buf (Elt F) (arg8.view.loc (c : Thread nD τ))
  o1 : Buf (Elt F) (arg9.view.loc (c : Thread nD τ))
  o2 : Buf (Elt F) (arg10.view.loc (c : Thread nD τ))
  o3 : Buf (Elt F) (arg11.view.loc (c : Thread nD τ))
  o4 : Buf (Elt F) (arg12.view.loc (c : Thread nD τ))
  z0 : Scr0 (F := F)
  z1 : Scr1 (F := F)
  z2 : Scr2 (F := F)
  z3 : Scr3 (F := F)
  z4 : Scr4 (F := F)

section
variable (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S8x1x4096 .f32) (harg12 : arg12.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (s0 : Scr0 (F := F)) (s1 : Scr1 (F := F)) (s2 : Scr2 (F := F)) (s3 : Scr3 (F := F)) (s4 : Scr4 (F := F))

set_option maxHeartbeats 4000000 in
/-- What the body leaves, on the way the name says. -/
def outFirst
    (hk : k0_chk1 (wordAt (F := F) i (Memref.whole main_c) (tabs 0)) (wordAt (F := F) i (Memref.whole main_c_0) (tabs 1))) (h1 : Scalar.cmpi .ne (Scalar.extui (Scalar.cmpi .eq (BitVec.ofNat 32 (i 1).val) 0#32) : BitVec 32) 0#32 = 1#1) (h2 : Scalar.cmpi .ne (Scalar.extui (Scalar.cmpi .eq (wordAt (F := F) i (Memref.whole main_c) (tabs 0)) (wordAt (F := F) i (Memref.whole main_c_0) (tabs 1))) : BitVec 32) 0#32 = 1#1) (h3 : ¬ k0_cond3 (wordAt (F := F) i (Memref.whole main_c) (tabs 0)) (wordAt (F := F) i (Memref.whole main_c_0) (tabs 1)) = 1#1) (h4 : k0_cond4 (wordAt (F := F) i (Memref.whole main_c) (tabs 0)) (wordAt (F := F) i (Memref.whole main_c_0) (tabs 1)) = 1#1) (h5 : ¬ k0_cond5 (wordAt (F := F) i (Memref.whole main_c) (tabs 0)) = 1#1) (h6 : ¬ k0_cond6 i = 1#1) : Outs F c arg8 arg9 arg10 arg11 arg12 :=
  let r := runFirst (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6
  ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2.1⟩

set_option maxHeartbeats 4000000 in
/-- What the body leaves, on the way the name says. -/
def outBelow
    (hk : k0_chk1 (wordAt (F := F) i (Memref.whole main_c) (tabs 0)) (wordAt (F := F) i (Memref.whole main_c_0) (tabs 1))) (h1 : ¬ Scalar.cmpi .ne (Scalar.extui (Scalar.cmpi .eq (BitVec.ofNat 32 (i 1).val) 0#32) : BitVec 32) 0#32 = 1#1) (h2 : ¬ Scalar.cmpi .ne (Scalar.extui (Scalar.cmpi .eq (wordAt (F := F) i (Memref.whole main_c) (tabs 0)) (wordAt (F := F) i (Memref.whole main_c_0) (tabs 1))) : BitVec 32) 0#32 = 1#1) (h3 : k0_cond3 (wordAt (F := F) i (Memref.whole main_c) (tabs 0)) (wordAt (F := F) i (Memref.whole main_c_0) (tabs 1)) = 1#1) (h4 : ¬ k0_cond4 (wordAt (F := F) i (Memref.whole main_c) (tabs 0)) (wordAt (F := F) i (Memref.whole main_c_0) (tabs 1)) = 1#1) (h5 : ¬ k0_cond5 (wordAt (F := F) i (Memref.whole main_c) (tabs 0)) = 1#1) (h6 : ¬ k0_cond6 i = 1#1) : Outs F c arg8 arg9 arg10 arg11 arg12 :=
  let r := runBelow (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6
  ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2.1⟩

set_option maxHeartbeats 4000000 in
/-- What the body leaves, on the way the name says. -/
def outBottom
    (hk : k0_chk1 (wordAt (F := F) i (Memref.whole main_c) (tabs 0)) (wordAt (F := F) i (Memref.whole main_c_0) (tabs 1))) (h1 : ¬ Scalar.cmpi .ne (Scalar.extui (Scalar.cmpi .eq (BitVec.ofNat 32 (i 1).val) 0#32) : BitVec 32) 0#32 = 1#1) (h2 : ¬ Scalar.cmpi .ne (Scalar.extui (Scalar.cmpi .eq (wordAt (F := F) i (Memref.whole main_c) (tabs 0)) (wordAt (F := F) i (Memref.whole main_c_0) (tabs 1))) : BitVec 32) 0#32 = 1#1) (h3 : k0_cond3 (wordAt (F := F) i (Memref.whole main_c) (tabs 0)) (wordAt (F := F) i (Memref.whole main_c_0) (tabs 1)) = 1#1) (h4 : ¬ k0_cond4 (wordAt (F := F) i (Memref.whole main_c) (tabs 0)) (wordAt (F := F) i (Memref.whole main_c_0) (tabs 1)) = 1#1) (h5 : k0_cond5 (wordAt (F := F) i (Memref.whole main_c) (tabs 0)) = 1#1) (h6 : ¬ k0_cond6 i = 1#1) : Outs F c arg8 arg9 arg10 arg11 arg12 :=
  let r := runBottom (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6
  ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2.1⟩

set_option maxHeartbeats 4000000 in
/-- What the body leaves, on the way the name says. -/
def outDiag
    (hk : k0_chk1 (wordAt (F := F) i (Memref.whole main_c) (tabs 0)) (wordAt (F := F) i (Memref.whole main_c_0) (tabs 1))) (h1 : ¬ Scalar.cmpi .ne (Scalar.extui (Scalar.cmpi .eq (BitVec.ofNat 32 (i 1).val) 0#32) : BitVec 32) 0#32 = 1#1) (h2 : Scalar.cmpi .ne (Scalar.extui (Scalar.cmpi .eq (wordAt (F := F) i (Memref.whole main_c) (tabs 0)) (wordAt (F := F) i (Memref.whole main_c_0) (tabs 1))) : BitVec 32) 0#32 = 1#1) (h3 : ¬ k0_cond3 (wordAt (F := F) i (Memref.whole main_c) (tabs 0)) (wordAt (F := F) i (Memref.whole main_c_0) (tabs 1)) = 1#1) (h4 : k0_cond4 (wordAt (F := F) i (Memref.whole main_c) (tabs 0)) (wordAt (F := F) i (Memref.whole main_c_0) (tabs 1)) = 1#1) (h5 : ¬ k0_cond5 (wordAt (F := F) i (Memref.whole main_c) (tabs 0)) = 1#1) (h6 : ¬ k0_cond6 i = 1#1) : Outs F c arg8 arg9 arg10 arg11 arg12 :=
  let r := runDiag (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6
  ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2.1⟩

set_option maxHeartbeats 4000000 in
/-- What the body leaves, on the way the name says. -/
def outLast
    (hk : k0_chk1 (wordAt (F := F) i (Memref.whole main_c) (tabs 0)) (wordAt (F := F) i (Memref.whole main_c_0) (tabs 1))) (h1 : ¬ Scalar.cmpi .ne (Scalar.extui (Scalar.cmpi .eq (BitVec.ofNat 32 (i 1).val) 0#32) : BitVec 32) 0#32 = 1#1) (h2 : Scalar.cmpi .ne (Scalar.extui (Scalar.cmpi .eq (wordAt (F := F) i (Memref.whole main_c) (tabs 0)) (wordAt (F := F) i (Memref.whole main_c_0) (tabs 1))) : BitVec 32) 0#32 = 1#1) (h3 : ¬ k0_cond3 (wordAt (F := F) i (Memref.whole main_c) (tabs 0)) (wordAt (F := F) i (Memref.whole main_c_0) (tabs 1)) = 1#1) (h4 : k0_cond4 (wordAt (F := F) i (Memref.whole main_c) (tabs 0)) (wordAt (F := F) i (Memref.whole main_c_0) (tabs 1)) = 1#1) (h5 : k0_cond5 (wordAt (F := F) i (Memref.whole main_c) (tabs 0)) = 1#1) (h6 : k0_cond6 i = 1#1) : Outs F c arg8 arg9 arg10 arg11 arg12 :=
  let r := runLast (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6
  ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2.1⟩

set_option maxHeartbeats 4000000 in
/-- One point of the grid, as what it leaves: which of the five ways the body takes, and the contents it ends with. -/
inductive Steps (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S8x1x4096 .f32) (harg12 : arg12.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (s0 : Scr0 (F := F)) (s1 : Scr1 (F := F)) (s2 : Scr2 (F := F)) (s3 : Scr3 (F := F)) (s4 : Scr4 (F := F)) : Outs F c arg8 arg9 arg10 arg11 arg12 → Prop
  | first (hk : k0_chk1 (wordAt (F := F) i (Memref.whole main_c) (tabs 0)) (wordAt (F := F) i (Memref.whole main_c_0) (tabs 1))) (h1 : Scalar.cmpi .ne (Scalar.extui (Scalar.cmpi .eq (BitVec.ofNat 32 (i 1).val) 0#32) : BitVec 32) 0#32 = 1#1) (h2 : Scalar.cmpi .ne (Scalar.extui (Scalar.cmpi .eq (wordAt (F := F) i (Memref.whole main_c) (tabs 0)) (wordAt (F := F) i (Memref.whole main_c_0) (tabs 1))) : BitVec 32) 0#32 = 1#1) (h3 : ¬ k0_cond3 (wordAt (F := F) i (Memref.whole main_c) (tabs 0)) (wordAt (F := F) i (Memref.whole main_c_0) (tabs 1)) = 1#1) (h4 : k0_cond4 (wordAt (F := F) i (Memref.whole main_c) (tabs 0)) (wordAt (F := F) i (Memref.whole main_c_0) (tabs 1)) = 1#1) (h5 : ¬ k0_cond5 (wordAt (F := F) i (Memref.whole main_c) (tabs 0)) = 1#1) (h6 : ¬ k0_cond6 i = 1#1) :
      Steps c i arg4 harg4 arg5 harg5 arg6 harg6 arg7 harg7 arg8 harg8 arg9 harg9 arg10 harg10 arg11 harg11 arg12 harg12 f4 f5 f6 f7 f8 f9 f10 f11 f12 s0 s1 s2 s3 s4 (outFirst c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6)
  | below (hk : k0_chk1 (wordAt (F := F) i (Memref.whole main_c) (tabs 0)) (wordAt (F := F) i (Memref.whole main_c_0) (tabs 1))) (h1 : ¬ Scalar.cmpi .ne (Scalar.extui (Scalar.cmpi .eq (BitVec.ofNat 32 (i 1).val) 0#32) : BitVec 32) 0#32 = 1#1) (h2 : ¬ Scalar.cmpi .ne (Scalar.extui (Scalar.cmpi .eq (wordAt (F := F) i (Memref.whole main_c) (tabs 0)) (wordAt (F := F) i (Memref.whole main_c_0) (tabs 1))) : BitVec 32) 0#32 = 1#1) (h3 : k0_cond3 (wordAt (F := F) i (Memref.whole main_c) (tabs 0)) (wordAt (F := F) i (Memref.whole main_c_0) (tabs 1)) = 1#1) (h4 : ¬ k0_cond4 (wordAt (F := F) i (Memref.whole main_c) (tabs 0)) (wordAt (F := F) i (Memref.whole main_c_0) (tabs 1)) = 1#1) (h5 : ¬ k0_cond5 (wordAt (F := F) i (Memref.whole main_c) (tabs 0)) = 1#1) (h6 : ¬ k0_cond6 i = 1#1) :
      Steps c i arg4 harg4 arg5 harg5 arg6 harg6 arg7 harg7 arg8 harg8 arg9 harg9 arg10 harg10 arg11 harg11 arg12 harg12 f4 f5 f6 f7 f8 f9 f10 f11 f12 s0 s1 s2 s3 s4 (outBelow c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6)
  | bottom (hk : k0_chk1 (wordAt (F := F) i (Memref.whole main_c) (tabs 0)) (wordAt (F := F) i (Memref.whole main_c_0) (tabs 1))) (h1 : ¬ Scalar.cmpi .ne (Scalar.extui (Scalar.cmpi .eq (BitVec.ofNat 32 (i 1).val) 0#32) : BitVec 32) 0#32 = 1#1) (h2 : ¬ Scalar.cmpi .ne (Scalar.extui (Scalar.cmpi .eq (wordAt (F := F) i (Memref.whole main_c) (tabs 0)) (wordAt (F := F) i (Memref.whole main_c_0) (tabs 1))) : BitVec 32) 0#32 = 1#1) (h3 : k0_cond3 (wordAt (F := F) i (Memref.whole main_c) (tabs 0)) (wordAt (F := F) i (Memref.whole main_c_0) (tabs 1)) = 1#1) (h4 : ¬ k0_cond4 (wordAt (F := F) i (Memref.whole main_c) (tabs 0)) (wordAt (F := F) i (Memref.whole main_c_0) (tabs 1)) = 1#1) (h5 : k0_cond5 (wordAt (F := F) i (Memref.whole main_c) (tabs 0)) = 1#1) (h6 : ¬ k0_cond6 i = 1#1) :
      Steps c i arg4 harg4 arg5 harg5 arg6 harg6 arg7 harg7 arg8 harg8 arg9 harg9 arg10 harg10 arg11 harg11 arg12 harg12 f4 f5 f6 f7 f8 f9 f10 f11 f12 s0 s1 s2 s3 s4 (outBottom c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6)
  | diag (hk : k0_chk1 (wordAt (F := F) i (Memref.whole main_c) (tabs 0)) (wordAt (F := F) i (Memref.whole main_c_0) (tabs 1))) (h1 : ¬ Scalar.cmpi .ne (Scalar.extui (Scalar.cmpi .eq (BitVec.ofNat 32 (i 1).val) 0#32) : BitVec 32) 0#32 = 1#1) (h2 : Scalar.cmpi .ne (Scalar.extui (Scalar.cmpi .eq (wordAt (F := F) i (Memref.whole main_c) (tabs 0)) (wordAt (F := F) i (Memref.whole main_c_0) (tabs 1))) : BitVec 32) 0#32 = 1#1) (h3 : ¬ k0_cond3 (wordAt (F := F) i (Memref.whole main_c) (tabs 0)) (wordAt (F := F) i (Memref.whole main_c_0) (tabs 1)) = 1#1) (h4 : k0_cond4 (wordAt (F := F) i (Memref.whole main_c) (tabs 0)) (wordAt (F := F) i (Memref.whole main_c_0) (tabs 1)) = 1#1) (h5 : ¬ k0_cond5 (wordAt (F := F) i (Memref.whole main_c) (tabs 0)) = 1#1) (h6 : ¬ k0_cond6 i = 1#1) :
      Steps c i arg4 harg4 arg5 harg5 arg6 harg6 arg7 harg7 arg8 harg8 arg9 harg9 arg10 harg10 arg11 harg11 arg12 harg12 f4 f5 f6 f7 f8 f9 f10 f11 f12 s0 s1 s2 s3 s4 (outDiag c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6)
  | last (hk : k0_chk1 (wordAt (F := F) i (Memref.whole main_c) (tabs 0)) (wordAt (F := F) i (Memref.whole main_c_0) (tabs 1))) (h1 : ¬ Scalar.cmpi .ne (Scalar.extui (Scalar.cmpi .eq (BitVec.ofNat 32 (i 1).val) 0#32) : BitVec 32) 0#32 = 1#1) (h2 : Scalar.cmpi .ne (Scalar.extui (Scalar.cmpi .eq (wordAt (F := F) i (Memref.whole main_c) (tabs 0)) (wordAt (F := F) i (Memref.whole main_c_0) (tabs 1))) : BitVec 32) 0#32 = 1#1) (h3 : ¬ k0_cond3 (wordAt (F := F) i (Memref.whole main_c) (tabs 0)) (wordAt (F := F) i (Memref.whole main_c_0) (tabs 1)) = 1#1) (h4 : k0_cond4 (wordAt (F := F) i (Memref.whole main_c) (tabs 0)) (wordAt (F := F) i (Memref.whole main_c_0) (tabs 1)) = 1#1) (h5 : k0_cond5 (wordAt (F := F) i (Memref.whole main_c) (tabs 0)) = 1#1) (h6 : k0_cond6 i = 1#1) :
      Steps c i arg4 harg4 arg5 harg5 arg6 harg6 arg7 harg7 arg8 harg8 arg9 harg9 arg10 harg10 arg11 harg11 arg12 harg12 f4 f5 f6 f7 f8 f9 f10 f11 f12 s0 s1 s2 s3 s4 (outLast c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6)

/-- Which way a point takes. -/
theorem ways (i : grid0.Coords) :
    (Scalar.cmpi .ne (Scalar.extui (Scalar.cmpi .eq (BitVec.ofNat 32 (i 1).val) 0#32) : BitVec 32) 0#32 = 1#1 ∧ Scalar.cmpi .ne (Scalar.extui (Scalar.cmpi .eq (rowW i) (colW i)) : BitVec 32) 0#32 = 1#1 ∧ ¬ k0_cond3 (rowW i) (colW i) = 1#1 ∧ k0_cond4 (rowW i) (colW i) = 1#1 ∧ ¬ k0_cond5 (rowW i) = 1#1 ∧ ¬ k0_cond6 i = 1#1)
    ∨ (¬ Scalar.cmpi .ne (Scalar.extui (Scalar.cmpi .eq (BitVec.ofNat 32 (i 1).val) 0#32) : BitVec 32) 0#32 = 1#1 ∧ ¬ Scalar.cmpi .ne (Scalar.extui (Scalar.cmpi .eq (rowW i) (colW i)) : BitVec 32) 0#32 = 1#1 ∧ k0_cond3 (rowW i) (colW i) = 1#1 ∧ ¬ k0_cond4 (rowW i) (colW i) = 1#1 ∧ ¬ k0_cond5 (rowW i) = 1#1 ∧ ¬ k0_cond6 i = 1#1)
    ∨ (¬ Scalar.cmpi .ne (Scalar.extui (Scalar.cmpi .eq (BitVec.ofNat 32 (i 1).val) 0#32) : BitVec 32) 0#32 = 1#1 ∧ ¬ Scalar.cmpi .ne (Scalar.extui (Scalar.cmpi .eq (rowW i) (colW i)) : BitVec 32) 0#32 = 1#1 ∧ k0_cond3 (rowW i) (colW i) = 1#1 ∧ ¬ k0_cond4 (rowW i) (colW i) = 1#1 ∧ k0_cond5 (rowW i) = 1#1 ∧ ¬ k0_cond6 i = 1#1)
    ∨ (¬ Scalar.cmpi .ne (Scalar.extui (Scalar.cmpi .eq (BitVec.ofNat 32 (i 1).val) 0#32) : BitVec 32) 0#32 = 1#1 ∧ Scalar.cmpi .ne (Scalar.extui (Scalar.cmpi .eq (rowW i) (colW i)) : BitVec 32) 0#32 = 1#1 ∧ ¬ k0_cond3 (rowW i) (colW i) = 1#1 ∧ k0_cond4 (rowW i) (colW i) = 1#1 ∧ ¬ k0_cond5 (rowW i) = 1#1 ∧ ¬ k0_cond6 i = 1#1)
    ∨ (¬ Scalar.cmpi .ne (Scalar.extui (Scalar.cmpi .eq (BitVec.ofNat 32 (i 1).val) 0#32) : BitVec 32) 0#32 = 1#1 ∧ Scalar.cmpi .ne (Scalar.extui (Scalar.cmpi .eq (rowW i) (colW i)) : BitVec 32) 0#32 = 1#1 ∧ ¬ k0_cond3 (rowW i) (colW i) = 1#1 ∧ k0_cond4 (rowW i) (colW i) = 1#1 ∧ k0_cond5 (rowW i) = 1#1 ∧ k0_cond6 i = 1#1) := by
  revert i; exact forall_points (by decide +kernel)

theorem cut_frame {R P Q K : sProp 𝕄} (h : iprop(R ∗ Q) ⊢ K) : iprop(R ∗ P) ⊢ iprop(P ∗ (Q -∗ K)) := by
  iintro ⟨HR, HP⟩
  isplitl [HP]; · iexact HP
  iintro HQ
  iapply h
  isplitl [HR]; · iexact HR
  iexact HQ

attribute [local irreducible] runFirst runBelow runBottom runDiag runLast

set_option maxHeartbeats 4000000 in
/-- The body at a point, whichever way it takes. -/
theorem body_point (R : sProp 𝕄) (K : PUnit → sProp 𝕄)
    (hK : ∀ o, Steps c i arg4 harg4 arg5 harg5 arg6 harg6 arg7 harg7 arg8 harg8 arg9 harg9 arg10 harg10 arg11 harg11 arg12 harg12 f4 f5 f6 f7 f8 f9 f10 f11 f12 s0 s1 s2 s3 s4 o → iprop(R ∗ iprop(((Memref.whole main_c).view.loc (c : Thread nD τ) ↦{fullShare.right} tabs 0) ∗ ((Memref.whole main_c_0).view.loc (c : Thread nD τ) ↦{fullShare.right} tabs 1) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} o.o0) ∗ (arg9.view.loc (c : Thread nD τ) ↦[arg9.view.set]{fullShare} o.o1) ∗ (arg10.view.loc (c : Thread nD τ) ↦[arg10.view.set]{fullShare} o.o2) ∗ (arg11.view.loc (c : Thread nD τ) ↦[arg11.view.set]{fullShare} o.o3) ∗ (arg12.view.loc (c : Thread nD τ) ↦[arg12.view.set]{fullShare} o.o4) ∗ ((Memref.whole cc0_scratch0).view.loc (c : Thread nD τ) ↦{fullShare} o.z0) ∗ ((Memref.whole cc0_scratch1).view.loc (c : Thread nD τ) ↦{fullShare} o.z1) ∗ ((Memref.whole cc0_scratch2).view.loc (c : Thread nD τ) ↦{fullShare} o.z2) ∗ ((Memref.whole cc0_scratch3).view.loc (c : Thread nD τ) ↦{fullShare} o.z3) ∗ ((Memref.whole cc0_scratch4).view.loc (c : Thread nD τ) ↦{fullShare} o.z4))) ⊢ K ⟨⟩) :
    iprop(R ∗ iprop(((Memref.whole main_c).view.loc (c : Thread nD τ) ↦{fullShare.right} tabs 0) ∗ ((Memref.whole main_c_0).view.loc (c : Thread nD τ) ↦{fullShare.right} tabs 1) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ ((Memref.whole cc0_scratch0).view.loc (c : Thread nD τ) ↦{fullShare} s0) ∗ ((Memref.whole cc0_scratch1).view.loc (c : Thread nD τ) ↦{fullShare} s1) ∗ ((Memref.whole cc0_scratch2).view.loc (c : Thread nD τ) ↦{fullShare} s2) ∗ ((Memref.whole cc0_scratch3).view.loc (c : Thread nD τ) ↦{fullShare} s3) ∗ ((Memref.whole cc0_scratch4).view.loc (c : Thread nD τ) ↦{fullShare} s4))) ⊢ wp frame (wpE (defs₀ (F := F)) Variants.none c none) Set.univ (cc0_fox_bwd (F := F) i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) K := by
  have hk : k0_chk1 (wordAt (F := F) i (Memref.whole main_c) (tabs 0)) (wordAt (F := F) i (Memref.whole main_c_0) (tabs 1)) := by rw [word_row, word_col]; exact chk_all i
  have w := ways i
  rw [← word_row (F := F) i, ← word_col (F := F) i] at w
  rcases w with ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩
  · exact (cut_frame (hK _ (Steps.first hk h1 h2 h3 h4 h5 h6))).trans ((runFirst (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6).2.2.2.2.2.2.2.2.2.2 K)
  · exact (cut_frame (hK _ (Steps.below hk h1 h2 h3 h4 h5 h6))).trans ((runBelow (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6).2.2.2.2.2.2.2.2.2.2 K)
  · exact (cut_frame (hK _ (Steps.bottom hk h1 h2 h3 h4 h5 h6))).trans ((runBottom (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6).2.2.2.2.2.2.2.2.2.2 K)
  · exact (cut_frame (hK _ (Steps.diag hk h1 h2 h3 h4 h5 h6))).trans ((runDiag (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6).2.2.2.2.2.2.2.2.2.2 K)
  · exact (cut_frame (hK _ (Steps.last hk h1 h2 h3 h4 h5 h6))).trans ((runLast (F := F) c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (tabs 0) (tabs 1) f4 f5 f6 f7 f8 f9 f10 f11 f12 s0 s1 s2 s3 s4 hk h1 h2 h3 h4 h5 h6).2.2.2.2.2.2.2.2.2.2 K)

end

end Cert.Fox
-- ==== Proof.FoxHost.lean ====
module

public import proofs.«01_k».proof.Proof.FoxBody
public import Idealize.ShloMosaic.Lib.StableHlo.RunRead
public import Idealize.ShloMosaic.Lib.Pipeline.TableIdle
public import Idealize.ShloMosaic.Lib.Pipeline.ArrRel

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer of the device holds when the region is entered: after the host's operations. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 4000000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

theorem V_arg0 (c : Dev nD) : V m c main_arg0 = m ((c : Thread nD τ).loc main_arg0) := by
  unfold V; after_reads_simp
theorem V_arg1 (c : Dev nD) : V m c main_arg1 = m ((c : Thread nD τ).loc main_arg1) := by
  unfold V; after_reads_simp
theorem V_arg2 (c : Dev nD) : V m c main_arg2 = m ((c : Thread nD τ).loc main_arg2) := by
  unfold V; after_reads_simp
theorem V_arg3 (c : Dev nD) : V m c main_arg3 = m ((c : Thread nD τ).loc main_arg3) := by
  unfold V; after_reads_simp
theorem V_arg4 (c : Dev nD) : V m c main_arg4 = m ((c : Thread nD τ).loc main_arg4) := by
  unfold V; after_reads_simp

set_option maxHeartbeats 4000000 in
theorem V_row (c : Dev nD) : V m c main_c = tabs (F := F) 0 := by
  unfold V; after_reads_simp; rfl
set_option maxHeartbeats 4000000 in
theorem V_col (c : Dev nD) : V m c main_c_0 = tabs (F := F) 1 := by
  unfold V; after_reads_simp; rfl

end Cert.Fox
-- ==== Proof.FoxFrame.lean ====
module

public import proofs.«01_k».proof.Proof.FoxHost

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-- The pipeline at the tables the host writes. -/
abbrev cfgF : Pipeline.Cfg sig Λ₀ := cfg0 (F := F) adm

/-- Window `w`'s block at point `t`, read off its array as the region finds it. -/
def iblk (c : Dev nD) (w : Fin 9) (t : Fin grid0.N) : (((cfgF (F := F)).win w).xblock (grid0.coords t)).Idx → Elt F ((cfgF (F := F)).win w).elt :=
  (((cfgF (F := F)).win w).blk t).view.read (Elt F) (V m c (Pipeline.arrRef spec0 w))

variable (Inv : ℕ → Scr0 (F := F) → Scr1 (F := F) → Scr2 (F := F) → Scr3 (F := F) → Scr4 (F := F) → Prop) (Out : (w : Fin 9) → Fin grid0.N → ((spec0 w).block.Idx → Elt F (spec0 w).elt) → Prop)

/-- What is asked of a running description of the scratch buffers and of the outputs: it holds at the start, and each
    point keeps it. -/
structure Keeps : Prop where
  start : ∀ s0 s1 s2 s3 s4, Inv 0 s0 s1 s2 s3 s4
  step : ∀ (c : Dev nD) (t : Fin grid0.N) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S8x1x4096 .f32) (harg12 : arg12.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (s0 : Scr0 (F := F)) (s1 : Scr1 (F := F)) (s2 : Scr2 (F := F)) (s3 : Scr3 (F := F)) (s4 : Scr4 (F := F)) (o : Outs F c arg8 arg9 arg10 arg11 arg12),
    Steps c (grid0.coords t) arg4 harg4 arg5 harg5 arg6 harg6 arg7 harg7 arg8 harg8 arg9 harg9 arg10 harg10 arg11 harg11 arg12 harg12 f4 f5 f6 f7 f8 f9 f10 f11 f12 s0 s1 s2 s3 s4 o → Inv t.val s0 s1 s2 s3 s4 →
    arg4.view.read (Elt F) f4 = iblk m c 0 t → arg5.view.read (Elt F) f5 = iblk m c 1 t →
    arg6.view.read (Elt F) f6 = iblk m c 2 t → arg7.view.read (Elt F) f7 = iblk m c 3 t →
    Inv (t.val + 1) o.z0 o.z1 o.z2 o.z3 o.z4 ∧ Out 4 t (arg8.view.read (Elt F) o.o0) ∧ Out 5 t (arg9.view.read (Elt F) o.o1) ∧ Out 6 t (arg10.view.read (Elt F) o.o2) ∧ Out 7 t (arg11.view.read (Elt F) o.o3) ∧ Out 8 t (arg12.view.read (Elt F) o.o4)

/-- The scratch buffers at the description. -/
def Held (c : Dev nD) (n : ℕ) : sProp 𝕄 :=
  iprop(∃ s0 s1 s2 s3 s4, ⌜Inv n s0 s1 s2 s3 s4⌝ ∗ ((c : Thread nD τ).loc cc0_scratch0 ↦{fullShare} s0) ∗ ((c : Thread nD τ).loc cc0_scratch1 ↦{fullShare} s1) ∗ ((c : Thread nD τ).loc cc0_scratch2 ↦{fullShare} s2) ∗ ((c : Thread nD τ).loc cc0_scratch3 ↦{fullShare} s3) ∗ ((c : Thread nD τ).loc cc0_scratch4 ↦{fullShare} s4))

/-- The data of the run. -/
def rdat (c : Dev nD) : RDat τ (Elt F) Unit ℕ (UR sig nD τ) ℕ (cfgF (F := F)) c where
  A w := V m c (Pipeline.arrRef spec0 w)
  after w t Y X := (w.val < 4 → X = Y) ∧ (4 ≤ w.val → Out w t X)
  Φ t := iprop(Held Inv c t.val ∗ (∃ r, prngReg c r) ∗ Pipeline.ΦT (U := UR sig nD τ) pre0 tabs c)
  q _ := fullShare
  owed _ := 0

theorem tables_eq (c : Dev nD) : (Pipeline.ΦT (U := UR sig nD τ) pre0 (tabs (F := F)) c : sProp 𝕄)
    = iprop(((Memref.whole main_c).view.loc (c : Thread nD τ) ↦{fullShare.right} tabs 0) ∗ ((Memref.whole main_c_0).view.loc (c : Thread nD τ) ↦{fullShare.right} tabs 1)) := by
  unfold Pipeline.ΦT Pipeline.prefHeld
  rw [show (Finset.univ : Finset (Fin 2)) = insert 0 {1} from by decide, bigSep_insert (by decide), bigSep_singleton]; rfl

theorem finds0 (c : Dev nD) (t : Fin grid0.N) (Y) (h : (rdat m Inv Out c).Finds 0 t Y) : Y = iblk m c 0 t := by
  obtain ⟨d, rfl⟩ := (rdat m Inv Out c).finds_in_eq_fetched 0 rfl (fun _ _ _ => rfl) (fun t Y X h => h.1 (Nat.le_of_ble_eq_true rfl)) t Y h
  rfl
theorem finds1 (c : Dev nD) (t : Fin grid0.N) (Y) (h : (rdat m Inv Out c).Finds 1 t Y) : Y = iblk m c 1 t := by
  obtain ⟨d, rfl⟩ := (rdat m Inv Out c).finds_in_eq_fetched 1 rfl (fun _ _ _ => rfl) (fun t Y X h => h.1 (Nat.le_of_ble_eq_true rfl)) t Y h
  rfl
theorem finds2 (c : Dev nD) (t : Fin grid0.N) (Y) (h : (rdat m Inv Out c).Finds 2 t Y) : Y = iblk m c 2 t := by
  obtain ⟨d, rfl⟩ := (rdat m Inv Out c).finds_in_eq_fetched 2 rfl (fun _ _ _ => rfl) (fun t Y X h => h.1 (Nat.le_of_ble_eq_true rfl)) t Y h
  rfl
theorem finds3 (c : Dev nD) (t : Fin grid0.N) (Y) (h : (rdat m Inv Out c).Finds 3 t Y) : Y = iblk m c 3 t := by
  obtain ⟨d, rfl⟩ := (rdat m Inv Out c).finds_in_eq_fetched 3 rfl (fun _ _ _ => rfl) (fun t Y X h => h.1 (Nat.le_of_ble_eq_true rfl)) t Y h
  rfl
/-- The current staging buffer of window 0 at point `t`. -/
abbrev stg0 (t : Fin grid0.N) := spec0_0.stage ((cfgF (F := F)).slots t 0)
abbrev hstg0 (t : Fin grid0.N) : (stg0 (F := F) t).IsWhole := hstage0_0 (((cfgF (F := F)).slots t 0).cast nbuf0_0)

/-- The current staging buffer of window 1 at point `t`. -/
abbrev stg1 (t : Fin grid0.N) := spec0_1.stage ((cfgF (F := F)).slots t 1)
abbrev hstg1 (t : Fin grid0.N) : (stg1 (F := F) t).IsWhole := hstage0_1 (((cfgF (F := F)).slots t 1).cast nbuf0_1)

/-- The current staging buffer of window 2 at point `t`. -/
abbrev stg2 (t : Fin grid0.N) := spec0_2.stage ((cfgF (F := F)).slots t 2)
abbrev hstg2 (t : Fin grid0.N) : (stg2 (F := F) t).IsWhole := hstage0_2 (((cfgF (F := F)).slots t 2).cast nbuf0_2)

/-- The current staging buffer of window 3 at point `t`. -/
abbrev stg3 (t : Fin grid0.N) := spec0_3.stage ((cfgF (F := F)).slots t 3)
abbrev hstg3 (t : Fin grid0.N) : (stg3 (F := F) t).IsWhole := hstage0_3 (((cfgF (F := F)).slots t 3).cast nbuf0_3)

/-- The current staging buffer of window 4 at point `t`. -/
abbrev stg4 (t : Fin grid0.N) := spec0_4.stage ((cfgF (F := F)).slots t 4)
abbrev hstg4 (t : Fin grid0.N) : (stg4 (F := F) t).IsWhole := hstage0_4 (((cfgF (F := F)).slots t 4).cast nbuf0_4)

/-- The current staging buffer of window 5 at point `t`. -/
abbrev stg5 (t : Fin grid0.N) := spec0_5.stage ((cfgF (F := F)).slots t 5)
abbrev hstg5 (t : Fin grid0.N) : (stg5 (F := F) t).IsWhole := hstage0_5 (((cfgF (F := F)).slots t 5).cast nbuf0_5)

/-- The current staging buffer of window 6 at point `t`. -/
abbrev stg6 (t : Fin grid0.N) := spec0_6.stage ((cfgF (F := F)).slots t 6)
abbrev hstg6 (t : Fin grid0.N) : (stg6 (F := F) t).IsWhole := hstage0_6 (((cfgF (F := F)).slots t 6).cast nbuf0_6)

/-- The current staging buffer of window 7 at point `t`. -/
abbrev stg7 (t : Fin grid0.N) := spec0_7.stage ((cfgF (F := F)).slots t 7)
abbrev hstg7 (t : Fin grid0.N) : (stg7 (F := F) t).IsWhole := hstage0_7 (((cfgF (F := F)).slots t 7).cast nbuf0_7)

/-- The current staging buffer of window 8 at point `t`. -/
abbrev stg8 (t : Fin grid0.N) := spec0_8.stage ((cfgF (F := F)).slots t 8)
abbrev hstg8 (t : Fin grid0.N) : (stg8 (F := F) t).IsWhole := hstage0_8 (((cfgF (F := F)).slots t 8).cast nbuf0_8)

/-- What the body is at point `t`. -/
def bodyAt (t : Fin grid0.N) : Prog (TpuEff nD τ sig (Elt F) Λ₀ .tc) PUnit :=
  cc0_fox_bwd (F := F) (grid0.coords t) (Memref.whole main_c) (Memref.isWhole_whole _) (Memref.whole main_c_0) (Memref.isWhole_whole _) (stg0 (F := F) t) (hstg0 (F := F) t) (stg1 (F := F) t) (hstg1 (F := F) t) (stg2 (F := F) t) (hstg2 (F := F) t) (stg3 (F := F) t) (hstg3 (F := F) t) (stg4 (F := F) t) (hstg4 (F := F) t) (stg5 (F := F) t) (hstg5 (F := F) t) (stg6 (F := F) t) (hstg6 (F := F) t) (stg7 (F := F) t) (hstg7 (F := F) t) (stg8 (F := F) t) (hstg8 (F := F) t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

theorem defs₀_row (t : Fin (cfgF (F := F)).N) :
    defs₀ (F := F) .tc (cfgF (F := F)).body ((cfgF (F := F)).bodyArgs t ((cfgF (F := F)).slots t)) = bodyAt t := by
  unfold defs₀; rw [Defs.onTc_tc]; rfl

attribute [local irreducible] runFirst runBelow runBottom runDiag runLast outFirst outBelow outBottom outDiag outLast

set_option maxHeartbeats 2000000 in
theorem triple (hK : Keeps m Inv Out) (c : Dev nD) (t : Fin grid0.N) (Y : (w : Fin 9) → ((spec0 w).block.Idx → Elt F (spec0 w).elt))
    (hY : ∀ w, (rdat m Inv Out c).Finds w t (Y w)) :
    iprop(iprop(Held Inv c t.val ∗ (∃ r, prngReg c r) ∗ Pipeline.ΦT (U := UR sig nD τ) pre0 tabs c) ∗ (rdat m Inv Out c).owesAt () t.castSucc ∗ owns (c : Thread nD τ) (stg0 (F := F) t) fullShare (Y 0) ∗ owns (c : Thread nD τ) (stg1 (F := F) t) fullShare (Y 1) ∗ owns (c : Thread nD τ) (stg2 (F := F) t) fullShare (Y 2) ∗ owns (c : Thread nD τ) (stg3 (F := F) t) fullShare (Y 3) ∗ owns (c : Thread nD τ) (stg4 (F := F) t) fullShare (Y 4) ∗ owns (c : Thread nD τ) (stg5 (F := F) t) fullShare (Y 5) ∗ owns (c : Thread nD τ) (stg6 (F := F) t) fullShare (Y 6) ∗ owns (c : Thread nD τ) (stg7 (F := F) t) fullShare (Y 7) ∗ owns (c : Thread nD τ) (stg8 (F := F) t) fullShare (Y 8)) ⊢ wp frame (wpE (defs₀ (F := F)) Variants.none c none) Set.univ (bodyAt t)
      (fun _ => iprop(iprop(Held Inv c (t.val + 1) ∗ (∃ r, prngReg c r) ∗ Pipeline.ΦT (U := UR sig nD τ) pre0 tabs c) ∗ (rdat m Inv Out c).owesAt () t.castSucc ∗ (∃ X, ⌜(rdat m Inv Out c).after 0 t (Y 0) X⌝ ∗ owns (c : Thread nD τ) (stg0 (F := F) t) fullShare X) ∗ (∃ X, ⌜(rdat m Inv Out c).after 1 t (Y 1) X⌝ ∗ owns (c : Thread nD τ) (stg1 (F := F) t) fullShare X) ∗ (∃ X, ⌜(rdat m Inv Out c).after 2 t (Y 2) X⌝ ∗ owns (c : Thread nD τ) (stg2 (F := F) t) fullShare X) ∗ (∃ X, ⌜(rdat m Inv Out c).after 3 t (Y 3) X⌝ ∗ owns (c : Thread nD τ) (stg3 (F := F) t) fullShare X) ∗ (∃ X, ⌜(rdat m Inv Out c).after 4 t (Y 4) X⌝ ∗ owns (c : Thread nD τ) (stg4 (F := F) t) fullShare X) ∗ (∃ X, ⌜(rdat m Inv Out c).after 5 t (Y 5) X⌝ ∗ owns (c : Thread nD τ) (stg5 (F := F) t) fullShare X) ∗ (∃ X, ⌜(rdat m Inv Out c).after 6 t (Y 6) X⌝ ∗ owns (c : Thread nD τ) (stg6 (F := F) t) fullShare X) ∗ (∃ X, ⌜(rdat m Inv Out c).after 7 t (Y 7) X⌝ ∗ owns (c : Thread nD τ) (stg7 (F := F) t) fullShare X) ∗ (∃ X, ⌜(rdat m Inv Out c).after 8 t (Y 8) X⌝ ∗ owns (c : Thread nD τ) (stg8 (F := F) t) fullShare X))) := by
  have e0 := finds0 m Inv Out c t _ (hY 0)
  have e1 := finds1 m Inv Out c t _ (hY 1)
  have e2 := finds2 m Inv Out c t _ (hY 2)
  have e3 := finds3 m Inv Out c t _ (hY 3)
  generalize (rdat m Inv Out c).owesAt () t.castSucc = owes
  unfold bodyAt
  rw [tables_eq]
  unfold Held owns
  iintro ⟨⟨⟨%s0, %s1, %s2, %s3, %s4, %hI, S0, S1, S2, S3, S4⟩, HP, T0, T1⟩, HO, ⟨%g0, %h0, W0⟩, ⟨%g1, %h1, W1⟩, ⟨%g2, %h2, W2⟩, ⟨%g3, %h3, W3⟩, ⟨%g4, %h4, W4⟩, ⟨%g5, %h5, W5⟩, ⟨%g6, %h6, W6⟩, ⟨%g7, %h7, W7⟩, ⟨%g8, %h8, W8⟩⟩
  iapply (body_point c (grid0.coords t) _ _ _ _ _ _ _ _ _ _ _ _ _ _ _ _ _ _ g0 g1 g2 g3 g4 g5 g6 g7 g8 s0 s1 s2 s3 s4
    iprop((∃ r, prngReg c r) ∗ owes) _ ?hk)
  case hk =>
    intro o ho
    obtain ⟨hI', r4, r5, r6, r7, r8⟩ := hK.step c t _ _ _ _ _ _ _ _ _ _ _ _ _ _ _ _ _ _ _ _ _ _ _ _ _ _ _ _ _ _ _ _ o ho hI (h0.trans e0) (h1.trans e1) (h2.trans e2) (h3.trans e3)
    iintro ⟨⟨HP, HO⟩, T0, T1, W0, W1, W2, W3, W4, W5, W6, W7, W8, S0, S1, S2, S3, S4⟩
    isplitl [S0 S1 S2 S3 S4 HP T0 T1]
    · isplitl [S0 S1 S2 S3 S4]
      · iexists o.z0; iexists o.z1; iexists o.z2; iexists o.z3; iexists o.z4
        isplitr; · ipureintro; exact hI'
        isplitl [S0]; · iexact S0
        isplitl [S1]; · iexact S1
        isplitl [S2]; · iexact S2
        isplitl [S3]; · iexact S3
        iexact S4
      isplitl [HP]; · iexact HP
      isplitl [T0]; · iexact T0
      iexact T1
    isplitl [HO]; · iexact HO
    isplitl [W0]
    · iexists (Y 0); isplitr; · ipureintro; exact ⟨fun _ => rfl, fun h => absurd h (Nat.not_le.2 (Nat.le_of_ble_eq_true rfl))⟩
      iexists g0; isplitr; · ipureintro; exact h0
      iexact W0
    isplitl [W1]
    · iexists (Y 1); isplitr; · ipureintro; exact ⟨fun _ => rfl, fun h => absurd h (Nat.not_le.2 (Nat.le_of_ble_eq_true rfl))⟩
      iexists g1; isplitr; · ipureintro; exact h1
      iexact W1
    isplitl [W2]
    · iexists (Y 2); isplitr; · ipureintro; exact ⟨fun _ => rfl, fun h => absurd h (Nat.not_le.2 (Nat.le_of_ble_eq_true rfl))⟩
      iexists g2; isplitr; · ipureintro; exact h2
      iexact W2
    isplitl [W3]
    · iexists (Y 3); isplitr; · ipureintro; exact ⟨fun _ => rfl, fun h => absurd h (Nat.not_le.2 (Nat.le_of_ble_eq_true rfl))⟩
      iexists g3; isplitr; · ipureintro; exact h3
      iexact W3
    isplitl [W4]
    · iexists _; isplitr; · ipureintro; exact ⟨fun h => absurd h (Nat.not_lt.2 (Nat.le_of_ble_eq_true rfl)), fun _ => r4⟩
      iexists _; isplitr; · ipureintro; rfl
      iexact W4
    isplitl [W5]
    · iexists _; isplitr; · ipureintro; exact ⟨fun h => absurd h (Nat.not_lt.2 (Nat.le_of_ble_eq_true rfl)), fun _ => r5⟩
      iexists _; isplitr; · ipureintro; rfl
      iexact W5
    isplitl [W6]
    · iexists _; isplitr; · ipureintro; exact ⟨fun h => absurd h (Nat.not_lt.2 (Nat.le_of_ble_eq_true rfl)), fun _ => r6⟩
      iexists _; isplitr; · ipureintro; rfl
      iexact W6
    isplitl [W7]
    · iexists _; isplitr; · ipureintro; exact ⟨fun h => absurd h (Nat.not_lt.2 (Nat.le_of_ble_eq_true rfl)), fun _ => r7⟩
      iexists _; isplitr; · ipureintro; rfl
      iexact W7
    iexists _; isplitr; · ipureintro; exact ⟨fun h => absurd h (Nat.not_lt.2 (Nat.le_of_ble_eq_true rfl)), fun _ => r8⟩
    iexists _; isplitr; · ipureintro; rfl
    iexact W8
  isplitl [HP HO]
  · isplitl [HP]; · iexact HP
    iexact HO
  isplitl [T0]; · iexact T0
  isplitl [T1]; · iexact T1
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [S0]; · iexact S0
  isplitl [S1]; · iexact S1
  isplitl [S2]; · iexact S2
  isplitl [S3]; · iexact S3
  iexact S4

theorem Φ_cast (c : Dev nD) (t : Fin grid0.N) : (rdat m Inv Out c).Φ t.castSucc = iprop(Held Inv c t.val ∗ (∃ r, prngReg c r) ∗ Pipeline.ΦT (U := UR sig nD τ) pre0 tabs c) := by
  unfold rdat; dsimp only [Fin.val_castSucc]

theorem Φ_succ (c : Dev nD) (t : Fin grid0.N) : (rdat m Inv Out c).Φ t.succ = iprop(Held Inv c (t.val + 1) ∗ (∃ r, prngReg c r) ∗ Pipeline.ΦT (U := UR sig nD τ) pre0 tabs c) := by
  unfold rdat; dsimp only [Fin.val_succ]

theorem obligation (hK : Keeps m Inv Out) (c : Dev nD) : (rdat m Inv Out c).BodyObligation defs₀ Variants.none () Set.univ := by
  intro t Y hY
  rw [bigSep_W0, bigSep_W0, defs₀_row]
  have h := triple m Inv Out hK c t Y hY
  have e1 := Φ_cast m Inv Out c t
  have e2 := Φ_succ m Inv Out c t
  rw [← e1, ← e2] at h
  exact triple_restated h rfl .rfl fun _ => .rfl

theorem enters (hK : Keeps m Inv Out) (c : Dev nD) :
    iprop(Pipeline.ΦA (U := UR sig nD τ) spec0 c ∗ Pipeline.ΦT (U := UR sig nD τ) pre0 tabs c) ⊢ (rdat m Inv Out c).Φ 0 := by
  show _ ⊢ iprop(Held Inv c 0 ∗ (∃ r, prngReg c r) ∗ Pipeline.ΦT (U := UR sig nD τ) pre0 tabs c)
  unfold Pipeline.ΦA
  rw [scopedRest0_eq]
  unfold Held
  iintro ⟨⟨⟨⟨%s0, S0⟩, ⟨%s1, S1⟩, ⟨%s2, S2⟩, ⟨%s3, S3⟩, ⟨%s4, S4⟩⟩, HP⟩, HT⟩
  isplitl [S0 S1 S2 S3 S4]
  · iexists s0; iexists s1; iexists s2; iexists s3; iexists s4
    isplitr; · ipureintro; exact hK.start _ _ _ _ _
    isplitl [S0]; · iexact S0
    isplitl [S1]; · iexact S1
    isplitl [S2]; · iexact S2
    isplitl [S3]; · iexact S3
    iexact S4
  isplitl [HP]; · iexact HP
  iexact HT

theorem leaves (c : Dev nD) :
    (rdat m Inv Out c).Φ (Fin.last (cfgF (F := F)).N) ⊢ (Pipeline.ΦA (U := UR sig nD τ) spec0 c : sProp 𝕄) := by
  show iprop(Held Inv c _ ∗ (∃ r, prngReg c r) ∗ Pipeline.ΦT (U := UR sig nD τ) pre0 tabs c) ⊢ _
  unfold Pipeline.ΦA
  rw [scopedRest0_eq]
  unfold Held
  iintro ⟨⟨%s0, %s1, %s2, %s3, %s4, -, S0, S1, S2, S3, S4⟩, HP, -⟩
  isplitl [S0 S1 S2 S3 S4]
  · isplitl [S0]; · iexists s0; iexact S0
    isplitl [S1]; · iexists s1; iexact S1
    isplitl [S2]; · iexists s2; iexact S2
    isplitl [S3]; · iexists s3; iexact S3
    iexists s4; iexact S4
  iexact HP

/-- The run: it ends, what the outputs hold is as described, everything else is as the region found it, and the counters
    are at zero. -/
theorem run_kept (hK : Keeps m Inv Out) : θ_run defs (onTc (τ := τ) (main (F := F))) (s₀ m ρ)
    (fun r => RDat.FramePost (cfgF (F := F)) (rdat m Inv Out) (V m) r ∧ r.2.sem = (fun _ => 0)) :=
  RDat.θ_run_frameP_track (Q' := _) pcfgs (fun _ => adm) 0 launch0 defs₀ Variants.none (rdat m Inv Out) m ρ main
    (obligation m Inv Out hK) (fun c => (rdat m Inv Out c).share_full fun _ => rfl) (fun _ _ => rfl) (V m) (hmain m Variants.none)
    (fun _ _ => rfl) (fun c k => by
      match k with
      | 0 => exact V_row m c
      | 1 => exact V_col m c)
    (enters m Inv Out hK) (leaves m Inv Out)

end Cert.Fox
-- ==== Proof.FoxTile.lean ====
module

public import proofs.«01_k».proof.Proof.FoxFrame

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The heads, last first. -/
abbrev heads8 : List (Fin 8) := [7, 6, 5, 4, 3, 2, 1, 0]

/-! ## Eight read-modify-writes, one after another -/

section
variable {sig' : RefSig} {κ : Kind} {sp : Space} {s : Shape} {e : EltTy} {Val : EltTy → Type}

/-- The writes of a list of heads, newest first: each stores, through the head's rectangle, the update of what it reads
    there. -/
def chain (v : View sig' κ sp s e) (b : v.ty.Contents Val) (L0 : List (View.Piece Val s e)) (R : Fin 8 → Rect s)
    (up : (h : Fin 8) → ((R h).shape.Idx → Val e) → ((R h).shape.Idx → Val e)) : List (Fin 8) → List (View.Piece Val s e)
  | [] => L0
  | h :: hs => ⟨R h, up h (v.readAt Val (R h).toLoadRect (v.writes Val b (chain v b L0 R up hs)))⟩ :: chain v b L0 R up hs

/-- One write per head. -/
def plain (R : Fin 8 → Rect s) (w : (h : Fin 8) → ((R h).shape.Idx → Val e)) : List (View.Piece Val s e) :=
  heads8.map fun h => ⟨R h, w h⟩
end

/-! ## The rectangles -/

theorem col_inb (h : Fin 8) : ∀ a, (![0, 128 * h.val] : Fin 2 → ℕ) a + S512x128.size a ≤ S512x1024.size a := by
  revert h; decide +kernel
theorem half_inb (h : Fin 8) : ∀ a, (![0, 128 * h.val] : Fin 2 → ℕ) a + S512x64.size a ≤ S512x1024.size a := by
  revert h; decide +kernel
theorem tall_inb (h : Fin 8) : ∀ a, (![0, 128 * h.val] : Fin 2 → ℕ) a + S4096x64.size a ≤ S4096x1024.size a := by
  revert h; decide +kernel
theorem out_inb (h : Fin 8) : ∀ a, (![0, 64 * h.val] : Fin 2 → ℕ) a + S512x64.size a ≤ S512x512.size a := by
  revert h; decide +kernel
theorem outTall_inb (h : Fin 8) : ∀ a, (![0, 64 * h.val] : Fin 2 → ℕ) a + S4096x64.size a ≤ S4096x512.size a := by
  revert h; decide +kernel
theorem head_inb (h : Fin 8) : ∀ a, (![h.val, 0, 0] : Fin 3 → ℕ) a + S1x512x1.size a ≤ S8x512x1.size a := by
  revert h; decide +kernel

/-- A head's columns of a tile; -/
abbrev colR (h : Fin 8) : Rect S512x1024 := Rect.unit ![0, 128 * h.val] S512x128.size (col_inb h)
/-- the first half of them; -/
abbrev halfR (h : Fin 8) : Rect S512x1024 := Rect.unit ![0, 128 * h.val] S512x64.size (half_inb h)
abbrev tallR (h : Fin 8) : Rect S4096x1024 := Rect.unit ![0, 128 * h.val] S4096x64.size (tall_inb h)
/-- a head's columns of an output; -/
abbrev outR (h : Fin 8) : Rect S512x512 := Rect.unit ![0, 64 * h.val] S512x64.size (out_inb h)
abbrev outTallR (h : Fin 8) : Rect S4096x512 := Rect.unit ![0, 64 * h.val] S4096x64.size (outTall_inb h)
/-- a head's column sums. -/
abbrev headR (h : Fin 8) : Rect S8x512x1 := Rect.unit ![h.val, 0, 0] S1x512x1.size (head_inb h)

/-- The first row of the query tile a word names. -/
abbrev rowOff (w : BitVec 32) : ℕ := (Scalar.indexCast (Scalar.muli w 512#32) : BitVec 32).toNat

/-- The query tile a word names lies in the arrays. -/
def Fits (w : BitVec 32) : Prop :=
  (∀ (h : Fin 8) (a), (![rowOff w, 128 * h.val] : Fin 2 → ℕ) a + S512x128.size a ≤ S4096x1024.size a)
    ∧ ∀ (h : Fin 8) (a), (![h.val, 0, rowOff w] : Fin 3 → ℕ) a + S1x1x512.size a ≤ S8x1x4096.size a

/-- A head's columns of the query tile's rows; -/
abbrev rowsR (w : BitVec 32) (hw : Fits w) (h : Fin 8) : Rect S4096x1024 := Rect.unit ![rowOff w, 128 * h.val] S512x128.size (hw.1 h)
/-- a head's row sums of the query tile. -/
abbrev lineR (w : BitVec 32) (hw : Fits w) (h : Fin 8) : Rect S8x1x4096 := Rect.unit ![h.val, 0, rowOff w] S1x1x512.size (hw.2 h)

/-! ## The updates -/

/-- A head's columns of a staged tile. -/
def colOf (A : Memref sig .tc .vmem S512x1024 .bf16) (c : Dev nD) (f : Buf (Elt F) (A.view.loc (c : Thread nD τ))) (h : Fin 8) : Vec F S512x128 .bf16 :=
  A.view.readAt (Elt F) (colR h).toLoadRect f

def upDv (p : FVec F S512x512 .f32) (d : Vec F S512x128 .bf16) (old : Vec F S512x128 .f32) : FVec F S512x128 .f32 :=
  addf old (matmul dot_S512x512_S512x128_S512x128_1_0_0_1_n_n none (truncf .bf16 p bitsLt_bf16_f32) (shapeCast S512x128 d shapeCasts_S512x128_S512x128)
    (constant S512x128 .f32 0x00000000#32))

def upDq (p : FVec F S512x512 .f32) (d : Vec F S512x128 .bf16) (old : Vec F S512x128 .f32) : FVec F S512x128 .f32 :=
  addf old (matmul dot_S512x512_S512x128_S512x128_0_0_1_1_n_n none (truncf .bf16 p bitsLt_bf16_f32) (shapeCast S512x128 d shapeCasts_S512x128_S512x128)
    (constant S512x128 .f32 0x00000000#32))

/-- With the cast that a store of the whole shape makes. -/
abbrev recast (x : FVec F S512x128 .f32) : FVec F S512x128 .f32 := shapeCast S512x128 x shapeCasts_S512x128_S512x128

def upDc (p : FVec F S512x512 .f32) (old : Vec F S1x512x1 .f32) : FVec F S1x512x1 .f32 :=
  shapeCast S1x512x1 (addf (shapeCast S512x1 old shapeCasts_S1x512x1_S512x1 : FVec F S512x1 .f32) (shapeCast S512x1
    (multiReduction .add [1] S512 p 0x00000000#32 reduces_S512x512_S512 (.inl rfl) rfl : FVec F S512 .f32) shapeCasts_S512_S512x1)) shapeCasts_S512x1_S1x512x1

def upDr (p : FVec F S512x512 .f32) (old : Vec F S1x1x512 .f32) : FVec F S1x1x512 .f32 :=
  shapeCast S1x1x512 (addf (shapeCast S1x512 old shapeCasts_S1x1x512_S1x512 : FVec F S1x512 .f32) (shapeCast S1x512
    (multiReduction .add [0] S512 p 0x00000000#32 reduces_S512x512_S512_2 (.inl rfl) rfl : FVec F S512 .f32) shapeCasts_S512_S1x512)) shapeCasts_S1x512_S1x1x512

def outDc (x : Vec F S1x512x1 .f32) : FVec F S512x64 .f32 :=
  broadcastTo S512x64 (shapeCast S512x1 (shapeCast S512x1 x shapeCasts_S1x512x1_S512x1) shapeCasts_S512x1_S512x1) broadcasts_S512x1_S512x64

/-- What the scratch buffers hold after a tile, the heads' probabilities and their gradients given. -/
abbrev zDq (w : BitVec 32) (hw : Fits w) (dst : Fin 8 → FVec F S512x512 .f32) (k : Fin 8 → Vec F S512x128 .bf16)
    (s b : Scr0 (F := F)) (L0 : List (View.Piece (Elt F) S4096x1024 .f32)) : Scr0 (F := F) :=
  (View.whole cc0_scratch0).writes (Elt F) s (chain (View.whole cc0_scratch0) b L0 (rowsR w hw) (fun h old => recast (upDq (dst h) (k h) old)) heads8)
abbrev zDk (dst : Fin 8 → FVec F S512x512 .f32) (q : Fin 8 → Vec F S512x128 .bf16) (s b : Scr1 (F := F)) (L0 : List (View.Piece (Elt F) S512x1024 .f32)) : Scr1 (F := F) :=
  (View.whole cc0_scratch1).writes (Elt F) s (chain (View.whole cc0_scratch1) b L0 colR (fun h old => recast (upDv (dst h) (q h) old)) heads8)
abbrev zDv (pt : Fin 8 → FVec F S512x512 .f32) (d : Fin 8 → Vec F S512x128 .bf16) (s b : Scr2 (F := F)) (L0 : List (View.Piece (Elt F) S512x1024 .f32)) : Scr2 (F := F) :=
  (View.whole cc0_scratch2).writes (Elt F) s (chain (View.whole cc0_scratch2) b L0 colR (fun h old => recast (upDv (pt h) (d h) old)) heads8)
abbrev zDc (dst : Fin 8 → FVec F S512x512 .f32) (s b : Scr3 (F := F)) (L0 : List (View.Piece (Elt F) S8x512x1 .f32)) : Scr3 (F := F) :=
  (View.whole cc0_scratch3).writes (Elt F) s (chain (View.whole cc0_scratch3) b L0 headR (fun h old => upDc (dst h) old) heads8)
abbrev zDr (w : BitVec 32) (hw : Fits w) (dst : Fin 8 → FVec F S512x512 .f32) (s b : Scr4 (F := F)) (L0 : List (View.Piece (Elt F) S8x1x4096 .f32)) : Scr4 (F := F) :=
  (View.whole cc0_scratch4).writes (Elt F) s (chain (View.whole cc0_scratch4) b L0 (lineR w hw) (fun h old => upDr (dst h) old) heads8)

/-- The outputs written at the bottom tile of a column. -/
abbrev oHalf (arg : Memref sig .tc .vmem S512x512 .bf16) (c : Dev nD) (f : Buf (Elt F) (arg.view.loc (c : Thread nD τ))) (z : Fin 8 → Vec F S512x64 .f32) :
    Buf (Elt F) (arg.view.loc (c : Thread nD τ)) :=
  arg.view.writes (Elt F) f (plain outR fun h => truncf .bf16 (z h : FVec F S512x64 .f32) bitsLt_bf16_f32)
abbrev oDc (arg : Memref sig .tc .vmem S512x512 .f32) (c : Dev nD) (f : Buf (Elt F) (arg.view.loc (c : Thread nD τ))) (z : Fin 8 → Vec F S1x512x1 .f32) :
    Buf (Elt F) (arg.view.loc (c : Thread nD τ)) :=
  arg.view.writes (Elt F) f (plain outR fun h => outDc (z h))

section
variable (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .f32) (harg11 : arg11.IsWhole) (arg12 : Memref sig .tc .vmem S8x1x4096 .f32) (harg12 : arg12.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (s0 : Scr0 (F := F)) (s1 : Scr1 (F := F)) (s2 : Scr2 (F := F)) (s3 : Scr3 (F := F)) (s4 : Scr4 (F := F))
    (hk : k0_chk1 (wordAt (F := F) i (Memref.whole main_c) (tabs 0)) (wordAt (F := F) i (Memref.whole main_c_0) (tabs 1)))

set_option maxHeartbeats 4000000 in
/-- What the way leaves, in those terms. -/
theorem outFirst_eq (h1 : Scalar.cmpi .ne (Scalar.extui (Scalar.cmpi .eq (BitVec.ofNat 32 (i 1).val) 0#32) : BitVec 32) 0#32 = 1#1) (h2 : Scalar.cmpi .ne (Scalar.extui (Scalar.cmpi .eq (wordAt (F := F) i (Memref.whole main_c) (tabs 0)) (wordAt (F := F) i (Memref.whole main_c_0) (tabs 1))) : BitVec 32) 0#32 = 1#1) (h3 : ¬ k0_cond3 (wordAt (F := F) i (Memref.whole main_c) (tabs 0)) (wordAt (F := F) i (Memref.whole main_c_0) (tabs 1)) = 1#1) (h4 : k0_cond4 (wordAt (F := F) i (Memref.whole main_c) (tabs 0)) (wordAt (F := F) i (Memref.whole main_c_0) (tabs 1)) = 1#1) (h5 : ¬ k0_cond5 (wordAt (F := F) i (Memref.whole main_c) (tabs 0)) = 1#1) (h6 : ¬ k0_cond6 i = 1#1) (hw : Fits (wordAt (F := F) i (Memref.whole main_c) (tabs 0))) : outFirst c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6 = {
      o0 := f8
      o1 := f9
      o2 := f10
      o3 := f11
      o4 := f12
      z0 := zDq (wordAt (F := F) i (Memref.whole main_c) (tabs 0)) hw (fun h => k0_pay115 (colOf arg4 c f4 h) (colOf arg5 c f5 h) (colOf arg6 c f6 h) (colOf arg7 c f7 h)) (fun h => colOf arg5 c f5 h) ((View.whole cc0_scratch0).junk) ((View.whole cc0_scratch0).junk) ([⟨Rect.unit ![0, 0] ![4096, 1024] inb_S4096x1024_S4096x1024_0_0, k0_pay1⟩])
      z1 := zDk (fun h => k0_pay115 (colOf arg4 c f4 h) (colOf arg5 c f5 h) (colOf arg6 c f6 h) (colOf arg7 c f7 h)) (fun h => colOf arg4 c f4 h) (s1) ((View.whole cc0_scratch1).junk) ([⟨Rect.unit ![0, 0] ![512, 1024] inb_S512x1024_S512x1024_0_0, k0_pay3⟩])
      z2 := zDv (fun h => k0_pay114 (colOf arg4 c f4 h) (colOf arg5 c f5 h)) (fun h => colOf arg7 c f7 h) (s2) ((View.whole cc0_scratch2).junk) ([⟨Rect.unit ![0, 0] ![512, 1024] inb_S512x1024_S512x1024_0_0, k0_pay4⟩])
      z3 := zDc (fun h => k0_pay115 (colOf arg4 c f4 h) (colOf arg5 c f5 h) (colOf arg6 c f6 h) (colOf arg7 c f7 h)) (s3) ((View.whole cc0_scratch3).junk) ([⟨Rect.unit ![0, 0, 0] ![8, 512, 1] inb_S8x512x1_S8x512x1_0_0_0, k0_pay5⟩])
      z4 := zDr (wordAt (F := F) i (Memref.whole main_c) (tabs 0)) hw (fun h => k0_pay115 (colOf arg4 c f4 h) (colOf arg5 c f5 h) (colOf arg6 c f6 h) (colOf arg7 c f7 h)) ((View.whole cc0_scratch4).junk) ((View.whole cc0_scratch4).junk) ([⟨Rect.unit ![0, 0, 0] ![8, 1, 4096] inb_S8x1x4096_S8x1x4096_0_0_0, k0_pay2⟩]) } := by
  sl_kernel_rfl

set_option maxHeartbeats 4000000 in
/-- What the way leaves, in those terms. -/
theorem outBelow_eq (h1 : ¬ Scalar.cmpi .ne (Scalar.extui (Scalar.cmpi .eq (BitVec.ofNat 32 (i 1).val) 0#32) : BitVec 32) 0#32 = 1#1) (h2 : ¬ Scalar.cmpi .ne (Scalar.extui (Scalar.cmpi .eq (wordAt (F := F) i (Memref.whole main_c) (tabs 0)) (wordAt (F := F) i (Memref.whole main_c_0) (tabs 1))) : BitVec 32) 0#32 = 1#1) (h3 : k0_cond3 (wordAt (F := F) i (Memref.whole main_c) (tabs 0)) (wordAt (F := F) i (Memref.whole main_c_0) (tabs 1)) = 1#1) (h4 : ¬ k0_cond4 (wordAt (F := F) i (Memref.whole main_c) (tabs 0)) (wordAt (F := F) i (Memref.whole main_c_0) (tabs 1)) = 1#1) (h5 : ¬ k0_cond5 (wordAt (F := F) i (Memref.whole main_c) (tabs 0)) = 1#1) (h6 : ¬ k0_cond6 i = 1#1) (hw : Fits (wordAt (F := F) i (Memref.whole main_c) (tabs 0))) : outBelow c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6 = {
      o0 := f8
      o1 := f9
      o2 := f10
      o3 := f11
      o4 := f12
      z0 := zDq (wordAt (F := F) i (Memref.whole main_c) (tabs 0)) hw (fun h => k0_pay20 (colOf arg4 c f4 h) (colOf arg5 c f5 h) (colOf arg6 c f6 h) (colOf arg7 c f7 h)) (fun h => colOf arg5 c f5 h) (s0) (s0) ([])
      z1 := (View.whole cc0_scratch1).writes (Elt F) (s1) (plain colR fun h => recast (upDv ((fun h => k0_pay20 (colOf arg4 c f4 h) (colOf arg5 c f5 h) (colOf arg6 c f6 h) (colOf arg7 c f7 h)) h) (colOf arg4 c f4 h) ((View.whole cc0_scratch1).readAt (Elt F) (colR h).toLoadRect s1)))
      z2 := (View.whole cc0_scratch2).writes (Elt F) (s2) (plain colR fun h => recast (upDv ((fun h => k0_pay19 (colOf arg4 c f4 h) (colOf arg5 c f5 h)) h) (colOf arg7 c f7 h) ((View.whole cc0_scratch2).readAt (Elt F) (colR h).toLoadRect s2)))
      z3 := (View.whole cc0_scratch3).writes (Elt F) (s3) (plain headR fun h => upDc ((fun h => k0_pay20 (colOf arg4 c f4 h) (colOf arg5 c f5 h) (colOf arg6 c f6 h) (colOf arg7 c f7 h)) h) ((View.whole cc0_scratch3).readAt (Elt F) (headR h).toLoadRect s3))
      z4 := zDr (wordAt (F := F) i (Memref.whole main_c) (tabs 0)) hw (fun h => k0_pay20 (colOf arg4 c f4 h) (colOf arg5 c f5 h) (colOf arg6 c f6 h) (colOf arg7 c f7 h)) (s4) (s4) ([]) } := by
  sl_kernel_rfl

set_option maxHeartbeats 4000000 in
/-- What the way leaves, in those terms. -/
theorem outBottom_eq (h1 : ¬ Scalar.cmpi .ne (Scalar.extui (Scalar.cmpi .eq (BitVec.ofNat 32 (i 1).val) 0#32) : BitVec 32) 0#32 = 1#1) (h2 : ¬ Scalar.cmpi .ne (Scalar.extui (Scalar.cmpi .eq (wordAt (F := F) i (Memref.whole main_c) (tabs 0)) (wordAt (F := F) i (Memref.whole main_c_0) (tabs 1))) : BitVec 32) 0#32 = 1#1) (h3 : k0_cond3 (wordAt (F := F) i (Memref.whole main_c) (tabs 0)) (wordAt (F := F) i (Memref.whole main_c_0) (tabs 1)) = 1#1) (h4 : ¬ k0_cond4 (wordAt (F := F) i (Memref.whole main_c) (tabs 0)) (wordAt (F := F) i (Memref.whole main_c_0) (tabs 1)) = 1#1) (h5 : k0_cond5 (wordAt (F := F) i (Memref.whole main_c) (tabs 0)) = 1#1) (h6 : ¬ k0_cond6 i = 1#1) (hw : Fits (wordAt (F := F) i (Memref.whole main_c) (tabs 0))) : outBottom c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6 = {
      o0 := f8
      o1 := oHalf arg9 c f9 (fun h => (View.whole cc0_scratch1).readAt (Elt F) (halfR h).toLoadRect ((View.whole cc0_scratch1).writes (Elt F) ((View.whole cc0_scratch1).junk) (plain colR fun h => recast (upDv ((fun h => k0_pay20 (colOf arg4 c f4 h) (colOf arg5 c f5 h) (colOf arg6 c f6 h) (colOf arg7 c f7 h)) h) (colOf arg4 c f4 h) ((View.whole cc0_scratch1).readAt (Elt F) (colR h).toLoadRect s1)))))
      o2 := oHalf arg10 c f10 (fun h => (View.whole cc0_scratch2).readAt (Elt F) (halfR h).toLoadRect ((View.whole cc0_scratch2).writes (Elt F) ((View.whole cc0_scratch2).junk) (plain colR fun h => recast (upDv ((fun h => k0_pay19 (colOf arg4 c f4 h) (colOf arg5 c f5 h)) h) (colOf arg7 c f7 h) ((View.whole cc0_scratch2).readAt (Elt F) (colR h).toLoadRect s2)))))
      o3 := oDc arg11 c f11 (fun h => (View.whole cc0_scratch3).readAt (Elt F) (headR h).toLoadRect ((View.whole cc0_scratch3).writes (Elt F) ((View.whole cc0_scratch3).junk) (plain headR fun h => upDc ((fun h => k0_pay20 (colOf arg4 c f4 h) (colOf arg5 c f5 h) (colOf arg6 c f6 h) (colOf arg7 c f7 h)) h) ((View.whole cc0_scratch3).readAt (Elt F) (headR h).toLoadRect s3))))
      o4 := f12
      z0 := zDq (wordAt (F := F) i (Memref.whole main_c) (tabs 0)) hw (fun h => k0_pay20 (colOf arg4 c f4 h) (colOf arg5 c f5 h) (colOf arg6 c f6 h) (colOf arg7 c f7 h)) (fun h => colOf arg5 c f5 h) (s0) (s0) ([])
      z1 := (View.whole cc0_scratch1).writes (Elt F) (s1) (plain colR fun h => recast (upDv ((fun h => k0_pay20 (colOf arg4 c f4 h) (colOf arg5 c f5 h) (colOf arg6 c f6 h) (colOf arg7 c f7 h)) h) (colOf arg4 c f4 h) ((View.whole cc0_scratch1).readAt (Elt F) (colR h).toLoadRect s1)))
      z2 := (View.whole cc0_scratch2).writes (Elt F) (s2) (plain colR fun h => recast (upDv ((fun h => k0_pay19 (colOf arg4 c f4 h) (colOf arg5 c f5 h)) h) (colOf arg7 c f7 h) ((View.whole cc0_scratch2).readAt (Elt F) (colR h).toLoadRect s2)))
      z3 := (View.whole cc0_scratch3).writes (Elt F) (s3) (plain headR fun h => upDc ((fun h => k0_pay20 (colOf arg4 c f4 h) (colOf arg5 c f5 h) (colOf arg6 c f6 h) (colOf arg7 c f7 h)) h) ((View.whole cc0_scratch3).readAt (Elt F) (headR h).toLoadRect s3))
      z4 := zDr (wordAt (F := F) i (Memref.whole main_c) (tabs 0)) hw (fun h => k0_pay20 (colOf arg4 c f4 h) (colOf arg5 c f5 h) (colOf arg6 c f6 h) (colOf arg7 c f7 h)) (s4) (s4) ([]) } := by
  sl_kernel_rfl

set_option maxHeartbeats 4000000 in
/-- What the way leaves, in those terms. -/
theorem outDiag_eq (h1 : ¬ Scalar.cmpi .ne (Scalar.extui (Scalar.cmpi .eq (BitVec.ofNat 32 (i 1).val) 0#32) : BitVec 32) 0#32 = 1#1) (h2 : Scalar.cmpi .ne (Scalar.extui (Scalar.cmpi .eq (wordAt (F := F) i (Memref.whole main_c) (tabs 0)) (wordAt (F := F) i (Memref.whole main_c_0) (tabs 1))) : BitVec 32) 0#32 = 1#1) (h3 : ¬ k0_cond3 (wordAt (F := F) i (Memref.whole main_c) (tabs 0)) (wordAt (F := F) i (Memref.whole main_c_0) (tabs 1)) = 1#1) (h4 : k0_cond4 (wordAt (F := F) i (Memref.whole main_c) (tabs 0)) (wordAt (F := F) i (Memref.whole main_c_0) (tabs 1)) = 1#1) (h5 : ¬ k0_cond5 (wordAt (F := F) i (Memref.whole main_c) (tabs 0)) = 1#1) (h6 : ¬ k0_cond6 i = 1#1) (hw : Fits (wordAt (F := F) i (Memref.whole main_c) (tabs 0))) : outDiag c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6 = {
      o0 := f8
      o1 := f9
      o2 := f10
      o3 := f11
      o4 := f12
      z0 := zDq (wordAt (F := F) i (Memref.whole main_c) (tabs 0)) hw (fun h => k0_pay115 (colOf arg4 c f4 h) (colOf arg5 c f5 h) (colOf arg6 c f6 h) (colOf arg7 c f7 h)) (fun h => colOf arg5 c f5 h) (s0) (s0) ([])
      z1 := zDk (fun h => k0_pay115 (colOf arg4 c f4 h) (colOf arg5 c f5 h) (colOf arg6 c f6 h) (colOf arg7 c f7 h)) (fun h => colOf arg4 c f4 h) (s1) ((View.whole cc0_scratch1).junk) ([⟨Rect.unit ![0, 0] ![512, 1024] inb_S512x1024_S512x1024_0_0, k0_pay3⟩])
      z2 := zDv (fun h => k0_pay114 (colOf arg4 c f4 h) (colOf arg5 c f5 h)) (fun h => colOf arg7 c f7 h) (s2) ((View.whole cc0_scratch2).junk) ([⟨Rect.unit ![0, 0] ![512, 1024] inb_S512x1024_S512x1024_0_0, k0_pay4⟩])
      z3 := zDc (fun h => k0_pay115 (colOf arg4 c f4 h) (colOf arg5 c f5 h) (colOf arg6 c f6 h) (colOf arg7 c f7 h)) (s3) ((View.whole cc0_scratch3).junk) ([⟨Rect.unit ![0, 0, 0] ![8, 512, 1] inb_S8x512x1_S8x512x1_0_0_0, k0_pay5⟩])
      z4 := zDr (wordAt (F := F) i (Memref.whole main_c) (tabs 0)) hw (fun h => k0_pay115 (colOf arg4 c f4 h) (colOf arg5 c f5 h) (colOf arg6 c f6 h) (colOf arg7 c f7 h)) (s4) (s4) ([]) } := by
  sl_kernel_rfl

set_option maxHeartbeats 4000000 in
/-- What the way leaves, in those terms. -/
theorem outLast_eq (h1 : ¬ Scalar.cmpi .ne (Scalar.extui (Scalar.cmpi .eq (BitVec.ofNat 32 (i 1).val) 0#32) : BitVec 32) 0#32 = 1#1) (h2 : Scalar.cmpi .ne (Scalar.extui (Scalar.cmpi .eq (wordAt (F := F) i (Memref.whole main_c) (tabs 0)) (wordAt (F := F) i (Memref.whole main_c_0) (tabs 1))) : BitVec 32) 0#32 = 1#1) (h3 : ¬ k0_cond3 (wordAt (F := F) i (Memref.whole main_c) (tabs 0)) (wordAt (F := F) i (Memref.whole main_c_0) (tabs 1)) = 1#1) (h4 : k0_cond4 (wordAt (F := F) i (Memref.whole main_c) (tabs 0)) (wordAt (F := F) i (Memref.whole main_c_0) (tabs 1)) = 1#1) (h5 : k0_cond5 (wordAt (F := F) i (Memref.whole main_c) (tabs 0)) = 1#1) (h6 : k0_cond6 i = 1#1) (hw : Fits (wordAt (F := F) i (Memref.whole main_c) (tabs 0))) : outLast c i arg4 harg4 arg5 harg5 arg6 harg6 arg7 harg7 arg8 harg8 arg9 harg9 arg10 harg10 arg11 harg11 arg12 harg12 f4 f5 f6 f7 f8 f9 f10 f11 f12 s0 s1 s2 s3 s4 hk h1 h2 h3 h4 h5 h6 = {
      o0 := arg8.view.writes (Elt F) f8 (plain outTallR fun h => truncf .bf16 (mulf ((View.whole cc0_scratch0).readAt (Elt F) (tallR h).toLoadRect (zDq (wordAt (F := F) i (Memref.whole main_c) (tabs 0)) hw (fun h => k0_pay115 (colOf arg4 c f4 h) (colOf arg5 c f5 h) (colOf arg6 c f6 h) (colOf arg7 c f7 h)) (fun h => colOf arg5 c f5 h) (s0) (s0) ([])) : FVec F S4096x64 .f32) (broadcast S4096x64 (Scalar.ofBits .f32 0x3E000000#32 : F .f32))) bitsLt_bf16_f32)
      o1 := oHalf arg9 c f9 (fun h => (View.whole cc0_scratch1).readAt (Elt F) (halfR h).toLoadRect (zDk (fun h => k0_pay115 (colOf arg4 c f4 h) (colOf arg5 c f5 h) (colOf arg6 c f6 h) (colOf arg7 c f7 h)) (fun h => colOf arg4 c f4 h) ((View.whole cc0_scratch1).junk) ((View.whole cc0_scratch1).junk) ([⟨Rect.unit ![0, 0] ![512, 1024] inb_S512x1024_S512x1024_0_0, k0_pay3⟩])))
      o2 := oHalf arg10 c f10 (fun h => (View.whole cc0_scratch2).readAt (Elt F) (halfR h).toLoadRect (zDv (fun h => k0_pay114 (colOf arg4 c f4 h) (colOf arg5 c f5 h)) (fun h => colOf arg7 c f7 h) ((View.whole cc0_scratch2).junk) ((View.whole cc0_scratch2).junk) ([⟨Rect.unit ![0, 0] ![512, 1024] inb_S512x1024_S512x1024_0_0, k0_pay4⟩])))
      o3 := oDc arg11 c f11 (fun h => (View.whole cc0_scratch3).readAt (Elt F) (headR h).toLoadRect (zDc (fun h => k0_pay115 (colOf arg4 c f4 h) (colOf arg5 c f5 h) (colOf arg6 c f6 h) (colOf arg7 c f7 h)) ((View.whole cc0_scratch3).junk) ((View.whole cc0_scratch3).junk) ([⟨Rect.unit ![0, 0, 0] ![8, 512, 1] inb_S8x512x1_S8x512x1_0_0_0, k0_pay5⟩])))
      o4 := arg12.view.writes (Elt F) f12 [⟨Rect.unit ![0, 0, 0] ![8, 1, 4096] inb_S8x1x4096_S8x1x4096_0_0_0, (View.whole cc0_scratch4).readAt (Elt F) (Rect.unit ![0, 0, 0] ![8, 1, 4096] inb_S8x1x4096_S8x1x4096_0_0_0).toLoadRect (zDr (wordAt (F := F) i (Memref.whole main_c) (tabs 0)) hw (fun h => k0_pay115 (colOf arg4 c f4 h) (colOf arg5 c f5 h) (colOf arg6 c f6 h) (colOf arg7 c f7 h)) (s4) (s4) ([]))⟩]
      z0 := zDq (wordAt (F := F) i (Memref.whole main_c) (tabs 0)) hw (fun h => k0_pay115 (colOf arg4 c f4 h) (colOf arg5 c f5 h) (colOf arg6 c f6 h) (colOf arg7 c f7 h)) (fun h => colOf arg5 c f5 h) (s0) (s0) ([])
      z1 := zDk (fun h => k0_pay115 (colOf arg4 c f4 h) (colOf arg5 c f5 h) (colOf arg6 c f6 h) (colOf arg7 c f7 h)) (fun h => colOf arg4 c f4 h) (s1) ((View.whole cc0_scratch1).junk) ([⟨Rect.unit ![0, 0] ![512, 1024] inb_S512x1024_S512x1024_0_0, k0_pay3⟩])
      z2 := zDv (fun h => k0_pay114 (colOf arg4 c f4 h) (colOf arg5 c f5 h)) (fun h => colOf arg7 c f7 h) (s2) ((View.whole cc0_scratch2).junk) ([⟨Rect.unit ![0, 0] ![512, 1024] inb_S512x1024_S512x1024_0_0, k0_pay4⟩])
      z3 := zDc (fun h => k0_pay115 (colOf arg4 c f4 h) (colOf arg5 c f5 h) (colOf arg6 c f6 h) (colOf arg7 c f7 h)) (s3) ((View.whole cc0_scratch3).junk) ([⟨Rect.unit ![0, 0, 0] ![8, 512, 1] inb_S8x512x1_S8x512x1_0_0_0, k0_pay5⟩])
      z4 := zDr (wordAt (F := F) i (Memref.whole main_c) (tabs 0)) hw (fun h => k0_pay115 (colOf arg4 c f4 h) (colOf arg5 c f5 h) (colOf arg6 c f6 h) (colOf arg7 c f7 h)) (s4) (s4) ([]) } := by
  sl_kernel_rfl

end

end Cert.Fox
-- ==== Proof.FoxPt.lean ====
module

public import proofs.«01_k».proof.Proof.FoxTile
public import proofs.«01_k».proof.Proof.Common

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Every head is among the eight. -/
theorem heads_all : ∀ h : Fin 8, h ∈ heads8 := by decide

/-! ## What a buffer holds after the writes of the heads -/

section
variable {sig' : RefSig} {κ : Kind} {sp : Space} {s : Shape} {e : EltTy} {Val : EltTy → Type}

/-- A buffer whose part of each head is the update of what `g` says it was. -/
def Hit (v : View sig' κ sp s e) (R : Fin 8 → Rect s) (up : (h : Fin 8) → ((R h).shape.Idx → Val e) → ((R h).shape.Idx → Val e))
    (g : s.Idx → Val e) (z : v.ty.Contents Val) : Prop :=
  ∀ h y, v.read Val z ((R h).emb y) = up h (fun y => g ((R h).emb y)) y

variable (v : View sig' κ sp s e) (R : Fin 8 → Rect s) (hR : ∀ h h', h ≠ h' → ∀ y, (R h).emb y ∉ (R h').set)

theorem chain_miss (b s' : v.ty.Contents Val) (L0 : List (View.Piece Val s e)) (up) (g : s.Idx → Val e)
    (hs : ∀ x, v.read Val (v.writes Val s' L0) x = g x) (x : s.Idx) :
    ∀ l : List (Fin 8), (∀ h ∈ l, x ∉ (R h).set) → v.read Val (v.writes Val s' (chain v b L0 R up l)) x = g x
  | [], _ => hs x
  | h :: hs', hx => by
    refine (View.read_writes_cons_miss v _ _ _ _ (hx h (List.mem_cons_self ..))).trans ?_
    exact chain_miss b s' L0 up g hs x hs' fun h' m => hx h' (List.mem_cons_of_mem _ m)

include hR in
theorem chain_hit (b s' : v.ty.Contents Val) (L0 : List (View.Piece Val s e)) (up) (g : s.Idx → Val e)
    (hb : ∀ x, v.read Val (v.writes Val b L0) x = g x) (hs : ∀ x, v.read Val (v.writes Val s' L0) x = g x) :
    ∀ l : List (Fin 8), l.Nodup → ∀ h ∈ l, ∀ y,
      v.read Val (v.writes Val s' (chain v b L0 R up l)) ((R h).emb y) = up h (fun y => g ((R h).emb y)) y
  | [], _, h, m, _ => by cases m
  | h :: hs', hd, h', m, y => by
    rcases List.mem_cons.1 m with rfl | m'
    · refine (View.read_writes_cons_emb v _ (R h') _ _ y).trans ?_
      congr 1
      funext y'
      exact chain_miss v R b b L0 up g hb _ hs' fun h'' m'' => hR h' h'' (fun k => (List.nodup_cons.1 hd).1 (k ▸ m'')) y'
    · refine (View.read_writes_cons_miss v _ _ _ _ (hR h' h (fun k => (List.nodup_cons.1 hd).1 (k ▸ m')) y)).trans ?_
      exact chain_hit b s' L0 up g hb hs hs' (List.nodup_cons.1 hd).2 h' m' y

include hR in
theorem hit_chain (b s' : v.ty.Contents Val) (L0 : List (View.Piece Val s e)) (up) (g : s.Idx → Val e)
    (hb : ∀ x, v.read Val (v.writes Val b L0) x = g x) (hs : ∀ x, v.read Val (v.writes Val s' L0) x = g x) :
    Hit v R up g (v.writes Val s' (chain v b L0 R up heads8)) :=
  fun h y => chain_hit v R hR b s' L0 up g hb hs heads8 (by decide) h (heads_all h) y

include hR in
theorem plain_hit (s' : v.ty.Contents Val) (w : (h : Fin 8) → ((R h).shape.Idx → Val e)) :
    ∀ l : List (Fin 8), l.Nodup → ∀ h ∈ l, ∀ y,
      v.read Val (v.writes Val s' (l.map fun h => (⟨R h, w h⟩ : View.Piece Val s e))) ((R h).emb y) = w h y
  | [], _, h, m, _ => by cases m
  | h :: hs', hd, h', m, y => by
    rcases List.mem_cons.1 m with rfl | m'
    · exact View.read_writes_cons_emb v _ (R h') _ _ y
    · refine (View.read_writes_cons_miss v _ _ _ _ (hR h' h (fun k => (List.nodup_cons.1 hd).1 (k ▸ m')) y)).trans ?_
      exact plain_hit s' w hs' (List.nodup_cons.1 hd).2 h' m' y

theorem plain_miss (s' : v.ty.Contents Val) (w : (h : Fin 8) → ((R h).shape.Idx → Val e)) (x : s.Idx) :
    ∀ l : List (Fin 8), (∀ h ∈ l, x ∉ (R h).set) →
      v.read Val (v.writes Val s' (l.map fun h => (⟨R h, w h⟩ : View.Piece Val s e))) x = v.read Val s' x
  | [], _ => rfl
  | h :: hs', hx => by
    refine (View.read_writes_cons_miss v _ _ _ _ (hx h (List.mem_cons_self ..))).trans ?_
    exact plain_miss s' w x hs' fun h' m => hx h' (List.mem_cons_of_mem _ m)

include hR in
theorem read_plain (s' : v.ty.Contents Val) (w : (h : Fin 8) → ((R h).shape.Idx → Val e)) (h : Fin 8) (y) :
    v.read Val (v.writes Val s' (plain R w)) ((R h).emb y) = w h y :=
  plain_hit v R hR s' w heads8 (by decide) h (heads_all h) y

include hR in
theorem hit_plain (s' b : v.ty.Contents Val) (up : (h : Fin 8) → ((R h).shape.Idx → Val e) → ((R h).shape.Idx → Val e)) :
    Hit v R up (v.read Val s') (v.writes Val b (plain R fun h => up h (v.readAt Val (R h).toLoadRect s'))) :=
  fun h y => read_plain v R hR b (fun h => up h (v.readAt Val (R h).toLoadRect s')) h y

/-- A buffer after one piece of its whole extent. -/
theorem read_full (b : v.ty.Contents Val) (r : Rect s) (w : r.shape.Idx → Val e) (k : Val e) (hw : ∀ x, w x = k)
    (hr : ∀ x, x ∈ r.set) (x : s.Idx) : v.read Val (v.writes Val b [⟨r, w⟩]) x = k :=
  View.read_writes_apply_of_pieces v _ (fun _ => k) [⟨r, w⟩] (fun p hp x => by
    rcases List.mem_cons.1 hp with rfl | hp
    · exact hw x
    · cases hp) x ⟨_, List.mem_cons_self .., hr x⟩
end

/-! ## The rectangles are apart -/

/-- A head's column. -/
abbrev col (h : Fin 8) (e : Fin 128) : Fin 1024 := ⟨128 * h.val + e.val, by omega⟩
/-- A head's column of an output. -/
abbrev ocol (h : Fin 8) (e : Fin 64) : Fin 512 := ⟨64 * h.val + e.val, by omega⟩

theorem val_ne {h h' : Fin 8} (hn : h ≠ h') : h.val ≠ h'.val := fun k => hn (Fin.ext k)

theorem colR_apart  (h h' : Fin 8) (hn : h ≠ h') (y) : (colR h).emb y ∉ (colR h').set := by
  have k := val_ne hn
  have l : (y (1 : Fin 2)).val < 128 := (y 1).isLt
  rw [Rect.mem_set_unit]
  intro m
  have m1 : 128 * h'.val ≤ 128 * h.val + 1 * (y (1 : Fin 2)).val ∧ 128 * h.val + 1 * (y (1 : Fin 2)).val < 128 * h'.val + 128 := m 1
  omega

theorem rowsR_apart (w : BitVec 32) (hw : Fits w) (h h' : Fin 8) (hn : h ≠ h') (y) : (rowsR w hw h).emb y ∉ (rowsR w hw h').set := by
  have k := val_ne hn
  have l : (y (1 : Fin 2)).val < 128 := (y 1).isLt
  rw [Rect.mem_set_unit]
  intro m
  have m1 : 128 * h'.val ≤ 128 * h.val + 1 * (y (1 : Fin 2)).val ∧ 128 * h.val + 1 * (y (1 : Fin 2)).val < 128 * h'.val + 128 := m 1
  omega

theorem headR_apart (h h' : Fin 8) (hn : h ≠ h') (y) : (headR h).emb y ∉ (headR h').set := by
  have k := val_ne hn
  have l : (y (0 : Fin 3)).val < 1 := (y 0).isLt
  rw [Rect.mem_set_unit]
  intro m
  have m1 : h'.val ≤ h.val + 1 * (y (0 : Fin 3)).val ∧ h.val + 1 * (y (0 : Fin 3)).val < h'.val + 1 := m 0
  omega

theorem lineR_apart (w : BitVec 32) (hw : Fits w) (h h' : Fin 8) (hn : h ≠ h') (y) : (lineR w hw h).emb y ∉ (lineR w hw h').set := by
  have k := val_ne hn
  have l : (y (0 : Fin 3)).val < 1 := (y 0).isLt
  rw [Rect.mem_set_unit]
  intro m
  have m1 : h'.val ≤ h.val + 1 * (y (0 : Fin 3)).val ∧ h.val + 1 * (y (0 : Fin 3)).val < h'.val + 1 := m 0
  omega

theorem outR_apart (h h' : Fin 8) (hn : h ≠ h') (y) : (outR h).emb y ∉ (outR h').set := by
  have k := val_ne hn
  have l : (y (1 : Fin 2)).val < 64 := (y 1).isLt
  rw [Rect.mem_set_unit]
  intro m
  have m1 : 64 * h'.val ≤ 64 * h.val + 1 * (y (1 : Fin 2)).val ∧ 64 * h.val + 1 * (y (1 : Fin 2)).val < 64 * h'.val + 64 := m 1
  omega

theorem outTallR_apart (h h' : Fin 8) (hn : h ≠ h') (y) : (outTallR h).emb y ∉ (outTallR h').set := by
  have k := val_ne hn
  have l : (y (1 : Fin 2)).val < 64 := (y 1).isLt
  rw [Rect.mem_set_unit]
  intro m
  have m1 : 64 * h'.val ≤ 64 * h.val + 1 * (y (1 : Fin 2)).val ∧ 64 * h.val + 1 * (y (1 : Fin 2)).val < 64 * h'.val + 64 := m 1
  omega

/-! ## The rectangles' coordinates -/

theorem colR_emb (h : Fin 8) (b : Fin 512) (e : Fin 128) : (colR h).emb (ix2 b e : S512x128.Idx) = (ix2 b (col h e) : S512x1024.Idx) := by
  funext a
  refine Fin.ext ?_
  match a with
  | ⟨0, _⟩ => show 0 + 1 * b.val = b.val; omega
  | ⟨1, _⟩ => show 128 * h.val + 1 * e.val = 128 * h.val + e.val; omega

theorem halfR_emb (h : Fin 8) (b : Fin 512) (e : Fin 64) : (halfR h).emb (ix2 b e : S512x64.Idx) = (ix2 b (col h ⟨e.val, by omega⟩) : S512x1024.Idx) := by
  funext a
  refine Fin.ext ?_
  match a with
  | ⟨0, _⟩ => show 0 + 1 * b.val = b.val; omega
  | ⟨1, _⟩ => show 128 * h.val + 1 * e.val = 128 * h.val + e.val; omega

theorem tallR_emb (h : Fin 8) (b : Fin 4096) (e : Fin 64) : (tallR h).emb (ix2 b e : S4096x64.Idx) = (ix2 b (col h ⟨e.val, by omega⟩) : S4096x1024.Idx) := by
  funext a
  refine Fin.ext ?_
  match a with
  | ⟨0, _⟩ => show 0 + 1 * b.val = b.val; omega
  | ⟨1, _⟩ => show 128 * h.val + 1 * e.val = 128 * h.val + e.val; omega

theorem outR_emb (h : Fin 8) (b : Fin 512) (e : Fin 64) : (outR h).emb (ix2 b e : S512x64.Idx) = (ix2 b (ocol h e) : S512x512.Idx) := by
  funext a
  refine Fin.ext ?_
  match a with
  | ⟨0, _⟩ => show 0 + 1 * b.val = b.val; omega
  | ⟨1, _⟩ => show 64 * h.val + 1 * e.val = 64 * h.val + e.val; omega

theorem outTallR_emb (h : Fin 8) (b : Fin 4096) (e : Fin 64) : (outTallR h).emb (ix2 b e : S4096x64.Idx) = (ix2 b (ocol h e) : S4096x512.Idx) := by
  funext a
  refine Fin.ext ?_
  match a with
  | ⟨0, _⟩ => show 0 + 1 * b.val = b.val; omega
  | ⟨1, _⟩ => show 64 * h.val + 1 * e.val = 64 * h.val + e.val; omega

theorem headR_emb (h : Fin 8) (b : Fin 512) : (headR h).emb (ix3 0 b 0 : S1x512x1.Idx) = (ix3 h b 0 : S8x512x1.Idx) := by
  funext a
  refine Fin.ext ?_
  match a with
  | ⟨0, _⟩ => show h.val + 1 * 0 = h.val; omega
  | ⟨1, _⟩ => show 0 + 1 * b.val = b.val; omega
  | ⟨2, _⟩ => rfl

/-- A row of a tile of the whole array. -/
def at' (J : ℕ) (b : Fin 512) : Fin 4096 := ⟨(512 * J + b.val) % 4096, Nat.mod_lt _ (by decide)⟩

theorem rowsR_emb (w : BitVec 32) (hw : Fits w) (J : ℕ) (hJ : rowOff w = 512 * J) (h : Fin 8) (b : Fin 512) (e : Fin 128) :
    (rowsR w hw h).emb (ix2 b e : S512x128.Idx) = (ix2 (at' J b) (col h e) : S4096x1024.Idx) := by
  have f := hw.1 h 0
  change rowOff w + 512 ≤ 4096 at f
  funext a
  refine Fin.ext ?_
  match a with
  | ⟨0, _⟩ => show rowOff w + 1 * b.val = (512 * J + b.val) % 4096; omega
  | ⟨1, _⟩ => show 128 * h.val + 1 * e.val = 128 * h.val + e.val; omega

theorem lineR_emb (w : BitVec 32) (hw : Fits w) (J : ℕ) (hJ : rowOff w = 512 * J) (h : Fin 8) (b : Fin 512) :
    (lineR w hw h).emb (ix3 0 0 b : S1x1x512.Idx) = (ix3 h 0 (at' J b) : S8x1x4096.Idx) := by
  have f := hw.1 h 0
  change rowOff w + 512 ≤ 4096 at f
  funext a
  refine Fin.ext ?_
  match a with
  | ⟨0, _⟩ => show h.val + 1 * 0 = h.val; omega
  | ⟨1, _⟩ => rfl
  | ⟨2, _⟩ => show rowOff w + 1 * b.val = (512 * J + b.val) % 4096; omega

/-! ## The payloads -/

theorem upDv_at (p : FVec Ideal S512x512 .f32) (d : Vec Ideal S512x128 .bf16) (old : Vec Ideal S512x128 .f32) (b : Fin 512) (e : Fin 128) :
    recast (upDv p d old) (ix2 b e) = old (ix2 b e) + ∑ a : Fin 512, p (ix2 b a) * d (ix2 a e) := by
  unfold recast upDv
  pointwise

theorem upDq_at (p : FVec Ideal S512x512 .f32) (d : Vec Ideal S512x128 .bf16) (old : Vec Ideal S512x128 .f32) (b : Fin 512) (e : Fin 128) :
    recast (upDq p d old) (ix2 b e) = old (ix2 b e) + ∑ a : Fin 512, p (ix2 a b) * d (ix2 a e) := by
  unfold recast upDq
  pointwise

theorem upDc_at (p : FVec Ideal S512x512 .f32) (old : Vec Ideal S1x512x1 .f32) (b : Fin 512) :
    upDc p old (ix3 0 b 0) = old (ix3 0 b 0) + ∑ a : Fin 512, p (ix2 b a) := by
  unfold upDc
  pointwise

theorem upDr_at (p : FVec Ideal S512x512 .f32) (old : Vec Ideal S1x1x512 .f32) (b : Fin 512) :
    upDr p old (ix3 0 0 b) = old (ix3 0 0 b) + ∑ a : Fin 512, p (ix2 a b) := by
  unfold upDr
  pointwise

theorem outDc_at (x : Vec Ideal S1x512x1 .f32) (b : Fin 512) (e : Fin 64) : outDc x (ix2 b e) = x (ix3 0 b 0) := by
  unfold outDc
  pointwise

theorem pay19_at (q k : Vec Ideal S512x128 .bf16) (b a : Fin 512) :
    k0_pay19 q k (ix2 b a) = Ideal.exp (∑ e : Fin 128, k (ix2 b e) * q (ix2 a e)) := by
  unfold_payloads
  pointwise

theorem pay20_at (q k v d : Vec Ideal S512x128 .bf16) (b a : Fin 512) :
    k0_pay20 q k v d (ix2 b a) = k0_pay19 q k (ix2 b a) * ∑ e : Fin 128, v (ix2 b e) * d (ix2 a e) := by
  unfold k0_pay20 k0_pay18
  pointwise

theorem ofBool_decide_eq_one_iff' (p : Prop) [Decidable p] : (BitVec.ofBool (decide p) = 1) = p :=
  propext (by by_cases h : p <;> simp [h])

theorem pay114_at (q k : Vec Ideal S512x128 .bf16) (b a : Fin 512) :
    k0_pay114 q k (ix2 b a) = if b ≤ a then Ideal.exp (∑ e : Fin 128, k (ix2 b e) * q (ix2 a e)) else 0 := by
  unfold_payloads
  pointwise
  unfold Scalar.select
  rw [WordCmp.cmpi_sle_eq, WordCmp.toInt_ofNat_of_lt (show b.val < 2 ^ (32 - 1) by omega), WordCmp.toInt_ofNat_of_lt (show a.val < 2 ^ (32 - 1) by omega)]
  simp only [ofBool_decide_eq_one_iff', Nat.cast_le, Fin.val_fin_le]

theorem pay115_at (q k v d : Vec Ideal S512x128 .bf16) (b a : Fin 512) :
    k0_pay115 q k v d (ix2 b a) = k0_pay114 q k (ix2 b a) * ∑ e : Fin 128, v (ix2 b e) * d (ix2 a e) := by
  unfold k0_pay115 k0_pay113
  pointwise

theorem pay1_at (x : S4096x1024.Idx) : k0_pay1 (F := Ideal) x = 0 := by
  idx_vars x
  unfold_payloads
  pointwise

theorem pay2_at (x : S8x1x4096.Idx) : k0_pay2 (F := Ideal) x = 0 := by
  idx_vars x
  unfold_payloads
  pointwise

theorem pay3_at (x : S512x1024.Idx) : k0_pay3 (F := Ideal) x = 0 := by
  idx_vars x
  unfold_payloads
  pointwise

theorem pay4_at (x : S512x1024.Idx) : k0_pay4 (F := Ideal) x = 0 := by
  idx_vars x
  unfold_payloads
  pointwise

theorem pay5_at (x : S8x512x1.Idx) : k0_pay5 (F := Ideal) x = 0 := by
  idx_vars x
  unfold_payloads
  pointwise

end Cert.Fox
-- ==== Proof.FoxStep.lean ====
module

public import proofs.«01_k».proof.Proof.FoxPt

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The tiles -/

/-- The query tile and the key tile of a point of the grid. -/
def rowN (n : ℕ) : ℕ := ([0, 1, 2, 3, 4, 5, 6, 7, 1, 2, 3, 4, 5, 6, 7, 2, 3, 4, 5, 6, 7, 3, 4, 5, 6, 7, 4, 5, 6, 7, 5, 6, 7, 6, 7, 7] : List ℕ).getD n 0
def colN (n : ℕ) : ℕ := ([0, 0, 0, 0, 0, 0, 0, 0, 1, 1, 1, 1, 1, 1, 1, 2, 2, 2, 2, 2, 2, 3, 3, 3, 3, 3, 4, 4, 4, 4, 5, 5, 5, 6, 6, 7] : List ℕ).getD n 0

/-- What the tables and the conditions of a point say of its tiles. -/
theorem tile_facts : ∀ t : Fin grid0.N,
    t.val < 36 ∧ rowOff (rowW (grid0.coords t)) = 512 * rowN t.val ∧ (rowW (grid0.coords t)).toNat = rowN t.val ∧ (colW (grid0.coords t)).toNat = colN t.val
    ∧ rowN t.val < 8 ∧ colN t.val ≤ rowN t.val
    ∧ (Scalar.cmpi .ne (Scalar.extui (Scalar.cmpi .eq (BitVec.ofNat 32 ((grid0.coords t) 1).val) 0#32) : BitVec 32) 0#32 = 1#1 ↔ t.val = 0)
    ∧ (Scalar.cmpi .ne (Scalar.extui (Scalar.cmpi .eq (rowW (grid0.coords t)) (colW (grid0.coords t))) : BitVec 32) 0#32 = 1#1 ↔ rowN t.val = colN t.val)
    ∧ (k0_cond5 (rowW (grid0.coords t)) = 1#1 ↔ rowN t.val = 7) ∧ (k0_cond6 (grid0.coords t) = 1#1 ↔ t.val = 35) :=
  (by decide +kernel : ∀ t : Fin grid0.N, _)

theorem fits_row (i : grid0.Coords) : Fits (rowW i) := by
  revert i
  unfold Fits
  exact forall_points (by decide +kernel)

/-- The four arrays, a row, a head and a column of the head. -/
structure Mats where
  q : Fin 4096 → Fin 8 → Fin 128 → EReal
  k : Fin 4096 → Fin 8 → Fin 128 → EReal
  v : Fin 4096 → Fin 8 → Fin 128 → EReal
  d : Fin 4096 → Fin 8 → Fin 128 → EReal

namespace Mats
variable (M : Mats)

/-- The probability of key `j` for query `i`, and its gradient. -/
def pt (h : Fin 8) (j i : Fin 4096) : EReal := if j ≤ i then Ideal.exp (∑ e : Fin 128, M.k j h e * M.q i h e) else 0
def ds (h : Fin 8) (j i : Fin 4096) : EReal := M.pt h j i * ∑ e : Fin 128, M.v j h e * M.d i h e

/-- The running sums after `n` points. -/
def dq : ℕ → Fin 4096 → Fin 8 → Fin 128 → EReal
  | 0, _, _, _ => 0
  | n + 1, r, h, e => if r.val / 512 = rowN n then dq n r h e + ∑ b : Fin 512, M.ds h (at' (colN n) b) r * M.k (at' (colN n) b) h e else dq n r h e
def dr : ℕ → Fin 8 → Fin 4096 → EReal
  | 0, _, _ => 0
  | n + 1, h, r => if r.val / 512 = rowN n then dr n h r + ∑ b : Fin 512, M.ds h (at' (colN n) b) r else dr n h r
def dk : ℕ → Fin 512 → Fin 8 → Fin 128 → EReal
  | 0, _, _, _ => 0
  | n + 1, b, h, e => (if rowN n = colN n then 0 else dk n b h e) + ∑ a : Fin 512, M.ds h (at' (colN n) b) (at' (rowN n) a) * M.q (at' (rowN n) a) h e
def dv : ℕ → Fin 512 → Fin 8 → Fin 128 → EReal
  | 0, _, _, _ => 0
  | n + 1, b, h, e => (if rowN n = colN n then 0 else dv n b h e) + ∑ a : Fin 512, M.pt h (at' (colN n) b) (at' (rowN n) a) * M.d (at' (rowN n) a) h e
def dc : ℕ → Fin 8 → Fin 512 → EReal
  | 0, _, _ => 0
  | n + 1, h, b => (if rowN n = colN n then 0 else dc n h b) + ∑ a : Fin 512, M.ds h (at' (colN n) b) (at' (rowN n) a)
end Mats

variable (M : Mats)

/-! ## One tile -/

section
variable {A : Memref sig .tc .vmem S512x1024 .bf16} {c : Dev nD}

theorem colOf_at (f : Buf (Elt Ideal) (A.view.loc (c : Thread nD τ))) (h : Fin 8) (a : Fin 512) (e : Fin 128) :
    colOf A c f h (ix2 a e) = A.view.read (Elt Ideal) f (ix2 a (col h e)) := by
  show A.view.read (Elt Ideal) f ((colR h).emb (ix2 a e)) = _
  rw [colR_emb]

/-- A staged tile holds the rows of tile `J` of an array. -/
def Stages (f : Buf (Elt Ideal) (A.view.loc (c : Thread nD τ))) (x : Fin 4096 → Fin 8 → Fin 128 → EReal) (J : ℕ) : Prop :=
  ∀ h a e, colOf A c f h (ix2 a e) = x (at' J a) h e
end

/-- A head's tile of probabilities, or of their gradients. -/
def IsTile (x : Fin 8 → Fin 4096 → Fin 4096 → EReal) (n : ℕ) (p : Fin 8 → FVec Ideal S512x512 .f32) : Prop :=
  ∀ h b a, p h (ix2 b a) = x h (at' (colN n) b) (at' (rowN n) a)

section
variable {A4 A5 A6 A7 : Memref sig .tc .vmem S512x1024 .bf16} {c : Dev nD}
  {f4 : Buf (Elt Ideal) (A4.view.loc (c : Thread nD τ))} {f5 : Buf (Elt Ideal) (A5.view.loc (c : Thread nD τ))}
  {f6 : Buf (Elt Ideal) (A6.view.loc (c : Thread nD τ))} {f7 : Buf (Elt Ideal) (A7.view.loc (c : Thread nD τ))} {n : ℕ}

theorem pt_diag (hq : Stages f4 M.q (rowN n)) (hk : Stages f5 M.k (colN n)) (hd : rowN n = colN n) (hl : rowN n < 8) :
    IsTile M.pt n fun h => k0_pay114 (colOf A4 c f4 h) (colOf A5 c f5 h) := by
  intro h b a
  refine (pay114_at _ _ b a).trans ?_
  unfold Mats.pt
  simp only [hq h, hk h]
  have e : at' (colN n) b ≤ at' (rowN n) a ↔ b ≤ a := by
    rw [hd] at hl ⊢
    show (512 * colN n + b.val) % 4096 ≤ (512 * colN n + a.val) % 4096 ↔ b.val ≤ a.val
    omega
  simp only [e]

theorem pt_below (hq : Stages f4 M.q (rowN n)) (hk : Stages f5 M.k (colN n)) (hd : colN n < rowN n) (hl : rowN n < 8) :
    IsTile M.pt n fun h => k0_pay19 (colOf A4 c f4 h) (colOf A5 c f5 h) := by
  intro h b a
  refine (pay19_at _ _ b a).trans ?_
  unfold Mats.pt
  have e : at' (colN n) b ≤ at' (rowN n) a := by
    show (512 * colN n + b.val) % 4096 ≤ (512 * rowN n + a.val) % 4096
    omega
  rw [if_pos e]
  simp only [hq h, hk h]

theorem ds_diag (hq : Stages f4 M.q (rowN n)) (hk : Stages f5 M.k (colN n)) (hv : Stages f6 M.v (colN n)) (ho : Stages f7 M.d (rowN n))
    (hd : rowN n = colN n) (hl : rowN n < 8) :
    IsTile M.ds n fun h => k0_pay115 (colOf A4 c f4 h) (colOf A5 c f5 h) (colOf A6 c f6 h) (colOf A7 c f7 h) := by
  intro h b a
  refine (pay115_at _ _ _ _ b a).trans ?_
  unfold Mats.ds
  rw [← pt_diag M hq hk hd hl h b a]
  simp only [hv h, ho h]

theorem ds_below (hq : Stages f4 M.q (rowN n)) (hk : Stages f5 M.k (colN n)) (hv : Stages f6 M.v (colN n)) (ho : Stages f7 M.d (rowN n))
    (hd : colN n < rowN n) (hl : rowN n < 8) :
    IsTile M.ds n fun h => k0_pay20 (colOf A4 c f4 h) (colOf A5 c f5 h) (colOf A6 c f6 h) (colOf A7 c f7 h) := by
  intro h b a
  refine (pay20_at _ _ _ _ b a).trans ?_
  unfold Mats.ds
  rw [← pt_below M hq hk hd hl h b a]
  simp only [hv h, ho h]
end

/-! ## What each buffer holds after a tile -/

section
variable {n : ℕ} {p : Fin 8 → FVec Ideal S512x512 .f32} {d : Fin 8 → Vec Ideal S512x128 .bf16}
variable {sig' : RefSig} {κ : Kind} {sp : Space}

theorem hold_dk {v : View sig' κ sp S512x1024 .f32} (hp : IsTile M.ds n p) (hd : ∀ h a e, d h (ix2 a e) = M.q (at' (rowN n) a) h e)
    {g : S512x1024.Idx → EReal} (hg : ∀ b h e, g (ix2 b (col h e)) = if rowN n = colN n then 0 else M.dk n b h e) {z}
    (hz : Hit (Val := Elt Ideal) v colR (fun h old => recast (upDv (p h) (d h) old)) g z) (b h e) :
    v.read (Elt Ideal) z (ix2 b (col h e)) = M.dk (n + 1) b h e := by
  have k := hz h (ix2 b e)
  rw [colR_emb] at k
  refine k.trans ((upDv_at _ _ _ b e).trans ?_)
  simp only [hp h, hd h]
  rw [colR_emb, hg]
  rfl

theorem hold_dv {v : View sig' κ sp S512x1024 .f32} (hp : IsTile M.pt n p) (hd : ∀ h a e, d h (ix2 a e) = M.d (at' (rowN n) a) h e)
    {g : S512x1024.Idx → EReal} (hg : ∀ b h e, g (ix2 b (col h e)) = if rowN n = colN n then 0 else M.dv n b h e) {z}
    (hz : Hit (Val := Elt Ideal) v colR (fun h old => recast (upDv (p h) (d h) old)) g z) (b h e) :
    v.read (Elt Ideal) z (ix2 b (col h e)) = M.dv (n + 1) b h e := by
  have k := hz h (ix2 b e)
  rw [colR_emb] at k
  refine k.trans ((upDv_at _ _ _ b e).trans ?_)
  simp only [hp h, hd h]
  rw [colR_emb, hg]
  rfl

theorem hold_dc {v : View sig' κ sp S8x512x1 .f32} (hp : IsTile M.ds n p)
    {g : S8x512x1.Idx → EReal} (hg : ∀ h b, g (ix3 h b 0) = if rowN n = colN n then 0 else M.dc n h b) {z}
    (hz : Hit (Val := Elt Ideal) v headR (fun h old => upDc (p h) old) g z) (h b) :
    v.read (Elt Ideal) z (ix3 h b 0) = M.dc (n + 1) h b := by
  have k := hz h (ix3 0 b 0)
  rw [headR_emb] at k
  refine k.trans ((upDc_at _ _ b).trans ?_)
  simp only [hp h]
  rw [headR_emb, hg]
  rfl

theorem hold_dq {v : View sig' κ sp S4096x1024 .f32} {w : BitVec 32} {hw : Fits w} (hJ : rowOff w = 512 * rowN n) (hl : rowN n < 8)
    (hp : IsTile M.ds n p) (hd : ∀ h a e, d h (ix2 a e) = M.k (at' (colN n) a) h e)
    {g : S4096x1024.Idx → EReal} (hg : ∀ r h e, g (ix2 r (col h e)) = M.dq n r h e) {z}
    (hz : Hit (Val := Elt Ideal) v (rowsR w hw) (fun h old => recast (upDq (p h) (d h) old)) g z)
    (hm : ∀ x, (∀ h ∈ heads8, x ∉ (rowsR w hw h).set) → v.read (Elt Ideal) z x = g x) (r h e) :
    v.read (Elt Ideal) z (ix2 r (col h e)) = M.dq (n + 1) r h e := by
  unfold Mats.dq
  split
  · rename_i hr
    obtain ⟨b, rfl⟩ : ∃ b : Fin 512, at' (rowN n) b = r := ⟨⟨r.val % 512, Nat.mod_lt _ (by decide)⟩, Fin.ext (by
      show (512 * rowN n + r.val % 512) % 4096 = r.val
      omega)⟩
    have k := hz h (ix2 b e)
    rw [rowsR_emb w hw _ hJ] at k
    refine k.trans ((upDq_at _ _ _ b e).trans ?_)
    simp only [hp h, hd h]
    rw [rowsR_emb w hw _ hJ, hg]
  · rename_i hr
    rw [hm _ fun h' _ => ?_, hg]
    rw [Rect.mem_set_unit]
    intro m
    have m0 : rowOff w ≤ r.val ∧ r.val < rowOff w + 512 := m 0
    omega

theorem hold_dr {v : View sig' κ sp S8x1x4096 .f32} {w : BitVec 32} {hw : Fits w} (hJ : rowOff w = 512 * rowN n) (hl : rowN n < 8)
    (hp : IsTile M.ds n p)
    {g : S8x1x4096.Idx → EReal} (hg : ∀ h r, g (ix3 h 0 r) = M.dr n h r) {z}
    (hz : Hit (Val := Elt Ideal) v (lineR w hw) (fun h old => upDr (p h) old) g z)
    (hm : ∀ x, (∀ h ∈ heads8, x ∉ (lineR w hw h).set) → v.read (Elt Ideal) z x = g x) (h r) :
    v.read (Elt Ideal) z (ix3 h 0 r) = M.dr (n + 1) h r := by
  unfold Mats.dr
  split
  · rename_i hr
    obtain ⟨b, rfl⟩ : ∃ b : Fin 512, at' (rowN n) b = r := ⟨⟨r.val % 512, Nat.mod_lt _ (by decide)⟩, Fin.ext (by
      show (512 * rowN n + r.val % 512) % 4096 = r.val
      omega)⟩
    have k := hz h (ix3 0 0 b)
    rw [lineR_emb w hw _ hJ] at k
    refine k.trans ((upDr_at _ _ b).trans ?_)
    simp only [hp h]
    rw [lineR_emb w hw _ hJ, hg]
  · rename_i hr
    rw [hm _ fun h' _ => ?_, hg]
    rw [Rect.mem_set_unit]
    intro m
    have m0 : rowOff w ≤ r.val ∧ r.val < rowOff w + 512 := m 2
    omega
end

/-! ## Buffers just zeroed -/

theorem full_zero {s : Shape} {off : Fin s.rank → ℕ} (inb : ∀ a, off a + s.size a ≤ s.size a) (x : s.Idx) :
    x ∈ (Rect.unit (s := s) off s.size inb).set := by
  rw [Rect.mem_set_unit]
  intro a
  have h := inb a
  have l := (x a).isLt
  omega

section
variable {sig' : RefSig} {κ : Kind} {sp : Space}
theorem zeroed0 (v : View sig' κ sp S4096x1024 .f32) (b : v.ty.Contents (Elt Ideal)) (x : S4096x1024.Idx) : v.read (Elt Ideal) (v.writes (Elt Ideal) b
    [⟨Rect.unit ![0, 0] ![4096, 1024] inb_S4096x1024_S4096x1024_0_0, k0_pay1 (F := Ideal)⟩]) x = (0 : EReal) :=
  read_full (Val := Elt Ideal) v b (Rect.unit (s := S4096x1024) ![0, 0] S4096x1024.size inb_S4096x1024_S4096x1024_0_0) (k0_pay1 (F := Ideal)) (0 : EReal) pay1_at (full_zero (s := S4096x1024) (off := ![0, 0]) inb_S4096x1024_S4096x1024_0_0) x
theorem zeroed1 (v : View sig' κ sp S512x1024 .f32) (b : v.ty.Contents (Elt Ideal)) (x : S512x1024.Idx) : v.read (Elt Ideal) (v.writes (Elt Ideal) b
    [⟨Rect.unit ![0, 0] ![512, 1024] inb_S512x1024_S512x1024_0_0, k0_pay3 (F := Ideal)⟩]) x = (0 : EReal) :=
  read_full (Val := Elt Ideal) v b (Rect.unit (s := S512x1024) ![0, 0] S512x1024.size inb_S512x1024_S512x1024_0_0) (k0_pay3 (F := Ideal)) (0 : EReal) pay3_at (full_zero (s := S512x1024) (off := ![0, 0]) inb_S512x1024_S512x1024_0_0) x
theorem zeroed2 (v : View sig' κ sp S512x1024 .f32) (b : v.ty.Contents (Elt Ideal)) (x : S512x1024.Idx) : v.read (Elt Ideal) (v.writes (Elt Ideal) b
    [⟨Rect.unit ![0, 0] ![512, 1024] inb_S512x1024_S512x1024_0_0, k0_pay4 (F := Ideal)⟩]) x = (0 : EReal) :=
  read_full (Val := Elt Ideal) v b (Rect.unit (s := S512x1024) ![0, 0] S512x1024.size inb_S512x1024_S512x1024_0_0) (k0_pay4 (F := Ideal)) (0 : EReal) pay4_at (full_zero (s := S512x1024) (off := ![0, 0]) inb_S512x1024_S512x1024_0_0) x
theorem zeroed3 (v : View sig' κ sp S8x512x1 .f32) (b : v.ty.Contents (Elt Ideal)) (x : S8x512x1.Idx) : v.read (Elt Ideal) (v.writes (Elt Ideal) b
    [⟨Rect.unit ![0, 0, 0] ![8, 512, 1] inb_S8x512x1_S8x512x1_0_0_0, k0_pay5 (F := Ideal)⟩]) x = (0 : EReal) :=
  read_full (Val := Elt Ideal) v b (Rect.unit (s := S8x512x1) ![0, 0, 0] S8x512x1.size inb_S8x512x1_S8x512x1_0_0_0) (k0_pay5 (F := Ideal)) (0 : EReal) pay5_at (full_zero (s := S8x512x1) (off := ![0, 0, 0]) inb_S8x512x1_S8x512x1_0_0_0) x
theorem zeroed4 (v : View sig' κ sp S8x1x4096 .f32) (b : v.ty.Contents (Elt Ideal)) (x : S8x1x4096.Idx) : v.read (Elt Ideal) (v.writes (Elt Ideal) b
    [⟨Rect.unit ![0, 0, 0] ![8, 1, 4096] inb_S8x1x4096_S8x1x4096_0_0_0, k0_pay2 (F := Ideal)⟩]) x = (0 : EReal) :=
  read_full (Val := Elt Ideal) v b (Rect.unit (s := S8x1x4096) ![0, 0, 0] S8x1x4096.size inb_S8x1x4096_S8x1x4096_0_0_0) (k0_pay2 (F := Ideal)) (0 : EReal) pay2_at (full_zero (s := S8x1x4096) (off := ![0, 0, 0]) inb_S8x1x4096_S8x1x4096_0_0_0) x
end

end Cert.Fox
-- ==== Proof.FoxKeeps.lean ====
module

public import proofs.«01_k».proof.Proof.FoxStep

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

/-- The four arrays the call stages. -/
def mats : Mats where
  q r h e := V m 0 main_v51 (ix2 r (col h e))
  k r h e := V m 0 main_v67 (ix2 r (col h e))
  v r h e := V m 0 main_v71 (ix2 r (col h e))
  d r h e := V m 0 main_v85 (ix2 r (col h e))

/-- What the scratch buffers hold after `n` points. -/
def Sums (n : ℕ) (s0 : Scr0 (F := Ideal)) (s1 : Scr1 (F := Ideal)) (s2 : Scr2 (F := Ideal)) (s3 : Scr3 (F := Ideal)) (s4 : Scr4 (F := Ideal)) : Prop :=
  n ≠ 0 → (∀ r h e, (View.whole cc0_scratch0).read (Elt Ideal) s0 (ix2 r (col h e)) = (mats m).dq n r h e)
    ∧ (∀ b h e, (View.whole cc0_scratch1).read (Elt Ideal) s1 (ix2 b (col h e)) = (mats m).dk n b h e)
    ∧ (∀ b h e, (View.whole cc0_scratch2).read (Elt Ideal) s2 (ix2 b (col h e)) = (mats m).dv n b h e)
    ∧ (∀ h b, (View.whole cc0_scratch3).read (Elt Ideal) s3 (ix3 h b 0) = (mats m).dc n h b)
    ∧ ∀ h r, (View.whole cc0_scratch4).read (Elt Ideal) s4 (ix3 h 0 r) = (mats m).dr n h r

/-- What the outputs' staging buffers hold at the points that write them. -/
def Wrote4 (t : Fin grid0.N) (f : S4096x512.Idx → EReal) : Prop :=
  t.val = 35 → ∀ r h e, f (ix2 r (ocol h e)) = (mats m).dq (t.val + 1) r h ⟨e.val, by omega⟩ * Ideal.ofBits .f32 0x3E000000#32
def Wrote5 (t : Fin grid0.N) (f : S512x512.Idx → EReal) : Prop :=
  rowN t.val = 7 → ∀ b h e, f (ix2 b (ocol h e)) = (mats m).dk (t.val + 1) b h ⟨e.val, by omega⟩
def Wrote6 (t : Fin grid0.N) (f : S512x512.Idx → EReal) : Prop :=
  rowN t.val = 7 → ∀ b h e, f (ix2 b (ocol h e)) = (mats m).dv (t.val + 1) b h ⟨e.val, by omega⟩
def Wrote7 (t : Fin grid0.N) (f : S512x512.Idx → EReal) : Prop :=
  rowN t.val = 7 → ∀ (b : Fin 512) (h : Fin 8) (e : Fin 64), f (ix2 b (ocol h e)) = (mats m).dc (t.val + 1) h b
def Wrote8 (t : Fin grid0.N) (f : S8x1x4096.Idx → EReal) : Prop :=
  t.val = 35 → ∀ h r, f (ix3 h 0 r) = (mats m).dr (t.val + 1) h r

def Wrote : (w : Fin 9) → Fin grid0.N → ((spec0 w).block.Idx → Elt Ideal (spec0 w).elt) → Prop
  | 0, _, _ => True
  | 1, _, _ => True
  | 2, _, _ => True
  | 3, _, _ => True
  | 4, t, f => Wrote4 m t f
  | 5, t, f => Wrote5 m t f
  | 6, t, f => Wrote6 m t f
  | 7, t, f => Wrote7 m t f
  | 8, t, f => Wrote8 m t f
  | ⟨_ + 9, h⟩, _, _ => absurd h (Nat.not_lt.2 (Nat.le_add_left _ _))

section
variable {A : Memref sig .tc .vmem S512x1024 .bf16} {c : Dev nD} {t : Fin grid0.N}

theorem iblk0_at (y : S512x1024.Idx) : iblk m c 0 t y = V m c main_v51 ((((cfgF (F := Ideal)).win 0).blk t).view.emb y) := rfl

theorem stages0 {f : Buf (Elt Ideal) (A.view.loc (c : Thread nD τ))} (hf : A.view.read (Elt Ideal) f = iblk m c 0 t) :
    Stages f (mats m).q (rowN t.val) := by
  intro h a e
  obtain ⟨hN, -, hr, hc, hl, hle, -⟩ := tile_facts t
  have hc0 : c = 0 := Subsingleton.elim _ _
  subst hc0
  refine (colOf_at f h a e).trans ((congrFun hf _).trans ((iblk0_at m (ix2 a (col h e))).trans ?_))
  show _ = V m 0 main_v51 (ix2 (at' (rowN t.val) a) (col h e))
  refine congrArg (V m 0 main_v51) (?_ : (((cfgF (F := Ideal)).win 0).blk t).view.emb (ix2 a (col h e) : S512x1024.Idx) = (ix2 (at' (rowN t.val) a) (col h e) : S4096x1024.Idx))
  funext x
  refine Fin.ext ((Pipeline.Window.rect_emb_val ((cfgF (F := Ideal)).win 0) t (ix2 a (col h e) : S512x1024.Idx) x).trans ?_)
  have ht : ((cfgF (F := Ideal)).win 0).index t = _ := tr0 (F := Ideal) (grid0.coords t)
  rw [ht]
  match x with
  | ⟨0, _⟩ =>
    show (rowW (grid0.coords t)).toNat * 512 + a.val = (512 * rowN t.val + a.val) % 4096
    omega
  | ⟨1, _⟩ =>
    show 0 * 1024 + (col h e).val = (col h e).val
    omega

theorem iblk1_at (y : S512x1024.Idx) : iblk m c 1 t y = V m c main_v67 ((((cfgF (F := Ideal)).win 1).blk t).view.emb y) := rfl

theorem stages1 {f : Buf (Elt Ideal) (A.view.loc (c : Thread nD τ))} (hf : A.view.read (Elt Ideal) f = iblk m c 1 t) :
    Stages f (mats m).k (colN t.val) := by
  intro h a e
  obtain ⟨hN, -, hr, hc, hl, hle, -⟩ := tile_facts t
  have hc0 : c = 0 := Subsingleton.elim _ _
  subst hc0
  refine (colOf_at f h a e).trans ((congrFun hf _).trans ((iblk1_at m (ix2 a (col h e))).trans ?_))
  show _ = V m 0 main_v67 (ix2 (at' (colN t.val) a) (col h e))
  refine congrArg (V m 0 main_v67) (?_ : (((cfgF (F := Ideal)).win 1).blk t).view.emb (ix2 a (col h e) : S512x1024.Idx) = (ix2 (at' (colN t.val) a) (col h e) : S4096x1024.Idx))
  funext x
  refine Fin.ext ((Pipeline.Window.rect_emb_val ((cfgF (F := Ideal)).win 1) t (ix2 a (col h e) : S512x1024.Idx) x).trans ?_)
  have ht : ((cfgF (F := Ideal)).win 1).index t = _ := tr1 (F := Ideal) (grid0.coords t)
  rw [ht]
  match x with
  | ⟨0, _⟩ =>
    show (colW (grid0.coords t)).toNat * 512 + a.val = (512 * colN t.val + a.val) % 4096
    omega
  | ⟨1, _⟩ =>
    show 0 * 1024 + (col h e).val = (col h e).val
    omega

theorem iblk2_at (y : S512x1024.Idx) : iblk m c 2 t y = V m c main_v71 ((((cfgF (F := Ideal)).win 2).blk t).view.emb y) := rfl

theorem stages2 {f : Buf (Elt Ideal) (A.view.loc (c : Thread nD τ))} (hf : A.view.read (Elt Ideal) f = iblk m c 2 t) :
    Stages f (mats m).v (colN t.val) := by
  intro h a e
  obtain ⟨hN, -, hr, hc, hl, hle, -⟩ := tile_facts t
  have hc0 : c = 0 := Subsingleton.elim _ _
  subst hc0
  refine (colOf_at f h a e).trans ((congrFun hf _).trans ((iblk2_at m (ix2 a (col h e))).trans ?_))
  show _ = V m 0 main_v71 (ix2 (at' (colN t.val) a) (col h e))
  refine congrArg (V m 0 main_v71) (?_ : (((cfgF (F := Ideal)).win 2).blk t).view.emb (ix2 a (col h e) : S512x1024.Idx) = (ix2 (at' (colN t.val) a) (col h e) : S4096x1024.Idx))
  funext x
  refine Fin.ext ((Pipeline.Window.rect_emb_val ((cfgF (F := Ideal)).win 2) t (ix2 a (col h e) : S512x1024.Idx) x).trans ?_)
  have ht : ((cfgF (F := Ideal)).win 2).index t = _ := tr2 (F := Ideal) (grid0.coords t)
  rw [ht]
  match x with
  | ⟨0, _⟩ =>
    show (colW (grid0.coords t)).toNat * 512 + a.val = (512 * colN t.val + a.val) % 4096
    omega
  | ⟨1, _⟩ =>
    show 0 * 1024 + (col h e).val = (col h e).val
    omega

theorem iblk3_at (y : S512x1024.Idx) : iblk m c 3 t y = V m c main_v85 ((((cfgF (F := Ideal)).win 3).blk t).view.emb y) := rfl

theorem stages3 {f : Buf (Elt Ideal) (A.view.loc (c : Thread nD τ))} (hf : A.view.read (Elt Ideal) f = iblk m c 3 t) :
    Stages f (mats m).d (rowN t.val) := by
  intro h a e
  obtain ⟨hN, -, hr, hc, hl, hle, -⟩ := tile_facts t
  have hc0 : c = 0 := Subsingleton.elim _ _
  subst hc0
  refine (colOf_at f h a e).trans ((congrFun hf _).trans ((iblk3_at m (ix2 a (col h e))).trans ?_))
  show _ = V m 0 main_v85 (ix2 (at' (rowN t.val) a) (col h e))
  refine congrArg (V m 0 main_v85) (?_ : (((cfgF (F := Ideal)).win 3).blk t).view.emb (ix2 a (col h e) : S512x1024.Idx) = (ix2 (at' (rowN t.val) a) (col h e) : S4096x1024.Idx))
  funext x
  refine Fin.ext ((Pipeline.Window.rect_emb_val ((cfgF (F := Ideal)).win 3) t (ix2 a (col h e) : S512x1024.Idx) x).trans ?_)
  have ht : ((cfgF (F := Ideal)).win 3).index t = _ := tr3 (F := Ideal) (grid0.coords t)
  rw [ht]
  match x with
  | ⟨0, _⟩ =>
    show (rowW (grid0.coords t)).toNat * 512 + a.val = (512 * rowN t.val + a.val) % 4096
    omega
  | ⟨1, _⟩ =>
    show 0 * 1024 + (col h e).val = (col h e).val
    omega
end

/-! ## What is written out -/

section
variable {n : ℕ} {c : Dev nD}

theorem half_out {arg : Memref sig .tc .vmem S512x512 .bf16} (f : Buf (Elt Ideal) (arg.view.loc (c : Thread nD τ)))
    {sig' : RefSig} {κ : Kind} {sp : Space} {v : View sig' κ sp S512x1024 .f32} {z : v.ty.Contents (Elt Ideal)} {x : Fin 512 → Fin 8 → Fin 128 → EReal}
    (hz : ∀ b h e, v.read (Elt Ideal) z (ix2 b (col h e)) = x b h e) (b : Fin 512) (h : Fin 8) (e : Fin 64) :
    arg.view.read (Elt Ideal) (oHalf arg c f fun h => v.readAt (Elt Ideal) (halfR h).toLoadRect z) (ix2 b (ocol h e)) = x b h ⟨e.val, by omega⟩ := by
  have k := read_plain (Val := Elt Ideal) arg.view outR outR_apart f
    (fun h => (truncf .bf16 (v.readAt (Elt Ideal) (halfR h).toLoadRect z : FVec Ideal S512x64 .f32) bitsLt_bf16_f32 : FVec Ideal S512x64 .bf16)) h (ix2 b e)
  rw [outR_emb] at k
  refine k.trans ?_
  show v.read (Elt Ideal) z ((halfR h).emb (ix2 b e)) = _
  rw [halfR_emb, hz]

theorem dc_out {arg : Memref sig .tc .vmem S512x512 .f32} (f : Buf (Elt Ideal) (arg.view.loc (c : Thread nD τ)))
    {sig' : RefSig} {κ : Kind} {sp : Space} {v : View sig' κ sp S8x512x1 .f32} {z : v.ty.Contents (Elt Ideal)} {x : Fin 8 → Fin 512 → EReal}
    (hz : ∀ h b, v.read (Elt Ideal) z (ix3 h b 0) = x h b) (b : Fin 512) (h : Fin 8) (e : Fin 64) :
    arg.view.read (Elt Ideal) (oDc arg c f fun h => v.readAt (Elt Ideal) (headR h).toLoadRect z) (ix2 b (ocol h e)) = x h b := by
  have k := read_plain (Val := Elt Ideal) arg.view outR outR_apart f (fun h => outDc (v.readAt (Elt Ideal) (headR h).toLoadRect z)) h (ix2 b e)
  rw [outR_emb] at k
  refine k.trans ((outDc_at _ b e).trans ?_)
  show v.read (Elt Ideal) z ((headR h).emb (ix3 0 b 0)) = _
  rw [headR_emb, hz]

theorem dq_out {arg : Memref sig .tc .vmem S4096x512 .bf16} (f : Buf (Elt Ideal) (arg.view.loc (c : Thread nD τ)))
    {sig' : RefSig} {κ : Kind} {sp : Space} {v : View sig' κ sp S4096x1024 .f32} {z : v.ty.Contents (Elt Ideal)} {x : Fin 4096 → Fin 8 → Fin 128 → EReal}
    (hz : ∀ b h e, v.read (Elt Ideal) z (ix2 b (col h e)) = x b h e) (b : Fin 4096) (h : Fin 8) (e : Fin 64) :
    arg.view.read (Elt Ideal) (arg.view.writes (Elt Ideal) f (plain outTallR fun h => truncf .bf16 (mulf (v.readAt (Elt Ideal) (tallR h).toLoadRect z : FVec Ideal S4096x64 .f32)
      (broadcast S4096x64 (Scalar.ofBits .f32 0x3E000000#32 : Ideal .f32))) bitsLt_bf16_f32)) (ix2 b (ocol h e)) = x b h ⟨e.val, by omega⟩ * Ideal.ofBits .f32 0x3E000000#32 := by
  have k := read_plain (Val := Elt Ideal) arg.view outTallR outTallR_apart f
    (fun h => truncf .bf16 (mulf (v.readAt (Elt Ideal) (tallR h).toLoadRect z : FVec Ideal S4096x64 .f32)
      (broadcast S4096x64 (Scalar.ofBits .f32 0x3E000000#32 : Ideal .f32))) bitsLt_bf16_f32) h (ix2 b e)
  rw [outTallR_emb] at k
  refine k.trans ?_
  pointwise
  have e1 : v.readAt (Elt Ideal) (tallR h).toLoadRect z (ix2 b e) = x b h ⟨e.val, by omega⟩ := by
    show v.read (Elt Ideal) z ((tallR h).emb (ix2 b e)) = _
    rw [tallR_emb, hz]
  rw [e1]
end

end Cert.Fox
-- ==== Proof.FoxRead.lean ====
module

public import proofs.«01_k».proof.Proof.FoxKeeps

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL

open Cert.Common

/-- A choice by the order of two row numbers. -/
theorem select_rows (i j : Fin 4096) (x y : EReal) :
    Scalar.select (IntOp.cmpi .sle (BitVec.ofNat 32 j.val) (BitVec.ofNat 32 i.val)) x y = if j ≤ i then x else y := by
  have hi := i.isLt
  have hj := j.isLt
  unfold Scalar.select
  rw [WordCmp.cmpi_sle_eq, WordCmp.toInt_ofNat_of_lt (show j.val < 2 ^ (32 - 1) by omega), WordCmp.toInt_ofNat_of_lt (show i.val < 2 ^ (32 - 1) by omega)]
  simp only [ofBool_decide_eq_one_iff', Nat.cast_le, Fin.val_fin_le]

abbrev less (x y : EReal) : EReal := x - y
abbrev opp (x : EReal) : EReal := -x
abbrev times (x y : EReal) : EReal := x * y

/-- A packed row of a head: 64 columns of an array, six extra columns, zeros. -/
def pack (a : Fin 64 → EReal) (t : Fin 6 → EReal) (e : Fin 128) : EReal :=
  if h : e.val < 64 then a ⟨e.val, h⟩ else if h' : e.val - 64 < 6 then t ⟨e.val - 64, h'⟩ else 0

theorem pack_low (a : Fin 64 → EReal) (t : Fin 6 → EReal) (e : Fin 64) : pack a t ⟨e.val, by omega⟩ = a e := dif_pos e.isLt

theorem sum_pack (a b : Fin 64 → EReal) (s t : Fin 6 → EReal) :
    ∑ e : Fin 128, pack a s e * pack b t e = ∑ x, a x * b x + (s 0 * t 0 + s 1 * t 1 + s 2 * t 2 + s 3 * t 3 + s 4 * t 4 + s 5 * t 5) := by
  refine (Fin.sum_univ_add (M := EReal) (a := 64) (b := 64) (fun e => pack a s e * pack b t e)).trans (congrArg₂ (· + ·) ?_ ?_)
  · exact Finset.sum_congr rfl fun x _ => congrArg₂ (· * ·) (pack_low a s x) (pack_low b t x)
  · refine (Fin.sum_univ_add (M := EReal) (a := 6) (b := 58) _).trans ?_
    have h2 : ∀ x : Fin 58, pack a s (Fin.natAdd 64 (Fin.natAdd 6 x)) * pack b t (Fin.natAdd 64 (Fin.natAdd 6 x)) = 0 := by
      intro x
      have e1 : ∀ (a : Fin 64 → EReal) (s : Fin 6 → EReal), pack a s (Fin.natAdd 64 (Fin.natAdd 6 x)) = 0 := fun a s =>
        (dif_neg (show ¬ 64 + (6 + x.val) < 64 by omega)).trans (dif_neg (show ¬ 64 + (6 + x.val) - 64 < 6 by omega))
      rw [e1, zero_mul]
    have h1 : ∀ x : Fin 6, pack a s (Fin.natAdd 64 (Fin.castAdd 58 x)) * pack b t (Fin.natAdd 64 (Fin.castAdd 58 x)) = s x * t x := by
      intro x
      have e1 : ∀ (a : Fin 64 → EReal) (s : Fin 6 → EReal), pack a s (Fin.natAdd 64 (Fin.castAdd 58 x)) = s x := fun a s =>
        (dif_neg (show ¬ 64 + x.val < 64 by omega)).trans ((dif_pos (show 64 + x.val - 64 < 6 by omega)).trans (congrArg s (Fin.ext (show 64 + x.val - 64 = x.val by omega))))
      rw [e1, e1]
    rw [Finset.sum_congr rfl fun x _ => h1 x, Finset.sum_eq_zero fun x _ => h2 x, add_zero, Fin.sum_univ_six]

theorem after_two {Val : EltTy → Type} (l₁ l₂ : List (HloOp τ sig Val)) (X : Valuation τ sig Val) :
    StableHlo.after (l₁ ++ l₂) X = StableHlo.after l₂ (StableHlo.after l₁ X) := by
  induction l₁ generalizing X with
  | nil => rfl
  | cons op l ih => exact ih _

section
variable (X : Valuation τ sig (Elt Ideal))

/-- The host's operations in three stretches: the masked scores, what is saved of them, the packing. -/
abbrev early (b : Ref sig .tc) := StableHlo.after (hostOps0 (F := Ideal) ++ hostOps0_1) X (Proc.devRef .tc b)
abbrev saved (b : Ref sig .tc) := StableHlo.after ((hostOps0_2 (F := Ideal)).take 20) X (Proc.devRef .tc b)
abbrev late (b : Ref sig .tc) := StableHlo.after ((hostOps0_2 (F := Ideal)).drop 20) X (Proc.devRef .tc b)

/-- The masked score of query `i` and key `j`. -/
def masked (q k : S4096x8x64.Idx → EReal) (c : S4096x8.Idx → EReal) (h : Fin 8) (i j : Fin 4096) : EReal :=
  if j ≤ i then (∑ x : Fin 64, q (ix3 i h x) * k (ix3 j h x)) * Ideal.ofBits .f32 0x3E000000#32 + (c (ix2 i h) - c (ix2 j h)) else ⊥

theorem early_scores (h : Fin 8) (i j : Fin 4096) :
    early X main_v17 (ix3 h i j : S8x4096x4096.Idx) = masked (X (Proc.devRef .tc main_arg0)) (X (Proc.devRef .tc main_arg1)) (X (Proc.devRef .tc main_arg3)) h i j := by
  unfold early
  simp only [hostOps0, hostOps0_1, List.cons_append, List.nil_append]
  after_reads_at
  rw [select_rows, masked]
  refine if_congr Iff.rfl rfl ?_
  exact ofBits_neg_inf

theorem early_arg0 : early X main_arg0 = X (Proc.devRef .tc main_arg0) := by
  unfold early
  simp only [hostOps0, hostOps0_1, List.cons_append, List.nil_append]
  after_reads_simp

theorem early_arg1 : early X main_arg1 = X (Proc.devRef .tc main_arg1) := by
  unfold early
  simp only [hostOps0, hostOps0_1, List.cons_append, List.nil_append]
  after_reads_simp

theorem early_arg2 : early X main_arg2 = X (Proc.devRef .tc main_arg2) := by
  unfold early
  simp only [hostOps0, hostOps0_1, List.cons_append, List.nil_append]
  after_reads_simp

theorem early_arg3 : early X main_arg3 = X (Proc.devRef .tc main_arg3) := by
  unfold early
  simp only [hostOps0, hostOps0_1, List.cons_append, List.nil_append]
  after_reads_simp

theorem early_arg4 : early X main_arg4 = X (Proc.devRef .tc main_arg4) := by
  unfold early
  simp only [hostOps0, hostOps0_1, List.cons_append, List.nil_append]
  after_reads_simp

theorem saved_arg0 : saved X main_arg0 = X (Proc.devRef .tc main_arg0) := by
  unfold saved
  simp only [hostOps0_2, List.take_succ_cons, List.take_zero]
  after_reads_simp

theorem saved_arg1 : saved X main_arg1 = X (Proc.devRef .tc main_arg1) := by
  unfold saved
  simp only [hostOps0_2, List.take_succ_cons, List.take_zero]
  after_reads_simp

theorem saved_arg2 : saved X main_arg2 = X (Proc.devRef .tc main_arg2) := by
  unfold saved
  simp only [hostOps0_2, List.take_succ_cons, List.take_zero]
  after_reads_simp

theorem saved_arg3 : saved X main_arg3 = X (Proc.devRef .tc main_arg3) := by
  unfold saved
  simp only [hostOps0_2, List.take_succ_cons, List.take_zero]
  after_reads_simp

theorem saved_arg4 : saved X main_arg4 = X (Proc.devRef .tc main_arg4) := by
  unfold saved
  simp only [hostOps0_2, List.take_succ_cons, List.take_zero]
  after_reads_simp

theorem lse_elt (a b : FVec Ideal S8x4096 .f32) (h : Fin 8) (i : Fin 4096) :
    transpose S4096x8 [1, 0] (shapeCast S8x4096 (addf (broadcastInDim S8x4096x1 ![0, 1] bcast_S8x4096_S8x4096x1_0_1 a)
        (Host.log (broadcastInDim S8x4096x1 ![0, 1] bcast_S8x4096_S8x4096x1_0_1 b : FVec Ideal S8x4096x1 .f32)) : FVec Ideal S8x4096x1 .f32) shapeCasts_S8x4096x1_S8x4096)
      transposes_S8x4096_S4096x8_1_0 (ix2 i h : S4096x8.Idx) = a (ix2 h i) + Ideal.log (b (ix2 h i)) := by
  pointwise

theorem saved_lse : (saved X main_v28 : S4096x8.Idx → EReal) =
    transpose S4096x8 [1, 0] (shapeCast S8x4096 (addf (broadcastInDim S8x4096x1 ![0, 1] bcast_S8x4096_S8x4096x1_0_1 (saved X main_v18))
        (Host.log (broadcastInDim S8x4096x1 ![0, 1] bcast_S8x4096_S8x4096x1_0_1 (saved X main_v23) : FVec Ideal S8x4096x1 .f32)) : FVec Ideal S8x4096x1 .f32) shapeCasts_S8x4096x1_S8x4096)
      transposes_S8x4096_S4096x8_1_0 := by
  unfold saved
  simp only [hostOps0_2, List.take_succ_cons, List.take_zero]
  after_reads_simp
  rfl

/-- A row's greatest score, the sum of its exponentials, its log-sum, and its sum of the cotangent times the output. -/
def top (s : Fin 4096 → EReal) : EReal := Finset.fold max ⊥ s Finset.univ
def den (s : Fin 4096 → EReal) : EReal := ∑ j, Ideal.exp (s j - top s)

def dsumOf (d : Fin 64 → EReal) (v : Fin 4096 → Fin 64 → EReal) (s : Fin 4096 → EReal) : EReal :=
  ∑ x, d x * ∑ j, v j x * Ideal.div (Ideal.exp (s j - top s)) (den s)

theorem saved_top (h : Fin 8) (i : Fin 4096) :
    saved X main_v18 (ix2 h i : S8x4096.Idx) = top fun j => X (Proc.devRef .tc main_v17) (ix3 h i j : S8x4096x4096.Idx) := by
  unfold saved
  simp only [hostOps0_2, List.take_succ_cons, List.take_zero]
  after_reads_at
  rw [ofBits_neg_inf]
  rfl

theorem saved_den (h : Fin 8) (i : Fin 4096) :
    saved X main_v23 (ix2 h i : S8x4096.Idx) = den fun j => X (Proc.devRef .tc main_v17) (ix3 h i j : S8x4096x4096.Idx) := by
  unfold saved
  simp only [hostOps0_2, List.take_succ_cons, List.take_zero]
  after_reads_at
  rw [ofBits_neg_inf]
  rfl

theorem saved_lse_at (h : Fin 8) (i : Fin 4096) :
    saved X main_v28 (ix2 i h : S4096x8.Idx) = top (fun j => X (Proc.devRef .tc main_v17) (ix3 h i j : S8x4096x4096.Idx))
      + Ideal.log (den fun j => X (Proc.devRef .tc main_v17) (ix3 h i j : S8x4096x4096.Idx)) := by
  rw [← saved_top, ← saved_den]
  exact (congrFun (saved_lse X) _).trans (lse_elt _ _ h i)

theorem saved_dsum (h : Fin 8) (i : Fin 4096) :
    saved X main_v34 (ix2 i h : S4096x8.Idx) = dsumOf (fun x => X (Proc.devRef .tc main_arg4) (ix3 i h x : S4096x8x64.Idx))
      (fun j x => X (Proc.devRef .tc main_arg2) (ix3 j h x : S4096x8x64.Idx)) fun j => X (Proc.devRef .tc main_v17) (ix3 h i j : S8x4096x4096.Idx) := by
  unfold saved
  simp only [hostOps0_2, List.take_succ_cons, List.take_zero]
  after_reads_at
  simp only [ofBits_neg_inf]
  rfl

theorem late_51 : (late X main_v51 : S4096x1024.Idx → EReal) =
    shapeCast S4096x1024 (truncf .bf16 (concatenate S4096x8x128 2 [⟨S4096x8x64, late X main_v37⟩, ⟨S4096x8x1, late X main_v41⟩, ⟨S4096x8x1, late X main_v44⟩, ⟨S4096x8x1, late X main_v47⟩, ⟨S4096x8x3, late X main_v35⟩, ⟨S4096x8x58, late X main_v48⟩] concatenates_S4096x8x64_S4096x8x1_S4096x8x1_S4096x8x1_S4096x8x3_S4096x8x58_S4096x8x128_d2 : FVec Ideal S4096x8x128 .f32) bitsLt_bf16_f32) shapeCasts_S4096x8x128_S4096x1024 := by
  unfold late
  simp only [hostOps0_2, List.drop_succ_cons, List.drop_zero]
  after_reads_simp
  rfl

theorem late_67 : (late X main_v67 : S4096x1024.Idx → EReal) =
    shapeCast S4096x1024 (truncf .bf16 (concatenate S4096x8x128 2 [⟨S4096x8x64, late X main_arg1⟩, ⟨S4096x8x3, late X main_v35⟩, ⟨S4096x8x1, late X main_v61⟩, ⟨S4096x8x1, late X main_v62⟩, ⟨S4096x8x1, late X main_v63⟩, ⟨S4096x8x58, late X main_v64⟩] concatenates_S4096x8x64_S4096x8x3_S4096x8x1_S4096x8x1_S4096x8x1_S4096x8x58_S4096x8x128_d2 : FVec Ideal S4096x8x128 .f32) bitsLt_bf16_f32) shapeCasts_S4096x8x128_S4096x1024 := by
  unfold late
  simp only [hostOps0_2, List.drop_succ_cons, List.drop_zero]
  after_reads_simp
  rfl

theorem late_71 : (late X main_v71 : S4096x1024.Idx → EReal) =
    shapeCast S4096x1024 (truncf .bf16 (concatenate S4096x8x128 2 [⟨S4096x8x64, late X main_arg2⟩, ⟨S4096x8x3, late X main_v35⟩, ⟨S4096x8x61, late X main_v68⟩] concatenates_S4096x8x64_S4096x8x3_S4096x8x61_S4096x8x128_d2 : FVec Ideal S4096x8x128 .f32) bitsLt_bf16_f32) shapeCasts_S4096x8x128_S4096x1024 := by
  unfold late
  simp only [hostOps0_2, List.drop_succ_cons, List.drop_zero]
  after_reads_simp
  rfl

theorem late_85 : (late X main_v85 : S4096x1024.Idx → EReal) =
    shapeCast S4096x1024 (truncf .bf16 (concatenate S4096x8x128 2 [⟨S4096x8x64, late X main_arg4⟩, ⟨S4096x8x1, late X main_v75⟩, ⟨S4096x8x1, late X main_v78⟩, ⟨S4096x8x1, late X main_v81⟩, ⟨S4096x8x61, late X main_v82⟩] concatenates_S4096x8x64_S4096x8x1_S4096x8x1_S4096x8x1_S4096x8x61_S4096x8x128_d2 : FVec Ideal S4096x8x128 .f32) bitsLt_bf16_f32) shapeCasts_S4096x8x128_S4096x1024 := by
  unfold late
  simp only [hostOps0_2, List.drop_succ_cons, List.drop_zero]
  after_reads_simp
  rfl

theorem late_v37 (i : Fin 4096) (h : Fin 8) (e : Fin 64) : late X main_v37 (ix3 i h e : S4096x8x64.Idx) = (times (X (Proc.devRef .tc main_arg0) (ix3 i h e : S4096x8x64.Idx)) (Ideal.ofBits .f32 0x3E000000#32) : EReal) := by
  unfold late
  simp only [hostOps0_2, List.drop_succ_cons, List.drop_zero]
  after_reads_at
  all_goals rfl

theorem late_v41 (i : Fin 4096) (h : Fin 8) (e : Fin 1) : late X main_v41 (ix3 i h e : S4096x8x1.Idx) = ((less (X (Proc.devRef .tc main_arg3) (ix2 i h : S4096x8.Idx)) (X (Proc.devRef .tc main_v28) (ix2 i h : S4096x8.Idx))) : EReal) := by
  unfold late
  simp only [hostOps0_2, List.drop_succ_cons, List.drop_zero]
  after_reads_at
  all_goals rfl

theorem late_v44 (i : Fin 4096) (h : Fin 8) (e : Fin 1) : late X main_v44 (ix3 i h e : S4096x8x1.Idx) = ((less (less (X (Proc.devRef .tc main_arg3) (ix2 i h : S4096x8.Idx)) (X (Proc.devRef .tc main_v28) (ix2 i h : S4096x8.Idx))) (less (X (Proc.devRef .tc main_arg3) (ix2 i h : S4096x8.Idx)) (X (Proc.devRef .tc main_v28) (ix2 i h : S4096x8.Idx)))) : EReal) := by
  unfold late
  simp only [hostOps0_2, List.drop_succ_cons, List.drop_zero]
  after_reads_at
  all_goals rfl

theorem late_v47 (i : Fin 4096) (h : Fin 8) (e : Fin 1) : late X main_v47 (ix3 i h e : S4096x8x1.Idx) = ((less (less (less (X (Proc.devRef .tc main_arg3) (ix2 i h : S4096x8.Idx)) (X (Proc.devRef .tc main_v28) (ix2 i h : S4096x8.Idx))) (less (X (Proc.devRef .tc main_arg3) (ix2 i h : S4096x8.Idx)) (X (Proc.devRef .tc main_v28) (ix2 i h : S4096x8.Idx)))) (less (less (X (Proc.devRef .tc main_arg3) (ix2 i h : S4096x8.Idx)) (X (Proc.devRef .tc main_v28) (ix2 i h : S4096x8.Idx))) (less (X (Proc.devRef .tc main_arg3) (ix2 i h : S4096x8.Idx)) (X (Proc.devRef .tc main_v28) (ix2 i h : S4096x8.Idx))))) : EReal) := by
  unfold late
  simp only [hostOps0_2, List.drop_succ_cons, List.drop_zero]
  after_reads_at
  all_goals rfl

theorem late_v61 (i : Fin 4096) (h : Fin 8) (e : Fin 1) : late X main_v61 (ix3 i h e : S4096x8x1.Idx) = (opp (X (Proc.devRef .tc main_arg3) (ix2 i h : S4096x8.Idx)) : EReal) := by
  unfold late
  simp only [hostOps0_2, List.drop_succ_cons, List.drop_zero]
  after_reads_at
  all_goals rfl

theorem late_v62 (i : Fin 4096) (h : Fin 8) (e : Fin 1) : late X main_v62 (ix3 i h e : S4096x8x1.Idx) = (opp (less (X (Proc.devRef .tc main_arg3) (ix2 i h : S4096x8.Idx)) (X (Proc.devRef .tc main_arg3) (ix2 i h : S4096x8.Idx))) : EReal) := by
  unfold late
  simp only [hostOps0_2, List.drop_succ_cons, List.drop_zero]
  after_reads_at
  all_goals rfl

theorem late_v63 (i : Fin 4096) (h : Fin 8) (e : Fin 1) : late X main_v63 (ix3 i h e : S4096x8x1.Idx) = (opp (less (less (X (Proc.devRef .tc main_arg3) (ix2 i h : S4096x8.Idx)) (X (Proc.devRef .tc main_arg3) (ix2 i h : S4096x8.Idx))) (less (X (Proc.devRef .tc main_arg3) (ix2 i h : S4096x8.Idx)) (X (Proc.devRef .tc main_arg3) (ix2 i h : S4096x8.Idx)))) : EReal) := by
  unfold late
  simp only [hostOps0_2, List.drop_succ_cons, List.drop_zero]
  after_reads_at
  all_goals rfl

theorem late_v75 (i : Fin 4096) (h : Fin 8) (e : Fin 1) : late X main_v75 (ix3 i h e : S4096x8x1.Idx) = ((opp (X (Proc.devRef .tc main_v34) (ix2 i h : S4096x8.Idx))) : EReal) := by
  unfold late
  simp only [hostOps0_2, List.drop_succ_cons, List.drop_zero]
  after_reads_at
  all_goals rfl

theorem late_v78 (i : Fin 4096) (h : Fin 8) (e : Fin 1) : late X main_v78 (ix3 i h e : S4096x8x1.Idx) = ((less (opp (X (Proc.devRef .tc main_v34) (ix2 i h : S4096x8.Idx))) (opp (X (Proc.devRef .tc main_v34) (ix2 i h : S4096x8.Idx)))) : EReal) := by
  unfold late
  simp only [hostOps0_2, List.drop_succ_cons, List.drop_zero]
  after_reads_at
  all_goals rfl

theorem late_v81 (i : Fin 4096) (h : Fin 8) (e : Fin 1) : late X main_v81 (ix3 i h e : S4096x8x1.Idx) = ((less (less (opp (X (Proc.devRef .tc main_v34) (ix2 i h : S4096x8.Idx))) (opp (X (Proc.devRef .tc main_v34) (ix2 i h : S4096x8.Idx)))) (less (opp (X (Proc.devRef .tc main_v34) (ix2 i h : S4096x8.Idx))) (opp (X (Proc.devRef .tc main_v34) (ix2 i h : S4096x8.Idx))))) : EReal) := by
  unfold late
  simp only [hostOps0_2, List.drop_succ_cons, List.drop_zero]
  after_reads_at
  all_goals rfl

theorem late_v35 (i : Fin 4096) (h : Fin 8) (e : Fin 3) : late X main_v35 (ix3 i h e : S4096x8x3.Idx) = (1 : EReal) := by
  unfold late
  simp only [hostOps0_2, List.drop_succ_cons, List.drop_zero]
  after_reads_at
  all_goals rfl

theorem late_v48 (i : Fin 4096) (h : Fin 8) (e : Fin 58) : late X main_v48 (ix3 i h e : S4096x8x58.Idx) = (0 : EReal) := by
  unfold late
  simp only [hostOps0_2, List.drop_succ_cons, List.drop_zero]
  after_reads_at
  all_goals rfl

theorem late_v64 (i : Fin 4096) (h : Fin 8) (e : Fin 58) : late X main_v64 (ix3 i h e : S4096x8x58.Idx) = (0 : EReal) := by
  unfold late
  simp only [hostOps0_2, List.drop_succ_cons, List.drop_zero]
  after_reads_at
  all_goals rfl

theorem late_v68 (i : Fin 4096) (h : Fin 8) (e : Fin 61) : late X main_v68 (ix3 i h e : S4096x8x61.Idx) = (0 : EReal) := by
  unfold late
  simp only [hostOps0_2, List.drop_succ_cons, List.drop_zero]
  after_reads_at
  all_goals rfl

theorem late_v82 (i : Fin 4096) (h : Fin 8) (e : Fin 61) : late X main_v82 (ix3 i h e : S4096x8x61.Idx) = (0 : EReal) := by
  unfold late
  simp only [hostOps0_2, List.drop_succ_cons, List.drop_zero]
  after_reads_at
  all_goals rfl

theorem late_arg1 : late X main_arg1 = X (Proc.devRef .tc main_arg1) := by
  unfold late
  simp only [hostOps0_2, List.drop_succ_cons, List.drop_zero]
  after_reads_simp

theorem late_arg2 : late X main_arg2 = X (Proc.devRef .tc main_arg2) := by
  unfold late
  simp only [hostOps0_2, List.drop_succ_cons, List.drop_zero]
  after_reads_simp

theorem late_arg4 : late X main_arg4 = X (Proc.devRef .tc main_arg4) := by
  unfold late
  simp only [hostOps0_2, List.drop_succ_cons, List.drop_zero]
  after_reads_simp

end

end Cert.Fox
-- ==== Proof.FoxPack.lean ====
module

public import proofs.«01_k».proof.Proof.FoxRead

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL

open Cert.Common

theorem packed_51 (a : FVec Ideal S4096x8x64 .f32) (b1 : FVec Ideal S4096x8x1 .f32) (b2 : FVec Ideal S4096x8x1 .f32) (b3 : FVec Ideal S4096x8x1 .f32) (o : FVec Ideal S4096x8x3 .f32) (z : FVec Ideal S4096x8x58 .f32) (hz : ∀ x, z x = 0) (r : Fin 4096) (h : Fin 8) (e : Fin 128) :
    shapeCast S4096x1024 (truncf .bf16 (concatenate S4096x8x128 2 [⟨S4096x8x64, a⟩, ⟨S4096x8x1, b1⟩, ⟨S4096x8x1, b2⟩, ⟨S4096x8x1, b3⟩, ⟨S4096x8x3, o⟩, ⟨S4096x8x58, z⟩] concatenates_S4096x8x64_S4096x8x1_S4096x8x1_S4096x8x1_S4096x8x3_S4096x8x58_S4096x8x128_d2 : FVec Ideal S4096x8x128 .f32) bitsLt_bf16_f32) shapeCasts_S4096x8x128_S4096x1024 (ix2 r (col h e) : S4096x1024.Idx)
      = pack (fun x => a (ix3 r h x)) ![b1 (ix3 r h 0), b2 (ix3 r h 0), b3 (ix3 r h 0), o (ix3 r h 0), o (ix3 r h 1), o (ix3 r h 2)] e := by
  pointwise
  have h1 : (col h e).val / 128 = h.val := by show (128 * h.val + e.val) / 128 = h.val; omega
  have h2 : (col h e).val % 128 = e.val := by show (128 * h.val + e.val) % 128 = e.val; omega
  simp only [h1, h2]
  by_cases h0 : e.val < 64
  · rw [dif_pos h0, pack, dif_pos h0]
  · rw [dif_neg h0, pack, dif_neg h0]
    obtain ⟨e, he⟩ := e
    obtain ⟨k, rfl⟩ : ∃ k, e = 64 + k := ⟨e - 64, by dsimp only at h0; omega⟩
    by_cases h6 : k < 6
    · interval_cases k <;> first | rfl | exact hz _
    · rw [dif_neg (show ¬ 64 + k - 64 < 6 by omega)]
      exact (dif_neg (show ¬ 64 + k - 64 < 1 by omega)).trans <| (dif_neg (show ¬ 64 + k - 64 - 1 < 1 by omega)).trans <| (dif_neg (show ¬ 64 + k - 64 - 1 - 1 < 1 by omega)).trans <| (dif_neg (show ¬ 64 + k - 64 - 1 - 1 - 1 < 3 by omega)).trans <| hz _

theorem packed_67 (a : FVec Ideal S4096x8x64 .f32) (o : FVec Ideal S4096x8x3 .f32) (b1 : FVec Ideal S4096x8x1 .f32) (b2 : FVec Ideal S4096x8x1 .f32) (b3 : FVec Ideal S4096x8x1 .f32) (z : FVec Ideal S4096x8x58 .f32) (hz : ∀ x, z x = 0) (r : Fin 4096) (h : Fin 8) (e : Fin 128) :
    shapeCast S4096x1024 (truncf .bf16 (concatenate S4096x8x128 2 [⟨S4096x8x64, a⟩, ⟨S4096x8x3, o⟩, ⟨S4096x8x1, b1⟩, ⟨S4096x8x1, b2⟩, ⟨S4096x8x1, b3⟩, ⟨S4096x8x58, z⟩] concatenates_S4096x8x64_S4096x8x3_S4096x8x1_S4096x8x1_S4096x8x1_S4096x8x58_S4096x8x128_d2 : FVec Ideal S4096x8x128 .f32) bitsLt_bf16_f32) shapeCasts_S4096x8x128_S4096x1024 (ix2 r (col h e) : S4096x1024.Idx)
      = pack (fun x => a (ix3 r h x)) ![o (ix3 r h 0), o (ix3 r h 1), o (ix3 r h 2), b1 (ix3 r h 0), b2 (ix3 r h 0), b3 (ix3 r h 0)] e := by
  pointwise
  have h1 : (col h e).val / 128 = h.val := by show (128 * h.val + e.val) / 128 = h.val; omega
  have h2 : (col h e).val % 128 = e.val := by show (128 * h.val + e.val) % 128 = e.val; omega
  simp only [h1, h2]
  by_cases h0 : e.val < 64
  · rw [dif_pos h0, pack, dif_pos h0]
  · rw [dif_neg h0, pack, dif_neg h0]
    obtain ⟨e, he⟩ := e
    obtain ⟨k, rfl⟩ : ∃ k, e = 64 + k := ⟨e - 64, by dsimp only at h0; omega⟩
    by_cases h6 : k < 6
    · interval_cases k <;> first | rfl | exact hz _
    · rw [dif_neg (show ¬ 64 + k - 64 < 6 by omega)]
      exact (dif_neg (show ¬ 64 + k - 64 < 3 by omega)).trans <| (dif_neg (show ¬ 64 + k - 64 - 3 < 1 by omega)).trans <| (dif_neg (show ¬ 64 + k - 64 - 3 - 1 < 1 by omega)).trans <| (dif_neg (show ¬ 64 + k - 64 - 3 - 1 - 1 < 1 by omega)).trans <| hz _

theorem packed_71 (a : FVec Ideal S4096x8x64 .f32) (o : FVec Ideal S4096x8x3 .f32) (z : FVec Ideal S4096x8x61 .f32) (hz : ∀ x, z x = 0) (r : Fin 4096) (h : Fin 8) (e : Fin 128) :
    shapeCast S4096x1024 (truncf .bf16 (concatenate S4096x8x128 2 [⟨S4096x8x64, a⟩, ⟨S4096x8x3, o⟩, ⟨S4096x8x61, z⟩] concatenates_S4096x8x64_S4096x8x3_S4096x8x61_S4096x8x128_d2 : FVec Ideal S4096x8x128 .f32) bitsLt_bf16_f32) shapeCasts_S4096x8x128_S4096x1024 (ix2 r (col h e) : S4096x1024.Idx)
      = pack (fun x => a (ix3 r h x)) ![o (ix3 r h 0), o (ix3 r h 1), o (ix3 r h 2), 0, 0, 0] e := by
  pointwise
  have h1 : (col h e).val / 128 = h.val := by show (128 * h.val + e.val) / 128 = h.val; omega
  have h2 : (col h e).val % 128 = e.val := by show (128 * h.val + e.val) % 128 = e.val; omega
  simp only [h1, h2]
  by_cases h0 : e.val < 64
  · rw [dif_pos h0, pack, dif_pos h0]
  · rw [dif_neg h0, pack, dif_neg h0]
    obtain ⟨e, he⟩ := e
    obtain ⟨k, rfl⟩ : ∃ k, e = 64 + k := ⟨e - 64, by dsimp only at h0; omega⟩
    by_cases h6 : k < 6
    · interval_cases k <;> first | rfl | exact hz _
    · rw [dif_neg (show ¬ 64 + k - 64 < 6 by omega)]
      exact (dif_neg (show ¬ 64 + k - 64 < 3 by omega)).trans <| hz _

theorem packed_85 (a : FVec Ideal S4096x8x64 .f32) (b1 : FVec Ideal S4096x8x1 .f32) (b2 : FVec Ideal S4096x8x1 .f32) (b3 : FVec Ideal S4096x8x1 .f32) (z : FVec Ideal S4096x8x61 .f32) (hz : ∀ x, z x = 0) (r : Fin 4096) (h : Fin 8) (e : Fin 128) :
    shapeCast S4096x1024 (truncf .bf16 (concatenate S4096x8x128 2 [⟨S4096x8x64, a⟩, ⟨S4096x8x1, b1⟩, ⟨S4096x8x1, b2⟩, ⟨S4096x8x1, b3⟩, ⟨S4096x8x61, z⟩] concatenates_S4096x8x64_S4096x8x1_S4096x8x1_S4096x8x1_S4096x8x61_S4096x8x128_d2 : FVec Ideal S4096x8x128 .f32) bitsLt_bf16_f32) shapeCasts_S4096x8x128_S4096x1024 (ix2 r (col h e) : S4096x1024.Idx)
      = pack (fun x => a (ix3 r h x)) ![b1 (ix3 r h 0), b2 (ix3 r h 0), b3 (ix3 r h 0), 0, 0, 0] e := by
  pointwise
  have h1 : (col h e).val / 128 = h.val := by show (128 * h.val + e.val) / 128 = h.val; omega
  have h2 : (col h e).val % 128 = e.val := by show (128 * h.val + e.val) % 128 = e.val; omega
  simp only [h1, h2]
  by_cases h0 : e.val < 64
  · rw [dif_pos h0, pack, dif_pos h0]
  · rw [dif_neg h0, pack, dif_neg h0]
    obtain ⟨e, he⟩ := e
    obtain ⟨k, rfl⟩ : ∃ k, e = 64 + k := ⟨e - 64, by dsimp only at h0; omega⟩
    by_cases h6 : k < 6
    · interval_cases k <;> first | rfl | exact hz _
    · rw [dif_neg (show ¬ 64 + k - 64 < 6 by omega)]
      exact (dif_neg (show ¬ 64 + k - 64 < 1 by omega)).trans <| (dif_neg (show ¬ 64 + k - 64 - 1 < 1 by omega)).trans <| (dif_neg (show ¬ 64 + k - 64 - 1 - 1 < 1 by omega)).trans <| hz _

end Cert.Fox
-- ==== Proof.FoxMats.lean ====
module

public import proofs.«01_k».proof.Proof.FoxPack

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL

open Cert.Common

variable (m : (ℓ : Loc nD τ sig) → Buf (Elt Ideal) ℓ)

theorem V_split (b : Ref sig .tc) : V m 0 b = late (StableHlo.after ((hostOps0_2 (F := Ideal)).take 20)
    (StableHlo.after (hostOps0 (F := Ideal) ++ hostOps0_1) fun b => m (0, b))) b := by
  show StableHlo.after (hostOps0 (F := Ideal) ++ (hostOps0_1 ++ (hostOps0_2 ++ []))) (fun b => m (0, b)) (Proc.devRef .tc b) = _
  rw [List.append_nil, ← List.append_assoc, after_two]
  exact congrFun ((congrArg (fun l => StableHlo.after l _) (List.take_append_drop 20 (hostOps0_2 (F := Ideal))).symm).trans (after_two _ _ _)) _

abbrev A0 : S4096x8x64.Idx → EReal := m (((0 : Dev nD) : Thread nD τ).loc main_arg0)
abbrev A1 : S4096x8x64.Idx → EReal := m (((0 : Dev nD) : Thread nD τ).loc main_arg1)
abbrev A2 : S4096x8x64.Idx → EReal := m (((0 : Dev nD) : Thread nD τ).loc main_arg2)
abbrev A3 : S4096x8.Idx → EReal := m (((0 : Dev nD) : Thread nD τ).loc main_arg3)
abbrev A4 : S4096x8x64.Idx → EReal := m (((0 : Dev nD) : Thread nD τ).loc main_arg4)

/-- The masked scores of a row. -/
abbrev rowOf (h : Fin 8) (i : Fin 4096) : Fin 4096 → EReal := masked (A0 m) (A1 m) (A3 m) h i

/-- What the forward pass saves of a row. -/
def lse (h : Fin 8) (i : Fin 4096) : EReal := top (rowOf m h i) + Ideal.log (den (rowOf m h i))
def dsum (h : Fin 8) (i : Fin 4096) : EReal := dsumOf (fun x => A4 m (ix3 i h x)) (fun j x => A2 m (ix3 j h x)) (rowOf m h i)

abbrev X0 : Valuation τ sig (Elt Ideal) := StableHlo.after (hostOps0 (F := Ideal) ++ hostOps0_1) fun b => m (0, b)
abbrev X1 : Valuation τ sig (Elt Ideal) := StableHlo.after ((hostOps0_2 (F := Ideal)).take 20) (X0 m)

theorem X0_scores (h : Fin 8) (i : Fin 4096) : (fun j => X0 m (Proc.devRef .tc main_v17) (ix3 h i j : S8x4096x4096.Idx)) = rowOf m h i :=
  funext fun j => early_scores _ h i j

theorem X1_lse (h : Fin 8) (i : Fin 4096) : X1 m (Proc.devRef .tc main_v28) (ix2 i h : S4096x8.Idx) = lse m h i := by
  rw [lse, ← X0_scores]
  exact saved_lse_at (X0 m) h i
theorem X1_dsum (h : Fin 8) (i : Fin 4096) : X1 m (Proc.devRef .tc main_v34) (ix2 i h : S4096x8.Idx) = dsum m h i := by
  rw [dsum, ← X0_scores]
  refine (saved_dsum (X0 m) h i).trans ?_
  rw [show X0 m (Proc.devRef .tc main_arg4) = A4 m from early_arg4 _, show X0 m (Proc.devRef .tc main_arg2) = A2 m from early_arg2 _]

theorem X1_arg0 : X1 m (Proc.devRef .tc main_arg0) = A0 m := (saved_arg0 (X0 m)).trans (early_arg0 _)
theorem X1_arg1 : X1 m (Proc.devRef .tc main_arg1) = A1 m := (saved_arg1 (X0 m)).trans (early_arg1 _)
theorem X1_arg2 : X1 m (Proc.devRef .tc main_arg2) = A2 m := (saved_arg2 (X0 m)).trans (early_arg2 _)
theorem X1_arg3 : X1 m (Proc.devRef .tc main_arg3) = A3 m := (saved_arg3 (X0 m)).trans (early_arg3 _)
theorem X1_arg4 : X1 m (Proc.devRef .tc main_arg4) = A4 m := (saved_arg4 (X0 m)).trans (early_arg4 _)

theorem mats_q (r : Fin 4096) (h : Fin 8) (e : Fin 128) :
    (mats m).q r h e = pack (fun x => times (A0 m (ix3 r h x)) (Ideal.ofBits .f32 0x3E000000#32)) ![(less (A3 m (ix2 r h)) (lse m h r)), less (less (A3 m (ix2 r h)) (lse m h r)) (less (A3 m (ix2 r h)) (lse m h r)), less (less (less (A3 m (ix2 r h)) (lse m h r)) (less (A3 m (ix2 r h)) (lse m h r))) (less (less (A3 m (ix2 r h)) (lse m h r)) (less (A3 m (ix2 r h)) (lse m h r))), 1, 1, 1] e := by
  show V m 0 main_v51 (ix2 r (col h e) : S4096x1024.Idx) = _
  rw [V_split]
  refine (congrFun (late_51 (X1 m)) _).trans ((packed_51 _ _ _ _ _ _ (fun x => ?_) r h e).trans ?_)
  · idx_vars x
    exact late_v48 (X1 m) _ _ _
  · exact congrArg₂ (fun a t => pack a t e) (funext fun x => ((late_v37 (X1 m) r h x).trans (by rw [X1_arg0])))
      (congrArg₂ Matrix.vecCons ((late_v41 (X1 m) r h 0).trans (by rw [X1_lse, X1_arg3])) (congrArg₂ Matrix.vecCons ((late_v44 (X1 m) r h 0).trans (by rw [X1_lse, X1_arg3])) (congrArg₂ Matrix.vecCons ((late_v47 (X1 m) r h 0).trans (by rw [X1_lse, X1_arg3])) (congrArg₂ Matrix.vecCons (late_v35 (X1 m) r h 0) (congrArg₂ Matrix.vecCons (late_v35 (X1 m) r h 1) (congrArg₂ Matrix.vecCons (late_v35 (X1 m) r h 2) rfl))))))

theorem mats_k (r : Fin 4096) (h : Fin 8) (e : Fin 128) :
    (mats m).k r h e = pack (fun x => A1 m (ix3 r h x)) ![1, 1, 1, opp (A3 m (ix2 r h)), opp (less (A3 m (ix2 r h)) (A3 m (ix2 r h))), opp (less (less (A3 m (ix2 r h)) (A3 m (ix2 r h))) (less (A3 m (ix2 r h)) (A3 m (ix2 r h))))] e := by
  show V m 0 main_v67 (ix2 r (col h e) : S4096x1024.Idx) = _
  rw [V_split]
  refine (congrFun (late_67 (X1 m)) _).trans ((packed_67 _ _ _ _ _ _ (fun x => ?_) r h e).trans ?_)
  · idx_vars x
    exact late_v64 (X1 m) _ _ _
  · exact congrArg₂ (fun a t => pack a t e) (funext fun x => (congrFun ((late_arg1 (X1 m)).trans (X1_arg1 m)) _))
      (congrArg₂ Matrix.vecCons (late_v35 (X1 m) r h 0) (congrArg₂ Matrix.vecCons (late_v35 (X1 m) r h 1) (congrArg₂ Matrix.vecCons (late_v35 (X1 m) r h 2) (congrArg₂ Matrix.vecCons ((late_v61 (X1 m) r h 0).trans (by rw [X1_arg3])) (congrArg₂ Matrix.vecCons ((late_v62 (X1 m) r h 0).trans (by rw [X1_arg3])) (congrArg₂ Matrix.vecCons ((late_v63 (X1 m) r h 0).trans (by rw [X1_arg3])) rfl))))))

theorem mats_v (r : Fin 4096) (h : Fin 8) (e : Fin 128) :
    (mats m).v r h e = pack (fun x => A2 m (ix3 r h x)) ![1, 1, 1, 0, 0, 0] e := by
  show V m 0 main_v71 (ix2 r (col h e) : S4096x1024.Idx) = _
  rw [V_split]
  refine (congrFun (late_71 (X1 m)) _).trans ((packed_71 _ _ _ (fun x => ?_) r h e).trans ?_)
  · idx_vars x
    exact late_v68 (X1 m) _ _ _
  · exact congrArg₂ (fun a t => pack a t e) (funext fun x => (congrFun ((late_arg2 (X1 m)).trans (X1_arg2 m)) _))
      (congrArg₂ Matrix.vecCons (late_v35 (X1 m) r h 0) (congrArg₂ Matrix.vecCons (late_v35 (X1 m) r h 1) (congrArg₂ Matrix.vecCons (late_v35 (X1 m) r h 2) (congrArg₂ Matrix.vecCons rfl (congrArg₂ Matrix.vecCons rfl (congrArg₂ Matrix.vecCons rfl rfl))))))

theorem mats_d (r : Fin 4096) (h : Fin 8) (e : Fin 128) :
    (mats m).d r h e = pack (fun x => A4 m (ix3 r h x)) ![(opp (dsum m h r)), less (opp (dsum m h r)) (opp (dsum m h r)), less (less (opp (dsum m h r)) (opp (dsum m h r))) (less (opp (dsum m h r)) (opp (dsum m h r))), 0, 0, 0] e := by
  show V m 0 main_v85 (ix2 r (col h e) : S4096x1024.Idx) = _
  rw [V_split]
  refine (congrFun (late_85 (X1 m)) _).trans ((packed_85 _ _ _ _ _ (fun x => ?_) r h e).trans ?_)
  · idx_vars x
    exact late_v82 (X1 m) _ _ _
  · exact congrArg₂ (fun a t => pack a t e) (funext fun x => (congrFun ((late_arg4 (X1 m)).trans (X1_arg4 m)) _))
      (congrArg₂ Matrix.vecCons ((late_v75 (X1 m) r h 0).trans (by rw [X1_dsum])) (congrArg₂ Matrix.vecCons ((late_v78 (X1 m) r h 0).trans (by rw [X1_dsum])) (congrArg₂ Matrix.vecCons ((late_v81 (X1 m) r h 0).trans (by rw [X1_dsum])) (congrArg₂ Matrix.vecCons rfl (congrArg₂ Matrix.vecCons rfl (congrArg₂ Matrix.vecCons rfl rfl))))))

end Cert.Fox
-- ==== Proof.FoxHold.lean ====
module

public import proofs.«01_k».proof.Proof.FoxKeeps

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

theorem line_out {c : Dev nD} {arg : Memref sig .tc .vmem S8x1x4096 .f32} (f : Buf (Elt Ideal) (arg.view.loc (c : Thread nD τ)))
    {sig' : RefSig} {κ : Kind} {sp : Space} {v : View sig' κ sp S8x1x4096 .f32} {z : v.ty.Contents (Elt Ideal)} (x : S8x1x4096.Idx) :
    arg.view.read (Elt Ideal) (arg.view.writes (Elt Ideal) f [⟨Rect.unit ![0, 0, 0] ![8, 1, 4096] inb_S8x1x4096_S8x1x4096_0_0_0,
      v.readAt (Elt Ideal) (Rect.unit ![0, 0, 0] ![8, 1, 4096] inb_S8x1x4096_S8x1x4096_0_0_0).toLoadRect z⟩]) x = v.read (Elt Ideal) z x :=
  View.read_writes_apply_of_pieces arg.view f (fun x => v.read (Elt Ideal) z x) [_] (fun p hp y => by
    rcases List.mem_cons.1 hp with rfl | hp
    · rfl
    · cases hp) x ⟨_, List.mem_cons_self .., full_zero (s := S8x1x4096) (off := ![0, 0, 0]) inb_S8x1x4096_S8x1x4096_0_0_0 x⟩

section
variable {n : ℕ} {p : Fin 8 → FVec Ideal S512x512 .f32} {d : Fin 8 → Vec Ideal S512x128 .bf16} (M : Mats)
variable {sig' : RefSig} {κ : Kind} {sp : Space}

theorem zfresh0 (v : View sig' κ sp S4096x1024 .f32) {w : BitVec 32} {hw : Fits w} (hJ : rowOff w = 512 * rowN n) (hl : rowN n < 8) (hp : IsTile M.ds n p) (hd : ∀ h a e, d h (ix2 a e) = M.k (at' (colN n) a) h e) (h0 : n = 0) (f0 s : v.ty.Contents (Elt Ideal)) (r h e) :
    v.read (Elt Ideal) (v.writes (Elt Ideal) s (chain v f0 [⟨Rect.unit ![0, 0] ![4096, 1024] inb_S4096x1024_S4096x1024_0_0, k0_pay1 (F := Ideal)⟩] (rowsR w hw) (fun h old => recast (upDq (p h) (d h) old)) heads8)) (ix2 r (col h e)) = M.dq (n + 1) r h e :=
  hold_dq M hJ hl hp hd (g := fun _ => (0 : EReal)) (fun _ _ _ => by subst h0; rfl) (hit_chain v (rowsR w hw) (rowsR_apart w hw) _ _ _ _ _ (zeroed0 v f0) (zeroed0 v s)) (fun x hx => chain_miss v (rowsR w hw) _ _ _ _ _ (zeroed0 v s) x heads8 hx) r h e

theorem zkept0 (v : View sig' κ sp S4096x1024 .f32) {w : BitVec 32} {hw : Fits w} (hJ : rowOff w = 512 * rowN n) (hl : rowN n < 8) (hp : IsTile M.ds n p) (hd : ∀ h a e, d h (ix2 a e) = M.k (at' (colN n) a) h e) (s : v.ty.Contents (Elt Ideal))
    (hs : ∀ r h e, v.read (Elt Ideal) s (ix2 r (col h e)) = M.dq n r h e) (r h e) :
    v.read (Elt Ideal) (v.writes (Elt Ideal) s (chain v s [] (rowsR w hw) (fun h old => recast (upDq (p h) (d h) old)) heads8)) (ix2 r (col h e)) = M.dq (n + 1) r h e :=
  hold_dq M hJ hl hp hd hs (hit_chain v (rowsR w hw) (rowsR_apart w hw) _ _ _ _ _ (fun _ => rfl) (fun _ => rfl)) (fun x hx => chain_miss v (rowsR w hw) _ _ _ _ _ (fun _ => rfl) x heads8 hx) r h e

theorem zfresh1 (v : View sig' κ sp S512x1024 .f32) (hp : IsTile M.ds n p) (hd : ∀ h a e, d h (ix2 a e) = M.q (at' (rowN n) a) h e) (h0 : rowN n = colN n) (f0 s : v.ty.Contents (Elt Ideal)) (b h e) :
    v.read (Elt Ideal) (v.writes (Elt Ideal) s (chain v f0 [⟨Rect.unit ![0, 0] ![512, 1024] inb_S512x1024_S512x1024_0_0, k0_pay3 (F := Ideal)⟩] colR (fun h old => recast (upDv (p h) (d h) old)) heads8)) (ix2 b (col h e)) = M.dk (n + 1) b h e :=
  hold_dk M hp hd (g := fun _ => (0 : EReal)) (fun _ _ _ => (if_pos h0).symm) (hit_chain v colR colR_apart _ _ _ _ _ (zeroed1 v f0) (zeroed1 v s)) b h e

theorem zkept1 (v : View sig' κ sp S512x1024 .f32) (hp : IsTile M.ds n p) (hd : ∀ h a e, d h (ix2 a e) = M.q (at' (rowN n) a) h e) (h0 : ¬ rowN n = colN n) (f0 s : v.ty.Contents (Elt Ideal))
    (hs : ∀ b h e, v.read (Elt Ideal) s (ix2 b (col h e)) = M.dk n b h e) (b h e) :
    v.read (Elt Ideal) (v.writes (Elt Ideal) f0 (plain colR fun h => recast (upDv (p h) (d h) (v.readAt (Elt Ideal) (colR h).toLoadRect s)))) (ix2 b (col h e)) = M.dk (n + 1) b h e :=
  hold_dk M hp hd (fun b h e => (hs b h e).trans (if_neg h0).symm)
    (hit_plain v colR colR_apart s f0 (fun h old => recast (upDv (p h) (d h) old))) b h e

theorem zfresh2 (v : View sig' κ sp S512x1024 .f32) (hp : IsTile M.pt n p) (hd : ∀ h a e, d h (ix2 a e) = M.d (at' (rowN n) a) h e) (h0 : rowN n = colN n) (f0 s : v.ty.Contents (Elt Ideal)) (b h e) :
    v.read (Elt Ideal) (v.writes (Elt Ideal) s (chain v f0 [⟨Rect.unit ![0, 0] ![512, 1024] inb_S512x1024_S512x1024_0_0, k0_pay4 (F := Ideal)⟩] colR (fun h old => recast (upDv (p h) (d h) old)) heads8)) (ix2 b (col h e)) = M.dv (n + 1) b h e :=
  hold_dv M hp hd (g := fun _ => (0 : EReal)) (fun _ _ _ => (if_pos h0).symm) (hit_chain v colR colR_apart _ _ _ _ _ (zeroed2 v f0) (zeroed2 v s)) b h e

theorem zkept2 (v : View sig' κ sp S512x1024 .f32) (hp : IsTile M.pt n p) (hd : ∀ h a e, d h (ix2 a e) = M.d (at' (rowN n) a) h e) (h0 : ¬ rowN n = colN n) (f0 s : v.ty.Contents (Elt Ideal))
    (hs : ∀ b h e, v.read (Elt Ideal) s (ix2 b (col h e)) = M.dv n b h e) (b h e) :
    v.read (Elt Ideal) (v.writes (Elt Ideal) f0 (plain colR fun h => recast (upDv (p h) (d h) (v.readAt (Elt Ideal) (colR h).toLoadRect s)))) (ix2 b (col h e)) = M.dv (n + 1) b h e :=
  hold_dv M hp hd (fun b h e => (hs b h e).trans (if_neg h0).symm)
    (hit_plain v colR colR_apart s f0 (fun h old => recast (upDv (p h) (d h) old))) b h e

theorem zfresh3 (v : View sig' κ sp S8x512x1 .f32) (hp : IsTile M.ds n p) (h0 : rowN n = colN n) (f0 s : v.ty.Contents (Elt Ideal)) (h b) :
    v.read (Elt Ideal) (v.writes (Elt Ideal) s (chain v f0 [⟨Rect.unit ![0, 0, 0] ![8, 512, 1] inb_S8x512x1_S8x512x1_0_0_0, k0_pay5 (F := Ideal)⟩] headR (fun h old => upDc (p h) old) heads8)) (ix3 h b 0) = M.dc (n + 1) h b :=
  hold_dc M hp (g := fun _ => (0 : EReal)) (fun _ _ => (if_pos h0).symm) (hit_chain v headR headR_apart _ _ _ _ _ (zeroed3 v f0) (zeroed3 v s)) h b

theorem zkept3 (v : View sig' κ sp S8x512x1 .f32) (hp : IsTile M.ds n p) (h0 : ¬ rowN n = colN n) (f0 s : v.ty.Contents (Elt Ideal))
    (hs : ∀ h b, v.read (Elt Ideal) s (ix3 h b 0) = M.dc n h b) (h b) :
    v.read (Elt Ideal) (v.writes (Elt Ideal) f0 (plain headR fun h => upDc (p h) (v.readAt (Elt Ideal) (headR h).toLoadRect s))) (ix3 h b 0) = M.dc (n + 1) h b :=
  hold_dc M hp (fun h b => (hs h b).trans (if_neg h0).symm)
    (hit_plain v headR headR_apart s f0 (fun h old => upDc (p h) old)) h b

theorem zfresh4 (v : View sig' κ sp S8x1x4096 .f32) {w : BitVec 32} {hw : Fits w} (hJ : rowOff w = 512 * rowN n) (hl : rowN n < 8) (hp : IsTile M.ds n p) (h0 : n = 0) (f0 s : v.ty.Contents (Elt Ideal)) (h r) :
    v.read (Elt Ideal) (v.writes (Elt Ideal) s (chain v f0 [⟨Rect.unit ![0, 0, 0] ![8, 1, 4096] inb_S8x1x4096_S8x1x4096_0_0_0, k0_pay2 (F := Ideal)⟩] (lineR w hw) (fun h old => upDr (p h) old) heads8)) (ix3 h 0 r) = M.dr (n + 1) h r :=
  hold_dr M hJ hl hp (g := fun _ => (0 : EReal)) (fun _ _ => by subst h0; rfl) (hit_chain v (lineR w hw) (lineR_apart w hw) _ _ _ _ _ (zeroed4 v f0) (zeroed4 v s)) (fun x hx => chain_miss v (lineR w hw) _ _ _ _ _ (zeroed4 v s) x heads8 hx) h r

theorem zkept4 (v : View sig' κ sp S8x1x4096 .f32) {w : BitVec 32} {hw : Fits w} (hJ : rowOff w = 512 * rowN n) (hl : rowN n < 8) (hp : IsTile M.ds n p) (s : v.ty.Contents (Elt Ideal))
    (hs : ∀ h r, v.read (Elt Ideal) s (ix3 h 0 r) = M.dr n h r) (h r) :
    v.read (Elt Ideal) (v.writes (Elt Ideal) s (chain v s [] (lineR w hw) (fun h old => upDr (p h) old) heads8)) (ix3 h 0 r) = M.dr (n + 1) h r :=
  hold_dr M hJ hl hp hs (hit_chain v (lineR w hw) (lineR_apart w hw) _ _ _ _ _ (fun _ => rfl) (fun _ => rfl)) (fun x hx => chain_miss v (lineR w hw) _ _ _ _ _ (fun _ => rfl) x heads8 hx) h r
end

end Cert.Fox
-- ==== Proof.FoxInv.lean ====
module

public import proofs.«01_k».proof.Proof.FoxHold

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

set_option maxHeartbeats 2000000 in
theorem keeps : Keeps m (Sums m) (Wrote m) where
  start _ _ _ _ _ h := absurd rfl h
  step := by
    intro c t a4 H4 a5 H5 a6 H6 a7 H7 a8 H8 a9 H9 a10 H10 a11 H11 a12 H12 f4 f5 f6 f7 f8 f9 f10 f11 f12 s0 s1 s2 s3 s4 o ho hI r4 r5 r6 r7
    obtain ⟨hN, hJ, -, -, hl, hle, c1, c2, c5, c6⟩ := tile_facts t
    have q4 := stages0 m r4
    have q5 := stages1 m r5
    have q6 := stages2 m r6
    have q7 := stages3 m r7
    have hw : Fits (wordAt (F := Ideal) (grid0.coords t) (Memref.whole main_c) (tabs 0)) := by rw [word_row]; exact fits_row _
    rw [← word_row (F := Ideal)] at hJ c2 c5
    rw [← word_col (F := Ideal)] at c2
    cases ho with
    | first hk h1 h2 h3 h4 h5 h6 =>
      rw [outFirst_eq (hw := hw)]
      have ht0 := c1.1 h1
      have hd := c2.1 h2
      have n5 : ¬ rowN t.val = 7 := fun k => h5 (c5.2 k)
      have n6 : ¬ t.val = 35 := fun k => h6 (c6.2 k)
      refine ⟨fun _ => ⟨?_, ?_, ?_, ?_, ?_⟩, fun k => absurd k n6, fun k => absurd k n5, fun k => absurd k n5, fun k => absurd k n5, fun k => absurd k n6⟩
      · dsimp only
        exact zfresh0 (mats m) (View.whole cc0_scratch0) hJ hl (ds_diag (mats m) q4 q5 q6 q7 hd hl) q5 ht0 _ _
      · dsimp only
        exact zfresh1 (mats m) (View.whole cc0_scratch1) (ds_diag (mats m) q4 q5 q6 q7 hd hl) q4 hd _ _
      · dsimp only
        exact zfresh2 (mats m) (View.whole cc0_scratch2) (pt_diag (mats m) q4 q5 hd hl) q7 hd _ _
      · dsimp only
        exact zfresh3 (mats m) (View.whole cc0_scratch3) (ds_diag (mats m) q4 q5 q6 q7 hd hl) hd _ _
      · dsimp only
        exact zfresh4 (mats m) (View.whole cc0_scratch4) hJ hl (ds_diag (mats m) q4 q5 q6 q7 hd hl) ht0 _ _
    | below hk h1 h2 h3 h4 h5 h6 =>
      rw [outBelow_eq (hw := hw)]
      have ht0 : t.val ≠ 0 := fun k => h1 (c1.2 k)
      have hn : ¬ rowN t.val = colN t.val := fun k => h2 (c2.2 k)
      have hd : colN t.val < rowN t.val := by omega
      obtain ⟨i0, i1, i2, i3, i4⟩ := hI ht0
      have n5 : ¬ rowN t.val = 7 := fun k => h5 (c5.2 k)
      have n6 : ¬ t.val = 35 := fun k => h6 (c6.2 k)
      refine ⟨fun _ => ⟨?_, ?_, ?_, ?_, ?_⟩, fun k => absurd k n6, fun k => absurd k n5, fun k => absurd k n5, fun k => absurd k n5, fun k => absurd k n6⟩
      · dsimp only
        exact zkept0 (mats m) (View.whole cc0_scratch0) hJ hl (ds_below (mats m) q4 q5 q6 q7 hd hl) q5 s0 i0
      · dsimp only
        exact zkept1 (mats m) (View.whole cc0_scratch1) (ds_below (mats m) q4 q5 q6 q7 hd hl) q4 hn _ s1 i1
      · dsimp only
        exact zkept2 (mats m) (View.whole cc0_scratch2) (pt_below (mats m) q4 q5 hd hl) q7 hn _ s2 i2
      · dsimp only
        exact zkept3 (mats m) (View.whole cc0_scratch3) (ds_below (mats m) q4 q5 q6 q7 hd hl) hn _ s3 i3
      · dsimp only
        exact zkept4 (mats m) (View.whole cc0_scratch4) hJ hl (ds_below (mats m) q4 q5 q6 q7 hd hl) s4 i4
    | bottom hk h1 h2 h3 h4 h5 h6 =>
      rw [outBottom_eq (hw := hw)]
      have ht0 : t.val ≠ 0 := fun k => h1 (c1.2 k)
      have hn : ¬ rowN t.val = colN t.val := fun k => h2 (c2.2 k)
      have hd : colN t.val < rowN t.val := by omega
      obtain ⟨i0, i1, i2, i3, i4⟩ := hI ht0
      have n6 : ¬ t.val = 35 := fun k => h6 (c6.2 k)
      refine ⟨fun _ => ⟨?_, ?_, ?_, ?_, ?_⟩, fun k => absurd k n6, ?_, ?_, ?_, fun k => absurd k n6⟩
      · dsimp only
        exact zkept0 (mats m) (View.whole cc0_scratch0) hJ hl (ds_below (mats m) q4 q5 q6 q7 hd hl) q5 s0 i0
      · dsimp only
        exact zkept1 (mats m) (View.whole cc0_scratch1) (ds_below (mats m) q4 q5 q6 q7 hd hl) q4 hn _ s1 i1
      · dsimp only
        exact zkept2 (mats m) (View.whole cc0_scratch2) (pt_below (mats m) q4 q5 hd hl) q7 hn _ s2 i2
      · dsimp only
        exact zkept3 (mats m) (View.whole cc0_scratch3) (ds_below (mats m) q4 q5 q6 q7 hd hl) hn _ s3 i3
      · dsimp only
        exact zkept4 (mats m) (View.whole cc0_scratch4) hJ hl (ds_below (mats m) q4 q5 q6 q7 hd hl) s4 i4
      · dsimp only
        exact fun _ => half_out f9 (zkept1 (mats m) (View.whole cc0_scratch1) (ds_below (mats m) q4 q5 q6 q7 hd hl) q4 hn _ s1 i1)
      · dsimp only
        exact fun _ => half_out f10 (zkept2 (mats m) (View.whole cc0_scratch2) (pt_below (mats m) q4 q5 hd hl) q7 hn _ s2 i2)
      · dsimp only
        exact fun _ => dc_out f11 (zkept3 (mats m) (View.whole cc0_scratch3) (ds_below (mats m) q4 q5 q6 q7 hd hl) hn _ s3 i3)
    | diag hk h1 h2 h3 h4 h5 h6 =>
      rw [outDiag_eq (hw := hw)]
      have ht0 : t.val ≠ 0 := fun k => h1 (c1.2 k)
      have hd := c2.1 h2
      obtain ⟨i0, i1, i2, i3, i4⟩ := hI ht0
      have n5 : ¬ rowN t.val = 7 := fun k => h5 (c5.2 k)
      have n6 : ¬ t.val = 35 := fun k => h6 (c6.2 k)
      refine ⟨fun _ => ⟨?_, ?_, ?_, ?_, ?_⟩, fun k => absurd k n6, fun k => absurd k n5, fun k => absurd k n5, fun k => absurd k n5, fun k => absurd k n6⟩
      · dsimp only
        exact zkept0 (mats m) (View.whole cc0_scratch0) hJ hl (ds_diag (mats m) q4 q5 q6 q7 hd hl) q5 s0 i0
      · dsimp only
        exact zfresh1 (mats m) (View.whole cc0_scratch1) (ds_diag (mats m) q4 q5 q6 q7 hd hl) q4 hd _ _
      · dsimp only
        exact zfresh2 (mats m) (View.whole cc0_scratch2) (pt_diag (mats m) q4 q5 hd hl) q7 hd _ _
      · dsimp only
        exact zfresh3 (mats m) (View.whole cc0_scratch3) (ds_diag (mats m) q4 q5 q6 q7 hd hl) hd _ _
      · dsimp only
        exact zkept4 (mats m) (View.whole cc0_scratch4) hJ hl (ds_diag (mats m) q4 q5 q6 q7 hd hl) s4 i4
    | last hk h1 h2 h3 h4 h5 h6 =>
      rw [outLast_eq (hw := hw)]
      have ht0 : t.val ≠ 0 := fun k => h1 (c1.2 k)
      have hd := c2.1 h2
      obtain ⟨i0, i1, i2, i3, i4⟩ := hI ht0
      refine ⟨fun _ => ⟨?_, ?_, ?_, ?_, ?_⟩, ?_, ?_, ?_, ?_, ?_⟩
      · dsimp only
        exact zkept0 (mats m) (View.whole cc0_scratch0) hJ hl (ds_diag (mats m) q4 q5 q6 q7 hd hl) q5 s0 i0
      · dsimp only
        exact zfresh1 (mats m) (View.whole cc0_scratch1) (ds_diag (mats m) q4 q5 q6 q7 hd hl) q4 hd _ _
      · dsimp only
        exact zfresh2 (mats m) (View.whole cc0_scratch2) (pt_diag (mats m) q4 q5 hd hl) q7 hd _ _
      · dsimp only
        exact zfresh3 (mats m) (View.whole cc0_scratch3) (ds_diag (mats m) q4 q5 q6 q7 hd hl) hd _ _
      · dsimp only
        exact zkept4 (mats m) (View.whole cc0_scratch4) hJ hl (ds_diag (mats m) q4 q5 q6 q7 hd hl) s4 i4
      · dsimp only
        exact fun _ => dq_out f8 (zkept0 (mats m) (View.whole cc0_scratch0) hJ hl (ds_diag (mats m) q4 q5 q6 q7 hd hl) q5 s0 i0)
      · dsimp only
        exact fun _ => half_out f9 (zfresh1 (mats m) (View.whole cc0_scratch1) (ds_diag (mats m) q4 q5 q6 q7 hd hl) q4 hd _ _)
      · dsimp only
        exact fun _ => half_out f10 (zfresh2 (mats m) (View.whole cc0_scratch2) (pt_diag (mats m) q4 q5 hd hl) q7 hd _ _)
      · dsimp only
        exact fun _ => dc_out f11 (zfresh3 (mats m) (View.whole cc0_scratch3) (ds_diag (mats m) q4 q5 q6 q7 hd hl) hd _ _)
      · dsimp only
        exact fun _ h r => (line_out f12 _).trans (zkept4 (mats m) (View.whole cc0_scratch4) hJ hl (ds_diag (mats m) q4 q5 q6 q7 hd hl) s4 i4 h r)

end Cert.Fox
-- ==== Proof.FoxArr.lean ====
module

public import proofs.«01_k».proof.Proof.FoxInv

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL
open Idealize.ShloMosaic.Pipeline (RDat Dat)

variable (m : (ℓ : Loc nD τ sig) → Buf (Elt Ideal) ℓ)

/-- The point that closes column `J` of tiles. -/
def closeN (J : ℕ) : ℕ := ([7, 14, 20, 25, 29, 32, 34, 35] : List ℕ).getD J 0

theorem close_facts : ∀ t : Fin grid0.N, rowN t.val = 7 → closeN (colN t.val) = t.val ∧ colN t.val < 8 := by decide +kernel

theorem flush4 : ∀ t : Fin grid0.N, ((cfgF (F := Ideal)).win 4).flush t = true ↔ t.val = 35 := by decide +kernel
theorem covers4 : ((cfgF (F := Ideal)).win 4).Covers := by decide +kernel
theorem flush5 : ∀ t : Fin grid0.N, ((cfgF (F := Ideal)).win 5).flush t = true ↔ rowN t.val = 7 := by decide +kernel
theorem covers5 : ((cfgF (F := Ideal)).win 5).Covers := by decide +kernel
theorem flush6 : ∀ t : Fin grid0.N, ((cfgF (F := Ideal)).win 6).flush t = true ↔ rowN t.val = 7 := by decide +kernel
theorem covers6 : ((cfgF (F := Ideal)).win 6).Covers := by decide +kernel
theorem flush7 : ∀ t : Fin grid0.N, ((cfgF (F := Ideal)).win 7).flush t = true ↔ rowN t.val = 7 := by decide +kernel
theorem covers7 : ((cfgF (F := Ideal)).win 7).Covers := by decide +kernel
theorem flush8 : ∀ t : Fin grid0.N, ((cfgF (F := Ideal)).win 8).flush t = true ↔ t.val = 35 := by decide +kernel
theorem covers8 : ((cfgF (F := Ideal)).win 8).Covers := by decide +kernel
theorem idx4 : ∀ (t : Fin grid0.N) a, ((cfgF (F := Ideal)).win 4).index t a = 0 := by decide +kernel
theorem idx8 : ∀ (t : Fin grid0.N) a, ((cfgF (F := Ideal)).win 8).index t a = 0 := by decide +kernel

section
variable {r : PUnit × MemSt nD τ sig (Elt Ideal)} (h : RDat.FramePost (cfgF (F := Ideal)) (rdat m (Sums m) (Wrote m)) (V m) r)
include h

theorem arr_dq (r' : Fin 4096) (h' : Fin 8) (e : Fin 64) :
    r.2.mem (((0 : Dev nD) : Thread nD τ).loc main_v86_0) (ix2 r' (ocol h' e) : S4096x512.Idx) = (mats m).dq 36 r' h' ⟨e.val, by omega⟩ * Ideal.ofBits .f32 0x3E000000#32 := by
  obtain ⟨after, hL, hA⟩ := RDat.FramePost.exists_exact h 0
  refine (congrFun (hA 4) _).trans ?_
  refine ((rdat m (Sums m) (Wrote m) 0).withAfter after).arrAt_forall_of_covers 4
    (fun i v => i = (ix2 r' (ocol h' e) : S4096x512.Idx) → v = (mats m).dq 36 r' h' ⟨e.val, by omega⟩ * Ideal.ofBits .f32 0x3E000000#32) covers4 (fun t hf y => ?_) (ix2 r' (ocol h' e) : S4096x512.Idx) (Memref.isWhole_whole _) rfl
  obtain ⟨Y, -, hX⟩ := hL 4 t hf
  have ht := (flush4 t).1 hf
  have ho : Wrote4 m t (after 4 t) := hX.2 (by decide)
  intro hi
  have hy : y = (ix2 r' (ocol h' e) : S4096x512.Idx) := by
    refine Eq.trans ?_ hi
    funext x
    refine Fin.ext (Eq.trans ?_ (Pipeline.Window.rect_emb_val ((cfgF (F := Ideal)).win 4) t y x).symm)
    exact ((congrArg (fun z => z * _ + _) (idx4 t x)).trans ((congrArg (· + _) (Nat.zero_mul _)).trans (Nat.zero_add _))).symm
  subst hy
  refine (show _ = after 4 t (ix2 r' (ocol h' e) : S4096x512.Idx) from rfl).trans ((ho ht r' h' e).trans ?_)
  rw [ht]

theorem arr_dr (h' : Fin 8) (r' : Fin 4096) :
    r.2.mem (((0 : Dev nD) : Thread nD τ).loc main_v86_4) (ix3 h' 0 r' : S8x1x4096.Idx) = (mats m).dr 36 h' r' := by
  obtain ⟨after, hL, hA⟩ := RDat.FramePost.exists_exact h 0
  refine (congrFun (hA 8) _).trans ?_
  refine ((rdat m (Sums m) (Wrote m) 0).withAfter after).arrAt_forall_of_covers 8
    (fun i v => i = (ix3 h' 0 r' : S8x1x4096.Idx) → v = (mats m).dr 36 h' r') covers8 (fun t hf y => ?_) (ix3 h' 0 r' : S8x1x4096.Idx) (Memref.isWhole_whole _) rfl
  obtain ⟨Y, -, hX⟩ := hL 8 t hf
  have ht := (flush8 t).1 hf
  have ho : Wrote8 m t (after 8 t) := hX.2 (by decide)
  intro hi
  have hy : y = (ix3 h' 0 r' : S8x1x4096.Idx) := by
    refine Eq.trans ?_ hi
    funext x
    refine Fin.ext (Eq.trans ?_ (Pipeline.Window.rect_emb_val ((cfgF (F := Ideal)).win 8) t y x).symm)
    exact ((congrArg (fun z => z * _ + _) (idx8 t x)).trans ((congrArg (· + _) (Nat.zero_mul _)).trans (Nat.zero_add _))).symm
  subst hy
  refine (show _ = after 8 t (ix3 h' 0 r' : S8x1x4096.Idx) from rfl).trans ((ho ht h' r').trans ?_)
  rw [ht]

theorem arr_dk (J : ℕ) (hJ : J < 8) (b : Fin 512) (h' : Fin 8) (e : Fin 64) :
    r.2.mem (((0 : Dev nD) : Thread nD τ).loc main_v86_1) (ix2 (at' J b) (ocol h' e) : S4096x512.Idx) = (mats m).dk (closeN J + 1) b h' ⟨e.val, by omega⟩ := by
  obtain ⟨after, hL, hA⟩ := RDat.FramePost.exists_exact h 0
  refine (congrFun (hA 5) _).trans ?_
  refine ((rdat m (Sums m) (Wrote m) 0).withAfter after).arrAt_forall_of_covers 5
    (fun i v => i = (ix2 (at' J b) (ocol h' e) : S4096x512.Idx) → v = (mats m).dk (closeN J + 1) b h' ⟨e.val, by omega⟩) covers5 (fun t hf y => ?_) (ix2 (at' J b) (ocol h' e) : S4096x512.Idx) (Memref.isWhole_whole _) rfl
  obtain ⟨Y, -, hX⟩ := hL 5 t hf
  have ht := (flush5 t).1 hf
  have ho : Wrote5 m t (after 5 t) := hX.2 (by decide)
  obtain ⟨hN, -, hr, hc, hl, hle, -⟩ := tile_facts t
  obtain ⟨hcl, hc8⟩ := close_facts t ht
  have hix : ((cfgF (F := Ideal)).win 5).index t = _ := tr5 (F := Ideal) (grid0.coords t)
  intro hi
  have h0 : (colW (grid0.coords t)).toNat * 512 + (y 0).val = (512 * J + b.val) % 4096 := by
    refine Eq.trans ?_ (congrArg (fun i : S4096x512.Idx => (i 0).val) hi)
    refine Eq.trans ?_ (Pipeline.Window.rect_emb_val ((cfgF (F := Ideal)).win 5) t y 0).symm
    rw [hix]
    rfl
  have h1 : 0 * 512 + (y 1).val = (ocol h' e).val := by
    refine Eq.trans ?_ (congrArg (fun i : S4096x512.Idx => (i 1).val) hi)
    refine Eq.trans ?_ (Pipeline.Window.rect_emb_val ((cfgF (F := Ideal)).win 5) t y 1).symm
    rw [hix]
    rfl
  have hb : (y 0).val < 512 := (y 0).isLt
  have hJt : colN t.val = J := by omega
  have hy : y = (ix2 b (ocol h' e) : S512x512.Idx) := by
    funext x
    match x with
    | ⟨0, _⟩ => exact Fin.ext (show (y 0).val = b.val by omega)
    | ⟨1, _⟩ => exact Fin.ext (show (y 1).val = (ocol h' e).val by omega)
  subst hy
  refine (show _ = after 5 t (ix2 b (ocol h' e) : S512x512.Idx) from rfl).trans ((ho ht b h' e).trans ?_)
  rw [← hJt, hcl]

theorem arr_dv (J : ℕ) (hJ : J < 8) (b : Fin 512) (h' : Fin 8) (e : Fin 64) :
    r.2.mem (((0 : Dev nD) : Thread nD τ).loc main_v86_2) (ix2 (at' J b) (ocol h' e) : S4096x512.Idx) = (mats m).dv (closeN J + 1) b h' ⟨e.val, by omega⟩ := by
  obtain ⟨after, hL, hA⟩ := RDat.FramePost.exists_exact h 0
  refine (congrFun (hA 6) _).trans ?_
  refine ((rdat m (Sums m) (Wrote m) 0).withAfter after).arrAt_forall_of_covers 6
    (fun i v => i = (ix2 (at' J b) (ocol h' e) : S4096x512.Idx) → v = (mats m).dv (closeN J + 1) b h' ⟨e.val, by omega⟩) covers6 (fun t hf y => ?_) (ix2 (at' J b) (ocol h' e) : S4096x512.Idx) (Memref.isWhole_whole _) rfl
  obtain ⟨Y, -, hX⟩ := hL 6 t hf
  have ht := (flush6 t).1 hf
  have ho : Wrote6 m t (after 6 t) := hX.2 (by decide)
  obtain ⟨hN, -, hr, hc, hl, hle, -⟩ := tile_facts t
  obtain ⟨hcl, hc8⟩ := close_facts t ht
  have hix : ((cfgF (F := Ideal)).win 6).index t = _ := tr6 (F := Ideal) (grid0.coords t)
  intro hi
  have h0 : (colW (grid0.coords t)).toNat * 512 + (y 0).val = (512 * J + b.val) % 4096 := by
    refine Eq.trans ?_ (congrArg (fun i : S4096x512.Idx => (i 0).val) hi)
    refine Eq.trans ?_ (Pipeline.Window.rect_emb_val ((cfgF (F := Ideal)).win 6) t y 0).symm
    rw [hix]
    rfl
  have h1 : 0 * 512 + (y 1).val = (ocol h' e).val := by
    refine Eq.trans ?_ (congrArg (fun i : S4096x512.Idx => (i 1).val) hi)
    refine Eq.trans ?_ (Pipeline.Window.rect_emb_val ((cfgF (F := Ideal)).win 6) t y 1).symm
    rw [hix]
    rfl
  have hb : (y 0).val < 512 := (y 0).isLt
  have hJt : colN t.val = J := by omega
  have hy : y = (ix2 b (ocol h' e) : S512x512.Idx) := by
    funext x
    match x with
    | ⟨0, _⟩ => exact Fin.ext (show (y 0).val = b.val by omega)
    | ⟨1, _⟩ => exact Fin.ext (show (y 1).val = (ocol h' e).val by omega)
  subst hy
  refine (show _ = after 6 t (ix2 b (ocol h' e) : S512x512.Idx) from rfl).trans ((ho ht b h' e).trans ?_)
  rw [← hJt, hcl]

theorem arr_dc (J : ℕ) (hJ : J < 8) (b : Fin 512) (h' : Fin 8) (e : Fin 64) :
    r.2.mem (((0 : Dev nD) : Thread nD τ).loc main_v86_3) (ix2 (at' J b) (ocol h' e) : S4096x512.Idx) = (mats m).dc (closeN J + 1) h' b := by
  obtain ⟨after, hL, hA⟩ := RDat.FramePost.exists_exact h 0
  refine (congrFun (hA 7) _).trans ?_
  refine ((rdat m (Sums m) (Wrote m) 0).withAfter after).arrAt_forall_of_covers 7
    (fun i v => i = (ix2 (at' J b) (ocol h' e) : S4096x512.Idx) → v = (mats m).dc (closeN J + 1) h' b) covers7 (fun t hf y => ?_) (ix2 (at' J b) (ocol h' e) : S4096x512.Idx) (Memref.isWhole_whole _) rfl
  obtain ⟨Y, -, hX⟩ := hL 7 t hf
  have ht := (flush7 t).1 hf
  have ho : Wrote7 m t (after 7 t) := hX.2 (by decide)
  obtain ⟨hN, -, hr, hc, hl, hle, -⟩ := tile_facts t
  obtain ⟨hcl, hc8⟩ := close_facts t ht
  have hix : ((cfgF (F := Ideal)).win 7).index t = _ := tr7 (F := Ideal) (grid0.coords t)
  intro hi
  have h0 : (colW (grid0.coords t)).toNat * 512 + (y 0).val = (512 * J + b.val) % 4096 := by
    refine Eq.trans ?_ (congrArg (fun i : S4096x512.Idx => (i 0).val) hi)
    refine Eq.trans ?_ (Pipeline.Window.rect_emb_val ((cfgF (F := Ideal)).win 7) t y 0).symm
    rw [hix]
    rfl
  have h1 : 0 * 512 + (y 1).val = (ocol h' e).val := by
    refine Eq.trans ?_ (congrArg (fun i : S4096x512.Idx => (i 1).val) hi)
    refine Eq.trans ?_ (Pipeline.Window.rect_emb_val ((cfgF (F := Ideal)).win 7) t y 1).symm
    rw [hix]
    rfl
  have hb : (y 0).val < 512 := (y 0).isLt
  have hJt : colN t.val = J := by omega
  have hy : y = (ix2 b (ocol h' e) : S512x512.Idx) := by
    funext x
    match x with
    | ⟨0, _⟩ => exact Fin.ext (show (y 0).val = b.val by omega)
    | ⟨1, _⟩ => exact Fin.ext (show (y 1).val = (ocol h' e).val by omega)
  subst hy
  refine (show _ = after 7 t (ix2 b (ocol h' e) : S512x512.Idx) from rfl).trans ((ho ht b h' e).trans ?_)
  rw [← hJt, hcl]

end

end Cert.Fox
-- ==== Proof.FoxSum.lean ====
module

public import proofs.«01_k».proof.Proof.FoxArr

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL
open Idealize.ShloMosaic.Pipeline (RDat Dat)

/-! The running sums at the points that write them, as sums over all the rows of the other operand. -/

theorem gathered (g : ℕ → EReal) (x : ℕ → EReal) (I : ℕ) (hI : I < 8) (h0 : g 0 = 0)
    (hs : ∀ n, g (n + 1) = if I = rowN n then g n + x (colN n) else g n) :
    g 36 = ∑ J ∈ Finset.range 8, if J ≤ I then x J else 0 := by
  have hg : ∀ n, g n = ∑ t ∈ Finset.range n, if I = rowN t then x (colN t) else 0 := by
    intro n
    induction n with
    | zero => simpa using h0
    | succ n ih => rw [hs, Finset.sum_range_succ, ← ih]; split <;> simp
  rw [hg]
  interval_cases I <;> simp [Finset.sum_range_succ, rowN, colN]

theorem closed (g : ℕ → EReal) (y : ℕ → ℕ → EReal) (J : ℕ) (hJ : J < 8)
    (hs : ∀ n, g (n + 1) = (if rowN n = colN n then 0 else g n) + y (colN n) (rowN n)) :
    g (closeN J + 1) = ∑ I ∈ Finset.range 8, if J ≤ I then y J I else 0 := by
  interval_cases J <;> simp [Finset.sum_range_succ, rowN, colN, closeN, hs]

/-- The 4096 rows tile by tile. -/
theorem sum_tiles (f : Fin 4096 → EReal) : ∑ J ∈ Finset.range 8, ∑ b : Fin 512, f (at' J b) = ∑ j : Fin 4096, f j := by
  rw [Finset.sum_range (fun J => ∑ b : Fin 512, f (at' J b)), ← Fintype.sum_prod_type']
  refine Fintype.sum_equiv (finProdFinEquiv (m := 8) (n := 512)) _ _ fun p => congrArg f (Fin.ext ?_)
  show (512 * p.1.val + p.2.val) % 4096 = p.2.val + 512 * p.1.val
  have := p.1.isLt
  have := p.2.isLt
  omega

theorem at'_val (J : ℕ) (hJ : J < 8) (b : Fin 512) : (at' J b).val = 512 * J + b.val := Nat.mod_eq_of_lt (by omega)

namespace Mats
variable (M : Mats)

theorem pt_eq_zero {h : Fin 8} {j i : Fin 4096} (hj : ¬ j ≤ i) : M.pt h j i = 0 := if_neg hj
theorem ds_eq_zero {h : Fin 8} {j i : Fin 4096} (hj : ¬ j ≤ i) : M.ds h j i = 0 := by
  rw [ds, M.pt_eq_zero hj, zero_mul]

theorem over_rows (g : ℕ → EReal) (f : Fin 4096 → EReal) (r : Fin 4096) (hf : ∀ j, ¬ j ≤ r → f j = 0) (h0 : g 0 = 0)
    (hs : ∀ n, g (n + 1) = if r.val / 512 = rowN n then g n + ∑ b : Fin 512, f (at' (colN n) b) else g n) :
    g 36 = ∑ j : Fin 4096, f j := by
  rw [gathered g (fun J => ∑ b : Fin 512, f (at' J b)) (r.val / 512) (by omega) h0 hs, ← sum_tiles f]
  refine Finset.sum_congr rfl fun J hJ => ?_
  split
  · rfl
  · refine (Finset.sum_eq_zero fun b _ => hf _ fun hle => ?_).symm
    have hJ8 : J < 8 := Finset.mem_range.1 hJ
    have h1 : (at' J b).val ≤ r.val := hle
    rw [at'_val J hJ8] at h1
    omega

theorem over_cols (g : ℕ → EReal) (f : Fin 4096 → Fin 4096 → EReal) (J : ℕ) (hJ : J < 8) (b : Fin 512) (hf : ∀ j i, ¬ j ≤ i → f j i = 0)
    (hs : ∀ n, g (n + 1) = (if rowN n = colN n then 0 else g n) + ∑ a : Fin 512, f (at' (colN n) b) (at' (rowN n) a)) :
    g (closeN J + 1) = ∑ i : Fin 4096, f (at' J b) i := by
  rw [closed g (fun J I => ∑ a : Fin 512, f (at' J b) (at' I a)) J hJ hs, ← sum_tiles (f (at' J b))]
  refine Finset.sum_congr rfl fun I hI => ?_
  split
  · rfl
  · refine (Finset.sum_eq_zero fun a _ => hf _ _ fun hle => ?_).symm
    have hI8 : I < 8 := Finset.mem_range.1 hI
    have h1 : (at' J b).val ≤ (at' I a).val := hle
    rw [at'_val J hJ, at'_val I hI8] at h1
    omega

theorem dq_last (r : Fin 4096) (h : Fin 8) (e : Fin 128) : M.dq 36 r h e = ∑ j : Fin 4096, M.ds h j r * M.k j h e :=
  over_rows (fun n => M.dq n r h e) (fun j => M.ds h j r * M.k j h e) r (fun j hj => by rw [M.ds_eq_zero hj, zero_mul]) rfl fun _ => rfl

theorem dr_last (h : Fin 8) (r : Fin 4096) : M.dr 36 h r = ∑ j : Fin 4096, M.ds h j r :=
  over_rows (fun n => M.dr n h r) (fun j => M.ds h j r) r (fun j hj => M.ds_eq_zero hj) rfl fun _ => rfl

theorem dk_last (J : ℕ) (hJ : J < 8) (b : Fin 512) (h : Fin 8) (e : Fin 128) :
    M.dk (closeN J + 1) b h e = ∑ i : Fin 4096, M.ds h (at' J b) i * M.q i h e :=
  over_cols (fun n => M.dk n b h e) (fun j i => M.ds h j i * M.q i h e) J hJ b (fun j i hj => by rw [M.ds_eq_zero hj, zero_mul]) fun _ => rfl

theorem dv_last (J : ℕ) (hJ : J < 8) (b : Fin 512) (h : Fin 8) (e : Fin 128) :
    M.dv (closeN J + 1) b h e = ∑ i : Fin 4096, M.pt h (at' J b) i * M.d i h e :=
  over_cols (fun n => M.dv n b h e) (fun j i => M.pt h j i * M.d i h e) J hJ b (fun j i hj => by rw [M.pt_eq_zero hj, zero_mul]) fun _ => rfl

theorem dc_last (J : ℕ) (hJ : J < 8) (b : Fin 512) (h : Fin 8) : M.dc (closeN J + 1) h b = ∑ i : Fin 4096, M.ds h (at' J b) i :=
  over_cols (fun n => M.dc n h b) (fun j i => M.ds h j i) J hJ b (fun j i hj => M.ds_eq_zero hj) fun _ => rfl

end Mats

end Cert.Fox
-- ==== Proof.FoxRef.lean ====
module

public import proofs.«01_k».proof.Proof.FoxRead
public import proofs.«01_k».proof.Proof.Gen.Reference2Ideal.Read

@[expose] public section

set_option maxRecDepth 16384

noncomputable section

namespace Cert.Fox

open Cert.Reference2Ideal
open Idealize.ShloMosaic Idealize.ShloMosaic.TcCoe Idealize.ShloMosaic.Tactic
open Idealize.SL
open Cert.Reference2Ideal.Read

open Cert.Common

/-- A score's gradient from the output's cotangent along the keys, the exponentials and their sum. -/
def dsOf (ct e : Fin 4096 → EReal) (den : EReal) (j : Fin 4096) : EReal :=
  (Ideal.div (ct j) den + -∑ x, ct x * Ideal.div 1 (den * den) * e x) * e j

def total (s : Fin 4096 → EReal) : EReal := ∑ j, s j

variable (x0 x1 x2 : S4096x8x64.Idx → EReal) (x3 : S4096x8.Idx → EReal) (x4 : S4096x8x64.Idx → EReal)

theorem ref_scores (h : Fin 8) (i j : Fin 4096) : (val_main_v17_0 (F := Ideal) x0 x1 x3) (ix3 h i j : S8x4096x4096.Idx) = masked x0 x1 x3 h i j := by
  unfold val_main_v17_0 val_main_call0_v2 val_main_v17_1 val_main_call0_v0 val_main_cst_0 val_main_v16 val_main_v15 val_main_v14 val_main_v13 val_main_v12 val_main_v11 val_main_v10 val_main_v9 val_main_v8 val_main_v7 val_main_v6 val_main_v5 val_main_v4 val_main_v3 val_main_v2 val_main_v1 val_main_cst val_main_v0
  pointwise
  rw [select_rows, masked]
  exact if_congr Iff.rfl rfl ofBits_neg_inf

theorem ref_max (h : Fin 8) (i : Fin 4096) : (val_main_v18 (F := Ideal) x0 x1 x3) (ix2 h i : S8x4096.Idx) = top (fun j => (val_main_v17_0 (F := Ideal) x0 x1 x3) (ix3 h i j : S8x4096x4096.Idx)) := by
  unfold val_main_v18 val_main_cst_1
  generalize (val_main_v17_0 (F := Ideal) x0 x1 x3) = y0
  pointwise
  rw [ofBits_neg_inf]
  rfl

theorem ref_top (h : Fin 8) (i : Fin 4096) : (val_main_v25 (F := Ideal) x0 x1 x3) (ix2 h i : S8x4096.Idx) = top (fun j => (val_main_v17_0 (F := Ideal) x0 x1 x3) (ix3 h i j : S8x4096x4096.Idx)) := by
  rw [val_main_v25_apply, ref_max]
  exact max_eq_right ((show (val_main_v24 (F := Ideal) (ix2 h i : S8x4096.Idx) : EReal) = ⊥ from ofBits_neg_inf).trans_le bot_le)

theorem ref_exp (h : Fin 8) (i j : Fin 4096) : (val_main_v38 (F := Ideal) x0 x1 x3) (ix3 h i j : S8x4096x4096.Idx) = Ideal.exp (less ((val_main_v17_0 (F := Ideal) x0 x1 x3) (ix3 h i j : S8x4096x4096.Idx)) ((val_main_v25 (F := Ideal) x0 x1 x3) (ix2 h i : S8x4096.Idx))) := by
  unfold val_main_v38 val_main_v37 val_main_v36 val_main_v35
  generalize (val_main_v17_0 (F := Ideal) x0 x1 x3) = y0
  generalize (val_main_v25 (F := Ideal) x0 x1 x3) = y1
  pointwise

theorem ref_den (h : Fin 8) (i : Fin 4096) : (val_main_v39 (F := Ideal) x0 x1 x3) (ix2 h i : S8x4096.Idx) = total (fun j => (val_main_v38 (F := Ideal) x0 x1 x3) (ix3 h i j : S8x4096x4096.Idx)) := by
  unfold val_main_v39 val_main_cst_9
  generalize (val_main_v38 (F := Ideal) x0 x1 x3) = y0
  pointwise
  rfl

theorem ref_prob (h : Fin 8) (i j : Fin 4096) : (val_main_v42 (F := Ideal) x0 x1 x3) (ix3 h i j : S8x4096x4096.Idx) = Ideal.div ((val_main_v38 (F := Ideal) x0 x1 x3) (ix3 h i j : S8x4096x4096.Idx)) ((val_main_v39 (F := Ideal) x0 x1 x3) (ix2 h i : S8x4096.Idx)) := by
  unfold val_main_v42 val_main_v41 val_main_v40
  generalize (val_main_v38 (F := Ideal) x0 x1 x3) = y0
  generalize (val_main_v39 (F := Ideal) x0 x1 x3) = y1
  pointwise

theorem ref_ct (h : Fin 8) (i j : Fin 4096) : (val_main_v49 (F := Ideal) x2 x4) (ix3 h i j : S8x4096x4096.Idx) = ∑ x : Fin 64, x4 (ix3 i h x) * x2 (ix3 j h x) := by
  unfold val_main_v49 val_main_v48
  pointwise

theorem ref_ds (h : Fin 8) (i j : Fin 4096) : (val_main_v64 (F := Ideal) x0 x1 x2 x3 x4) (ix3 h i j : S8x4096x4096.Idx) = if j ≤ i then dsOf (fun j => (val_main_v49 (F := Ideal) x2 x4) (ix3 h i j : S8x4096x4096.Idx)) (fun j => (val_main_v38 (F := Ideal) x0 x1 x3) (ix3 h i j : S8x4096x4096.Idx)) ((val_main_v39 (F := Ideal) x0 x1 x3) (ix2 h i : S8x4096.Idx)) j else 0 := by
  unfold val_main_v64 val_main_call1_v0 val_main_call1_cst val_main_v63 val_main_v62 val_main_v61 val_main_v60 val_main_cst_12 val_main_v59 val_main_v58 val_main_v57 val_main_v56 val_main_v55 val_main_cst_11 val_main_v54 val_main_v53 val_main_v52 val_main_v45 val_main_v44 val_main_cst_10 val_main_v43 val_main_v40 val_main_v17_1 val_main_v15 val_main_v14 val_main_v13 val_main_v12 val_main_v11 val_main_v10
  generalize (val_main_v38 (F := Ideal) x0 x1 x3) = y0
  generalize (val_main_v39 (F := Ideal) x0 x1 x3) = y1
  generalize (val_main_v49 (F := Ideal) x2 x4) = y2
  pointwise
  rw [select_rows]
  simp only [Fin.sum_univ_one]
  rfl

theorem ref_dq (i : Fin 4096) (h : Fin 8) (e : Fin 64) : (val_main_v81 (F := Ideal) x0 x1 x2 x3 x4) (ix2 i (ocol h e) : S4096x512.Idx) = ∑ j : Fin 4096, times (times ((val_main_v64 (F := Ideal) x0 x1 x2 x3 x4) (ix3 h i j : S8x4096x4096.Idx)) (Ideal.ofBits .f32 0x3E000000#32)) (x1 (ix3 j h e)) := by
  unfold val_main_v81 val_main_v80 val_main_v79 val_main_v78 val_main_v75 val_main_v74 val_main_cst_17
  generalize (val_main_v64 (F := Ideal) x0 x1 x2 x3 x4) = y0
  pointwise
  have h1 : (ocol h e).val / 64 = h.val := by show (64 * h.val + e.val) / 64 = h.val; omega
  have h2 : (ocol h e).val % 64 = e.val := by show (64 * h.val + e.val) % 64 = e.val; omega
  simp only [h1, h2]

theorem ref_dk (i : Fin 4096) (h : Fin 8) (e : Fin 64) : (val_main_v83 (F := Ideal) x0 x1 x2 x3 x4) (ix2 i (ocol h e) : S4096x512.Idx) = ∑ j : Fin 4096, times (times ((val_main_v64 (F := Ideal) x0 x1 x2 x3 x4) (ix3 h j i : S8x4096x4096.Idx)) (Ideal.ofBits .f32 0x3E000000#32)) (x0 (ix3 j h e)) := by
  unfold val_main_v83 val_main_v82 val_main_v77 val_main_v76 val_main_v75 val_main_v74 val_main_cst_17
  generalize (val_main_v64 (F := Ideal) x0 x1 x2 x3 x4) = y0
  pointwise
  have h1 : (ocol h e).val / 64 = h.val := by show (64 * h.val + e.val) / 64 = h.val; omega
  have h2 : (ocol h e).val % 64 = e.val := by show (64 * h.val + e.val) % 64 = e.val; omega
  simp only [h1, h2]

theorem ref_dv (i : Fin 4096) (h : Fin 8) (e : Fin 64) : (val_main_v85 (F := Ideal) x0 x1 x3 x4) (ix2 i (ocol h e) : S4096x512.Idx) = ∑ j : Fin 4096, times (x4 (ix3 j h e)) ((val_main_v42 (F := Ideal) x0 x1 x3) (ix3 h j i : S8x4096x4096.Idx)) := by
  unfold val_main_v85 val_main_v84 val_main_v51 val_main_v50 val_main_v48
  generalize (val_main_v42 (F := Ideal) x0 x1 x3) = y0
  pointwise
  have h1 : (ocol h e).val / 64 = h.val := by show (64 * h.val + e.val) / 64 = h.val; omega
  have h2 : (ocol h e).val % 64 = e.val := by show (64 * h.val + e.val) % 64 = e.val; omega
  simp only [h1, h2]

theorem ref_dc (i : Fin 4096) (h : Fin 8) (e : Fin 64) : (val_main_v89 (F := Ideal) x0 x1 x2 x3 x4) (ix2 i (ocol h e) : S4096x512.Idx) = opp (∑ j : Fin 4096, opp ((val_main_v64 (F := Ideal) x0 x1 x2 x3 x4) (ix3 h j i : S8x4096x4096.Idx))) := by
  unfold val_main_v89 val_main_v88 val_main_v87 val_main_v86 val_main_v71 val_main_v70 val_main_cst_15 val_main_v69 val_main_v68 val_main_cst_14 val_main_v67
  generalize (val_main_v64 (F := Ideal) x0 x1 x2 x3 x4) = y0
  pointwise
  have h1 : (ocol h e).val / 64 = h.val := by show (64 * h.val + e.val) / 64 = h.val; omega
  have h2 : (ocol h e).val % 64 = e.val := by show (64 * h.val + e.val) % 64 = e.val; omega
  simp only [h1, h2]
  simp only [Fin.sum_univ_one]

theorem ref_dr (h : Fin 8) (i : Fin 4096) : (val_main_v91 (F := Ideal) x0 x1 x2 x3 x4) (ix3 h 0 i : S8x1x4096.Idx) = ∑ j : Fin 4096, times 1 ((val_main_v64 (F := Ideal) x0 x1 x2 x3 x4) (ix3 h i j : S8x4096x4096.Idx)) := by
  unfold val_main_v91 val_main_v90 val_main_v73 val_main_v72 val_main_cst_16 val_main_v66 val_main_v65 val_main_cst_13
  generalize (val_main_v64 (F := Ideal) x0 x1 x2 x3 x4) = y0
  pointwise
  simp only [Fin.sum_univ_one, one_mul]

end Cert.Fox
-- ==== Proof.FoxRow.lean ====
module

public import proofs.«01_k».proof.Proof.FoxMats
public import proofs.«01_k».proof.Proof.FoxSum
public import proofs.«01_k».proof.Proof.FoxRef

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL

open Cert.Common

theorem eighth : Ideal.ofBits .f32 0x3E000000#32 = (((1 : ℝ) / 8 : ℝ) : EReal) := by
  simp [Ideal.ofBits, Ideal.ieee, -EReal.coe_mul]; norm_num

theorem coe_sum {n : ℕ} (f : Fin n → ℝ) : ((∑ i, f i : ℝ) : EReal) = ∑ i, (f i : EReal) :=
  map_sum (⟨⟨fun x : ℝ => (x : EReal), rfl⟩, EReal.coe_add⟩ : ℝ →+ EReal) f Finset.univ

/-! One row: query `i`, its scores `s` up to itself. -/

/-- The exponentials of a row's scores against `M`. -/
def ex (i : Fin 4096) (s : Fin 4096 → ℝ) (M : ℝ) (j : Fin 4096) : ℝ := if j ≤ i then Real.exp (s j - M) else 0

theorem ex_sum_pos (i : Fin 4096) (s : Fin 4096 → ℝ) (M : ℝ) : 0 < ∑ j, ex i s M j := by
  refine Finset.sum_pos' (fun j _ => ?_) ⟨i, Finset.mem_univ i, ?_⟩
  · unfold ex; split
    · exact (Real.exp_pos _).le
    · exact le_rfl
  · rw [ex, if_pos le_rfl]; exact Real.exp_pos _

section
variable {i : Fin 4096} {s : Fin 4096 → ℝ} {S : Fin 4096 → EReal} (hS : ∀ j, S j = if j ≤ i then (s j : EReal) else ⊥)
include hS

theorem top_real : ∃ M : ℝ, top S = (M : EReal) := by
  have h1 : top S = Finset.univ.sup S := rfl
  obtain ⟨j, -, hj⟩ := Finset.exists_mem_eq_sup Finset.univ ⟨i, Finset.mem_univ i⟩ S
  rw [h1, hj, hS]
  by_cases h : j ≤ i
  · exact ⟨s j, if_pos h⟩
  · exfalso
    have h2 : S i ≤ Finset.univ.sup S := Finset.le_sup (Finset.mem_univ i)
    rw [hj, hS j, if_neg h, hS i, if_pos le_rfl] at h2
    exact EReal.coe_ne_bot _ (le_bot_iff.1 h2)

theorem exp_real {M : ℝ} (hM : top S = (M : EReal)) (j : Fin 4096) : Ideal.exp (S j - top S) = (ex i s M j : EReal) := by
  rw [hM, hS, ex]
  by_cases h : j ≤ i
  · rw [if_pos h, if_pos h, ← EReal.coe_sub, Ideal.exp_coe]
  · rw [if_neg h, if_neg h, EReal.bot_sub, Ideal.exp_bot, EReal.coe_zero]

theorem den_real {M : ℝ} (hM : top S = (M : EReal)) : den S = ((∑ j, ex i s M j : ℝ) : EReal) := by
  rw [den, coe_sum]
  exact Finset.sum_congr rfl fun j _ => exp_real hS hM j

theorem dsum_real {M : ℝ} (hM : top S = (M : EReal)) (d : Fin 64 → ℝ) (v : Fin 4096 → Fin 64 → ℝ) :
    dsumOf (fun x => (d x : EReal)) (fun j x => (v j x : EReal)) S = ((∑ x, d x * ∑ j, v j x * (ex i s M j / ∑ j, ex i s M j) : ℝ) : EReal) := by
  have hZ := (ex_sum_pos i s M).ne'
  rw [dsumOf, coe_sum]
  refine Finset.sum_congr rfl fun x _ => ?_
  rw [EReal.coe_mul, coe_sum]
  refine congrArg _ (Finset.sum_congr rfl fun j _ => ?_)
  rw [exp_real hS hM, den_real hS hM, Ideal.div_coe hZ, ← EReal.coe_mul, ← EReal.coe_mul]
  exact congrArg _ (by ring)

theorem dsOf_real {M : ℝ} (hM : top S = (M : EReal)) (ct : Fin 4096 → ℝ) (j : Fin 4096) :
    dsOf (fun j => (ct j : EReal)) (fun j => Ideal.exp (S j - top S)) (den S) j
      = ((ex i s M j / (∑ j, ex i s M j) * (ct j - ∑ x, ct x * (ex i s M x / ∑ j, ex i s M j)) : ℝ) : EReal) := by
  have hZ := (ex_sum_pos i s M).ne'
  have hZZ := mul_ne_zero hZ hZ
  rw [dsOf, den_real hS hM, exp_real hS hM]
  have h1 : ∀ x, (ct x : EReal) * Ideal.div 1 (((∑ j, ex i s M j : ℝ) : EReal) * ((∑ j, ex i s M j : ℝ) : EReal)) * Ideal.exp (S x - top S)
      = ((ct x * (1 / ((∑ j, ex i s M j) * ∑ j, ex i s M j)) * ex i s M x : ℝ) : EReal) := by
    intro x
    rw [exp_real hS hM, ← EReal.coe_mul, Ideal.div_coe hZZ, one_mul, ← EReal.coe_mul, ← EReal.coe_mul]
  rw [Finset.sum_congr rfl fun x _ => h1 x, ← coe_sum, Ideal.div_coe hZ, ← EReal.coe_mul, ← EReal.coe_neg, ← EReal.coe_add, ← EReal.coe_mul]
  refine congrArg _ ?_
  generalize hz : (∑ j, ex i s M j) = Z at hZ
  have h2 : ∑ x, ct x * (1 / (Z * Z)) * ex i s M x = (∑ x, ct x * (ex i s M x / Z)) / Z := by
    rw [Finset.sum_div]
    exact Finset.sum_congr rfl fun x _ => by field_simp
  rw [h2]
  field_simp
  ring
end

/-- The two sums of the cotangent times the output. -/
theorem sum_swap (d : Fin 64 → ℝ) (v : Fin 4096 → Fin 64 → ℝ) (p : Fin 4096 → ℝ) :
    ∑ x, d x * ∑ j, v j x * p j = ∑ j, (∑ x, d x * v j x) * p j := by
  simp only [Finset.mul_sum, Finset.sum_mul]
  rw [Finset.sum_comm]
  exact Finset.sum_congr rfl fun j _ => Finset.sum_congr rfl fun x _ => by ring

variable (m : (ℓ : Loc nD τ sig) → Buf (Elt Ideal) ℓ)
variable (q k v d : Fin 4096 → Fin 8 → Fin 64 → ℝ) (c : Fin 4096 → Fin 8 → ℝ)

/-- The arguments are the real arrays `q`, `k`, `v`, `c` and `d`. -/
structure Reals : Prop where
  q : ∀ i h x, A0 m (ix3 i h x) = (q i h x : EReal)
  k : ∀ i h x, A1 m (ix3 i h x) = (k i h x : EReal)
  v : ∀ i h x, A2 m (ix3 i h x) = (v i h x : EReal)
  c : ∀ i h, A3 m (ix2 i h) = (c i h : EReal)
  d : ∀ i h x, A4 m (ix3 i h x) = (d i h x : EReal)

/-- The score of query `i` and key `j`. -/
def sr (h : Fin 8) (i j : Fin 4096) : ℝ := (∑ x, q i h x * k j h x) * (1 / 8) + (c i h - c j h)

variable {m q k v d c} (R : Reals m q k v d c)
include R

theorem row_real (h : Fin 8) (i j : Fin 4096) : rowOf m h i j = if j ≤ i then (sr q k c h i j : EReal) else ⊥ := by
  unfold rowOf masked
  refine if_congr Iff.rfl ?_ rfl
  rw [R.c, R.c, eighth, sr, EReal.coe_add, EReal.coe_mul, coe_sum, EReal.coe_sub]
  refine congrArg (fun z => z * _ + _) (Finset.sum_congr rfl fun x _ => ?_)
  rw [R.q, R.k, EReal.coe_mul]

theorem lse_real (h : Fin 8) (i : Fin 4096) {M : ℝ} (hM : top (rowOf m h i) = (M : EReal)) :
    lse m h i = ((M + Real.log (∑ j, ex i (sr q k c h i) M j) : ℝ) : EReal) := by
  have hZ := ex_sum_pos i (sr q k c h i) M
  rw [lse, den_real (row_real R h i) hM, hM, Ideal.log_coe, if_neg (not_le.2 hZ), EReal.coe_add]

theorem pt_real (h : Fin 8) (j i : Fin 4096) {M : ℝ} (hM : top (rowOf m h i) = (M : EReal)) :
    (mats m).pt h j i = ((ex i (sr q k c h i) M j / ∑ j, ex i (sr q k c h i) M j : ℝ) : EReal) := by
  have hZ := ex_sum_pos i (sr q k c h i) M
  unfold Mats.pt
  by_cases hj : j ≤ i
  · rw [if_pos hj, Finset.sum_congr rfl fun e _ => congrArg₂ (· * ·) (mats_k m j h e) (mats_q m i h e), sum_pack]
    show Ideal.exp (∑ x, A1 m (ix3 j h x) * times (A0 m (ix3 i h x)) (Ideal.ofBits .f32 0x3E000000#32)
      + (1 * less (A3 m (ix2 i h)) (lse m h i) + 1 * less (less (A3 m (ix2 i h)) (lse m h i)) (less (A3 m (ix2 i h)) (lse m h i))
        + 1 * less (less (less (A3 m (ix2 i h)) (lse m h i)) (less (A3 m (ix2 i h)) (lse m h i))) (less (less (A3 m (ix2 i h)) (lse m h i)) (less (A3 m (ix2 i h)) (lse m h i)))
        + opp (A3 m (ix2 j h)) * 1 + opp (less (A3 m (ix2 j h)) (A3 m (ix2 j h))) * 1
        + opp (less (less (A3 m (ix2 j h)) (A3 m (ix2 j h))) (less (A3 m (ix2 j h)) (A3 m (ix2 j h)))) * 1)) = _
    rw [lse_real R h i hM]
    have h1 : ∀ x, A1 m (ix3 j h x) * times (A0 m (ix3 i h x)) (Ideal.ofBits .f32 0x3E000000#32) = ((k j h x * (q i h x * (1 / 8)) : ℝ) : EReal) := by
      intro x
      rw [R.k, R.q, eighth, times, EReal.coe_mul, EReal.coe_mul]
    rw [Finset.sum_congr rfl fun x _ => h1 x, ← coe_sum]
    simp only [R.c, less, opp, one_mul, mul_one, ← EReal.coe_sub, ← EReal.coe_neg, ← EReal.coe_add]
    rw [Ideal.exp_coe]
    refine congrArg _ ?_
    rw [ex, if_pos hj]
    have h2 : ∑ x, k j h x * (q i h x * (1 / 8)) = (∑ x, q i h x * k j h x) * (1 / 8) := by
      rw [Finset.sum_mul]; exact Finset.sum_congr rfl fun x _ => by ring
    rw [h2, ← Real.exp_log hZ, ← Real.exp_sub, Real.exp_log hZ, sr]
    refine congrArg _ ?_
    ring
  · rw [if_neg hj, ex, if_neg hj, zero_div, EReal.coe_zero]

theorem ds_real (h : Fin 8) (j i : Fin 4096) {M : ℝ} (hM : top (rowOf m h i) = (M : EReal)) :
    (mats m).ds h j i = ((ex i (sr q k c h i) M j / (∑ j, ex i (sr q k c h i) M j)
      * ((∑ x, d i h x * v j h x) - ∑ y, (∑ x, d i h x * v y h x) * (ex i (sr q k c h i) M y / ∑ j, ex i (sr q k c h i) M j)) : ℝ) : EReal) := by
  rw [Mats.ds, pt_real R h j i hM, EReal.coe_mul]
  refine congrArg _ ?_
  rw [Finset.sum_congr rfl fun e _ => congrArg₂ (· * ·) (mats_v m j h e) (mats_d m i h e), sum_pack]
  have hd : dsum m h i = ((∑ y, (∑ x, d i h x * v y h x) * (ex i (sr q k c h i) M y / ∑ j, ex i (sr q k c h i) M j) : ℝ) : EReal) := by
    rw [dsum]
    simp only [R.d, R.v]
    rw [dsum_real (row_real R h i) hM, sum_swap]
  show ∑ x, A2 m (ix3 j h x) * A4 m (ix3 i h x)
      + (1 * opp (dsum m h i) + 1 * less (opp (dsum m h i)) (opp (dsum m h i))
        + 1 * less (less (opp (dsum m h i)) (opp (dsum m h i))) (less (opp (dsum m h i)) (opp (dsum m h i))) + 0 * 0 + 0 * 0 + 0 * 0) = _
  have h1 : ∀ x, A2 m (ix3 j h x) * A4 m (ix3 i h x) = ((d i h x * v j h x : ℝ) : EReal) := by
    intro x
    rw [R.v, R.d, mul_comm, EReal.coe_mul]
  rw [Finset.sum_congr rfl fun x _ => h1 x, ← coe_sum, hd]
  simp only [less, opp, one_mul, mul_zero, add_zero, ← EReal.coe_sub, ← EReal.coe_neg, ← EReal.coe_add]
  refine congrArg _ ?_
  ring

end Cert.Fox
-- ==== Proof.FoxClaim.lean ====
module

public import proofs.«01_k».proof.Proof.FoxFrame
public import proofs.«01_k».proof.Proof.Gen.Kernel2
public import proofs.«01_k».proof.Defs

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-- The description that says nothing. -/
theorem keeps_nothing : Keeps m (fun _ _ _ _ _ _ => True) (fun _ _ _ => True) where
  start _ _ _ _ _ := trivial
  step := by intros; exact ⟨trivial, trivial, trivial, trivial, trivial, trivial⟩

variable {m} in
/-- The arguments end as they began. -/
theorem args_kept {Inv} {Out} {r} (h : RDat.FramePost (cfgF (F := F)) (rdat m Inv Out) (V m) r) (c : Dev nD) :
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) :=
  ⟨((h c).2 main_arg0 (by decide : main_arg0 ∈ Pipeline.restRefs sig spec0)).trans (V_arg0 m c), ((h c).2 main_arg1 (by decide : main_arg1 ∈ Pipeline.restRefs sig spec0)).trans (V_arg1 m c), ((h c).2 main_arg2 (by decide : main_arg2 ∈ Pipeline.restRefs sig spec0)).trans (V_arg2 m c), ((h c).2 main_arg3 (by decide : main_arg3 ∈ Pipeline.restRefs sig spec0)).trans (V_arg3 m c), ((h c).2 main_arg4 (by decide : main_arg4 ∈ Pipeline.restRefs sig spec0)).trans (V_arg4 m c)⟩

theorem frame : θ_run defs (onTc (τ := τ) (main (F := F))) (s₀ m ρ) (fun r => (∀ c : Dev nD,
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4)) ∧ r.2.sem = fun _ => 0) :=
  (θ_run defs _ _).mono (fun _ h => ⟨fun c => args_kept h.1 c, h.2⟩) (run_kept m ρ _ _ (keeps_nothing m))

/-- The word program's frame: the two programs' texts are the same. -/
theorem frame_bits : Cert.quiescent_Kernel2 :=
  Eq.mp (by sl_kernel_rfl : (∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) ∧ r.2.sem = fun _ => 0)) = Cert.quiescent_Kernel2)
    fun m ρ _ => frame (F := Bits) m ρ

theorem frame_ideal : Cert.quiescent_Kernel2Ideal := fun m ρ _ => frame (F := Ideal) m ρ

end Cert.Fox
-- ==== Proof.FoxAlg.lean ====
module

public import proofs.«01_k».proof.Proof.FoxRow
public import proofs.«01_k».proof.Proof.FoxClaim
public import proofs.«01_k».proof.Proof.Gen.Pre_finite_fox

@[expose] public section

set_option maxRecDepth 16384

noncomputable section

namespace Cert.Fox

open Cert.Kernel2Ideal Cert.Kernel2Ideal.Gen
open Idealize.ShloMosaic Idealize.ShloMosaic.TcCoe Idealize.ShloMosaic.Tactic
open Idealize.SL

open Cert.Common Cert.Reference2Ideal.Read
open Idealize.ShloMosaic.Pipeline (RDat Dat)

section
variable {m : (ℓ : Loc nD τ sig) → Buf (Elt Ideal) ℓ} {q k v d : Fin 4096 → Fin 8 → Fin 64 → ℝ} {c : Fin 4096 → Fin 8 → ℝ} (R : Reals m q k v d c)

theorem ref_row (h : Fin 8) (i : Fin 4096) : (fun j => (val_main_v17_0 (F := Ideal) (A0 m) (A1 m) (A3 m)) (ix3 h i j : S8x4096x4096.Idx)) = rowOf m h i :=
  funext fun j => ref_scores _ _ _ h i j

theorem ref_exps (h : Fin 8) (i : Fin 4096) : (fun j => (val_main_v38 (F := Ideal) (A0 m) (A1 m) (A3 m)) (ix3 h i j : S8x4096x4096.Idx)) = fun j => Ideal.exp (rowOf m h i j - top (rowOf m h i)) := by
  funext j
  rw [ref_exp, ref_top, ref_row, ref_scores, less]

theorem ref_dens (h : Fin 8) (i : Fin 4096) : (val_main_v39 (F := Ideal) (A0 m) (A1 m) (A3 m)) (ix2 h i : S8x4096.Idx) = den (rowOf m h i) := by
  rw [ref_den, ref_exps]
  rfl

include R

/-- The reference's probabilities are the kernel's. -/
theorem prob_eq (h : Fin 8) (j i : Fin 4096) : (val_main_v42 (F := Ideal) (A0 m) (A1 m) (A3 m)) (ix3 h i j : S8x4096x4096.Idx) = (mats m).pt h j i := by
  obtain ⟨M, hM⟩ := top_real (row_real R h i)
  rw [ref_prob, ref_dens, pt_real R h j i hM, den_real (row_real R h i) hM, Ideal.div_coe (ex_sum_pos i _ M).ne']
  refine (congrArg (fun z => z * _) ((congrFun (ref_exps h i) j).trans (exp_real (row_real R h i) hM j))).trans ?_
  rw [← EReal.coe_mul, mul_one_div]

theorem ct_eq (h : Fin 8) (i j : Fin 4096) : (val_main_v49 (F := Ideal) (A2 m) (A4 m)) (ix3 h i j : S8x4096x4096.Idx) = ((∑ x, d i h x * v j h x : ℝ) : EReal) := by
  rw [ref_ct, coe_sum]
  refine Finset.sum_congr rfl fun x _ => ?_
  rw [R.d, R.v, ← EReal.coe_mul]

/-- The reference's cotangents of the scores are the kernel's. -/
theorem cot_eq (h : Fin 8) (j i : Fin 4096) : (val_main_v64 (F := Ideal) (A0 m) (A1 m) (A2 m) (A3 m) (A4 m)) (ix3 h i j : S8x4096x4096.Idx) = (mats m).ds h j i := by
  rw [ref_ds]
  by_cases hj : j ≤ i
  · obtain ⟨M, hM⟩ := top_real (row_real R h i)
    rw [if_pos hj, ref_dens, ref_exps, show (fun j => (val_main_v49 (F := Ideal) (A2 m) (A4 m)) (ix3 h i j : S8x4096x4096.Idx)) = fun j => ((∑ x, d i h x * v j h x : ℝ) : EReal) from funext fun j => ct_eq R h i j,
      dsOf_real (row_real R h i) hM, ds_real R h j i hM]
  · rw [if_neg hj, Mats.ds_eq_zero _ hj]

theorem ds_is_real (h : Fin 8) : ∃ s : Fin 4096 → Fin 4096 → ℝ, ∀ j i, (mats m).ds h j i = (s j i : EReal) := by
  have H : ∀ j i, ∃ x : ℝ, (mats m).ds h j i = (x : EReal) := fun j i =>
    let ⟨M, hM⟩ := top_real (row_real R h i)
    ⟨_, ds_real R h j i hM⟩
  exact ⟨fun j i => (H j i).choose, fun j i => (H j i).choose_spec⟩

theorem dq_eq (i : Fin 4096) (h : Fin 8) (e : Fin 64) :
    (mats m).dq 36 i h ⟨e.val, by omega⟩ * Ideal.ofBits .f32 0x3E000000#32 = (val_main_v81 (F := Ideal) (A0 m) (A1 m) (A2 m) (A3 m) (A4 m)) (ix2 i (ocol h e) : S4096x512.Idx) := by
  obtain ⟨s, hs⟩ := ds_is_real R h
  rw [ref_dq, Mats.dq_last, show (∑ j, (mats m).ds h j i * (mats m).k j h ⟨e.val, by omega⟩) = ((∑ j, s j i * k j h e : ℝ) : EReal) from by
    rw [coe_sum]
    refine Finset.sum_congr rfl fun j _ => ?_
    rw [mats_k, pack_low, hs, R.k, EReal.coe_mul], eighth, ← EReal.coe_mul, Finset.sum_mul, coe_sum]
  refine Finset.sum_congr rfl fun j _ => ?_
  rw [cot_eq R, hs, R.k, times, times, ← EReal.coe_mul, ← EReal.coe_mul]
  exact congrArg _ (by ring)

theorem dk_eq (J : ℕ) (hJ : J < 8) (b : Fin 512) (h : Fin 8) (e : Fin 64) :
    (mats m).dk (closeN J + 1) b h ⟨e.val, by omega⟩ = (val_main_v83 (F := Ideal) (A0 m) (A1 m) (A2 m) (A3 m) (A4 m)) (ix2 (at' J b) (ocol h e) : S4096x512.Idx) := by
  obtain ⟨s, hs⟩ := ds_is_real R h
  rw [ref_dk, Mats.dk_last _ J hJ]
  refine Finset.sum_congr rfl fun j _ => ?_
  rw [cot_eq R, mats_q, pack_low, hs, R.q, eighth]
  simp only [times, ← EReal.coe_mul]
  exact congrArg _ (by ring)

theorem dv_eq (J : ℕ) (hJ : J < 8) (b : Fin 512) (h : Fin 8) (e : Fin 64) :
    (mats m).dv (closeN J + 1) b h ⟨e.val, by omega⟩ = (val_main_v85 (F := Ideal) (A0 m) (A1 m) (A3 m) (A4 m)) (ix2 (at' J b) (ocol h e) : S4096x512.Idx) := by
  rw [ref_dv, Mats.dv_last _ J hJ]
  refine Finset.sum_congr rfl fun j _ => ?_
  rw [prob_eq R, mats_d, pack_low, times, mul_comm]

theorem dc_eq (J : ℕ) (hJ : J < 8) (b : Fin 512) (h : Fin 8) (e : Fin 64) :
    (mats m).dc (closeN J + 1) h b = (val_main_v89 (F := Ideal) (A0 m) (A1 m) (A2 m) (A3 m) (A4 m)) (ix2 (at' J b) (ocol h e) : S4096x512.Idx) := by
  obtain ⟨s, hs⟩ := ds_is_real R h
  rw [ref_dc, Mats.dc_last _ J hJ]
  simp only [cot_eq R, hs, opp, ← EReal.coe_neg, ← coe_sum]
  rw [Finset.sum_neg_distrib, neg_neg]

theorem dr_eq (h : Fin 8) (i : Fin 4096) : (mats m).dr 36 h i = (val_main_v91 (F := Ideal) (A0 m) (A1 m) (A2 m) (A3 m) (A4 m)) (ix3 h 0 i : S8x1x4096.Idx) := by
  rw [ref_dr, Mats.dr_last]
  refine Finset.sum_congr rfl fun j _ => ?_
  rw [cot_eq R, times, one_mul]

end

/-! Every index of a result. -/

theorem flat_index (p : S4096x512.Idx) : ∃ (J : ℕ) (_ : J < 8) (b : Fin 512) (h : Fin 8) (e : Fin 64), p = ix2 (at' J b) (ocol h e) := by
  obtain ⟨i, w, rfl⟩ : ∃ (i : Fin 4096) (w : Fin 512), p = ix2 i w := ⟨p 0, p 1, funext fun a => by fin_cases a <;> rfl⟩
  refine ⟨i.val / 512, by omega, ⟨i.val % 512, by omega⟩, ⟨w.val / 64, by omega⟩, ⟨w.val % 64, by omega⟩, ?_⟩
  rw [show at' (i.val / 512) ⟨i.val % 512, by omega⟩ = i from Fin.ext (by rw [at'_val _ (by omega)]; show 512 * (i.val / 512) + i.val % 512 = i.val; omega),
    show ocol ⟨w.val / 64, by omega⟩ ⟨w.val % 64, by omega⟩ = w from Fin.ext (by show 64 * (w.val / 64) + w.val % 64 = w.val; omega)]

theorem sums_index (p : S8x1x4096.Idx) : ∃ (h : Fin 8) (i : Fin 4096), p = ix3 h 0 i :=
  ⟨p 0, p 2, funext fun a => by
    fin_cases a
    · rfl
    · exact Fin.ext (by have : (p 1).val < 1 := (p 1).isLt; show (p 1).val = 0; omega)
    · rfl⟩

/-- What the precondition says. -/
theorem finite_of_pre (x0 x1 x2 : FVec Ideal S4096x8x64 .f32) (x3 : FVec Ideal S4096x8 .f32) (x4 : FVec Ideal S4096x8x64 .f32)
    (h : Cert.Pre_finite_fox.fn (F := Ideal) x0 x1 x2 x3 x4 = fun _ => 1#1) :
    (∀ i, IsReal (x0 i)) ∧ (∀ i, IsReal (x1 i)) ∧ (∀ i, IsReal (x2 i)) ∧ (∀ i, IsReal (x3 i)) ∧ ∀ i, IsReal (x4 i) := by
  have e := congrFun h (fun a => a.elim0)
  unfold Cert.Pre_finite_fox.fn Cert.Pre_finite_fox.fn_part1 Cert.Pre_finite_fox.fn_part2 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => isReal_of_all e0 (fun i => rfl) (fun i => rfl) i, fun i => isReal_of_all e1 (fun i => rfl) (fun i => rfl) i,
    fun i => isReal_of_all e2 (fun i => rfl) (fun i => rfl) i, fun i => isReal_of_all e3 (fun i => rfl) (fun i => rfl) i,
    fun i => isReal_of_all e4 (fun i => rfl) (fun i => rfl) i⟩

theorem reals_of_finite (m : (ℓ : Loc nD τ sig) → Buf (Elt Ideal) ℓ) (h0 : ∀ i, IsReal (A0 m i)) (h1 : ∀ i, IsReal (A1 m i)) (h2 : ∀ i, IsReal (A2 m i))
    (h3 : ∀ i, IsReal (A3 m i)) (h4 : ∀ i, IsReal (A4 m i)) : ∃ q k v d c, Reals m q k v d c := by
  choose f0 h0 using h0
  choose f1 h1 using h1
  choose f2 h2 using h2
  choose f3 h3 using h3
  choose f4 h4 using h4
  exact ⟨fun i h x => f0 (ix3 i h x), fun i h x => f1 (ix3 i h x), fun i h x => f2 (ix3 i h x), fun i h x => f4 (ix3 i h x), fun i h => f3 (ix2 i h),
    ⟨fun i h x => h0 _, fun i h x => h1 _, fun i h x => h2 _, fun i h => h3 _, fun i h x => h4 _⟩⟩

theorem frame_ref : Cert.quiescent_Reference2Ideal := fun m ρ _ =>
  (θ_run Cert.Reference2Ideal.defs _ _).mono (fun r h => ⟨fun c => (h c).2.2.2.2.2, Idealize.ShloMosaic.sem_eq_zero_of_no_sems (by decide) r.2⟩)
    (Cert.Reference2Ideal.Value.run (F := Ideal) m ρ)

variable (m : (ℓ : Loc nD τ sig) → Buf (Elt Ideal) ℓ)

abbrev res0 : Buf (Elt Ideal) (((0 : Dev nD) : Thread nD τ).loc main_v86_0) := (val_main_v81 (F := Ideal) (A0 m) (A1 m) (A2 m) (A3 m) (A4 m))
abbrev res1 : Buf (Elt Ideal) (((0 : Dev nD) : Thread nD τ).loc main_v86_1) := (val_main_v83 (F := Ideal) (A0 m) (A1 m) (A2 m) (A3 m) (A4 m))
abbrev res2 : Buf (Elt Ideal) (((0 : Dev nD) : Thread nD τ).loc main_v86_2) := (val_main_v85 (F := Ideal) (A0 m) (A1 m) (A3 m) (A4 m))
abbrev res3 : Buf (Elt Ideal) (((0 : Dev nD) : Thread nD τ).loc main_v86_3) := (val_main_v89 (F := Ideal) (A0 m) (A1 m) (A2 m) (A3 m) (A4 m))
abbrev res4 : Buf (Elt Ideal) (((0 : Dev nD) : Thread nD τ).loc main_v86_4) := (val_main_v91 (F := Ideal) (A0 m) (A1 m) (A2 m) (A3 m) (A4 m))

/-- The arrays the launch leaves are the reference's. -/
theorem results_eq {q k v d c} (R : Reals m q k v d c) {r : PUnit × MemSt nD τ sig (Elt Ideal)}
    (H : RDat.FramePost (cfgF (F := Ideal)) (rdat m (Sums m) (Wrote m)) (V m) r) :
    r.2.mem (((0 : Dev nD) : Thread nD τ).loc main_v86_0) = res0 m
    ∧ r.2.mem (((0 : Dev nD) : Thread nD τ).loc main_v86_1) = res1 m
    ∧ r.2.mem (((0 : Dev nD) : Thread nD τ).loc main_v86_2) = res2 m
    ∧ r.2.mem (((0 : Dev nD) : Thread nD τ).loc main_v86_3) = res3 m
    ∧ r.2.mem (((0 : Dev nD) : Thread nD τ).loc main_v86_4) = res4 m := by
  refine ⟨funext fun p => ?_, funext fun p => ?_, funext fun p => ?_, funext fun p => ?_, funext fun p => ?_⟩
  · obtain ⟨J, hJ, b, h, e, rfl⟩ := flat_index p
    exact (arr_dq m H (at' J b) h e).trans (dq_eq R _ h e)
  · obtain ⟨J, hJ, b, h, e, rfl⟩ := flat_index p
    exact (arr_dk m H J hJ b h e).trans (dk_eq R J hJ b h e)
  · obtain ⟨J, hJ, b, h, e, rfl⟩ := flat_index p
    exact (arr_dv m H J hJ b h e).trans (dv_eq R J hJ b h e)
  · obtain ⟨J, hJ, b, h, e, rfl⟩ := flat_index p
    exact (arr_dc m H J hJ b h e).trans (dc_eq R J hJ b h e)
  · obtain ⟨h, i, rfl⟩ := sums_index p
    exact (arr_dr m H h i).trans (dr_eq R h i)

theorem algebraic : Cert.algebraic_Kernel2Ideal_Reference2Ideal_pre_finite_fox := by
  intro m ρ m' ρ' hpre hagree
  obtain ⟨h0, h1, h2, h3, h4⟩ := finite_of_pre _ _ _ _ _ (hpre 0)
  obtain ⟨q, k, v, d, c, R⟩ := reals_of_finite m h0 h1 h2 h3 h4
  refine ⟨fun _ => res0 m, fun _ => res1 m, fun _ => res2 m, fun _ => res3 m, fun _ => res4 m, ?_, ?_⟩
  · refine (θ_run defs _ _).mono (fun r H c => ?_) (run_kept m ρ _ _ (keeps m))
    obtain rfl : c = 0 := Subsingleton.elim _ _
    obtain ⟨e0, e1, e2, e3, e4⟩ := results_eq m R H.1
    exact ⟨e0, e1, e2, e3, e4, args_kept H.1 0⟩
  · refine (θ_run Cert.Reference2Ideal.defs _ _).mono (fun r H c => ?_) (Cert.Reference2Ideal.Value.run (F := Ideal) m' ρ')
    obtain rfl : c = 0 := Subsingleton.elim _ _
    obtain ⟨e0, e1, e2, e3, e4, e⟩ := H 0
    obtain ⟨a0, a1, a2, a3, a4⟩ := hagree 0
    refine ⟨e0.trans ?_, e1.trans ?_, e2.trans ?_, e3.trans ?_, e4.trans ?_, e⟩
    · rw [val_main_v81_eq, a0, a1, a2, a3, a4]
    · rw [val_main_v83_eq, a0, a1, a2, a3, a4]
    · rw [val_main_v85_eq, a0, a1, a3, a4]
    · rw [val_main_v89_eq, a0, a1, a2, a3, a4]
    · rw [val_main_v91_eq, a0, a1, a2, a3, a4]

end Cert.Fox
end
-- ==== Proof.Rms.lean ====
module

public import proofs.«01_k».proof.Proof.Common

@[expose] public section

set_option maxRecDepth 16384

noncomputable section

/-! The gradient of a root-mean-square normalised row: what the kernels compute and what jax.vjp computes, on one row of
extended reals, and their equality on real rows. -/
namespace Cert.Rms

open Idealize.ShloMosaic Cert.Common

/-- The row's length and the epsilon, as the programs write them. -/
abbrev wid : EReal := Ideal.ofBits .f32 0x44800000#32
abbrev eps : EReal := Ideal.ofBits .f32 0x358637BD#32
abbrev negHalf : EReal := Ideal.ofBits .f32 0xBF000000#32

theorem wid_real : wid = ((1024 : ℝ) : EReal) := by
  simp [Ideal.ofBits, Ideal.ieee, -EReal.coe_mul]; norm_num

theorem negHalf_real : negHalf = ((-(1 / 2) : ℝ) : EReal) := by
  simp [Ideal.ofBits, Ideal.ieee, -EReal.coe_mul]; norm_num

theorem eps_real : ∃ e : ℝ, 0 < e ∧ eps = (e : EReal) := by
  refine ⟨8796093 / 2 ^ 43, by positivity, ?_⟩
  simp [Ideal.ofBits, Ideal.ieee, -EReal.coe_mul]; norm_num

/-- The mean of the squares with the epsilon, its inverse root, the normalised row. -/
def ms (x : Fin 1024 → EReal) : EReal := Ideal.div (∑ k, x k * x k) wid + eps
def rs (x : Fin 1024 → EReal) : EReal := Ideal.rsqrt (ms x)
def xh (x : Fin 1024 → EReal) (k : Fin 1024) : EReal := x k * rs x

/-- One element of the row's gradient as the kernels compute it: `d` is the gradient that passes the norm by, `r` the
cotangent of the normalised row times the weights `g`. -/
def tile (r x g d : Fin 1024 → EReal) (c : Fin 1024) : EReal :=
  d c + rs x * (r c * g c - xh x c * Ideal.div (∑ k, r k * g k * xh x k) wid)

/-- The factor that jax.vjp multiplies the row with, twice. -/
def half (r x g : Fin 1024 → EReal) : EReal :=
  Ideal.div ((∑ k, x k * (r k * g k)) * (negHalf * Ideal.div (rs x) (ms x))) wid
/-- The same element as jax.vjp computes it. -/
def grad (r x g d : Fin 1024 → EReal) (c : Fin 1024) : EReal :=
  d c + r c * g c * rs x + x c * half r x g + half r x g * x c

theorem sum_real {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem ms_real (x : Fin 1024 → ℝ) : ∃ y : ℝ, 0 < y ∧ ms (fun k => (x k : EReal)) = (y : EReal) := by
  obtain ⟨e, he, h⟩ := eps_real
  refine ⟨(∑ k, x k * x k) * (1 / 1024) + e, ?_, ?_⟩
  · have : 0 ≤ ∑ k, x k * x k := Finset.sum_nonneg fun k _ => mul_self_nonneg _
    positivity
  · unfold ms
    rw [h, wid_real]
    simp only [← EReal.coe_mul]
    rw [sum_real, Ideal.div_coe (by norm_num), ← EReal.coe_mul, ← EReal.coe_add]

theorem rs_real (x : Fin 1024 → ℝ) {y : ℝ} (hy : 0 < y) (h : ms (fun k => (x k : EReal)) = (y : EReal)) :
    rs (fun k => (x k : EReal)) = (((Real.sqrt y)⁻¹ : ℝ) : EReal) := by
  unfold rs
  rw [h, Ideal.rsqrt_coe, if_neg (not_lt.2 hy.le), if_neg hy.ne']

theorem tile_eq {r x g d : Fin 1024 → EReal} (hr : ∀ k, IsReal (r k)) (hx : ∀ k, IsReal (x k)) (hg : ∀ k, IsReal (g k))
    (hd : ∀ k, IsReal (d k)) (c : Fin 1024) : tile r x g d c = grad r x g d c := by
  choose r' hr using hr
  choose x' hx using hx
  choose g' hg using hg
  choose d' hd using hd
  obtain rfl : r = fun k => (r' k : EReal) := funext hr
  obtain rfl : x = fun k => (x' k : EReal) := funext hx
  obtain rfl : g = fun k => (g' k : EReal) := funext hg
  obtain rfl : d = fun k => (d' k : EReal) := funext hd
  obtain ⟨y, hy, hm⟩ := ms_real x'
  have hq := rs_real x' hy hm
  have hqq : (Real.sqrt y)⁻¹ * (1 / y) = (Real.sqrt y)⁻¹ ^ 3 := by
    have : 1 / y = (Real.sqrt y)⁻¹ ^ 2 := by rw [inv_pow, Real.sq_sqrt hy.le, one_div]
    rw [this]; ring
  generalize (Real.sqrt y)⁻¹ = q at hq hqq
  unfold tile grad half xh
  rw [hq, hm, wid_real, negHalf_real]
  simp only [← EReal.coe_mul]
  rw [sum_real, sum_real, Ideal.div_coe (by norm_num), Ideal.div_coe (by norm_num), Ideal.div_coe hy.ne']
  simp only [← EReal.coe_mul, ← EReal.coe_add, ← EReal.coe_sub]
  congr 1
  rw [hqq, show (∑ k, r' k * g' k * (x' k * q)) = q * ∑ k, x' k * (r' k * g' k) from by
    rw [Finset.mul_sum]; exact Finset.sum_congr rfl fun k _ => by ring]
  ring

/-- The same two without the gradient that passes by. -/
def core (r x g : Fin 1024 → EReal) (c : Fin 1024) : EReal :=
  rs x * (r c * g c - xh x c * Ideal.div (∑ k, r k * g k * xh x k) wid)
def gradCore (r x g : Fin 1024 → EReal) (c : Fin 1024) : EReal :=
  r c * g c * rs x + x c * half r x g + half r x g * x c

theorem core_eq {r x g : Fin 1024 → EReal} (hr : ∀ k, IsReal (r k)) (hx : ∀ k, IsReal (x k)) (hg : ∀ k, IsReal (g k)) (c : Fin 1024) :
    core r x g c = gradCore r x g c := by
  have h := tile_eq (d := fun _ => 0) hr hx hg (fun _ => ⟨0, rfl⟩) c
  unfold tile grad at h
  rw [zero_add, zero_add] at h
  exact h

theorem xh_isReal {x : Fin 1024 → EReal} (hx : ∀ k, IsReal (x k)) (k : Fin 1024) : IsReal (xh x k) := by
  choose x' hx using hx
  obtain rfl : x = fun k => (x' k : EReal) := funext hx
  obtain ⟨y, hy, hm⟩ := ms_real x'
  unfold xh
  rw [rs_real x' hy hm]
  exact (IsReal.coe _).mul (IsReal.coe _)

theorem mul_sum_real {ι : Type} (c : ℝ) (s : Finset ι) {f : ι → EReal} (hf : ∀ k, IsReal (f k)) : (c : EReal) * ∑ k ∈ s, f k = ∑ k ∈ s, (c : EReal) * f k := by
  classical
  induction s using Finset.induction_on with
  | empty => simp
  | insert a s ha ih =>
    rw [Finset.sum_insert ha, Finset.sum_insert ha, ← ih]
    obtain ⟨u, hu⟩ := hf a
    obtain ⟨v, hv⟩ := IsReal.sum s fun k _ => hf k
    rw [hu, hv, ← EReal.coe_add, ← EReal.coe_mul, ← EReal.coe_mul, ← EReal.coe_mul, ← EReal.coe_add, mul_add]

/-- The 4096 rows in tiles of `w`. -/
def rowIn (w q : ℕ) (p : Fin w) : Fin 4096 := ⟨(w * q + p.val) % 4096, Nat.mod_lt _ (by decide)⟩
abbrev rowAt (q : ℕ) (p : Fin 256) : Fin 4096 := rowIn 256 q p

theorem rowIn_val {n w : ℕ} (h : n * w = 4096) {q : ℕ} (hq : q < n) (p : Fin w) : (rowIn w q p).val = w * q + p.val := by
  refine Nat.mod_eq_of_lt ?_
  have := p.isLt
  have : (q + 1) * w ≤ n * w := Nat.mul_le_mul_right w hq
  rw [add_mul, mul_comm q w] at this
  omega
theorem rowAt_val {q : ℕ} (hq : q < 16) (p : Fin 256) : (rowAt q p).val = 256 * q + p.val := rowIn_val (n := 16) rfl hq p

theorem sum_in {n w : ℕ} (h : n * w = 4096) (f : Fin 4096 → EReal) : ∑ q ∈ Finset.range n, ∑ p : Fin w, f (rowIn w q p) = ∑ s : Fin 4096, f s := by
  rw [Finset.sum_range (fun q => ∑ p : Fin w, f (rowIn w q p)), ← Fintype.sum_prod_type']
  refine Fintype.sum_equiv (finProdFinEquiv.trans (finCongr h)) _ _ fun p => congrArg f (Fin.ext ?_)
  rw [rowIn_val h p.1.isLt]
  show w * p.1.val + p.2.val = p.2.val + w * p.1.val
  omega
theorem sum_rows (f : Fin 4096 → EReal) : ∑ q ∈ Finset.range 16, ∑ p : Fin 256, f (rowAt q p) = ∑ s : Fin 4096, f s := sum_in (n := 16) rfl f

end Cert.Rms
-- ==== Proof.DH2.lean ====
module

public import proofs.«01_k».proof.Proof.Gen.Kernel6Ideal.Value
public import proofs.«01_k».proof.Proof.Gen.Reference6Ideal.Read
public import proofs.«01_k».proof.Proof.Gen.Pre_finite_normed
public import proofs.«01_k».proof.Proof.Rms
public import proofs.«01_k».proof.Proof.Win

@[expose] public section

set_option maxRecDepth 16384

noncomputable section

namespace Cert.DH2

open Idealize.ShloMosaic Idealize.ShloMosaic.TcCoe Idealize.SL.Sem Cert.Common Cert.Rms
open Idealize.ShloMosaic.Pipeline (Dat RDat)
open Cert.Reference6Ideal.Read
open Cert.Kernel6Ideal Cert.Kernel6Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)
abbrev ar2 (c : Dev nD) := m ((c : Thread nD τ).loc main_arg2)
abbrev ar3 (c : Dev nD) := m ((c : Thread nD τ).loc main_arg3)
abbrev ar4 (c : Dev nD) := m ((c : Thread nD τ).loc main_arg4)

/-- The two halves of a row of the half's cotangent. -/
abbrev lo (k : Fin 1408) : Fin 2816 := ⟨k.val, by omega⟩
abbrev hi (k : Fin 1408) : Fin 2816 := ⟨1408 + k.val, by omega⟩

theorem pay6_at (v0 : Vec Ideal S1x256x1408 .bf16) (v2 : Vec Ideal S1x1024x1408 .bf16) (v5 : Vec Ideal S1x256x1408 .bf16) (v7 : Vec Ideal S1x1024x1408 .bf16)
    (v11 : Vec Ideal S1x256x1408 .bf16) (v13 : Vec Ideal S1x1024x1408 .bf16) (v17 : Vec Ideal S1x256x1408 .bf16) (v19 : Vec Ideal S1x1024x1408 .bf16) (j : S256x1024.Idx) :
    k0_pay6 v0 v2 v5 v7 v11 v13 v17 v19 j
      = (∑ k : Fin 1408, v0 (ix3 0 (j 0) k) * v2 (ix3 0 (j 1) k)) + (∑ k : Fin 1408, v5 (ix3 0 (j 0) k) * v7 (ix3 0 (j 1) k))
        + (∑ k : Fin 1408, v11 (ix3 0 (j 0) k) * v13 (ix3 0 (j 1) k)) + (∑ k : Fin 1408, v17 (ix3 0 (j 0) k) * v19 (ix3 0 (j 1) k)) := by
  idx_vars j
  unfold_payloads
  pointwise

/-- Row `p` of a tile. -/
abbrev row (v : Vec Ideal S256x1024 .f32) (p : Fin 256) (k : Fin 1024) : EReal := v (ix2 p k)

theorem pay3_at (r x : Vec Ideal S256x1024 .f32) (g : Vec Ideal S1x1024 .f32) (d : Vec Ideal S256x1024 .f32) (j : S256x1024.Idx) :
    k0_pay3 r x (k0_pay7 x) (Scalar.ofBits .f32 0x44800000#32) g d j
      = tile (row r (j 0)) (row x (j 0)) (fun k => g (ix2 0 k)) (row d (j 0)) (j 1) := by
  idx_vars j
  unfold_payloads
  pointwise [tile, xh, rs, ms, row]

theorem pay4_at (r x : Vec Ideal S256x1024 .f32) (j : S1x1024.Idx) :
    k0_pay4 r x (k0_pay7 x) (Scalar.ofBits .f32 0x44800000#32) j
      = ∑ p : Fin 256, row r p (j 1) * xh (row x p) (j 1) := by
  idx_vars j
  unfold_payloads
  pointwise [xh, rs, ms, row]

/-- The product of a tile of the half's cotangent with the weights, in four pieces. -/
def dotBlk (x0 x1 : Vec Ideal S1x256x2816 .bf16) (x2 : Vec Ideal S4x1024x1408 .bf16) : Vec Ideal S256x1024 .f32 := fun j =>
  (∑ k : Fin 1408, (x0 (ix3 0 (j 0) (lo k)) * x2 (ix3 0 (j 1) k) : EReal)) + (∑ k : Fin 1408, x0 (ix3 0 (j 0) (hi k)) * x2 (ix3 1 (j 1) k))
    + (∑ k : Fin 1408, x1 (ix3 0 (j 0) (lo k)) * x2 (ix3 2 (j 1) k)) + (∑ k : Fin 1408, x1 (ix3 0 (j 0) (hi k)) * x2 (ix3 3 (j 1) k))

def tileBlk (x0 x1 : Vec Ideal S1x256x2816 .bf16) (x2 : Vec Ideal S4x1024x1408 .bf16) (x3 : Vec Ideal S256x1024 .f32) (x4 : Vec Ideal S1x1024 .f32) (x5 : Vec Ideal S256x1024 .f32) : Vec Ideal S256x1024 .f32 := fun j =>
  tile (row (dotBlk x0 x1 x2) (j 0)) (row x3 (j 0)) (fun k => x4 (ix2 0 k)) (row x5 (j 0)) (j 1)

def partBlk (x0 x1 : Vec Ideal S1x256x2816 .bf16) (x2 : Vec Ideal S4x1024x1408 .bf16) (x3 : Vec Ideal S256x1024 .f32) : Vec Ideal S1x1024 .f32 := fun j =>
  ∑ p : Fin 256, row (dotBlk x0 x1 x2) p (j 1) * xh (row x3 p) (j 1)

theorem dots (x0 x1 : Vec Ideal S1x256x2816 .bf16) (x2 : Vec Ideal S4x1024x1408 .bf16) :
    k0_pay6 (F := Ideal) (View.ld x0 (Rect.unit ![0, 0, 0] ![1, 256, 1408] inb_S1x256x2816_S1x256x1408_0_0_0))
      (View.ld x2 (Rect.unit ![0, 0, 0] ![1, 1024, 1408] inb_S4x1024x1408_S1x1024x1408_0_0_0))
      (View.ld x0 (Rect.unit ![0, 0, 1408] ![1, 256, 1408] inb_S1x256x2816_S1x256x1408_0_0_1408))
      (View.ld x2 (Rect.unit ![1, 0, 0] ![1, 1024, 1408] inb_S4x1024x1408_S1x1024x1408_1_0_0))
      (View.ld x1 (Rect.unit ![0, 0, 0] ![1, 256, 1408] inb_S1x256x2816_S1x256x1408_0_0_0))
      (View.ld x2 (Rect.unit ![2, 0, 0] ![1, 1024, 1408] inb_S4x1024x1408_S1x1024x1408_2_0_0))
      (View.ld x1 (Rect.unit ![0, 0, 1408] ![1, 256, 1408] inb_S1x256x2816_S1x256x1408_0_0_1408))
      (View.ld x2 (Rect.unit ![3, 0, 0] ![1, 1024, 1408] inb_S4x1024x1408_S1x1024x1408_3_0_0)) = dotBlk x0 x1 x2 := by
  funext j
  rw [pay6_at]
  unfold dotBlk
  have e (off : Fin 3 → Nat) (x : Vec Ideal S1x256x2816 .bf16) (inb) (k : Fin 1408) (i : S1x256x2816.Idx)
      (h : ∀ a, (i a : Nat) = off a + (ix3 0 (j 0) k : S1x256x1408.Idx) a) :
      View.ld x (Rect.unit off ![1, 256, 1408] inb) (ix3 0 (j 0) k : S1x256x1408.Idx) = x i := View.ld_unit_apply_of _ _ _ _ _ _ h
  have f (off : Fin 3 → Nat) (inb) (k : Fin 1408) (i : S4x1024x1408.Idx)
      (h : ∀ a, (i a : Nat) = off a + (ix3 0 (j 1) k : S1x1024x1408.Idx) a) :
      View.ld x2 (Rect.unit off ![1, 1024, 1408] inb) (ix3 0 (j 1) k : S1x1024x1408.Idx) = x2 i := View.ld_unit_apply_of _ _ _ _ _ _ h
  refine congrArg₂ (· + ·) (congrArg₂ (· + ·) (congrArg₂ (· + ·) ?_ ?_) ?_) ?_ <;>
    refine Finset.sum_congr rfl fun k _ => congrArg₂ (· * ·) (e _ _ _ _ _ fun a => ?_) (f _ _ _ _ fun a => ?_) <;>
    match a with
    | ⟨0, _⟩ => rfl
    | ⟨1, _⟩ => exact (Nat.zero_add _).symm
    | ⟨2, _⟩ => first | rfl | exact (Nat.zero_add _).symm

section
variable (c : Dev nD) (i : grid0.Coords) (a1 : Memref sig .tc .vmem S1x256x2816 .bf16) (h1 : a1.IsWhole) (a2 : Memref sig .tc .vmem S1x256x2816 .bf16) (h2 : a2.IsWhole)
    (a3 : Memref sig .tc .vmem S4x1024x1408 .bf16) (h3 : a3.IsWhole) (a4 : Memref sig .tc .vmem S256x1024 .f32) (h4 : a4.IsWhole) (a5 : Memref sig .tc .vmem S1x1024 .f32) (h5 : a5.IsWhole)
    (a6 : Memref sig .tc .vmem S256x1024 .f32) (h6 : a6.IsWhole) (a7 : Memref sig .tc .vmem S256x1024 .f32) (h7 : a7.IsWhole) (a8 : Memref sig .tc .vmem S1x1024 .f32) (h8 : a8.IsWhole)

theorem out_A6 (hc0 : cond0_0 i) (hc1 : ¬cond0_1 i) (x0 x1 : Vec Ideal S1x256x2816 .bf16) (x2 : Vec Ideal S4x1024x1408 .bf16) (x3 : Vec Ideal S256x1024 .f32) (x4 : Vec Ideal S1x1024 .f32) (x5 : Vec Ideal S256x1024 .f32) :
    out0_A_6 c i a1 h1 a2 h2 a3 h3 a4 h4 a5 h5 a6 h6 a7 h7 a8 h8 hc0 hc1 x0 x1 x2 x3 x4 x5 = tileBlk x0 x1 x2 x3 x4 x5 := by
  unfold out0_A_6
  rw [View.read_writes_eq_canon _ _ _ (cover0_A_6 c i a1 h1 a2 h2 a3 h3 a4 h4 a5 h5 a6 h6 a7 h7 a8 h8 hc0 hc1 x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h6.read_unread,
    View.ld_unit_zero (S := S256x1024) hz2, View.ld_unit_zero (S := S1x1024) hz2]
  funext j
  rw [pay3_at, dots]
  rfl

theorem out_A7 (hc0 : cond0_0 i) (hc1 : ¬cond0_1 i) (x0 x1 : Vec Ideal S1x256x2816 .bf16) (x2 : Vec Ideal S4x1024x1408 .bf16) (x3 : Vec Ideal S256x1024 .f32) (x4 : Vec Ideal S1x1024 .f32) (x5 : Vec Ideal S256x1024 .f32) :
    out0_A_7 c i a1 h1 a2 h2 a3 h3 a4 h4 a5 h5 a6 h6 a7 h7 a8 h8 hc0 hc1 x0 x1 x2 x3 x4 x5 = partBlk x0 x1 x2 x3 := by
  unfold out0_A_7
  rw [View.read_writes_eq_canon _ _ _ (cover0_A_7 c i a1 h1 a2 h2 a3 h3 a4 h4 a5 h5 a6 h6 a7 h7 a8 h8 hc0 hc1 x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h6.read_unread,
    View.ld_unit_zero (S := S256x1024) hz2, View.ld_unit_zero (S := S1x1024) hz2]
  funext j
  rw [pay4_at, dots]
  rfl

theorem out_B6 (hc0 : ¬cond0_0 i) (hc1 : cond0_1 i) (x0 x1 : Vec Ideal S1x256x2816 .bf16) (x2 : Vec Ideal S4x1024x1408 .bf16) (x3 : Vec Ideal S256x1024 .f32) (x4 : Vec Ideal S1x1024 .f32) (x5 : Vec Ideal S256x1024 .f32) (xo : Vec Ideal S1x1024 .f32) :
    out0_B_6 c i a1 h1 a2 h2 a3 h3 a4 h4 a5 h5 a6 h6 a7 h7 a8 h8 hc0 hc1 x0 x1 x2 x3 x4 x5 xo = tileBlk x0 x1 x2 x3 x4 x5 := by
  unfold out0_B_6
  rw [View.read_writes_eq_canon _ _ _ (cover0_B_6 c i a1 h1 a2 h2 a3 h3 a4 h4 a5 h5 a6 h6 a7 h7 a8 h8 hc0 hc1 x0 x1 x2 x3 x4 x5 xo)]
  unfold kernelRun0_B
  dsimp only
  sl_unfold_words
  rw [View.canon_unit_zero hz2]
  simp only [View.readAt_eq_ld, h1.read_unread, h2.read_unread, h3.read_unread, h4.read_unread, h5.read_unread, h6.read_unread, h8.read_unread,
    View.ld_unit_zero (S := S256x1024) hz2, View.ld_unit_zero (S := S1x1024) hz2]
  funext j
  rw [pay3_at, dots]
  rfl

theorem out_B7 (hc0 : ¬cond0_0 i) (hc1 : cond0_1 i) (x0 x1 : Vec Ideal S1x256x2816 .bf16) (x2 : Vec Ideal S4x1024x1408 .bf16) (x3 : Vec Ideal S256x1024 .f32) (x4 : Vec Ideal S1x1024 .f32) (x5 : Vec Ideal S256x1024 .f32) (xo : Vec Ideal S1x1024 .f32) :
    out0_B_7 c i a1 h1 a2 h2 a3 h3 a4 h4 a5 h5 a6 h6 a7 h7 a8 h8 hc0 hc1 x0 x1 x2 x3 x4 x5 xo = fun j => (xo j + partBlk x0 x1 x2 x3 j : EReal) := by
  unfold out0_B_7
  rw [View.read_writes_eq_canon _ _ _ (cover0_B_7 c i a1 h1 a2 h2 a3 h3 a4 h4 a5 h5 a6 h6 a7 h7 a8 h8 hc0 hc1 x0 x1 x2 x3 x4 x5 xo)]
  unfold kernelRun0_B
  dsimp only
  sl_unfold_words
  rw [View.canon_unit_zero hz2]
  simp only [View.readAt_eq_ld, h1.read_unread, h2.read_unread, h3.read_unread, h4.read_unread, h5.read_unread, h6.read_unread, h8.read_unread,
    View.ld_unit_zero (S := S256x1024) hz2, View.ld_unit_zero (S := S1x1024) hz2]
  funext j
  rw [dots]
  unfold k0_pay5
  rw [shapeCast_self]
  show xo j + k0_pay4 (F := Ideal) _ _ _ _ j = _
  rw [pay4_at]
  rfl

end

theorem V_halves (c : Dev nD) (i : S2x4096x2816.Idx) :
    V m c main_v2 i = ar4 m c (ix2 (i 1) ⟨(i 0).val * 2816 + (i 2).val, by
      have := (i 0).isLt; have := (i 2).isLt; change (i 0).val < 2 at *; change (i 2).val < 2816 at *; omega⟩ : S4096x5632.Idx) := by
  unfold V
  after_reads_at

theorem V_blocks (c : Dev nD) (i : S4x1024x1408.Idx) :
    V m c main_v5 i = ar2 m c (ix2 (i 1) ⟨(i 0).val * 1408 + (i 2).val, by
      have := (i 0).isLt; have := (i 2).isLt; change (i 0).val < 4 at *; change (i 2).val < 1408 at *; omega⟩ : S1024x5632.Idx) := by
  unfold V
  after_reads_at

theorem idx_facts : ∀ t : Fin cfg0.N,
    win0_0.index t 0 = 0 ∧ win0_0.index t 1 = t.val ∧ win0_0.index t 2 = 0 ∧ win0_1.index t 0 = 1 ∧ win0_1.index t 1 = t.val ∧ win0_1.index t 2 = 0
    ∧ win0_2.index t 0 = 0 ∧ win0_2.index t 1 = 0 ∧ win0_2.index t 2 = 0 ∧ win0_3.index t 0 = t.val ∧ win0_3.index t 1 = 0
    ∧ win0_4.index t 0 = 0 ∧ win0_4.index t 1 = 0 ∧ win0_5.index t 0 = t.val ∧ win0_5.index t 1 = 0
    ∧ win0_6.index t 0 = t.val ∧ win0_6.index t 1 = 0 ∧ win0_7.index t 0 = 0 ∧ win0_7.index t 1 = 0 ∧ t.val < 16 :=
  (by decide +kernel : ∀ t : Fin grid0.N, _)

theorem iblk0_at (c : Dev nD) (t : Fin cfg0.N) (y : S1x256x2816.Idx) (i : S2x4096x2816.Idx)
    (h0 : (i 0).val = (y 0).val) (h1 : (i 1).val = t.val * 256 + (y 1).val) (h2 : (i 2).val = (y 2).val) :
    iblk m c 0 t y = V m c main_v2 i :=
  congrArg (V m c main_v2) (emb_of win0_0 t y i (fall3 (toBlk0 h0 (idx_facts t).1) (toBlk h1 (idx_facts t).2.1) (toBlk0 h2 (idx_facts t).2.2.1)))

theorem iblk1_at (c : Dev nD) (t : Fin cfg0.N) (y : S1x256x2816.Idx) (i : S2x4096x2816.Idx)
    (h0 : (i 0).val = 1 * 1 + (y 0).val) (h1 : (i 1).val = t.val * 256 + (y 1).val) (h2 : (i 2).val = (y 2).val) :
    iblk m c 1 t y = V m c main_v2 i :=
  congrArg (V m c main_v2) (emb_of win0_1 t y i (fall3 (toBlk h0 (idx_facts t).2.2.2.1) (toBlk h1 (idx_facts t).2.2.2.2.1) (toBlk0 h2 (idx_facts t).2.2.2.2.2.1)))

theorem iblk2_at (c : Dev nD) (t : Fin cfg0.N) (y : S4x1024x1408.Idx) (i : S4x1024x1408.Idx)
    (h0 : (i 0).val = (y 0).val) (h1 : (i 1).val = (y 1).val) (h2 : (i 2).val = (y 2).val) :
    iblk m c 2 t y = V m c main_v5 i :=
  congrArg (V m c main_v5) (emb_of win0_2 t y i (fall3 (toBlk0 h0 (idx_facts t).2.2.2.2.2.2.1) (toBlk0 h1 (idx_facts t).2.2.2.2.2.2.2.1) (toBlk0 h2 (idx_facts t).2.2.2.2.2.2.2.2.1)))

theorem iblk3_at (c : Dev nD) (t : Fin cfg0.N) (y : S256x1024.Idx) (i : S4096x1024.Idx)
    (h0 : (i 0).val = t.val * 256 + (y 0).val) (h1 : (i 1).val = (y 1).val) :
    iblk m c 3 t y = ar0 m c i :=
  (congrArg (V m c main_arg0) (emb_of win0_3 t y i (fall2 (toBlk h0 (idx_facts t).2.2.2.2.2.2.2.2.2.1) (toBlk0 h1 (idx_facts t).2.2.2.2.2.2.2.2.2.2.1)))).trans (congrFun (V_main_arg0 m c) i)

theorem iblk4_at (c : Dev nD) (t : Fin cfg0.N) (y : S1x1024.Idx) (i : S1x1024.Idx)
    (h0 : (i 0).val = (y 0).val) (h1 : (i 1).val = (y 1).val) :
    iblk m c 4 t y = ar1 m c i :=
  (congrArg (V m c main_arg1) (emb_of win0_4 t y i (fall2 (toBlk0 h0 (idx_facts t).2.2.2.2.2.2.2.2.2.2.2.1) (toBlk0 h1 (idx_facts t).2.2.2.2.2.2.2.2.2.2.2.2.1)))).trans (congrFun (V_main_arg1 m c) i)

theorem iblk5_at (c : Dev nD) (t : Fin cfg0.N) (y : S256x1024.Idx) (i : S4096x1024.Idx)
    (h0 : (i 0).val = t.val * 256 + (y 0).val) (h1 : (i 1).val = (y 1).val) :
    iblk m c 5 t y = ar3 m c i :=
  (congrArg (V m c main_arg3) (emb_of win0_5 t y i (fall2 (toBlk h0 (idx_facts t).2.2.2.2.2.2.2.2.2.2.2.2.2.1) (toBlk0 h1 (idx_facts t).2.2.2.2.2.2.2.2.2.2.2.2.2.2.1)))).trans (congrFun (V_main_arg3 m c) i)

/-- The cotangent of the normalised row: the half's cotangent times the transposed weights. -/
def rowDot (w : FVec Ideal S1024x5632 .f32) (dgu : FVec Ideal S4096x5632 .f32) (s : Fin 4096) (c : Fin 1024) : EReal :=
  ∑ k : Fin 5632, dgu (ix2 s k) * w (ix2 c k)

theorem sum_four (f : Fin 5632 → EReal) : ∑ k, f k = (∑ k : Fin 1408, f ⟨k.val, by omega⟩) + (∑ k : Fin 1408, f ⟨1408 + k.val, by omega⟩)
    + (∑ k : Fin 1408, f ⟨2816 + k.val, by omega⟩) + ∑ k : Fin 1408, f ⟨4224 + k.val, by omega⟩ := by
  show (∑ k : Fin (1408 + 1408 + 1408 + 1408), f k) = _
  rw [Fin.sum_univ_add, Fin.sum_univ_add, Fin.sum_univ_add]
  rfl

theorem dotBlk_of (x0 x1 : Vec Ideal S1x256x2816 .bf16) (x2 : Vec Ideal S4x1024x1408 .bf16) (p : Fin 256) (d : Fin 1024) (a w : Fin 5632 → EReal)
    (q0 : ∀ k, x0 (ix3 0 p (lo k)) = a ⟨k.val, by omega⟩) (q1 : ∀ k, x0 (ix3 0 p (hi k)) = a ⟨1408 + k.val, by omega⟩)
    (q2 : ∀ k, x1 (ix3 0 p (lo k)) = a ⟨2816 + k.val, by omega⟩) (q3 : ∀ k, x1 (ix3 0 p (hi k)) = a ⟨4224 + k.val, by omega⟩)
    (w0 : ∀ k : Fin 1408, x2 (ix3 0 d k) = w ⟨k.val, by omega⟩) (w1 : ∀ k : Fin 1408, x2 (ix3 1 d k) = w ⟨1408 + k.val, by omega⟩)
    (w2 : ∀ k : Fin 1408, x2 (ix3 2 d k) = w ⟨2816 + k.val, by omega⟩) (w3 : ∀ k : Fin 1408, x2 (ix3 3 d k) = w ⟨4224 + k.val, by omega⟩) :
    dotBlk x0 x1 x2 (ix2 p d) = ∑ k, a k * w k := by
  rw [sum_four]
  show (∑ k : Fin 1408, (x0 (ix3 0 p (lo k)) * x2 (ix3 0 d k) : EReal)) + (∑ k : Fin 1408, x0 (ix3 0 p (hi k)) * x2 (ix3 1 d k))
    + (∑ k : Fin 1408, x1 (ix3 0 p (lo k)) * x2 (ix3 2 d k)) + (∑ k : Fin 1408, x1 (ix3 0 p (hi k)) * x2 (ix3 3 d k)) = _
  simp only [q0, q1, q2, q3, w0, w1, w2, w3]

theorem rowAt_eq {t : Fin cfg0.N} {s : Fin 4096} {p : Fin 256} (h : s.val = t.val * 256 + p.val) : s = rowAt t.val p := by
  have hN : cfg0.N = 16 := N_0
  have := t.isLt
  refine Fin.ext ?_
  rw [rowAt_val (by omega), h, mul_comm]

theorem tileDot (c : Dev nD) (t : Fin cfg0.N) (p : Fin 256) (s : Fin 4096) (h : s.val = t.val * 256 + p.val) (d : Fin 1024) :
    row (dotBlk (iblk m c 0 t) (iblk m c 1 t) (iblk m c 2 t)) p d
      = rowDot (ar2 m c) (ar4 m c) s d := by
  have q0 (k : Fin 1408) : iblk m c 0 t (ix3 0 p (lo k) : S1x256x2816.Idx) = ar4 m c (ix2 s ⟨k.val, by omega⟩ : S4096x5632.Idx) :=
    ((iblk0_at m c t (ix3 0 p (lo k)) (ix3 0 s (lo k)) rfl h rfl).trans (V_halves m c _)).trans
      (congrArg _ (congrArg (ix2 (s : Fin 4096)) (Fin.ext (by show 0 * 2816 + k.val = k.val; omega))))
  have q1 (k : Fin 1408) : iblk m c 0 t (ix3 0 p (hi k) : S1x256x2816.Idx) = ar4 m c (ix2 s ⟨1408 + k.val, by omega⟩ : S4096x5632.Idx) :=
    ((iblk0_at m c t (ix3 0 p (hi k)) (ix3 0 s (hi k)) rfl h rfl).trans (V_halves m c _)).trans
      (congrArg _ (congrArg (ix2 (s : Fin 4096)) (Fin.ext (by show 0 * 2816 + (1408 + k.val) = 1408 + k.val; omega))))
  have q2 (k : Fin 1408) : iblk m c 1 t (ix3 0 p (lo k) : S1x256x2816.Idx) = ar4 m c (ix2 s ⟨2816 + k.val, by omega⟩ : S4096x5632.Idx) :=
    ((iblk1_at m c t (ix3 0 p (lo k)) (ix3 1 s (lo k)) rfl h rfl).trans (V_halves m c _)).trans
      (congrArg _ (congrArg (ix2 (s : Fin 4096)) (Fin.ext (by show 1 * 2816 + k.val = 2816 + k.val; omega))))
  have q3 (k : Fin 1408) : iblk m c 1 t (ix3 0 p (hi k) : S1x256x2816.Idx) = ar4 m c (ix2 s ⟨4224 + k.val, by omega⟩ : S4096x5632.Idx) :=
    ((iblk1_at m c t (ix3 0 p (hi k)) (ix3 1 s (hi k)) rfl h rfl).trans (V_halves m c _)).trans
      (congrArg _ (congrArg (ix2 (s : Fin 4096)) (Fin.ext (by show 1 * 2816 + (1408 + k.val) = 4224 + k.val; omega))))
  have w (o : Fin 4) (k : Fin 1408) (b : Fin 5632) (hb : o.val * 1408 + k.val = b.val) :
      iblk m c 2 t (ix3 o d k : S4x1024x1408.Idx) = ar2 m c (ix2 d b : S1024x5632.Idx) :=
    ((iblk2_at m c t (ix3 o d k) (ix3 o d k) rfl rfl rfl).trans (V_blocks m c _)).trans
      (congrArg _ (congrArg (ix2 (d : Fin 1024)) (Fin.ext hb)))
  have w0 (k : Fin 1408) := w 0 k ⟨k.val, by omega⟩ (by show 0 * 1408 + k.val = k.val; omega)
  have w1 (k : Fin 1408) := w 1 k ⟨1408 + k.val, by omega⟩ (by show 1 * 1408 + k.val = 1408 + k.val; omega)
  have w2 (k : Fin 1408) := w 2 k ⟨2816 + k.val, by omega⟩ (by show 2 * 1408 + k.val = 2816 + k.val; omega)
  have w3 (k : Fin 1408) := w 3 k ⟨4224 + k.val, by omega⟩ (by show 3 * 1408 + k.val = 4224 + k.val; omega)
  exact dotBlk_of (iblk m c 0 t) (iblk m c 1 t) (iblk m c 2 t) p d _ _ q0 q1 q2 q3 w0 w1 w2 w3

variable (x : FVec Ideal S4096x1024 .f32) (g : FVec Ideal S1x1024 .f32) (w : FVec Ideal S1024x5632 .f32) (dres : FVec Ideal S4096x1024 .f32) (dgu : FVec Ideal S4096x5632 .f32)

/-- The two results as functions of the arguments. -/
def gradX (x : FVec Ideal S4096x1024 .f32) (g : FVec Ideal S1x1024 .f32) (w : FVec Ideal S1024x5632 .f32) (dres : FVec Ideal S4096x1024 .f32)
    (dgu : FVec Ideal S4096x5632 .f32) (i : S4096x1024.Idx) : EReal :=
  tile (rowDot w dgu (i 0)) (fun k => x (ix2 (i 0) k)) (fun k => g (ix2 0 k)) (fun k => dres (ix2 (i 0) k)) (i 1)
def term (x : FVec Ideal S4096x1024 .f32) (w : FVec Ideal S1024x5632 .f32) (dgu : FVec Ideal S4096x5632 .f32) (j : S1x1024.Idx) (s : Fin 4096) : EReal :=
  rowDot w dgu s (j 1) * xh (fun k => x (ix2 s k)) (j 1)
def gradG (x : FVec Ideal S4096x1024 .f32) (w : FVec Ideal S1024x5632 .f32) (dgu : FVec Ideal S4096x5632 .f32) (j : S1x1024.Idx) : EReal :=
  ∑ s : Fin 4096, term x w dgu j s

theorem tile_at (c : Dev nD) (t : Fin cfg0.N) (y : S256x1024.Idx) (i : S4096x1024.Idx) (h0 : (i 0).val = t.val * 256 + (y 0).val) (h1 : (i 1).val = (y 1).val) :
    tileBlk (iblk m c 0 t) (iblk m c 1 t) (iblk m c 2 t) (iblk m c 3 t) (iblk m c 4 t) (iblk m c 5 t) y = gradX (ar0 m c) (ar1 m c) (ar2 m c) (ar3 m c) (ar4 m c) i := by
  unfold tileBlk gradX
  have e0 : row (dotBlk (iblk m c 0 t) (iblk m c 1 t) (iblk m c 2 t)) (y 0) = rowDot (ar2 m c) (ar4 m c) (i 0) :=
    funext fun d => tileDot m c t (y 0) (i 0) h0 d
  have e1 : row (iblk m c 3 t) (y 0) = fun k => (ar0 m c) (ix2 (i 0) k : S4096x1024.Idx) :=
    funext fun k => iblk3_at m c t (ix2 (y 0) k) (ix2 (i 0) k) h0 rfl
  have e2 : (fun k => iblk m c 4 t (ix2 0 k : S1x1024.Idx)) = fun k => (ar1 m c) (ix2 0 k : S1x1024.Idx) :=
    funext fun k => iblk4_at m c t (ix2 0 k) (ix2 0 k) rfl rfl
  have e3 : row (iblk m c 5 t) (y 0) = fun k => (ar3 m c) (ix2 (i 0) k : S4096x1024.Idx) :=
    funext fun k => iblk5_at m c t (ix2 (y 0) k) (ix2 (i 0) k) h0 rfl
  rw [e0, e1, e3, show y 1 = i 1 from Fin.ext h1.symm]
  exact congrArg (fun g => tile _ _ g _ _) e2

theorem part_at (c : Dev nD) (t : Fin cfg0.N) (y : S1x1024.Idx) :
    partBlk (iblk m c 0 t) (iblk m c 1 t) (iblk m c 2 t) (iblk m c 3 t) y = ∑ p : Fin 256, term (ar0 m c) (ar2 m c) (ar4 m c) y (rowAt t.val p) := by
  unfold partBlk
  have hN : cfg0.N = 16 := N_0
  have ht := t.isLt
  refine Finset.sum_congr rfl fun p _ => ?_
  have h : (rowAt t.val p).val = t.val * 256 + p.val := by rw [rowAt_val (by omega), mul_comm]
  have e1 : row (iblk m c 3 t) p = fun k => (ar0 m c) (ix2 (rowAt t.val p) k : S4096x1024.Idx) :=
    funext fun k => iblk3_at m c t (ix2 p k) (ix2 (rowAt t.val p) k) h rfl
  exact congrArg₂ (fun a b : EReal => a * b) (tileDot m c t p (rowAt t.val p) h (y 1)) (congrArg (fun r => xh r (y 1)) e1)

theorem fst_at (c : Dev nD) (t : Fin cfg0.N) :
    (outsAt0 m c t.val t.isLt).1 = tileBlk (iblk m c 0 t) (iblk m c 1 t) (iblk m c 2 t) (iblk m c 3 t) (iblk m c 4 t) (iblk m c 5 t) := by
  have hN : cfg0.N = 16 := N_0
  have ht := t.isLt
  by_cases h0 : t.val = 0
  · rw [outsAt0_A m c t (by omega) (by omega), out_A6]
  · rw [outsAt0_B m c t (by omega) (by omega), out_B6]

/-- The second result's tile after a grid point: the rows up to it. -/
theorem snd_at (c : Dev nD) (y : S1x1024.Idx) : ∀ (n : ℕ) (h : n < cfg0.N),
    (outsAt0 m c n h).2 y = ∑ q ∈ Finset.range (n + 1), ∑ p : Fin 256, term (ar0 m c) (ar2 m c) (ar4 m c) y (rowAt q p)
  | 0, h => by
    rw [outsAt0_A m c ⟨0, h⟩ rfl (by show ¬1 ≤ 0; decide), out_A7]
    dsimp only
    rw [part_at, Finset.sum_range_one]
  | n + 1, h => by
    have hN : cfg0.N = 16 := N_0
    rw [outsAt0_B m c ⟨n + 1, h⟩ (by dsimp only; omega) (by dsimp only; omega), out_B7]
    dsimp only
    rw [part_at, Finset.sum_range_succ _ (n + 1), ← snd_at c y n (Nat.lt_of_succ_lt h)]
    rfl

theorem cover6 (i : S4096x1024.Idx) :
    ∃ t : Fin cfg0.N, (cfg0.win 6).flush t = true ∧ i ∈ ((cfg0.win 6).blk t).view.set := by
  have h0 : (i 0).val < 4096 := (i 0).isLt
  have h1 : (i 1).val < 1024 := (i 1).isLt
  have hN : cfg0.N = 16 := N_0
  obtain ⟨t, ht⟩ : ∃ t : Fin cfg0.N, t.val = (i 0).val / 256 := ⟨⟨_, by omega⟩, rfl⟩
  exact ⟨t, flush0_6 t, in_blk (b := main_v6_0) (fall2 (inBlk (i := (i 0).val) (n := 256) (idx_facts t).2.2.2.2.2.2.2.2.2.2.2.2.2.2.2.1 (by omega)) (inBlk (i := (i 1).val) (n := 1024) (idx_facts t).2.2.2.2.2.2.2.2.2.2.2.2.2.2.2.2.1 (by omega)))⟩

theorem cover7 (i : S1x1024.Idx) :
    ∃ t : Fin cfg0.N, (cfg0.win 7).flush t = true ∧ i ∈ ((cfg0.win 7).blk t).view.set := by
  have h0 : (i 0).val < 1 := (i 0).isLt
  have h1 : (i 1).val < 1024 := (i 1).isLt
  have hN : cfg0.N = 16 := N_0
  obtain ⟨t, ht⟩ : ∃ t : Fin cfg0.N, t.val = 15 := ⟨⟨_, by omega⟩, rfl⟩
  exact ⟨t, (flush0_7 t).mpr (by omega), in_blk (b := main_v6_1) (fall2 (inBlk (i := (i 0).val) (n := 1) (idx_facts t).2.2.2.2.2.2.2.2.2.2.2.2.2.2.2.2.2.1 (by omega)) (inBlk (i := (i 1).val) (n := 1024) (idx_facts t).2.2.2.2.2.2.2.2.2.2.2.2.2.2.2.2.2.2.1 (by omega)))⟩

theorem emb6 (t : Fin cfg0.N) (y : S256x1024.Idx) (i : S4096x1024.Idx) (h : ((cfg0.win 6).blk t).view.emb y = i) :
    (i 0).val = t.val * 256 + (y 0).val ∧ (i 1).val = (y 1).val :=
  ⟨ofBlk (emb_at win0_6 t y i h 0) (idx_facts t).2.2.2.2.2.2.2.2.2.2.2.2.2.2.2.1, ofBlk0 (emb_at win0_6 t y i h 1) (idx_facts t).2.2.2.2.2.2.2.2.2.2.2.2.2.2.2.2.1⟩

theorem emb7 (t : Fin cfg0.N) (y : S1x1024.Idx) (i : S1x1024.Idx) (h : ((cfg0.win 7).blk t).view.emb y = i) :
    (i 0).val = (y 0).val ∧ (i 1).val = (y 1).val :=
  ⟨ofBlk0 (emb_at win0_7 t y i h 0) (idx_facts t).2.2.2.2.2.2.2.2.2.2.2.2.2.2.2.2.2.1, ofBlk0 (emb_at win0_7 t y i h 1) (idx_facts t).2.2.2.2.2.2.2.2.2.2.2.2.2.2.2.2.2.2.1⟩

theorem final6 (c : Dev nD) : (dats m 0 c).arrAt 6 cfg0.N = gradX (ar0 m c) (ar1 m c) (ar2 m c) (ar3 m c) (ar4 m c) := by
  funext i
  refine (dats m 0 c).arrAt_forall_of_cover 6 (fun i v => v = gradX (ar0 m c) (ar1 m c) (ar2 m c) (ar3 m c) (ar4 m c) i) (fun t _ y => ?_) cover6 i
  generalize hi : ((cfg0.win 6).blk t).view.emb y = i'
  obtain ⟨k0, k1⟩ := emb6 t y i' hi
  have hf : (dats m 0 c).flushed 6 t y = (outsAt0 m c t.val t.isLt).1 y := by
    rw [Cert.Kernel6Ideal.Value.flushed6]
  refine (hf : _ = _).trans ?_
  rw [fst_at]
  exact tile_at m c t y i' k0 k1

theorem final7 (c : Dev nD) : (dats m 0 c).arrAt 7 cfg0.N = gradG (ar0 m c) (ar2 m c) (ar4 m c) := by
  funext i
  refine (dats m 0 c).arrAt_forall_of_cover 7 (fun i v => v = gradG (ar0 m c) (ar2 m c) (ar4 m c) i) (fun t ht y => ?_) cover7 i
  generalize hi : ((cfg0.win 7).blk t).view.emb y = i'
  obtain ⟨k0, k1⟩ := emb7 t y i' hi
  obtain rfl : i' = y := funext fun a => Fin.ext (match a with | ⟨0, _⟩ => k0 | ⟨1, _⟩ => k1)
  have hf : (dats m 0 c).flushed 7 t i' = (outsAt0 m c t.val t.isLt).2 i' := by
    rw [Cert.Kernel6Ideal.Value.flushed7]
    rfl
  refine (hf : _ = _).trans ?_
  have hN : cfg0.N = 16 := N_0
  have h15 : t.val = 15 := by have := (flush0_7 t).mp ht; have := t.isLt; omega
  rw [snd_at, h15]
  exact sum_rows _

theorem run : θ_run (Cert.Kernel6Ideal.defs (F := Ideal)) (onTc (τ := τ) (Cert.Kernel6Ideal.main (F := Ideal))) ⟨m, fun _ => 0, ρ⟩ fun r => ∀ c : Dev nD,
      r.2.mem ((c : Thread nD τ).loc main_v6_0) = gradX (ar0 m c) (ar1 m c) (ar2 m c) (ar3 m c) (ar4 m c)
      ∧ r.2.mem ((c : Thread nD τ).loc main_v6_1) = gradG (ar0 m c) (ar2 m c) (ar4 m c)
      ∧ r.2.mem ((c : Thread nD τ).loc main_arg0) = (ar0 m c)
      ∧ r.2.mem ((c : Thread nD τ).loc main_arg1) = (ar1 m c)
      ∧ r.2.mem ((c : Thread nD τ).loc main_arg2) = (ar2 m c)
      ∧ r.2.mem ((c : Thread nD τ).loc main_arg3) = (ar3 m c)
      ∧ r.2.mem ((c : Thread nD τ).loc main_arg4) = (ar4 m c) :=
  (θ_run _ _ _).mono (fun _ h c => ⟨(h c).1.trans (final6 m c), (h c).2.1.trans (final7 m c), (h c).2.2⟩) (Cert.Kernel6Ideal.Value.run_blocks (F := Ideal) m ρ)

theorem ref_v16 (x2 : FVec Ideal S1024x5632 .f32) (x4 : FVec Ideal S4096x5632 .f32) (j : S4096x1024.Idx) :
    val_main_v16 (F := Ideal) x2 x4 j = rowDot x2 x4 (j 0) (j 1) := by
  idx_vars j
  unfold val_main_v16
  pointwise [rowDot]

theorem ref_v6 (x0 : FVec Ideal S4096x1024 .f32) (j : Cert.Reference6Ideal.S4096x1.Idx) :
    val_main_v6 (F := Ideal) x0 j = ms (fun k => x0 (ix2 (j 0) k)) := by
  idx_vars j
  unfold val_main_v6 val_main_v5 val_main_cst_1 val_main_v4 val_main_v3 val_main_cst_0 val_main_v2 val_main_v1 val_main_cst val_main_v0
  pointwise [ms]

theorem ref_v12 (x0 : FVec Ideal S4096x1024 .f32) (j : S4096x1024.Idx) :
    val_main_v12 (F := Ideal) x0 j = xh (fun k => x0 (ix2 (j 0) k)) (j 1) := by
  idx_vars j
  unfold val_main_v12 val_main_v11 val_main_v7 val_main_v6 val_main_v5 val_main_cst_1 val_main_v4 val_main_v3 val_main_cst_0 val_main_v2 val_main_v1 val_main_cst val_main_v0
  pointwise [xh, rs, ms]

theorem ref_v31 (x0 : FVec Ideal S4096x1024 .f32) (x1 : FVec Ideal S1x1024 .f32) (x2 : FVec Ideal S1024x5632 .f32) (x4 : FVec Ideal S4096x5632 .f32) (j : Cert.Reference6Ideal.S4096.Idx) :
    val_main_v31 (F := Ideal) x0 x1 x2 x4 j = half (rowDot x2 x4 (j 0)) (fun k => x0 (ix2 (j 0) k)) (fun k => x1 (ix2 0 k)) := by
  idx_vars j
  unfold val_main_v31 val_main_cst_6 val_main_v30 val_main_v29 val_main_cst_5 val_main_v28 val_main_v24 val_main_v23 val_main_cst_4 val_main_v22 val_main_v21 val_main_v20 val_main_v16 val_main_v10 val_main_v9 val_main_cst_2 val_main_v8 val_main_v7 val_main_v6 val_main_v5 val_main_cst_1 val_main_v4 val_main_v3 val_main_cst_0 val_main_v2 val_main_v1 val_main_cst val_main_v0
  pointwise [half, rs, ms, rowDot]
  exact Fin.sum_univ_one _

theorem ref_v36 (x0 : FVec Ideal S4096x1024 .f32) (x1 : FVec Ideal S1x1024 .f32) (x2 : FVec Ideal S1024x5632 .f32) (x3 : FVec Ideal S4096x1024 .f32) (x4 : FVec Ideal S4096x5632 .f32) (hx : ∀ i, IsReal (x0 i)) (hg : ∀ i, IsReal (x1 i)) (hw : ∀ i, IsReal (x2 i)) (hd : ∀ i, IsReal (x3 i)) (hu : ∀ i, IsReal (x4 i)) :
    val_main_v36 (F := Ideal) x0 x1 x2 x3 x4 = gradX x0 x1 x2 x3 x4 := by
  funext j
  idx_vars j
  have key := tile_eq (r := rowDot x2 x4 j0) (x := fun k => x0 (ix2 j0 k)) (g := fun k => x1 (ix2 0 k)) (d := fun k => x3 (ix2 j0 k))
    (fun k => IsReal.sum _ fun k _ => (hu _).mul (hw _)) (fun k => hx _) (fun k => hg _) (fun k => hd _) j1
  refine Eq.trans ?_ key.symm
  unfold val_main_v36 val_main_v35 val_main_v34 val_main_v33 val_main_v32 val_main_v27 val_main_v26 val_main_v25 val_main_v21 val_main_v20 val_main_v7
  pointwise [ref_v16, ref_v6, ref_v31, grad, rs]

theorem ref_v19 (x0 : FVec Ideal S4096x1024 .f32) (x2 : FVec Ideal S1024x5632 .f32) (x4 : FVec Ideal S4096x5632 .f32) : val_main_v19 (F := Ideal) x0 x2 x4 = gradG x0 x2 x4 := by
  funext j
  unfold gradG
  idx_vars j
  unfold val_main_v19 val_main_v18 val_main_v17 val_main_cst_3
  pointwise [ref_v12, ref_v16, term]
  exact Finset.sum_congr rfl fun s _ => mul_comm _ _

/-- What the precondition says. -/
theorem finite_of_pre (x0 : FVec Ideal S4096x1024 .f32) (x1 : FVec Ideal S1x1024 .f32) (x2 : FVec Ideal S1024x5632 .f32) (x3 : FVec Ideal S4096x1024 .f32) (x4 : FVec Ideal S4096x5632 .f32)
    (h : Cert.Pre_finite_normed.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have e := congrFun h (fun a => a.elim0)
  unfold Cert.Pre_finite_normed.fn Cert.Pre_finite_normed.fn_part1 Cert.Pre_finite_normed.fn_part2 at e
  obtain ⟨e4x, e4⟩ := IntOp.andi_eq_one.1 e
  obtain ⟨e3x, e3⟩ := IntOp.andi_eq_one.1 e4x
  obtain ⟨e2x, e2⟩ := IntOp.andi_eq_one.1 e3x
  obtain ⟨e1x, e1⟩ := IntOp.andi_eq_one.1 e2x
  exact ⟨fun i => isReal_of_all e1x (fun i => rfl) (fun i => rfl) i, fun i => isReal_of_all e1 (fun i => rfl) (fun i => rfl) i, fun i => isReal_of_all e2 (fun i => rfl) (fun i => rfl) i, fun i => isReal_of_all e3 (fun i => rfl) (fun i => rfl) i, fun i => isReal_of_all e4 (fun i => rfl) (fun i => rfl) i⟩

theorem frame_ref : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

theorem algebraic : Cert.algebraic_Kernel6Ideal_Reference6Ideal_pre_finite_normed := by
  intro m ρ m' ρ' hpre hagree
  refine ⟨fun c => gradX (ar0 m c) (ar1 m c) (ar2 m c) (ar3 m c) (ar4 m c), fun c => gradG (ar0 m c) (ar2 m c) (ar4 m c), run m ρ, ?_⟩
  refine (θ_run Cert.Reference6Ideal.defs _ _).mono (fun _ h c => ⟨(h c).1.trans ?_, (h c).2.1.trans ?_, (h c).2.2⟩) (Cert.Reference6Ideal.Value.run (F := Ideal) m' ρ')
  · obtain ⟨a0, a1, a2, a3, a4⟩ := hagree c
    rw [val_main_v36_eq, a0, a1, a2, a3, a4]
    obtain ⟨h0, h1, h2, h3, h4⟩ := finite_of_pre _ _ _ _ _ (hpre c)
    exact ref_v36 _ _ _ _ _ h0 h1 h2 h3 h4
  · obtain ⟨a0, a1, a2, a3, a4⟩ := hagree c
    rw [val_main_v19_eq, a0, a2, a4]
    exact ref_v19 _ _ _

end Cert.DH2
-- ==== Proof.DH.lean ====
module

public import proofs.«01_k».proof.Proof.Gen.Kernel7Ideal.Value
public import proofs.«01_k».proof.Proof.Gen.Reference7Ideal.Read
public import proofs.«01_k».proof.Proof.Gen.Pre_finite_projected
public import proofs.«01_k».proof.Proof.Rms
public import proofs.«01_k».proof.Proof.Win

@[expose] public section

set_option maxRecDepth 16384

noncomputable section

namespace Cert.DH

open Idealize.ShloMosaic Idealize.ShloMosaic.TcCoe Idealize.SL.Sem Cert.Common Cert.Rms
open Idealize.ShloMosaic.Pipeline (Dat RDat)
open Cert.Reference7Ideal.Read
open Cert.Kernel7Ideal Cert.Kernel7Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)
abbrev ar2 (c : Dev nD) := m ((c : Thread nD τ).loc main_arg2)
abbrev ar3 (c : Dev nD) := m ((c : Thread nD τ).loc main_arg3)
abbrev ar4 (c : Dev nD) := m ((c : Thread nD τ).loc main_arg4)

/-- Row `p` of a tile. -/
abbrev row (v : Vec Ideal S256x1024 .f32) (p : Fin 256) (k : Fin 1024) : EReal := v (ix2 p k)

/-- The product of a tile of the projections' cotangent with the weights, in three pieces. -/
def dotBlk (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) : Vec Ideal S256x1024 .f32 := fun j =>
  (∑ k : Fin 3840, (x0 (ix2 (j 0) k) * x1 (ix2 (j 1) k) : EReal)) + (∑ k : Fin 2048, x2 (ix2 (j 0) k) * x3 (ix2 (j 1) k))
    + ∑ k : Fin 128, x4 (ix2 (j 0) k) * x5 (ix2 (j 1) k)

theorem dots (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) : k0_pay4 (F := Ideal) x0 x1 x2 x3 x4 x5 = dotBlk x0 x1 x2 x3 x4 x5 := by
  funext j
  idx_vars j
  unfold_payloads
  pointwise [dotBlk]

theorem tile_pay (r x : Vec Ideal S256x1024 .f32) (g : Vec Ideal S1x1024 .f32) (d : Vec Ideal S256x1024 .f32) (gr : FVec Ideal S256x1024 .f32)
    (hg : ∀ j : S256x1024.Idx, gr j = r j * g (ix2 0 (j 1))) (j : S256x1024.Idx) :
    k0_pay1 (k0_pay5 x) (k0_pay6 x) gr d j
      = tile (row r (j 0)) (row x (j 0)) (fun k => g (ix2 0 k)) (row d (j 0)) (j 1) := by
  idx_vars j
  unfold_payloads
  pointwise [tile, xh, rs, ms, row, hg]

theorem part_pay (r x : Vec Ideal S256x1024 .f32) (j : S1x1024.Idx) :
    k0_pay2 r (k0_pay6 x) j = ∑ p : Fin 256, row r p (j 1) * xh (row x p) (j 1) := by
  idx_vars j
  unfold_payloads
  pointwise [xh, rs, ms, row]

theorem weighted (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) (g : Vec Ideal S1x1024 .f32) (j : S256x1024.Idx) :
    k0_pay7 (F := Ideal) x0 x1 x2 x3 x4 x5 g j = dotBlk x0 x1 x2 x3 x4 x5 j * g (ix2 0 (j 1)) := by
  unfold k0_pay7
  rw [dots]
  idx_vars j
  pointwise

def tileBlk (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) (x6 : Vec Ideal S256x1024 .f32) (x7 : Vec Ideal S1x1024 .f32) (x8 : Vec Ideal S256x1024 .f32) : Vec Ideal S256x1024 .f32 := fun j =>
  tile (row (dotBlk x0 x1 x2 x3 x4 x5) (j 0)) (row x6 (j 0)) (fun k => x7 (ix2 0 k)) (row x8 (j 0)) (j 1)

def partBlk (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) (x6 : Vec Ideal S256x1024 .f32) : Vec Ideal S1x1024 .f32 := fun j =>
  ∑ p : Fin 256, row (dotBlk x0 x1 x2 x3 x4 x5) p (j 1) * xh (row x6 p) (j 1)

section
variable (c : Dev nD) (i : grid0.Coords) (a1 : Memref sig .tc .vmem S256x3840 .bf16) (h1 : a1.IsWhole) (a2 : Memref sig .tc .vmem S1024x3840 .bf16) (h2 : a2.IsWhole) (a3 : Memref sig .tc .vmem S256x2048 .bf16) (h3 : a3.IsWhole) (a4 : Memref sig .tc .vmem S1024x2048 .bf16) (h4 : a4.IsWhole) (a5 : Memref sig .tc .vmem S256x128 .f32) (h5 : a5.IsWhole) (a6 : Memref sig .tc .vmem S1024x128 .bf16) (h6 : a6.IsWhole) (a7 : Memref sig .tc .vmem S256x1024 .f32) (h7 : a7.IsWhole) (a8 : Memref sig .tc .vmem S1x1024 .f32) (h8 : a8.IsWhole) (a9 : Memref sig .tc .vmem S256x1024 .f32) (h9 : a9.IsWhole) (a10 : Memref sig .tc .vmem S256x1024 .f32) (h10 : a10.IsWhole) (a11 : Memref sig .tc .vmem S1x1024 .f32) (h11 : a11.IsWhole)

theorem out_A9 (hc0 : cond0_0 i) (hc1 : ¬cond0_1 i) (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) (x6 : Vec Ideal S256x1024 .f32) (x7 : Vec Ideal S1x1024 .f32) (x8 : Vec Ideal S256x1024 .f32) :
    out0_A_9 c i a1 h1 a2 h2 a3 h3 a4 h4 a5 h5 a6 h6 a7 h7 a8 h8 a9 h9 a10 h10 a11 h11 hc0 hc1 x0 x1 x2 x3 x4 x5 x6 x7 x8 = tileBlk x0 x1 x2 x3 x4 x5 x6 x7 x8 := by
  unfold out0_A_9
  rw [View.read_writes_eq_canon _ _ _ (cover0_A_9 c i a1 h1 a2 h2 a3 h3 a4 h4 a5 h5 a6 h6 a7 h7 a8 h8 a9 h9 a10 h10 a11 h11 hc0 hc1 x0 x1 x2 x3 x4 x5 x6 x7 x8)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread,
    View.ld_unit_zero (S := S256x3840) hz2, View.ld_unit_zero (S := S1024x3840) hz2, View.ld_unit_zero (S := S256x2048) hz2, View.ld_unit_zero (S := S1024x2048) hz2, View.ld_unit_zero (S := S256x128) hz2, View.ld_unit_zero (S := S1024x128) hz2, View.ld_unit_zero (S := S256x1024) hz2, View.ld_unit_zero (S := S1x1024) hz2]
  funext j
  exact tile_pay (dotBlk x0 x1 x2 x3 x4 x5) _ _ _ _ (weighted _ _ _ _ _ _ _) j

theorem out_A10 (hc0 : cond0_0 i) (hc1 : ¬cond0_1 i) (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) (x6 : Vec Ideal S256x1024 .f32) (x7 : Vec Ideal S1x1024 .f32) (x8 : Vec Ideal S256x1024 .f32) :
    out0_A_10 c i a1 h1 a2 h2 a3 h3 a4 h4 a5 h5 a6 h6 a7 h7 a8 h8 a9 h9 a10 h10 a11 h11 hc0 hc1 x0 x1 x2 x3 x4 x5 x6 x7 x8 = partBlk x0 x1 x2 x3 x4 x5 x6 := by
  unfold out0_A_10
  rw [View.read_writes_eq_canon _ _ _ (cover0_A_10 c i a1 h1 a2 h2 a3 h3 a4 h4 a5 h5 a6 h6 a7 h7 a8 h8 a9 h9 a10 h10 a11 h11 hc0 hc1 x0 x1 x2 x3 x4 x5 x6 x7 x8)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread,
    View.ld_unit_zero (S := S256x3840) hz2, View.ld_unit_zero (S := S1024x3840) hz2, View.ld_unit_zero (S := S256x2048) hz2, View.ld_unit_zero (S := S1024x2048) hz2, View.ld_unit_zero (S := S256x128) hz2, View.ld_unit_zero (S := S1024x128) hz2, View.ld_unit_zero (S := S256x1024) hz2, View.ld_unit_zero (S := S1x1024) hz2]
  funext j
  rw [dots, part_pay]
  rfl

theorem out_B9 (hc0 : ¬cond0_0 i) (hc1 : cond0_1 i) (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) (x6 : Vec Ideal S256x1024 .f32) (x7 : Vec Ideal S1x1024 .f32) (x8 : Vec Ideal S256x1024 .f32) (xo : Vec Ideal S1x1024 .f32) :
    out0_B_9 c i a1 h1 a2 h2 a3 h3 a4 h4 a5 h5 a6 h6 a7 h7 a8 h8 a9 h9 a10 h10 a11 h11 hc0 hc1 x0 x1 x2 x3 x4 x5 x6 x7 x8 xo = tileBlk x0 x1 x2 x3 x4 x5 x6 x7 x8 := by
  unfold out0_B_9
  rw [View.read_writes_eq_canon _ _ _ (cover0_B_9 c i a1 h1 a2 h2 a3 h3 a4 h4 a5 h5 a6 h6 a7 h7 a8 h8 a9 h9 a10 h10 a11 h11 hc0 hc1 x0 x1 x2 x3 x4 x5 x6 x7 x8 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread,
    View.ld_unit_zero (S := S256x3840) hz2, View.ld_unit_zero (S := S1024x3840) hz2, View.ld_unit_zero (S := S256x2048) hz2, View.ld_unit_zero (S := S1024x2048) hz2, View.ld_unit_zero (S := S256x128) hz2, View.ld_unit_zero (S := S1024x128) hz2, View.ld_unit_zero (S := S256x1024) hz2, View.ld_unit_zero (S := S1x1024) hz2]
  funext j
  exact tile_pay (dotBlk x0 x1 x2 x3 x4 x5) _ _ _ _ (weighted _ _ _ _ _ _ _) j

theorem out_B10 (hc0 : ¬cond0_0 i) (hc1 : cond0_1 i) (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) (x6 : Vec Ideal S256x1024 .f32) (x7 : Vec Ideal S1x1024 .f32) (x8 : Vec Ideal S256x1024 .f32) (xo : Vec Ideal S1x1024 .f32) :
    out0_B_10 c i a1 h1 a2 h2 a3 h3 a4 h4 a5 h5 a6 h6 a7 h7 a8 h8 a9 h9 a10 h10 a11 h11 hc0 hc1 x0 x1 x2 x3 x4 x5 x6 x7 x8 xo = fun j => (xo j + partBlk x0 x1 x2 x3 x4 x5 x6 j : EReal) := by
  unfold out0_B_10
  rw [View.read_writes_eq_canon _ _ _ (cover0_B_10 c i a1 h1 a2 h2 a3 h3 a4 h4 a5 h5 a6 h6 a7 h7 a8 h8 a9 h9 a10 h10 a11 h11 hc0 hc1 x0 x1 x2 x3 x4 x5 x6 x7 x8 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread,
    View.ld_unit_zero (S := S256x3840) hz2, View.ld_unit_zero (S := S1024x3840) hz2, View.ld_unit_zero (S := S256x2048) hz2, View.ld_unit_zero (S := S1024x2048) hz2, View.ld_unit_zero (S := S256x128) hz2, View.ld_unit_zero (S := S1024x128) hz2, View.ld_unit_zero (S := S256x1024) hz2, View.ld_unit_zero (S := S1x1024) hz2]
  funext j
  rw [dots]
  unfold k0_pay3
  rw [shapeCast_self]
  show xo j + k0_pay2 (F := Ideal) _ _ j = _
  rw [part_pay]
  rfl

end

theorem zero_pad (φ : FTy) : FloatOps.sitofp (F := Ideal) φ 0#32 = (0 : EReal) := by
  show (((0#32).toInt : ℝ) : EReal) = 0
  simp

theorem V_v9 (c : Dev nD) (i : S4096x3840.Idx) :
    V m c main_v9 i = ar4 m c (ix2 (i 0) ⟨0 + (i 1).val, by have := (i 1).isLt; change (i 1).val < 3840 at this; omega⟩ : S4096x5896.Idx) := by
  unfold V
  after_reads_at

theorem V_v1 (c : Dev nD) (i : S1024x3840.Idx) :
    V m c main_v1 i = ar2 m c (ix2 (i 0) ⟨0 + (i 1).val, by have := (i 1).isLt; change (i 1).val < 3840 at this; omega⟩ : S1024x5896.Idx) := by
  unfold V
  after_reads_at

theorem V_v10 (c : Dev nD) (i : S4096x2048.Idx) :
    V m c main_v10 i = ar4 m c (ix2 (i 0) ⟨3848 + (i 1).val, by have := (i 1).isLt; change (i 1).val < 2048 at this; omega⟩ : S4096x5896.Idx) := by
  unfold V
  after_reads_at

theorem V_v3 (c : Dev nD) (i : S1024x2048.Idx) :
    V m c main_v3 i = ar2 m c (ix2 (i 0) ⟨3848 + (i 1).val, by have := (i 1).isLt; change (i 1).val < 2048 at this; omega⟩ : S1024x5896.Idx) := by
  unfold V
  after_reads_at

theorem V_v8 (c : Dev nD) (i : S4096x128.Idx) :
    V m c main_v8 i = if h : (i 1).val < 8 then ar4 m c (ix2 (i 0) ⟨3840 + (i 1).val, by omega⟩ : S4096x5896.Idx) else (0 : EReal) := by
  idx_vars i
  unfold V
  after_reads_at
  rw [zero_pad]

theorem V_v4 (c : Dev nD) (i : S1024x128.Idx) :
    V m c main_v4 i = if h : (i 1).val < 8 then ar2 m c (ix2 (i 0) ⟨3840 + (i 1).val, by omega⟩ : S1024x5896.Idx) else (0 : EReal) := by
  idx_vars i
  unfold V
  after_reads_at
  rw [zero_pad]

theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0
    ∧ win0_3.index t 0 = 0 ∧ win0_3.index t 1 = 0 ∧ win0_4.index t 0 = t.val ∧ win0_4.index t 1 = 0 ∧ win0_5.index t 0 = 0 ∧ win0_5.index t 1 = 0
    ∧ win0_6.index t 0 = t.val ∧ win0_6.index t 1 = 0 ∧ win0_7.index t 0 = 0 ∧ win0_7.index t 1 = 0 ∧ win0_8.index t 0 = t.val ∧ win0_8.index t 1 = 0
    ∧ win0_9.index t 0 = t.val ∧ win0_9.index t 1 = 0 ∧ win0_10.index t 0 = 0 ∧ win0_10.index t 1 = 0 ∧ t.val < 16 :=
  (by decide +kernel : ∀ t : Fin grid0.N, _)

theorem iblk0_at (c : Dev nD) (t : Fin cfg0.N) (y : S256x3840.Idx) (i : S4096x3840.Idx)
    (h0 : (i 0).val = t.val * 256 + (y 0).val) (h1 : (i 1).val = (y 1).val) :
    iblk m c 0 t y = V m c main_v9 i :=
  congrArg (V m c main_v9) (emb_of win0_0 t y i (fall2 (toBlk h0 (idx_facts t).1) (toBlk0 h1 (idx_facts t).2.1)))

theorem iblk1_at (c : Dev nD) (t : Fin cfg0.N) (y : S1024x3840.Idx) (i : S1024x3840.Idx)
    (h0 : (i 0).val = (y 0).val) (h1 : (i 1).val = (y 1).val) :
    iblk m c 1 t y = V m c main_v1 i :=
  congrArg (V m c main_v1) (emb_of win0_1 t y i (fall2 (toBlk0 h0 (idx_facts t).2.2.1) (toBlk0 h1 (idx_facts t).2.2.2.1)))

theorem iblk2_at (c : Dev nD) (t : Fin cfg0.N) (y : S256x2048.Idx) (i : S4096x2048.Idx)
    (h0 : (i 0).val = t.val * 256 + (y 0).val) (h1 : (i 1).val = (y 1).val) :
    iblk m c 2 t y = V m c main_v10 i :=
  congrArg (V m c main_v10) (emb_of win0_2 t y i (fall2 (toBlk h0 (idx_facts t).2.2.2.2.1) (toBlk0 h1 (idx_facts t).2.2.2.2.2.1)))

theorem iblk3_at (c : Dev nD) (t : Fin cfg0.N) (y : S1024x2048.Idx) (i : S1024x2048.Idx)
    (h0 : (i 0).val = (y 0).val) (h1 : (i 1).val = (y 1).val) :
    iblk m c 3 t y = V m c main_v3 i :=
  congrArg (V m c main_v3) (emb_of win0_3 t y i (fall2 (toBlk0 h0 (idx_facts t).2.2.2.2.2.2.1) (toBlk0 h1 (idx_facts t).2.2.2.2.2.2.2.1)))

theorem iblk4_at (c : Dev nD) (t : Fin cfg0.N) (y : S256x128.Idx) (i : S4096x128.Idx)
    (h0 : (i 0).val = t.val * 256 + (y 0).val) (h1 : (i 1).val = (y 1).val) :
    iblk m c 4 t y = V m c main_v8 i :=
  congrArg (V m c main_v8) (emb_of win0_4 t y i (fall2 (toBlk h0 (idx_facts t).2.2.2.2.2.2.2.2.1) (toBlk0 h1 (idx_facts t).2.2.2.2.2.2.2.2.2.1)))

theorem iblk5_at (c : Dev nD) (t : Fin cfg0.N) (y : S1024x128.Idx) (i : S1024x128.Idx)
    (h0 : (i 0).val = (y 0).val) (h1 : (i 1).val = (y 1).val) :
    iblk m c 5 t y = V m c main_v4 i :=
  congrArg (V m c main_v4) (emb_of win0_5 t y i (fall2 (toBlk0 h0 (idx_facts t).2.2.2.2.2.2.2.2.2.2.1) (toBlk0 h1 (idx_facts t).2.2.2.2.2.2.2.2.2.2.2.1)))

theorem iblk6_at (c : Dev nD) (t : Fin cfg0.N) (y : S256x1024.Idx) (i : S4096x1024.Idx)
    (h0 : (i 0).val = t.val * 256 + (y 0).val) (h1 : (i 1).val = (y 1).val) :
    iblk m c 6 t y = ar0 m c i :=
  (congrArg (V m c main_arg0) (emb_of win0_6 t y i (fall2 (toBlk h0 (idx_facts t).2.2.2.2.2.2.2.2.2.2.2.2.1) (toBlk0 h1 (idx_facts t).2.2.2.2.2.2.2.2.2.2.2.2.2.1)))).trans (congrFun (V_main_arg0 m c) i)

theorem iblk7_at (c : Dev nD) (t : Fin cfg0.N) (y : S1x1024.Idx) (i : S1x1024.Idx)
    (h0 : (i 0).val = (y 0).val) (h1 : (i 1).val = (y 1).val) :
    iblk m c 7 t y = ar1 m c i :=
  (congrArg (V m c main_arg1) (emb_of win0_7 t y i (fall2 (toBlk0 h0 (idx_facts t).2.2.2.2.2.2.2.2.2.2.2.2.2.2.1) (toBlk0 h1 (idx_facts t).2.2.2.2.2.2.2.2.2.2.2.2.2.2.2.1)))).trans (congrFun (V_main_arg1 m c) i)

theorem iblk8_at (c : Dev nD) (t : Fin cfg0.N) (y : S256x1024.Idx) (i : S4096x1024.Idx)
    (h0 : (i 0).val = t.val * 256 + (y 0).val) (h1 : (i 1).val = (y 1).val) :
    iblk m c 8 t y = ar3 m c i :=
  (congrArg (V m c main_arg3) (emb_of win0_8 t y i (fall2 (toBlk h0 (idx_facts t).2.2.2.2.2.2.2.2.2.2.2.2.2.2.2.2.1) (toBlk0 h1 (idx_facts t).2.2.2.2.2.2.2.2.2.2.2.2.2.2.2.2.2.1)))).trans (congrFun (V_main_arg3 m c) i)

/-- The cotangent of the normalised row: the projections' cotangent times the transposed weights. -/
def rowDot (w : FVec Ideal S1024x5896 .f32) (dp : FVec Ideal S4096x5896 .f32) (s : Fin 4096) (c : Fin 1024) : EReal :=
  ∑ k : Fin 5896, dp (ix2 s k) * w (ix2 c k)

theorem sum_three (f : Fin 5896 → EReal) : ∑ k, f k = (∑ k : Fin 3840, f ⟨0 + k.val, by omega⟩) + (∑ k : Fin 2048, f ⟨3848 + k.val, by omega⟩)
    + ∑ k : Fin 128, if h : k.val < 8 then f ⟨3840 + k.val, by omega⟩ else 0 := by
  have e : (∑ k : Fin 128, if h : k.val < 8 then f ⟨3840 + k.val, by omega⟩ else 0) = ∑ k : Fin 8, f ⟨3840 + k.val, by omega⟩ := by
    show (∑ k : Fin (8 + 120), if h : k.val < 8 then f ⟨3840 + k.val, by omega⟩ else 0) = _
    rw [Fin.sum_univ_add]
    have z : ∀ k : Fin 120, (if h : (Fin.natAdd 8 k).val < 8 then f ⟨3840 + (Fin.natAdd 8 k).val, by omega⟩ else 0) = 0 := fun k =>
      dif_neg (by show ¬8 + k.val < 8; omega)
    have o : ∀ k : Fin 8, (if h : (Fin.castAdd 120 k).val < 8 then f ⟨3840 + (Fin.castAdd 120 k).val, by omega⟩ else 0) = f ⟨3840 + k.val, by omega⟩ := fun k =>
      dif_pos k.isLt
    rw [Finset.sum_congr rfl fun k _ => z k, Finset.sum_congr rfl fun k _ => o k, Finset.sum_const_zero, add_zero]
  rw [e, add_right_comm]
  show (∑ k : Fin (3840 + 8 + 2048), f k) = _
  rw [Fin.sum_univ_add, Fin.sum_univ_add]
  refine congrArg₂ (· + ·) (congrArg₂ (· + ·) (Finset.sum_congr rfl fun k _ => congrArg f (Fin.ext ?_)) rfl) rfl
  exact (Nat.zero_add _).symm

theorem dotBlk_of (x0 : Vec Ideal S256x3840 .bf16) (x1 : Vec Ideal S1024x3840 .bf16) (x2 : Vec Ideal S256x2048 .bf16) (x3 : Vec Ideal S1024x2048 .bf16) (x4 : Vec Ideal S256x128 .f32) (x5 : Vec Ideal S1024x128 .bf16) (p : Fin 256) (d : Fin 1024) (a w : Fin 5896 → EReal)
    (q0 : ∀ k : Fin 3840, x0 (ix2 p k) = a ⟨0 + k.val, by omega⟩) (w0 : ∀ k : Fin 3840, x1 (ix2 d k) = w ⟨0 + k.val, by omega⟩)
    (q1 : ∀ k : Fin 2048, x2 (ix2 p k) = a ⟨3848 + k.val, by omega⟩) (w1 : ∀ k : Fin 2048, x3 (ix2 d k) = w ⟨3848 + k.val, by omega⟩)
    (q2 : ∀ k : Fin 128, x4 (ix2 p k) = if h : k.val < 8 then a ⟨3840 + k.val, by omega⟩ else 0)
    (w2 : ∀ k : Fin 128, x5 (ix2 d k) = if h : k.val < 8 then w ⟨3840 + k.val, by omega⟩ else 0) :
    dotBlk x0 x1 x2 x3 x4 x5 (ix2 p d) = ∑ k, a k * w k := by
  rw [sum_three]
  show (∑ k : Fin 3840, (x0 (ix2 p k) * x1 (ix2 d k) : EReal)) + (∑ k : Fin 2048, x2 (ix2 p k) * x3 (ix2 d k)) + (∑ k : Fin 128, x4 (ix2 p k) * x5 (ix2 d k)) = _
  simp only [q0, q1, w0, w1]
  refine congrArg _ (Finset.sum_congr rfl fun k _ => ?_)
  rw [q2, w2]
  split <;> simp

theorem tileDot (c : Dev nD) (t : Fin cfg0.N) (p : Fin 256) (s : Fin 4096) (h : s.val = t.val * 256 + p.val) (d : Fin 1024) :
    row (dotBlk (iblk m c 0 t) (iblk m c 1 t) (iblk m c 2 t) (iblk m c 3 t) (iblk m c 4 t) (iblk m c 5 t)) p d = rowDot (ar2 m c) (ar4 m c) s d :=
  dotBlk_of (iblk m c 0 t) (iblk m c 1 t) (iblk m c 2 t) (iblk m c 3 t) (iblk m c 4 t) (iblk m c 5 t) p d (fun k => (ar4 m c) (ix2 s k : S4096x5896.Idx)) (fun k => (ar2 m c) (ix2 d k : S1024x5896.Idx))
    (fun k => (iblk0_at m c t (ix2 p k) (ix2 s k) h rfl).trans (V_v9 m c _)) (fun k => (iblk1_at m c t (ix2 d k) (ix2 d k) rfl rfl).trans (V_v1 m c _))
    (fun k => (iblk2_at m c t (ix2 p k) (ix2 s k) h rfl).trans (V_v10 m c _)) (fun k => (iblk3_at m c t (ix2 d k) (ix2 d k) rfl rfl).trans (V_v3 m c _))
    (fun k => (iblk4_at m c t (ix2 p k) (ix2 s k) h rfl).trans (V_v8 m c _)) (fun k => (iblk5_at m c t (ix2 d k) (ix2 d k) rfl rfl).trans (V_v4 m c _))

/-- The two results as functions of the arguments. -/
def gradX (x : FVec Ideal S4096x1024 .f32) (g : FVec Ideal S1x1024 .f32) (w : FVec Ideal S1024x5896 .f32) (dres : FVec Ideal S4096x1024 .f32)
    (dp : FVec Ideal S4096x5896 .f32) (i : S4096x1024.Idx) : EReal :=
  tile (rowDot w dp (i 0)) (fun k => x (ix2 (i 0) k)) (fun k => g (ix2 0 k)) (fun k => dres (ix2 (i 0) k)) (i 1)
def term (x : FVec Ideal S4096x1024 .f32) (w : FVec Ideal S1024x5896 .f32) (dp : FVec Ideal S4096x5896 .f32) (j : S1x1024.Idx) (s : Fin 4096) : EReal :=
  rowDot w dp s (j 1) * xh (fun k => x (ix2 s k)) (j 1)
def gradG (x : FVec Ideal S4096x1024 .f32) (w : FVec Ideal S1024x5896 .f32) (dp : FVec Ideal S4096x5896 .f32) (j : S1x1024.Idx) : EReal :=
  ∑ s : Fin 4096, term x w dp j s

theorem tile_at (c : Dev nD) (t : Fin cfg0.N) (y : S256x1024.Idx) (i : S4096x1024.Idx) (h0 : (i 0).val = t.val * 256 + (y 0).val) (h1 : (i 1).val = (y 1).val) :
    tileBlk (iblk m c 0 t) (iblk m c 1 t) (iblk m c 2 t) (iblk m c 3 t) (iblk m c 4 t) (iblk m c 5 t) (iblk m c 6 t) (iblk m c 7 t) (iblk m c 8 t) y = gradX (ar0 m c) (ar1 m c) (ar2 m c) (ar3 m c) (ar4 m c) i := by
  unfold tileBlk gradX
  have e0 : row (dotBlk (iblk m c 0 t) (iblk m c 1 t) (iblk m c 2 t) (iblk m c 3 t) (iblk m c 4 t) (iblk m c 5 t)) (y 0) = rowDot (ar2 m c) (ar4 m c) (i 0) :=
    funext fun d => tileDot m c t (y 0) (i 0) h0 d
  have e1 : row (iblk m c 6 t) (y 0) = fun k => (ar0 m c) (ix2 (i 0) k : S4096x1024.Idx) :=
    funext fun k => iblk6_at m c t (ix2 (y 0) k) (ix2 (i 0) k) h0 rfl
  have e2 : (fun k => iblk m c 7 t (ix2 0 k : S1x1024.Idx)) = fun k => (ar1 m c) (ix2 0 k : S1x1024.Idx) :=
    funext fun k => iblk7_at m c t (ix2 0 k) (ix2 0 k) rfl rfl
  have e3 : row (iblk m c 8 t) (y 0) = fun k => (ar3 m c) (ix2 (i 0) k : S4096x1024.Idx) :=
    funext fun k => iblk8_at m c t (ix2 (y 0) k) (ix2 (i 0) k) h0 rfl
  rw [e0, e1, e3, show y 1 = i 1 from Fin.ext h1.symm]
  exact congrArg (fun g => tile _ _ g _ _) e2

theorem part_at (c : Dev nD) (t : Fin cfg0.N) (y : S1x1024.Idx) :
    partBlk (iblk m c 0 t) (iblk m c 1 t) (iblk m c 2 t) (iblk m c 3 t) (iblk m c 4 t) (iblk m c 5 t) (iblk m c 6 t) y = ∑ p : Fin 256, term (ar0 m c) (ar2 m c) (ar4 m c) y (rowAt t.val p) := by
  unfold partBlk
  have hN : cfg0.N = 16 := N_0
  have ht := t.isLt
  refine Finset.sum_congr rfl fun p _ => ?_
  have h : (rowAt t.val p).val = t.val * 256 + p.val := by rw [rowAt_val (by omega), mul_comm]
  have e1 : row (iblk m c 6 t) p = fun k => (ar0 m c) (ix2 (rowAt t.val p) k : S4096x1024.Idx) :=
    funext fun k => iblk6_at m c t (ix2 p k) (ix2 (rowAt t.val p) k) h rfl
  exact congrArg₂ (fun a b : EReal => a * b) (tileDot m c t p (rowAt t.val p) h (y 1)) (congrArg (fun r => xh r (y 1)) e1)

theorem fst_at (c : Dev nD) (t : Fin cfg0.N) :
    (outsAt0 m c t.val t.isLt).1 = tileBlk (iblk m c 0 t) (iblk m c 1 t) (iblk m c 2 t) (iblk m c 3 t) (iblk m c 4 t) (iblk m c 5 t) (iblk m c 6 t) (iblk m c 7 t) (iblk m c 8 t) := by
  have hN : cfg0.N = 16 := N_0
  have ht := t.isLt
  by_cases h0 : t.val = 0
  · rw [outsAt0_A m c t (by omega) (by omega), out_A9]
  · rw [outsAt0_B m c t (by omega) (by omega), out_B9]

/-- The second result's tile after a grid point: the rows up to it. -/
theorem snd_at (c : Dev nD) (y : S1x1024.Idx) : ∀ (n : ℕ) (h : n < cfg0.N),
    (outsAt0 m c n h).2 y = ∑ q ∈ Finset.range (n + 1), ∑ p : Fin 256, term (ar0 m c) (ar2 m c) (ar4 m c) y (rowAt q p)
  | 0, h => by
    rw [outsAt0_A m c ⟨0, h⟩ rfl (by show ¬1 ≤ 0; decide), out_A10]
    dsimp only
    rw [part_at, Finset.sum_range_one]
  | n + 1, h => by
    have hN : cfg0.N = 16 := N_0
    rw [outsAt0_B m c ⟨n + 1, h⟩ (by dsimp only; omega) (by dsimp only; omega), out_B10]
    dsimp only
    rw [part_at, Finset.sum_range_succ _ (n + 1), ← snd_at c y n (Nat.lt_of_succ_lt h)]
    rfl

theorem cover9 (i : S4096x1024.Idx) :
    ∃ t : Fin cfg0.N, (cfg0.win 9).flush t = true ∧ i ∈ ((cfg0.win 9).blk t).view.set := by
  have h0 : (i 0).val < 4096 := (i 0).isLt
  have h1 : (i 1).val < 1024 := (i 1).isLt
  have hN : cfg0.N = 16 := N_0
  obtain ⟨t, ht⟩ : ∃ t : Fin cfg0.N, t.val = (i 0).val / 256 := ⟨⟨_, by omega⟩, rfl⟩
  exact ⟨t, flush0_9 t, in_blk (b := main_v11_0) (fall2 (inBlk (i := (i 0).val) (n := 256) (idx_facts t).2.2.2.2.2.2.2.2.2.2.2.2.2.2.2.2.2.2.1 (by omega)) (inBlk (i := (i 1).val) (n := 1024) (idx_facts t).2.2.2.2.2.2.2.2.2.2.2.2.2.2.2.2.2.2.2.1 (by omega)))⟩

theorem cover10 (i : S1x1024.Idx) :
    ∃ t : Fin cfg0.N, (cfg0.win 10).flush t = true ∧ i ∈ ((cfg0.win 10).blk t).view.set := by
  have h0 : (i 0).val < 1 := (i 0).isLt
  have h1 : (i 1).val < 1024 := (i 1).isLt
  have hN : cfg0.N = 16 := N_0
  obtain ⟨t, ht⟩ : ∃ t : Fin cfg0.N, t.val = 15 := ⟨⟨_, by omega⟩, rfl⟩
  exact ⟨t, (flush0_10 t).mpr (by omega), in_blk (b := main_v11_1) (fall2 (inBlk (i := (i 0).val) (n := 1) (idx_facts t).2.2.2.2.2.2.2.2.2.2.2.2.2.2.2.2.2.2.2.2.1 (by omega)) (inBlk (i := (i 1).val) (n := 1024) (idx_facts t).2.2.2.2.2.2.2.2.2.2.2.2.2.2.2.2.2.2.2.2.2.1 (by omega)))⟩

theorem emb9 (t : Fin cfg0.N) (y : S256x1024.Idx) (i : S4096x1024.Idx) (h : ((cfg0.win 9).blk t).view.emb y = i) :
    (i 0).val = t.val * 256 + (y 0).val ∧ (i 1).val = (y 1).val :=
  ⟨ofBlk (emb_at win0_9 t y i h 0) (idx_facts t).2.2.2.2.2.2.2.2.2.2.2.2.2.2.2.2.2.2.1, ofBlk0 (emb_at win0_9 t y i h 1) (idx_facts t).2.2.2.2.2.2.2.2.2.2.2.2.2.2.2.2.2.2.2.1⟩

theorem emb10 (t : Fin cfg0.N) (y : S1x1024.Idx) (i : S1x1024.Idx) (h : ((cfg0.win 10).blk t).view.emb y = i) :
    (i 0).val = (y 0).val ∧ (i 1).val = (y 1).val :=
  ⟨ofBlk0 (emb_at win0_10 t y i h 0) (idx_facts t).2.2.2.2.2.2.2.2.2.2.2.2.2.2.2.2.2.2.2.2.1, ofBlk0 (emb_at win0_10 t y i h 1) (idx_facts t).2.2.2.2.2.2.2.2.2.2.2.2.2.2.2.2.2.2.2.2.2.1⟩

theorem final9 (c : Dev nD) : (dats m 0 c).arrAt 9 cfg0.N = gradX (ar0 m c) (ar1 m c) (ar2 m c) (ar3 m c) (ar4 m c) := by
  funext i
  refine (dats m 0 c).arrAt_forall_of_cover 9 (fun i v => v = gradX (ar0 m c) (ar1 m c) (ar2 m c) (ar3 m c) (ar4 m c) i) (fun t _ y => ?_) cover9 i
  generalize hi : ((cfg0.win 9).blk t).view.emb y = i'
  obtain ⟨k0, k1⟩ := emb9 t y i' hi
  have hf : (dats m 0 c).flushed 9 t y = (outsAt0 m c t.val t.isLt).1 y := by
    rw [Cert.Kernel7Ideal.Value.flushed9]
  refine (hf : _ = _).trans ?_
  rw [fst_at]
  exact tile_at m c t y i' k0 k1

theorem final10 (c : Dev nD) : (dats m 0 c).arrAt 10 cfg0.N = gradG (ar0 m c) (ar2 m c) (ar4 m c) := by
  funext i
  refine (dats m 0 c).arrAt_forall_of_cover 10 (fun i v => v = gradG (ar0 m c) (ar2 m c) (ar4 m c) i) (fun t ht y => ?_) cover10 i
  generalize hi : ((cfg0.win 10).blk t).view.emb y = i'
  obtain ⟨k0, k1⟩ := emb10 t y i' hi
  obtain rfl : i' = y := funext fun a => Fin.ext (match a with | ⟨0, _⟩ => k0 | ⟨1, _⟩ => k1)
  have hf : (dats m 0 c).flushed 10 t i' = (outsAt0 m c t.val t.isLt).2 i' := by
    rw [Cert.Kernel7Ideal.Value.flushed10]
    rfl
  refine (hf : _ = _).trans ?_
  have hN : cfg0.N = 16 := N_0
  have h15 : t.val = 15 := by have := (flush0_10 t).mp ht; have := t.isLt; omega
  rw [snd_at, h15]
  exact sum_rows _

theorem run : θ_run (Cert.Kernel7Ideal.defs (F := Ideal)) (onTc (τ := τ) (Cert.Kernel7Ideal.main (F := Ideal))) ⟨m, fun _ => 0, ρ⟩ fun r => ∀ c : Dev nD,
      r.2.mem ((c : Thread nD τ).loc main_v11_0) = gradX (ar0 m c) (ar1 m c) (ar2 m c) (ar3 m c) (ar4 m c)
      ∧ r.2.mem ((c : Thread nD τ).loc main_v11_1) = gradG (ar0 m c) (ar2 m c) (ar4 m c)
      ∧ r.2.mem ((c : Thread nD τ).loc main_arg0) = (ar0 m c)
      ∧ r.2.mem ((c : Thread nD τ).loc main_arg1) = (ar1 m c)
      ∧ r.2.mem ((c : Thread nD τ).loc main_arg2) = (ar2 m c)
      ∧ r.2.mem ((c : Thread nD τ).loc main_arg3) = (ar3 m c)
      ∧ r.2.mem ((c : Thread nD τ).loc main_arg4) = (ar4 m c) :=
  (θ_run _ _ _).mono (fun _ h c => ⟨(h c).1.trans (final9 m c), (h c).2.1.trans (final10 m c), (h c).2.2⟩) (Cert.Kernel7Ideal.Value.run_blocks (F := Ideal) m ρ)

theorem ref_v16 (x2 : FVec Ideal S1024x5896 .f32) (x4 : FVec Ideal S4096x5896 .f32) (j : S4096x1024.Idx) :
    val_main_v16 (F := Ideal) x2 x4 j = rowDot x2 x4 (j 0) (j 1) := by
  idx_vars j
  unfold val_main_v16
  pointwise [rowDot]

theorem ref_v6 (x0 : FVec Ideal S4096x1024 .f32) (j : Cert.Reference7Ideal.S4096x1.Idx) :
    val_main_v6 (F := Ideal) x0 j = ms (fun k => x0 (ix2 (j 0) k)) := by
  idx_vars j
  unfold val_main_v6 val_main_v5 val_main_cst_1 val_main_v4 val_main_v3 val_main_cst_0 val_main_v2 val_main_v1 val_main_cst val_main_v0
  pointwise [ms]

theorem ref_v12 (x0 : FVec Ideal S4096x1024 .f32) (j : S4096x1024.Idx) :
    val_main_v12 (F := Ideal) x0 j = xh (fun k => x0 (ix2 (j 0) k)) (j 1) := by
  idx_vars j
  unfold val_main_v12 val_main_v11 val_main_v7 val_main_v6 val_main_v5 val_main_cst_1 val_main_v4 val_main_v3 val_main_cst_0 val_main_v2 val_main_v1 val_main_cst val_main_v0
  pointwise [xh, rs, ms]

theorem ref_v31 (x0 : FVec Ideal S4096x1024 .f32) (x1 : FVec Ideal S1x1024 .f32) (x2 : FVec Ideal S1024x5896 .f32) (x4 : FVec Ideal S4096x5896 .f32) (j : Cert.Reference7Ideal.S4096.Idx) :
    val_main_v31 (F := Ideal) x0 x1 x2 x4 j = half (rowDot x2 x4 (j 0)) (fun k => x0 (ix2 (j 0) k)) (fun k => x1 (ix2 0 k)) := by
  idx_vars j
  unfold val_main_v31 val_main_cst_6 val_main_v30 val_main_v29 val_main_cst_5 val_main_v28 val_main_v24 val_main_v23 val_main_cst_4 val_main_v22 val_main_v21 val_main_v20 val_main_v16 val_main_v10 val_main_v9 val_main_cst_2 val_main_v8 val_main_v7 val_main_v6 val_main_v5 val_main_cst_1 val_main_v4 val_main_v3 val_main_cst_0 val_main_v2 val_main_v1 val_main_cst val_main_v0
  pointwise [half, rs, ms, rowDot]
  exact Fin.sum_univ_one _

theorem ref_v36 (x0 : FVec Ideal S4096x1024 .f32) (x1 : FVec Ideal S1x1024 .f32) (x2 : FVec Ideal S1024x5896 .f32) (x3 : FVec Ideal S4096x1024 .f32) (x4 : FVec Ideal S4096x5896 .f32) (hx : ∀ i, IsReal (x0 i)) (hg : ∀ i, IsReal (x1 i)) (hw : ∀ i, IsReal (x2 i)) (hd : ∀ i, IsReal (x3 i)) (hu : ∀ i, IsReal (x4 i)) :
    val_main_v36 (F := Ideal) x0 x1 x2 x3 x4 = gradX x0 x1 x2 x3 x4 := by
  funext j
  idx_vars j
  have key := tile_eq (r := rowDot x2 x4 j0) (x := fun k => x0 (ix2 j0 k)) (g := fun k => x1 (ix2 0 k)) (d := fun k => x3 (ix2 j0 k))
    (fun k => IsReal.sum _ fun k _ => (hu _).mul (hw _)) (fun k => hx _) (fun k => hg _) (fun k => hd _) j1
  refine Eq.trans ?_ key.symm
  unfold val_main_v36 val_main_v35 val_main_v34 val_main_v33 val_main_v32 val_main_v27 val_main_v26 val_main_v25 val_main_v21 val_main_v20 val_main_v7
  pointwise [ref_v16, ref_v6, ref_v31, grad, rs]

theorem ref_v19 (x0 : FVec Ideal S4096x1024 .f32) (x2 : FVec Ideal S1024x5896 .f32) (x4 : FVec Ideal S4096x5896 .f32) : val_main_v19 (F := Ideal) x0 x2 x4 = gradG x0 x2 x4 := by
  funext j
  unfold gradG
  idx_vars j
  unfold val_main_v19 val_main_v18 val_main_v17 val_main_cst_3
  pointwise [ref_v12, ref_v16, term]
  exact Finset.sum_congr rfl fun s _ => mul_comm _ _

/-- What the precondition says. -/
theorem finite_of_pre (x0 : FVec Ideal S4096x1024 .f32) (x1 : FVec Ideal S1x1024 .f32) (x2 : FVec Ideal S1024x5896 .f32) (x3 : FVec Ideal S4096x1024 .f32) (x4 : FVec Ideal S4096x5896 .f32)
    (h : Cert.Pre_finite_projected.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have e := congrFun h (fun a => a.elim0)
  unfold Cert.Pre_finite_projected.fn Cert.Pre_finite_projected.fn_part1 Cert.Pre_finite_projected.fn_part2 at e
  obtain ⟨e4x, e4⟩ := IntOp.andi_eq_one.1 e
  obtain ⟨e3x, e3⟩ := IntOp.andi_eq_one.1 e4x
  obtain ⟨e2x, e2⟩ := IntOp.andi_eq_one.1 e3x
  obtain ⟨e1x, e1⟩ := IntOp.andi_eq_one.1 e2x
  exact ⟨fun i => isReal_of_all e1x (fun i => rfl) (fun i => rfl) i, fun i => isReal_of_all e1 (fun i => rfl) (fun i => rfl) i, fun i => isReal_of_all e2 (fun i => rfl) (fun i => rfl) i, fun i => isReal_of_all e3 (fun i => rfl) (fun i => rfl) i, fun i => isReal_of_all e4 (fun i => rfl) (fun i => rfl) i⟩

theorem frame_ref : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)

theorem algebraic : Cert.algebraic_Kernel7Ideal_Reference7Ideal_pre_finite_projected := by
  intro m ρ m' ρ' hpre hagree
  refine ⟨fun c => gradX (ar0 m c) (ar1 m c) (ar2 m c) (ar3 m c) (ar4 m c), fun c => gradG (ar0 m c) (ar2 m c) (ar4 m c), run m ρ, ?_⟩
  refine (θ_run Cert.Reference7Ideal.defs _ _).mono (fun _ h c => ⟨(h c).1.trans ?_, (h c).2.1.trans ?_, (h c).2.2⟩) (Cert.Reference7Ideal.Value.run (F := Ideal) m' ρ')
  · obtain ⟨a0, a1, a2, a3, a4⟩ := hagree c
    rw [val_main_v36_eq, a0, a1, a2, a3, a4]
    obtain ⟨h0, h1, h2, h3, h4⟩ := finite_of_pre _ _ _ _ _ (hpre c)
    exact ref_v36 _ _ _ _ _ h0 h1 h2 h3 h4
  · obtain ⟨a0, a1, a2, a3, a4⟩ := hagree c
    rw [val_main_v19_eq, a0, a2, a4]
    exact ref_v19 _ _ _

end Cert.DH
-- ==== Proof.Loss.lean ====
module

public import proofs.«01_k».proof.Proof.Gen.Kernel8Ideal.Value
public import proofs.«01_k».proof.Proof.Gen.Reference8Ideal.Read
public import proofs.«01_k».proof.Proof.Gen.Pre_finite_loss
public import proofs.«01_k».proof.Proof.Rms
public import proofs.«01_k».proof.Proof.Win

@[expose] public section

set_option maxRecDepth 16384

noncomputable section

namespace Cert.Loss

open Idealize.ShloMosaic Idealize.ShloMosaic.TcCoe Idealize.SL.Sem Cert.Common Cert.Rms
open Idealize.ShloMosaic.Pipeline (Dat RDat)
open Cert.Reference8Ideal.Read
open Cert.Kernel8Ideal Cert.Kernel8Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)
abbrev ar2 (c : Dev nD) := m ((c : Thread nD τ).loc main_arg2)
abbrev ar3 (c : Dev nD) := m ((c : Thread nD τ).loc main_arg3)
abbrev ar4 (c : Dev nD) := m ((c : Thread nD τ).loc main_arg4)

/-- One row: the error of the normalised row, its gradient, the row's share of the loss. -/
abbrev inv : EReal := Ideal.ofBits .f32 0x3A800000#32
abbrev hlf : EReal := Ideal.ofBits .f32 0x3F000000#32
def err (x g y : Fin 1024 → EReal) (k : Fin 1024) : EReal := xh x k * g k - y k
def dy (x g y : Fin 1024 → EReal) (k : Fin 1024) : EReal := err x g y k * inv
def lossRow (x g y : Fin 1024 → EReal) : EReal := Ideal.div (∑ k, err x g y k * err x g y k) wid

/-- Row `p` of a tile. -/
abbrev row (v : Vec Ideal S512x1024 .f32) (p : Fin 512) (k : Fin 1024) : EReal := v (ix2 p k)

/-- The tile that the norm takes: the residual and the down product. -/
def sumBlk (v0 : Vec Ideal S512x1024 .f32) (v1 : Vec Ideal S512x2816 .bf16) (v3 : Vec Ideal S2816x1024 .bf16) : Vec Ideal S512x1024 .f32 := fun j =>
  v0 j + ∑ k : Fin 2816, (v1 (ix2 (j 0) k) * v3 (ix2 k (j 1)) : EReal)

section
variable (v0 : Vec Ideal S512x1024 .f32) (v1 : Vec Ideal S512x2816 .bf16) (v3 : Vec Ideal S2816x1024 .bf16) (v7 : Vec Ideal S1x1024 .f32) (v20 : Vec Ideal S512x1024 .f32)

theorem sum_pay : k0_pay5 (F := Ideal) v0 v1 v3 = sumBlk v0 v1 v3 := by
  funext j
  idx_vars j
  unfold_payloads
  pointwise [sumBlk]

theorem tile_pay (j : S512x1024.Idx) :
    k0_pay1 (k0_pay6 v0 v1 v3) (k0_pay7 v0 v1 v3) (k0_pay11 v0 v1 v3 v7 v20) (k0_pay12 v0 v1 v3 v7 v20) (Scalar.ofBits .f32 0x44800000#32) j
      = core (dy (row (sumBlk v0 v1 v3) (j 0)) (fun k => v7 (ix2 0 k)) (row v20 (j 0))) (row (sumBlk v0 v1 v3) (j 0)) (fun k => v7 (ix2 0 k)) (j 1) := by
  idx_vars j
  unfold k0_pay1 k0_pay12 k0_pay11 k0_pay10 k0_pay8 k0_pay7 k0_pay6
  rw [sum_pay]
  generalize sumBlk v0 v1 v3 = x
  pointwise [core, dy, err, xh, rs, ms, row]

theorem part_pay (j : S1x1024.Idx) :
    k0_pay2 (k0_pay7 v0 v1 v3) (k0_pay10 v0 v1 v3 v7 v20) j
      = ∑ p : Fin 512, dy (row (sumBlk v0 v1 v3) p) (fun k => v7 (ix2 0 k)) (row v20 p) (j 1) * xh (row (sumBlk v0 v1 v3) p) (j 1) := by
  idx_vars j
  unfold k0_pay2 k0_pay10 k0_pay8 k0_pay7 k0_pay6
  rw [sum_pay]
  generalize sumBlk v0 v1 v3 = x
  pointwise [dy, err, xh, rs, ms, row]

theorem loss_pay (j : S1x1.Idx) :
    k0_pay9 v0 v1 v3 v7 v20 j
      = hlf * ∑ p : Fin 512, lossRow (row (sumBlk v0 v1 v3) p) (fun k => v7 (ix2 0 k)) (row v20 p) := by
  idx_vars j
  unfold k0_pay9 k0_pay8 k0_pay7 k0_pay6
  rw [sum_pay]
  generalize sumBlk v0 v1 v3 = x
  pointwise [lossRow, err, xh, rs, ms, row]

end

def tileBlk (x0 : Vec Ideal S512x2816 .bf16) (x1 : Vec Ideal S2816x1024 .bf16) (x2 : Vec Ideal S512x1024 .f32) (x3 : Vec Ideal S1x1024 .f32) (x4 : Vec Ideal S512x1024 .f32) : Vec Ideal S512x1024 .f32 := fun j =>
  core (dy (row (sumBlk x2 x0 x1) (j 0)) (fun k => x3 (ix2 0 k)) (row x4 (j 0))) (row (sumBlk x2 x0 x1) (j 0)) (fun k => x3 (ix2 0 k)) (j 1)
def partBlk (x0 : Vec Ideal S512x2816 .bf16) (x1 : Vec Ideal S2816x1024 .bf16) (x2 : Vec Ideal S512x1024 .f32) (x3 : Vec Ideal S1x1024 .f32) (x4 : Vec Ideal S512x1024 .f32) : Vec Ideal S1x1024 .f32 := fun j =>
  ∑ p : Fin 512, dy (row (sumBlk x2 x0 x1) p) (fun k => x3 (ix2 0 k)) (row x4 p) (j 1) * xh (row (sumBlk x2 x0 x1) p) (j 1)
def lossBlk (x0 : Vec Ideal S512x2816 .bf16) (x1 : Vec Ideal S2816x1024 .bf16) (x2 : Vec Ideal S512x1024 .f32) (x3 : Vec Ideal S1x1024 .f32) (x4 : Vec Ideal S512x1024 .f32) : Vec Ideal S1x1 .f32 := fun j =>
  hlf * ∑ p : Fin 512, lossRow (row (sumBlk x2 x0 x1) p) (fun k => x3 (ix2 0 k)) (row x4 p)

section
variable (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S1x1 .f32) (h6 : a6.IsWhole) (a7 : Memref sig .tc .vmem S512x1024 .f32) (h7 : a7.IsWhole) (a8 : Memref sig .tc .vmem S1x1024 .f32) (h8 : a8.IsWhole)

theorem out_A5 (hc0 : cond0_0 i) (hc1 : ¬cond0_1 i) (x0 : Vec Ideal S512x2816 .bf16) (x1 : Vec Ideal S2816x1024 .bf16) (x2 : Vec Ideal S512x1024 .f32) (x3 : Vec Ideal S1x1024 .f32) (x4 : Vec Ideal S512x1024 .f32) :
    out0_A_5 c i a1 h1 a2 h2 a3 h3 a4 h4 a5 h5 a6 h6 a7 h7 a8 h8 hc0 hc1 x0 x1 x2 x3 x4 = lossBlk x0 x1 x2 x3 x4 := by
  unfold out0_A_5
  rw [View.read_writes_eq_canon _ _ _ (cover0_A_5 c i a1 h1 a2 h2 a3 h3 a4 h4 a5 h5 a6 h6 a7 h7 a8 h8 hc0 hc1 x0 x1 x2 x3 x4)]
  unfold kernelRun0_A
  dsimp only
  sl_unfold_words
  rw [View.canon_unit_zero hz2]
  simp only [View.readAt_eq_ld, h1.read_unread, h2.read_unread, h3.read_unread, h4.read_unread, h5.read_unread,
    View.ld_unit_zero (S := S512x2816) hz2, View.ld_unit_zero (S := S2816x1024) hz2, View.ld_unit_zero (S := S512x1024) hz2, View.ld_unit_zero (S := S1x1024) hz2, View.ld_unit_zero (S := S1x1) hz2]
  funext j
  exact loss_pay _ _ _ _ _ j

theorem out_A6 (hc0 : cond0_0 i) (hc1 : ¬cond0_1 i) (x0 : Vec Ideal S512x2816 .bf16) (x1 : Vec Ideal S2816x1024 .bf16) (x2 : Vec Ideal S512x1024 .f32) (x3 : Vec Ideal S1x1024 .f32) (x4 : Vec Ideal S512x1024 .f32) :
    out0_A_6 c i a1 h1 a2 h2 a3 h3 a4 h4 a5 h5 a6 h6 a7 h7 a8 h8 hc0 hc1 x0 x1 x2 x3 x4 = tileBlk x0 x1 x2 x3 x4 := by
  unfold out0_A_6
  rw [View.read_writes_eq_canon _ _ _ (cover0_A_6 c i a1 h1 a2 h2 a3 h3 a4 h4 a5 h5 a6 h6 a7 h7 a8 h8 hc0 hc1 x0 x1 x2 x3 x4)]
  unfold kernelRun0_A
  dsimp only
  sl_unfold_words
  rw [View.canon_unit_zero hz2]
  simp only [View.readAt_eq_ld, h1.read_unread, h2.read_unread, h3.read_unread, h4.read_unread, h5.read_unread,
    View.ld_unit_zero (S := S512x2816) hz2, View.ld_unit_zero (S := S2816x1024) hz2, View.ld_unit_zero (S := S512x1024) hz2, View.ld_unit_zero (S := S1x1024) hz2, View.ld_unit_zero (S := S1x1) hz2]
  funext j
  exact tile_pay _ _ _ _ _ j

theorem out_A7 (hc0 : cond0_0 i) (hc1 : ¬cond0_1 i) (x0 : Vec Ideal S512x2816 .bf16) (x1 : Vec Ideal S2816x1024 .bf16) (x2 : Vec Ideal S512x1024 .f32) (x3 : Vec Ideal S1x1024 .f32) (x4 : Vec Ideal S512x1024 .f32) :
    out0_A_7 c i a1 h1 a2 h2 a3 h3 a4 h4 a5 h5 a6 h6 a7 h7 a8 h8 hc0 hc1 x0 x1 x2 x3 x4 = partBlk x0 x1 x2 x3 x4 := by
  unfold out0_A_7
  rw [View.read_writes_eq_canon _ _ _ (cover0_A_7 c i a1 h1 a2 h2 a3 h3 a4 h4 a5 h5 a6 h6 a7 h7 a8 h8 hc0 hc1 x0 x1 x2 x3 x4)]
  unfold kernelRun0_A
  dsimp only
  sl_unfold_words
  rw [View.canon_unit_zero hz2]
  simp only [View.readAt_eq_ld, h1.read_unread, h2.read_unread, h3.read_unread, h4.read_unread, h5.read_unread,
    View.ld_unit_zero (S := S512x2816) hz2, View.ld_unit_zero (S := S2816x1024) hz2, View.ld_unit_zero (S := S512x1024) hz2, View.ld_unit_zero (S := S1x1024) hz2, View.ld_unit_zero (S := S1x1) hz2]
  funext j
  exact part_pay _ _ _ _ _ j

theorem out_B5 (hc0 : ¬cond0_0 i) (hc1 : cond0_1 i) (x0 : Vec Ideal S512x2816 .bf16) (x1 : Vec Ideal S2816x1024 .bf16) (x2 : Vec Ideal S512x1024 .f32) (x3 : Vec Ideal S1x1024 .f32) (x4 : Vec Ideal S512x1024 .f32) (xo : Vec Ideal S1x1 .f32) (yo : Vec Ideal S1x1024 .f32) :
    out0_B_5 c i a1 h1 a2 h2 a3 h3 a4 h4 a5 h5 a6 h6 a7 h7 a8 h8 hc0 hc1 x0 x1 x2 x3 x4 xo yo = fun j => (xo j + lossBlk x0 x1 x2 x3 x4 j : EReal) := by
  unfold out0_B_5
  rw [View.read_writes_eq_canon _ _ _ (cover0_B_5 c i a1 h1 a2 h2 a3 h3 a4 h4 a5 h5 a6 h6 a7 h7 a8 h8 hc0 hc1 x0 x1 x2 x3 x4 xo yo)]
  unfold kernelRun0_B
  dsimp only
  sl_unfold_words
  rw [View.canon_unit_zero hz2]
  simp only [View.readAt_eq_ld, h1.read_unread, h2.read_unread, h3.read_unread, h4.read_unread, h5.read_unread, h6.read_unread, h8.read_unread,
    View.ld_unit_zero (S := S512x2816) hz2, View.ld_unit_zero (S := S2816x1024) hz2, View.ld_unit_zero (S := S512x1024) hz2, View.ld_unit_zero (S := S1x1024) hz2, View.ld_unit_zero (S := S1x1) hz2]
  funext j
  unfold k0_pay3
  rw [shapeCast_self]
  exact congrArg (fun a : EReal => (xo j : EReal) + a) (loss_pay _ _ _ _ _ j)

theorem out_B6 (hc0 : ¬cond0_0 i) (hc1 : cond0_1 i) (x0 : Vec Ideal S512x2816 .bf16) (x1 : Vec Ideal S2816x1024 .bf16) (x2 : Vec Ideal S512x1024 .f32) (x3 : Vec Ideal S1x1024 .f32) (x4 : Vec Ideal S512x1024 .f32) (xo : Vec Ideal S1x1 .f32) (yo : Vec Ideal S1x1024 .f32) :
    out0_B_6 c i a1 h1 a2 h2 a3 h3 a4 h4 a5 h5 a6 h6 a7 h7 a8 h8 hc0 hc1 x0 x1 x2 x3 x4 xo yo = tileBlk x0 x1 x2 x3 x4 := by
  unfold out0_B_6
  rw [View.read_writes_eq_canon _ _ _ (cover0_B_6 c i a1 h1 a2 h2 a3 h3 a4 h4 a5 h5 a6 h6 a7 h7 a8 h8 hc0 hc1 x0 x1 x2 x3 x4 xo yo)]
  unfold kernelRun0_B
  dsimp only
  sl_unfold_words
  rw [View.canon_unit_zero hz2]
  simp only [View.readAt_eq_ld, h1.read_unread, h2.read_unread, h3.read_unread, h4.read_unread, h5.read_unread, h6.read_unread, h8.read_unread,
    View.ld_unit_zero (S := S512x2816) hz2, View.ld_unit_zero (S := S2816x1024) hz2, View.ld_unit_zero (S := S512x1024) hz2, View.ld_unit_zero (S := S1x1024) hz2, View.ld_unit_zero (S := S1x1) hz2]
  funext j
  exact tile_pay _ _ _ _ _ j

theorem out_B7 (hc0 : ¬cond0_0 i) (hc1 : cond0_1 i) (x0 : Vec Ideal S512x2816 .bf16) (x1 : Vec Ideal S2816x1024 .bf16) (x2 : Vec Ideal S512x1024 .f32) (x3 : Vec Ideal S1x1024 .f32) (x4 : Vec Ideal S512x1024 .f32) (xo : Vec Ideal S1x1 .f32) (yo : Vec Ideal S1x1024 .f32) :
    out0_B_7 c i a1 h1 a2 h2 a3 h3 a4 h4 a5 h5 a6 h6 a7 h7 a8 h8 hc0 hc1 x0 x1 x2 x3 x4 xo yo = fun j => (yo j + partBlk x0 x1 x2 x3 x4 j : EReal) := by
  unfold out0_B_7
  rw [View.read_writes_eq_canon _ _ _ (cover0_B_7 c i a1 h1 a2 h2 a3 h3 a4 h4 a5 h5 a6 h6 a7 h7 a8 h8 hc0 hc1 x0 x1 x2 x3 x4 xo yo)]
  unfold kernelRun0_B
  dsimp only
  sl_unfold_words
  rw [View.canon_unit_zero hz2]
  simp only [View.readAt_eq_ld, h1.read_unread, h2.read_unread, h3.read_unread, h4.read_unread, h5.read_unread, h6.read_unread, h8.read_unread,
    View.ld_unit_zero (S := S512x2816) hz2, View.ld_unit_zero (S := S2816x1024) hz2, View.ld_unit_zero (S := S512x1024) hz2, View.ld_unit_zero (S := S1x1024) hz2, View.ld_unit_zero (S := S1x1) hz2]
  funext j
  unfold k0_pay4
  rw [shapeCast_self]
  exact congrArg (fun a : EReal => (yo j : EReal) + a) (part_pay _ _ _ _ _ j)

end

theorem V_v0 (c : Dev nD) (i : S4096x2816.Idx) : V m c main_v0 i = ar2 m c i := by
  unfold V
  after_reads_at

theorem V_v1 (c : Dev nD) (i : S2816x1024.Idx) : V m c main_v1 i = ar3 m c i := by
  unfold V
  after_reads_at

theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0
    ∧ win0_3.index t 0 = 0 ∧ win0_3.index t 1 = 0 ∧ win0_4.index t 0 = t.val ∧ win0_4.index t 1 = 0 ∧ win0_5.index t 0 = 0 ∧ win0_5.index t 1 = 0
    ∧ win0_6.index t 0 = t.val ∧ win0_6.index t 1 = 0 ∧ win0_7.index t 0 = 0 ∧ win0_7.index t 1 = 0 ∧ t.val < 8 :=
  (by decide +kernel : ∀ t : Fin grid0.N, _)

theorem iblk0_at (c : Dev nD) (t : Fin cfg0.N) (y : S512x2816.Idx) (i : S4096x2816.Idx)
    (h0 : (i 0).val = t.val * 512 + (y 0).val) (h1 : (i 1).val = (y 1).val) :
    iblk m c 0 t y = V m c main_v0 i :=
  congrArg (V m c main_v0) (emb_of win0_0 t y i (fall2 (toBlk h0 (idx_facts t).1) (toBlk0 h1 (idx_facts t).2.1)))

theorem iblk1_at (c : Dev nD) (t : Fin cfg0.N) (y : S2816x1024.Idx) (i : S2816x1024.Idx)
    (h0 : (i 0).val = (y 0).val) (h1 : (i 1).val = (y 1).val) :
    iblk m c 1 t y = V m c main_v1 i :=
  congrArg (V m c main_v1) (emb_of win0_1 t y i (fall2 (toBlk0 h0 (idx_facts t).2.2.1) (toBlk0 h1 (idx_facts t).2.2.2.1)))

theorem iblk2_at (c : Dev nD) (t : Fin cfg0.N) (y : S512x1024.Idx) (i : S4096x1024.Idx)
    (h0 : (i 0).val = t.val * 512 + (y 0).val) (h1 : (i 1).val = (y 1).val) :
    iblk m c 2 t y = ar0 m c i :=
  (congrArg (V m c main_arg0) (emb_of win0_2 t y i (fall2 (toBlk h0 (idx_facts t).2.2.2.2.1) (toBlk0 h1 (idx_facts t).2.2.2.2.2.1)))).trans (congrFun (V_main_arg0 m c) i)

theorem iblk3_at (c : Dev nD) (t : Fin cfg0.N) (y : S1x1024.Idx) (i : S1x1024.Idx)
    (h0 : (i 0).val = (y 0).val) (h1 : (i 1).val = (y 1).val) :
    iblk m c 3 t y = ar1 m c i :=
  (congrArg (V m c main_arg1) (emb_of win0_3 t y i (fall2 (toBlk0 h0 (idx_facts t).2.2.2.2.2.2.1) (toBlk0 h1 (idx_facts t).2.2.2.2.2.2.2.1)))).trans (congrFun (V_main_arg1 m c) i)

theorem iblk4_at (c : Dev nD) (t : Fin cfg0.N) (y : S512x1024.Idx) (i : S4096x1024.Idx)
    (h0 : (i 0).val = t.val * 512 + (y 0).val) (h1 : (i 1).val = (y 1).val) :
    iblk m c 4 t y = ar4 m c i :=
  (congrArg (V m c main_arg4) (emb_of win0_4 t y i (fall2 (toBlk h0 (idx_facts t).2.2.2.2.2.2.2.2.1) (toBlk0 h1 (idx_facts t).2.2.2.2.2.2.2.2.2.1)))).trans (congrFun (V_main_arg4 m c) i)

/-- The rows that the norm takes, and the three results, as functions of the arguments. -/
def sumRow (x : FVec Ideal S4096x1024 .f32) (a : FVec Ideal S4096x2816 .f32) (w : FVec Ideal S2816x1024 .f32) (s : Fin 4096) (k : Fin 1024) : EReal :=
  x (ix2 s k) + ∑ l : Fin 2816, a (ix2 s l) * w (ix2 l k)
abbrev tgt (y : FVec Ideal S4096x1024 .f32) (s : Fin 4096) (k : Fin 1024) : EReal := y (ix2 s k)
abbrev gain (g : FVec Ideal S1x1024 .f32) (k : Fin 1024) : EReal := g (ix2 0 k)
def gradX (x : FVec Ideal S4096x1024 .f32) (g : FVec Ideal S1x1024 .f32) (a : FVec Ideal S4096x2816 .f32) (w : FVec Ideal S2816x1024 .f32) (y : FVec Ideal S4096x1024 .f32) (i : S4096x1024.Idx) : EReal :=
  core (dy (sumRow x a w (i 0)) (gain g) (tgt y (i 0))) (sumRow x a w (i 0)) (gain g) (i 1)
def term (x : FVec Ideal S4096x1024 .f32) (g : FVec Ideal S1x1024 .f32) (a : FVec Ideal S4096x2816 .f32) (w : FVec Ideal S2816x1024 .f32) (y : FVec Ideal S4096x1024 .f32) (j : S1x1024.Idx) (s : Fin 4096) : EReal :=
  dy (sumRow x a w s) (gain g) (tgt y s) (j 1) * xh (sumRow x a w s) (j 1)
def gradG (x : FVec Ideal S4096x1024 .f32) (g : FVec Ideal S1x1024 .f32) (a : FVec Ideal S4096x2816 .f32) (w : FVec Ideal S2816x1024 .f32) (y : FVec Ideal S4096x1024 .f32) (j : S1x1024.Idx) : EReal := ∑ s : Fin 4096, term x g a w y j s
def share (x : FVec Ideal S4096x1024 .f32) (g : FVec Ideal S1x1024 .f32) (a : FVec Ideal S4096x2816 .f32) (w : FVec Ideal S2816x1024 .f32) (y : FVec Ideal S4096x1024 .f32) (s : Fin 4096) : EReal := lossRow (sumRow x a w s) (gain g) (tgt y s)
def value (x : FVec Ideal S4096x1024 .f32) (g : FVec Ideal S1x1024 .f32) (a : FVec Ideal S4096x2816 .f32) (w : FVec Ideal S2816x1024 .f32) (y : FVec Ideal S4096x1024 .f32) (j : S1x1.Idx) : EReal := ∑ q ∈ Finset.range 8, hlf * ∑ p : Fin 512, share x g a w y (rowIn 512 q p)

theorem sumBlk_of (v0 : Vec Ideal S512x1024 .f32) (v1 : Vec Ideal S512x2816 .bf16) (v3 : Vec Ideal S2816x1024 .bf16) (p : Fin 512) (k : Fin 1024)
    (b : EReal) (a w : Fin 2816 → EReal) (h0 : v0 (ix2 p k) = b) (h1 : ∀ l, v1 (ix2 p l) = a l) (h2 : ∀ l, v3 (ix2 l k) = w l) :
    sumBlk v0 v1 v3 (ix2 p k) = b + ∑ l, a l * w l := by
  show v0 (ix2 p k) + ∑ l : Fin 2816, (v1 (ix2 p l) * v3 (ix2 l k) : EReal) = _
  simp only [h0, h1, h2]

theorem tileSum (c : Dev nD) (t : Fin cfg0.N) (p : Fin 512) (s : Fin 4096) (h : s.val = t.val * 512 + p.val) :
    row (sumBlk (iblk m c 2 t) (iblk m c 0 t) (iblk m c 1 t)) p = sumRow (ar0 m c) (ar2 m c) (ar3 m c) s :=
  funext fun k => sumBlk_of (iblk m c 2 t) (iblk m c 0 t) (iblk m c 1 t) p k _ (fun l => (ar2 m c) (ix2 s l : S4096x2816.Idx)) (fun l => (ar3 m c) (ix2 l k : S2816x1024.Idx))
    (iblk2_at m c t (ix2 p k) (ix2 s k) h rfl)
    (fun l => (iblk0_at m c t (ix2 p l) (ix2 s l) h rfl).trans (V_v0 m c _)) (fun l => (iblk1_at m c t (ix2 l k) (ix2 l k) rfl rfl).trans (V_v1 m c _))
theorem tileTgt (c : Dev nD) (t : Fin cfg0.N) (p : Fin 512) (s : Fin 4096) (h : s.val = t.val * 512 + p.val) :
    row (iblk m c 4 t) p = tgt (ar4 m c) s :=
  funext fun k => iblk4_at m c t (ix2 p k) (ix2 s k) h rfl
theorem tileGain (c : Dev nD) (t : Fin cfg0.N) : (fun k => iblk m c 3 t (ix2 0 k : S1x1024.Idx)) = gain (ar1 m c) :=
  funext fun k => iblk3_at m c t (ix2 0 k) (ix2 0 k) rfl rfl

theorem tile_at (c : Dev nD) (t : Fin cfg0.N) (y : S512x1024.Idx) (i : S4096x1024.Idx) (h0 : (i 0).val = t.val * 512 + (y 0).val) (h1 : (i 1).val = (y 1).val) :
    tileBlk (iblk m c 0 t) (iblk m c 1 t) (iblk m c 2 t) (iblk m c 3 t) (iblk m c 4 t) y = gradX (ar0 m c) (ar1 m c) (ar2 m c) (ar3 m c) (ar4 m c) i := by
  unfold tileBlk gradX
  rw [tileSum m c t (y 0) (i 0) h0, tileTgt m c t (y 0) (i 0) h0, show y 1 = i 1 from Fin.ext h1.symm]
  exact congrArg (fun g => core (dy _ g _) _ g _) (tileGain m c t)

theorem row_val (t : Fin cfg0.N) (p : Fin 512) : (rowIn 512 t.val p).val = t.val * 512 + p.val := by
  have hN : cfg0.N = 8 := N_0
  have ht := t.isLt
  rw [rowIn_val (n := 8) rfl (by omega), mul_comm]

theorem part_at (c : Dev nD) (t : Fin cfg0.N) (y : S1x1024.Idx) :
    partBlk (iblk m c 0 t) (iblk m c 1 t) (iblk m c 2 t) (iblk m c 3 t) (iblk m c 4 t) y = ∑ p : Fin 512, term (ar0 m c) (ar1 m c) (ar2 m c) (ar3 m c) (ar4 m c) y (rowIn 512 t.val p) := by
  unfold partBlk
  refine Finset.sum_congr rfl fun p _ => ?_
  unfold term
  have h := row_val t p
  rw [tileSum m c t p _ h, tileTgt m c t p _ h]
  exact congrArg (fun g => dy _ g _ _ * _) (tileGain m c t)

theorem loss_at (c : Dev nD) (t : Fin cfg0.N) (y : S1x1.Idx) :
    lossBlk (iblk m c 0 t) (iblk m c 1 t) (iblk m c 2 t) (iblk m c 3 t) (iblk m c 4 t) y = hlf * ∑ p : Fin 512, share (ar0 m c) (ar1 m c) (ar2 m c) (ar3 m c) (ar4 m c) (rowIn 512 t.val p) := by
  unfold lossBlk
  refine congrArg (fun a : EReal => hlf * a) (Finset.sum_congr rfl fun p _ => ?_)
  unfold share
  have h := row_val t p
  rw [tileSum m c t p _ h, tileTgt m c t p _ h]
  exact congrArg (fun g => lossRow _ g _) (tileGain m c t)

theorem tile_out (c : Dev nD) (t : Fin cfg0.N) : (outsAt0 m c t.val t.isLt).2.1 = tileBlk (iblk m c 0 t) (iblk m c 1 t) (iblk m c 2 t) (iblk m c 3 t) (iblk m c 4 t) := by
  have hN : cfg0.N = 8 := N_0
  have ht := t.isLt
  by_cases h0 : t.val = 0
  · rw [outsAt0_A m c t (by omega) (by omega), out_A6]
  · rw [outsAt0_B m c t (by omega) (by omega), out_B6]

/-- The two accumulators after a grid point: the rows up to it. -/
theorem part_out (c : Dev nD) (y : S1x1024.Idx) : ∀ (n : ℕ) (h : n < cfg0.N),
    (outsAt0 m c n h).2.2 y = ∑ q ∈ Finset.range (n + 1), ∑ p : Fin 512, term (ar0 m c) (ar1 m c) (ar2 m c) (ar3 m c) (ar4 m c) y (rowIn 512 q p)
  | 0, h => by
    rw [outsAt0_A m c ⟨0, h⟩ rfl (by show ¬1 ≤ 0; decide), out_A7]
    dsimp only
    rw [part_at, Finset.sum_range_one]
  | n + 1, h => by
    have hN : cfg0.N = 8 := N_0
    rw [outsAt0_B m c ⟨n + 1, h⟩ (by dsimp only; omega) (by dsimp only; omega), out_B7]
    dsimp only
    rw [part_at, Finset.sum_range_succ _ (n + 1), ← part_out c y n (Nat.lt_of_succ_lt h)]
    rfl
theorem loss_out (c : Dev nD) (y : S1x1.Idx) : ∀ (n : ℕ) (h : n < cfg0.N),
    (outsAt0 m c n h).1 y = ∑ q ∈ Finset.range (n + 1), hlf * ∑ p : Fin 512, share (ar0 m c) (ar1 m c) (ar2 m c) (ar3 m c) (ar4 m c) (rowIn 512 q p)
  | 0, h => by
    rw [outsAt0_A m c ⟨0, h⟩ rfl (by show ¬1 ≤ 0; decide), out_A5]
    dsimp only
    rw [loss_at, Finset.sum_range_one]
  | n + 1, h => by
    have hN : cfg0.N = 8 := N_0
    rw [outsAt0_B m c ⟨n + 1, h⟩ (by dsimp only; omega) (by dsimp only; omega), out_B5]
    dsimp only
    rw [loss_at, Finset.sum_range_succ _ (n + 1), ← loss_out c y n (Nat.lt_of_succ_lt h)]
    rfl

theorem cover5 (i : S1x1.Idx) :
    ∃ t : Fin cfg0.N, (cfg0.win 5).flush t = true ∧ i ∈ ((cfg0.win 5).blk t).view.set := by
  have h0 : (i 0).val < 1 := (i 0).isLt
  have h1 : (i 1).val < 1 := (i 1).isLt
  have hN : cfg0.N = 8 := N_0
  obtain ⟨t, ht⟩ : ∃ t : Fin cfg0.N, t.val = 7 := ⟨⟨_, by omega⟩, rfl⟩
  exact ⟨t, (flush0_5 t).mpr (by omega), in_blk (b := main_v2_0) (fall2 (inBlk (i := (i 0).val) (n := 1) (idx_facts t).2.2.2.2.2.2.2.2.2.2.1 (by omega)) (inBlk (i := (i 1).val) (n := 1) (idx_facts t).2.2.2.2.2.2.2.2.2.2.2.1 (by omega)))⟩

theorem cover6 (i : S4096x1024.Idx) :
    ∃ t : Fin cfg0.N, (cfg0.win 6).flush t = true ∧ i ∈ ((cfg0.win 6).blk t).view.set := by
  have h0 : (i 0).val < 4096 := (i 0).isLt
  have h1 : (i 1).val < 1024 := (i 1).isLt
  have hN : cfg0.N = 8 := N_0
  obtain ⟨t, ht⟩ : ∃ t : Fin cfg0.N, t.val = (i 0).val / 512 := ⟨⟨_, by omega⟩, rfl⟩
  exact ⟨t, flush0_6 t, in_blk (b := main_v2_1) (fall2 (inBlk (i := (i 0).val) (n := 512) (idx_facts t).2.2.2.2.2.2.2.2.2.2.2.2.1 (by omega)) (inBlk (i := (i 1).val) (n := 1024) (idx_facts t).2.2.2.2.2.2.2.2.2.2.2.2.2.1 (by omega)))⟩

theorem cover7 (i : S1x1024.Idx) :
    ∃ t : Fin cfg0.N, (cfg0.win 7).flush t = true ∧ i ∈ ((cfg0.win 7).blk t).view.set := by
  have h0 : (i 0).val < 1 := (i 0).isLt
  have h1 : (i 1).val < 1024 := (i 1).isLt
  have hN : cfg0.N = 8 := N_0
  obtain ⟨t, ht⟩ : ∃ t : Fin cfg0.N, t.val = 7 := ⟨⟨_, by omega⟩, rfl⟩
  exact ⟨t, (flush0_7 t).mpr (by omega), in_blk (b := main_v2_2) (fall2 (inBlk (i := (i 0).val) (n := 1) (idx_facts t).2.2.2.2.2.2.2.2.2.2.2.2.2.2.1 (by omega)) (inBlk (i := (i 1).val) (n := 1024) (idx_facts t).2.2.2.2.2.2.2.2.2.2.2.2.2.2.2.1 (by omega)))⟩

theorem emb5 (t : Fin cfg0.N) (y : S1x1.Idx) (i : S1x1.Idx) (h : ((cfg0.win 5).blk t).view.emb y = i) :
    (i 0).val = (y 0).val ∧ (i 1).val = (y 1).val :=
  ⟨ofBlk0 (emb_at win0_5 t y i h 0) (idx_facts t).2.2.2.2.2.2.2.2.2.2.1, ofBlk0 (emb_at win0_5 t y i h 1) (idx_facts t).2.2.2.2.2.2.2.2.2.2.2.1⟩

theorem emb6 (t : Fin cfg0.N) (y : S512x1024.Idx) (i : S4096x1024.Idx) (h : ((cfg0.win 6).blk t).view.emb y = i) :
    (i 0).val = t.val * 512 + (y 0).val ∧ (i 1).val = (y 1).val :=
  ⟨ofBlk (emb_at win0_6 t y i h 0) (idx_facts t).2.2.2.2.2.2.2.2.2.2.2.2.1, ofBlk0 (emb_at win0_6 t y i h 1) (idx_facts t).2.2.2.2.2.2.2.2.2.2.2.2.2.1⟩

theorem emb7 (t : Fin cfg0.N) (y : S1x1024.Idx) (i : S1x1024.Idx) (h : ((cfg0.win 7).blk t).view.emb y = i) :
    (i 0).val = (y 0).val ∧ (i 1).val = (y 1).val :=
  ⟨ofBlk0 (emb_at win0_7 t y i h 0) (idx_facts t).2.2.2.2.2.2.2.2.2.2.2.2.2.2.1, ofBlk0 (emb_at win0_7 t y i h 1) (idx_facts t).2.2.2.2.2.2.2.2.2.2.2.2.2.2.2.1⟩

theorem final5 (c : Dev nD) : (dats m 0 c).arrAt 5 cfg0.N = value (ar0 m c) (ar1 m c) (ar2 m c) (ar3 m c) (ar4 m c) := by
  funext i
  refine (dats m 0 c).arrAt_forall_of_cover 5 (fun i v => v = value (ar0 m c) (ar1 m c) (ar2 m c) (ar3 m c) (ar4 m c) i) (fun t ht y => ?_) cover5 i
  generalize hi : ((cfg0.win 5).blk t).view.emb y = i'
  obtain ⟨k0, k1⟩ := emb5 t y i' hi
  obtain rfl : i' = y := funext fun a => Fin.ext (match a with | ⟨0, _⟩ => k0 | ⟨1, _⟩ => k1)
  have hf : (dats m 0 c).flushed 5 t i' = (outsAt0 m c t.val t.isLt).1 i' := by
    rw [Cert.Kernel8Ideal.Value.flushed5]
    rfl
  refine (hf : _ = _).trans ?_
  have hN : cfg0.N = 8 := N_0
  have h7 : t.val = 7 := by have := (flush0_5 t).mp ht; have := t.isLt; omega
  rw [loss_out, h7]
  rfl

theorem final6 (c : Dev nD) : (dats m 0 c).arrAt 6 cfg0.N = gradX (ar0 m c) (ar1 m c) (ar2 m c) (ar3 m c) (ar4 m c) := by
  funext i
  refine (dats m 0 c).arrAt_forall_of_cover 6 (fun i v => v = gradX (ar0 m c) (ar1 m c) (ar2 m c) (ar3 m c) (ar4 m c) i) (fun t ht y => ?_) cover6 i
  generalize hi : ((cfg0.win 6).blk t).view.emb y = i'
  obtain ⟨k0, k1⟩ := emb6 t y i' hi
  have hf : (dats m 0 c).flushed 6 t y = (outsAt0 m c t.val t.isLt).2.1 y := by
    rw [Cert.Kernel8Ideal.Value.flushed6]
  refine (hf : _ = _).trans ?_
  rw [tile_out]
  exact tile_at m c t y i' k0 k1

theorem final7 (c : Dev nD) : (dats m 0 c).arrAt 7 cfg0.N = gradG (ar0 m c) (ar1 m c) (ar2 m c) (ar3 m c) (ar4 m c) := by
  funext i
  refine (dats m 0 c).arrAt_forall_of_cover 7 (fun i v => v = gradG (ar0 m c) (ar1 m c) (ar2 m c) (ar3 m c) (ar4 m c) i) (fun t ht y => ?_) cover7 i
  generalize hi : ((cfg0.win 7).blk t).view.emb y = i'
  obtain ⟨k0, k1⟩ := emb7 t y i' hi
  obtain rfl : i' = y := funext fun a => Fin.ext (match a with | ⟨0, _⟩ => k0 | ⟨1, _⟩ => k1)
  have hf : (dats m 0 c).flushed 7 t i' = (outsAt0 m c t.val t.isLt).2.2 i' := by
    rw [Cert.Kernel8Ideal.Value.flushed7]
    rfl
  refine (hf : _ = _).trans ?_
  have hN : cfg0.N = 8 := N_0
  have h7 : t.val = 7 := by have := (flush0_7 t).mp ht; have := t.isLt; omega
  rw [part_out, h7]
  exact sum_in (n := 8) rfl _

theorem run : θ_run (Cert.Kernel8Ideal.defs (F := Ideal)) (onTc (τ := τ) (Cert.Kernel8Ideal.main (F := Ideal))) ⟨m, fun _ => 0, ρ⟩ fun r => ∀ c : Dev nD,
      r.2.mem ((c : Thread nD τ).loc main_v2_0) = value (ar0 m c) (ar1 m c) (ar2 m c) (ar3 m c) (ar4 m c)
      ∧ r.2.mem ((c : Thread nD τ).loc main_v2_1) = gradX (ar0 m c) (ar1 m c) (ar2 m c) (ar3 m c) (ar4 m c)
      ∧ r.2.mem ((c : Thread nD τ).loc main_v2_2) = gradG (ar0 m c) (ar1 m c) (ar2 m c) (ar3 m c) (ar4 m c)
      ∧ r.2.mem ((c : Thread nD τ).loc main_arg0) = (ar0 m c)
      ∧ r.2.mem ((c : Thread nD τ).loc main_arg1) = (ar1 m c)
      ∧ r.2.mem ((c : Thread nD τ).loc main_arg2) = (ar2 m c)
      ∧ r.2.mem ((c : Thread nD τ).loc main_arg3) = (ar3 m c)
      ∧ r.2.mem ((c : Thread nD τ).loc main_arg4) = (ar4 m c) :=
  (θ_run _ _ _).mono (fun _ h c => ⟨(h c).1.trans (final5 m c), (h c).2.1.trans (final6 m c), (h c).2.2.1.trans (final7 m c), (h c).2.2.2⟩)
    (Cert.Kernel8Ideal.Value.run_blocks (F := Ideal) m ρ)

theorem ref_v1 (x0 : FVec Ideal S4096x1024 .f32) (x2 : FVec Ideal S4096x2816 .f32) (x3 : FVec Ideal S2816x1024 .f32) (j : S4096x1024.Idx) :
    val_main_v1 (F := Ideal) x0 x2 x3 j = sumRow x0 x2 x3 (j 0) (j 1) := by
  idx_vars j
  unfold val_main_v1 val_main_v0
  pointwise [sumRow]

theorem ref_v8 (x0 : FVec Ideal S4096x1024 .f32) (x2 : FVec Ideal S4096x2816 .f32) (x3 : FVec Ideal S2816x1024 .f32) (j : Cert.Reference8Ideal.S4096x1.Idx) :
    val_main_v8 (F := Ideal) x0 x2 x3 j = ms (sumRow x0 x2 x3 (j 0)) := by
  idx_vars j
  unfold val_main_v8 val_main_v7 val_main_cst_1 val_main_v6 val_main_v5 val_main_cst_0 val_main_v4 val_main_v3 val_main_cst val_main_v2
  pointwise [ms, ref_v1]

theorem ref_v14 (x0 : FVec Ideal S4096x1024 .f32) (x2 : FVec Ideal S4096x2816 .f32) (x3 : FVec Ideal S2816x1024 .f32) (j : S4096x1024.Idx) :
    val_main_v14 (F := Ideal) x0 x2 x3 j = xh (sumRow x0 x2 x3 (j 0)) (j 1) := by
  idx_vars j
  unfold val_main_v14 val_main_v13 val_main_v9
  pointwise [xh, rs, ref_v1, ref_v8]

theorem ref_v17 (x0 : FVec Ideal S4096x1024 .f32) (x1 : FVec Ideal S1x1024 .f32) (x2 : FVec Ideal S4096x2816 .f32) (x3 : FVec Ideal S2816x1024 .f32) (x4 : FVec Ideal S4096x1024 .f32) (j : S4096x1024.Idx) :
    val_main_v17 (F := Ideal) x0 x1 x2 x3 x4 j = err (sumRow x0 x2 x3 (j 0)) (gain x1) (tgt x4 (j 0)) (j 1) := by
  idx_vars j
  unfold val_main_v17 val_main_v16 val_main_v15
  pointwise [err, ref_v14]

theorem ref_v25 (x0 : FVec Ideal S4096x1024 .f32) (x1 : FVec Ideal S1x1024 .f32) (x2 : FVec Ideal S4096x2816 .f32) (x3 : FVec Ideal S2816x1024 .f32) (x4 : FVec Ideal S4096x1024 .f32) (j : Cert.Reference8Ideal.S_.Idx) :
    val_main_v25 (F := Ideal) x0 x1 x2 x3 x4 j = hlf * ∑ s : Fin 4096, share x0 x1 x2 x3 x4 s := by
  skip
  unfold val_main_v25 val_main_cst_7 val_main_v24 val_main_cst_6 val_main_v23 val_main_v22 val_main_cst_5 val_main_v21 val_main_cst_4 val_main_v18
  pointwise [share, lossRow, ref_v17]

theorem inv_real : inv = ((1 / 1024 : ℝ) : EReal) := by
  simp [Ideal.ofBits, Ideal.ieee, -EReal.coe_mul]; norm_num
theorem hlf_real : hlf = ((1 / 2 : ℝ) : EReal) := by
  simp [Ideal.ofBits, Ideal.ieee, -EReal.coe_mul]; norm_num
theorem two_real : Ideal.ofBits .f32 0x40000000#32 = ((2 : ℝ) : EReal) := by
  simp [Ideal.ofBits, Ideal.ieee, -EReal.coe_mul]; norm_num
theorem one_real : Ideal.ofBits .f32 0x3F800000#32 = ((1 : ℝ) : EReal) := by
  simp [Ideal.ofBits, Ideal.ieee, -EReal.coe_mul]; norm_num

/-- The cotangent of an error: a half of twice it, over the row's length. -/
theorem scale_eq {e : EReal} (he : IsReal e) : Ideal.div (hlf * Ideal.ofBits .f32 0x3F800000#32) wid * (Ideal.ofBits .f32 0x40000000#32 * e) = e * inv := by
  obtain ⟨v, rfl⟩ := he
  rw [hlf_real, one_real, two_real, inv_real, wid_real, ← EReal.coe_mul, Ideal.div_coe (by norm_num), ← EReal.coe_mul, ← EReal.coe_mul, ← EReal.coe_mul, ← EReal.coe_mul]
  congr 1
  ring

section
variable (x0 : FVec Ideal S4096x1024 .f32) (x1 : FVec Ideal S1x1024 .f32) (x2 : FVec Ideal S4096x2816 .f32) (x3 : FVec Ideal S2816x1024 .f32) (x4 : FVec Ideal S4096x1024 .f32) (hx : ∀ i, IsReal (x0 i)) (hg : ∀ i, IsReal (x1 i)) (ha : ∀ i, IsReal (x2 i)) (hw : ∀ i, IsReal (x3 i)) (hy : ∀ i, IsReal (x4 i))
include hx ha hw
theorem sumRow_real (s : Fin 4096) (k : Fin 1024) : IsReal (sumRow x0 x2 x3 s k) := (hx _).add (IsReal.sum _ fun l _ => (ha _).mul (hw _))
include hg hy
theorem err_real (s : Fin 4096) (k : Fin 1024) : IsReal (err (sumRow x0 x2 x3 s) (gain x1) (tgt x4 s) k) := by
  obtain ⟨u, hu⟩ := (xh_isReal (fun k => sumRow_real x0 x2 x3 hx ha hw s k) k).mul (hg (ix2 0 k))
  obtain ⟨v, hv⟩ := hy (ix2 s k)
  refine ⟨u - v, ?_⟩
  show xh _ k * x1 (ix2 0 k) - x4 (ix2 s k) = _
  rw [hu, hv, EReal.coe_sub]
theorem dy_real (s : Fin 4096) (k : Fin 1024) : IsReal (dy (sumRow x0 x2 x3 s) (gain x1) (tgt x4 s) k) :=
  (err_real x0 x1 x2 x3 x4 hx hg ha hw hy s k).mul ⟨_, inv_real⟩
theorem share_real (s : Fin 4096) : IsReal (share x0 x1 x2 x3 x4 s) := by
  obtain ⟨v, hv⟩ := IsReal.sum Finset.univ fun k (_ : k ∈ Finset.univ) => (err_real x0 x1 x2 x3 x4 hx hg ha hw hy s k).mul (err_real x0 x1 x2 x3 x4 hx hg ha hw hy s k)
  unfold share lossRow
  rw [hv, wid_real, Ideal.div_coe (by norm_num)]
  exact ⟨_, (EReal.coe_mul _ _).symm⟩

theorem value_eq (j : S1x1.Idx) : value x0 x1 x2 x3 x4 j = hlf * ∑ s : Fin 4096, share x0 x1 x2 x3 x4 s := by
  have h := share_real x0 x1 x2 x3 x4 hx hg ha hw hy
  unfold value
  rw [← sum_in (n := 8) (w := 512) rfl (share x0 x1 x2 x3 x4), hlf_real, mul_sum_real _ _ fun q => IsReal.sum _ fun p _ => h _]

theorem ref_v31 (j : S4096x1024.Idx) : val_main_v31 (F := Ideal) x0 x1 x2 x3 x4 j = dy (sumRow x0 x2 x3 (j 0)) (gain x1) (tgt x4 (j 0)) (j 1) := by
  refine Eq.trans ?_ (scale_eq (err_real x0 x1 x2 x3 x4 hx hg ha hw hy (j 0) (j 1)))
  idx_vars j
  unfold val_main_v31 val_main_v30 val_main_v29 val_main_v28 val_main_cst_10 val_main_v27 val_main_v26 val_main_cst_9 val_main_cst_8 val_main_v20 val_main_v19 val_main_cst_3
  pointwise [ref_v17]

theorem ref_v34 : val_main_v34 (F := Ideal) x0 x1 x2 x3 x4 = gradG x0 x1 x2 x3 x4 := by
  funext j
  unfold gradG
  idx_vars j
  have e := ref_v31 x0 x1 x2 x3 x4 hx hg ha hw hy
  unfold val_main_v34 val_main_v33 val_main_cst_11 val_main_v32
  pointwise [e, ref_v14, term]
  exact Finset.sum_congr rfl fun s _ => mul_comm _ _

theorem ref_v45 (j : Cert.Reference8Ideal.S4096.Idx) : val_main_v45 (F := Ideal) x0 x1 x2 x3 x4 j
    = half (dy (sumRow x0 x2 x3 (j 0)) (gain x1) (tgt x4 (j 0))) (sumRow x0 x2 x3 (j 0)) (gain x1) := by
  have e := ref_v31 x0 x1 x2 x3 x4 hx hg ha hw hy
  idx_vars j
  unfold val_main_v45 val_main_cst_14 val_main_v44 val_main_v43 val_main_cst_13 val_main_v42 val_main_v39 val_main_v38 val_main_cst_12 val_main_v37 val_main_v36 val_main_v35 val_main_v12 val_main_v11 val_main_cst_2 val_main_v10 val_main_v9
  pointwise [e, ref_v8, ref_v1, half, rs]
  exact Fin.sum_univ_one _

theorem ref_v50 : val_main_v50 (F := Ideal) x0 x1 x2 x3 x4 = gradX x0 x1 x2 x3 x4 := by
  funext j
  have key := core_eq (dy_real x0 x1 x2 x3 x4 hx hg ha hw hy (j 0)) (sumRow_real x0 x2 x3 hx ha hw (j 0)) (fun k => hg (ix2 0 k)) (j 1)
  refine Eq.trans ?_ key.symm
  have e := ref_v31 x0 x1 x2 x3 x4 hx hg ha hw hy
  have e' := ref_v45 x0 x1 x2 x3 x4 hx hg ha hw hy
  idx_vars j
  unfold val_main_v50 val_main_v49 val_main_v48 val_main_v47 val_main_v46 val_main_v41 val_main_v40 val_main_v36 val_main_v35 val_main_v9
  pointwise [e, e', ref_v8, ref_v1, gradCore, rs]

theorem ref_v51 : val_main_v51 (F := Ideal) x0 x1 x2 x3 x4 = value x0 x1 x2 x3 x4 := by
  funext j
  rw [value_eq x0 x1 x2 x3 x4 hx hg ha hw hy]
  unfold val_main_v51
  pointwise [ref_v25]
end

/-- What the precondition says. -/
theorem finite_of_pre (x0 : FVec Ideal S4096x1024 .f32) (x1 : FVec Ideal S1x1024 .f32) (x2 : FVec Ideal S4096x2816 .f32) (x3 : FVec Ideal S2816x1024 .f32) (x4 : FVec Ideal S4096x1024 .f32)
    (h : Cert.Pre_finite_loss.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have e := congrFun h (fun a => a.elim0)
  unfold Cert.Pre_finite_loss.fn Cert.Pre_finite_loss.fn_part1 Cert.Pre_finite_loss.fn_part2 at e
  obtain ⟨e4x, e4⟩ := IntOp.andi_eq_one.1 e
  obtain ⟨e3x, e3⟩ := IntOp.andi_eq_one.1 e4x
  obtain ⟨e2x, e2⟩ := IntOp.andi_eq_one.1 e3x
  obtain ⟨e1x, e1⟩ := IntOp.andi_eq_one.1 e2x
  exact ⟨fun i => isReal_of_all e1x (fun i => rfl) (fun i => rfl) i, fun i => isReal_of_all e1 (fun i => rfl) (fun i => rfl) i, fun i => isReal_of_all e2 (fun i => rfl) (fun i => rfl) i, fun i => isReal_of_all e3 (fun i => rfl) (fun i => rfl) i, fun i => isReal_of_all e4 (fun i => rfl) (fun i => rfl) i⟩

theorem frame_ref : Cert.quiescent_Reference8Ideal := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

theorem algebraic : Cert.algebraic_Kernel8Ideal_Reference8Ideal_pre_finite_loss := by
  intro m ρ m' ρ' hpre hagree
  refine ⟨fun c => value (ar0 m c) (ar1 m c) (ar2 m c) (ar3 m c) (ar4 m c), fun c => gradX (ar0 m c) (ar1 m c) (ar2 m c) (ar3 m c) (ar4 m c), fun c => gradG (ar0 m c) (ar1 m c) (ar2 m c) (ar3 m c) (ar4 m c), run m ρ, ?_⟩
  refine (θ_run Cert.Reference8Ideal.defs _ _).mono (fun _ h c => ⟨(h c).1.trans ?_, (h c).2.1.trans ?_, (h c).2.2.1.trans ?_, (h c).2.2.2⟩) (Cert.Reference8Ideal.Value.run (F := Ideal) m' ρ')
  · obtain ⟨a0, a1, a2, a3, a4⟩ := hagree c
    rw [val_main_v51_eq, a0, a1, a2, a3, a4]
    obtain ⟨h0, h1, h2, h3, h4⟩ := finite_of_pre _ _ _ _ _ (hpre c)
    exact ref_v51 _ _ _ _ _ h0 h1 h2 h3 h4
  · obtain ⟨a0, a1, a2, a3, a4⟩ := hagree c
    rw [val_main_v50_eq, a0, a1, a2, a3, a4]
    obtain ⟨h0, h1, h2, h3, h4⟩ := finite_of_pre _ _ _ _ _ (hpre c)
    exact ref_v50 _ _ _ _ _ h0 h1 h2 h3 h4
  · obtain ⟨a0, a1, a2, a3, a4⟩ := hagree c
    rw [val_main_v34_eq, a0, a1, a2, a3, a4]
    obtain ⟨h0, h1, h2, h3, h4⟩ := finite_of_pre _ _ _ _ _ (hpre c)
    exact ref_v34 _ _ _ _ _ h0 h1 h2 h3 h4

end Cert.Loss
-- ==== Proof.Gate.lean ====
module

public import proofs.«01_k».proof.Proof.Gen.Kernel5Ideal.Value
public import proofs.«01_k».proof.Proof.Gen.Reference5Ideal.Read
public import proofs.«01_k».proof.Proof.Rms
public import proofs.«01_k».proof.Proof.Win

@[expose] public section

set_option maxRecDepth 16384

noncomputable section

namespace Cert.Gate

open Idealize.ShloMosaic Idealize.ShloMosaic.TcCoe Idealize.SL.Sem Cert.Common Cert.Rms
open Idealize.ShloMosaic.Pipeline (Dat RDat)
open Cert.Reference5Ideal.Read
open Cert.Kernel5Ideal Cert.Kernel5Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)
abbrev ar2 (c : Dev nD) := m ((c : Thread nD τ).loc main_arg2)
abbrev ar3 (c : Dev nD) := m ((c : Thread nD τ).loc main_arg3)
abbrev ar4 (c : Dev nD) := m ((c : Thread nD τ).loc main_arg4)
abbrev ar5 (c : Dev nD) := m ((c : Thread nD τ).loc main_arg5)

/-- One element: the gate, and the gradients of its product with a branch. -/
abbrev one : EReal := Ideal.ofBits .f32 0x3F800000#32
def logi (z : EReal) : EReal := Ideal.div one (one + Ideal.exp (0 - z))
def dz (d y s : EReal) : EReal := d * y * s * (one - s)

/-- The cotangent of the merged branches in a tile. -/
def ctBlk (x0 : Vec Ideal S512x1024 .f32) (x1 : Vec Ideal S1024x1024 .bf16) (p : Fin 512) (c : Fin 1024) : EReal :=
  ∑ k : Fin 1024, (x0 (ix2 p k) * x1 (ix2 c k) : EReal)
def sigBlk (v5 : Vec Ideal S512x1024 .bf16) (v8 : Vec Ideal S1x1024 .f32) (p : Fin 512) (c : Fin 1024) : EReal :=
  logi (v5 (ix2 p c) + v8 (ix2 0 c) : EReal)
def dzBlk (x0 : Vec Ideal S512x1024 .f32) (x1 : Vec Ideal S1024x1024 .bf16) (y v5 : Vec Ideal S512x1024 .bf16) (v8 : Vec Ideal S1x1024 .f32) (p : Fin 512) (c : Fin 1024) : EReal :=
  dz (ctBlk x0 x1 p c) (y (ix2 p c)) (sigBlk v5 v8 p c)

section
variable (v0 : Vec Ideal S512x1024 .f32) (v2 : Vec Ideal S1024x1024 .bf16) (v5 y : Vec Ideal S512x1024 .bf16) (v8 : Vec Ideal S1x1024 .f32)

theorem pay12_at (j : S512x1024.Idx) : k0_pay12 v0 v2 v5 v8 j = ctBlk v0 v2 (j 0) (j 1) * sigBlk v5 v8 (j 0) (j 1) := by
  idx_vars j
  unfold_payloads
  pointwise [ctBlk, sigBlk, logi]
theorem pay13_at (j : S512x1024.Idx) : k0_pay13 v0 v2 v5 v8 j = ctBlk v0 v2 (j 0) (j 1) * sigBlk v5 v8 (j 0) (j 1) := by
  idx_vars j
  unfold_payloads
  pointwise [ctBlk, sigBlk, logi]
theorem pay1_at (j : S512x1024.Idx) : k0_pay1 (k0_pay9 v0 v2) (k0_pay10 v5 v8) y j = dzBlk v0 v2 y v5 v8 (j 0) (j 1) := by
  idx_vars j
  unfold_payloads
  pointwise [dzBlk, dz, ctBlk, sigBlk, logi]
theorem pay2_at (j : S512x1024.Idx) : k0_pay2 (k0_pay9 v0 v2) (k0_pay11 v5 v8) y j = dzBlk v0 v2 y v5 v8 (j 0) (j 1) := by
  idx_vars j
  unfold_payloads
  pointwise [dzBlk, dz, ctBlk, sigBlk, logi]
theorem pay5_at (j : S1x1024.Idx) : k0_pay5 (k0_pay9 v0 v2) (k0_pay10 v5 v8) y j = ∑ p : Fin 512, dzBlk v0 v2 y v5 v8 p (j 1) := by
  idx_vars j
  unfold_payloads
  pointwise [dzBlk, dz, ctBlk, sigBlk, logi]
theorem pay6_at (j : S1x1024.Idx) : k0_pay6 (k0_pay9 v0 v2) (k0_pay11 v5 v8) y j = ∑ p : Fin 512, dzBlk v0 v2 y v5 v8 p (j 1) := by
  idx_vars j
  unfold_payloads
  pointwise [dzBlk, dz, ctBlk, sigBlk, logi]
end

/-- The two halves of the gates. -/
def lo (c : Fin 1024) : Fin 2048 := ⟨c.val, by omega⟩
def hi (c : Fin 1024) : Fin 2048 := ⟨1024 + c.val, by omega⟩

theorem halves_tile (f : S512x2048.Idx → EReal) (u v : FVec Ideal S512x1024 .bf16)
    (hu : ∀ x : S512x1024.Idx, u x = f (ix2 (x 0) (hi (x 1)))) (hv : ∀ x : S512x1024.Idx, v x = f (ix2 (x 0) (lo (x 1)))) (j : S512x2048.Idx) :
    View.canon (Val := Elt Ideal) (s := S512x2048) (e := .bf16) [⟨Rect.unit ![0, 1024] ![512, 1024] inb_S512x2048_S512x1024_0_1024, u⟩, ⟨Rect.unit ![0, 0] ![512, 1024] inb_S512x2048_S512x1024_0_0, v⟩] j = f j := by
  refine View.canon_apply_of_pieces (Val := Elt Ideal) (e := .bf16) f _ ?_ j ?_
  · intro p hp x
    rcases List.mem_cons.1 hp with rfl | hp
    · refine (hu x).trans (congrArg f (funext fun a => Fin.ext ?_))
      match a with
      | ⟨0, _⟩ => show (x 0).val = 0 + 1 * (x 0).val; omega
      | ⟨1, _⟩ => show 1024 + (x 1).val = 1024 + 1 * (x 1).val; omega
    · rcases List.mem_cons.1 hp with rfl | hp
      · refine (hv x).trans (congrArg f (funext fun a => Fin.ext ?_))
        match a with
        | ⟨0, _⟩ => show (x 0).val = 0 + 1 * (x 0).val; omega
        | ⟨1, _⟩ => show (x 1).val = 0 + 1 * (x 1).val; omega
      · cases hp
  · have h0 := (j 0).isLt
    have h1 := (j 1).isLt
    change (j 0).val < 512 at h0
    change (j 1).val < 2048 at h1
    by_cases h : (j 1).val < 1024
    · refine ⟨_, List.mem_cons_of_mem _ (List.mem_cons_self ..), ?_⟩
      show j ∈ (Rect.unit (s := S512x2048) ![0, 0] ![512, 1024] inb_S512x2048_S512x1024_0_0).set
      rw [Rect.mem_set_unit]
      intro a
      match a with
      | ⟨0, _⟩ => exact ⟨Nat.zero_le _, by show (j 0).val < 0 + 512; omega⟩
      | ⟨1, _⟩ => exact ⟨Nat.zero_le _, by show (j 1).val < 0 + 1024; omega⟩
    · refine ⟨_, List.mem_cons_self .., ?_⟩
      show j ∈ (Rect.unit (s := S512x2048) ![0, 1024] ![512, 1024] inb_S512x2048_S512x1024_0_1024).set
      rw [Rect.mem_set_unit]
      intro a
      match a with
      | ⟨0, _⟩ => exact ⟨Nat.zero_le _, by show (j 0).val < 0 + 512; omega⟩
      | ⟨1, _⟩ => exact ⟨by show 1024 ≤ (j 1).val; omega, by show (j 1).val < 1024 + 1024; omega⟩

theorem halves_row (f : S1x2048.Idx → EReal) (u v : FVec Ideal S1x1024 .f32)
    (hu : ∀ x : S1x1024.Idx, u x = f (ix2 (x 0) (hi (x 1)))) (hv : ∀ x : S1x1024.Idx, v x = f (ix2 (x 0) (lo (x 1)))) (j : S1x2048.Idx) :
    View.canon (Val := Elt Ideal) (s := S1x2048) (e := .f32) [⟨Rect.unit ![0, 1024] ![1, 1024] inb_S1x2048_S1x1024_0_1024, u⟩, ⟨Rect.unit ![0, 0] ![1, 1024] inb_S1x2048_S1x1024_0_0, v⟩] j = f j := by
  refine View.canon_apply_of_pieces (Val := Elt Ideal) (e := .f32) f _ ?_ j ?_
  · intro p hp x
    rcases List.mem_cons.1 hp with rfl | hp
    · refine (hu x).trans (congrArg f (funext fun a => Fin.ext ?_))
      match a with
      | ⟨0, _⟩ => show (x 0).val = 0 + 1 * (x 0).val; omega
      | ⟨1, _⟩ => show 1024 + (x 1).val = 1024 + 1 * (x 1).val; omega
    · rcases List.mem_cons.1 hp with rfl | hp
      · refine (hv x).trans (congrArg f (funext fun a => Fin.ext ?_))
        match a with
        | ⟨0, _⟩ => show (x 0).val = 0 + 1 * (x 0).val; omega
        | ⟨1, _⟩ => show (x 1).val = 0 + 1 * (x 1).val; omega
      · cases hp
  · have h0 := (j 0).isLt
    have h1 := (j 1).isLt
    change (j 0).val < 1 at h0
    change (j 1).val < 2048 at h1
    by_cases h : (j 1).val < 1024
    · refine ⟨_, List.mem_cons_of_mem _ (List.mem_cons_self ..), ?_⟩
      show j ∈ (Rect.unit (s := S1x2048) ![0, 0] ![1, 1024] inb_S1x2048_S1x1024_0_0).set
      rw [Rect.mem_set_unit]
      intro a
      match a with
      | ⟨0, _⟩ => exact ⟨Nat.zero_le _, by show (j 0).val < 0 + 1; omega⟩
      | ⟨1, _⟩ => exact ⟨Nat.zero_le _, by show (j 1).val < 0 + 1024; omega⟩
    · refine ⟨_, List.mem_cons_self .., ?_⟩
      show j ∈ (Rect.unit (s := S1x2048) ![0, 1024] ![1, 1024] inb_S1x2048_S1x1024_0_1024).set
      rw [Rect.mem_set_unit]
      intro a
      match a with
      | ⟨0, _⟩ => exact ⟨Nat.zero_le _, by show (j 0).val < 0 + 1; omega⟩
      | ⟨1, _⟩ => exact ⟨by show 1024 ≤ (j 1).val; omega, by show (j 1).val < 1024 + 1024; omega⟩

/-- The tiles of the four results: the two halves of the gates stand side by side. -/
def dyaBlk (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) : Vec Ideal S512x1024 .bf16 := fun j => ctBlk x0 x1 (j 0) (j 1) * sigBlk x2 x4 (j 0) (j 1)
def dybBlk (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) : Vec Ideal S512x1024 .bf16 := fun j => ctBlk x0 x1 (j 0) (j 1) * sigBlk x3 x5 (j 0) (j 1)
def dglBlk (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) : Vec Ideal S512x2048 .bf16 := fun j =>
  if h : (j 1).val < 1024 then dzBlk x0 x1 x6 x2 x4 (j 0) ⟨(j 1).val, h⟩
  else dzBlk x0 x1 x7 x3 x5 (j 0) ⟨(j 1).val - 1024, by have := (j 1).isLt; change (j 1).val < 2048 at this; omega⟩
def dbgBlk (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) : Vec Ideal S1x2048 .f32 := fun j => ∑ p : Fin 512, dglBlk x0 x1 x2 x3 x4 x5 x6 x7 (ix2 p (j 1))

section
variable (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16)
theorem dgl_lo (p : Fin 512) (c : Fin 1024) : dglBlk x0 x1 x2 x3 x4 x5 x6 x7 (ix2 p (lo c)) = dzBlk x0 x1 x6 x2 x4 p c := dif_pos c.isLt
theorem dgl_hi (p : Fin 512) (c : Fin 1024) : dglBlk x0 x1 x2 x3 x4 x5 x6 x7 (ix2 p (hi c)) = dzBlk x0 x1 x7 x3 x5 p c := by
  refine (dif_neg (by show ¬1024 + c.val < 1024; omega)).trans (congrArg (dzBlk x0 x1 x7 x3 x5 p) (Fin.ext ?_))
  show 1024 + c.val - 1024 = c.val
  omega
end

section
variable (c : Dev nD) (i : grid0.Coords) (a1 : Memref sig .tc .vmem S512x1024 .f32) (h1 : a1.IsWhole) (a2 : Memref sig .tc .vmem S1024x1024 .bf16) (h2 : a2.IsWhole) (a3 : Memref sig .tc .vmem S512x1024 .bf16) (h3 : a3.IsWhole) (a4 : Memref sig .tc .vmem S512x1024 .bf16) (h4 : a4.IsWhole) (a5 : Memref sig .tc .vmem S1x1024 .f32) (h5 : a5.IsWhole) (a6 : Memref sig .tc .vmem S1x1024 .f32) (h6 : a6.IsWhole) (a7 : Memref sig .tc .vmem S512x1024 .bf16) (h7 : a7.IsWhole) (a8 : Memref sig .tc .vmem S512x1024 .bf16) (h8 : a8.IsWhole) (a9 : Memref sig .tc .vmem S512x1024 .bf16) (h9 : a9.IsWhole) (a10 : Memref sig .tc .vmem S512x1024 .bf16) (h10 : a10.IsWhole) (a11 : Memref sig .tc .vmem S512x2048 .bf16) (h11 : a11.IsWhole) (a12 : Memref sig .tc .vmem S1x2048 .f32) (h12 : a12.IsWhole)

theorem out_A8 (hc0 : cond0_0 i) (hc1 : ¬cond0_1 i) (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) :
    out0_A_8 c i a1 h1 a2 h2 a3 h3 a4 h4 a5 h5 a6 h6 a7 h7 a8 h8 a9 h9 a10 h10 a11 h11 a12 h12 hc0 hc1 x0 x1 x2 x3 x4 x5 x6 x7 = dyaBlk x0 x1 x2 x3 x4 x5 x6 x7 := by
  unfold out0_A_8
  rw [View.read_writes_eq_canon _ _ _ (cover0_A_8 c i a1 h1 a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread,
    View.ld_unit_zero (S := S512x1024) hz2, View.ld_unit_zero (S := S1024x1024) hz2, View.ld_unit_zero (S := S1x1024) hz2]
  funext j
  exact pay12_at _ _ _ _ j

theorem out_A9 (hc0 : cond0_0 i) (hc1 : ¬cond0_1 i) (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) :
    out0_A_9 c i a1 h1 a2 h2 a3 h3 a4 h4 a5 h5 a6 h6 a7 h7 a8 h8 a9 h9 a10 h10 a11 h11 a12 h12 hc0 hc1 x0 x1 x2 x3 x4 x5 x6 x7 = dybBlk x0 x1 x2 x3 x4 x5 x6 x7 := by
  unfold out0_A_9
  rw [View.read_writes_eq_canon _ _ _ (cover0_A_9 c i a1 h1 a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread,
    View.ld_unit_zero (S := S512x1024) hz2, View.ld_unit_zero (S := S1024x1024) hz2, View.ld_unit_zero (S := S1x1024) hz2]
  funext j
  exact pay13_at _ _ _ _ j

theorem out_B8 (hc0 : ¬cond0_0 i) (hc1 : cond0_1 i) (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) (xo : Vec Ideal S1x2048 .f32) :
    out0_B_8 c i a1 h1 a2 h2 a3 h3 a4 h4 a5 h5 a6 h6 a7 h7 a8 h8 a9 h9 a10 h10 a11 h11 a12 h12 hc0 hc1 x0 x1 x2 x3 x4 x5 x6 x7 xo = dyaBlk x0 x1 x2 x3 x4 x5 x6 x7 := by
  unfold out0_B_8
  rw [View.read_writes_eq_canon _ _ _ (cover0_B_8 c i a1 h1 a2 h2 a3 h3 a4 h4 a5 h5 a6 h6 a7 h7 a8 h8 a9 h9 a10 h10 a11 h11 a12 h12 hc0 hc1 x0 x1 x2 x3 x4 x5 x6 x7 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h12.read_unread,
    View.ld_unit_zero (S := S512x1024) hz2, View.ld_unit_zero (S := S1024x1024) hz2, View.ld_unit_zero (S := S1x1024) hz2]
  funext j
  exact pay12_at _ _ _ _ j

theorem out_B9 (hc0 : ¬cond0_0 i) (hc1 : cond0_1 i) (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) (xo : Vec Ideal S1x2048 .f32) :
    out0_B_9 c i a1 h1 a2 h2 a3 h3 a4 h4 a5 h5 a6 h6 a7 h7 a8 h8 a9 h9 a10 h10 a11 h11 a12 h12 hc0 hc1 x0 x1 x2 x3 x4 x5 x6 x7 xo = dybBlk x0 x1 x2 x3 x4 x5 x6 x7 := by
  unfold out0_B_9
  rw [View.read_writes_eq_canon _ _ _ (cover0_B_9 c i a1 h1 a2 h2 a3 h3 a4 h4 a5 h5 a6 h6 a7 h7 a8 h8 a9 h9 a10 h10 a11 h11 a12 h12 hc0 hc1 x0 x1 x2 x3 x4 x5 x6 x7 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h12.read_unread,
    View.ld_unit_zero (S := S512x1024) hz2, View.ld_unit_zero (S := S1024x1024) hz2, View.ld_unit_zero (S := S1x1024) hz2]
  funext j
  exact pay13_at _ _ _ _ j

theorem out_A10 (hc0 : cond0_0 i) (hc1 : ¬cond0_1 i) (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) :
    out0_A_10 c i a1 h1 a2 h2 a3 h3 a4 h4 a5 h5 a6 h6 a7 h7 a8 h8 a9 h9 a10 h10 a11 h11 a12 h12 hc0 hc1 x0 x1 x2 x3 x4 x5 x6 x7 = dglBlk x0 x1 x2 x3 x4 x5 x6 x7 := by
  unfold out0_A_10
  rw [View.read_writes_eq_canon _ _ _ (cover0_A_10 c i a1 h1 a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread,
    View.ld_unit_zero (S := S512x1024) hz2, View.ld_unit_zero (S := S1024x1024) hz2, View.ld_unit_zero (S := S1x1024) hz2]
  funext j
  refine halves_tile (dglBlk x0 x1 x2 x3 x4 x5 x6 x7) _ _ (fun x => ?_) (fun x => ?_) j
  · exact (pay2_at _ _ _ _ _ x).trans (dgl_hi x0 x1 x2 x3 x4 x5 x6 x7 (x 0) (x 1)).symm
  · exact (pay1_at _ _ _ _ _ x).trans (dgl_lo x0 x1 x2 x3 x4 x5 x6 x7 (x 0) (x 1)).symm

theorem out_B10 (hc0 : ¬cond0_0 i) (hc1 : cond0_1 i) (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) (xo : Vec Ideal S1x2048 .f32) :
    out0_B_10 c i a1 h1 a2 h2 a3 h3 a4 h4 a5 h5 a6 h6 a7 h7 a8 h8 a9 h9 a10 h10 a11 h11 a12 h12 hc0 hc1 x0 x1 x2 x3 x4 x5 x6 x7 xo = dglBlk x0 x1 x2 x3 x4 x5 x6 x7 := by
  unfold out0_B_10
  rw [View.read_writes_eq_canon _ _ _ (cover0_B_10 c i a1 h1 a2 h2 a3 h3 a4 h4 a5 h5 a6 h6 a7 h7 a8 h8 a9 h9 a10 h10 a11 h11 a12 h12 hc0 hc1 x0 x1 x2 x3 x4 x5 x6 x7 xo)]
  unfold kernelRun0_B
  dsimp only
  sl_unfold_words
  simp only [View.readAt_eq_ld, h1.read_unread, h2.read_unread, h3.read_unread, h4.read_unread, h5.read_unread, h6.read_unread, h7.read_unread, h8.read_unread, h12.read_unread,
    View.ld_unit_zero (S := S512x1024) hz2, View.ld_unit_zero (S := S1024x1024) hz2, View.ld_unit_zero (S := S1x1024) hz2]
  funext j
  refine halves_tile (dglBlk x0 x1 x2 x3 x4 x5 x6 x7) _ _ (fun x => ?_) (fun x => ?_) j
  · exact (pay2_at _ _ _ _ _ x).trans (dgl_hi x0 x1 x2 x3 x4 x5 x6 x7 (x 0) (x 1)).symm
  · exact (pay1_at _ _ _ _ _ x).trans (dgl_lo x0 x1 x2 x3 x4 x5 x6 x7 (x 0) (x 1)).symm

theorem out_A11 (hc0 : cond0_0 i) (hc1 : ¬cond0_1 i) (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) :
    out0_A_11 c i a1 h1 a2 h2 a3 h3 a4 h4 a5 h5 a6 h6 a7 h7 a8 h8 a9 h9 a10 h10 a11 h11 a12 h12 hc0 hc1 x0 x1 x2 x3 x4 x5 x6 x7 = dbgBlk x0 x1 x2 x3 x4 x5 x6 x7 := by
  unfold out0_A_11
  rw [View.read_writes_eq_canon _ _ _ (cover0_A_11 c i a1 h1 a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread,
    View.ld_unit_zero (S := S512x1024) hz2, View.ld_unit_zero (S := S1024x1024) hz2, View.ld_unit_zero (S := S1x1024) hz2]
  funext j
  refine halves_row (dbgBlk x0 x1 x2 x3 x4 x5 x6 x7) _ _ (fun x => ?_) (fun x => ?_) j
  · refine (pay6_at _ _ _ _ _ x).trans (Finset.sum_congr rfl fun p _ => ?_)
    exact (dgl_hi x0 x1 x2 x3 x4 x5 x6 x7 p (x 1)).symm
  · refine (pay5_at _ _ _ _ _ x).trans (Finset.sum_congr rfl fun p _ => ?_)
    exact (dgl_lo x0 x1 x2 x3 x4 x5 x6 x7 p (x 1)).symm

theorem out_B11 (hc0 : ¬cond0_0 i) (hc1 : cond0_1 i) (x0 : Vec Ideal S512x1024 .f32) (x1 : Vec Ideal S1024x1024 .bf16) (x2 : Vec Ideal S512x1024 .bf16) (x3 : Vec Ideal S512x1024 .bf16) (x4 : Vec Ideal S1x1024 .f32) (x5 : Vec Ideal S1x1024 .f32) (x6 : Vec Ideal S512x1024 .bf16) (x7 : Vec Ideal S512x1024 .bf16) (xo : Vec Ideal S1x2048 .f32) :
    out0_B_11 c i a1 h1 a2 h2 a3 h3 a4 h4 a5 h5 a6 h6 a7 h7 a8 h8 a9 h9 a10 h10 a11 h11 a12 h12 hc0 hc1 x0 x1 x2 x3 x4 x5 x6 x7 xo = fun j => (xo j + dbgBlk x0 x1 x2 x3 x4 x5 x6 x7 j : EReal) := by
  unfold out0_B_11
  rw [View.read_writes_eq_canon _ _ _ (cover0_B_11 c i a1 h1 a2 h2 a3 h3 a4 h4 a5 h5 a6 h6 a7 h7 a8 h8 a9 h9 a10 h10 a11 h11 a12 h12 hc0 hc1 x0 x1 x2 x3 x4 x5 x6 x7 xo)]
  unfold kernelRun0_B
  dsimp only
  sl_unfold_words
  simp only [View.readAt_eq_ld, h1.read_unread, h2.read_unread, h3.read_unread, h4.read_unread, h5.read_unread, h6.read_unread, h7.read_unread, h8.read_unread, h12.read_unread,
    View.ld_unit_zero (S := S512x1024) hz2, View.ld_unit_zero (S := S1024x1024) hz2, View.ld_unit_zero (S := S1x1024) hz2]
  funext j
  refine halves_row (fun j => (xo j + dbgBlk x0 x1 x2 x3 x4 x5 x6 x7 j : EReal)) _ _ (fun x => ?_) (fun x => ?_) j
  · unfold k0_pay8
    rw [shapeCast_self]
    refine congrArg₂ (fun a b : EReal => a + b) (View.ld_unit_apply_of _ _ _ _ _ _ fun a => ?_) ((pay6_at _ _ _ _ _ x).trans (Finset.sum_congr rfl fun p _ => (dgl_hi x0 x1 x2 x3 x4 x5 x6 x7 p (x 1)).symm))
    match a with
    | ⟨0, _⟩ => show (x 0).val = 0 + (x 0).val; omega
    | ⟨1, _⟩ => show 1024 + (x 1).val = 1024 + (x 1).val; omega
  · unfold k0_pay7
    rw [shapeCast_self]
    refine congrArg₂ (fun a b : EReal => a + b) (View.ld_unit_apply_of _ _ _ _ _ _ fun a => ?_) ((pay5_at _ _ _ _ _ x).trans (Finset.sum_congr rfl fun p _ => (dgl_lo x0 x1 x2 x3 x4 x5 x6 x7 p (x 1)).symm))
    match a with
    | ⟨0, _⟩ => show (x 0).val = 0 + (x 0).val; omega
    | ⟨1, _⟩ => show (x 1).val = 0 + (x 1).val; omega

end

theorem V_v0 (c : Dev nD) (i : S1024x1024.Idx) : V m c main_v0 i = ar4 m c i := by
  unfold V
  after_reads_at

theorem V_v1 (c : Dev nD) (i : S4096x2048.Idx) : V m c main_v1 i = ar0 m c i := by
  unfold V
  after_reads_at

theorem V_v2 (c : Dev nD) (i : S4096x1024.Idx) : V m c main_v2 i = ar2 m c i := by
  unfold V
  after_reads_at

theorem V_v3 (c : Dev nD) (i : S4096x1024.Idx) : V m c main_v3 i = ar3 m c i := by
  unfold V
  after_reads_at

theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 ∧ win0_3.index t 0 = t.val ∧ win0_3.index t 1 = 1 ∧ win0_4.index t 0 = 0 ∧ win0_4.index t 1 = 0 ∧ win0_5.index t 0 = 0 ∧ win0_5.index t 1 = 1 ∧ win0_6.index t 0 = t.val ∧ win0_6.index t 1 = 0 ∧ win0_7.index t 0 = t.val ∧ win0_7.index t 1 = 0 ∧ win0_8.index t 0 = t.val ∧ win0_8.index t 1 = 0 ∧ win0_9.index t 0 = t.val ∧ win0_9.index t 1 = 0 ∧ win0_10.index t 0 = t.val ∧ win0_10.index t 1 = 0 ∧ win0_11.index t 0 = 0 ∧ win0_11.index t 1 = 0 ∧ t.val < 8 :=
  (by decide +kernel : ∀ t : Fin grid0.N, _)

theorem iblk0_at (c : Dev nD) (t : Fin cfg0.N) (y : S512x1024.Idx) (i : S4096x1024.Idx)
    (h0 : (i 0).val = t.val * 512 + (y 0).val) (h1 : (i 1).val = (y 1).val) :
    iblk m c 0 t y = ar5 m c i :=
  (congrArg (V m c main_arg5) (emb_of win0_0 t y i (fall2 (toBlk h0 (idx_facts t).1) (toBlk0 h1 (idx_facts t).2.1)))).trans (congrFun (V_main_arg5 m c) i)

theorem iblk1_at (c : Dev nD) (t : Fin cfg0.N) (y : S1024x1024.Idx) (i : S1024x1024.Idx)
    (h0 : (i 0).val = (y 0).val) (h1 : (i 1).val = (y 1).val) :
    iblk m c 1 t y = V m c main_v0 i :=
  congrArg (V m c main_v0) (emb_of win0_1 t y i (fall2 (toBlk0 h0 (idx_facts t).2.2.1) (toBlk0 h1 (idx_facts t).2.2.2.1)))

theorem iblk2_at (c : Dev nD) (t : Fin cfg0.N) (y : S512x1024.Idx) (i : S4096x2048.Idx)
    (h0 : (i 0).val = t.val * 512 + (y 0).val) (h1 : (i 1).val = (y 1).val) :
    iblk m c 2 t y = V m c main_v1 i :=
  congrArg (V m c main_v1) (emb_of win0_2 t y i (fall2 (toBlk h0 (idx_facts t).2.2.2.2.1) (toBlk0 h1 (idx_facts t).2.2.2.2.2.1)))

theorem iblk3_at (c : Dev nD) (t : Fin cfg0.N) (y : S512x1024.Idx) (i : S4096x2048.Idx)
    (h0 : (i 0).val = t.val * 512 + (y 0).val) (h1 : (i 1).val = 1 * 1024 + (y 1).val) :
    iblk m c 3 t y = V m c main_v1 i :=
  congrArg (V m c main_v1) (emb_of win0_3 t y i (fall2 (toBlk h0 (idx_facts t).2.2.2.2.2.2.1) (toBlk h1 (idx_facts t).2.2.2.2.2.2.2.1)))

theorem iblk4_at (c : Dev nD) (t : Fin cfg0.N) (y : S1x1024.Idx) (i : S1x2048.Idx)
    (h0 : (i 0).val = (y 0).val) (h1 : (i 1).val = (y 1).val) :
    iblk m c 4 t y = ar1 m c i :=
  (congrArg (V m c main_arg1) (emb_of win0_4 t y i (fall2 (toBlk0 h0 (idx_facts t).2.2.2.2.2.2.2.2.1) (toBlk0 h1 (idx_facts t).2.2.2.2.2.2.2.2.2.1)))).trans (congrFun (V_main_arg1 m c) i)

theorem iblk5_at (c : Dev nD) (t : Fin cfg0.N) (y : S1x1024.Idx) (i : S1x2048.Idx)
    (h0 : (i 0).val = (y 0).val) (h1 : (i 1).val = 1 * 1024 + (y 1).val) :
    iblk m c 5 t y = ar1 m c i :=
  (congrArg (V m c main_arg1) (emb_of win0_5 t y i (fall2 (toBlk0 h0 (idx_facts t).2.2.2.2.2.2.2.2.2.2.1) (toBlk h1 (idx_facts t).2.2.2.2.2.2.2.2.2.2.2.1)))).trans (congrFun (V_main_arg1 m c) i)

theorem iblk6_at (c : Dev nD) (t : Fin cfg0.N) (y : S512x1024.Idx) (i : S4096x1024.Idx)
    (h0 : (i 0).val = t.val * 512 + (y 0).val) (h1 : (i 1).val = (y 1).val) :
    iblk m c 6 t y = V m c main_v2 i :=
  congrArg (V m c main_v2) (emb_of win0_6 t y i (fall2 (toBlk h0 (idx_facts t).2.2.2.2.2.2.2.2.2.2.2.2.1) (toBlk0 h1 (idx_facts t).2.2.2.2.2.2.2.2.2.2.2.2.2.1)))

theorem iblk7_at (c : Dev nD) (t : Fin cfg0.N) (y : S512x1024.Idx) (i : S4096x1024.Idx)
    (h0 : (i 0).val = t.val * 512 + (y 0).val) (h1 : (i 1).val = (y 1).val) :
    iblk m c 7 t y = V m c main_v3 i :=
  congrArg (V m c main_v3) (emb_of win0_7 t y i (fall2 (toBlk h0 (idx_facts t).2.2.2.2.2.2.2.2.2.2.2.2.2.2.1) (toBlk0 h1 (idx_facts t).2.2.2.2.2.2.2.2.2.2.2.2.2.2.2.1)))

/-- The four results as functions of the arguments. -/
def ctAt (w : FVec Ideal S1024x1024 .f32) (ct : FVec Ideal S4096x1024 .f32) (s : Fin 4096) (c : Fin 1024) : EReal := ∑ k : Fin 1024, ct (ix2 s k) * w (ix2 c k)
def gate (z : FVec Ideal S4096x2048 .f32) (b : FVec Ideal S1x2048 .f32) (s : Fin 4096) (c : Fin 2048) : EReal := logi (z (ix2 s c) + b (ix2 0 c))
def dya (z : FVec Ideal S4096x2048 .f32) (b : FVec Ideal S1x2048 .f32) (ya yb : FVec Ideal S4096x1024 .f32) (w : FVec Ideal S1024x1024 .f32) (ct : FVec Ideal S4096x1024 .f32) (i : S4096x1024.Idx) : EReal := ctAt w ct (i 0) (i 1) * gate z b (i 0) (lo (i 1))
def dyb (z : FVec Ideal S4096x2048 .f32) (b : FVec Ideal S1x2048 .f32) (ya yb : FVec Ideal S4096x1024 .f32) (w : FVec Ideal S1024x1024 .f32) (ct : FVec Ideal S4096x1024 .f32) (i : S4096x1024.Idx) : EReal := ctAt w ct (i 0) (i 1) * gate z b (i 0) (hi (i 1))
def dglLo (z : FVec Ideal S4096x2048 .f32) (b : FVec Ideal S1x2048 .f32) (ya yb : FVec Ideal S4096x1024 .f32) (w : FVec Ideal S1024x1024 .f32) (ct : FVec Ideal S4096x1024 .f32) (s : Fin 4096) (c : Fin 1024) : EReal := dz (ctAt w ct s c) (ya (ix2 s c)) (gate z b s (lo c))
def dglHi (z : FVec Ideal S4096x2048 .f32) (b : FVec Ideal S1x2048 .f32) (ya yb : FVec Ideal S4096x1024 .f32) (w : FVec Ideal S1024x1024 .f32) (ct : FVec Ideal S4096x1024 .f32) (s : Fin 4096) (c : Fin 1024) : EReal := dz (ctAt w ct s c) (yb (ix2 s c)) (gate z b s (hi c))
def dglAt (z : FVec Ideal S4096x2048 .f32) (b : FVec Ideal S1x2048 .f32) (ya yb : FVec Ideal S4096x1024 .f32) (w : FVec Ideal S1024x1024 .f32) (ct : FVec Ideal S4096x1024 .f32) (s : Fin 4096) (c : Fin 2048) : EReal :=
  if h : c.val < 1024 then dglLo z b ya yb w ct s ⟨c.val, h⟩ else dglHi z b ya yb w ct s ⟨c.val - 1024, by omega⟩
def dgl (z : FVec Ideal S4096x2048 .f32) (b : FVec Ideal S1x2048 .f32) (ya yb : FVec Ideal S4096x1024 .f32) (w : FVec Ideal S1024x1024 .f32) (ct : FVec Ideal S4096x1024 .f32) (i : S4096x2048.Idx) : EReal := dglAt z b ya yb w ct (i 0) (i 1)
def dbg (z : FVec Ideal S4096x2048 .f32) (b : FVec Ideal S1x2048 .f32) (ya yb : FVec Ideal S4096x1024 .f32) (w : FVec Ideal S1024x1024 .f32) (ct : FVec Ideal S4096x1024 .f32) (j : S1x2048.Idx) : EReal := ∑ s : Fin 4096, dglAt z b ya yb w ct s (j 1)

theorem ctBlk_of (x0 : Vec Ideal S512x1024 .f32) (x1 : Vec Ideal S1024x1024 .bf16) (p : Fin 512) (d : Fin 1024) (u v : Fin 1024 → EReal)
    (h0 : ∀ k, x0 (ix2 p k) = u k) (h1 : ∀ k, x1 (ix2 d k) = v k) : ctBlk x0 x1 p d = ∑ k, u k * v k := by
  unfold ctBlk
  simp only [h0, h1]
theorem sigBlk_of (x : Vec Ideal S512x1024 .bf16) (y : Vec Ideal S1x1024 .f32) (p : Fin 512) (d : Fin 1024) (u v : EReal)
    (h0 : x (ix2 p d) = u) (h1 : y (ix2 0 d) = v) : sigBlk x y p d = logi (u + v) := by
  unfold sigBlk
  rw [h0, h1]

section
variable (c : Dev nD) (t : Fin cfg0.N) (p : Fin 512) (s : Fin 4096) (h : s.val = t.val * 512 + p.val) (d : Fin 1024)
include h
theorem ct_at : ctBlk (iblk m c 0 t) (iblk m c 1 t) p d = ctAt (ar4 m c) (ar5 m c) s d :=
  ctBlk_of (iblk m c 0 t) (iblk m c 1 t) p d _ _ (fun k => iblk0_at m c t (ix2 p k) (ix2 s k) h rfl)
    (fun k => (iblk1_at m c t (ix2 d k) (ix2 d k) rfl rfl).trans (V_v0 m c _))
theorem lo_at : sigBlk (iblk m c 2 t) (iblk m c 4 t) p d = gate (ar0 m c) (ar1 m c) s (lo d) :=
  sigBlk_of (iblk m c 2 t) (iblk m c 4 t) p d _ _ ((iblk2_at m c t (ix2 p d) (ix2 s (lo d)) h rfl).trans (V_v1 m c _)) (iblk4_at m c t (ix2 0 d) (ix2 0 (lo d)) rfl rfl)
theorem hi_at : sigBlk (iblk m c 3 t) (iblk m c 5 t) p d = gate (ar0 m c) (ar1 m c) s (hi d) :=
  sigBlk_of (iblk m c 3 t) (iblk m c 5 t) p d _ _ ((iblk3_at m c t (ix2 p d) (ix2 s (hi d)) h (by show 1024 + d.val = 1 * 1024 + d.val; omega)).trans (V_v1 m c _))
    (iblk5_at m c t (ix2 0 d) (ix2 0 (hi d)) rfl (by show 1024 + d.val = 1 * 1024 + d.val; omega))
theorem dzLo_at : dzBlk (iblk m c 0 t) (iblk m c 1 t) (iblk m c 6 t) (iblk m c 2 t) (iblk m c 4 t) p d = dglLo (ar0 m c) (ar1 m c) (ar2 m c) (ar3 m c) (ar4 m c) (ar5 m c) s d := by
  unfold dzBlk dglLo
  rw [ct_at m c t p s h d, lo_at m c t p s h d]
  exact congrArg (fun y => dz _ y _) ((iblk6_at m c t (ix2 p d) (ix2 s d) h rfl).trans (V_v2 m c _))
theorem dzHi_at : dzBlk (iblk m c 0 t) (iblk m c 1 t) (iblk m c 7 t) (iblk m c 3 t) (iblk m c 5 t) p d = dglHi (ar0 m c) (ar1 m c) (ar2 m c) (ar3 m c) (ar4 m c) (ar5 m c) s d := by
  unfold dzBlk dglHi
  rw [ct_at m c t p s h d, hi_at m c t p s h d]
  exact congrArg (fun y => dz _ y _) ((iblk7_at m c t (ix2 p d) (ix2 s d) h rfl).trans (V_v3 m c _))
end

theorem dyaTile (c : Dev nD) (t : Fin cfg0.N) (y : S512x1024.Idx) (i : S4096x1024.Idx) (h0 : (i 0).val = t.val * 512 + (y 0).val) (h1 : (i 1).val = (y 1).val) :
    dyaBlk (iblk m c 0 t) (iblk m c 1 t) (iblk m c 2 t) (iblk m c 3 t) (iblk m c 4 t) (iblk m c 5 t) (iblk m c 6 t) (iblk m c 7 t) y = dya (ar0 m c) (ar1 m c) (ar2 m c) (ar3 m c) (ar4 m c) (ar5 m c) i := by
  unfold dyaBlk dya
  rw [show y 1 = i 1 from Fin.ext h1.symm]
  exact congrArg₂ (fun a b : EReal => a * b) (ct_at m c t (y 0) (i 0) h0 (i 1)) (lo_at m c t (y 0) (i 0) h0 (i 1))
theorem dybTile (c : Dev nD) (t : Fin cfg0.N) (y : S512x1024.Idx) (i : S4096x1024.Idx) (h0 : (i 0).val = t.val * 512 + (y 0).val) (h1 : (i 1).val = (y 1).val) :
    dybBlk (iblk m c 0 t) (iblk m c 1 t) (iblk m c 2 t) (iblk m c 3 t) (iblk m c 4 t) (iblk m c 5 t) (iblk m c 6 t) (iblk m c 7 t) y = dyb (ar0 m c) (ar1 m c) (ar2 m c) (ar3 m c) (ar4 m c) (ar5 m c) i := by
  unfold dybBlk dyb
  rw [show y 1 = i 1 from Fin.ext h1.symm]
  exact congrArg₂ (fun a b : EReal => a * b) (ct_at m c t (y 0) (i 0) h0 (i 1)) (hi_at m c t (y 0) (i 0) h0 (i 1))
theorem dglTile (c : Dev nD) (t : Fin cfg0.N) (p : Fin 512) (d : Fin 2048) (s : Fin 4096) (h : s.val = t.val * 512 + p.val) :
    dglBlk (iblk m c 0 t) (iblk m c 1 t) (iblk m c 2 t) (iblk m c 3 t) (iblk m c 4 t) (iblk m c 5 t) (iblk m c 6 t) (iblk m c 7 t) (ix2 p d) = dglAt (ar0 m c) (ar1 m c) (ar2 m c) (ar3 m c) (ar4 m c) (ar5 m c) s d := by
  unfold dglAt
  by_cases k : d.val < 1024
  · rw [dif_pos k]
    exact (dif_pos k).trans (dzLo_at m c t p s h _)
  · rw [dif_neg k]
    exact (dif_neg k).trans (dzHi_at m c t p s h _)

theorem row_val (t : Fin cfg0.N) (p : Fin 512) : (rowIn 512 t.val p).val = t.val * 512 + p.val := by
  have hN : cfg0.N = 8 := N_0
  have ht := t.isLt
  rw [rowIn_val (n := 8) rfl (by omega), mul_comm]

theorem dbgTile (c : Dev nD) (t : Fin cfg0.N) (y : S1x2048.Idx) :
    dbgBlk (iblk m c 0 t) (iblk m c 1 t) (iblk m c 2 t) (iblk m c 3 t) (iblk m c 4 t) (iblk m c 5 t) (iblk m c 6 t) (iblk m c 7 t) y = ∑ p : Fin 512, dglAt (ar0 m c) (ar1 m c) (ar2 m c) (ar3 m c) (ar4 m c) (ar5 m c) (rowIn 512 t.val p) (y 1) := by
  unfold dbgBlk
  exact Finset.sum_congr rfl fun p _ => dglTile m c t p (y 1) _ (row_val t p)

theorem tiles_out (c : Dev nD) (t : Fin cfg0.N) : (outsAt0 m c t.val t.isLt).1 = dyaBlk (iblk m c 0 t) (iblk m c 1 t) (iblk m c 2 t) (iblk m c 3 t) (iblk m c 4 t) (iblk m c 5 t) (iblk m c 6 t) (iblk m c 7 t)
    ∧ (outsAt0 m c t.val t.isLt).2.1 = dybBlk (iblk m c 0 t) (iblk m c 1 t) (iblk m c 2 t) (iblk m c 3 t) (iblk m c 4 t) (iblk m c 5 t) (iblk m c 6 t) (iblk m c 7 t) ∧ (outsAt0 m c t.val t.isLt).2.2.1 = dglBlk (iblk m c 0 t) (iblk m c 1 t) (iblk m c 2 t) (iblk m c 3 t) (iblk m c 4 t) (iblk m c 5 t) (iblk m c 6 t) (iblk m c 7 t) := by
  have hN : cfg0.N = 8 := N_0
  have ht := t.isLt
  by_cases h0 : t.val = 0
  · rw [outsAt0_A m c t (by omega) (by omega), out_A8, out_A9, out_A10]
    exact ⟨rfl, rfl, rfl⟩
  · rw [outsAt0_B m c t (by omega) (by omega), out_B8, out_B9, out_B10]
    exact ⟨rfl, rfl, rfl⟩

/-- The bias's accumulator after a grid point: the rows up to it. -/
theorem bias_out (c : Dev nD) (y : S1x2048.Idx) : ∀ (n : ℕ) (h : n < cfg0.N),
    (outsAt0 m c n h).2.2.2 y = ∑ q ∈ Finset.range (n + 1), ∑ p : Fin 512, dglAt (ar0 m c) (ar1 m c) (ar2 m c) (ar3 m c) (ar4 m c) (ar5 m c) (rowIn 512 q p) (y 1)
  | 0, h => by
    rw [outsAt0_A m c ⟨0, h⟩ rfl (by show ¬1 ≤ 0; decide), out_A11]
    dsimp only
    rw [dbgTile, Finset.sum_range_one]
  | n + 1, h => by
    have hN : cfg0.N = 8 := N_0
    rw [outsAt0_B m c ⟨n + 1, h⟩ (by dsimp only; omega) (by dsimp only; omega), out_B11]
    dsimp only
    rw [dbgTile, Finset.sum_range_succ _ (n + 1), ← bias_out c y n (Nat.lt_of_succ_lt h)]
    rfl

theorem cover8 (i : S4096x1024.Idx) :
    ∃ t : Fin cfg0.N, (cfg0.win 8).flush t = true ∧ i ∈ ((cfg0.win 8).blk t).view.set := by
  have h0 : (i 0).val < 4096 := (i 0).isLt
  have h1 : (i 1).val < 1024 := (i 1).isLt
  have hN : cfg0.N = 8 := N_0
  obtain ⟨t, ht⟩ : ∃ t : Fin cfg0.N, t.val = (i 0).val / 512 := ⟨⟨_, by omega⟩, rfl⟩
  exact ⟨t, flush0_8 t, in_blk (b := main_v4_0) (fall2 (inBlk (i := (i 0).val) (n := 512) (idx_facts t).2.2.2.2.2.2.2.2.2.2.2.2.2.2.2.2.1 (by omega)) (inBlk (i := (i 1).val) (n := 1024) (idx_facts t).2.2.2.2.2.2.2.2.2.2.2.2.2.2.2.2.2.1 (by omega)))⟩

theorem emb8 (t : Fin cfg0.N) (y : S512x1024.Idx) (i : S4096x1024.Idx) (h : ((cfg0.win 8).blk t).view.emb y = i) :
    (i 0).val = t.val * 512 + (y 0).val ∧ (i 1).val = (y 1).val :=
  ⟨ofBlk (emb_at win0_8 t y i h 0) (idx_facts t).2.2.2.2.2.2.2.2.2.2.2.2.2.2.2.2.1, ofBlk0 (emb_at win0_8 t y i h 1) (idx_facts t).2.2.2.2.2.2.2.2.2.2.2.2.2.2.2.2.2.1⟩

theorem cover9 (i : S4096x1024.Idx) :
    ∃ t : Fin cfg0.N, (cfg0.win 9).flush t = true ∧ i ∈ ((cfg0.win 9).blk t).view.set := by
  have h0 : (i 0).val < 4096 := (i 0).isLt
  have h1 : (i 1).val < 1024 := (i 1).isLt
  have hN : cfg0.N = 8 := N_0
  obtain ⟨t, ht⟩ : ∃ t : Fin cfg0.N, t.val = (i 0).val / 512 := ⟨⟨_, by omega⟩, rfl⟩
  exact ⟨t, flush0_9 t, in_blk (b := main_v4_1) (fall2 (inBlk (i := (i 0).val) (n := 512) (idx_facts t).2.2.2.2.2.2.2.2.2.2.2.2.2.2.2.2.2.2.1 (by omega)) (inBlk (i := (i 1).val) (n := 1024) (idx_facts t).2.2.2.2.2.2.2.2.2.2.2.2.2.2.2.2.2.2.2.1 (by omega)))⟩

theorem emb9 (t : Fin cfg0.N) (y : S512x1024.Idx) (i : S4096x1024.Idx) (h : ((cfg0.win 9).blk t).view.emb y = i) :
    (i 0).val = t.val * 512 + (y 0).val ∧ (i 1).val = (y 1).val :=
  ⟨ofBlk (emb_at win0_9 t y i h 0) (idx_facts t).2.2.2.2.2.2.2.2.2.2.2.2.2.2.2.2.2.2.1, ofBlk0 (emb_at win0_9 t y i h 1) (idx_facts t).2.2.2.2.2.2.2.2.2.2.2.2.2.2.2.2.2.2.2.1⟩

theorem cover10 (i : S4096x2048.Idx) :
    ∃ t : Fin cfg0.N, (cfg0.win 10).flush t = true ∧ i ∈ ((cfg0.win 10).blk t).view.set := by
  have h0 : (i 0).val < 4096 := (i 0).isLt
  have h1 : (i 1).val < 2048 := (i 1).isLt
  have hN : cfg0.N = 8 := N_0
  obtain ⟨t, ht⟩ : ∃ t : Fin cfg0.N, t.val = (i 0).val / 512 := ⟨⟨_, by omega⟩, rfl⟩
  exact ⟨t, flush0_10 t, in_blk (b := main_v4_2) (fall2 (inBlk (i := (i 0).val) (n := 512) (idx_facts t).2.2.2.2.2.2.2.2.2.2.2.2.2.2.2.2.2.2.2.2.1 (by omega)) (inBlk (i := (i 1).val) (n := 2048) (idx_facts t).2.2.2.2.2.2.2.2.2.2.2.2.2.2.2.2.2.2.2.2.2.1 (by omega)))⟩

theorem emb10 (t : Fin cfg0.N) (y : S512x2048.Idx) (i : S4096x2048.Idx) (h : ((cfg0.win 10).blk t).view.emb y = i) :
    (i 0).val = t.val * 512 + (y 0).val ∧ (i 1).val = (y 1).val :=
  ⟨ofBlk (emb_at win0_10 t y i h 0) (idx_facts t).2.2.2.2.2.2.2.2.2.2.2.2.2.2.2.2.2.2.2.2.1, ofBlk0 (emb_at win0_10 t y i h 1) (idx_facts t).2.2.2.2.2.2.2.2.2.2.2.2.2.2.2.2.2.2.2.2.2.1⟩

theorem cover11 (i : S1x2048.Idx) :
    ∃ t : Fin cfg0.N, (cfg0.win 11).flush t = true ∧ i ∈ ((cfg0.win 11).blk t).view.set := by
  have h0 : (i 0).val < 1 := (i 0).isLt
  have h1 : (i 1).val < 2048 := (i 1).isLt
  have hN : cfg0.N = 8 := N_0
  obtain ⟨t, ht⟩ : ∃ t : Fin cfg0.N, t.val = 7 := ⟨⟨_, by omega⟩, rfl⟩
  exact ⟨t, (flush0_11 t).mpr (by omega), in_blk (b := main_v4_3) (fall2 (inBlk (i := (i 0).val) (n := 1) (idx_facts t).2.2.2.2.2.2.2.2.2.2.2.2.2.2.2.2.2.2.2.2.2.2.1 (by omega)) (inBlk (i := (i 1).val) (n := 2048) (idx_facts t).2.2.2.2.2.2.2.2.2.2.2.2.2.2.2.2.2.2.2.2.2.2.2.1 (by omega)))⟩

theorem emb11 (t : Fin cfg0.N) (y : S1x2048.Idx) (i : S1x2048.Idx) (h : ((cfg0.win 11).blk t).view.emb y = i) :
    (i 0).val = (y 0).val ∧ (i 1).val = (y 1).val :=
  ⟨ofBlk0 (emb_at win0_11 t y i h 0) (idx_facts t).2.2.2.2.2.2.2.2.2.2.2.2.2.2.2.2.2.2.2.2.2.2.1, ofBlk0 (emb_at win0_11 t y i h 1) (idx_facts t).2.2.2.2.2.2.2.2.2.2.2.2.2.2.2.2.2.2.2.2.2.2.2.1⟩

theorem final8 (c : Dev nD) : (dats m 0 c).arrAt 8 cfg0.N = dya (ar0 m c) (ar1 m c) (ar2 m c) (ar3 m c) (ar4 m c) (ar5 m c) := by
  funext i
  refine (dats m 0 c).arrAt_forall_of_cover 8 (fun i v => v = dya (ar0 m c) (ar1 m c) (ar2 m c) (ar3 m c) (ar4 m c) (ar5 m c) i) (fun t ht y => ?_) cover8 i
  generalize hi : ((cfg0.win 8).blk t).view.emb y = i'
  obtain ⟨k0, k1⟩ := emb8 t y i' hi
  have hf : (dats m 0 c).flushed 8 t y = (outsAt0 m c t.val t.isLt).1 y := by
    rw [Cert.Kernel5Ideal.Value.flushed8]
  refine (hf : _ = _).trans ?_
  rw [(tiles_out m c t |>.1)]
  exact dyaTile m c t y i' k0 k1

theorem final9 (c : Dev nD) : (dats m 0 c).arrAt 9 cfg0.N = dyb (ar0 m c) (ar1 m c) (ar2 m c) (ar3 m c) (ar4 m c) (ar5 m c) := by
  funext i
  refine (dats m 0 c).arrAt_forall_of_cover 9 (fun i v => v = dyb (ar0 m c) (ar1 m c) (ar2 m c) (ar3 m c) (ar4 m c) (ar5 m c) i) (fun t ht y => ?_) cover9 i
  generalize hi : ((cfg0.win 9).blk t).view.emb y = i'
  obtain ⟨k0, k1⟩ := emb9 t y i' hi
  have hf : (dats m 0 c).flushed 9 t y = (outsAt0 m c t.val t.isLt).2.1 y := by
    rw [Cert.Kernel5Ideal.Value.flushed9]
  refine (hf : _ = _).trans ?_
  rw [(tiles_out m c t |>.2.1)]
  exact dybTile m c t y i' k0 k1

theorem final10 (c : Dev nD) : (dats m 0 c).arrAt 10 cfg0.N = dgl (ar0 m c) (ar1 m c) (ar2 m c) (ar3 m c) (ar4 m c) (ar5 m c) := by
  funext i
  refine (dats m 0 c).arrAt_forall_of_cover 10 (fun i v => v = dgl (ar0 m c) (ar1 m c) (ar2 m c) (ar3 m c) (ar4 m c) (ar5 m c) i) (fun t ht y => ?_) cover10 i
  generalize hi : ((cfg0.win 10).blk t).view.emb y = i'
  obtain ⟨k0, k1⟩ := emb10 t y i' hi
  have hf : (dats m 0 c).flushed 10 t y = (outsAt0 m c t.val t.isLt).2.2.1 y := by
    rw [Cert.Kernel5Ideal.Value.flushed10]
  refine (hf : _ = _).trans ?_
  rw [(tiles_out m c t |>.2.2)]
  have e : i' = ix2 (i' 0) (y 1) := funext fun a => match a with | ⟨0, _⟩ => rfl | ⟨1, _⟩ => Fin.ext k1
  rw [e]
  exact dglTile m c t (y 0) (y 1) (i' 0) k0

theorem final11 (c : Dev nD) : (dats m 0 c).arrAt 11 cfg0.N = dbg (ar0 m c) (ar1 m c) (ar2 m c) (ar3 m c) (ar4 m c) (ar5 m c) := by
  funext i
  refine (dats m 0 c).arrAt_forall_of_cover 11 (fun i v => v = dbg (ar0 m c) (ar1 m c) (ar2 m c) (ar3 m c) (ar4 m c) (ar5 m c) i) (fun t ht y => ?_) cover11 i
  generalize hi : ((cfg0.win 11).blk t).view.emb y = i'
  obtain ⟨k0, k1⟩ := emb11 t y i' hi
  obtain rfl : i' = y := funext fun a => Fin.ext (match a with | ⟨0, _⟩ => k0 | ⟨1, _⟩ => k1)
  have hf : (dats m 0 c).flushed 11 t i' = (outsAt0 m c t.val t.isLt).2.2.2 i' := by
    rw [Cert.Kernel5Ideal.Value.flushed11]
    rfl
  refine (hf : _ = _).trans ?_
  have hN : cfg0.N = 8 := N_0
  have h7 : t.val = 7 := by have := (flush0_11 t).mp ht; have := t.isLt; omega
  rw [bias_out, h7]
  exact sum_in (n := 8) rfl (fun s => dglAt (ar0 m c) (ar1 m c) (ar2 m c) (ar3 m c) (ar4 m c) (ar5 m c) s (i' 1))

theorem run : θ_run (Cert.Kernel5Ideal.defs (F := Ideal)) (onTc (τ := τ) (Cert.Kernel5Ideal.main (F := Ideal))) ⟨m, fun _ => 0, ρ⟩ fun r => ∀ c : Dev nD,
      r.2.mem ((c : Thread nD τ).loc main_v4_0) = dya (ar0 m c) (ar1 m c) (ar2 m c) (ar3 m c) (ar4 m c) (ar5 m c)
      ∧ r.2.mem ((c : Thread nD τ).loc main_v4_1) = dyb (ar0 m c) (ar1 m c) (ar2 m c) (ar3 m c) (ar4 m c) (ar5 m c)
      ∧ r.2.mem ((c : Thread nD τ).loc main_v4_2) = dgl (ar0 m c) (ar1 m c) (ar2 m c) (ar3 m c) (ar4 m c) (ar5 m c)
      ∧ r.2.mem ((c : Thread nD τ).loc main_v4_3) = dbg (ar0 m c) (ar1 m c) (ar2 m c) (ar3 m c) (ar4 m c) (ar5 m c)
      ∧ r.2.mem ((c : Thread nD τ).loc main_arg0) = (ar0 m c)
      ∧ r.2.mem ((c : Thread nD τ).loc main_arg1) = (ar1 m c)
      ∧ r.2.mem ((c : Thread nD τ).loc main_arg2) = (ar2 m c)
      ∧ r.2.mem ((c : Thread nD τ).loc main_arg3) = (ar3 m c)
      ∧ r.2.mem ((c : Thread nD τ).loc main_arg4) = (ar4 m c)
      ∧ r.2.mem ((c : Thread nD τ).loc main_arg5) = (ar5 m c) :=
  (θ_run _ _ _).mono (fun _ h c => ⟨(h c).1.trans (final8 m c), (h c).2.1.trans (final9 m c), (h c).2.2.1.trans (final10 m c), (h c).2.2.2.1.trans (final11 m c), (h c).2.2.2.2⟩)
    (Cert.Kernel5Ideal.Value.run_blocks (F := Ideal) m ρ)

theorem neg_eq (z : EReal) : -z = 0 - z := by rw [sub_eq_add_neg, zero_add]

theorem ref_v7 (x0 : FVec Ideal S4096x2048 .f32) (x1 : FVec Ideal S1x2048 .f32) (j : S4096x2048.Idx) :
    val_main_v7 (F := Ideal) x0 x1 j = gate x0 x1 (j 0) (j 1) := by
  idx_vars j
  unfold val_main_v7 val_main_v6 val_main_cst_0 val_main_v5 val_main_v4 val_main_cst val_main_v3 val_main_v2 val_main_v1 val_main_v0
  pointwise [gate, logi, neg_eq]

theorem ref_v17 (x4 : FVec Ideal S1024x1024 .f32) (x5 : FVec Ideal S4096x1024 .f32) (j : S4096x1024.Idx) :
    val_main_v17 (F := Ideal) x4 x5 j = ctAt x4 x5 (j 0) (j 1) := by
  idx_vars j
  unfold val_main_v17
  pointwise [ctAt]

theorem ref_v28 (x0 : FVec Ideal S4096x2048 .f32) (x1 : FVec Ideal S1x2048 .f32) (x2 : FVec Ideal S4096x1024 .f32) (x3 : FVec Ideal S4096x1024 .f32) (x4 : FVec Ideal S1024x1024 .f32) (x5 : FVec Ideal S4096x1024 .f32) : val_main_v28 (F := Ideal) x0 x1 x4 x5 = dya x0 x1 x2 x3 x4 x5 := by
  funext j
  idx_vars j
  unfold val_main_v28 val_main_v21 val_main_v11
  pointwise [ref_v7, ref_v17, dya]
  exact mul_comm _ _

theorem ref_v29 (x0 : FVec Ideal S4096x2048 .f32) (x1 : FVec Ideal S1x2048 .f32) (x2 : FVec Ideal S4096x1024 .f32) (x3 : FVec Ideal S4096x1024 .f32) (x4 : FVec Ideal S1024x1024 .f32) (x5 : FVec Ideal S4096x1024 .f32) : val_main_v29 (F := Ideal) x0 x1 x4 x5 = dyb x0 x1 x2 x3 x4 x5 := by
  funext j
  idx_vars j
  unfold val_main_v29 val_main_v18 val_main_v13
  pointwise [ref_v7, ref_v17, dyb]
  exact mul_comm _ _

theorem ref_v25 (x0 : FVec Ideal S4096x2048 .f32) (x1 : FVec Ideal S1x2048 .f32) (x2 : FVec Ideal S4096x1024 .f32) (x3 : FVec Ideal S4096x1024 .f32) (x4 : FVec Ideal S1024x1024 .f32) (x5 : FVec Ideal S4096x1024 .f32) (j : S4096x2048.Idx) : val_main_v25 (F := Ideal) x0 x1 x2 x3 x4 x5 j = dglAt x0 x1 x2 x3 x4 x5 (j 0) (j 1) := by
  idx_vars j
  unfold val_main_v25 val_main_v24 val_main_v23 val_main_cst_3 val_main_v22 val_main_v20 val_main_cst_2 val_main_v19 val_main_v10 val_main_v9 val_main_v8 val_main_cst_1
  pointwise [ref_v7, ref_v17, dglAt, dglLo, dglHi, dz]
  by_cases h : j1.val < 1024
  · have h' : ¬(1024 ≤ j1.val ∧ j1.val - 1024 < 1024) := by omega
    simp only [dif_neg h', dif_pos h, zero_add]
    exact (mul_assoc _ _ _).symm
  · have h' : 1024 ≤ j1.val ∧ j1.val - 1024 < 1024 := by omega
    simp only [dif_pos h', dif_neg h, add_zero]
    have e : hi ⟨j1.val - 1024, h'.2⟩ = j1 := Fin.ext (by show 1024 + (j1.val - 1024) = j1.val; omega)
    rw [e]
    exact (mul_assoc _ _ _).symm

theorem ref_v30 (x0 : FVec Ideal S4096x2048 .f32) (x1 : FVec Ideal S1x2048 .f32) (x2 : FVec Ideal S4096x1024 .f32) (x3 : FVec Ideal S4096x1024 .f32) (x4 : FVec Ideal S1024x1024 .f32) (x5 : FVec Ideal S4096x1024 .f32) : val_main_v30 (F := Ideal) x0 x1 x2 x3 x4 x5 = dgl x0 x1 x2 x3 x4 x5 := by
  funext j
  unfold val_main_v30
  pointwise [ref_v25, dgl]

theorem ref_v27 (x0 : FVec Ideal S4096x2048 .f32) (x1 : FVec Ideal S1x2048 .f32) (x2 : FVec Ideal S4096x1024 .f32) (x3 : FVec Ideal S4096x1024 .f32) (x4 : FVec Ideal S1024x1024 .f32) (x5 : FVec Ideal S4096x1024 .f32) : val_main_v27 (F := Ideal) x0 x1 x2 x3 x4 x5 = dbg x0 x1 x2 x3 x4 x5 := by
  funext j
  unfold dbg
  idx_vars j
  unfold val_main_v27 val_main_v26 val_main_cst_4
  pointwise [ref_v25]

theorem frame_ref : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => dya (ar0 m c) (ar1 m c) (ar2 m c) (ar3 m c) (ar4 m c) (ar5 m c), fun c => dyb (ar0 m c) (ar1 m c) (ar2 m c) (ar3 m c) (ar4 m c) (ar5 m c), fun c => dgl (ar0 m c) (ar1 m c) (ar2 m c) (ar3 m c) (ar4 m c) (ar5 m c), fun c => dbg (ar0 m c) (ar1 m c) (ar2 m c) (ar3 m c) (ar4 m c) (ar5 m c), run m ρ, ?_⟩
  refine (θ_run Cert.Reference5Ideal.defs _ _).mono (fun _ h c => ⟨(h c).1.trans ?_, (h c).2.1.trans ?_, (h c).2.2.1.trans ?_, (h c).2.2.2.1.trans ?_, (h c).2.2.2.2⟩) (Cert.Reference5Ideal.Value.run (F := Ideal) m' ρ')
  · obtain ⟨a0, a1, a2, a3, a4, a5⟩ := hagree c
    rw [val_main_v28_eq, a0, a1, a4, a5]
    exact ref_v28 _ _ _ _ _ _
  · obtain ⟨a0, a1, a2, a3, a4, a5⟩ := hagree c
    rw [val_main_v29_eq, a0, a1, a4, a5]
    exact ref_v29 _ _ _ _ _ _
  · obtain ⟨a0, a1, a2, a3, a4, a5⟩ := hagree c
    rw [val_main_v30_eq, a0, a1, a2, a3, a4, a5]
    exact ref_v30 _ _ _ _ _ _
  · obtain ⟨a0, a1, a2, a3, a4, a5⟩ := hagree c
    rw [val_main_v27_eq, a0, a1, a2, a3, a4, a5]
    exact ref_v27 _ _ _ _ _ _

end Cert.Gate
-- ==== Proof.RmsF.lean ====
module

public import proofs.«01_k».proof.Proof.Gen.Kernel9Ideal.Value
public import proofs.«01_k».proof.Proof.Gen.Reference9Ideal.Read
public import proofs.«01_k».proof.Proof.Rms
public import proofs.«01_k».proof.Proof.Win

@[expose] public section

set_option maxRecDepth 16384

noncomputable section

namespace Cert.RmsF

open Idealize.ShloMosaic Idealize.ShloMosaic.TcCoe Idealize.SL.Sem Cert.Common Cert.Rms
open Idealize.ShloMosaic.Pipeline (Dat RDat)
open Cert.Reference9Ideal.Read
open Cert.Kernel9Ideal Cert.Kernel9Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)

/-- A row's norm. -/
def normed (x g : Fin 1024 → EReal) (c : Fin 1024) : EReal := xh x c * g c
def blk (x0 : Vec Ideal S512x1024 .f32) (x1 : Vec Ideal S1x1024 .f32) : Vec Ideal S512x1024 .bf16 :=
  fun j => normed (fun k => x0 (ix2 (j 0) k)) (fun k => x1 (ix2 0 k)) (j 1)

theorem pay (x0 : Vec Ideal S512x1024 .f32) (x1 : Vec Ideal S1x1024 .f32) (j : S512x1024.Idx) : k0_pay1 x0 x1 j = blk x0 x1 j := by
  idx_vars j
  unfold_payloads
  pointwise [blk, normed, xh, rs, ms, wid, eps]

theorem out (x0 : Vec Ideal S512x1024 .f32) (x1 : Vec Ideal S1x1024 .f32) (j : S512x1024.Idx) : out0_2 x0 x1 j = blk x0 x1 j := by
  unfold out0_2
  rw [View.canon_unit_zero hz2, View.ld_unit_zero hz2, View.ld_unit_zero hz2]
  exact pay x0 x1 j

theorem idx0 : ∀ t : Fin cfg0.N, win0_0.index t 0 = t.val ∧ win0_0.index t 1 = 0 ∧ t.val < 8 :=
  (by decide +kernel : ∀ t : Fin grid0.N, _)
theorem iblk0_at (c : Dev nD) (t : Fin cfg0.N) (y : S512x1024.Idx) (i : S4096x1024.Idx)
    (h0 : (i 0).val = t.val * 512 + (y 0).val) (h1 : (i 1).val = (y 1).val) :
    iblk m c 0 t y = ar0 m c i :=
  (congrArg (V m c main_arg0) (emb_of win0_0 t y i (fall2 (toBlk h0 (idx0 t).1) (toBlk0 h1 (idx0 t).2.1)))).trans (congrFun (V_main_arg0 m c) i)

theorem idx1 : ∀ t : Fin cfg0.N, win0_1.index t 0 = 0 ∧ win0_1.index t 1 = 0 ∧ t.val < 8 :=
  (by decide +kernel : ∀ t : Fin grid0.N, _)
theorem iblk1_at (c : Dev nD) (t : Fin cfg0.N) (y : S1x1024.Idx) (i : S1x1024.Idx)
    (h0 : (i 0).val = (y 0).val) (h1 : (i 1).val = (y 1).val) :
    iblk m c 1 t y = ar1 m c i :=
  (congrArg (V m c main_arg1) (emb_of win0_1 t y i (fall2 (toBlk0 h0 (idx1 t).1) (toBlk0 h1 (idx1 t).2.1)))).trans (congrFun (V_main_arg1 m c) i)

def res (x : FVec Ideal S4096x1024 .f32) (g : FVec Ideal S1x1024 .f32) : FVec Ideal S4096x1024 .bf16 :=
  fun i => normed (fun k => x (ix2 (i 0) k)) (fun k => g (ix2 0 k)) (i 1)

theorem idx2 : ∀ t : Fin cfg0.N, win0_2.index t 0 = t.val ∧ win0_2.index t 1 = 0 ∧ t.val < 8 :=
  (by decide +kernel : ∀ t : Fin grid0.N, _)
theorem cover2 (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  have hN : cfg0.N = 8 := N_0
  obtain ⟨t, ht⟩ : ∃ t : Fin cfg0.N, t.val = (i 0).val / 512 := ⟨⟨_, by omega⟩, rfl⟩
  exact ⟨t, flush0_2 t, in_blk (b := main_v0) (fall2 (inBlk (i := (i 0).val) (n := 512) (idx2 t).1 (by omega)) (inBlk (i := (i 1).val) (n := 1024) (idx2 t).2.1 (by omega)))⟩

theorem emb2 (t : Fin cfg0.N) (y : S512x1024.Idx) (i : S4096x1024.Idx) (h : ((cfg0.win 2).blk t).view.emb y = i) :
    (i 0).val = t.val * 512 + (y 0).val ∧ (i 1).val = (y 1).val :=
  ⟨ofBlk (emb_at win0_2 t y i h 0) (idx2 t).1, ofBlk0 (emb_at win0_2 t y i h 1) (idx2 t).2.1⟩

theorem final2 (c : Dev nD) : (dats m 0 c).arrAt 2 cfg0.N = res (ar0 m c) (ar1 m c) := by
  funext i
  refine (dats m 0 c).arrAt_forall_of_cover 2 (fun i v => v = res (ar0 m c) (ar1 m c) i) (fun t _ y => ?_) cover2 i
  generalize hi : ((cfg0.win 2).blk t).view.emb y = i'
  obtain ⟨k0, k1⟩ := emb2 t y i' hi
  have hf : (dats m 0 c).flushed 2 t y = blk (iblk m c 0 t) (iblk m c 1 t) y := by
    rw [Cert.Kernel9Ideal.Value.flushed2]
    exact out (iblk m c 0 t) (iblk m c 1 t) y
  refine (hf : _ = _).trans ?_
  have key : ∀ (p : Fin 512) (l : Fin 1024) (s : Fin 4096) (q : Fin 1024) (h : s.val = t.val * 512 + p.val) (h' : q.val = l.val),
      blk (iblk m c 0 t) (iblk m c 1 t) (ix2 p l) = res (ar0 m c) (ar1 m c) (ix2 s q) := fun p l s q h h' =>
    congr (congrArg₂ normed (funext fun k => iblk0_at m c t (ix2 p k) (ix2 s k) h rfl) (funext fun k => iblk1_at m c t (ix2 0 k) (ix2 0 k) rfl rfl)) (Fin.ext h'.symm)
  have ey : y = (ix2 (y 0) (y 1) : S512x1024.Idx) := eta2 y
  have ei : i' = (ix2 (i' 0) (i' 1) : S4096x1024.Idx) := eta2 i'
  exact (congrArg _ ey).trans ((key (y 0) (y 1) (i' 0) (i' 1) k0 k1).trans (congrArg _ ei.symm))

theorem ref_v12 (x0 : FVec Ideal S4096x1024 .f32) (x1 : FVec Ideal S1x1024 .f32) :
    val_main_v12 (F := Ideal) x0 x1  = res x0 x1 := by
  funext j
  idx_vars j
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise [res, normed, xh, rs, ms, wid, eps]

theorem frame_ref : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem run : θ_run (Cert.Kernel9Ideal.defs (F := Ideal)) (onTc (τ := τ) (Cert.Kernel9Ideal.main (F := Ideal))) ⟨m, fun _ => 0, ρ⟩ fun r => ∀ c : Dev nD,
      r.2.mem ((c : Thread nD τ).loc main_v0) = res (ar0 m c) (ar1 m c)
      ∧ r.2.mem ((c : Thread nD τ).loc main_arg0) = (ar0 m c)
      ∧ r.2.mem ((c : Thread nD τ).loc main_arg1) = (ar1 m c) :=
  (θ_run _ _ _).mono (fun _ h c => ⟨((h c).1).trans (final2 m c), (h c).2⟩)
    (Cert.Kernel9Ideal.Value.run_blocks (F := Ideal) m ρ)

theorem algebraic : Cert.algebraic_Kernel9Ideal_Reference9Ideal := by
  intro m ρ m' ρ' _ hagree
  refine ⟨fun c => res (ar0 m c) (ar1 m c), run m ρ, ?_⟩
  refine (θ_run Cert.Reference9Ideal.defs _ _).mono (fun _ h c => ⟨((h c).1).trans ?_, (h c).2⟩) (Cert.Reference9Ideal.Value.run (F := Ideal) m' ρ')
  · obtain ⟨a0, a1⟩ := hagree c
    rw [val_main_v12_eq, a0, a1]
    exact ref_v12 _ _

end Cert.RmsF
-- ==== Proof.GMix.lean ====
module

public import proofs.«01_k».proof.Proof.Gen.Kernel10Ideal.Value
public import proofs.«01_k».proof.Proof.Gen.Reference10Ideal.Read
public import proofs.«01_k».proof.Proof.Gate
public import proofs.«01_k».proof.Proof.RmsF

@[expose] public section

set_option maxRecDepth 16384

noncomputable section

namespace Cert.GMix

open Idealize.ShloMosaic Idealize.ShloMosaic.TcCoe Idealize.SL.Sem Cert.Common Cert.Rms
open Cert.Gate (logi one lo hi)
open Cert.RmsF (normed)
open Idealize.ShloMosaic.Pipeline (Dat RDat)
open Cert.Reference10Ideal.Read
open Cert.Kernel10Ideal Cert.Kernel10Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)
abbrev ar2 (c : Dev nD) := m ((c : Thread nD τ).loc main_arg2)
abbrev ar3 (c : Dev nD) := m ((c : Thread nD τ).loc main_arg3)
abbrev ar4 (c : Dev nD) := m ((c : Thread nD τ).loc main_arg4)
abbrev ar5 (c : Dev nD) := m ((c : Thread nD τ).loc main_arg5)
abbrev ar6 (c : Dev nD) := m ((c : Thread nD τ).loc main_arg6)

/-- One element of the merge. -/
def mrg (za ba ya zb bb yb : EReal) : EReal := logi (za + ba) * ya + logi (zb + bb) * yb
/-- One element of the residual stream after the product. -/
def resid (x : EReal) (mm w : Fin 1024 → EReal) : EReal := x + ∑ k, mm k * w k

def mBlk (x0 : Vec Ideal S512x1024 .bf16) (x1 : Vec Ideal S512x1024 .bf16) (x2 : Vec Ideal S1x1024 .f32) (x3 : Vec Ideal S1x1024 .f32) (x4 : Vec Ideal S512x1024 .bf16) (x5 : Vec Ideal S512x1024 .bf16) : Vec Ideal S512x1024 .bf16 :=
  fun j => mrg (x0 (ix2 (j 0) (j 1))) (x2 (ix2 0 (j 1))) (x4 (ix2 (j 0) (j 1))) (x1 (ix2 (j 0) (j 1))) (x3 (ix2 0 (j 1))) (x5 (ix2 (j 0) (j 1)))
def rBlk (x0 : Vec Ideal S512x1024 .bf16) (x1 : Vec Ideal S512x1024 .bf16) (x2 : Vec Ideal S1x1024 .f32) (x3 : Vec Ideal S1x1024 .f32) (x4 : Vec Ideal S512x1024 .bf16) (x5 : Vec Ideal S512x1024 .bf16) (x6 : Vec Ideal S1024x1024 .bf16) (x7 : Vec Ideal S512x1024 .f32) : Vec Ideal S512x1024 .f32 :=
  fun j => resid (x7 (ix2 (j 0) (j 1))) (fun k => mBlk x0 x1 x2 x3 x4 x5 (ix2 (j 0) k)) (fun k => x6 (ix2 k (j 1)))
def hBlk (x0 : Vec Ideal S512x1024 .bf16) (x1 : Vec Ideal S512x1024 .bf16) (x2 : Vec Ideal S1x1024 .f32) (x3 : Vec Ideal S1x1024 .f32) (x4 : Vec Ideal S512x1024 .bf16) (x5 : Vec Ideal S512x1024 .bf16) (x6 : Vec Ideal S1024x1024 .bf16) (x7 : Vec Ideal S512x1024 .f32) (x8 : Vec Ideal S1x1024 .f32) : Vec Ideal S512x1024 .bf16 :=
  fun j => normed (fun k => rBlk x0 x1 x2 x3 x4 x5 x6 x7 (ix2 (j 0) k)) (fun k => x8 (ix2 0 k)) (j 1)

theorem pay3 (x0 : Vec Ideal S512x1024 .bf16) (x1 : Vec Ideal S512x1024 .bf16) (x2 : Vec Ideal S1x1024 .f32) (x3 : Vec Ideal S1x1024 .f32) (x4 : Vec Ideal S512x1024 .bf16) (x5 : Vec Ideal S512x1024 .bf16) : k0_pay3 x0 x2 x1 x3 x4 x5 = mBlk x0 x1 x2 x3 x4 x5 := by
  funext j
  idx_vars j
  unfold_payloads
  pointwise [mBlk, mrg, logi, one]
theorem pay1 (v : FVec Ideal S512x1024 .bf16) (x : Vec Ideal S512x1024 .f32) (w : Vec Ideal S1024x1024 .bf16) (j : S512x1024.Idx) :
    k0_pay1 v x w j = resid (x (ix2 (j 0) (j 1))) (fun k => v (ix2 (j 0) k)) (fun k => w (ix2 k (j 1))) := by
  idx_vars j
  unfold_payloads
  pointwise [resid]
theorem pay2 (v : FVec Ideal S512x1024 .bf16) (x : Vec Ideal S512x1024 .f32) (w : Vec Ideal S1024x1024 .bf16) (g : Vec Ideal S1x1024 .f32) (j : S512x1024.Idx) :
    k0_pay2 v x w g j = normed (fun c => resid (x (ix2 (j 0) c)) (fun k => v (ix2 (j 0) k)) (fun k => w (ix2 k c))) (fun k => g (ix2 0 k)) (j 1) := by
  idx_vars j
  unfold_payloads
  pointwise [normed, xh, rs, ms, wid, eps, resid]

theorem pay4 (x0 : Vec Ideal S512x1024 .bf16) (x1 : Vec Ideal S512x1024 .bf16) (x2 : Vec Ideal S1x1024 .f32) (x3 : Vec Ideal S1x1024 .f32) (x4 : Vec Ideal S512x1024 .bf16) (x5 : Vec Ideal S512x1024 .bf16) (x6 : Vec Ideal S1024x1024 .bf16) (x7 : Vec Ideal S512x1024 .f32) (x8 : Vec Ideal S1x1024 .f32) : k0_pay4 x0 x1 x2 x3 x4 x5 x6 x7 x8 = mBlk x0 x1 x2 x3 x4 x5 := by
  unfold k0_pay4
  rw [View.ld_unit_zero hz2, View.ld_unit_zero hz2, View.ld_unit_zero hz2, View.ld_unit_zero hz2, View.ld_unit_zero hz2, View.ld_unit_zero hz2]
  exact pay3 x0 x1 x2 x3 x4 x5
theorem out9 (x0 : Vec Ideal S512x1024 .bf16) (x1 : Vec Ideal S512x1024 .bf16) (x2 : Vec Ideal S1x1024 .f32) (x3 : Vec Ideal S1x1024 .f32) (x4 : Vec Ideal S512x1024 .bf16) (x5 : Vec Ideal S512x1024 .bf16) (x6 : Vec Ideal S1024x1024 .bf16) (x7 : Vec Ideal S512x1024 .f32) (x8 : Vec Ideal S1x1024 .f32) (j : S512x1024.Idx) : out0_9 x0 x1 x2 x3 x4 x5 x6 x7 x8 j = mBlk x0 x1 x2 x3 x4 x5 j := by
  unfold out0_9
  rw [View.canon_unit_zero hz2]
  exact congrFun (pay4 x0 x1 x2 x3 x4 x5 x6 x7 x8) j
theorem out10 (x0 : Vec Ideal S512x1024 .bf16) (x1 : Vec Ideal S512x1024 .bf16) (x2 : Vec Ideal S1x1024 .f32) (x3 : Vec Ideal S1x1024 .f32) (x4 : Vec Ideal S512x1024 .bf16) (x5 : Vec Ideal S512x1024 .bf16) (x6 : Vec Ideal S1024x1024 .bf16) (x7 : Vec Ideal S512x1024 .f32) (x8 : Vec Ideal S1x1024 .f32) (j : S512x1024.Idx) : out0_10 x0 x1 x2 x3 x4 x5 x6 x7 x8 j = rBlk x0 x1 x2 x3 x4 x5 x6 x7 j := by
  unfold out0_10
  rw [View.canon_unit_zero hz2, View.ld_unit_zero hz2, View.ld_unit_zero hz2, pay4]
  exact pay1 _ x7 x6 j
theorem out11 (x0 : Vec Ideal S512x1024 .bf16) (x1 : Vec Ideal S512x1024 .bf16) (x2 : Vec Ideal S1x1024 .f32) (x3 : Vec Ideal S1x1024 .f32) (x4 : Vec Ideal S512x1024 .bf16) (x5 : Vec Ideal S512x1024 .bf16) (x6 : Vec Ideal S1024x1024 .bf16) (x7 : Vec Ideal S512x1024 .f32) (x8 : Vec Ideal S1x1024 .f32) (j : S512x1024.Idx) : out0_11 x0 x1 x2 x3 x4 x5 x6 x7 x8 j = hBlk x0 x1 x2 x3 x4 x5 x6 x7 x8 j := by
  unfold out0_11
  rw [View.canon_unit_zero hz2, View.ld_unit_zero hz2, View.ld_unit_zero hz2, View.ld_unit_zero hz2, pay4]
  exact pay2 _ x7 x6 x8 j

theorem V_v0 (c : Dev nD) (i : S4096x2048.Idx) : V m c main_v0 i = (ar0 m c) i := by
  unfold V
  after_reads_at

theorem V_v1 (c : Dev nD) (i : S4096x1024.Idx) : V m c main_v1 i = (ar2 m c) i := by
  unfold V
  after_reads_at

theorem V_v2 (c : Dev nD) (i : S4096x1024.Idx) : V m c main_v2 i = (ar3 m c) i := by
  unfold V
  after_reads_at

theorem V_v3 (c : Dev nD) (i : S1024x1024.Idx) : V m c main_v3 i = (ar4 m c) i := by
  unfold V
  after_reads_at

theorem idx0 : ∀ t : Fin cfg0.N, win0_0.index t 0 = t.val ∧ win0_0.index t 1 = 0 ∧ t.val < 8 :=
  (by decide +kernel : ∀ t : Fin grid0.N, _)
theorem iblk0_at (c : Dev nD) (t : Fin cfg0.N) (y : S512x1024.Idx) (i : S4096x2048.Idx)
    (h0 : (i 0).val = t.val * 512 + (y 0).val) (h1 : (i 1).val = (y 1).val) :
    iblk m c 0 t y = V m c main_v0 i :=
  congrArg (V m c main_v0) (emb_of win0_0 t y i (fall2 (toBlk h0 (idx0 t).1) (toBlk0 h1 (idx0 t).2.1)))

theorem idx1 : ∀ t : Fin cfg0.N, win0_1.index t 0 = t.val ∧ win0_1.index t 1 = 1 ∧ t.val < 8 :=
  (by decide +kernel : ∀ t : Fin grid0.N, _)
theorem iblk1_at (c : Dev nD) (t : Fin cfg0.N) (y : S512x1024.Idx) (i : S4096x2048.Idx)
    (h0 : (i 0).val = t.val * 512 + (y 0).val) (h1 : (i 1).val = 1 * 1024 + (y 1).val) :
    iblk m c 1 t y = V m c main_v0 i :=
  congrArg (V m c main_v0) (emb_of win0_1 t y i (fall2 (toBlk h0 (idx1 t).1) (toBlk h1 (idx1 t).2.1)))

theorem idx2 : ∀ t : Fin cfg0.N, win0_2.index t 0 = 0 ∧ win0_2.index t 1 = 0 ∧ t.val < 8 :=
  (by decide +kernel : ∀ t : Fin grid0.N, _)
theorem iblk2_at (c : Dev nD) (t : Fin cfg0.N) (y : S1x1024.Idx) (i : S1x2048.Idx)
    (h0 : (i 0).val = (y 0).val) (h1 : (i 1).val = (y 1).val) :
    iblk m c 2 t y = ar1 m c i :=
  (congrArg (V m c main_arg1) (emb_of win0_2 t y i (fall2 (toBlk0 h0 (idx2 t).1) (toBlk0 h1 (idx2 t).2.1)))).trans (congrFun (V_main_arg1 m c) i)

theorem idx3 : ∀ t : Fin cfg0.N, win0_3.index t 0 = 0 ∧ win0_3.index t 1 = 1 ∧ t.val < 8 :=
  (by decide +kernel : ∀ t : Fin grid0.N, _)
theorem iblk3_at (c : Dev nD) (t : Fin cfg0.N) (y : S1x1024.Idx) (i : S1x2048.Idx)
    (h0 : (i 0).val = (y 0).val) (h1 : (i 1).val = 1 * 1024 + (y 1).val) :
    iblk m c 3 t y = ar1 m c i :=
  (congrArg (V m c main_arg1) (emb_of win0_3 t y i (fall2 (toBlk0 h0 (idx3 t).1) (toBlk h1 (idx3 t).2.1)))).trans (congrFun (V_main_arg1 m c) i)

theorem idx4 : ∀ t : Fin cfg0.N, win0_4.index t 0 = t.val ∧ win0_4.index t 1 = 0 ∧ t.val < 8 :=
  (by decide +kernel : ∀ t : Fin grid0.N, _)
theorem iblk4_at (c : Dev nD) (t : Fin cfg0.N) (y : S512x1024.Idx) (i : S4096x1024.Idx)
    (h0 : (i 0).val = t.val * 512 + (y 0).val) (h1 : (i 1).val = (y 1).val) :
    iblk m c 4 t y = V m c main_v1 i :=
  congrArg (V m c main_v1) (emb_of win0_4 t y i (fall2 (toBlk h0 (idx4 t).1) (toBlk0 h1 (idx4 t).2.1)))

theorem idx5 : ∀ t : Fin cfg0.N, win0_5.index t 0 = t.val ∧ win0_5.index t 1 = 0 ∧ t.val < 8 :=
  (by decide +kernel : ∀ t : Fin grid0.N, _)
theorem iblk5_at (c : Dev nD) (t : Fin cfg0.N) (y : S512x1024.Idx) (i : S4096x1024.Idx)
    (h0 : (i 0).val = t.val * 512 + (y 0).val) (h1 : (i 1).val = (y 1).val) :
    iblk m c 5 t y = V m c main_v2 i :=
  congrArg (V m c main_v2) (emb_of win0_5 t y i (fall2 (toBlk h0 (idx5 t).1) (toBlk0 h1 (idx5 t).2.1)))

theorem idx6 : ∀ t : Fin cfg0.N, win0_6.index t 0 = 0 ∧ win0_6.index t 1 = 0 ∧ t.val < 8 :=
  (by decide +kernel : ∀ t : Fin grid0.N, _)
theorem iblk6_at (c : Dev nD) (t : Fin cfg0.N) (y : S1024x1024.Idx) (i : S1024x1024.Idx)
    (h0 : (i 0).val = (y 0).val) (h1 : (i 1).val = (y 1).val) :
    iblk m c 6 t y = V m c main_v3 i :=
  congrArg (V m c main_v3) (emb_of win0_6 t y i (fall2 (toBlk0 h0 (idx6 t).1) (toBlk0 h1 (idx6 t).2.1)))

theorem idx7 : ∀ t : Fin cfg0.N, win0_7.index t 0 = t.val ∧ win0_7.index t 1 = 0 ∧ t.val < 8 :=
  (by decide +kernel : ∀ t : Fin grid0.N, _)
theorem iblk7_at (c : Dev nD) (t : Fin cfg0.N) (y : S512x1024.Idx) (i : S4096x1024.Idx)
    (h0 : (i 0).val = t.val * 512 + (y 0).val) (h1 : (i 1).val = (y 1).val) :
    iblk m c 7 t y = ar5 m c i :=
  (congrArg (V m c main_arg5) (emb_of win0_7 t y i (fall2 (toBlk h0 (idx7 t).1) (toBlk0 h1 (idx7 t).2.1)))).trans (congrFun (V_main_arg5 m c) i)

theorem idx8 : ∀ t : Fin cfg0.N, win0_8.index t 0 = 0 ∧ win0_8.index t 1 = 0 ∧ t.val < 8 :=
  (by decide +kernel : ∀ t : Fin grid0.N, _)
theorem iblk8_at (c : Dev nD) (t : Fin cfg0.N) (y : S1x1024.Idx) (i : S1x1024.Idx)
    (h0 : (i 0).val = (y 0).val) (h1 : (i 1).val = (y 1).val) :
    iblk m c 8 t y = ar6 m c i :=
  (congrArg (V m c main_arg6) (emb_of win0_8 t y i (fall2 (toBlk0 h0 (idx8 t).1) (toBlk0 h1 (idx8 t).2.1)))).trans (congrFun (V_main_arg6 m c) i)

abbrev TG := FVec Ideal S4096x2048 .f32
abbrev TB := FVec Ideal S1x2048 .f32
abbrev TY := FVec Ideal S4096x1024 .f32
abbrev TW := FVec Ideal S1024x1024 .f32
abbrev TN := FVec Ideal S1x1024 .f32
def mR (gl : TG) (bg : TB) (ya yb : TY) : FVec Ideal S4096x1024 .bf16 := fun i =>
  mrg (gl (ix2 (i 0) (lo (i 1)))) (bg (ix2 0 (lo (i 1)))) (ya (ix2 (i 0) (i 1))) (gl (ix2 (i 0) (hi (i 1)))) (bg (ix2 0 (hi (i 1)))) (yb (ix2 (i 0) (i 1)))
def rR (gl : TG) (bg : TB) (ya yb : TY) (w : TW) (x : TY) : FVec Ideal S4096x1024 .f32 := fun i =>
  resid (x (ix2 (i 0) (i 1))) (fun k => mR gl bg ya yb (ix2 (i 0) k)) (fun k => w (ix2 k (i 1)))
def hR (gl : TG) (bg : TB) (ya yb : TY) (w : TW) (x : TY) (g : TN) : FVec Ideal S4096x1024 .bf16 := fun i =>
  normed (fun k => rR gl bg ya yb w x (ix2 (i 0) k)) (fun k => g (ix2 0 k)) (i 1)

theorem mrg_congr {a b c d e f a' b' c' d' e' f' : EReal} (h1 : a = a') (h2 : b = b') (h3 : c = c') (h4 : d = d') (h5 : e = e') (h6 : f = f') :
    mrg a b c d e f = mrg a' b' c' d' e' f' := by
  rw [h1, h2, h3, h4, h5, h6]

section
variable (c : Dev nD) (t : Fin cfg0.N) (p : Fin 512) (l : Fin 1024) (s : Fin 4096) (h : s.val = t.val * 512 + p.val)
include h
theorem tileM : mBlk (iblk m c 0 t) (iblk m c 1 t) (iblk m c 2 t) (iblk m c 3 t) (iblk m c 4 t) (iblk m c 5 t) (ix2 p l) = mR (ar0 m c) (ar1 m c) (ar2 m c) (ar3 m c) (ix2 s l) :=
  mrg_congr ((iblk0_at m c t (ix2 p l) (ix2 s (lo l)) h rfl).trans (V_v0 m c _)) (iblk2_at m c t (ix2 0 l) (ix2 0 (lo l)) rfl rfl)
    ((iblk4_at m c t (ix2 p l) (ix2 s l) h rfl).trans (V_v1 m c _)) ((iblk1_at m c t (ix2 p l) (ix2 s (hi l)) h (by show 1024 + l.val = 1 * 1024 + l.val; omega)).trans (V_v0 m c _))
    (iblk3_at m c t (ix2 0 l) (ix2 0 (hi l)) rfl (by show 1024 + l.val = 1 * 1024 + l.val; omega)) ((iblk5_at m c t (ix2 p l) (ix2 s l) h rfl).trans (V_v2 m c _))
theorem tileR : rBlk (iblk m c 0 t) (iblk m c 1 t) (iblk m c 2 t) (iblk m c 3 t) (iblk m c 4 t) (iblk m c 5 t) (iblk m c 6 t) (iblk m c 7 t) (ix2 p l) = rR (ar0 m c) (ar1 m c) (ar2 m c) (ar3 m c) (ar4 m c) (ar5 m c) (ix2 s l) :=
  congr (congrArg₂ resid (iblk7_at m c t (ix2 p l) (ix2 s l) h rfl) (funext fun k => tileM m c t p k s h))
    (funext fun k => (iblk6_at m c t (ix2 k l) (ix2 k l) rfl rfl).trans (V_v3 m c _))
theorem tileH : hBlk (iblk m c 0 t) (iblk m c 1 t) (iblk m c 2 t) (iblk m c 3 t) (iblk m c 4 t) (iblk m c 5 t) (iblk m c 6 t) (iblk m c 7 t) (iblk m c 8 t) (ix2 p l) = hR (ar0 m c) (ar1 m c) (ar2 m c) (ar3 m c) (ar4 m c) (ar5 m c) (ar6 m c) (ix2 s l) :=
  congrFun (congrArg₂ normed (funext fun k => tileR m c t p k s h) (funext fun k => iblk8_at m c t (ix2 0 k) (ix2 0 k) rfl rfl)) l
end

theorem idx9 : ∀ t : Fin cfg0.N, win0_9.index t 0 = t.val ∧ win0_9.index t 1 = 0 ∧ t.val < 8 :=
  (by decide +kernel : ∀ t : Fin grid0.N, _)
theorem cover9 (i : S4096x1024.Idx) :
    ∃ t : Fin cfg0.N, (cfg0.win 9).flush t = true ∧ i ∈ ((cfg0.win 9).blk t).view.set := by
  have h0 : (i 0).val < 4096 := (i 0).isLt
  have h1 : (i 1).val < 1024 := (i 1).isLt
  have hN : cfg0.N = 8 := N_0
  obtain ⟨t, ht⟩ : ∃ t : Fin cfg0.N, t.val = (i 0).val / 512 := ⟨⟨_, by omega⟩, rfl⟩
  exact ⟨t, flush0_9 t, in_blk (b := main_v4_0) (fall2 (inBlk (i := (i 0).val) (n := 512) (idx9 t).1 (by omega)) (inBlk (i := (i 1).val) (n := 1024) (idx9 t).2.1 (by omega)))⟩

theorem emb9 (t : Fin cfg0.N) (y : S512x1024.Idx) (i : S4096x1024.Idx) (h : ((cfg0.win 9).blk t).view.emb y = i) :
    (i 0).val = t.val * 512 + (y 0).val ∧ (i 1).val = (y 1).val :=
  ⟨ofBlk (emb_at win0_9 t y i h 0) (idx9 t).1, ofBlk0 (emb_at win0_9 t y i h 1) (idx9 t).2.1⟩

theorem final9 (c : Dev nD) : (dats m 0 c).arrAt 9 cfg0.N = mR (ar0 m c) (ar1 m c) (ar2 m c) (ar3 m c) := by
  funext i
  refine (dats m 0 c).arrAt_forall_of_cover 9 (fun i v => v = mR (ar0 m c) (ar1 m c) (ar2 m c) (ar3 m c) i) (fun t _ y => ?_) cover9 i
  generalize hi : ((cfg0.win 9).blk t).view.emb y = i'
  obtain ⟨k0, k1⟩ := emb9 t y i' hi
  have hf : (dats m 0 c).flushed 9 t y = mBlk (iblk m c 0 t) (iblk m c 1 t) (iblk m c 2 t) (iblk m c 3 t) (iblk m c 4 t) (iblk m c 5 t) y := by
    rw [Cert.Kernel10Ideal.Value.flushed9]
    exact out9 (iblk m c 0 t) (iblk m c 1 t) (iblk m c 2 t) (iblk m c 3 t) (iblk m c 4 t) (iblk m c 5 t) (iblk m c 6 t) (iblk m c 7 t) (iblk m c 8 t) y
  refine (hf : _ = _).trans ?_
  exact by2 ((tileM m c t (y 0) (y 1) (i' 0) k0).trans (congrArg (fun z => mR (ar0 m c) (ar1 m c) (ar2 m c) (ar3 m c) (ix2 (i' 0) z)) (Fin.ext k1.symm)))

theorem idx10 : ∀ t : Fin cfg0.N, win0_10.index t 0 = t.val ∧ win0_10.index t 1 = 0 ∧ t.val < 8 :=
  (by decide +kernel : ∀ t : Fin grid0.N, _)
theorem cover10 (i : S4096x1024.Idx) :
    ∃ t : Fin cfg0.N, (cfg0.win 10).flush t = true ∧ i ∈ ((cfg0.win 10).blk t).view.set := by
  have h0 : (i 0).val < 4096 := (i 0).isLt
  have h1 : (i 1).val < 1024 := (i 1).isLt
  have hN : cfg0.N = 8 := N_0
  obtain ⟨t, ht⟩ : ∃ t : Fin cfg0.N, t.val = (i 0).val / 512 := ⟨⟨_, by omega⟩, rfl⟩
  exact ⟨t, flush0_10 t, in_blk (b := main_v4_1) (fall2 (inBlk (i := (i 0).val) (n := 512) (idx10 t).1 (by omega)) (inBlk (i := (i 1).val) (n := 1024) (idx10 t).2.1 (by omega)))⟩

theorem emb10 (t : Fin cfg0.N) (y : S512x1024.Idx) (i : S4096x1024.Idx) (h : ((cfg0.win 10).blk t).view.emb y = i) :
    (i 0).val = t.val * 512 + (y 0).val ∧ (i 1).val = (y 1).val :=
  ⟨ofBlk (emb_at win0_10 t y i h 0) (idx10 t).1, ofBlk0 (emb_at win0_10 t y i h 1) (idx10 t).2.1⟩

theorem final10 (c : Dev nD) : (dats m 0 c).arrAt 10 cfg0.N = rR (ar0 m c) (ar1 m c) (ar2 m c) (ar3 m c) (ar4 m c) (ar5 m c) := by
  funext i
  refine (dats m 0 c).arrAt_forall_of_cover 10 (fun i v => v = rR (ar0 m c) (ar1 m c) (ar2 m c) (ar3 m c) (ar4 m c) (ar5 m c) i) (fun t _ y => ?_) cover10 i
  generalize hi : ((cfg0.win 10).blk t).view.emb y = i'
  obtain ⟨k0, k1⟩ := emb10 t y i' hi
  have hf : (dats m 0 c).flushed 10 t y = rBlk (iblk m c 0 t) (iblk m c 1 t) (iblk m c 2 t) (iblk m c 3 t) (iblk m c 4 t) (iblk m c 5 t) (iblk m c 6 t) (iblk m c 7 t) y := by
    rw [Cert.Kernel10Ideal.Value.flushed10]
    exact out10 (iblk m c 0 t) (iblk m c 1 t) (iblk m c 2 t) (iblk m c 3 t) (iblk m c 4 t) (iblk m c 5 t) (iblk m c 6 t) (iblk m c 7 t) (iblk m c 8 t) y
  refine (hf : _ = _).trans ?_
  exact by2 ((tileR m c t (y 0) (y 1) (i' 0) k0).trans (congrArg (fun z => rR (ar0 m c) (ar1 m c) (ar2 m c) (ar3 m c) (ar4 m c) (ar5 m c) (ix2 (i' 0) z)) (Fin.ext k1.symm)))

theorem idx11 : ∀ t : Fin cfg0.N, win0_11.index t 0 = t.val ∧ win0_11.index t 1 = 0 ∧ t.val < 8 :=
  (by decide +kernel : ∀ t : Fin grid0.N, _)
theorem cover11 (i : S4096x1024.Idx) :
    ∃ t : Fin cfg0.N, (cfg0.win 11).flush t = true ∧ i ∈ ((cfg0.win 11).blk t).view.set := by
  have h0 : (i 0).val < 4096 := (i 0).isLt
  have h1 : (i 1).val < 1024 := (i 1).isLt
  have hN : cfg0.N = 8 := N_0
  obtain ⟨t, ht⟩ : ∃ t : Fin cfg0.N, t.val = (i 0).val / 512 := ⟨⟨_, by omega⟩, rfl⟩
  exact ⟨t, flush0_11 t, in_blk (b := main_v4_2) (fall2 (inBlk (i := (i 0).val) (n := 512) (idx11 t).1 (by omega)) (inBlk (i := (i 1).val) (n := 1024) (idx11 t).2.1 (by omega)))⟩

theorem emb11 (t : Fin cfg0.N) (y : S512x1024.Idx) (i : S4096x1024.Idx) (h : ((cfg0.win 11).blk t).view.emb y = i) :
    (i 0).val = t.val * 512 + (y 0).val ∧ (i 1).val = (y 1).val :=
  ⟨ofBlk (emb_at win0_11 t y i h 0) (idx11 t).1, ofBlk0 (emb_at win0_11 t y i h 1) (idx11 t).2.1⟩

theorem final11 (c : Dev nD) : (dats m 0 c).arrAt 11 cfg0.N = hR (ar0 m c) (ar1 m c) (ar2 m c) (ar3 m c) (ar4 m c) (ar5 m c) (ar6 m c) := by
  funext i
  refine (dats m 0 c).arrAt_forall_of_cover 11 (fun i v => v = hR (ar0 m c) (ar1 m c) (ar2 m c) (ar3 m c) (ar4 m c) (ar5 m c) (ar6 m c) i) (fun t _ y => ?_) cover11 i
  generalize hi : ((cfg0.win 11).blk t).view.emb y = i'
  obtain ⟨k0, k1⟩ := emb11 t y i' hi
  have hf : (dats m 0 c).flushed 11 t y = hBlk (iblk m c 0 t) (iblk m c 1 t) (iblk m c 2 t) (iblk m c 3 t) (iblk m c 4 t) (iblk m c 5 t) (iblk m c 6 t) (iblk m c 7 t) (iblk m c 8 t) y := by
    rw [Cert.Kernel10Ideal.Value.flushed11]
    exact out11 (iblk m c 0 t) (iblk m c 1 t) (iblk m c 2 t) (iblk m c 3 t) (iblk m c 4 t) (iblk m c 5 t) (iblk m c 6 t) (iblk m c 7 t) (iblk m c 8 t) y
  refine (hf : _ = _).trans ?_
  exact by2 ((tileH m c t (y 0) (y 1) (i' 0) k0).trans (congrArg (fun z => hR (ar0 m c) (ar1 m c) (ar2 m c) (ar3 m c) (ar4 m c) (ar5 m c) (ar6 m c) (ix2 (i' 0) z)) (Fin.ext k1.symm)))

theorem ref_v7 (x0 : TG) (x1 : TB) (j : S4096x2048.Idx) :
    val_main_v7 (F := Ideal) x0 x1 j = logi (x0 (ix2 (j 0) (j 1)) + x1 (ix2 0 (j 1)) : EReal) := by
  idx_vars j
  unfold val_main_v7 val_main_v6 val_main_cst_0 val_main_v5 val_main_v4 val_main_cst val_main_v3 val_main_v2 val_main_v1 val_main_v0
  pointwise [logi, one, zero_sub]

theorem ref_v12 (x0 : TG) (x1 : TB) (x2 : TY) (x3 : TY) (j : S4096x1024.Idx) :
    val_main_v12 (F := Ideal) x0 x1 x2 x3 j = mR x0 x1 x2 x3 j := by
  idx_vars j
  unfold val_main_v12 val_main_v11 val_main_v10 val_main_v9 val_main_v8
  pointwise [ref_v7, mR, mrg]
  rfl
theorem ref_v14 (x0 : TG) (x1 : TB) (x2 : TY) (x3 : TY) (x4 : TW) (x5 : TY) (j : S4096x1024.Idx) :
    val_main_v14 (F := Ideal) x0 x1 x2 x3 x4 x5 j = rR x0 x1 x2 x3 x4 x5 j := by
  idx_vars j
  unfold val_main_v14 val_main_v13
  pointwise [ref_v12, rR, resid]

theorem ref_v15 (x0 : TG) (x1 : TB) (x2 : TY) (x3 : TY) :
    val_main_v15 (F := Ideal) x0 x1 x2 x3  = mR x0 x1 x2 x3 := by
  funext j
  idx_vars j
  unfold val_main_v15
  pointwise [ref_v12]

theorem ref_v28 (x0 : TG) (x1 : TB) (x2 : TY) (x3 : TY) (x4 : TW) (x5 : TY) (x6 : TN) :
    val_main_v28 (F := Ideal) x0 x1 x2 x3 x4 x5 x6  = hR x0 x1 x2 x3 x4 x5 x6 := by
  funext j
  idx_vars j
  unfold val_main_v28 val_main_v27 val_main_v26 val_main_v25 val_main_v24 val_main_v23 val_main_v22 val_main_v21 val_main_cst_3 val_main_v20 val_main_v19 val_main_cst_2 val_main_v18 val_main_v17 val_main_cst_1 val_main_v16
  pointwise [ref_v14, hR, normed, xh, rs, ms, wid, eps]

theorem frame_ref : Cert.quiescent_Reference10Ideal := fun m ρ _ =>
  (θ_run Cert.Reference10Ideal.defs _ _).mono (fun r h => ⟨fun c => (h c).2.2.2, Idealize.ShloMosaic.sem_eq_zero_of_no_sems (by decide) r.2⟩)
    (Cert.Reference10Ideal.Value.run (F := Ideal) m ρ)

theorem run : θ_run (Cert.Kernel10Ideal.defs (F := Ideal)) (onTc (τ := τ) (Cert.Kernel10Ideal.main (F := Ideal))) ⟨m, fun _ => 0, ρ⟩ fun r => ∀ c : Dev nD,
      r.2.mem ((c : Thread nD τ).loc main_v4_0) = mR (ar0 m c) (ar1 m c) (ar2 m c) (ar3 m c)
      ∧ r.2.mem ((c : Thread nD τ).loc main_v4_1) = rR (ar0 m c) (ar1 m c) (ar2 m c) (ar3 m c) (ar4 m c) (ar5 m c)
      ∧ r.2.mem ((c : Thread nD τ).loc main_v4_2) = hR (ar0 m c) (ar1 m c) (ar2 m c) (ar3 m c) (ar4 m c) (ar5 m c) (ar6 m c)
      ∧ r.2.mem ((c : Thread nD τ).loc main_arg0) = (ar0 m c)
      ∧ r.2.mem ((c : Thread nD τ).loc main_arg1) = (ar1 m c)
      ∧ r.2.mem ((c : Thread nD τ).loc main_arg2) = (ar2 m c)
      ∧ r.2.mem ((c : Thread nD τ).loc main_arg3) = (ar3 m c)
      ∧ r.2.mem ((c : Thread nD τ).loc main_arg4) = (ar4 m c)
      ∧ r.2.mem ((c : Thread nD τ).loc main_arg5) = (ar5 m c)
      ∧ r.2.mem ((c : Thread nD τ).loc main_arg6) = (ar6 m c) :=
  (θ_run _ _ _).mono (fun _ h c => ⟨((h c).1).trans (final9 m c), ((h c).2.1).trans (final10 m c), ((h c).2.2.1).trans (final11 m c), (h c).2.2.2⟩)
    (Cert.Kernel10Ideal.Value.run_blocks (F := Ideal) m ρ)

theorem algebraic : Cert.algebraic_Kernel10Ideal_Reference10Ideal := by
  intro m ρ m' ρ' _ hagree
  refine ⟨fun c => mR (ar0 m c) (ar1 m c) (ar2 m c) (ar3 m c), fun c => rR (ar0 m c) (ar1 m c) (ar2 m c) (ar3 m c) (ar4 m c) (ar5 m c), fun c => hR (ar0 m c) (ar1 m c) (ar2 m c) (ar3 m c) (ar4 m c) (ar5 m c) (ar6 m c), run m ρ, ?_⟩
  refine (θ_run Cert.Reference10Ideal.defs _ _).mono (fun _ h c => ⟨((h c).1).trans ?_, ((h c).2.1).trans ?_, ((h c).2.2.1).trans ?_, (h c).2.2.2⟩) (Cert.Reference10Ideal.Value.run (F := Ideal) m' ρ')
  · obtain ⟨a0, a1, a2, a3, a4, a5, a6⟩ := hagree c
    rw [val_main_v15_eq, a0, a1, a2, a3]
    exact ref_v15 _ _ _ _
  · obtain ⟨a0, a1, a2, a3, a4, a5, a6⟩ := hagree c
    rw [val_main_v14_eq, a0, a1, a2, a3, a4, a5]
    exact funext fun j => ref_v14 _ _ _ _ _ _ j
  · obtain ⟨a0, a1, a2, a3, a4, a5, a6⟩ := hagree c
    rw [val_main_v28_eq, a0, a1, a2, a3, a4, a5, a6]
    exact ref_v28 _ _ _ _ _ _ _

end Cert.GMix
-- ==== Proof.FfnIn.lean ====
module

public import proofs.«01_k».proof.Proof.Gen.Kernel11Ideal.Value
public import proofs.«01_k».proof.Proof.Gen.Reference11Ideal.Read
public import proofs.«01_k».proof.Proof.Gate
public import proofs.«01_k».proof.Proof.RmsF

@[expose] public section

set_option maxRecDepth 16384

noncomputable section

namespace Cert.FfnIn

open Idealize.ShloMosaic Idealize.ShloMosaic.TcCoe Idealize.SL.Sem Cert.Common Cert.Rms
open Cert.Gate (logi one)
open Idealize.ShloMosaic.Pipeline (Dat RDat)
open Cert.Reference11Ideal.Read
open Cert.Kernel11Ideal Cert.Kernel11Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)

theorem hz3 : (![0, 0, 0] : Fin 3 → Nat) = fun _ => 0 := funext fun a => by fin_cases a <;> rfl

def dot (a w : Fin 1024 → EReal) : EReal := ∑ k, a k * w k
/-- One element of SwiGLU. -/
def glu (g u : EReal) : EReal := g * logi g * u

def pBlk (x0 : Vec Ideal S512x1024 .bf16) (x1 : Vec Ideal S1x1024x1408 .bf16) : Vec Ideal S512x1408 .bf16 :=
  fun j => dot (fun k => x0 (ix2 (j 0) k)) (fun k => x1 (ix3 0 k (j 1)))
def aBlk (x0 : Vec Ideal S512x1024 .bf16) (x1 x2 : Vec Ideal S1x1024x1408 .bf16) : Vec Ideal S512x1408 .bf16 :=
  fun j => glu (pBlk x0 x1 (ix2 (j 0) (j 1))) (pBlk x0 x2 (ix2 (j 0) (j 1)))

theorem pay4 (x0 : Vec Ideal S512x1024 .bf16) (x1 : Vec Ideal S1x1024x1408 .bf16) (j : S512x1408.Idx) : k0_pay4 x0 x1 j = pBlk x0 x1 j := by
  idx_vars j
  unfold_payloads
  pointwise [pBlk, dot]
theorem pay5 (x0 : Vec Ideal S512x1024 .bf16) (x1 : Vec Ideal S1x1024x1408 .bf16) (j : S512x1408.Idx) : k0_pay5 x0 x1 j = pBlk x0 x1 j := by
  idx_vars j
  unfold_payloads
  pointwise [pBlk, dot]
theorem pay6 (x0 : Vec Ideal S512x1024 .bf16) (x1 x2 : Vec Ideal S1x1024x1408 .bf16) (j : S512x1408.Idx) : k0_pay6 x0 x1 x2 j = aBlk x0 x1 x2 j := by
  idx_vars j
  unfold_payloads
  pointwise [aBlk, pBlk, dot, glu, logi, one]

theorem out3 (x0 : Vec Ideal S512x1024 .bf16) (x1 x2 : Vec Ideal S1x1024x1408 .bf16) (j : S512x1408.Idx) : out0_3 x0 x1 x2 j = pBlk x0 x1 j := by
  unfold out0_3
  rw [View.canon_unit_zero hz2, View.ld_unit_zero hz2, View.ld_unit_zero hz3]
  exact pay4 x0 x1 j
theorem out4 (x0 : Vec Ideal S512x1024 .bf16) (x1 x2 : Vec Ideal S1x1024x1408 .bf16) (j : S512x1408.Idx) : out0_4 x0 x1 x2 j = pBlk x0 x2 j := by
  unfold out0_4
  rw [View.canon_unit_zero hz2, View.ld_unit_zero hz2, View.ld_unit_zero hz3]
  exact pay5 x0 x2 j
theorem out5 (x0 : Vec Ideal S512x1024 .bf16) (x1 x2 : Vec Ideal S1x1024x1408 .bf16) (j : S512x1408.Idx) : out0_5 x0 x1 x2 j = aBlk x0 x1 x2 j := by
  unfold out0_5
  rw [View.canon_unit_zero hz2, View.ld_unit_zero hz2, View.ld_unit_zero hz3, View.ld_unit_zero hz3]
  exact pay6 x0 x1 x2 j

theorem V_v3 (c : Dev nD) (i : S4096x1024.Idx) : V m c main_v3 i = (ar0 m c) i := by
  unfold V
  after_reads_at

theorem V_v2 (c : Dev nD) (b : Fin 4) (k : Fin 1024) (l : Fin 1408) (q : Fin 5632) (hq : q.val = b.val * 1408 + l.val) :
    V m c main_v2 (ix3 b k l) = (ar1 m c) (ix2 k q) := by
  unfold V
  after_reads_at
  exact congrArg (fun z => (ar1 m c) (ix2 k z)) (Fin.ext hq.symm)

theorem idx0 : ∀ t : Fin cfg0.N, win0_0.index t 0 = t.val / 2 ∧ win0_0.index t 1 = 0 ∧ t.val < 16 :=
  (by decide +kernel : ∀ t : Fin grid0.N, _)
theorem iblk0_at (c : Dev nD) (t : Fin cfg0.N) (y : S512x1024.Idx) (i : S4096x1024.Idx)
    (h0 : (i 0).val = t.val / 2 * 512 + (y 0).val) (h1 : (i 1).val = (y 1).val) :
    iblk m c 0 t y = V m c main_v3 i :=
  congrArg (V m c main_v3) (emb_of win0_0 t y i (fall2 (toBlk h0 (idx0 t).1) (toBlk0 h1 (idx0 t).2.1)))

theorem idx1 : ∀ t : Fin cfg0.N, win0_1.index t 0 = t.val % 2 ∧ win0_1.index t 1 = 0 ∧ win0_1.index t 2 = 0 ∧ t.val < 16 :=
  (by decide +kernel : ∀ t : Fin grid0.N, _)
theorem iblk1_at (c : Dev nD) (t : Fin cfg0.N) (y : S1x1024x1408.Idx) (i : S4x1024x1408.Idx)
    (h0 : (i 0).val = t.val % 2 * 1 + (y 0).val) (h1 : (i 1).val = (y 1).val) (h2 : (i 2).val = (y 2).val) :
    iblk m c 1 t y = V m c main_v2 i :=
  congrArg (V m c main_v2) (emb_of win0_1 t y i (fall3 (toBlk h0 (idx1 t).1) (toBlk0 h1 (idx1 t).2.1) (toBlk0 h2 (idx1 t).2.2.1)))

theorem idx2 : ∀ t : Fin cfg0.N, win0_2.index t 0 = (2 + t.val % 2) ∧ win0_2.index t 1 = 0 ∧ win0_2.index t 2 = 0 ∧ t.val < 16 :=
  (by decide +kernel : ∀ t : Fin grid0.N, _)
theorem iblk2_at (c : Dev nD) (t : Fin cfg0.N) (y : S1x1024x1408.Idx) (i : S4x1024x1408.Idx)
    (h0 : (i 0).val = (2 + t.val % 2) * 1 + (y 0).val) (h1 : (i 1).val = (y 1).val) (h2 : (i 2).val = (y 2).val) :
    iblk m c 2 t y = V m c main_v2 i :=
  congrArg (V m c main_v2) (emb_of win0_2 t y i (fall3 (toBlk h0 (idx2 t).1) (toBlk0 h1 (idx2 t).2.1) (toBlk0 h2 (idx2 t).2.2.1)))

abbrev TX := FVec Ideal S4096x1024 .f32
abbrev TW := FVec Ideal S1024x5632 .f32
def gcol (q : Fin 2816) : Fin 5632 := ⟨q.val, by omega⟩
def ucol (q : Fin 2816) : Fin 5632 := ⟨2816 + q.val, by omega⟩
def gR (x : TX) (w : TW) : FVec Ideal S4096x2816 .bf16 := fun i => dot (fun k => x (ix2 (i 0) k)) (fun k => w (ix2 k (gcol (i 1))))
def uR (x : TX) (w : TW) : FVec Ideal S4096x2816 .bf16 := fun i => dot (fun k => x (ix2 (i 0) k)) (fun k => w (ix2 k (ucol (i 1))))
def aR (x : TX) (w : TW) : FVec Ideal S4096x2816 .bf16 := fun i => glu (gR x w (ix2 (i 0) (i 1))) (uR x w (ix2 (i 0) (i 1)))

section
variable (c : Dev nD) (t : Fin cfg0.N) (p : Fin 512) (l : Fin 1408) (s : Fin 4096) (q : Fin 2816)
  (h : s.val = (t.val / 2) * 512 + p.val) (h' : q.val = t.val % 2 * 1408 + l.val)
include h h'
theorem tileG : pBlk (iblk m c 0 t) (iblk m c 1 t) (ix2 p l) = gR (ar0 m c) (ar1 m c) (ix2 s q) :=
  congrArg₂ dot (funext fun k => (iblk0_at m c t (ix2 p k) (ix2 s k) h rfl).trans (V_v3 m c _))
    (funext fun k => (iblk1_at m c t (ix3 0 k l) (ix3 ⟨t.val % 2, by omega⟩ k l) (by show t.val % 2 = t.val % 2 * 1 + 0; omega) rfl rfl).trans
      (V_v2 m c ⟨t.val % 2, by omega⟩ k l (gcol q) h'))
theorem tileU : pBlk (iblk m c 0 t) (iblk m c 2 t) (ix2 p l) = uR (ar0 m c) (ar1 m c) (ix2 s q) :=
  congrArg₂ dot (funext fun k => (iblk0_at m c t (ix2 p k) (ix2 s k) h rfl).trans (V_v3 m c _))
    (funext fun k => (iblk2_at m c t (ix3 0 k l) (ix3 ⟨2 + t.val % 2, by omega⟩ k l) (by show 2 + t.val % 2 = (2 + t.val % 2) * 1 + 0; omega) rfl rfl).trans
      (V_v2 m c ⟨2 + t.val % 2, by omega⟩ k l (ucol q) (by show 2816 + q.val = (2 + t.val % 2) * 1408 + l.val; omega)))
theorem tileA : aBlk (iblk m c 0 t) (iblk m c 1 t) (iblk m c 2 t) (ix2 p l) = aR (ar0 m c) (ar1 m c) (ix2 s q) :=
  congrArg₂ glu (tileG m c t p l s q h h') (tileU m c t p l s q h h')
end

theorem idx3 : ∀ t : Fin cfg0.N, win0_3.index t 0 = t.val / 2 ∧ win0_3.index t 1 = t.val % 2 ∧ t.val < 16 :=
  (by decide +kernel : ∀ t : Fin grid0.N, _)
theorem cover3 (i : S4096x2816.Idx) :
    ∃ t : Fin cfg0.N, (cfg0.win 3).flush t = true ∧ i ∈ ((cfg0.win 3).blk t).view.set := by
  have h0 : (i 0).val < 4096 := (i 0).isLt
  have h1 : (i 1).val < 2816 := (i 1).isLt
  have hN : cfg0.N = 16 := N_0
  obtain ⟨t, ht⟩ : ∃ t : Fin cfg0.N, t.val = (i 0).val / 512 * 2 + (i 1).val / 1408 := ⟨⟨_, by omega⟩, rfl⟩
  exact ⟨t, flush0_3 t, in_blk (b := main_v4_0) (fall2 (inBlk (i := (i 0).val) (n := 512) (idx3 t).1 (by omega)) (inBlk (i := (i 1).val) (n := 1408) (idx3 t).2.1 (by omega)))⟩

theorem emb3 (t : Fin cfg0.N) (y : S512x1408.Idx) (i : S4096x2816.Idx) (h : ((cfg0.win 3).blk t).view.emb y = i) :
    (i 0).val = t.val / 2 * 512 + (y 0).val ∧ (i 1).val = t.val % 2 * 1408 + (y 1).val :=
  ⟨ofBlk (emb_at win0_3 t y i h 0) (idx3 t).1, ofBlk (emb_at win0_3 t y i h 1) (idx3 t).2.1⟩

theorem final3 (c : Dev nD) : (dats m 0 c).arrAt 3 cfg0.N = gR (ar0 m c) (ar1 m c) := by
  funext i
  refine (dats m 0 c).arrAt_forall_of_cover 3 (fun i v => v = gR (ar0 m c) (ar1 m c) i) (fun t _ y => ?_) cover3 i
  generalize hi : ((cfg0.win 3).blk t).view.emb y = i'
  obtain ⟨k0, k1⟩ := emb3 t y i' hi
  have hf : (dats m 0 c).flushed 3 t y = pBlk (iblk m c 0 t) (iblk m c 1 t) y := by
    rw [Cert.Kernel11Ideal.Value.flushed3]
    exact out3 (iblk m c 0 t) (iblk m c 1 t) (iblk m c 2 t) y
  refine (hf : _ = _).trans ?_
  exact by2 (tileG m c t (y 0) (y 1) (i' 0) (i' 1) k0 k1)

theorem idx4 : ∀ t : Fin cfg0.N, win0_4.index t 0 = t.val / 2 ∧ win0_4.index t 1 = t.val % 2 ∧ t.val < 16 :=
  (by decide +kernel : ∀ t : Fin grid0.N, _)
theorem cover4 (i : S4096x2816.Idx) :
    ∃ t : Fin cfg0.N, (cfg0.win 4).flush t = true ∧ i ∈ ((cfg0.win 4).blk t).view.set := by
  have h0 : (i 0).val < 4096 := (i 0).isLt
  have h1 : (i 1).val < 2816 := (i 1).isLt
  have hN : cfg0.N = 16 := N_0
  obtain ⟨t, ht⟩ : ∃ t : Fin cfg0.N, t.val = (i 0).val / 512 * 2 + (i 1).val / 1408 := ⟨⟨_, by omega⟩, rfl⟩
  exact ⟨t, flush0_4 t, in_blk (b := main_v4_1) (fall2 (inBlk (i := (i 0).val) (n := 512) (idx4 t).1 (by omega)) (inBlk (i := (i 1).val) (n := 1408) (idx4 t).2.1 (by omega)))⟩

theorem emb4 (t : Fin cfg0.N) (y : S512x1408.Idx) (i : S4096x2816.Idx) (h : ((cfg0.win 4).blk t).view.emb y = i) :
    (i 0).val = t.val / 2 * 512 + (y 0).val ∧ (i 1).val = t.val % 2 * 1408 + (y 1).val :=
  ⟨ofBlk (emb_at win0_4 t y i h 0) (idx4 t).1, ofBlk (emb_at win0_4 t y i h 1) (idx4 t).2.1⟩

theorem final4 (c : Dev nD) : (dats m 0 c).arrAt 4 cfg0.N = uR (ar0 m c) (ar1 m c) := by
  funext i
  refine (dats m 0 c).arrAt_forall_of_cover 4 (fun i v => v = uR (ar0 m c) (ar1 m c) i) (fun t _ y => ?_) cover4 i
  generalize hi : ((cfg0.win 4).blk t).view.emb y = i'
  obtain ⟨k0, k1⟩ := emb4 t y i' hi
  have hf : (dats m 0 c).flushed 4 t y = pBlk (iblk m c 0 t) (iblk m c 2 t) y := by
    rw [Cert.Kernel11Ideal.Value.flushed4]
    exact out4 (iblk m c 0 t) (iblk m c 1 t) (iblk m c 2 t) y
  refine (hf : _ = _).trans ?_
  exact by2 (tileU m c t (y 0) (y 1) (i' 0) (i' 1) k0 k1)

theorem idx5 : ∀ t : Fin cfg0.N, win0_5.index t 0 = t.val / 2 ∧ win0_5.index t 1 = t.val % 2 ∧ t.val < 16 :=
  (by decide +kernel : ∀ t : Fin grid0.N, _)
theorem cover5 (i : S4096x2816.Idx) :
    ∃ t : Fin cfg0.N, (cfg0.win 5).flush t = true ∧ i ∈ ((cfg0.win 5).blk t).view.set := by
  have h0 : (i 0).val < 4096 := (i 0).isLt
  have h1 : (i 1).val < 2816 := (i 1).isLt
  have hN : cfg0.N = 16 := N_0
  obtain ⟨t, ht⟩ : ∃ t : Fin cfg0.N, t.val = (i 0).val / 512 * 2 + (i 1).val / 1408 := ⟨⟨_, by omega⟩, rfl⟩
  exact ⟨t, flush0_5 t, in_blk (b := main_v4_2) (fall2 (inBlk (i := (i 0).val) (n := 512) (idx5 t).1 (by omega)) (inBlk (i := (i 1).val) (n := 1408) (idx5 t).2.1 (by omega)))⟩

theorem emb5 (t : Fin cfg0.N) (y : S512x1408.Idx) (i : S4096x2816.Idx) (h : ((cfg0.win 5).blk t).view.emb y = i) :
    (i 0).val = t.val / 2 * 512 + (y 0).val ∧ (i 1).val = t.val % 2 * 1408 + (y 1).val :=
  ⟨ofBlk (emb_at win0_5 t y i h 0) (idx5 t).1, ofBlk (emb_at win0_5 t y i h 1) (idx5 t).2.1⟩

theorem final5 (c : Dev nD) : (dats m 0 c).arrAt 5 cfg0.N = aR (ar0 m c) (ar1 m c) := by
  funext i
  refine (dats m 0 c).arrAt_forall_of_cover 5 (fun i v => v = aR (ar0 m c) (ar1 m c) i) (fun t _ y => ?_) cover5 i
  generalize hi : ((cfg0.win 5).blk t).view.emb y = i'
  obtain ⟨k0, k1⟩ := emb5 t y i' hi
  have hf : (dats m 0 c).flushed 5 t y = aBlk (iblk m c 0 t) (iblk m c 1 t) (iblk m c 2 t) y := by
    rw [Cert.Kernel11Ideal.Value.flushed5]
    exact out5 (iblk m c 0 t) (iblk m c 1 t) (iblk m c 2 t) y
  refine (hf : _ = _).trans ?_
  exact by2 (tileA m c t (y 0) (y 1) (i' 0) (i' 1) k0 k1)

theorem ref_v1 (x0 : TX) (x1 : TW) (j : S4096x2816.Idx) :
    val_main_v1 (F := Ideal) x0 x1 j = gR x0 x1 j := by
  idx_vars j
  unfold val_main_v1 val_main_v0
  pointwise [gR, dot, gcol]

theorem ref_v2 (x0 : TX) (x1 : TW) (j : S4096x2816.Idx) :
    val_main_v2 (F := Ideal) x0 x1 j = uR x0 x1 j := by
  idx_vars j
  unfold val_main_v2 val_main_v0
  pointwise [uR, dot, ucol]

theorem ref_v3 (x0 : TX) (x1 : TW) :
    val_main_v3 (F := Ideal) x0 x1  = gR x0 x1 := by
  funext j
  idx_vars j
  unfold val_main_v3
  pointwise [ref_v1]

theorem ref_v4 (x0 : TX) (x1 : TW) :
    val_main_v4 (F := Ideal) x0 x1  = uR x0 x1 := by
  funext j
  idx_vars j
  unfold val_main_v4
  pointwise [ref_v2]

theorem ref_v7 (x0 : TX) (x1 : TW) :
    val_main_v7 (F := Ideal) x0 x1  = aR x0 x1 := by
  funext j
  idx_vars j
  unfold val_main_v7 val_main_v6 val_main_v5 val_main_call0_v5 val_main_call0_v4 val_main_call0_cst_0 val_main_call0_v3 val_main_call0_v2 val_main_call0_cst val_main_call0_v1 val_main_call0_v0
  pointwise [ref_v1, ref_v2, aR, glu, logi, one, zero_sub]

theorem frame_ref : Cert.quiescent_Reference11Ideal := fun m ρ _ =>
  (θ_run Cert.Reference11Ideal.defs _ _).mono (fun r h => ⟨fun c => (h c).2.2.2, Idealize.ShloMosaic.sem_eq_zero_of_no_sems (by decide) r.2⟩)
    (Cert.Reference11Ideal.Value.run (F := Ideal) m ρ)

theorem run : θ_run (Cert.Kernel11Ideal.defs (F := Ideal)) (onTc (τ := τ) (Cert.Kernel11Ideal.main (F := Ideal))) ⟨m, fun _ => 0, ρ⟩ fun r => ∀ c : Dev nD,
      r.2.mem ((c : Thread nD τ).loc main_v4_0) = gR (ar0 m c) (ar1 m c)
      ∧ r.2.mem ((c : Thread nD τ).loc main_v4_1) = uR (ar0 m c) (ar1 m c)
      ∧ r.2.mem ((c : Thread nD τ).loc main_v4_2) = aR (ar0 m c) (ar1 m c)
      ∧ r.2.mem ((c : Thread nD τ).loc main_arg0) = (ar0 m c)
      ∧ r.2.mem ((c : Thread nD τ).loc main_arg1) = (ar1 m c) :=
  (θ_run _ _ _).mono (fun _ h c => ⟨((h c).1).trans (final3 m c), ((h c).2.1).trans (final4 m c), ((h c).2.2.1).trans (final5 m c), (h c).2.2.2⟩)
    (Cert.Kernel11Ideal.Value.run_blocks (F := Ideal) m ρ)

theorem algebraic : Cert.algebraic_Kernel11Ideal_Reference11Ideal := by
  intro m ρ m' ρ' _ hagree
  refine ⟨fun c => gR (ar0 m c) (ar1 m c), fun c => uR (ar0 m c) (ar1 m c), fun c => aR (ar0 m c) (ar1 m c), run m ρ, ?_⟩
  refine (θ_run Cert.Reference11Ideal.defs _ _).mono (fun _ h c => ⟨((h c).1).trans ?_, ((h c).2.1).trans ?_, ((h c).2.2.1).trans ?_, (h c).2.2.2⟩) (Cert.Reference11Ideal.Value.run (F := Ideal) m' ρ')
  · obtain ⟨a0, a1⟩ := hagree c
    rw [val_main_v3_eq, a0, a1]
    exact ref_v3 _ _
  · obtain ⟨a0, a1⟩ := hagree c
    rw [val_main_v4_eq, a0, a1]
    exact ref_v4 _ _
  · obtain ⟨a0, a1⟩ := hagree c
    rw [val_main_v7_eq, a0, a1]
    exact ref_v7 _ _

end Cert.FfnIn
-- ==== Proof.Mixb.lean ====
module

public import proofs.«01_k».proof.Proof.Gen.Kernel3Ideal.Value
public import proofs.«01_k».proof.Proof.Gen.Reference3Ideal.Read
public import proofs.«01_k».proof.Proof.Gen.Pre_finite_mix
public import proofs.«01_k».proof.Proof.Common
public import proofs.«01_k».proof.Proof.Win

@[expose] public section

set_option maxRecDepth 16384

noncomputable section

namespace Cert.Mixb

open Idealize.ShloMosaic Idealize.ShloMosaic.TcCoe Idealize.SL.Sem Cert.Common
open Idealize.ShloMosaic.Pipeline (Dat RDat)
open Cert.Kernel3Ideal Cert.Kernel3Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)
abbrev ar2 (c : Dev nD) := m ((c : Thread nD τ).loc main_arg2)

/-- The quotient by 64, rounded down, as the body computes it. -/
def flo (b : BitVec 32) : BitVec 32 :=
  Scalar.select
    (IntOp.andi
      (IntOp.cmpi .ne
        (IntOp.subi (BitVec.setWidth 32 (IntOp.cmpi .sgt b 0#32)) (BitVec.setWidth 32 (IntOp.cmpi .slt b 0#32)))
        (Scalar.subi (Scalar.extui (Scalar.cmpi .sgt 64#32 0#32)) (Scalar.extui (Scalar.cmpi .slt 64#32 0#32))))
      (IntOp.cmpi .ne (IntOp.remsi ArithUnit.vector b 64#32) 0#32))
    (IntOp.subi (IntOp.divsi ArithUnit.vector b 64#32) 1#32)
    (IntOp.divsi ArithUnit.vector b 64#32)
theorem flo_eq : ∀ k : Fin 128, flo (BitVec.ofNat 32 k.val) = BitVec.ofNat 32 (k.val / 64) := by decide +kernel
/-- One where two lanes are of one head. -/
def same (k l : Fin 128) : EReal :=
  FloatOps.sitofp (F := Ideal) FTy.f32 (BitVec.setWidth 32 (IntOp.cmpi .eq (flo (BitVec.ofNat 32 k.val)) (flo (BitVec.ofNat 32 l.val))))
theorem same_bit : ∀ k l : Fin 2, BitVec.setWidth 32 (IntOp.cmpi .eq (BitVec.ofNat 32 k.val) (BitVec.ofNat 32 l.val)) = if k = l then 1#32 else 0#32 := by decide
theorem same_eq (k l : Fin 128) : same k l = if k.val / 64 = l.val / 64 then 1 else 0 := by
  unfold same
  rw [flo_eq, flo_eq]
  have h := same_bit ⟨k.val / 64, by omega⟩ ⟨l.val / 64, by omega⟩
  dsimp only at h
  rw [h]
  by_cases e : k.val / 64 = l.val / 64
  · rw [if_pos e, if_pos (Fin.ext e)]
    show (((1#32 : BitVec 32).toInt : ℝ) : EReal) = 1
    norm_num
  · rw [if_neg e, if_neg (fun h => e (congrArg Fin.val h))]
    show (((0#32 : BitVec 32).toInt : ℝ) : EReal) = 0
    norm_num

/-- The lanes which hold the log-sum: the first half of every head's, as the body finds them. -/
def fb (b : BitVec 32) : BitVec 1 :=
  IntOp.cmpi .slt
    (Scalar.select
      (IntOp.andi
        (IntOp.xori
          (IntOp.cmpi .slt (IntOp.remsi ArithUnit.vector b (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi ArithUnit.vector b (Scalar.select (Scalar.cmpi .eq 64#32 0#32) 1#32 64#32)) 0#32))
      (IntOp.addi (IntOp.remsi ArithUnit.vector b (Scalar.select (Scalar.cmpi .eq 64#32 0#32) 1#32 64#32))
        (Scalar.select (Scalar.cmpi .eq 64#32 0#32) 1#32 64#32))
      (IntOp.remsi ArithUnit.vector b (Scalar.select (Scalar.cmpi .eq 64#32 0#32) 1#32 64#32)))
    32#32
theorem fb_eq : ∀ l : Fin 128, fb (BitVec.ofNat 32 l.val) = if l.val % 64 < 32 then 1#1 else 0#1 := by decide +kernel
theorem sel_fb (l : Fin 128) (x y : EReal) : Scalar.select (fb (BitVec.ofNat 32 l.val)) x y = if l.val % 64 < 32 then x else y := by
  rw [fb_eq]
  by_cases h : l.val % 64 < 32
  · rw [if_pos h, if_pos h]; rfl
  · rw [if_neg h, if_neg h]; rfl

/-- A head's sum, of a value's three pieces. -/
def hs3 (f : Fin 128 → EReal) (l : Fin 128) : EReal :=
  ∑ k, f k * same k l + ∑ k, (f k - f k) * same k l + ∑ k, (f k - f k - (f k - f k)) * same k l

def mixMax (a b c : EReal) : EReal := max (max a b) c
def mixExp (x a b c : EReal) : EReal := Ideal.exp (x - mixMax a b c)
def mixDen (a b c : EReal) : EReal := mixExp a a b c + mixExp b a b c + mixExp c a b c
/-- The weight of the group with log-sum x. -/
def alp (x a b c : EReal) : EReal := Ideal.div (mixExp x a b c) (mixDen a b c)
def mean (a b c d0 d1 d2 : EReal) : EReal := alp a a b c * d0 + alp b a b c * d1 + alp c a b c * d2

section
variable (v : Vec Ideal S512x128 .f32) (P Q R : FVec Ideal S512x128 .f32) (y o a b c : Vec Ideal S1x512x128 .f32)

theorem hs20 (j : S512x128.Idx) :
    k0_pay20 P k0_pay16 (iota .tc S128x128 32 [1] iota_S128x128_d1_w32) k0_pay17 k0_pay18 k0_pay19 j = hs3 (fun k => P (ix2 (j 0) k)) (j 1) := by
  idx_vars j
  unfold_payloads
  pointwise [hs3, same, flo]
theorem hs31 (j : S512x128.Idx) :
    k0_pay31 (k0_pay25 (F := Ideal) (iota .tc S128x128 32 [0] iota_S128x128_d0_w32) k0_pay22 k0_pay23 k0_pay24) (k0_pay29 P)
      (k0_pay30 P (iota .tc S128x128 32 [0] iota_S128x128_d0_w32) k0_pay22 k0_pay23 k0_pay24) j = hs3 (fun k => P (ix2 (j 0) k)) (j 1) := by
  idx_vars j
  unfold_payloads
  pointwise [hs3, same, flo]
theorem hs61 (j : S512x128.Idx) :
    k0_pay61 P k0_pay57 (iota .tc S128x128 32 [1] iota_S128x128_d1_w32) 64#32 k0_pay58 k0_pay59 k0_pay60 j = hs3 (fun k => P (ix2 (j 0) k)) (j 1) := by
  idx_vars j
  unfold_payloads
  pointwise [hs3, same, flo]
theorem hs69 (j : S512x128.Idx) :
    k0_pay69 P (k0_pay66 (F := Ideal) (iota .tc S128x128 32 [0] iota_S128x128_d0_w32) 64#32 k0_pay63 k0_pay64 k0_pay65) (k0_pay67 P) (k0_pay68 P) j = hs3 (fun k => P (ix2 (j 0) k)) (j 1) := by
  idx_vars j
  unfold_payloads
  pointwise [hs3, same, flo]

variable (v37 v38 v39 v110 v181 : FVec Ideal S512x128 .f32)
theorem mean36 (j : S512x128.Idx) :
    k0_pay36 v37 v38 v39 v110 v181 P k0_pay33 (iota .tc S128x128 32 [1] iota_S128x128_d1_w32) 64#32 k0_pay34 k0_pay35
      (Scalar.extui (Scalar.cmpi .sgt 64#32 0#32)) (Scalar.extui (Scalar.cmpi .slt 64#32 0#32)) j =
    v37 j * v110 j + v38 j * v181 j + v39 j * hs3 (fun k => P (ix2 (j 0) k)) (j 1) := by
  idx_vars j
  unfold_payloads
  pointwise [hs3, same, flo]
theorem mean74 (j : S512x128.Idx) :
    k0_pay74 v37 v38 v39 v110 v181 P k0_pay71 (iota .tc S128x128 32 [1] iota_S128x128_d1_w32) 64#32 k0_pay72 k0_pay73 j =
    v37 j * v110 j + v38 j * v181 j + v39 j * hs3 (fun k => P (ix2 (j 0) k)) (j 1) := by
  idx_vars j
  unfold_payloads
  pointwise [hs3, same, flo]
theorem alp12 (j : S512x128.Idx) : k0_pay12 a b c j = alp (a (ix3 0 (j 0) (j 1))) (a (ix3 0 (j 0) (j 1))) (b (ix3 0 (j 0) (j 1))) (c (ix3 0 (j 0) (j 1))) := by
  idx_vars j
  unfold_payloads
  pointwise [alp, mixExp, mixDen, mixMax]
theorem alp13 (j : S512x128.Idx) : k0_pay13 a b c j = alp (b (ix3 0 (j 0) (j 1))) (a (ix3 0 (j 0) (j 1))) (b (ix3 0 (j 0) (j 1))) (c (ix3 0 (j 0) (j 1))) := by
  idx_vars j
  unfold_payloads
  pointwise [alp, mixExp, mixDen, mixMax]
theorem alp14 (j : S512x128.Idx) : k0_pay14 a b c j = alp (c (ix3 0 (j 0) (j 1))) (a (ix3 0 (j 0) (j 1))) (b (ix3 0 (j 0) (j 1))) (c (ix3 0 (j 0) (j 1))) := by
  idx_vars j
  unfold_payloads
  pointwise [alp, mixExp, mixDen, mixMax]
theorem alp53 (j : S512x128.Idx) : k0_pay53 (k0_pay44 a) (k0_pay45 b) (k0_pay46 c) (k0_pay47 a b) j = alp (a (ix3 0 (j 0) (j 1))) (a (ix3 0 (j 0) (j 1))) (b (ix3 0 (j 0) (j 1))) (c (ix3 0 (j 0) (j 1))) := by
  idx_vars j
  unfold_payloads
  pointwise [alp, mixExp, mixDen, mixMax]
theorem alp54 (j : S512x128.Idx) : k0_pay54 (k0_pay44 a) (k0_pay45 b) (k0_pay46 c) (k0_pay47 a b) j = alp (b (ix3 0 (j 0) (j 1))) (a (ix3 0 (j 0) (j 1))) (b (ix3 0 (j 0) (j 1))) (c (ix3 0 (j 0) (j 1))) := by
  idx_vars j
  unfold_payloads
  pointwise [alp, mixExp, mixDen, mixMax]
theorem alp55 (j : S512x128.Idx) : k0_pay55 (k0_pay44 a) (k0_pay45 b) (k0_pay46 c) (k0_pay47 a b) j = alp (c (ix3 0 (j 0) (j 1))) (a (ix3 0 (j 0) (j 1))) (b (ix3 0 (j 0) (j 1))) (c (ix3 0 (j 0) (j 1))) := by
  idx_vars j
  unfold_payloads
  pointwise [alp, mixExp, mixDen, mixMax]
theorem prod15 (j : S512x128.Idx) : k0_pay15 (k0_pay3 v) o j = (v j * o (ix3 0 (j 0) (j 1)) : EReal) := by
  idx_vars j
  unfold_payloads
  pointwise []
theorem prod21 (j : S512x128.Idx) : k0_pay21 (k0_pay3 v) o j = (v j * o (ix3 0 (j 0) (j 1)) : EReal) := by
  idx_vars j
  unfold_payloads
  pointwise []
theorem prod32 (j : S512x128.Idx) : k0_pay32 (k0_pay3 v) o j = (v j * o (ix3 0 (j 0) (j 1)) : EReal) := by
  idx_vars j
  unfold_payloads
  pointwise []
theorem prod56 (j : S512x128.Idx) : k0_pay56 (k0_pay43 v) o j = (v j * o (ix3 0 (j 0) (j 1)) : EReal) := by
  idx_vars j
  unfold_payloads
  pointwise []
theorem prod62 (j : S512x128.Idx) : k0_pay62 (k0_pay43 v) o j = (v j * o (ix3 0 (j 0) (j 1)) : EReal) := by
  idx_vars j
  unfold_payloads
  pointwise []
theorem prod70 (j : S512x128.Idx) : k0_pay70 (k0_pay43 v) o j = (v j * o (ix3 0 (j 0) (j 1)) : EReal) := by
  idx_vars j
  unfold_payloads
  pointwise []
theorem do37 (j : S1x512x128.Idx) : k0_pay37 (k0_pay3 v) P j = (P (ix2 (j 1) (j 2)) * v (ix2 (j 1) (j 2)) : EReal) := by
  idx_vars j
  unfold_payloads
  pointwise []
theorem do39 (j : S1x512x128.Idx) : k0_pay39 (k0_pay3 v) P j = (P (ix2 (j 1) (j 2)) * v (ix2 (j 1) (j 2)) : EReal) := by
  idx_vars j
  unfold_payloads
  pointwise []
theorem do41 (j : S1x512x128.Idx) : k0_pay41 (k0_pay3 v) P j = (P (ix2 (j 1) (j 2)) * v (ix2 (j 1) (j 2)) : EReal) := by
  idx_vars j
  unfold_payloads
  pointwise []
theorem do75 (j : S1x512x128.Idx) : k0_pay75 (k0_pay43 v) P j = (P (ix2 (j 1) (j 2)) * v (ix2 (j 1) (j 2)) : EReal) := by
  idx_vars j
  unfold_payloads
  pointwise []
theorem do77 (j : S1x512x128.Idx) : k0_pay77 (k0_pay43 v) P j = (P (ix2 (j 1) (j 2)) * v (ix2 (j 1) (j 2)) : EReal) := by
  idx_vars j
  unfold_payloads
  pointwise []
theorem do79 (j : S1x512x128.Idx) : k0_pay79 (k0_pay43 v) P j = (P (ix2 (j 1) (j 2)) * v (ix2 (j 1) (j 2)) : EReal) := by
  idx_vars j
  unfold_payloads
  pointwise []
theorem st38 (j : S1x512x128.Idx) :
    k0_pay38 k0_pay2 (k0_pay4 y) v37 v38 v39 v110 v181 P k0_pay33 (iota .tc S128x128 32 [1] iota_S128x128_d1_w32) 64#32 k0_pay34 k0_pay35
      (Scalar.extui (Scalar.cmpi .sgt 64#32 0#32)) (Scalar.extui (Scalar.cmpi .slt 64#32 0#32)) j =
    if (j 2).val % 64 < 32 then y (ix3 0 (j 1) (j 2)) else ((0 - v37 (ix2 (j 1) (j 2))) *
      k0_pay36 v37 v38 v39 v110 v181 P k0_pay33 (iota .tc S128x128 32 [1] iota_S128x128_d1_w32) 64#32 k0_pay34 k0_pay35
        (Scalar.extui (Scalar.cmpi .sgt 64#32 0#32)) (Scalar.extui (Scalar.cmpi .slt 64#32 0#32)) (ix2 (j 1) (j 2)) : EReal) := by
  refine Eq.trans ?_ (sel_fb (j 2) _ _)
  idx_vars j
  unfold k0_pay38 k0_pay4 k0_pay2
  pointwise [fb]
theorem st40 (j : S1x512x128.Idx) : k0_pay40 k0_pay2 (k0_pay5 y) P Q j =
    if (j 2).val % 64 < 32 then y (ix3 0 (j 1) (j 2)) else ((0 - P (ix2 (j 1) (j 2))) * Q (ix2 (j 1) (j 2)) : EReal) := by
  refine Eq.trans ?_ (sel_fb (j 2) _ _)
  idx_vars j
  unfold_payloads
  pointwise [fb]
theorem st42 (j : S1x512x128.Idx) : k0_pay42 k0_pay2 (k0_pay6 y) P Q j =
    if (j 2).val % 64 < 32 then y (ix3 0 (j 1) (j 2)) else ((0 - P (ix2 (j 1) (j 2))) * Q (ix2 (j 1) (j 2)) : EReal) := by
  refine Eq.trans ?_ (sel_fb (j 2) _ _)
  idx_vars j
  unfold_payloads
  pointwise [fb]
theorem st76 (j : S1x512x128.Idx) : k0_pay76 k0_pay2 (k0_pay44 y) P Q j =
    if (j 2).val % 64 < 32 then y (ix3 0 (j 1) (j 2)) else ((0 - P (ix2 (j 1) (j 2))) * Q (ix2 (j 1) (j 2)) : EReal) := by
  refine Eq.trans ?_ (sel_fb (j 2) _ _)
  idx_vars j
  unfold_payloads
  pointwise [fb]
theorem st78 (j : S1x512x128.Idx) : k0_pay78 k0_pay2 (k0_pay45 y) P Q j =
    if (j 2).val % 64 < 32 then y (ix3 0 (j 1) (j 2)) else ((0 - P (ix2 (j 1) (j 2))) * Q (ix2 (j 1) (j 2)) : EReal) := by
  refine Eq.trans ?_ (sel_fb (j 2) _ _)
  idx_vars j
  unfold_payloads
  pointwise [fb]
theorem st80 (j : S1x512x128.Idx) : k0_pay1 (k0_pay80 k0_pay2 (k0_pay46 y) P Q) j =
    if (j 2).val % 64 < 32 then y (ix3 0 (j 1) (j 2)) else ((0 - P (ix2 (j 1) (j 2))) * Q (ix2 (j 1) (j 2)) : EReal) := by
  refine Eq.trans ?_ (sel_fb (j 2) _ _)
  idx_vars j
  unfold_payloads
  pointwise [fb]
end
/-- A tile's cotangent by halves, and what the tiles of the results hold. -/
def ctl (x0 : Vec Ideal S512x256 .f32) (f : Fin 2) (p : Fin 512) (l : Fin 128) : EReal := x0 (ix2 p ⟨128 * f.val + l.val, by omega⟩)
section
variable (x0 : Vec Ideal S512x256 .f32) (x1 x2 x3 x4 x5 x6 x : Vec Ideal S2x512x128 .f32)
def wB (f : Fin 2) (p : Fin 512) (l : Fin 128) : EReal := alp (x (ix3 f p l)) (x4 (ix3 f p l)) (x5 (ix3 f p l)) (x6 (ix3 f p l))
def doB : Vec Ideal S2x512x128 .f32 := fun j => wB x4 x5 x6 x (j 0) (j 1) (j 2) * ctl x0 (j 0) (j 1) (j 2)
def dB (f : Fin 2) (p : Fin 512) (l : Fin 128) : EReal := hs3 (fun k => ctl x0 f p k * x (ix3 f p k)) l
def meanB (f : Fin 2) (p : Fin 512) (l : Fin 128) : EReal :=
  mean (x4 (ix3 f p l)) (x5 (ix3 f p l)) (x6 (ix3 f p l)) (dB x0 x1 f p l) (dB x0 x2 f p l) (dB x0 x3 f p l)
def stB : Vec Ideal S2x512x128 .f32 := fun j =>
  if (j 2).val % 64 < 32 then x (ix3 (j 0) (j 1) (j 2))
  else (0 - wB x4 x5 x6 x (j 0) (j 1) (j 2)) * meanB x0 x1 x2 x3 x4 x5 x6 (j 0) (j 1) (j 2)

theorem emb1 (y : S1x512x128.Idx) : r0_1.emb y = (ix3 0 (y 1) (y 2) : S2x512x128.Idx) := by
  funext a
  refine Fin.ext ?_
  match a with
  | ⟨0, _⟩ => have := (y 0).isLt; show 0 + 1 * (y 0).val = 0; change (y 0).val < 1 at this; omega
  | ⟨1, _⟩ => show 0 + 1 * (y 1).val = (y 1).val; omega
  | ⟨2, _⟩ => show 0 + 1 * (y 2).val = (y 2).val; omega
theorem emb3 (y : S1x512x128.Idx) : r0_3.emb y = (ix3 1 (y 1) (y 2) : S2x512x128.Idx) := by
  funext a
  refine Fin.ext ?_
  match a with
  | ⟨0, _⟩ => have := (y 0).isLt; show 1 + 1 * (y 0).val = 1; change (y 0).val < 1 at this; omega
  | ⟨1, _⟩ => show 0 + 1 * (y 1).val = (y 1).val; omega
  | ⟨2, _⟩ => show 0 + 1 * (y 2).val = (y 2).val; omega
theorem ld1 (p : Fin 512) (l : Fin 128) : View.ld x r0_1 (ix3 0 p l : S1x512x128.Idx) = x (ix3 0 p l) := congrArg x (emb1 (ix3 0 p l))
theorem ld3 (p : Fin 512) (l : Fin 128) : View.ld x r0_3 (ix3 0 p l : S1x512x128.Idx) = x (ix3 1 p l) := congrArg x (emb3 (ix3 0 p l))
theorem ld0 (p : Fin 512) (l : Fin 128) : View.ld x0 r0_0 (ix2 p l : S512x128.Idx) = ctl x0 0 p l := by
  refine congrArg x0 (funext fun a => Fin.ext ?_)
  match a with
  | ⟨0, _⟩ => show 0 + 1 * p.val = p.val; omega
  | ⟨1, _⟩ => show 0 + 1 * l.val = 128 * 0 + l.val; omega
theorem ld2 (p : Fin 512) (l : Fin 128) : View.ld x0 r0_2 (ix2 p l : S512x128.Idx) = ctl x0 1 p l := by
  refine congrArg x0 (funext fun a => Fin.ext ?_)
  match a with
  | ⟨0, _⟩ => show 0 + 1 * p.val = p.val; omega
  | ⟨1, _⟩ => show 128 + 1 * l.val = 128 * 1 + l.val; omega

/-- A tile is its two halves. -/
theorem halves (f : S2x512x128.Idx → EReal) (u v : FVec Ideal S1x512x128 .f32)
    (hu : ∀ (y : S1x512x128.Idx) (p : Fin 512) (l : Fin 128), y 1 = p → y 2 = l → u y = f (ix3 1 p l)) (hv : ∀ (y : S1x512x128.Idx) (p : Fin 512) (l : Fin 128), y 1 = p → y 2 = l → v y = f (ix3 0 p l)) (j : S2x512x128.Idx) :
    View.canon (Val := Elt Ideal) (s := S2x512x128) (e := .f32) [⟨r0_3, u⟩, ⟨r0_1, v⟩] j = f j := by
  refine View.canon_apply_of_pieces (Val := Elt Ideal) (e := .f32) f _ ?_ j ?_
  · intro p hp x
    rcases List.mem_cons.1 hp with rfl | hp
    · exact (hu x _ _ rfl rfl).trans (congrArg f (emb3 x).symm)
    · rcases List.mem_cons.1 hp with rfl | hp
      · exact (hv x _ _ rfl rfl).trans (congrArg f (emb1 x).symm)
      · cases hp
  · have h1 := (j 1).isLt
    have h2 := (j 2).isLt
    have h0 := (j 0).isLt
    change (j 0).val < 2 at h0
    change (j 1).val < 512 at h1
    change (j 2).val < 128 at h2
    by_cases h : (j 0).val < 1
    · refine ⟨_, List.mem_cons_of_mem _ (List.mem_cons_self ..), ?_⟩
      show j ∈ r0_1.set
      rw [Rect.mem_set_unit]
      intro a
      match a with
      | ⟨0, _⟩ => exact ⟨Nat.zero_le _, by show (j 0).val < 0 + 1; omega⟩
      | ⟨1, _⟩ => exact ⟨Nat.zero_le _, by show (j 1).val < 0 + 512; omega⟩
      | ⟨2, _⟩ => exact ⟨Nat.zero_le _, by show (j 2).val < 0 + 128; omega⟩
    · refine ⟨_, List.mem_cons_self .., ?_⟩
      show j ∈ r0_3.set
      rw [Rect.mem_set_unit]
      intro a
      match a with
      | ⟨0, _⟩ => exact ⟨by show 1 ≤ (j 0).val; omega, by show (j 0).val < 1 + 1; omega⟩
      | ⟨1, _⟩ => exact ⟨Nat.zero_le _, by show (j 1).val < 0 + 512; omega⟩
      | ⟨2, _⟩ => exact ⟨Nat.zero_le _, by show (j 2).val < 0 + 128; omega⟩

theorem alp_congr {x a b c x' a' b' c' : EReal} (hx : x = x') (ha : a = a') (hb : b = b') (hc : c = c') : alp x a b c = alp x' a' b' c' := by
  subst hx ha hb hc; rfl
theorem add3 {a b c d e f a' b' c' d' e' f' : EReal} (ha : a = a') (hb : b = b') (hc : c = c') (hd : d = d') (he : e = e') (hf : f = f') :
    a * b + c * d + e * f = a' * b' + c' * d' + e' * f' := by
  subst ha hb hc hd he hf; rfl
theorem ite_congr3 {n : Nat} {a w m a' w' m' : EReal} (ha : a = a') (hw : w = w') (hm : m = m') :
    (if n % 64 < 32 then a else (0 - w) * m) = if n % 64 < 32 then a' else (0 - w') * m' := by
  subst ha hw hm; rfl
theorem hs3_congr {f g : Fin 128 → EReal} (h : ∀ k, f k = g k) (l : Fin 128) : hs3 f l = hs3 g l := congrArg (hs3 · l) (funext h)
theorem out7 (j : S2x512x128.Idx) : out0_7 x0 x1 x2 x3 x4 x5 x6 j = doB x0 x4 x5 x6 x4 j := by
  unfold_out out0_7
  refine halves (doB x0 x4 x5 x6 x4) _ _ (fun y p l hp hl => ?_) (fun y p l hp hl => ?_) j
  · refine (do75 _ _ y).trans ?_
    rw [hp, hl]
    exact congrArg₂ (· * ·) ((alp53 _ _ _ (ix2 p l)).trans (alp_congr (ld3 x4 p l) (ld3 x4 p l) (ld3 x5 p l) (ld3 x6 p l))) (ld2 x0 p l)
  · refine (do37 _ _ y).trans ?_
    rw [hp, hl]
    exact congrArg₂ (· * ·) ((alp12 _ _ _ (ix2 p l)).trans (alp_congr (ld1 x4 p l) (ld1 x4 p l) (ld1 x5 p l) (ld1 x6 p l))) (ld0 x0 p l)

theorem out8 (j : S2x512x128.Idx) : out0_8 x0 x1 x2 x3 x4 x5 x6 j = doB x0 x4 x5 x6 x5 j := by
  unfold_out out0_8
  refine halves (doB x0 x4 x5 x6 x5) _ _ (fun y p l hp hl => ?_) (fun y p l hp hl => ?_) j
  · refine (do77 _ _ y).trans ?_
    rw [hp, hl]
    exact congrArg₂ (· * ·) ((alp54 _ _ _ (ix2 p l)).trans (alp_congr (ld3 x5 p l) (ld3 x4 p l) (ld3 x5 p l) (ld3 x6 p l))) (ld2 x0 p l)
  · refine (do39 _ _ y).trans ?_
    rw [hp, hl]
    exact congrArg₂ (· * ·) ((alp13 _ _ _ (ix2 p l)).trans (alp_congr (ld1 x5 p l) (ld1 x4 p l) (ld1 x5 p l) (ld1 x6 p l))) (ld0 x0 p l)

theorem out9 (j : S2x512x128.Idx) : out0_9 x0 x1 x2 x3 x4 x5 x6 j = doB x0 x4 x5 x6 x6 j := by
  unfold_out out0_9
  refine halves (doB x0 x4 x5 x6 x6) _ _ (fun y p l hp hl => ?_) (fun y p l hp hl => ?_) j
  · refine (do79 _ _ y).trans ?_
    rw [hp, hl]
    exact congrArg₂ (· * ·) ((alp55 _ _ _ (ix2 p l)).trans (alp_congr (ld3 x6 p l) (ld3 x4 p l) (ld3 x5 p l) (ld3 x6 p l))) (ld2 x0 p l)
  · refine (do41 _ _ y).trans ?_
    rw [hp, hl]
    exact congrArg₂ (· * ·) ((alp14 _ _ _ (ix2 p l)).trans (alp_congr (ld1 x6 p l) (ld1 x4 p l) (ld1 x5 p l) (ld1 x6 p l))) (ld0 x0 p l)

theorem out10 (j : S2x512x128.Idx) : out0_10 x0 x1 x2 x3 x4 x5 x6 j = stB x0 x1 x2 x3 x4 x5 x6 x4 j := by
  unfold_out out0_10
  refine halves (stB x0 x1 x2 x3 x4 x5 x6 x4) _ _ (fun y p l hp hl => ?_) (fun y p l hp hl => ?_) j
  · refine (st76 _ _ _ y).trans ?_
    rw [hp, hl]
    exact ite_congr3 (ld3 x4 p l) ((alp53 _ _ _ (ix2 p l)).trans (alp_congr (ld3 x4 p l) (ld3 x4 p l) (ld3 x5 p l) (ld3 x6 p l))) ((mean74 _ _ _ _ _ _ (ix2 p l)).trans (add3 ((alp53 _ _ _ (ix2 p l)).trans (alp_congr (ld3 x4 p l) (ld3 x4 p l) (ld3 x5 p l) (ld3 x6 p l)))
      ((hs61 _ (ix2 p l)).trans (hs3_congr (fun k => (prod56 _ _ (ix2 p k)).trans (congrArg₂ (· * ·) (ld2 x0 p k) (ld3 x1 p k))) l))
      ((alp54 _ _ _ (ix2 p l)).trans (alp_congr (ld3 x5 p l) (ld3 x4 p l) (ld3 x5 p l) (ld3 x6 p l)))
      ((hs69 _ (ix2 p l)).trans (hs3_congr (fun k => (prod62 _ _ (ix2 p k)).trans (congrArg₂ (· * ·) (ld2 x0 p k) (ld3 x2 p k))) l))
      ((alp55 _ _ _ (ix2 p l)).trans (alp_congr (ld3 x6 p l) (ld3 x4 p l) (ld3 x5 p l) (ld3 x6 p l)))
      (hs3_congr (fun k => (prod70 _ _ (ix2 p k)).trans (congrArg₂ (· * ·) (ld2 x0 p k) (ld3 x3 p k))) l)))
  · refine (st38 _ _ _ _ _ _ _ y).trans ?_
    rw [hp, hl]
    exact ite_congr3 (ld1 x4 p l) ((alp12 _ _ _ (ix2 p l)).trans (alp_congr (ld1 x4 p l) (ld1 x4 p l) (ld1 x5 p l) (ld1 x6 p l))) ((mean36 _ _ _ _ _ _ (ix2 p l)).trans (add3 ((alp12 _ _ _ (ix2 p l)).trans (alp_congr (ld1 x4 p l) (ld1 x4 p l) (ld1 x5 p l) (ld1 x6 p l)))
      ((hs20 _ (ix2 p l)).trans (hs3_congr (fun k => (prod15 _ _ (ix2 p k)).trans (congrArg₂ (· * ·) (ld0 x0 p k) (ld1 x1 p k))) l))
      ((alp13 _ _ _ (ix2 p l)).trans (alp_congr (ld1 x5 p l) (ld1 x4 p l) (ld1 x5 p l) (ld1 x6 p l)))
      ((hs31 _ (ix2 p l)).trans (hs3_congr (fun k => (prod21 _ _ (ix2 p k)).trans (congrArg₂ (· * ·) (ld0 x0 p k) (ld1 x2 p k))) l))
      ((alp14 _ _ _ (ix2 p l)).trans (alp_congr (ld1 x6 p l) (ld1 x4 p l) (ld1 x5 p l) (ld1 x6 p l)))
      (hs3_congr (fun k => (prod32 _ _ (ix2 p k)).trans (congrArg₂ (· * ·) (ld0 x0 p k) (ld1 x3 p k))) l)))

theorem out11 (j : S2x512x128.Idx) : out0_11 x0 x1 x2 x3 x4 x5 x6 j = stB x0 x1 x2 x3 x4 x5 x6 x5 j := by
  unfold_out out0_11
  refine halves (stB x0 x1 x2 x3 x4 x5 x6 x5) _ _ (fun y p l hp hl => ?_) (fun y p l hp hl => ?_) j
  · refine (st78 _ _ _ y).trans ?_
    rw [hp, hl]
    exact ite_congr3 (ld3 x5 p l) ((alp54 _ _ _ (ix2 p l)).trans (alp_congr (ld3 x5 p l) (ld3 x4 p l) (ld3 x5 p l) (ld3 x6 p l))) ((mean74 _ _ _ _ _ _ (ix2 p l)).trans (add3 ((alp53 _ _ _ (ix2 p l)).trans (alp_congr (ld3 x4 p l) (ld3 x4 p l) (ld3 x5 p l) (ld3 x6 p l)))
      ((hs61 _ (ix2 p l)).trans (hs3_congr (fun k => (prod56 _ _ (ix2 p k)).trans (congrArg₂ (· * ·) (ld2 x0 p k) (ld3 x1 p k))) l))
      ((alp54 _ _ _ (ix2 p l)).trans (alp_congr (ld3 x5 p l) (ld3 x4 p l) (ld3 x5 p l) (ld3 x6 p l)))
      ((hs69 _ (ix2 p l)).trans (hs3_congr (fun k => (prod62 _ _ (ix2 p k)).trans (congrArg₂ (· * ·) (ld2 x0 p k) (ld3 x2 p k))) l))
      ((alp55 _ _ _ (ix2 p l)).trans (alp_congr (ld3 x6 p l) (ld3 x4 p l) (ld3 x5 p l) (ld3 x6 p l)))
      (hs3_congr (fun k => (prod70 _ _ (ix2 p k)).trans (congrArg₂ (· * ·) (ld2 x0 p k) (ld3 x3 p k))) l)))
  · refine (st40 _ _ _ y).trans ?_
    rw [hp, hl]
    exact ite_congr3 (ld1 x5 p l) ((alp13 _ _ _ (ix2 p l)).trans (alp_congr (ld1 x5 p l) (ld1 x4 p l) (ld1 x5 p l) (ld1 x6 p l))) ((mean36 _ _ _ _ _ _ (ix2 p l)).trans (add3 ((alp12 _ _ _ (ix2 p l)).trans (alp_congr (ld1 x4 p l) (ld1 x4 p l) (ld1 x5 p l) (ld1 x6 p l)))
      ((hs20 _ (ix2 p l)).trans (hs3_congr (fun k => (prod15 _ _ (ix2 p k)).trans (congrArg₂ (· * ·) (ld0 x0 p k) (ld1 x1 p k))) l))
      ((alp13 _ _ _ (ix2 p l)).trans (alp_congr (ld1 x5 p l) (ld1 x4 p l) (ld1 x5 p l) (ld1 x6 p l)))
      ((hs31 _ (ix2 p l)).trans (hs3_congr (fun k => (prod21 _ _ (ix2 p k)).trans (congrArg₂ (· * ·) (ld0 x0 p k) (ld1 x2 p k))) l))
      ((alp14 _ _ _ (ix2 p l)).trans (alp_congr (ld1 x6 p l) (ld1 x4 p l) (ld1 x5 p l) (ld1 x6 p l)))
      (hs3_congr (fun k => (prod32 _ _ (ix2 p k)).trans (congrArg₂ (· * ·) (ld0 x0 p k) (ld1 x3 p k))) l)))

theorem out12 (j : S2x512x128.Idx) : out0_12 x0 x1 x2 x3 x4 x5 x6 j = stB x0 x1 x2 x3 x4 x5 x6 x6 j := by
  unfold_out out0_12
  refine halves (stB x0 x1 x2 x3 x4 x5 x6 x6) _ _ (fun y p l hp hl => ?_) (fun y p l hp hl => ?_) j
  · refine (st80 _ _ _ y).trans ?_
    rw [hp, hl]
    exact ite_congr3 (ld3 x6 p l) ((alp55 _ _ _ (ix2 p l)).trans (alp_congr (ld3 x6 p l) (ld3 x4 p l) (ld3 x5 p l) (ld3 x6 p l))) ((mean74 _ _ _ _ _ _ (ix2 p l)).trans (add3 ((alp53 _ _ _ (ix2 p l)).trans (alp_congr (ld3 x4 p l) (ld3 x4 p l) (ld3 x5 p l) (ld3 x6 p l)))
      ((hs61 _ (ix2 p l)).trans (hs3_congr (fun k => (prod56 _ _ (ix2 p k)).trans (congrArg₂ (· * ·) (ld2 x0 p k) (ld3 x1 p k))) l))
      ((alp54 _ _ _ (ix2 p l)).trans (alp_congr (ld3 x5 p l) (ld3 x4 p l) (ld3 x5 p l) (ld3 x6 p l)))
      ((hs69 _ (ix2 p l)).trans (hs3_congr (fun k => (prod62 _ _ (ix2 p k)).trans (congrArg₂ (· * ·) (ld2 x0 p k) (ld3 x2 p k))) l))
      ((alp55 _ _ _ (ix2 p l)).trans (alp_congr (ld3 x6 p l) (ld3 x4 p l) (ld3 x5 p l) (ld3 x6 p l)))
      (hs3_congr (fun k => (prod70 _ _ (ix2 p k)).trans (congrArg₂ (· * ·) (ld2 x0 p k) (ld3 x3 p k))) l)))
  · refine (st42 _ _ _ y).trans ?_
    rw [hp, hl]
    exact ite_congr3 (ld1 x6 p l) ((alp14 _ _ _ (ix2 p l)).trans (alp_congr (ld1 x6 p l) (ld1 x4 p l) (ld1 x5 p l) (ld1 x6 p l))) ((mean36 _ _ _ _ _ _ (ix2 p l)).trans (add3 ((alp12 _ _ _ (ix2 p l)).trans (alp_congr (ld1 x4 p l) (ld1 x4 p l) (ld1 x5 p l) (ld1 x6 p l)))
      ((hs20 _ (ix2 p l)).trans (hs3_congr (fun k => (prod15 _ _ (ix2 p k)).trans (congrArg₂ (· * ·) (ld0 x0 p k) (ld1 x1 p k))) l))
      ((alp13 _ _ _ (ix2 p l)).trans (alp_congr (ld1 x5 p l) (ld1 x4 p l) (ld1 x5 p l) (ld1 x6 p l)))
      ((hs31 _ (ix2 p l)).trans (hs3_congr (fun k => (prod21 _ _ (ix2 p k)).trans (congrArg₂ (· * ·) (ld0 x0 p k) (ld1 x2 p k))) l))
      ((alp14 _ _ _ (ix2 p l)).trans (alp_congr (ld1 x6 p l) (ld1 x4 p l) (ld1 x5 p l) (ld1 x6 p l)))
      (hs3_congr (fun k => (prod32 _ _ (ix2 p k)).trans (congrArg₂ (· * ·) (ld0 x0 p k) (ld1 x3 p k))) l)))

end
/-- The head and the lane of a column of half f. -/
def hd (f : Fin 2) (l : Fin 128) : Fin 4 := ⟨f.val * 2 + l.val / 64, by omega⟩
def ln (l : Fin 128) : Fin 64 := ⟨l.val % 64, by omega⟩

theorem V_v2 (c : Dev nD) (s : Fin 4096) (f : Fin 2) (l : Fin 128) :
    V m c main_v2 (ix2 s ⟨128 * f.val + l.val, by omega⟩) = ar2 m c (ix3 s (hd f l) (ln l)) := by
  unfold V
  after_reads_at
  refine congrArg (ar2 m c) ?_
  refine congr (congrArg (ix3 s) (Fin.ext ?_)) (Fin.ext ?_)
  · show (128 * f.val + l.val) / 64 = f.val * 2 + l.val / 64; omega
  · show (128 * f.val + l.val) % 64 = l.val % 64; omega
theorem V_v6 (c : Dev nD) (f : Fin 2) (s : Fin 4096) (l : Fin 128) :
    V m c main_v6 (ix3 f s l) = ar1 m c (ix4 0 s (hd f l) (ln l)) := by
  unfold V
  after_reads_at
  rfl
theorem V_v10 (c : Dev nD) (f : Fin 2) (s : Fin 4096) (l : Fin 128) :
    V m c main_v10 (ix3 f s l) = ar1 m c (ix4 1 s (hd f l) (ln l)) := by
  unfold V
  after_reads_at
  rfl
theorem V_v14 (c : Dev nD) (f : Fin 2) (s : Fin 4096) (l : Fin 128) :
    V m c main_v14 (ix3 f s l) = ar1 m c (ix4 2 s (hd f l) (ln l)) := by
  unfold V
  after_reads_at
  rfl
theorem V_v18 (c : Dev nD) (f : Fin 2) (s : Fin 4096) (l : Fin 128) :
    V m c main_v18 (ix3 f s l) = ar0 m c (ix3 0 s (hd f l)) := by
  unfold V
  after_reads_at
  rfl
theorem V_v22 (c : Dev nD) (f : Fin 2) (s : Fin 4096) (l : Fin 128) :
    V m c main_v22 (ix3 f s l) = ar0 m c (ix3 1 s (hd f l)) := by
  unfold V
  after_reads_at
  rfl
theorem V_v26 (c : Dev nD) (f : Fin 2) (s : Fin 4096) (l : Fin 128) :
    V m c main_v26 (ix3 f s l) = ar0 m c (ix3 2 s (hd f l)) := by
  unfold V
  after_reads_at
  rfl
theorem eta3 {a b c : Nat} (y : (⟨3, ![a, b, c]⟩ : Shape).Idx) : y = ix3 (y 0) (y 1) (y 2) := by
  funext k
  match k with
  | ⟨0, _⟩ => rfl
  | ⟨1, _⟩ => rfl
  | ⟨2, _⟩ => rfl
theorem idx0 : ∀ t : Fin cfg0.N, win0_0.index t 0 = t.val ∧ win0_0.index t 1 = 0 ∧ t.val < 8 :=
  (by decide +kernel : ∀ t : Fin grid0.N, _)
theorem idx1 : ∀ t : Fin cfg0.N, win0_1.index t 0 = 0 ∧ win0_1.index t 1 = t.val ∧ win0_1.index t 2 = 0 ∧ t.val < 8 :=
  (by decide +kernel : ∀ t : Fin grid0.N, _)
theorem idx2 : ∀ t : Fin cfg0.N, win0_2.index t 0 = 0 ∧ win0_2.index t 1 = t.val ∧ win0_2.index t 2 = 0 ∧ t.val < 8 :=
  (by decide +kernel : ∀ t : Fin grid0.N, _)
theorem idx3 : ∀ t : Fin cfg0.N, win0_3.index t 0 = 0 ∧ win0_3.index t 1 = t.val ∧ win0_3.index t 2 = 0 ∧ t.val < 8 :=
  (by decide +kernel : ∀ t : Fin grid0.N, _)
theorem idx4 : ∀ t : Fin cfg0.N, win0_4.index t 0 = 0 ∧ win0_4.index t 1 = t.val ∧ win0_4.index t 2 = 0 ∧ t.val < 8 :=
  (by decide +kernel : ∀ t : Fin grid0.N, _)
theorem idx5 : ∀ t : Fin cfg0.N, win0_5.index t 0 = 0 ∧ win0_5.index t 1 = t.val ∧ win0_5.index t 2 = 0 ∧ t.val < 8 :=
  (by decide +kernel : ∀ t : Fin grid0.N, _)
theorem idx6 : ∀ t : Fin cfg0.N, win0_6.index t 0 = 0 ∧ win0_6.index t 1 = t.val ∧ win0_6.index t 2 = 0 ∧ t.val < 8 :=
  (by decide +kernel : ∀ t : Fin grid0.N, _)
theorem idx7 : ∀ t : Fin cfg0.N, win0_7.index t 0 = 0 ∧ win0_7.index t 1 = t.val ∧ win0_7.index t 2 = 0 ∧ t.val < 8 :=
  (by decide +kernel : ∀ t : Fin grid0.N, _)
theorem idx8 : ∀ t : Fin cfg0.N, win0_8.index t 0 = 0 ∧ win0_8.index t 1 = t.val ∧ win0_8.index t 2 = 0 ∧ t.val < 8 :=
  (by decide +kernel : ∀ t : Fin grid0.N, _)
theorem idx9 : ∀ t : Fin cfg0.N, win0_9.index t 0 = 0 ∧ win0_9.index t 1 = t.val ∧ win0_9.index t 2 = 0 ∧ t.val < 8 :=
  (by decide +kernel : ∀ t : Fin grid0.N, _)
theorem idx10 : ∀ t : Fin cfg0.N, win0_10.index t 0 = 0 ∧ win0_10.index t 1 = t.val ∧ win0_10.index t 2 = 0 ∧ t.val < 8 :=
  (by decide +kernel : ∀ t : Fin grid0.N, _)
theorem idx11 : ∀ t : Fin cfg0.N, win0_11.index t 0 = 0 ∧ win0_11.index t 1 = t.val ∧ win0_11.index t 2 = 0 ∧ t.val < 8 :=
  (by decide +kernel : ∀ t : Fin grid0.N, _)
theorem idx12 : ∀ t : Fin cfg0.N, win0_12.index t 0 = 0 ∧ win0_12.index t 1 = t.val ∧ win0_12.index t 2 = 0 ∧ t.val < 8 :=
  (by decide +kernel : ∀ t : Fin grid0.N, _)
theorem iblk0_at (c : Dev nD) (t : Fin cfg0.N) (y : S512x256.Idx) (i : S4096x256.Idx)
    (h0 : (i 0).val = t.val * 512 + (y 0).val) (h1 : (i 1).val = (y 1).val) :
    iblk m c 0 t y = V m c main_v2 i :=
  congrArg (V m c main_v2) (emb_of win0_0 t y i (fall2 (toBlk h0 (idx0 t).1) (toBlk0 h1 (idx0 t).2.1)))

theorem iblk1_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 1 t y = V m c main_v6 i :=
  congrArg (V m c main_v6) (emb_of win0_1 t y i (fall3 (toBlk0 h0 (idx1 t).1) (toBlk h1 (idx1 t).2.1) (toBlk0 h2 (idx1 t).2.2.1)))

theorem iblk2_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 2 t y = V m c main_v10 i :=
  congrArg (V m c main_v10) (emb_of win0_2 t y i (fall3 (toBlk0 h0 (idx2 t).1) (toBlk h1 (idx2 t).2.1) (toBlk0 h2 (idx2 t).2.2.1)))

theorem iblk3_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 3 t y = V m c main_v14 i :=
  congrArg (V m c main_v14) (emb_of win0_3 t y i (fall3 (toBlk0 h0 (idx3 t).1) (toBlk h1 (idx3 t).2.1) (toBlk0 h2 (idx3 t).2.2.1)))

theorem iblk4_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 4 t y = V m c main_v18 i :=
  congrArg (V m c main_v18) (emb_of win0_4 t y i (fall3 (toBlk0 h0 (idx4 t).1) (toBlk h1 (idx4 t).2.1) (toBlk0 h2 (idx4 t).2.2.1)))

theorem iblk5_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 5 t y = V m c main_v22 i :=
  congrArg (V m c main_v22) (emb_of win0_5 t y i (fall3 (toBlk0 h0 (idx5 t).1) (toBlk h1 (idx5 t).2.1) (toBlk0 h2 (idx5 t).2.2.1)))

theorem iblk6_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 6 t y = V m c main_v26 i :=
  congrArg (V m c main_v26) (emb_of win0_6 t y i (fall3 (toBlk0 h0 (idx6 t).1) (toBlk h1 (idx6 t).2.1) (toBlk0 h2 (idx6 t).2.2.1)))

/-- The results. -/
abbrev TL := FVec Ideal S3x4096x4 .f32
abbrev TO := FVec Ideal S3x4096x4x64 .f32
abbrev TC := FVec Ideal S4096x4x64 .f32
def wR (L : TL) (g : Fin 3) (s : Fin 4096) (h : Fin 4) : EReal := alp (L (ix3 g s h)) (L (ix3 0 s h)) (L (ix3 1 s h)) (L (ix3 2 s h))
def doR (L : TL) (ct : TC) (g : Fin 3) : FVec Ideal S2x4096x128 .f32 := fun i =>
  wR L g (i 1) (hd (i 0) (i 2)) * ct (ix3 (i 1) (hd (i 0) (i 2)) (ln (i 2)))
def dR (O : TO) (ct : TC) (g : Fin 3) (s : Fin 4096) (f : Fin 2) (l : Fin 128) : EReal :=
  hs3 (fun k => ct (ix3 s (hd f k) (ln k)) * O (ix4 g s (hd f k) (ln k))) l
def meanR (L : TL) (O : TO) (ct : TC) (s : Fin 4096) (f : Fin 2) (l : Fin 128) : EReal :=
  mean (L (ix3 0 s (hd f l))) (L (ix3 1 s (hd f l))) (L (ix3 2 s (hd f l))) (dR O ct 0 s f l) (dR O ct 1 s f l) (dR O ct 2 s f l)
def stR (L : TL) (O : TO) (ct : TC) (g : Fin 3) : FVec Ideal S2x4096x128 .f32 := fun i =>
  if (i 2).val % 64 < 32 then L (ix3 g (i 1) (hd (i 0) (i 2)))
  else (0 - wR L g (i 1) (hd (i 0) (i 2))) * meanR L O ct (i 1) (i 0) (i 2)

theorem mean_congr {a b c x y z a' b' c' x' y' z' : EReal} (ha : a = a') (hb : b = b') (hc : c = c') (hx : x = x') (hy : y = y') (hz : z = z') :
    mean a b c x y z = mean a' b' c' x' y' z' := by
  subst ha hb hc hx hy hz; rfl

section
variable (c : Dev nD) (t : Fin cfg0.N) (f : Fin 2) (p : Fin 512) (l : Fin 128) (s : Fin 4096) (h : s.val = t.val * 512 + p.val)
include h
theorem tileC : ctl (iblk m c 0 t) f p l = (ar2 m c) (ix3 s (hd f l) (ln l)) :=
  (iblk0_at m c t (ix2 p ⟨128 * f.val + l.val, by omega⟩) (ix2 s ⟨128 * f.val + l.val, by omega⟩) h rfl).trans (V_v2 m c s f l)
theorem tile1 : iblk m c 1 t (ix3 f p l : S2x512x128.Idx) = (ar1 m c) (ix4 0 s (hd f l) (ln l)) :=
  (iblk1_at m c t (ix3 f p l) (ix3 f s l) rfl h rfl).trans (V_v6 m c f s l)
theorem tile2 : iblk m c 2 t (ix3 f p l : S2x512x128.Idx) = (ar1 m c) (ix4 1 s (hd f l) (ln l)) :=
  (iblk2_at m c t (ix3 f p l) (ix3 f s l) rfl h rfl).trans (V_v10 m c f s l)
theorem tile3 : iblk m c 3 t (ix3 f p l : S2x512x128.Idx) = (ar1 m c) (ix4 2 s (hd f l) (ln l)) :=
  (iblk3_at m c t (ix3 f p l) (ix3 f s l) rfl h rfl).trans (V_v14 m c f s l)
theorem tile4 : iblk m c 4 t (ix3 f p l : S2x512x128.Idx) = (ar0 m c) (ix3 0 s (hd f l)) :=
  (iblk4_at m c t (ix3 f p l) (ix3 f s l) rfl h rfl).trans (V_v18 m c f s l)
theorem tile5 : iblk m c 5 t (ix3 f p l : S2x512x128.Idx) = (ar0 m c) (ix3 1 s (hd f l)) :=
  (iblk5_at m c t (ix3 f p l) (ix3 f s l) rfl h rfl).trans (V_v22 m c f s l)
theorem tile6 : iblk m c 6 t (ix3 f p l : S2x512x128.Idx) = (ar0 m c) (ix3 2 s (hd f l)) :=
  (iblk6_at m c t (ix3 f p l) (ix3 f s l) rfl h rfl).trans (V_v26 m c f s l)
theorem tileW0 : wB (iblk m c 4 t) (iblk m c 5 t) (iblk m c 6 t) (iblk m c 4 t) f p l = wR (ar0 m c) 0 s (hd f l) :=
  alp_congr (tile4 m c t f p l s h) (tile4 m c t f p l s h) (tile5 m c t f p l s h) (tile6 m c t f p l s h)
theorem tileD0 : dB (iblk m c 0 t) (iblk m c 1 t) f p l = dR (ar1 m c) (ar2 m c) 0 s f l :=
  hs3_congr (fun k => congrArg₂ (· * ·) (tileC m c t f p k s h) (tile1 m c t f p k s h)) l
theorem tileW1 : wB (iblk m c 4 t) (iblk m c 5 t) (iblk m c 6 t) (iblk m c 5 t) f p l = wR (ar0 m c) 1 s (hd f l) :=
  alp_congr (tile5 m c t f p l s h) (tile4 m c t f p l s h) (tile5 m c t f p l s h) (tile6 m c t f p l s h)
theorem tileD1 : dB (iblk m c 0 t) (iblk m c 2 t) f p l = dR (ar1 m c) (ar2 m c) 1 s f l :=
  hs3_congr (fun k => congrArg₂ (· * ·) (tileC m c t f p k s h) (tile2 m c t f p k s h)) l
theorem tileW2 : wB (iblk m c 4 t) (iblk m c 5 t) (iblk m c 6 t) (iblk m c 6 t) f p l = wR (ar0 m c) 2 s (hd f l) :=
  alp_congr (tile6 m c t f p l s h) (tile4 m c t f p l s h) (tile5 m c t f p l s h) (tile6 m c t f p l s h)
theorem tileD2 : dB (iblk m c 0 t) (iblk m c 3 t) f p l = dR (ar1 m c) (ar2 m c) 2 s f l :=
  hs3_congr (fun k => congrArg₂ (· * ·) (tileC m c t f p k s h) (tile3 m c t f p k s h)) l
theorem tileM : meanB (iblk m c 0 t) (iblk m c 1 t) (iblk m c 2 t) (iblk m c 3 t) (iblk m c 4 t) (iblk m c 5 t) (iblk m c 6 t) f p l = meanR (ar0 m c) (ar1 m c) (ar2 m c) s f l :=
  mean_congr (tile4 m c t f p l s h) (tile5 m c t f p l s h) (tile6 m c t f p l s h)
    (tileD0 m c t f p l s h) (tileD1 m c t f p l s h) (tileD2 m c t f p l s h)
end

/-- Two tiles agree at an entry when they agree at every row of the block. -/
theorem by3 {B : S2x512x128.Idx → EReal} {R : S2x4096x128.Idx → EReal} (t : ℕ) (y : S2x512x128.Idx) (i : S2x4096x128.Idx)
    (k : (i 0).val = (y 0).val ∧ (i 1).val = t * 512 + (y 1).val ∧ (i 2).val = (y 2).val)
    (key : ∀ (f : Fin 2) (p : Fin 512) (l : Fin 128) (s : Fin 4096), s.val = t * 512 + p.val → B (ix3 f p l) = R (ix3 f s l)) : B y = R i := by
  have ei : i = (ix3 (y 0) (i 1) (y 2) : S2x4096x128.Idx) :=
    (eta3 i).trans (congr (congrArg (fun q => ix3 q (i 1)) (Fin.ext k.1)) (Fin.ext k.2.2))
  exact (congrArg B (eta3 y)).trans ((key (y 0) (y 1) (y 2) (i 1) k.2.1).trans (congrArg R ei.symm))

theorem cover7 (i : S2x4096x128.Idx) :
    ∃ t : Fin cfg0.N, (cfg0.win 7).flush t = true ∧ i ∈ ((cfg0.win 7).blk t).view.set := by
  have h0 : (i 0).val < 2 := (i 0).isLt
  have h1 : (i 1).val < 4096 := (i 1).isLt
  have h2 : (i 2).val < 128 := (i 2).isLt
  have hN : cfg0.N = 8 := N_0
  obtain ⟨t, ht⟩ : ∃ t : Fin cfg0.N, t.val = (i 1).val / 512 := ⟨⟨_, by omega⟩, rfl⟩
  exact ⟨t, flush0_7 t, in_blk (b := main_v27_0) (fall3 (inBlk (i := (i 0).val) (n := 2) (idx7 t).1 (by omega)) (inBlk (i := (i 1).val) (n := 512) (idx7 t).2.1 (by omega)) (inBlk (i := (i 2).val) (n := 128) (idx7 t).2.2.1 (by omega)))⟩

theorem emb7 (t : Fin cfg0.N) (y : S2x512x128.Idx) (i : S2x4096x128.Idx) (h : ((cfg0.win 7).blk t).view.emb y = i) :
    (i 0).val = (y 0).val ∧ (i 1).val = t.val * 512 + (y 1).val ∧ (i 2).val = (y 2).val :=
  ⟨ofBlk0 (emb_at win0_7 t y i h 0) (idx7 t).1, ofBlk (emb_at win0_7 t y i h 1) (idx7 t).2.1, ofBlk0 (emb_at win0_7 t y i h 2) (idx7 t).2.2.1⟩

theorem final7 (c : Dev nD) : (dats m 0 c).arrAt 7 cfg0.N = doR (ar0 m c) (ar2 m c) 0 := by
  funext i
  refine (dats m 0 c).arrAt_forall_of_cover 7 (fun i v => v = doR (ar0 m c) (ar2 m c) 0 i) (fun t _ y => ?_) cover7 i
  generalize hi : ((cfg0.win 7).blk t).view.emb y = i'
  obtain ⟨k0, k1, k2⟩ := emb7 t y i' hi
  have hf : (dats m 0 c).flushed 7 t y = doB (iblk m c 0 t) (iblk m c 4 t) (iblk m c 5 t) (iblk m c 6 t) (iblk m c 4 t) y := by
    rw [Cert.Kernel3Ideal.Value.flushed7]
    exact out7 (iblk m c 0 t) (iblk m c 1 t) (iblk m c 2 t) (iblk m c 3 t) (iblk m c 4 t) (iblk m c 5 t) (iblk m c 6 t) y
  refine (hf : _ = _).trans ?_
  exact by3 t.val y i' ⟨k0, k1, k2⟩ fun f p l s h =>
    congrArg₂ (· * ·) (tileW0 m c t f p l s h) (tileC m c t f p l s h)

theorem cover8 (i : S2x4096x128.Idx) :
    ∃ t : Fin cfg0.N, (cfg0.win 8).flush t = true ∧ i ∈ ((cfg0.win 8).blk t).view.set := by
  have h0 : (i 0).val < 2 := (i 0).isLt
  have h1 : (i 1).val < 4096 := (i 1).isLt
  have h2 : (i 2).val < 128 := (i 2).isLt
  have hN : cfg0.N = 8 := N_0
  obtain ⟨t, ht⟩ : ∃ t : Fin cfg0.N, t.val = (i 1).val / 512 := ⟨⟨_, by omega⟩, rfl⟩
  exact ⟨t, flush0_8 t, in_blk (b := main_v27_1) (fall3 (inBlk (i := (i 0).val) (n := 2) (idx8 t).1 (by omega)) (inBlk (i := (i 1).val) (n := 512) (idx8 t).2.1 (by omega)) (inBlk (i := (i 2).val) (n := 128) (idx8 t).2.2.1 (by omega)))⟩

theorem emb8 (t : Fin cfg0.N) (y : S2x512x128.Idx) (i : S2x4096x128.Idx) (h : ((cfg0.win 8).blk t).view.emb y = i) :
    (i 0).val = (y 0).val ∧ (i 1).val = t.val * 512 + (y 1).val ∧ (i 2).val = (y 2).val :=
  ⟨ofBlk0 (emb_at win0_8 t y i h 0) (idx8 t).1, ofBlk (emb_at win0_8 t y i h 1) (idx8 t).2.1, ofBlk0 (emb_at win0_8 t y i h 2) (idx8 t).2.2.1⟩

theorem final8 (c : Dev nD) : (dats m 0 c).arrAt 8 cfg0.N = doR (ar0 m c) (ar2 m c) 1 := by
  funext i
  refine (dats m 0 c).arrAt_forall_of_cover 8 (fun i v => v = doR (ar0 m c) (ar2 m c) 1 i) (fun t _ y => ?_) cover8 i
  generalize hi : ((cfg0.win 8).blk t).view.emb y = i'
  obtain ⟨k0, k1, k2⟩ := emb8 t y i' hi
  have hf : (dats m 0 c).flushed 8 t y = doB (iblk m c 0 t) (iblk m c 4 t) (iblk m c 5 t) (iblk m c 6 t) (iblk m c 5 t) y := by
    rw [Cert.Kernel3Ideal.Value.flushed8]
    exact out8 (iblk m c 0 t) (iblk m c 1 t) (iblk m c 2 t) (iblk m c 3 t) (iblk m c 4 t) (iblk m c 5 t) (iblk m c 6 t) y
  refine (hf : _ = _).trans ?_
  exact by3 t.val y i' ⟨k0, k1, k2⟩ fun f p l s h =>
    congrArg₂ (· * ·) (tileW1 m c t f p l s h) (tileC m c t f p l s h)

theorem cover9 (i : S2x4096x128.Idx) :
    ∃ t : Fin cfg0.N, (cfg0.win 9).flush t = true ∧ i ∈ ((cfg0.win 9).blk t).view.set := by
  have h0 : (i 0).val < 2 := (i 0).isLt
  have h1 : (i 1).val < 4096 := (i 1).isLt
  have h2 : (i 2).val < 128 := (i 2).isLt
  have hN : cfg0.N = 8 := N_0
  obtain ⟨t, ht⟩ : ∃ t : Fin cfg0.N, t.val = (i 1).val / 512 := ⟨⟨_, by omega⟩, rfl⟩
  exact ⟨t, flush0_9 t, in_blk (b := main_v27_2) (fall3 (inBlk (i := (i 0).val) (n := 2) (idx9 t).1 (by omega)) (inBlk (i := (i 1).val) (n := 512) (idx9 t).2.1 (by omega)) (inBlk (i := (i 2).val) (n := 128) (idx9 t).2.2.1 (by omega)))⟩

theorem emb9 (t : Fin cfg0.N) (y : S2x512x128.Idx) (i : S2x4096x128.Idx) (h : ((cfg0.win 9).blk t).view.emb y = i) :
    (i 0).val = (y 0).val ∧ (i 1).val = t.val * 512 + (y 1).val ∧ (i 2).val = (y 2).val :=
  ⟨ofBlk0 (emb_at win0_9 t y i h 0) (idx9 t).1, ofBlk (emb_at win0_9 t y i h 1) (idx9 t).2.1, ofBlk0 (emb_at win0_9 t y i h 2) (idx9 t).2.2.1⟩

theorem final9 (c : Dev nD) : (dats m 0 c).arrAt 9 cfg0.N = doR (ar0 m c) (ar2 m c) 2 := by
  funext i
  refine (dats m 0 c).arrAt_forall_of_cover 9 (fun i v => v = doR (ar0 m c) (ar2 m c) 2 i) (fun t _ y => ?_) cover9 i
  generalize hi : ((cfg0.win 9).blk t).view.emb y = i'
  obtain ⟨k0, k1, k2⟩ := emb9 t y i' hi
  have hf : (dats m 0 c).flushed 9 t y = doB (iblk m c 0 t) (iblk m c 4 t) (iblk m c 5 t) (iblk m c 6 t) (iblk m c 6 t) y := by
    rw [Cert.Kernel3Ideal.Value.flushed9]
    exact out9 (iblk m c 0 t) (iblk m c 1 t) (iblk m c 2 t) (iblk m c 3 t) (iblk m c 4 t) (iblk m c 5 t) (iblk m c 6 t) y
  refine (hf : _ = _).trans ?_
  exact by3 t.val y i' ⟨k0, k1, k2⟩ fun f p l s h =>
    congrArg₂ (· * ·) (tileW2 m c t f p l s h) (tileC m c t f p l s h)

theorem cover10 (i : S2x4096x128.Idx) :
    ∃ t : Fin cfg0.N, (cfg0.win 10).flush t = true ∧ i ∈ ((cfg0.win 10).blk t).view.set := by
  have h0 : (i 0).val < 2 := (i 0).isLt
  have h1 : (i 1).val < 4096 := (i 1).isLt
  have h2 : (i 2).val < 128 := (i 2).isLt
  have hN : cfg0.N = 8 := N_0
  obtain ⟨t, ht⟩ : ∃ t : Fin cfg0.N, t.val = (i 1).val / 512 := ⟨⟨_, by omega⟩, rfl⟩
  exact ⟨t, flush0_10 t, in_blk (b := main_v27_3) (fall3 (inBlk (i := (i 0).val) (n := 2) (idx10 t).1 (by omega)) (inBlk (i := (i 1).val) (n := 512) (idx10 t).2.1 (by omega)) (inBlk (i := (i 2).val) (n := 128) (idx10 t).2.2.1 (by omega)))⟩

theorem emb10 (t : Fin cfg0.N) (y : S2x512x128.Idx) (i : S2x4096x128.Idx) (h : ((cfg0.win 10).blk t).view.emb y = i) :
    (i 0).val = (y 0).val ∧ (i 1).val = t.val * 512 + (y 1).val ∧ (i 2).val = (y 2).val :=
  ⟨ofBlk0 (emb_at win0_10 t y i h 0) (idx10 t).1, ofBlk (emb_at win0_10 t y i h 1) (idx10 t).2.1, ofBlk0 (emb_at win0_10 t y i h 2) (idx10 t).2.2.1⟩

theorem final10 (c : Dev nD) : (dats m 0 c).arrAt 10 cfg0.N = stR (ar0 m c) (ar1 m c) (ar2 m c) 0 := by
  funext i
  refine (dats m 0 c).arrAt_forall_of_cover 10 (fun i v => v = stR (ar0 m c) (ar1 m c) (ar2 m c) 0 i) (fun t _ y => ?_) cover10 i
  generalize hi : ((cfg0.win 10).blk t).view.emb y = i'
  obtain ⟨k0, k1, k2⟩ := emb10 t y i' hi
  have hf : (dats m 0 c).flushed 10 t y = stB (iblk m c 0 t) (iblk m c 1 t) (iblk m c 2 t) (iblk m c 3 t) (iblk m c 4 t) (iblk m c 5 t) (iblk m c 6 t) (iblk m c 4 t) y := by
    rw [Cert.Kernel3Ideal.Value.flushed10]
    exact out10 (iblk m c 0 t) (iblk m c 1 t) (iblk m c 2 t) (iblk m c 3 t) (iblk m c 4 t) (iblk m c 5 t) (iblk m c 6 t) y
  refine (hf : _ = _).trans ?_
  exact by3 t.val y i' ⟨k0, k1, k2⟩ fun f p l s h =>
    ite_congr3 (tile4 m c t f p l s h) (tileW0 m c t f p l s h) (tileM m c t f p l s h)

theorem cover11 (i : S2x4096x128.Idx) :
    ∃ t : Fin cfg0.N, (cfg0.win 11).flush t = true ∧ i ∈ ((cfg0.win 11).blk t).view.set := by
  have h0 : (i 0).val < 2 := (i 0).isLt
  have h1 : (i 1).val < 4096 := (i 1).isLt
  have h2 : (i 2).val < 128 := (i 2).isLt
  have hN : cfg0.N = 8 := N_0
  obtain ⟨t, ht⟩ : ∃ t : Fin cfg0.N, t.val = (i 1).val / 512 := ⟨⟨_, by omega⟩, rfl⟩
  exact ⟨t, flush0_11 t, in_blk (b := main_v27_4) (fall3 (inBlk (i := (i 0).val) (n := 2) (idx11 t).1 (by omega)) (inBlk (i := (i 1).val) (n := 512) (idx11 t).2.1 (by omega)) (inBlk (i := (i 2).val) (n := 128) (idx11 t).2.2.1 (by omega)))⟩

theorem emb11 (t : Fin cfg0.N) (y : S2x512x128.Idx) (i : S2x4096x128.Idx) (h : ((cfg0.win 11).blk t).view.emb y = i) :
    (i 0).val = (y 0).val ∧ (i 1).val = t.val * 512 + (y 1).val ∧ (i 2).val = (y 2).val :=
  ⟨ofBlk0 (emb_at win0_11 t y i h 0) (idx11 t).1, ofBlk (emb_at win0_11 t y i h 1) (idx11 t).2.1, ofBlk0 (emb_at win0_11 t y i h 2) (idx11 t).2.2.1⟩

theorem final11 (c : Dev nD) : (dats m 0 c).arrAt 11 cfg0.N = stR (ar0 m c) (ar1 m c) (ar2 m c) 1 := by
  funext i
  refine (dats m 0 c).arrAt_forall_of_cover 11 (fun i v => v = stR (ar0 m c) (ar1 m c) (ar2 m c) 1 i) (fun t _ y => ?_) cover11 i
  generalize hi : ((cfg0.win 11).blk t).view.emb y = i'
  obtain ⟨k0, k1, k2⟩ := emb11 t y i' hi
  have hf : (dats m 0 c).flushed 11 t y = stB (iblk m c 0 t) (iblk m c 1 t) (iblk m c 2 t) (iblk m c 3 t) (iblk m c 4 t) (iblk m c 5 t) (iblk m c 6 t) (iblk m c 5 t) y := by
    rw [Cert.Kernel3Ideal.Value.flushed11]
    exact out11 (iblk m c 0 t) (iblk m c 1 t) (iblk m c 2 t) (iblk m c 3 t) (iblk m c 4 t) (iblk m c 5 t) (iblk m c 6 t) y
  refine (hf : _ = _).trans ?_
  exact by3 t.val y i' ⟨k0, k1, k2⟩ fun f p l s h =>
    ite_congr3 (tile5 m c t f p l s h) (tileW1 m c t f p l s h) (tileM m c t f p l s h)

theorem cover12 (i : S2x4096x128.Idx) :
    ∃ t : Fin cfg0.N, (cfg0.win 12).flush t = true ∧ i ∈ ((cfg0.win 12).blk t).view.set := by
  have h0 : (i 0).val < 2 := (i 0).isLt
  have h1 : (i 1).val < 4096 := (i 1).isLt
  have h2 : (i 2).val < 128 := (i 2).isLt
  have hN : cfg0.N = 8 := N_0
  obtain ⟨t, ht⟩ : ∃ t : Fin cfg0.N, t.val = (i 1).val / 512 := ⟨⟨_, by omega⟩, rfl⟩
  exact ⟨t, flush0_12 t, in_blk (b := main_v27_5) (fall3 (inBlk (i := (i 0).val) (n := 2) (idx12 t).1 (by omega)) (inBlk (i := (i 1).val) (n := 512) (idx12 t).2.1 (by omega)) (inBlk (i := (i 2).val) (n := 128) (idx12 t).2.2.1 (by omega)))⟩

theorem emb12 (t : Fin cfg0.N) (y : S2x512x128.Idx) (i : S2x4096x128.Idx) (h : ((cfg0.win 12).blk t).view.emb y = i) :
    (i 0).val = (y 0).val ∧ (i 1).val = t.val * 512 + (y 1).val ∧ (i 2).val = (y 2).val :=
  ⟨ofBlk0 (emb_at win0_12 t y i h 0) (idx12 t).1, ofBlk (emb_at win0_12 t y i h 1) (idx12 t).2.1, ofBlk0 (emb_at win0_12 t y i h 2) (idx12 t).2.2.1⟩

theorem final12 (c : Dev nD) : (dats m 0 c).arrAt 12 cfg0.N = stR (ar0 m c) (ar1 m c) (ar2 m c) 2 := by
  funext i
  refine (dats m 0 c).arrAt_forall_of_cover 12 (fun i v => v = stR (ar0 m c) (ar1 m c) (ar2 m c) 2 i) (fun t _ y => ?_) cover12 i
  generalize hi : ((cfg0.win 12).blk t).view.emb y = i'
  obtain ⟨k0, k1, k2⟩ := emb12 t y i' hi
  have hf : (dats m 0 c).flushed 12 t y = stB (iblk m c 0 t) (iblk m c 1 t) (iblk m c 2 t) (iblk m c 3 t) (iblk m c 4 t) (iblk m c 5 t) (iblk m c 6 t) (iblk m c 6 t) y := by
    rw [Cert.Kernel3Ideal.Value.flushed12]
    exact out12 (iblk m c 0 t) (iblk m c 1 t) (iblk m c 2 t) (iblk m c 3 t) (iblk m c 4 t) (iblk m c 5 t) (iblk m c 6 t) y
  refine (hf : _ = _).trans ?_
  exact by3 t.val y i' ⟨k0, k1, k2⟩ fun f p l s h =>
    ite_congr3 (tile6 m c t f p l s h) (tileW2 m c t f p l s h) (tileM m c t f p l s h)

end Cert.Mixb
-- ==== Proof.MixRef.lean ====
module

public import proofs.«01_k».proof.Proof.Mixb
public import proofs.«01_k».proof.Proof.FoxRow

@[expose] public section

set_option maxRecDepth 16384

noncomputable section

namespace Cert.Mixb

open Idealize.ShloMosaic Idealize.ShloMosaic.TcCoe Idealize.SL.Sem Cert.Common
open Idealize.ShloMosaic.Pipeline (Dat RDat)
open Cert.Reference3Ideal.Read

/-- A sum over a head's lanes, inside the 128 lanes that hold two heads. -/
theorem head_sum (F : Fin 4 → Fin 64 → EReal) (f : Fin 2) (l : Fin 128) :
    (∑ k : Fin 128, if k.val / 64 = l.val / 64 then F (hd f k) (ln k) else 0) = ∑ e, F (hd f l) e := by
  rw [← Finset.sum_filter]
  symm
  refine Finset.sum_bij (fun e _ => (⟨64 * (l.val / 64) + e.val, by omega⟩ : Fin 128)) (fun e _ => ?_) (fun e _ e' _ h => ?_)
    (fun k hk => ⟨ln k, Finset.mem_univ _, Fin.ext ?_⟩) (fun e _ => ?_)
  · exact Finset.mem_filter.2 ⟨Finset.mem_univ _, by show (64 * (l.val / 64) + e.val) / 64 = l.val / 64; omega⟩
  · have := congrArg Fin.val h
    dsimp only at this
    exact Fin.ext (by omega)
  · have := (Finset.mem_filter.1 hk).2
    show 64 * (l.val / 64) + k.val % 64 = k.val
    omega
  · refine congr (congrArg F (Fin.ext ?_)) (Fin.ext ?_)
    · show f.val * 2 + l.val / 64 = f.val * 2 + (64 * (l.val / 64) + e.val) / 64
      omega
    · show e.val = (64 * (l.val / 64) + e.val) % 64
      omega

theorem hs3_real {f : Fin 128 → EReal} (hf : ∀ k, IsReal (f k)) (l : Fin 128) :
    hs3 f l = ∑ k : Fin 128, if k.val / 64 = l.val / 64 then f k else 0 := by
  choose g hg using hf
  obtain rfl : f = fun k => (g k : EReal) := funext hg
  unfold hs3
  simp only [same_eq, ← EReal.coe_sub, sub_self, EReal.coe_zero, zero_mul, Finset.sum_const_zero, add_zero, mul_ite, mul_one, mul_zero, ite_self, sub_zero]

theorem dR_real {O : TO} {ct : TC} (hO : ∀ i, IsReal (O i)) (hc : ∀ i, IsReal (ct i)) (g : Fin 3) (s : Fin 4096) (f : Fin 2) (l : Fin 128) :
    dR O ct g s f l = ∑ e : Fin 64, ct (ix3 s (hd f l) e) * O (ix4 g s (hd f l) e) :=
  (hs3_real (fun k => (hc _).mul (hO _)) l).trans (head_sum (fun h e => ct (ix3 s h e) * O (ix4 g s h e)) f l)

theorem fold3 (f : Fin 3 → EReal) :
    max (Ideal.ofBits FTy.f32 0xFF800000#32) (Finset.fold max (Ideal.ofBits FTy.f32 0xFF800000#32) f Finset.univ) = max (max (f 0) (f 1)) (f 2) := by
  rw [ofBits_neg_inf]
  refine eq_of_forall_ge_iff fun c => ?_
  rw [max_le_iff, Finset.fold_max_le, max_le_iff, max_le_iff]
  constructor
  · intro h
    exact ⟨⟨h.2.2 0 (Finset.mem_univ _), h.2.2 1 (Finset.mem_univ _)⟩, h.2.2 2 (Finset.mem_univ _)⟩
  · intro h
    refine ⟨bot_le, bot_le, fun x _ => ?_⟩
    match x with
    | 0 => exact h.1.1
    | 1 => exact h.1.2
    | 2 => exact h.2

theorem ref_v7 (x0 : TL) (j : Cert.Reference3Ideal.S4096x4.Idx) :
    val_main_v7 (F := Ideal) x0 j = mixMax (x0 (ix3 0 (j 0) (j 1))) (x0 (ix3 1 (j 0) (j 1))) (x0 (ix3 2 (j 0) (j 1))) := by
  idx_vars j
  unfold val_main_v7 val_main_v6 val_main_cst_1 val_main_v0 val_main_cst
  pointwise [mixMax]
  exact fold3 fun g => x0 (ix3 g j0 j1)
theorem ref_v20 (x0 : TL) (j : Cert.Kernel3Ideal.S3x4096x4.Idx) :
    val_main_v20 (F := Ideal) x0 j = mixExp (x0 j) (x0 (ix3 0 (j 1) (j 2))) (x0 (ix3 1 (j 1) (j 2))) (x0 (ix3 2 (j 1) (j 2))) := by
  idx_vars j
  unfold val_main_v20 val_main_v19 val_main_v18 val_main_v17
  pointwise [ref_v7, mixExp]

theorem ref_v21 (x0 : TL) (j : Cert.Reference3Ideal.S4096x4.Idx) :
    val_main_v21 (F := Ideal) x0 j = mixDen (x0 (ix3 0 (j 0) (j 1))) (x0 (ix3 1 (j 0) (j 1))) (x0 (ix3 2 (j 0) (j 1))) := by
  idx_vars j
  unfold val_main_v21 val_main_cst_7
  pointwise [ref_v20, mixDen, Fin.sum_univ_three]

theorem ref_v24 (x0 : TL) (j : Cert.Kernel3Ideal.S3x4096x4.Idx) :
    val_main_v24 (F := Ideal) x0 j = wR x0 (j 0) (j 1) (j 2) := by
  idx_vars j
  unfold val_main_v24 val_main_v23 val_main_v22
  pointwise [ref_v20, ref_v21, wR, alp]

theorem ref_v34 (x0 : TL) (x2 : TC) (j : Cert.Kernel3Ideal.S3x4096x4x64.Idx) :
    val_main_v34 (F := Ideal) x0 x2 j = wR x0 (j 0) (j 1) (j 2) * x2 (ix3 (j 1) (j 2) (j 3)) := by
  idx_vars j
  unfold val_main_v34 val_main_v33 val_main_v32 val_main_v28
  pointwise [ref_v24]

theorem ref_v38 (x1 : TO) (x2 : TC) (j : Cert.Kernel3Ideal.S3x4096x4.Idx) :
    val_main_v38 (F := Ideal) x1 x2 j = ∑ e : Fin 64, x2 (ix3 (j 1) (j 2) e) * x1 (ix4 (j 0) (j 1) (j 2) e) := by
  idx_vars j
  unfold val_main_v38 val_main_cst_11 val_main_v37 val_main_v36 val_main_cst_10 val_main_v35 val_main_v32
  pointwise [Fin.sum_univ_one]

/-- The softmax's gradient as the derivative of a quotient gives it. -/
def quot (E D : Fin 3 → EReal) (g : Fin 3) (den r : EReal) : EReal :=
  (Ideal.div (D g) den + -(∑ k, D k * Ideal.div 1 (den * den) * E k)) * E g - r

theorem ref_v53 (x0 : TL) (x1 : TO) (x2 : TC) (j : Cert.Kernel3Ideal.S3x4096x4.Idx) :
    val_main_v53 (F := Ideal) x0 x1 x2 j = quot (fun g => mixExp (x0 (ix3 g (j 1) (j 2))) (x0 (ix3 0 (j 1) (j 2))) (x0 (ix3 1 (j 1) (j 2))) (x0 (ix3 2 (j 1) (j 2))))
      (fun g => ∑ e : Fin 64, x2 (ix3 (j 1) (j 2) e) * x1 (ix4 g (j 1) (j 2) e)) (j 0) (mixDen (x0 (ix3 0 (j 1) (j 2))) (x0 (ix3 1 (j 1) (j 2))) (x0 (ix3 2 (j 1) (j 2))))
      (∑ e : Fin 64, wR x0 (j 0) (j 1) (j 2) * x2 (ix3 (j 1) (j 2) e) * x1 (ix4 (j 0) (j 1) (j 2) e)) := by
  idx_vars j
  unfold val_main_v53 val_main_v52 val_main_cst_14 val_main_v51 val_main_v50 val_main_v49 val_main_v48 val_main_v47 val_main_cst_13 val_main_v46 val_main_v45 val_main_v44 val_main_v43 val_main_v42 val_main_cst_12 val_main_v41 val_main_v40 val_main_v39 val_main_v27 val_main_v26 val_main_cst_8 val_main_v25 val_main_v22
  pointwise [ref_v20, ref_v21, ref_v34, ref_v38, quot, Fin.sum_univ_one]

theorem mixExp_coe (x a b c : ℝ) : mixExp x a b c = (Real.exp (x - max (max a b) c) : ℝ) := by
  unfold mixExp mixMax
  rw [← EReal.coe_strictMono.monotone.map_max, ← EReal.coe_strictMono.monotone.map_max, ← EReal.coe_sub, Ideal.exp_coe]

theorem mixDen_coe (a b c : ℝ) : ∃ d : ℝ, 0 < d ∧ mixDen a b c = (d : EReal) := by
  unfold mixDen
  rw [mixExp_coe, mixExp_coe, mixExp_coe, ← EReal.coe_add, ← EReal.coe_add]
  exact ⟨_, by positivity, rfl⟩

theorem real_core (e D : Fin 3 → ℝ) (g : Fin 3) {d : ℝ} (hd : d ≠ 0) :
    (D g * (1 / d) + -(D 0 * (1 * (1 / (d * d))) * e 0 + D 1 * (1 * (1 / (d * d))) * e 1 + D 2 * (1 * (1 / (d * d))) * e 2)) * e g - e g * (1 / d) * D g
      = (0 - e g * (1 / d)) * (e 0 * (1 / d) * D 0 + e 1 * (1 / d) * D 1 + e 2 * (1 / d) * D 2) := by
  field_simp
  ring

/-- The derivative of the quotient is the weight times the weighted mean. -/
theorem quot_eq {l D : Fin 3 → EReal} (hl : ∀ g, IsReal (l g)) (hD : ∀ g, IsReal (D g)) (g : Fin 3) :
    quot (fun k => mixExp (l k) (l 0) (l 1) (l 2)) D g (mixDen (l 0) (l 1) (l 2)) (alp (l g) (l 0) (l 1) (l 2) * D g)
      = (0 - alp (l g) (l 0) (l 1) (l 2)) * mean (l 0) (l 1) (l 2) (D 0) (D 1) (D 2) := by
  choose a ha using hl
  choose r hr using hD
  obtain rfl : l = fun g => (a g : EReal) := funext ha
  obtain rfl : D = fun g => (r g : EReal) := funext hr
  obtain ⟨d, hd, ed⟩ := mixDen_coe (a 0) (a 1) (a 2)
  unfold quot mean alp
  dsimp only
  rw [ed, ← EReal.coe_mul d d]
  simp only [mixExp_coe, Fin.sum_univ_three, Ideal.div_coe hd.ne', Ideal.div_coe (mul_pos hd hd).ne', ← EReal.coe_mul, ← EReal.coe_add, ← EReal.coe_neg,
    ← EReal.coe_sub, ← EReal.coe_zero, ← EReal.coe_one]
  exact congrArg _ (real_core (fun g => Real.exp (a g - max (max (a 0) (a 1)) (a 2))) r g hd.ne')

theorem pull {w : EReal} {f g : Fin 64 → EReal} (hw : IsReal w) (hf : ∀ e, IsReal (f e)) (hg : ∀ e, IsReal (g e)) :
    ∑ e, w * f e * g e = w * ∑ e, f e * g e := by
  obtain ⟨w, rfl⟩ := hw
  choose a ha using hf
  choose b hb using hg
  obtain rfl : f = fun g => (a g : EReal) := funext ha
  obtain rfl : g = fun g => (b g : EReal) := funext hb
  simp only [← EReal.coe_mul, ← Cert.Fox.coe_sum]
  exact congrArg _ ((Finset.sum_congr rfl fun e _ => mul_assoc _ _ _).trans (Finset.mul_sum _ _ _).symm)

theorem low_bit : ∀ e : Fin 64, IntOp.cmpi .slt (BitVec.ofNat 32 e.val) 32#32 = if e.val < 32 then 1#1 else 0#1 := by decide +kernel

theorem ref_v59 (x0 : TL) (x1 : TO) (x2 : TC) (j : Cert.Kernel3Ideal.S3x4096x4x64.Idx) :
    val_main_v59 (F := Ideal) x0 x1 x2 j = if (j 3).val < 32 then x0 (ix3 (j 0) (j 1) (j 2)) else val_main_v53 (F := Ideal) x0 x1 x2 (ix3 (j 0) (j 1) (j 2)) := by
  idx_vars j
  unfold val_main_v59 val_main_call0_v2 val_main_call0_v1 val_main_call0_v0 val_main_v58 val_main_v57 val_main_v56 val_main_v55 val_main_c val_main_v54
  pointwise [low_bit]
  by_cases h : j3.val < 32
  · rw [if_pos h]; exact (if_pos h).symm
  · rw [if_neg h]; exact (if_neg h).symm

theorem wR_real {x0 : TL} (h0 : ∀ i, IsReal (x0 i)) (g : Fin 3) (s : Fin 4096) (h : Fin 4) : IsReal (wR x0 g s h) := by
  choose a ha using h0
  obtain rfl : x0 = fun i => (a i : EReal) := funext ha
  obtain ⟨d, hd, ed⟩ := mixDen_coe (a (ix3 0 s h)) (a (ix3 1 s h)) (a (ix3 2 s h))
  unfold wR alp
  rw [ed, mixExp_coe, Ideal.div_coe hd.ne', ← EReal.coe_mul]
  exact .coe _

theorem ref_row {x0 : TL} {x1 : TO} {x2 : TC} (h0 : ∀ i, IsReal (x0 i)) (h1 : ∀ i, IsReal (x1 i)) (h2 : ∀ i, IsReal (x2 i))
    (g : Fin 3) (s : Fin 4096) (f : Fin 2) (l : Fin 128) :
    val_main_v53 (F := Ideal) x0 x1 x2 (ix3 g s (hd f l)) = (0 - wR x0 g s (hd f l)) * meanR x0 x1 x2 s f l := by
  refine (ref_v53 x0 x1 x2 (ix3 g s (hd f l))).trans ?_
  refine (congrArg (quot _ _ _ _) (pull (wR_real h0 g s (hd f l)) (fun e => h2 (ix3 s (hd f l) e)) (fun e => h1 (ix4 g s (hd f l) e)))).trans ?_
  refine (quot_eq (l := fun k => x0 (ix3 k s (hd f l))) (D := fun k => ∑ e : Fin 64, x2 (ix3 s (hd f l) e) * x1 (ix4 k s (hd f l) e))
    (fun k => h0 _) (fun k => .sum _ fun e _ => (h2 _).mul (h1 _)) g).trans ?_
  exact congrArg (_ * ·) (mean_congr rfl rfl rfl (dR_real h1 h2 0 s f l).symm (dR_real h1 h2 1 s f l).symm (dR_real h1 h2 2 s f l).symm)

theorem ref_v63 (x0 : TL) (x2 : TC) :
    val_main_v63 (F := Ideal) x0 x2  = doR x0 x2 0 := by
  funext j
  idx_vars j
  unfold val_main_v63 val_main_v62 val_main_v61 val_main_v60
  pointwise [ref_v34, doR]
  rfl

theorem ref_v75 {x0 : TL} {x1 : TO} {x2 : TC} (h0 : ∀ i, IsReal (x0 i)) (h1 : ∀ i, IsReal (x1 i)) (h2 : ∀ i, IsReal (x2 i)) :
    val_main_v75 (F := Ideal) x0 x1 x2  = stR x0 x1 x2 0 := by
  funext j
  idx_vars j
  unfold val_main_v75 val_main_v74 val_main_v73 val_main_v72
  pointwise [ref_v59, stR]
  by_cases h : j2.val % 64 < 32
  · exact (if_pos h).trans (if_pos h).symm
  · exact (if_neg h).trans ((ref_row h0 h1 h2 0 j1 j0 j2).trans (if_neg h).symm)

theorem ref_v67 (x0 : TL) (x2 : TC) :
    val_main_v67 (F := Ideal) x0 x2  = doR x0 x2 1 := by
  funext j
  idx_vars j
  unfold val_main_v67 val_main_v66 val_main_v65 val_main_v64
  pointwise [ref_v34, doR]
  rfl

theorem ref_v79 {x0 : TL} {x1 : TO} {x2 : TC} (h0 : ∀ i, IsReal (x0 i)) (h1 : ∀ i, IsReal (x1 i)) (h2 : ∀ i, IsReal (x2 i)) :
    val_main_v79 (F := Ideal) x0 x1 x2  = stR x0 x1 x2 1 := by
  funext j
  idx_vars j
  unfold val_main_v79 val_main_v78 val_main_v77 val_main_v76
  pointwise [ref_v59, stR]
  by_cases h : j2.val % 64 < 32
  · exact (if_pos h).trans (if_pos h).symm
  · exact (if_neg h).trans ((ref_row h0 h1 h2 1 j1 j0 j2).trans (if_neg h).symm)

theorem ref_v71 (x0 : TL) (x2 : TC) :
    val_main_v71 (F := Ideal) x0 x2  = doR x0 x2 2 := by
  funext j
  idx_vars j
  unfold val_main_v71 val_main_v70 val_main_v69 val_main_v68
  pointwise [ref_v34, doR]
  rfl

theorem ref_v83 {x0 : TL} {x1 : TO} {x2 : TC} (h0 : ∀ i, IsReal (x0 i)) (h1 : ∀ i, IsReal (x1 i)) (h2 : ∀ i, IsReal (x2 i)) :
    val_main_v83 (F := Ideal) x0 x1 x2  = stR x0 x1 x2 2 := by
  funext j
  idx_vars j
  unfold val_main_v83 val_main_v82 val_main_v81 val_main_v80
  pointwise [ref_v59, stR]
  by_cases h : j2.val % 64 < 32
  · exact (if_pos h).trans (if_pos h).symm
  · exact (if_neg h).trans ((ref_row h0 h1 h2 2 j1 j0 j2).trans (if_neg h).symm)

open Cert.Kernel3Ideal Cert.Kernel3Ideal.Gen

/-- What the precondition says. -/
theorem finite_of_pre (x0 : FVec Ideal S3x4096x4 .f32) (x1 : FVec Ideal S3x4096x4x64 .f32) (x2 : FVec Ideal S4096x4x64 .f32)
    (h : Cert.Pre_finite_mix.fn (F := Ideal) x0 x1 x2 = fun _ => 1#1) :
    (∀ i, IsReal (x0 i)) ∧ (∀ i, IsReal (x1 i)) ∧ (∀ i, IsReal (x2 i)) := by
  have e := congrFun h (fun a => a.elim0)
  unfold Cert.Pre_finite_mix.fn Cert.Pre_finite_mix.fn_part1 at e
  obtain ⟨e2x, e2⟩ := IntOp.andi_eq_one.1 e
  obtain ⟨e1x, e1⟩ := IntOp.andi_eq_one.1 e2x
  exact ⟨fun i => isReal_of_all e1x (fun i => rfl) (fun i => rfl) i, fun i => isReal_of_all e1 (fun i => rfl) (fun i => rfl) i, fun i => isReal_of_all e2 (fun i => rfl) (fun i => rfl) i⟩

theorem frame_ref : Cert.quiescent_Reference3Ideal := fun m ρ _ =>
  (θ_run Cert.Reference3Ideal.defs _ _).mono (fun r h => ⟨fun c => (h c).2.2.2.2.2.2, Idealize.ShloMosaic.sem_eq_zero_of_no_sems (by decide) r.2⟩)
    (Cert.Reference3Ideal.Value.run (F := Ideal) m ρ)

variable (m : (ℓ : Loc nD τ sig) → Buf (Elt Ideal) ℓ) (ρ : Dev nD → PrngReg)

theorem run : θ_run (Cert.Kernel3Ideal.defs (F := Ideal)) (onTc (τ := τ) (Cert.Kernel3Ideal.main (F := Ideal))) ⟨m, fun _ => 0, ρ⟩ fun r => ∀ c : Dev nD,
      r.2.mem ((c : Thread nD τ).loc main_v27_0) = doR (ar0 m c) (ar2 m c) 0
      ∧ r.2.mem ((c : Thread nD τ).loc main_v27_1) = doR (ar0 m c) (ar2 m c) 1
      ∧ r.2.mem ((c : Thread nD τ).loc main_v27_2) = doR (ar0 m c) (ar2 m c) 2
      ∧ r.2.mem ((c : Thread nD τ).loc main_v27_3) = stR (ar0 m c) (ar1 m c) (ar2 m c) 0
      ∧ r.2.mem ((c : Thread nD τ).loc main_v27_4) = stR (ar0 m c) (ar1 m c) (ar2 m c) 1
      ∧ r.2.mem ((c : Thread nD τ).loc main_v27_5) = stR (ar0 m c) (ar1 m c) (ar2 m c) 2
      ∧ r.2.mem ((c : Thread nD τ).loc main_arg0) = (ar0 m c)
      ∧ r.2.mem ((c : Thread nD τ).loc main_arg1) = (ar1 m c)
      ∧ r.2.mem ((c : Thread nD τ).loc main_arg2) = (ar2 m c) :=
  (θ_run _ _ _).mono (fun _ h c => ⟨((h c).1).trans (final7 m c), ((h c).2.1).trans (final8 m c), ((h c).2.2.1).trans (final9 m c), ((h c).2.2.2.1).trans (final10 m c), ((h c).2.2.2.2.1).trans (final11 m c), ((h c).2.2.2.2.2.1).trans (final12 m c), (h c).2.2.2.2.2.2⟩)
    (Cert.Kernel3Ideal.Value.run_blocks (F := Ideal) m ρ)

theorem algebraic : Cert.algebraic_Kernel3Ideal_Reference3Ideal_pre_finite_mix := by
  intro m ρ m' ρ' hpre hagree
  have hr : ∀ c : Dev nD, _ := fun c => finite_of_pre _ _ _ (hpre c)
  refine ⟨fun c => doR (ar0 m c) (ar2 m c) 0, fun c => doR (ar0 m c) (ar2 m c) 1, fun c => doR (ar0 m c) (ar2 m c) 2, fun c => stR (ar0 m c) (ar1 m c) (ar2 m c) 0, fun c => stR (ar0 m c) (ar1 m c) (ar2 m c) 1, fun c => stR (ar0 m c) (ar1 m c) (ar2 m c) 2, run m ρ, ?_⟩
  refine (θ_run Cert.Reference3Ideal.defs _ _).mono (fun _ h c => ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩) (Cert.Reference3Ideal.Value.run (F := Ideal) m' ρ')
  · obtain ⟨a0, a1, a2⟩ := hagree c
    rw [val_main_v63_eq, a0, a2]
    exact ref_v63 _ _
  · obtain ⟨a0, a1, a2⟩ := hagree c
    rw [val_main_v67_eq, a0, a2]
    exact ref_v67 _ _
  · obtain ⟨a0, a1, a2⟩ := hagree c
    rw [val_main_v71_eq, a0, a2]
    exact ref_v71 _ _
  · obtain ⟨a0, a1, a2⟩ := hagree c
    rw [val_main_v75_eq, a0, a1, a2]
    exact ref_v75 (hr c).1 (hr c).2.1 (hr c).2.2
  · obtain ⟨a0, a1, a2⟩ := hagree c
    rw [val_main_v79_eq, a0, a1, a2]
    exact ref_v79 (hr c).1 (hr c).2.1 (hr c).2.2
  · obtain ⟨a0, a1, a2⟩ := hagree c
    rw [val_main_v83_eq, a0, a1, a2]
    exact ref_v83 (hr c).1 (hr c).2.1 (hr c).2.2

end Cert.Mixb
-- ==== Proof.DMix.lean ====
module

public import proofs.«01_k».proof.Proof.Gen.Kernel12Ideal.Value
public import proofs.«01_k».proof.Proof.Gen.Reference12Ideal.Read
public import proofs.«01_k».proof.Proof.Gen.Pre_finite_lse
public import proofs.«01_k».proof.Proof.MixRef

@[expose] public section

set_option maxRecDepth 16384

noncomputable section

namespace Cert.DMix

open Idealize.ShloMosaic Idealize.ShloMosaic.TcCoe Idealize.SL.Sem Cert.Common
open Cert.Mixb (mixMax mixExp mixDen alp hd ln fold3 mixDen_coe)
open Idealize.ShloMosaic.Pipeline (Dat RDat)
open Cert.Reference12Ideal.Read
open Cert.Kernel12Ideal Cert.Kernel12Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)

/-- The mixture of three groups' rows by their log-sums, as the body computes it: one quotient of the whole sum. -/
def mixN (a b c x y z : EReal) : EReal := Ideal.div (mixExp a a b c * x + mixExp b a b c * y + mixExp c a b c * z) (mixDen a b c)
theorem mixN_congr {a b c x y z a' b' c' x' y' z' : EReal} (ha : a = a') (hb : b = b') (hc : c = c') (hx : x = x') (hy : y = y') (hz : z = z') :
    mixN a b c x y z = mixN a' b' c' x' y' z' := by rw [ha, hb, hc, hx, hy, hz]

/-- Weighing each row by its own quotient is dividing the sum: the denominator is a positive real number. -/
theorem mix_eq {a b c : EReal} (ha : IsReal a) (hb : IsReal b) (hc : IsReal c) (x y z : EReal) :
    alp a a b c * x + alp b a b c * y + alp c a b c * z = mixN a b c x y z := by
  obtain ⟨a, rfl⟩ := ha
  obtain ⟨b, rfl⟩ := hb
  obtain ⟨c, rfl⟩ := hc
  obtain ⟨d, hd, ed⟩ := mixDen_coe a b c
  unfold mixN alp
  rw [ed]
  simp only [Ideal.div_coe hd.ne']
  have h0 : (0 : EReal) ≤ ((1 / d : ℝ) : EReal) := EReal.coe_nonneg.2 (by positivity)
  rw [EReal.right_distrib_of_nonneg_of_ne_top h0 (EReal.coe_ne_top _), EReal.right_distrib_of_nonneg_of_ne_top h0 (EReal.coe_ne_top _),
    mul_right_comm _ _ x, mul_right_comm _ _ y, mul_right_comm _ _ z]

def half (c : Fin 256) : Fin 2 := ⟨c.val / 128, by omega⟩
def lane (c : Fin 256) : Fin 128 := ⟨c.val % 128, by omega⟩

def oAt (x0 x1 x2 x3 x4 x5 : Vec Ideal S2x512x128 .f32) (f : Fin 2) (p : Fin 512) (l : Fin 128) : EReal :=
  mixN (x3 (ix3 f p l)) (x4 (ix3 f p l)) (x5 (ix3 f p l)) (x0 (ix3 f p l)) (x1 (ix3 f p l)) (x2 (ix3 f p l))
def oB (x0 x1 x2 x3 x4 x5 : Vec Ideal S2x512x128 .f32) : Vec Ideal S512x256 .bf16 := fun j => oAt x0 x1 x2 x3 x4 x5 (half (j 1)) (j 0) (lane (j 1))

section
variable (a b c x y z : Vec Ideal S1x512x128 .f32)
theorem pay1 (j : S512x128.Idx) : k0_pay1 (k0_pay3 a) b c x y z j = mixN (a (ix3 0 (j 0) (j 1))) (b (ix3 0 (j 0) (j 1))) (c (ix3 0 (j 0) (j 1))) (x (ix3 0 (j 0) (j 1))) (y (ix3 0 (j 0) (j 1))) (z (ix3 0 (j 0) (j 1))) := by
  idx_vars j
  unfold_payloads
  pointwise [mixN, mixExp, mixDen, mixMax]
theorem pay2 (j : S512x128.Idx) : k0_pay2 a b c x y z j = mixN (a (ix3 0 (j 0) (j 1))) (b (ix3 0 (j 0) (j 1))) (c (ix3 0 (j 0) (j 1))) (x (ix3 0 (j 0) (j 1))) (y (ix3 0 (j 0) (j 1))) (z (ix3 0 (j 0) (j 1))) := by
  idx_vars j
  unfold_payloads
  pointwise [mixN, mixExp, mixDen, mixMax]
end

theorem ld0 (x : Vec Ideal S2x512x128 .f32) (p : Fin 512) (l : Fin 128) : View.ld x r0_0 (ix3 0 p l : S1x512x128.Idx) = x (ix3 0 p l) := by
  refine congrArg x (funext fun a => Fin.ext ?_)
  match a with
  | ⟨0, _⟩ => rfl
  | ⟨1, _⟩ => show 0 + 1 * p.val = p.val; omega
  | ⟨2, _⟩ => show 0 + 1 * l.val = l.val; omega
theorem ld2 (x : Vec Ideal S2x512x128 .f32) (p : Fin 512) (l : Fin 128) : View.ld x r0_2 (ix3 0 p l : S1x512x128.Idx) = x (ix3 1 p l) := by
  refine congrArg x (funext fun a => Fin.ext ?_)
  match a with
  | ⟨0, _⟩ => rfl
  | ⟨1, _⟩ => show 0 + 1 * p.val = p.val; omega
  | ⟨2, _⟩ => show 0 + 1 * l.val = l.val; omega

theorem out6 (x0 x1 x2 x3 x4 x5 : Vec Ideal S2x512x128 .f32) (j : S512x256.Idx) : out0_6 x0 x1 x2 x3 x4 x5 j = oB x0 x1 x2 x3 x4 x5 j := by
  unfold out0_6
  refine View.canon_apply_of_pieces (Val := Elt Ideal) (e := .bf16) (oB x0 x1 x2 x3 x4 x5) _ ?_ j ?_
  · intro p hp x
    rcases List.mem_cons.1 hp with rfl | hp
    · have hx := (x 1).isLt
      change (x 1).val < 128 at hx
      refine (pay1 _ _ _ _ _ _ x).trans ((mixN_congr (ld2 _ _ _) (ld2 _ _ _) (ld2 _ _ _) (ld2 _ _ _) (ld2 _ _ _) (ld2 _ _ _)).trans ?_)
      have e0 : (r0_3.emb x) 0 = x 0 := Fin.ext (by show 0 + 1 * (x 0).val = (x 0).val; omega)
      have e1 : half ((r0_3.emb x) 1) = 1 := Fin.ext (by show (128 + 1 * (x 1).val) / 128 = 1; omega)
      have e2 : lane ((r0_3.emb x) 1) = x 1 := Fin.ext (by show (128 + 1 * (x 1).val) % 128 = (x 1).val; omega)
      exact (congr (congr (congrArg (oAt x0 x1 x2 x3 x4 x5) e1) e0) e2).symm
    · rcases List.mem_cons.1 hp with rfl | hp
      · have hx := (x 1).isLt
        change (x 1).val < 128 at hx
        refine (pay2 _ _ _ _ _ _ x).trans ((mixN_congr (ld0 _ _ _) (ld0 _ _ _) (ld0 _ _ _) (ld0 _ _ _) (ld0 _ _ _) (ld0 _ _ _)).trans ?_)
        have e0 : (r0_1.emb x) 0 = x 0 := Fin.ext (by show 0 + 1 * (x 0).val = (x 0).val; omega)
        have e1 : half ((r0_1.emb x) 1) = 0 := Fin.ext (by show (0 + 1 * (x 1).val) / 128 = 0; omega)
        have e2 : lane ((r0_1.emb x) 1) = x 1 := Fin.ext (by show (0 + 1 * (x 1).val) % 128 = (x 1).val; omega)
        exact (congr (congr (congrArg (oAt x0 x1 x2 x3 x4 x5) e1) e0) e2).symm
      · cases hp
  · have h0 := (j 0).isLt
    have h1 := (j 1).isLt
    change (j 0).val < 512 at h0
    change (j 1).val < 256 at h1
    by_cases h : (j 1).val < 128
    · refine ⟨_, List.mem_cons_of_mem _ (List.mem_cons_self ..), ?_⟩
      show j ∈ r0_1.set
      rw [Rect.mem_set_unit]
      intro a
      match a with
      | ⟨0, _⟩ => exact ⟨Nat.zero_le _, by show (j 0).val < 0 + 512; omega⟩
      | ⟨1, _⟩ => exact ⟨Nat.zero_le _, by show (j 1).val < 0 + 128; omega⟩
    · refine ⟨_, List.mem_cons_self .., ?_⟩
      show j ∈ r0_3.set
      rw [Rect.mem_set_unit]
      intro a
      match a with
      | ⟨0, _⟩ => exact ⟨Nat.zero_le _, by show (j 0).val < 0 + 512; omega⟩
      | ⟨1, _⟩ => exact ⟨by show 128 ≤ (j 1).val; omega, by show (j 1).val < 128 + 128; omega⟩

theorem V_v5 (c : Dev nD) (f : Fin 2) (s : Fin 4096) (l : Fin 128) :
    V m c main_v5 (ix3 f s l) = (ar1 m c) (ix4 0 s (hd f l) (ln l)) := by
  unfold V
  after_reads_at
  rfl
theorem V_v9 (c : Dev nD) (f : Fin 2) (s : Fin 4096) (l : Fin 128) :
    V m c main_v9 (ix3 f s l) = (ar1 m c) (ix4 1 s (hd f l) (ln l)) := by
  unfold V
  after_reads_at
  rfl
theorem V_v13 (c : Dev nD) (f : Fin 2) (s : Fin 4096) (l : Fin 128) :
    V m c main_v13 (ix3 f s l) = (ar1 m c) (ix4 2 s (hd f l) (ln l)) := by
  unfold V
  after_reads_at
  rfl
theorem V_v17 (c : Dev nD) (f : Fin 2) (s : Fin 4096) (l : Fin 128) :
    V m c main_v17 (ix3 f s l) = (ar0 m c) (ix3 0 s (hd f l)) := by
  unfold V
  after_reads_at
  rfl
theorem V_v21 (c : Dev nD) (f : Fin 2) (s : Fin 4096) (l : Fin 128) :
    V m c main_v21 (ix3 f s l) = (ar0 m c) (ix3 1 s (hd f l)) := by
  unfold V
  after_reads_at
  rfl
theorem V_v25 (c : Dev nD) (f : Fin 2) (s : Fin 4096) (l : Fin 128) :
    V m c main_v25 (ix3 f s l) = (ar0 m c) (ix3 2 s (hd f l)) := by
  unfold V
  after_reads_at
  rfl

theorem idx0 : ∀ t : Fin cfg0.N, win0_0.index t 0 = 0 ∧ win0_0.index t 1 = t.val ∧ win0_0.index t 2 = 0 ∧ t.val < 8 :=
  (by decide +kernel : ∀ t : Fin grid0.N, _)
theorem iblk0_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 0 t y = V m c main_v5 i :=
  congrArg (V m c main_v5) (emb_of win0_0 t y i (fall3 (toBlk0 h0 (idx0 t).1) (toBlk h1 (idx0 t).2.1) (toBlk0 h2 (idx0 t).2.2.1)))

theorem idx1 : ∀ t : Fin cfg0.N, win0_1.index t 0 = 0 ∧ win0_1.index t 1 = t.val ∧ win0_1.index t 2 = 0 ∧ t.val < 8 :=
  (by decide +kernel : ∀ t : Fin grid0.N, _)
theorem iblk1_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 1 t y = V m c main_v9 i :=
  congrArg (V m c main_v9) (emb_of win0_1 t y i (fall3 (toBlk0 h0 (idx1 t).1) (toBlk h1 (idx1 t).2.1) (toBlk0 h2 (idx1 t).2.2.1)))

theorem idx2 : ∀ t : Fin cfg0.N, win0_2.index t 0 = 0 ∧ win0_2.index t 1 = t.val ∧ win0_2.index t 2 = 0 ∧ t.val < 8 :=
  (by decide +kernel : ∀ t : Fin grid0.N, _)
theorem iblk2_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 2 t y = V m c main_v13 i :=
  congrArg (V m c main_v13) (emb_of win0_2 t y i (fall3 (toBlk0 h0 (idx2 t).1) (toBlk h1 (idx2 t).2.1) (toBlk0 h2 (idx2 t).2.2.1)))

theorem idx3 : ∀ t : Fin cfg0.N, win0_3.index t 0 = 0 ∧ win0_3.index t 1 = t.val ∧ win0_3.index t 2 = 0 ∧ t.val < 8 :=
  (by decide +kernel : ∀ t : Fin grid0.N, _)
theorem iblk3_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 3 t y = V m c main_v17 i :=
  congrArg (V m c main_v17) (emb_of win0_3 t y i (fall3 (toBlk0 h0 (idx3 t).1) (toBlk h1 (idx3 t).2.1) (toBlk0 h2 (idx3 t).2.2.1)))

theorem idx4 : ∀ t : Fin cfg0.N, win0_4.index t 0 = 0 ∧ win0_4.index t 1 = t.val ∧ win0_4.index t 2 = 0 ∧ t.val < 8 :=
  (by decide +kernel : ∀ t : Fin grid0.N, _)
theorem iblk4_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 4 t y = V m c main_v21 i :=
  congrArg (V m c main_v21) (emb_of win0_4 t y i (fall3 (toBlk0 h0 (idx4 t).1) (toBlk h1 (idx4 t).2.1) (toBlk0 h2 (idx4 t).2.2.1)))

theorem idx5 : ∀ t : Fin cfg0.N, win0_5.index t 0 = 0 ∧ win0_5.index t 1 = t.val ∧ win0_5.index t 2 = 0 ∧ t.val < 8 :=
  (by decide +kernel : ∀ t : Fin grid0.N, _)
theorem iblk5_at (c : Dev nD) (t : Fin cfg0.N) (y : S2x512x128.Idx) (i : S2x4096x128.Idx)
    (h0 : (i 0).val = (y 0).val) (h1 : (i 1).val = t.val * 512 + (y 1).val) (h2 : (i 2).val = (y 2).val) :
    iblk m c 5 t y = V m c main_v25 i :=
  congrArg (V m c main_v25) (emb_of win0_5 t y i (fall3 (toBlk0 h0 (idx5 t).1) (toBlk h1 (idx5 t).2.1) (toBlk0 h2 (idx5 t).2.2.1)))

abbrev TL := FVec Ideal S3x4096x4 .f32
abbrev TO := FVec Ideal S3x4096x4x64 .f32
def hcol (c : Fin 256) : Fin 4 := ⟨c.val / 64, by omega⟩
def ecol (c : Fin 256) : Fin 64 := ⟨c.val % 64, by omega⟩
theorem hd_half (c : Fin 256) : hd (half c) (lane c) = hcol c := Fin.ext (by show c.val / 128 * 2 + c.val % 128 / 64 = c.val / 64; omega)
theorem ln_lane (c : Fin 256) : ln (lane c) = ecol c := Fin.ext (by show c.val % 128 % 64 = c.val % 64; omega)
def oR (L : TL) (O : TO) : FVec Ideal S4096x256 .bf16 := fun i =>
  mixN (L (ix3 0 (i 0) (hcol (i 1)))) (L (ix3 1 (i 0) (hcol (i 1)))) (L (ix3 2 (i 0) (hcol (i 1)))) (O (ix4 0 (i 0) (hcol (i 1)) (ecol (i 1)))) (O (ix4 1 (i 0) (hcol (i 1)) (ecol (i 1)))) (O (ix4 2 (i 0) (hcol (i 1)) (ecol (i 1))))
def oS (L : TL) (O : TO) : FVec Ideal S4096x256 .bf16 := fun i =>
  alp (L (ix3 0 (i 0) (hcol (i 1)))) (L (ix3 0 (i 0) (hcol (i 1)))) (L (ix3 1 (i 0) (hcol (i 1)))) (L (ix3 2 (i 0) (hcol (i 1)))) * O (ix4 0 (i 0) (hcol (i 1)) (ecol (i 1))) + alp (L (ix3 1 (i 0) (hcol (i 1)))) (L (ix3 0 (i 0) (hcol (i 1)))) (L (ix3 1 (i 0) (hcol (i 1)))) (L (ix3 2 (i 0) (hcol (i 1)))) * O (ix4 1 (i 0) (hcol (i 1)) (ecol (i 1))) + alp (L (ix3 2 (i 0) (hcol (i 1)))) (L (ix3 0 (i 0) (hcol (i 1)))) (L (ix3 1 (i 0) (hcol (i 1)))) (L (ix3 2 (i 0) (hcol (i 1)))) * O (ix4 2 (i 0) (hcol (i 1)) (ecol (i 1)))
theorem oS_eq {L : TL} (h : ∀ i, IsReal (L i)) (O : TO) : oS L O = oR L O := funext fun _ => mix_eq (h _) (h _) (h _) _ _ _

theorem tile (c : Dev nD) (t : Fin cfg0.N) (p : Fin 512) (s : Fin 4096) (h : s.val = t.val * 512 + p.val) (q : Fin 256) :
    oB (iblk m c 0 t) (iblk m c 1 t) (iblk m c 2 t) (iblk m c 3 t) (iblk m c 4 t) (iblk m c 5 t) (ix2 p q) = oR (ar0 m c) (ar1 m c) (ix2 s q) :=
  mixN_congr
    ((iblk3_at m c t (ix3 (half q) p (lane q)) (ix3 (half q) s (lane q)) rfl h rfl).trans ((V_v17 m c (half q) s (lane q)).trans (congrArg (fun h => (ar0 m c) (ix3 0 s h)) (hd_half q))))
    ((iblk4_at m c t (ix3 (half q) p (lane q)) (ix3 (half q) s (lane q)) rfl h rfl).trans ((V_v21 m c (half q) s (lane q)).trans (congrArg (fun h => (ar0 m c) (ix3 1 s h)) (hd_half q))))
    ((iblk5_at m c t (ix3 (half q) p (lane q)) (ix3 (half q) s (lane q)) rfl h rfl).trans ((V_v25 m c (half q) s (lane q)).trans (congrArg (fun h => (ar0 m c) (ix3 2 s h)) (hd_half q))))
    ((iblk0_at m c t (ix3 (half q) p (lane q)) (ix3 (half q) s (lane q)) rfl h rfl).trans ((V_v5 m c (half q) s (lane q)).trans (congrArg₂ (fun h e => (ar1 m c) (ix4 0 s h e)) (hd_half q) (ln_lane q))))
    ((iblk1_at m c t (ix3 (half q) p (lane q)) (ix3 (half q) s (lane q)) rfl h rfl).trans ((V_v9 m c (half q) s (lane q)).trans (congrArg₂ (fun h e => (ar1 m c) (ix4 1 s h e)) (hd_half q) (ln_lane q))))
    ((iblk2_at m c t (ix3 (half q) p (lane q)) (ix3 (half q) s (lane q)) rfl h rfl).trans ((V_v13 m c (half q) s (lane q)).trans (congrArg₂ (fun h e => (ar1 m c) (ix4 2 s h e)) (hd_half q) (ln_lane q))))

theorem idx6 : ∀ t : Fin cfg0.N, win0_6.index t 0 = t.val ∧ win0_6.index t 1 = 0 ∧ t.val < 8 :=
  (by decide +kernel : ∀ t : Fin grid0.N, _)
theorem cover6 (i : S4096x256.Idx) :
    ∃ t : Fin cfg0.N, (cfg0.win 6).flush t = true ∧ i ∈ ((cfg0.win 6).blk t).view.set := by
  have h0 : (i 0).val < 4096 := (i 0).isLt
  have h1 : (i 1).val < 256 := (i 1).isLt
  have hN : cfg0.N = 8 := N_0
  obtain ⟨t, ht⟩ : ∃ t : Fin cfg0.N, t.val = (i 0).val / 512 := ⟨⟨_, by omega⟩, rfl⟩
  exact ⟨t, flush0_6 t, in_blk (b := main_v26) (fall2 (inBlk (i := (i 0).val) (n := 512) (idx6 t).1 (by omega)) (inBlk (i := (i 1).val) (n := 256) (idx6 t).2.1 (by omega)))⟩

theorem emb6 (t : Fin cfg0.N) (y : S512x256.Idx) (i : S4096x256.Idx) (h : ((cfg0.win 6).blk t).view.emb y = i) :
    (i 0).val = t.val * 512 + (y 0).val ∧ (i 1).val = (y 1).val :=
  ⟨ofBlk (emb_at win0_6 t y i h 0) (idx6 t).1, ofBlk0 (emb_at win0_6 t y i h 1) (idx6 t).2.1⟩

theorem final6 (c : Dev nD) : (dats m 0 c).arrAt 6 cfg0.N = oR (ar0 m c) (ar1 m c) := by
  funext i
  refine (dats m 0 c).arrAt_forall_of_cover 6 (fun i v => v = oR (ar0 m c) (ar1 m c) i) (fun t _ y => ?_) cover6 i
  generalize hi : ((cfg0.win 6).blk t).view.emb y = i'
  obtain ⟨k0, k1⟩ := emb6 t y i' hi
  have hf : (dats m 0 c).flushed 6 t y = oB (iblk m c 0 t) (iblk m c 1 t) (iblk m c 2 t) (iblk m c 3 t) (iblk m c 4 t) (iblk m c 5 t) y := by
    rw [Cert.Kernel12Ideal.Value.flushed6]
    exact out6 (iblk m c 0 t) (iblk m c 1 t) (iblk m c 2 t) (iblk m c 3 t) (iblk m c 4 t) (iblk m c 5 t) y
  refine (hf : _ = _).trans ?_
  exact by2 ((tile m c t (y 0) (i' 0) k0 (y 1)).trans (congrArg (fun z => oR (ar0 m c) (ar1 m c) (ix2 (i' 0) z)) (Fin.ext k1.symm)))

theorem ref_v2 (x0 : TL) (j : Cert.Reference12Ideal.S4096x4.Idx) :
    val_main_v2 (F := Ideal) x0 j = mixMax (x0 (ix3 0 (j 0) (j 1))) (x0 (ix3 1 (j 0) (j 1))) (x0 (ix3 2 (j 0) (j 1))) := by
  idx_vars j
  unfold val_main_v2 val_main_v1 val_main_cst_0 val_main_v0 val_main_cst
  pointwise [mixMax]
  exact fold3 fun g => x0 (ix3 g j0 j1)
theorem ref_v6 (x0 : TL) (j : S3x4096x4.Idx) :
    val_main_v6 (F := Ideal) x0 j = mixExp (x0 j) (x0 (ix3 0 (j 1) (j 2))) (x0 (ix3 1 (j 1) (j 2))) (x0 (ix3 2 (j 1) (j 2))) := by
  idx_vars j
  unfold val_main_v6 val_main_v5 val_main_v4 val_main_v3
  pointwise [ref_v2, mixExp]

theorem ref_v7 (x0 : TL) (j : Cert.Reference12Ideal.S4096x4.Idx) :
    val_main_v7 (F := Ideal) x0 j = mixDen (x0 (ix3 0 (j 0) (j 1))) (x0 (ix3 1 (j 0) (j 1))) (x0 (ix3 2 (j 0) (j 1))) := by
  idx_vars j
  unfold val_main_v7 val_main_cst_1
  pointwise [ref_v6, mixDen, Fin.sum_univ_three]

theorem ref_v10 (x0 : TL) (j : S3x4096x4.Idx) :
    val_main_v10 (F := Ideal) x0 j = alp (x0 j) (x0 (ix3 0 (j 1) (j 2))) (x0 (ix3 1 (j 1) (j 2))) (x0 (ix3 2 (j 1) (j 2))) := by
  idx_vars j
  unfold val_main_v10 val_main_v9 val_main_v8
  pointwise [ref_v6, ref_v7, alp]

theorem ref_v14 (x0 : TL) (x1 : TO) (j : S4096x4x64.Idx) :
    val_main_v14 (F := Ideal) x0 x1 j = alp (x0 (ix3 0 (j 0) (j 1))) (x0 (ix3 0 (j 0) (j 1))) (x0 (ix3 1 (j 0) (j 1))) (x0 (ix3 2 (j 0) (j 1))) * x1 (ix4 0 (j 0) (j 1) (j 2)) + alp (x0 (ix3 1 (j 0) (j 1))) (x0 (ix3 0 (j 0) (j 1))) (x0 (ix3 1 (j 0) (j 1))) (x0 (ix3 2 (j 0) (j 1))) * x1 (ix4 1 (j 0) (j 1) (j 2)) + alp (x0 (ix3 2 (j 0) (j 1))) (x0 (ix3 0 (j 0) (j 1))) (x0 (ix3 1 (j 0) (j 1))) (x0 (ix3 2 (j 0) (j 1))) * x1 (ix4 2 (j 0) (j 1) (j 2)) := by
  idx_vars j
  unfold val_main_v14 val_main_cst_2 val_main_v13 val_main_v12 val_main_v11
  pointwise [ref_v10, Fin.sum_univ_three]

theorem ref_v16 (x0 : TL) (x1 : TO) :
    val_main_v16 (F := Ideal) x0 x1  = oS x0 x1 := by
  funext j
  idx_vars j
  unfold val_main_v16 val_main_v15
  pointwise [ref_v14, oS]
  rfl
/-- What the precondition says. -/
theorem finite_of_pre (x0 : FVec Ideal S3x4096x4 .f32) (x1 : FVec Ideal S3x4096x4x64 .f32)
    (h : Cert.Pre_finite_lse.fn (F := Ideal) x0 x1 = fun _ => 1#1) :
    (∀ i, IsReal (x0 i)) := by
  have e := congrFun h (fun a => a.elim0)
  unfold Cert.Pre_finite_lse.fn  at e
  exact fun i => isReal_of_all e (fun i => rfl) (fun i => rfl) i

theorem frame_ref : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem run : θ_run (Cert.Kernel12Ideal.defs (F := Ideal)) (onTc (τ := τ) (Cert.Kernel12Ideal.main (F := Ideal))) ⟨m, fun _ => 0, ρ⟩ fun r => ∀ c : Dev nD,
      r.2.mem ((c : Thread nD τ).loc main_v26) = oR (ar0 m c) (ar1 m c)
      ∧ r.2.mem ((c : Thread nD τ).loc main_arg0) = (ar0 m c)
      ∧ r.2.mem ((c : Thread nD τ).loc main_arg1) = (ar1 m c) :=
  (θ_run _ _ _).mono (fun _ h c => ⟨((h c).1).trans (final6 m c), (h c).2⟩)
    (Cert.Kernel12Ideal.Value.run_blocks (F := Ideal) m ρ)

theorem algebraic : Cert.algebraic_Kernel12Ideal_Reference12Ideal_pre_finite_lse := by
  intro m ρ m' ρ' hpre hagree
  have hr : ∀ c : Dev nD, _ := fun c => finite_of_pre _ _ (hpre c)
  refine ⟨fun c => oR (ar0 m c) (ar1 m c), run m ρ, ?_⟩
  refine (θ_run Cert.Reference12Ideal.defs _ _).mono (fun _ h c => ⟨((h c).1).trans ?_, (h c).2⟩) (Cert.Reference12Ideal.Value.run (F := Ideal) m' ρ')
  · obtain ⟨a0, a1⟩ := hagree c
    rw [val_main_v16_eq, a0, a1]
    exact (ref_v16 _ _).trans (oS_eq (hr c) _)

end Cert.DMix
-- ==== Proof.Cum.lean ====
module

public import proofs.«01_k».proof.Proof.Gen.Kernel4Ideal.Value
public import proofs.«01_k».proof.Proof.Gen.Reference4Ideal.Read
public import proofs.«01_k».proof.Proof.Gen.Pre_finite_gates
public import proofs.«01_k».proof.Proof.Common
public import proofs.«01_k».proof.Proof.Win

@[expose] public section

set_option maxRecDepth 16384

noncomputable section

namespace Cert.Cum

open Idealize.ShloMosaic Idealize.ShloMosaic.TcCoe Idealize.SL.Sem Cert.Common
open Idealize.ShloMosaic.Pipeline (Dat RDat)
open Cert.Reference4Ideal.Read
open Cert.Kernel4Ideal Cert.Kernel4Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)
abbrev ar2 (c : Dev nD) := m ((c : Thread nD τ).loc main_arg2)

/-- The sum of a sequence from `n` up to the last row. -/
def suf (F : ℕ → EReal) (n : ℕ) : EReal := ∑ s ∈ Finset.Ico n 4096, F s

/-- A column of an array of 4096 rows as a sequence, zero past the end. -/
def col (x : Fin 4096 → EReal) (s : ℕ) : EReal := if h : s < 4096 then x ⟨s, h⟩ else 0

theorem col_val (x : Fin 4096 → EReal) (s : Fin 4096) : col x s.val = x s := dif_pos s.isLt

/-- The rows from `p` on of a block, and the rows after the block. -/
theorem suf_block (F : ℕ → EReal) (n : ℕ) (hn : n + 128 ≤ 4096) (p : Fin 128) :
    suf F (n + p.val) = (∑ q : Fin 128, if p.val ≤ q.val then F (n + q.val) else 0) + suf F (n + 128) := by
  have hp := p.isLt
  unfold suf
  rw [← Finset.sum_Ico_consecutive F (show n + p.val ≤ n + 128 by omega) hn]
  congr 1
  rw [Fin.sum_univ_eq_sum_range (fun q => if p.val ≤ q then F (n + q) else 0) 128, ← Finset.sum_filter]
  have h := Finset.sum_Ico_add' F p.val 128 n
  rw [Nat.add_comm p.val, Nat.add_comm 128] at h
  rw [← h]
  refine Finset.sum_congr ?_ fun q _ => by rw [Nat.add_comm]
  ext q
  simp only [Finset.mem_Ico, Finset.mem_filter, Finset.mem_range]
  omega

/-- A sum from `n` on, block by block. -/
theorem suf_whole (F : ℕ → EReal) (n : ℕ) (hn : n + 128 ≤ 4096) :
    suf F n = suf F (n + 128) + ∑ q : Fin 128, F (n + q.val) := by
  have h := suf_block F n hn ⟨0, by norm_num⟩
  simp only [Nat.zero_le, if_true, Nat.add_zero] at h
  rw [h, add_comm]

theorem suf_end (F : ℕ → EReal) : suf F 4096 = 0 := by simp [suf]

/-- The derivative of the log of a gate. -/
def dsig (z : EReal) : EReal := Ideal.div 1 (1 + Ideal.exp (0 - (0 - z)))

section
variable (v15 v34 v49 : Vec Ideal S128x128 .f32) (tl ac v36 : Vec Ideal S1x128 .f32)

theorem le_bit : ∀ a b : Fin 128, BitVec.setWidth 32 (IntOp.cmpi .sle (BitVec.ofNat 32 a.val) (BitVec.ofNat 32 b.val))
    = if a.val ≤ b.val then 1#32 else 0#32 := by decide +kernel

theorem tri_pay (j : S128x128.Idx) : k0_pay1 (F := Ideal) j = (if (j 0).val ≤ (j 1).val then 1 else 0 : EReal) := by
  idx_vars j
  unfold_payloads
  pointwise
  rw [le_bit j0 j1]
  by_cases h : j0.val ≤ j1.val
  · rw [if_pos h]; exact (show (((1#32 : BitVec 32).toInt : ℝ) : EReal) = 1 by norm_num).trans (if_pos h).symm
  · rw [if_neg h]; exact (show (((0#32 : BitVec 32).toInt : ℝ) : EReal) = 0 by norm_num).trans (if_neg h).symm

theorem acc_pay (j : S1x128.Idx) : k0_pay4 (F := Ideal) ac v49 j = ac j + ∑ p : Fin 128, (v49 (ix2 p (j 1)) : EReal) := by
  idx_vars j
  unfold_payloads
  pointwise

theorem split_term (w : EReal) (x : EReal) (hx : IsReal x) : w * (x - x) = 0 ∧ w * (x - x - (x - x)) = 0 := by
  obtain ⟨r, rfl⟩ := hx
  have e : ((r : EReal) - r) = 0 := by rw [← EReal.coe_sub, sub_self, EReal.coe_zero]
  rw [e]
  simp

theorem row_pay (h : ∀ i, IsReal (v15 i)) (j : S128x128.Idx) :
    k0_pay5 (F := Ideal) k0_pay1 tl v15 j
      = (∑ q : Fin 128, if (j 0).val ≤ q.val then (v15 (ix2 q (j 1)) : EReal) else 0) + tl (ix2 0 (j 1)) := by
  idx_vars j
  unfold k0_pay5
  generalize hw : k0_pay1 (F := Ideal) = w
  pointwise
  have e1 : ∀ q : Fin 128, (w (ix2 j0 q) * (v15 (ix2 q j1) - v15 (ix2 q j1)) : EReal) = 0 := fun q => (split_term _ _ (h _)).1
  have e2 : ∀ q : Fin 128, (w (ix2 j0 q) * (v15 (ix2 q j1) - v15 (ix2 q j1) - (v15 (ix2 q j1) - v15 (ix2 q j1))) : EReal) = 0 := fun q => (split_term _ _ (h _)).2
  simp only [e1, e2, Finset.sum_const_zero, add_zero, zero_add]
  congr 1
  refine Finset.sum_congr rfl fun q _ => ?_
  rw [← hw, tri_pay]
  show (if j0.val ≤ q.val then (1 : EReal) else 0) * _ = _
  by_cases h : j0.val ≤ q.val
  · rw [if_pos h]; exact (one_mul _).trans (if_pos h).symm
  · rw [if_neg h]; exact (zero_mul _).trans (if_neg h).symm

theorem out_pay (j : S128x128.Idx) :
    k0_pay6 (F := Ideal) k0_pay1 tl v15 v34 v36 j
      = k0_pay5 (F := Ideal) k0_pay1 tl v15 j * dsig (v34 j + v36 (ix2 0 (j 1))) := by
  idx_vars j
  unfold k0_pay6
  generalize k0_pay5 (F := Ideal) k0_pay1 tl v15 = y
  pointwise [dsig]

theorem tail_pay (j : S1x128.Idx) :
    k0_pay7 (F := Ideal) k0_pay1 tl v15 j = k0_pay5 (F := Ideal) k0_pay1 tl v15 (ix2 0 (j 1)) := by
  idx_vars j
  unfold k0_pay7
  generalize k0_pay5 (F := Ideal) k0_pay1 tl v15 = y
  pointwise

end

/-- The rows that trip `k` reads. -/
abbrev rect (k : Fin k0_t1_loop.trips) := Rect.unit (s := S4096x128) (k0_off1 k) S128x128.size (k0_off1_inb k)
abbrev rowsAt (x : Vec Ideal S4096x128 .f32) (k : Fin k0_t1_loop.trips) : Vec Ideal S128x128 .f32 := View.ld x (rect k)

section
variable (c : Dev nD) (a0 : Memref sig .tc .vmem S4096x128 .f32) (h0 : a0.IsWhole) (a1 : Memref sig .tc .vmem S4096x128 .f32) (h1 : a1.IsWhole) (a2 : Memref sig .tc .vmem S1x128 .f32) (h2 : a2.IsWhole) (a3 : Memref sig .tc .vmem S4096x128 .f32) (h3 : a3.IsWhole) (a4 : Memref sig .tc .vmem S1x128 .f32) (h4 : a4.IsWhole) (x0 x1 : Vec Ideal S4096x128 .f32) (x2 : Vec Ideal S1x128 .f32)

abbrev zeros : FVec Ideal S1x128 .f32 × FVec Ideal S1x128 .f32 := (k0_pay2, k0_pay3)
abbrev st (k : ℕ) := st_k0_t1 (F := Ideal) Variants.none c none a0 h0 a1 h1 a2 h2 a3 h3 a4 h4 (h0.unread x0) (h1.unread x1) (h2.unread x2) zeros k

theorem tripR_eq (k : Fin k0_t1_loop.trips) (acc : FVec Ideal S1x128 .f32 × FVec Ideal S1x128 .f32) :
    tripR_k0_t1 (F := Ideal) Variants.none c none a0 h0 a1 h1 a2 h2 a3 h3 a4 h4 (h0.unread x0) (h1.unread x1) (h2.unread x2) k acc
      = (k0_pay7 k0_pay1 acc.1 (rowsAt x0 k), k0_pay4 acc.2 (k0_pay6 k0_pay1 acc.1 (rowsAt x0 k) (rowsAt x1 k) x2)) := by
  unfold tripR_k0_t1 trip_k0_t1
  dsimp only
  sl_unfold_words
  simp only [View.readAt_eq_ld, h0.read_unread, h1.read_unread, h2.read_unread, View.ld_unit_zero (S := S1x128) hz2]
  rfl

theorem tripL_eq (k : Fin k0_t1_loop.trips) (acc : FVec Ideal S1x128 .f32 × FVec Ideal S1x128 .f32) :
    tripL_k0_t1 (F := Ideal) Variants.none c none a0 h0 a1 h1 a2 h2 a3 h3 a4 h4 (h0.unread x0) (h1.unread x1) (h2.unread x2) k acc
      = [⟨rect k, k0_pay6 k0_pay1 acc.1 (rowsAt x0 k) (rowsAt x1 k) x2⟩] := by
  unfold tripL_k0_t1 trip_k0_t1
  dsimp only
  sl_unfold_words
  simp only [View.readAt_eq_ld, h0.read_unread, h1.read_unread, h2.read_unread, View.ld_unit_zero (S := S1x128) hz2]
  rfl

theorem out_3 : out0_A_3 (F := Ideal) c a0 h0 a1 h1 a2 h2 a3 h3 a4 h4 x0 x1 x2 = View.canon (st c a0 h0 a1 h1 a2 h2 a3 h3 a4 h4 x0 x1 x2 32).2 := by
  unfold out0_A_3
  rw [View.read_writes_eq_canon _ _ _ (cover0_A_3 c a0 h0 a1 h1 a2 h2 a3 h3 a4 h4 x0 x1 x2)]
  unfold kernelRun0_A
  dsimp only
  rfl

theorem out_4 : out0_A_4 (F := Ideal) c a0 h0 a1 h1 a2 h2 a3 h3 a4 h4 x0 x1 x2 = (st c a0 h0 a1 h1 a2 h2 a3 h3 a4 h4 x0 x1 x2 32).1.2 := by
  unfold out0_A_4
  rw [View.read_writes_eq_canon _ _ _ (cover0_A_4 c a0 h0 a1 h1 a2 h2 a3 h3 a4 h4 x0 x1 x2)]
  unfold kernelRun0_A
  dsimp only
  sl_unfold_words
  rw [View.canon_unit_zero hz2]
  rfl

end

/-- What the backward scan leaves at a row and a column. -/
def dzAt (x0 x1 : Vec Ideal S4096x128 .f32) (x2 : Vec Ideal S1x128 .f32) : Vec Ideal S4096x128 .f32 := fun j =>
  suf (col fun r => x0 (ix2 r (j 1))) (j 0).val * dsig (x1 j + x2 (ix2 0 (j 1)))

/-- The row of the array that row `p` of trip `k` is. -/
def rowOf (k : Fin k0_t1_loop.trips) (p : Fin 128) : Fin 4096 :=
  ⟨3968 - 128 * k.val + p.val, by have := k.isLt; have := p.isLt; omega⟩

theorem rowsAt_val (x : Vec Ideal S4096x128 .f32) (k : Fin k0_t1_loop.trips) (p : Fin 128) (l : Fin 128) :
    rowsAt x k (ix2 p l) = x (ix2 (rowOf k p) l) := by
  refine View.ld_unit_apply_of _ _ _ _ _ _ fun a => Eq.trans ?_ (congrArg (· + _) (congrFun (k0_off1_eq k) a).symm)
  match a with
  | ⟨0, _⟩ => rfl
  | ⟨1, _⟩ => show l.val = 0 + l.val; omega

theorem emb_rect (k : Fin k0_t1_loop.trips) (j : S128x128.Idx) : (rect k).emb j = ix2 (rowOf k (j 0)) (j 1) := by
  funext a
  apply Fin.ext
  show ((rect k).idx j a).val = _
  refine (Rect.idx_unit_val (s := S4096x128) (k0_off1 k) S128x128.size (k0_off1_inb k) j a).trans ((congrArg (· + (j a).val) (congrFun (k0_off1_eq k) a)).trans ?_)
  match a with
  | ⟨0, _⟩ => rfl
  | ⟨1, _⟩ => show 0 + (j 1).val = (j 1).val; omega

section
variable (x0 x1 : Vec Ideal S4096x128 .f32) (x2 : Vec Ideal S1x128 .f32) (hd : ∀ i, IsReal (x0 i)) (k : Fin k0_t1_loop.trips) (tl ac : Vec Ideal S1x128 .f32)
  (ht : ∀ l : Fin 128, tl (ix2 0 l) = suf (col fun r => x0 (ix2 r l)) (4096 - 128 * k.val))
include hd ht

theorem row_step (p l : Fin 128) :
    k0_pay5 (F := Ideal) k0_pay1 tl (rowsAt x0 k) (ix2 p l) = suf (col fun r => x0 (ix2 r l)) (rowOf k p).val := by
  have hk : k.val < 32 := k.isLt
  have hn : 4096 - 128 * k.val = 3968 - 128 * k.val + 128 := by omega
  refine (row_pay _ _ (fun i => hd _) _).trans ?_
  show _ = suf _ (3968 - 128 * k.val + p.val)
  rw [suf_block _ _ (by omega), ← hn]
  refine congrArg₂ (· + ·) (Finset.sum_congr rfl fun q _ => ?_) (ht l)
  refine if_congr Iff.rfl ?_ rfl
  exact (rowsAt_val x0 k q l).trans (col_val (fun r => x0 (ix2 r l)) (rowOf k q)).symm

theorem out_step (j : S128x128.Idx) :
    k0_pay6 (F := Ideal) k0_pay1 tl (rowsAt x0 k) (rowsAt x1 k) x2 j = dzAt x0 x1 x2 ((rect k).emb j) := by
  rw [emb_rect]
  refine (out_pay _ _ _ _ _).trans (congrArg₂ (· * ·) ?_ ?_)
  · idx_vars j
    exact row_step x0 hd k tl ht j0 j1
  · idx_vars j
    exact congrArg (fun u : EReal => dsig (u + x2 (ix2 0 j1))) (rowsAt_val x1 k j0 j1)

theorem tail_step (l : Fin 128) :
    k0_pay7 (F := Ideal) k0_pay1 tl (rowsAt x0 k) (ix2 0 l) = suf (col fun r => x0 (ix2 r l)) (4096 - 128 * (k.val + 1)) := by
  have hk : k.val < 32 := k.isLt
  refine (tail_pay _ _ _).trans ((row_step x0 hd k tl ht 0 l).trans ?_)
  refine congrArg (suf _) ?_
  show 3968 - 128 * k.val + 0 = _
  omega

theorem acc_step (ha : ∀ l : Fin 128, ac (ix2 0 l) = suf (col fun r => dzAt x0 x1 x2 (ix2 r l)) (4096 - 128 * k.val)) (l : Fin 128) :
    k0_pay4 (F := Ideal) ac (k0_pay6 k0_pay1 tl (rowsAt x0 k) (rowsAt x1 k) x2) (ix2 0 l)
      = suf (col fun r => dzAt x0 x1 x2 (ix2 r l)) (4096 - 128 * (k.val + 1)) := by
  have hk : k.val < 32 := k.isLt
  have hn : 4096 - 128 * k.val = 3968 - 128 * k.val + 128 := by omega
  rw [show 4096 - 128 * (k.val + 1) = 3968 - 128 * k.val by omega, suf_whole _ _ (by omega), ← hn]
  refine (acc_pay _ _ _).trans (congrArg₂ (· + ·) (ha l) (Finset.sum_congr rfl fun p _ => ?_))
  refine (out_step x0 x1 x2 hd k tl ht (ix2 p l)).trans ?_
  rw [emb_rect]
  exact (col_val (fun r => dzAt x0 x1 x2 (ix2 r l)) (rowOf k p)).symm

end

section
variable (c : Dev nD) (a0 : Memref sig .tc .vmem S4096x128 .f32) (h0 : a0.IsWhole) (a1 : Memref sig .tc .vmem S4096x128 .f32) (h1 : a1.IsWhole) (a2 : Memref sig .tc .vmem S1x128 .f32) (h2 : a2.IsWhole) (a3 : Memref sig .tc .vmem S4096x128 .f32) (h3 : a3.IsWhole) (a4 : Memref sig .tc .vmem S1x128 .f32) (h4 : a4.IsWhole) (x0 x1 : Vec Ideal S4096x128 .f32) (x2 : Vec Ideal S1x128 .f32)

theorem inv (hd : ∀ i, IsReal (x0 i)) (k : ℕ) (hk : k ≤ 32) :
    (∀ l : Fin 128, (st c a0 h0 a1 h1 a2 h2 a3 h3 a4 h4 x0 x1 x2 k).1.1 (ix2 0 l) = suf (col fun r => x0 (ix2 r l)) (4096 - 128 * k))
    ∧ (∀ l : Fin 128, (st c a0 h0 a1 h1 a2 h2 a3 h3 a4 h4 x0 x1 x2 k).1.2 (ix2 0 l) = suf (col fun r => dzAt x0 x1 x2 (ix2 r l)) (4096 - 128 * k))
    ∧ ∀ p ∈ (st c a0 h0 a1 h1 a2 h2 a3 h3 a4 h4 x0 x1 x2 k).2, ∀ x : p.1.shape.Idx, p.2 x = dzAt x0 x1 x2 (p.1.emb x) := by
  induction k with
  | zero =>
    refine ⟨fun l => ?_, fun l => ?_, fun p hp => by cases hp⟩
    · rw [Nat.mul_zero, Nat.sub_zero, suf_end]; show k0_pay2 (F := Ideal) (ix2 0 l) = _; unfold_payloads; pointwise
    · rw [Nat.mul_zero, Nat.sub_zero, suf_end]; show k0_pay3 (F := Ideal) (ix2 0 l) = _; unfold_payloads; pointwise
  | succ k ih =>
    obtain ⟨i1, i2, i3⟩ := ih (by omega)
    have hs := st_k0_t1_succ (F := Ideal) Variants.none c none a0 h0 a1 h1 a2 h2 a3 h3 a4 h4 (h0.unread x0) (h1.unread x1) (h2.unread x2) zeros ⟨k, show k < 32 by omega⟩
    rw [tripR_eq, tripL_eq] at hs
    change st c a0 h0 a1 h1 a2 h2 a3 h3 a4 h4 x0 x1 x2 (k + 1) = _ at hs
    rw [hs]
    refine ⟨fun l => tail_step x0 hd ⟨k, show k < 32 by omega⟩ _ i1 l, fun l => acc_step x0 x1 x2 hd ⟨k, show k < 32 by omega⟩ _ _ i1 i2 l, fun p hp => ?_⟩
    rcases List.mem_cons.1 hp with rfl | hp
    · exact fun x => out_step x0 x1 x2 hd ⟨k, show k < 32 by omega⟩ _ i1 x
    · exact i3 p hp

theorem out3_eq (hd : ∀ i, IsReal (x0 i)) : out0_A_3 (F := Ideal) c a0 h0 a1 h1 a2 h2 a3 h3 a4 h4 x0 x1 x2 = dzAt x0 x1 x2 := by
  rw [out_3]
  funext j
  refine View.canon_apply_of_pieces (Val := Elt Ideal) (e := .f32) (dzAt x0 x1 x2) _ (inv c a0 h0 a1 h1 a2 h2 a3 h3 a4 h4 x0 x1 x2 hd 32 le_rfl).2.2 j ?_
  exact cover0_A_3 c a0 h0 a1 h1 a2 h2 a3 h3 a4 h4 x0 x1 x2 j

theorem out4_eq (hd : ∀ i, IsReal (x0 i)) (j : S1x128.Idx) :
    out0_A_4 (F := Ideal) c a0 h0 a1 h1 a2 h2 a3 h3 a4 h4 x0 x1 x2 j = suf (col fun r => dzAt x0 x1 x2 (ix2 r (j 1))) 0 := by
  rw [out_4]
  idx_vars j
  obtain rfl := Subsingleton.elim j0 0
  exact (inv c a0 h0 a1 h1 a2 h2 a3 h3 a4 h4 x0 x1 x2 hd 32 le_rfl).2.1 j1

end

theorem zero_pad (φ : FTy) : FloatOps.sitofp (F := Ideal) φ 0#32 = (0 : EReal) := by
  show (((0#32).toInt : ℝ) : EReal) = 0
  simp

/-- A column of lanes, zero past the eighth. -/
def padB (x : Vec Ideal S4096x8 .f32) : Vec Ideal S4096x128 .f32 := fun i =>
  if h : (i 1).val < 8 then x (ix2 (i 0) ⟨(i 1).val, h⟩) else (0 : EReal)
def padR (x : Vec Ideal S1x8 .f32) : Vec Ideal S1x128 .f32 := fun i =>
  if h : (i 1).val < 8 then x (ix2 0 ⟨(i 1).val, h⟩) else (0 : EReal)

section
theorem V_v0 (c : Dev nD) : V m c main_v0 = padB (ar2 m c) := by
  funext i
  change S4096x128.Idx at i
  idx_vars i
  unfold V
  after_reads_at
  rw [zero_pad]
  rfl

theorem V_v1 (c : Dev nD) : V m c main_v1 = padB (ar0 m c) := by
  funext i
  change S4096x128.Idx at i
  idx_vars i
  unfold V
  after_reads_at
  rw [zero_pad]
  rfl

theorem V_v2 (c : Dev nD) : V m c main_v2 = padR (ar1 m c) := by
  funext i
  change S1x128.Idx at i
  idx_vars i
  unfold V
  after_reads_at
  rw [zero_pad]
  rfl

theorem idx_facts : ∀ t : Fin cfg0.N, win0_0.index t 0 = 0 ∧ win0_0.index t 1 = 0 ∧ win0_1.index t 0 = 0 ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ t.val < 1 :=
  (by decide +kernel : ∀ t : Fin grid0.N, _)

theorem iblk0_at (c : Dev nD) (t : Fin cfg0.N) (y : S4096x128.Idx) (i : S4096x128.Idx)
    (h0 : (i 0).val = (y 0).val) (h1 : (i 1).val = (y 1).val) :
    iblk m c 0 t y = V m c main_v0 i :=
  congrArg (V m c main_v0) (emb_of win0_0 t y i (fall2 (toBlk0 h0 (idx_facts t).1) (toBlk0 h1 (idx_facts t).2.1)))

theorem blk0 (c : Dev nD) (t : Fin cfg0.N) : iblk m c 0 t = padB (ar2 m c) := by
  funext y
  change S4096x128.Idx at y
  exact (iblk0_at m c t y y rfl rfl).trans (congrFun (V_v0 m c) y)

theorem iblk1_at (c : Dev nD) (t : Fin cfg0.N) (y : S4096x128.Idx) (i : S4096x128.Idx)
    (h0 : (i 0).val = (y 0).val) (h1 : (i 1).val = (y 1).val) :
    iblk m c 1 t y = V m c main_v1 i :=
  congrArg (V m c main_v1) (emb_of win0_1 t y i (fall2 (toBlk0 h0 (idx_facts t).2.2.1) (toBlk0 h1 (idx_facts t).2.2.2.1)))

theorem blk1 (c : Dev nD) (t : Fin cfg0.N) : iblk m c 1 t = padB (ar0 m c) := by
  funext y
  change S4096x128.Idx at y
  exact (iblk1_at m c t y y rfl rfl).trans (congrFun (V_v1 m c) y)

theorem iblk2_at (c : Dev nD) (t : Fin cfg0.N) (y : S1x128.Idx) (i : S1x128.Idx)
    (h0 : (i 0).val = (y 0).val) (h1 : (i 1).val = (y 1).val) :
    iblk m c 2 t y = V m c main_v2 i :=
  congrArg (V m c main_v2) (emb_of win0_2 t y i (fall2 (toBlk0 h0 (idx_facts t).2.2.2.2.1) (toBlk0 h1 (idx_facts t).2.2.2.2.2.1)))

theorem blk2 (c : Dev nD) (t : Fin cfg0.N) : iblk m c 2 t = padR (ar1 m c) := by
  funext y
  change S1x128.Idx at y
  exact (iblk2_at m c t y y rfl rfl).trans (congrFun (V_v2 m c) y)

/-- The gradients of the gates' columns and of their bias, zero past the eighth lane. -/
def gz (z : Vec Ideal S4096x8 .f32) (b : Vec Ideal S1x8 .f32) (d : Vec Ideal S4096x8 .f32) : Vec Ideal S4096x128 .f32 :=
  dzAt (padB d) (padB z) (padR b)
def gb (z : Vec Ideal S4096x8 .f32) (b : Vec Ideal S1x8 .f32) (d : Vec Ideal S4096x8 .f32) : Vec Ideal S1x128 .f32 := fun j =>
  suf (col fun r => gz z b d (ix2 r (j 1))) 0

theorem pad_real {x : Vec Ideal S4096x8 .f32} (h : ∀ i, IsReal (x i)) (i : S4096x128.Idx) : IsReal (padB x i) := by
  unfold padB
  split_ifs
  · exact h _
  · exact IsReal.coe 0

theorem outs (c : Dev nD) (t : Fin cfg0.N) (h : ∀ i, IsReal ((ar2 m c : Vec Ideal S4096x8 .f32) i)) :
    (outsAt0 m c t).1 = gz (ar0 m c) (ar1 m c) (ar2 m c)
    ∧ (outsAt0 m c t).2 = gb (ar0 m c) (ar1 m c) (ar2 m c) := by
  unfold outsAt0
  rw [blk0, blk1, blk2]
  refine ⟨out3_eq _ _ _ _ _ _ _ _ _ _ _ _ _ _ (pad_real h), ?_⟩
  funext j
  exact out4_eq _ _ _ _ _ _ _ _ _ _ _ _ _ _ (pad_real h) j

theorem cover3 (i : S4096x128.Idx) :
    ∃ t : Fin cfg0.N, (cfg0.win 3).flush t = true ∧ i ∈ ((cfg0.win 3).blk t).view.set := by
  have h0 : (i 0).val < 4096 := (i 0).isLt
  have h1 : (i 1).val < 128 := (i 1).isLt
  have hN : cfg0.N = 1 := N_0
  obtain ⟨t, ht⟩ : ∃ t : Fin cfg0.N, t.val = 0 := ⟨⟨_, by omega⟩, rfl⟩
  exact ⟨t, by revert t; decide +kernel, in_blk (b := main_v3_0) (fall2 (inBlk (i := (i 0).val) (n := 4096) (idx_facts t).2.2.2.2.2.2.1 (by omega)) (inBlk (i := (i 1).val) (n := 128) (idx_facts t).2.2.2.2.2.2.2.1 (by omega)))⟩

theorem emb3 (t : Fin cfg0.N) (y : S4096x128.Idx) (i : S4096x128.Idx) (h : ((cfg0.win 3).blk t).view.emb y = i) :
    (i 0).val = (y 0).val ∧ (i 1).val = (y 1).val :=
  ⟨ofBlk0 (emb_at win0_3 t y i h 0) (idx_facts t).2.2.2.2.2.2.1, ofBlk0 (emb_at win0_3 t y i h 1) (idx_facts t).2.2.2.2.2.2.2.1⟩

theorem final3 (c : Dev nD) (h : ∀ i, IsReal ((ar2 m c : Vec Ideal S4096x8 .f32) i)) :
    (dats m 0 c).arrAt 3 cfg0.N = gz (ar0 m c) (ar1 m c) (ar2 m c) := by
  funext i
  refine (dats m 0 c).arrAt_forall_of_cover 3 (fun i v => v = gz (ar0 m c) (ar1 m c) (ar2 m c) i) (fun t ht y => ?_) cover3 i
  generalize hi : ((cfg0.win 3).blk t).view.emb y = i'
  obtain ⟨k0, k1⟩ := emb3 t y i' hi
  obtain rfl : i' = y := funext fun a => Fin.ext (match a with | ⟨0, _⟩ => k0 | ⟨1, _⟩ => k1)
  have hf : (dats m 0 c).flushed 3 t i' = (outsAt0 m c t).1 i' := by
    rw [Cert.Kernel4Ideal.Value.flushed3]
  exact hf.trans (congrFun (outs m c t h).1 i')

theorem cover4 (i : S1x128.Idx) :
    ∃ t : Fin cfg0.N, (cfg0.win 4).flush t = true ∧ i ∈ ((cfg0.win 4).blk t).view.set := by
  have h0 : (i 0).val < 1 := (i 0).isLt
  have h1 : (i 1).val < 128 := (i 1).isLt
  have hN : cfg0.N = 1 := N_0
  obtain ⟨t, ht⟩ : ∃ t : Fin cfg0.N, t.val = 0 := ⟨⟨_, by omega⟩, rfl⟩
  exact ⟨t, by revert t; decide +kernel, in_blk (b := main_v3_1) (fall2 (inBlk (i := (i 0).val) (n := 1) (idx_facts t).2.2.2.2.2.2.2.2.1 (by omega)) (inBlk (i := (i 1).val) (n := 128) (idx_facts t).2.2.2.2.2.2.2.2.2.1 (by omega)))⟩

theorem emb4 (t : Fin cfg0.N) (y : S1x128.Idx) (i : S1x128.Idx) (h : ((cfg0.win 4).blk t).view.emb y = i) :
    (i 0).val = (y 0).val ∧ (i 1).val = (y 1).val :=
  ⟨ofBlk0 (emb_at win0_4 t y i h 0) (idx_facts t).2.2.2.2.2.2.2.2.1, ofBlk0 (emb_at win0_4 t y i h 1) (idx_facts t).2.2.2.2.2.2.2.2.2.1⟩

theorem final4 (c : Dev nD) (h : ∀ i, IsReal ((ar2 m c : Vec Ideal S4096x8 .f32) i)) :
    (dats m 0 c).arrAt 4 cfg0.N = gb (ar0 m c) (ar1 m c) (ar2 m c) := by
  funext i
  refine (dats m 0 c).arrAt_forall_of_cover 4 (fun i v => v = gb (ar0 m c) (ar1 m c) (ar2 m c) i) (fun t ht y => ?_) cover4 i
  generalize hi : ((cfg0.win 4).blk t).view.emb y = i'
  obtain ⟨k0, k1⟩ := emb4 t y i' hi
  obtain rfl : i' = y := funext fun a => Fin.ext (match a with | ⟨0, _⟩ => k0 | ⟨1, _⟩ => k1)
  have hf : (dats m 0 c).flushed 4 t i' = (outsAt0 m c t).2 i' := by
    rw [Cert.Kernel4Ideal.Value.flushed4]
  exact hf.trans (congrFun (outs m c t h).2 i')

theorem run (h : ∀ (c : Dev nD) i, IsReal ((ar2 m c : Vec Ideal S4096x8 .f32) i)) :
    θ_run (Cert.Kernel4Ideal.defs (F := Ideal)) (onTc (τ := τ) (Cert.Kernel4Ideal.main (F := Ideal))) ⟨m, fun _ => 0, ρ⟩ fun r => ∀ c : Dev nD,
      r.2.mem ((c : Thread nD τ).loc main_v3_0) = gz (ar0 m c) (ar1 m c) (ar2 m c)
      ∧ r.2.mem ((c : Thread nD τ).loc main_v3_1) = gb (ar0 m c) (ar1 m c) (ar2 m c)
      ∧ r.2.mem ((c : Thread nD τ).loc main_arg0) = ar0 m c
      ∧ r.2.mem ((c : Thread nD τ).loc main_arg1) = ar1 m c
      ∧ r.2.mem ((c : Thread nD τ).loc main_arg2) = ar2 m c :=
  (θ_run _ _ _).mono (fun _ e c => ⟨(e c).1.trans (final3 m c (h c)), (e c).2.1.trans (final4 m c (h c)), (e c).2.2⟩)
    (Cert.Kernel4Ideal.Value.run_blocks (F := Ideal) m ρ)

end

/-- The sum over a window of all rows, from `lo` rows before the row on. -/
theorem window_any (N M lo K : ℕ) (x : (⟨2, ![N, M]⟩ : Shape).Idx → EReal) (j : (⟨2, ![N, M]⟩ : Shape).Idx)
    (h : (⟨2, ![N, M]⟩ : Shape).ReduceWindows ![N, 1] ![1, 1] ![lo, 0] ![K, 0] ⟨2, ![N, M]⟩) :
    Ideal.hostReduceWindowAdd (s := ⟨2, ![N, M]⟩) ![N, 1] ![1, 1] ![lo, 0] ![K, 0] h x 0 j
      = ∑ p : Fin N, if hs : lo ≤ (j 0).val + p.val ∧ (j 0).val + p.val - lo < N then x (ix2 ⟨(j 0).val + p.val - lo, hs.2⟩ (j 1)) else 0 := by
  have hj1 : (j 1).val < M := (j 1).isLt
  unfold Ideal.hostReduceWindowAdd Host.reduceWindow
  dsimp only
  have key : ∀ (n : ℕ) (g : Fin n → EReal), (List.finRange n).foldl (fun r k => r + g k) 0 = ∑ k, g k := fun n g => by
    rw [← List.sum_ofFn, List.ofFn_eq_map, List.sum_eq_foldl, List.foldl_map]
  refine (key _ _).trans ?_
  let W : Shape := ⟨2, ![N, 1]⟩
  let P : W.Idx → Fin 2 → ℕ := fun q a => (j a).val * (![1, 1] : Fin 2 → ℕ) a + (q a).val
  let G : W.Idx → EReal := fun q =>
    if hin : ∀ a, (![lo, 0] : Fin 2 → ℕ) a ≤ P q a ∧ P q a - (![lo, 0] : Fin 2 → ℕ) a < (⟨2, ![N, M]⟩ : Shape).size a then x (fun a => ⟨P q a - (![lo, 0] : Fin 2 → ℕ) a, (hin a).2⟩) else 0
  refine (Finset.sum_congr rfl fun k _ => ?_).trans (Equiv.sum_comp W.rowMajor.symm G) |>.trans ?_
  · by_cases hin : ∀ a, (![lo, 0] : Fin 2 → ℕ) a ≤ P (W.rowMajor.symm k) a ∧ P (W.rowMajor.symm k) a - (![lo, 0] : Fin 2 → ℕ) a < (⟨2, ![N, M]⟩ : Shape).size a
    · refine (dif_pos hin).trans ?_
      symm
      exact dif_pos hin
    · refine (dif_neg hin).trans ?_
      symm
      exact dif_neg hin
  refine (ValueIdx.sum_idx2 G).trans (Finset.sum_congr rfl fun p _ => ?_)
  rw [Fin.sum_univ_one]
  have e0 : P (ix2 p 0) 0 = (j 0).val + p.val := by show (j 0).val * 1 + p.val = _; omega
  have e1 : P (ix2 p 0) 1 = (j 1).val := by show (j 1).val * 1 + 0 = _; omega
  by_cases hs : lo ≤ (j 0).val + p.val ∧ (j 0).val + p.val - lo < N
  · rw [dif_pos hs]
    have hin : ∀ a, (![lo, 0] : Fin 2 → ℕ) a ≤ P (ix2 p 0) a ∧ P (ix2 p 0) a - (![lo, 0] : Fin 2 → ℕ) a < (⟨2, ![N, M]⟩ : Shape).size a := fun a =>
      match a with
      | ⟨0, _⟩ => ⟨by show lo ≤ P (ix2 p 0) 0; omega, by show P (ix2 p 0) 0 - lo < N; omega⟩
      | ⟨1, _⟩ => ⟨Nat.zero_le _, by show P (ix2 p 0) 1 - 0 < M; omega⟩
    refine (dif_pos hin).trans (congrArg x (funext fun a => Fin.ext ?_))
    match a with
    | ⟨0, _⟩ => show P (ix2 p 0) 0 - lo = (j 0).val + p.val - lo; omega
    | ⟨1, _⟩ => show P (ix2 p 0) 1 - 0 = (j 1).val; omega
  · rw [dif_neg hs]
    refine dif_neg fun hin => hs ?_
    have h1 := (hin 0).1
    have h2 := (hin 0).2
    change lo ≤ P (ix2 p 0) 0 at h1
    change P (ix2 p 0) 0 - lo < N at h2
    omega

/-- The sum over a window that starts at the row and runs past the end. -/
theorem window_gen (N M K : ℕ) (x : (⟨2, ![N, M]⟩ : Shape).Idx → EReal) (j : (⟨2, ![N, M]⟩ : Shape).Idx)
    (h : (⟨2, ![N, M]⟩ : Shape).ReduceWindows ![N, 1] ![1, 1] ![0, 0] ![K, 0] ⟨2, ![N, M]⟩) :
    Ideal.hostReduceWindowAdd (s := ⟨2, ![N, M]⟩) ![N, 1] ![1, 1] ![0, 0] ![K, 0] h x 0 j
      = ∑ p : Fin N, if hs : (j 0).val + p.val < N then x (ix2 ⟨(j 0).val + p.val, hs⟩ (j 1)) else 0 :=
  (window_any N M 0 K x j h).trans (Finset.sum_congr rfl fun p _ => by simp only [Nat.zero_le, true_and, Nat.sub_zero])

theorem suf_window (F : Fin 4096 → EReal) (n : ℕ) (hn : n < 4096) :
    (∑ p : Fin 4096, if hs : n + p.val < 4096 then F ⟨n + p.val, hs⟩ else 0) = suf (col F) n := by
  show (∑ p : Fin 4096, col F (n + p.val)) = _
  rw [Fin.sum_univ_eq_sum_range (fun p => col F (n + p)) 4096]
  unfold suf
  rw [Finset.sum_Ico_eq_sum_range, ← Finset.sum_range_add_sum_Ico _ (show 4096 - n ≤ 4096 by omega)]
  refine (congrArg _ (Finset.sum_eq_zero fun p hp => ?_)).trans (add_zero _)
  rw [Finset.mem_Ico] at hp
  exact dif_neg (by omega)

theorem ref_v4 (x : FVec Ideal S4096x8 .f32) (j : S4096x8.Idx) :
    val_main_v4 (F := Ideal) x j = suf (col fun r => x (ix2 r (j 1))) (j 0).val := by
  unfold val_main_v4
  unfold Host.reduceWindowAdd
  have hz : ∀ i, val_main_call2_call0_v0 (F := Ideal) i = (0 : EReal) := fun i => by
    unfold val_main_call2_call0_v0 val_main_call2_call0_cst
    pointwise
  rw [Ideal.hostReduceWindowAdd_def, hz]
  exact (window_gen 4096 8 4095 x j _).trans (suf_window (fun r => x (ix2 r (j 1))) (j 0).val (j 0).isLt)

/-- The derivative of the log of a gate as the plain gradient states it. -/
theorem dsig_real (z : EReal) (hz : IsReal z) :
    dsig z = Ideal.exp (-z - (max (-z) 0 + Ideal.log1p (Ideal.exp (-(max (-z) (-(-z))))))) := by
  obtain ⟨r, rfl⟩ := hz
  have e1 : (0 - (0 - (r : EReal))) = r := by rw [← EReal.coe_zero, ← EReal.coe_sub, ← EReal.coe_sub]; simp
  have hp : 0 < 1 + Real.exp r := by positivity
  have l : ∀ s : ℝ, Ideal.log1p (Ideal.exp (s : EReal)) = ((Real.log (1 + Real.exp s) : ℝ) : EReal) := fun s => by
    have : 0 < 1 + Real.exp s := by positivity
    unfold Ideal.log1p
    rw [Ideal.exp_coe, ← EReal.coe_one, ← EReal.coe_add, Ideal.log_coe, if_neg (not_le.2 this)]
  have one_div_coe : ((1 : ℝ) : EReal) * ((1 / (1 + Real.exp r) : ℝ) : EReal) = ((1 / (1 + Real.exp r) : ℝ) : EReal) := by
    rw [← EReal.coe_mul, one_mul]
  unfold dsig
  rw [e1, Ideal.exp_coe, ← EReal.coe_one, ← EReal.coe_add, Ideal.div_coe hp.ne', neg_neg, ← EReal.coe_neg]
  rcases le_total r 0 with h | h
  · have h' : (r : EReal) ≤ ((-r : ℝ) : EReal) := EReal.coe_le_coe_iff.2 (by linarith)
    have h0 : (0 : EReal) ≤ ((-r : ℝ) : EReal) := EReal.coe_nonneg.2 (by linarith)
    rw [max_eq_left h', max_eq_left h0, ← EReal.coe_neg, neg_neg, l, ← EReal.coe_add, ← EReal.coe_sub, Ideal.exp_coe]
    rw [one_div_coe]
    congr 1
    rw [show -r - (-r + Real.log (1 + Real.exp r)) = -Real.log (1 + Real.exp r) by ring, Real.exp_neg, Real.exp_log hp, one_div]
  · have h' : ((-r : ℝ) : EReal) ≤ (r : EReal) := EReal.coe_le_coe_iff.2 (by linarith)
    have h0 : ((-r : ℝ) : EReal) ≤ (0 : EReal) := EReal.coe_nonpos.2 (by linarith)
    have hq : 0 < 1 + Real.exp (-r) := by positivity
    rw [max_eq_right h', max_eq_right h0, ← EReal.coe_neg, l, zero_add, ← EReal.coe_sub, Ideal.exp_coe]
    rw [one_div_coe]
    congr 1
    rw [Real.exp_sub, Real.exp_log hq, Real.exp_neg]
    have := Real.exp_pos r
    field_simp
    try ring

theorem soft_real (z : EReal) (hz : IsReal z) : IsReal (max (-z) 0 + Ideal.log1p (Ideal.exp (-(max (-z) (-(-z)))))) := by
  obtain ⟨r, rfl⟩ := hz
  refine IsReal.add ?_ ?_
  · rcases le_total (-(r : EReal)) 0 with h | h
    · rw [max_eq_right h]; exact IsReal.coe 0
    · rw [max_eq_left h, ← EReal.coe_neg]; exact IsReal.coe _
  · have l : ∀ s : ℝ, IsReal (Ideal.log1p (Ideal.exp (s : EReal))) := fun s => by
      have : 0 < 1 + Real.exp s := by positivity
      unfold Ideal.log1p
      rw [Ideal.exp_coe, ← EReal.coe_one, ← EReal.coe_add, Ideal.log_coe, if_neg (not_le.2 this)]
      exact IsReal.coe _
    rw [neg_neg]
    rcases le_total (-(r : EReal)) r with h | h
    · rw [max_eq_right h, ← EReal.coe_neg]; exact l _
    · rw [max_eq_left h, neg_neg]; exact l _

theorem IsReal.ne_top' {x : EReal} (h : IsReal x) : x ≠ ⊤ := by
  obtain ⟨r, rfl⟩ := h
  exact EReal.coe_ne_top r

/-- The plain gradient's guards against infinities change nothing. -/
theorem guards (z : EReal) (u : EReal) (hu : u = max (-z) 0 + Ideal.log1p (Ideal.exp (-(max (-z) (-(-z)))))) :
    Ideal.exp ((if -z = ⊤ then 0 else -z) - (if u = ⊤ then 0 else u)) = dsig z := by
  induction z using EReal.rec with
  | bot =>
    have e : u = ⊤ := by rw [hu]; simp [Ideal.log1p, ← EReal.coe_one]
    simp only [e, dsig, EReal.neg_bot, if_true]
    rw [show (0 - (0 - (⊥ : EReal))) = ⊥ by simp, Ideal.exp_bot, add_zero, sub_zero, ← EReal.coe_zero, Ideal.exp_coe, ← EReal.coe_one, Ideal.div_coe one_ne_zero]
    simp
  | top =>
    have e : u = 0 := by rw [hu]; simp [Ideal.log1p, ← EReal.coe_one]
    simp [e, dsig, Ideal.div, ← EReal.coe_one]
  | coe r =>
    have hs := IsReal.ne_top' (soft_real r (IsReal.coe r))
    rw [dsig_real _ (IsReal.coe r), hu, if_neg hs, if_neg]
    rw [← EReal.coe_neg]
    exact EReal.coe_ne_top _

theorem ref_v21 (x0 : FVec Ideal S4096x8 .f32) (x1 : FVec Ideal S1x8 .f32) (j : S4096x8.Idx) :
    val_main_v2_1 (F := Ideal) x0 x1 j = dsig (x0 j + x1 (ix2 0 (j 1))) := by
  idx_vars j
  unfold val_main_v2_1 val_main_call0_call0_v21 val_main_call0_call0_v20 val_main_call0_call0_v19 val_main_call0_call0_cst_3 val_main_call0_call0_v18 val_main_call0_call0_v17 val_main_call0_call0_cst_2 val_main_call0_call0_v16 val_main_call0_call0_v15 val_main_call0_call0_cst_1 val_main_call0_call0_v14 val_main_call0_call0_v13 val_main_call0_call0_cst_0 val_main_call0_v1_0 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v1 val_main_v0
  pointwise
  rw [ofBits_pos_inf]
  simp only [ne_eq, not_true, if_false]
  exact guards _ _ rfl

/-- The gradient of the gates' columns. -/
def dz8 (x0 : FVec Ideal S4096x8 .f32) (x1 : FVec Ideal S1x8 .f32) (x2 : FVec Ideal S4096x8 .f32) (j : S4096x8.Idx) : EReal := suf (col fun r => x2 (ix2 r (j 1))) (j 0).val * dsig (x0 j + x1 (ix2 0 (j 1)))

theorem ref_v5 (x0 : FVec Ideal S4096x8 .f32) (x1 : FVec Ideal S1x8 .f32) (x2 : FVec Ideal S4096x8 .f32) (j : S4096x8.Idx) :
    val_main_v5 (F := Ideal) x0 x1 x2 j = dz8 x0 x1 x2 j := by
  unfold val_main_v5 val_main_call3_v1 val_main_call3_v0
  pointwise
  rw [ref_v4, ref_v21, EReal.neg_mul, neg_neg]
  rfl

theorem zero_suf (n : ℕ) : suf (col fun _ => 0) n = 0 :=
  Finset.sum_eq_zero fun s _ => by unfold col; split_ifs <;> rfl

theorem gz_at (x0 : FVec Ideal S4096x8 .f32) (x1 : FVec Ideal S1x8 .f32) (x2 : FVec Ideal S4096x8 .f32) (j : S4096x128.Idx) :
    gz x0 x1 x2 j = if h : (j 1).val < 8 then dz8 x0 x1 x2 (ix2 (j 0) ⟨(j 1).val, h⟩) else 0 := by
  unfold gz dzAt dz8
  by_cases h : (j 1).val < 8
  · rw [dif_pos h]
    refine congrArg₂ (fun (F : Fin 4096 → EReal) z => suf (col F) (j 0).val * dsig z) (funext fun r => dif_pos h) ?_
    exact congrArg₂ (· + ·) (dif_pos h) (dif_pos h)
  · rw [dif_neg h]
    have e : (fun r : Fin 4096 => padB x2 (ix2 r (j 1))) = fun _ => 0 := funext fun r => dif_neg h
    rw [e, zero_suf, zero_mul]

theorem ref_v8 (x0 : FVec Ideal S4096x8 .f32) (x1 : FVec Ideal S1x8 .f32) (x2 : FVec Ideal S4096x8 .f32) : val_main_v8 (F := Ideal) x0 x1 x2 = gz x0 x1 x2 := by
  funext j
  refine Eq.trans ?_ (gz_at x0 x1 x2 j).symm
  change S4096x128.Idx at j
  idx_vars j
  unfold val_main_v8 val_main_call4_v0 val_main_c
  generalize hv : val_main_v5 (F := Ideal) x0 x1 x2 = v
  pointwise
  rw [zero_pad, ← hv]
  by_cases h : j1.val < 8
  · rw [dif_pos h]
    refine (ref_v5 x0 x1 x2 _).trans ?_
    symm
    exact dif_pos h
  · rw [dif_neg h]
    symm
    exact dif_neg h

theorem ref_v9 (x0 : FVec Ideal S4096x8 .f32) (x1 : FVec Ideal S1x8 .f32) (x2 : FVec Ideal S4096x8 .f32) : val_main_v9 (F := Ideal) x0 x1 x2 = gb x0 x1 x2 := by
  funext j
  change S1x128.Idx at j
  idx_vars j
  unfold val_main_v9 val_main_v7 val_main_v6 val_main_cst val_main_call5_v0 val_main_c_0
  generalize hv : val_main_v5 (F := Ideal) x0 x1 x2 = v
  pointwise
  rw [zero_pad, ← hv]
  have e : gb x0 x1 x2 (ix2 j0 j1) = ∑ r : Fin 4096, gz x0 x1 x2 (ix2 r j1) := by
    unfold gb suf
    rw [Nat.Ico_zero_eq_range, ← Fin.sum_univ_eq_sum_range]
    exact Finset.sum_congr rfl fun r _ => col_val (fun r => gz x0 x1 x2 (ix2 r j1)) r
  rw [e]
  by_cases h : j1.val < 8
  · rw [dif_pos h]
    refine Finset.sum_congr rfl fun r _ => ?_
    refine (ref_v5 x0 x1 x2 _).trans ?_
    symm
    refine (gz_at x0 x1 x2 (ix2 r j1)).trans ?_
    exact dif_pos h
  · rw [dif_neg h]
    refine (Finset.sum_eq_zero fun r _ => ?_).symm
    exact (gz_at x0 x1 x2 (ix2 r j1)).trans (dif_neg h)

/-- What the precondition says. -/
theorem finite_of_pre (x0 : FVec Ideal S4096x8 .f32) (x1 : FVec Ideal S1x8 .f32) (x2 : FVec Ideal S4096x8 .f32)
    (h : Cert.Pre_finite_gates.fn (F := Ideal) x0 x1 x2 = fun _ => 1#1) :
    (∀ i, IsReal (x2 i)) := by
  have e := congrFun h (fun a => a.elim0)
  unfold Cert.Pre_finite_gates.fn  at e
  exact fun i => isReal_of_all e (fun i => rfl) (fun i => rfl) i

theorem frame_ref : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

theorem algebraic : Cert.algebraic_Kernel4Ideal_Reference4Ideal_pre_finite_gates := by
  intro m ρ m' ρ' hpre hagree
  have hr : ∀ c : Dev nD, _ := fun c => finite_of_pre _ _ _ (hpre c)
  refine ⟨fun c => gz (ar0 m c) (ar1 m c) (ar2 m c), fun c => gb (ar0 m c) (ar1 m c) (ar2 m c), run m ρ fun c => hr c, ?_⟩
  refine (θ_run Cert.Reference4Ideal.defs _ _).mono (fun _ h c => ⟨(h c).1.trans ?_, (h c).2.1.trans ?_, (h c).2.2⟩) (Cert.Reference4Ideal.Value.run (F := Ideal) m' ρ')
  · obtain ⟨a0, a1, a2⟩ := hagree c
    rw [val_main_v8_eq, a0, a1, a2]
    exact ref_v8 _ _ _
  · obtain ⟨a0, a1, a2⟩ := hagree c
    rw [val_main_v9_eq, a0, a1, a2]
    exact ref_v9 _ _ _

end Cert.Cum
-- ==== Proof.CumF.lean ====
module

public import proofs.«01_k».proof.Proof.Gen.Kernel13Ideal.Value
public import proofs.«01_k».proof.Proof.Gen.Reference13Ideal.Read
public import proofs.«01_k».proof.Proof.Cum

@[expose] public section

set_option maxRecDepth 16384

noncomputable section

namespace Cert.CumF

open Idealize.ShloMosaic Idealize.ShloMosaic.TcCoe Idealize.SL.Sem Cert.Common
open Idealize.ShloMosaic.Pipeline (Dat RDat)
open Cert.Reference13Ideal.Read
open Cert.Cum (col col_val zero_pad padB padR)
open Cert.Kernel13Ideal Cert.Kernel13Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)

/-- The sum of a sequence before `n`. -/
def pfx (F : ℕ → EReal) (n : ℕ) : EReal := ∑ s ∈ Finset.range n, F s

/-- The rows up to `p` of a block, and the rows before the block. -/
theorem pfx_block (F : ℕ → EReal) (n : ℕ) (p : Fin 128) :
    pfx F (n + p.val + 1) = (∑ q : Fin 128, if q.val ≤ p.val then F (n + q.val) else 0) + pfx F n := by
  have hp := p.isLt
  unfold pfx
  rw [show n + p.val + 1 = n + (p.val + 1) by omega, Finset.sum_range_add, add_comm]
  congr 1
  rw [Fin.sum_univ_eq_sum_range (fun q => if q ≤ p.val then F (n + q) else 0) 128, ← Finset.sum_filter]
  refine Finset.sum_congr ?_ fun q _ => rfl
  ext q
  simp only [Finset.mem_filter, Finset.mem_range]
  omega

/-- The log of a gate, as the plain function states it. -/
def lgate (z : EReal) : EReal := -(max (-z) 0 + Ideal.log1p (Ideal.exp (-(max (-z) (-(-z))))))

theorem lgate_coe (r : ℝ) : lgate (r : EReal) = ((min r 0 - Real.log (1 + Real.exp (-|r|)) : ℝ) : EReal) := by
  have hm : ∀ a b : ℝ, max (a : EReal) (b : EReal) = ((max a b : ℝ) : EReal) := fun a b => (EReal.coe_strictMono.monotone.map_max).symm
  have hp : 0 < 1 + Real.exp (-|r|) := by positivity
  unfold lgate Ideal.log1p
  rw [neg_neg, ← EReal.coe_neg, ← EReal.coe_zero, hm, hm, show max (-r) r = |r| by rw [max_comm]; rfl, ← EReal.coe_neg, Ideal.exp_coe, ← EReal.coe_one, ← EReal.coe_add,
    Ideal.log_coe, if_neg (not_le.2 hp), ← EReal.coe_add, ← EReal.coe_neg]
  congr 1
  rcases le_total r 0 with h | h
  · rw [max_eq_left (by linarith), min_eq_left h]; ring
  · rw [max_eq_right (by linarith), min_eq_right h]; ring

/-- The log of a gate, as the body computes it: a log of one plus the exponential by a quotient, which is one. -/
def klog (z : EReal) : EReal :=
  let e : EReal := Ideal.exp (0 - max z (-z))
  min z 0 - (if 1 + e = 1 then e else Ideal.log (1 + e) * Ideal.div e (if 1 + e = 1 then 1 else 1 + e - 1))

theorem lgate_bot : lgate ⊥ = ⊥ := by
  unfold lgate Ideal.log1p
  simp [← EReal.coe_one]

theorem lgate_top : lgate ⊤ = 0 := by
  unfold lgate Ideal.log1p
  simp [← EReal.coe_one]

theorem klog_eq (z : EReal) : klog z = lgate z := by
  induction z using EReal.rec with
  | bot =>
    rw [lgate_bot]
    unfold klog
    simp
  | top =>
    rw [lgate_top]
    unfold klog
    simp
  | coe r =>
    have hm : max (r : EReal) (-(r : EReal)) = ((|r| : ℝ) : EReal) := by
      rw [← EReal.coe_neg]
      exact (EReal.coe_strictMono.monotone.map_max).symm
    have hn : min (r : EReal) 0 = ((min r 0 : ℝ) : EReal) := by
      rw [← EReal.coe_zero]
      exact (EReal.coe_strictMono.monotone.map_min).symm
    have hE := Real.exp_pos (-|r|)
    have hp : 0 < 1 + Real.exp (-|r|) := by positivity
    have he : Ideal.exp (0 - max (r : EReal) (-(r : EReal))) = ((Real.exp (-|r|) : ℝ) : EReal) := by
      rw [hm, zero_sub, ← EReal.coe_neg, Ideal.exp_coe]
    have ht : (1 : EReal) + ((Real.exp (-|r|) : ℝ) : EReal) = ((1 + Real.exp (-|r|) : ℝ) : EReal) := by
      rw [EReal.coe_add, EReal.coe_one]
    have hne : ¬ (((1 + Real.exp (-|r|) : ℝ) : EReal) = 1) := by
      rw [← EReal.coe_one, EReal.coe_eq_coe_iff]
      intro h
      linarith
    unfold klog
    dsimp only
    rw [he, ht, if_neg hne, if_neg hne, ← EReal.coe_one, ← EReal.coe_sub, Ideal.log_coe, if_neg (not_le.2 hp),
      show 1 + Real.exp (-|r|) - 1 = Real.exp (-|r|) by ring, Ideal.div_coe hE.ne', ← EReal.coe_mul, mul_one_div_cancel hE.ne', hn, lgate_coe,
      EReal.coe_one, mul_one, ← EReal.coe_sub]

theorem lgate_ne_top (z : EReal) : lgate z ≠ ⊤ := by
  induction z using EReal.rec with
  | bot => rw [lgate_bot]; exact bot_ne_top
  | top => rw [lgate_top]; exact EReal.zero_ne_top
  | coe r => rw [lgate_coe]; exact EReal.coe_ne_top _

/-- A value and what is left of it after each of two splits, weighed by nothing or by one. -/
theorem split_sum (w x : EReal) (hw : w = 0 ∨ w = 1) (hx : x ≠ ⊤) : w * x + w * (x - x) + w * (x - x - (x - x)) = w * x := by
  induction x using EReal.rec with
  | bot => rcases hw with rfl | rfl <;> simp
  | top => exact absurd rfl hx
  | coe r =>
    have e : ((r : EReal) - r) = 0 := by rw [← EReal.coe_sub, sub_self, EReal.coe_zero]
    rw [e]
    simp

section
variable (v12 v52 : Vec Ideal S128x128 .f32) (v14 ac : Vec Ideal S1x128 .f32)

theorem ge_bit : ∀ a b : Fin 128, BitVec.setWidth 32 (IntOp.cmpi .sge (BitVec.ofNat 32 a.val) (BitVec.ofNat 32 b.val))
    = if b.val ≤ a.val then 1#32 else 0#32 := by decide +kernel

theorem tri_pay (j : S128x128.Idx) : k0_pay1 (F := Ideal) j = (if (j 1).val ≤ (j 0).val then 1 else 0 : EReal) := by
  idx_vars j
  unfold_payloads
  pointwise
  rw [ge_bit j0 j1]
  by_cases h : j1.val ≤ j0.val
  · rw [if_pos h]; exact (show (((1#32 : BitVec 32).toInt : ℝ) : EReal) = 1 by norm_num).trans (if_pos h).symm
  · rw [if_neg h]; exact (show (((0#32 : BitVec 32).toInt : ℝ) : EReal) = 0 by norm_num).trans (if_neg h).symm

theorem out_pay (j : S128x128.Idx) : k0_pay3 (F := Ideal) ac v52 j = v52 j + ac (ix2 0 (j 1)) := by
  idx_vars j
  unfold_payloads
  pointwise

theorem tail_pay (j : S1x128.Idx) : k0_pay4 (F := Ideal) ac v52 j = v52 (ix2 127 (j 1)) + ac (ix2 0 (j 1)) := by
  idx_vars j
  unfold k0_pay4
  refine Eq.trans ?_ (out_pay v52 ac (ix2 127 j1))
  generalize k0_pay3 (F := Ideal) ac v52 = y
  pointwise

theorem row_pay (j : S128x128.Idx) :
    k0_pay5 (F := Ideal) k0_pay1 v12 v14 j
      = ∑ q : Fin 128, if q.val ≤ (j 0).val then lgate (v12 (ix2 q (j 1)) + v14 (ix2 0 (j 1))) else 0 := by
  idx_vars j
  unfold k0_pay5
  generalize hw : k0_pay1 (F := Ideal) = w
  pointwise
  rw [← Finset.sum_add_distrib, ← Finset.sum_add_distrib]
  refine Finset.sum_congr rfl fun q _ => ?_
  have hb : w (ix2 j0 q) = (if q.val ≤ j0.val then 1 else 0 : EReal) := by rw [← hw]; exact tri_pay _
  have hk : klog (v12 (ix2 q j1) + v14 (ix2 0 j1)) = lgate (v12 (ix2 q j1) + v14 (ix2 0 j1)) := klog_eq _
  refine (split_sum (w (ix2 j0 q)) (klog (v12 (ix2 q j1) + v14 (ix2 0 j1))) ?_ (by rw [hk]; exact lgate_ne_top _)).trans ?_
  · rw [hb]; split_ifs
    · exact .inr rfl
    · exact .inl rfl
  rw [hb, hk]
  show (if q.val ≤ j0.val then (1 : EReal) else 0) * _ = _
  by_cases h : q.val ≤ j0.val
  · rw [if_pos h]; exact (one_mul _).trans (if_pos h).symm
  · rw [if_neg h]; exact (zero_mul _).trans (if_neg h).symm

end

/-- The rows that trip `k` reads. -/
abbrev rect (k : Fin k0_t1_loop.trips) := Rect.unit (s := S4096x128) (k0_off1 k) S128x128.size (k0_off1_inb k)
abbrev rowsAt (x : Vec Ideal S4096x128 .f32) (k : Fin k0_t1_loop.trips) : Vec Ideal S128x128 .f32 := View.ld x (rect k)

/-- What the forward scan leaves at a row and a column. -/
def fAt (x0 : Vec Ideal S4096x128 .f32) (x1 : Vec Ideal S1x128 .f32) : Vec Ideal S4096x128 .f32 := fun j =>
  pfx (col fun r => lgate (x0 (ix2 r (j 1)) + x1 (ix2 0 (j 1)))) ((j 0).val + 1)

/-- The row of the array that row `p` of trip `k` is. -/
def rowOf (k : Fin k0_t1_loop.trips) (p : Fin 128) : Fin 4096 :=
  ⟨128 * k.val + p.val, by have : k.val < 32 := k.isLt; have := p.isLt; omega⟩

theorem rowsAt_val (x : Vec Ideal S4096x128 .f32) (k : Fin k0_t1_loop.trips) (p : Fin 128) (l : Fin 128) :
    rowsAt x k (ix2 p l) = x (ix2 (rowOf k p) l) := by
  refine View.ld_unit_apply_of _ _ _ _ _ _ fun a => Eq.trans ?_ (congrArg (· + _) (congrFun (k0_off1_eq k) a).symm)
  match a with
  | ⟨0, _⟩ => rfl
  | ⟨1, _⟩ => show l.val = 0 + l.val; omega

theorem emb_rect (k : Fin k0_t1_loop.trips) (j : S128x128.Idx) : (rect k).emb j = ix2 (rowOf k (j 0)) (j 1) := by
  funext a
  apply Fin.ext
  show ((rect k).idx j a).val = _
  refine (Rect.idx_unit_val (s := S4096x128) (k0_off1 k) S128x128.size (k0_off1_inb k) j a).trans ((congrArg (· + (j a).val) (congrFun (k0_off1_eq k) a)).trans ?_)
  match a with
  | ⟨0, _⟩ => rfl
  | ⟨1, _⟩ => show 0 + (j 1).val = (j 1).val; omega

section
variable (x0 : Vec Ideal S4096x128 .f32) (x1 : Vec Ideal S1x128 .f32) (k : Fin k0_t1_loop.trips) (ac : Vec Ideal S1x128 .f32)
  (ha : ∀ l : Fin 128, ac (ix2 0 l) = pfx (col fun r => lgate (x0 (ix2 r l) + x1 (ix2 0 l))) (128 * k.val))
include ha

theorem out_step (j : S128x128.Idx) :
    k0_pay3 (F := Ideal) ac (k0_pay5 k0_pay1 (rowsAt x0 k) x1) j = fAt x0 x1 ((rect k).emb j) := by
  rw [emb_rect]
  idx_vars j
  refine (out_pay _ _ _).trans (Eq.trans ?_ (pfx_block _ (128 * k.val) j0).symm)
  refine congrArg₂ (· + ·) ((row_pay _ _ _).trans (Finset.sum_congr rfl fun q _ => ?_)) (ha j1)
  refine if_congr Iff.rfl ?_ rfl
  refine Eq.trans ?_ (col_val (fun r => lgate (x0 (ix2 r j1) + x1 (ix2 0 j1))) (rowOf k q)).symm
  exact congrArg (fun u : EReal => lgate (u + x1 (ix2 0 j1))) (rowsAt_val x0 k q j1)

theorem tail_step (l : Fin 128) :
    k0_pay4 (F := Ideal) ac (k0_pay5 k0_pay1 (rowsAt x0 k) x1) (ix2 0 l) = pfx (col fun r => lgate (x0 (ix2 r l) + x1 (ix2 0 l))) (128 * (k.val + 1)) := by
  refine (tail_pay _ _ _).trans ((out_pay _ _ (ix2 127 l)).symm.trans ((out_step x0 x1 k ac ha (ix2 127 l)).trans ?_))
  rw [emb_rect]
  exact congrArg (pfx _) (show 128 * k.val + 127 + 1 = 128 * (k.val + 1) by omega)

end

section
variable (c : Dev nD) (a0 : Memref sig .tc .vmem S4096x128 .f32) (h0 : a0.IsWhole) (a1 : Memref sig .tc .vmem S1x128 .f32) (h1 : a1.IsWhole) (a2 : Memref sig .tc .vmem S4096x128 .f32) (h2 : a2.IsWhole) (x0 : Vec Ideal S4096x128 .f32) (x1 : Vec Ideal S1x128 .f32)

abbrev st (k : ℕ) := st_k0_t1 (F := Ideal) Variants.none c none a0 h0 a1 h1 a2 h2 (h0.unread x0) (h1.unread x1) k0_pay2 k

theorem tripR_eq (k : Fin k0_t1_loop.trips) (acc : FVec Ideal S1x128 .f32) :
    tripR_k0_t1 (F := Ideal) Variants.none c none a0 h0 a1 h1 a2 h2 (h0.unread x0) (h1.unread x1) k acc
      = k0_pay4 acc (k0_pay5 k0_pay1 (rowsAt x0 k) x1) := by
  unfold tripR_k0_t1 trip_k0_t1
  dsimp only
  sl_unfold_words
  simp only [View.readAt_eq_ld, h0.read_unread, h1.read_unread, View.ld_unit_zero (S := S1x128) hz2]
  rfl

theorem tripL_eq (k : Fin k0_t1_loop.trips) (acc : FVec Ideal S1x128 .f32) :
    tripL_k0_t1 (F := Ideal) Variants.none c none a0 h0 a1 h1 a2 h2 (h0.unread x0) (h1.unread x1) k acc
      = [⟨rect k, k0_pay3 acc (k0_pay5 k0_pay1 (rowsAt x0 k) x1)⟩] := by
  unfold tripL_k0_t1 trip_k0_t1
  dsimp only
  sl_unfold_words
  simp only [View.readAt_eq_ld, h0.read_unread, h1.read_unread, View.ld_unit_zero (S := S1x128) hz2]
  rfl

theorem out_2 : out0_A_2 (F := Ideal) c a0 h0 a1 h1 a2 h2 x0 x1 = View.canon (st c a0 h0 a1 h1 a2 h2 x0 x1 32).2 := by
  unfold out0_A_2
  rw [View.read_writes_eq_canon _ _ _ (cover0_A_2 c a0 h0 a1 h1 a2 h2 x0 x1)]
  unfold kernelRun0_A
  dsimp only
  rfl

theorem inv (k : ℕ) (hk : k ≤ 32) :
    (∀ l : Fin 128, (st c a0 h0 a1 h1 a2 h2 x0 x1 k).1 (ix2 0 l) = pfx (col fun r => lgate (x0 (ix2 r l) + x1 (ix2 0 l))) (128 * k))
    ∧ ∀ p ∈ (st c a0 h0 a1 h1 a2 h2 x0 x1 k).2, ∀ x : p.1.shape.Idx, p.2 x = fAt x0 x1 (p.1.emb x) := by
  induction k with
  | zero =>
    refine ⟨fun l => ?_, fun p hp => by cases hp⟩
    show k0_pay2 (F := Ideal) (ix2 0 l) = _
    rw [Nat.mul_zero, show pfx _ 0 = 0 from Finset.sum_range_zero _]
    unfold_payloads
    pointwise
  | succ k ih =>
    obtain ⟨i1, i2⟩ := ih (by omega)
    have hs := st_k0_t1_succ (F := Ideal) Variants.none c none a0 h0 a1 h1 a2 h2 (h0.unread x0) (h1.unread x1) k0_pay2 ⟨k, show k < 32 by omega⟩
    rw [tripR_eq, tripL_eq] at hs
    change st c a0 h0 a1 h1 a2 h2 x0 x1 (k + 1) = _ at hs
    rw [hs]
    refine ⟨fun l => tail_step x0 x1 ⟨k, show k < 32 by omega⟩ _ i1 l, fun p hp => ?_⟩
    rcases List.mem_cons.1 hp with rfl | hp
    · exact fun x => out_step x0 x1 ⟨k, show k < 32 by omega⟩ _ i1 x
    · exact i2 p hp

theorem out2_eq : out0_A_2 (F := Ideal) c a0 h0 a1 h1 a2 h2 x0 x1 = fAt x0 x1 := by
  rw [out_2]
  funext j
  exact View.canon_apply_of_pieces (Val := Elt Ideal) (e := .f32) (fAt x0 x1) _ (inv c a0 h0 a1 h1 a2 h2 x0 x1 32 le_rfl).2 j (cover0_A_2 c a0 h0 a1 h1 a2 h2 x0 x1 j)

end

theorem V_v0 (c : Dev nD) : V m c main_v0 = padB (ar0 m c) := by
  funext i
  change S4096x128.Idx at i
  idx_vars i
  unfold V
  after_reads_at
  rw [zero_pad]
  rfl

theorem V_v1 (c : Dev nD) : V m c main_v1 = padR (ar1 m c) := by
  funext i
  change S1x128.Idx at i
  idx_vars i
  unfold V
  after_reads_at
  rw [zero_pad]
  rfl

theorem idx_facts : ∀ t : Fin cfg0.N, win0_0.index t 0 = 0 ∧ win0_0.index t 1 = 0 ∧ win0_1.index t 0 = 0 ∧ win0_1.index t 1 = 0 ∧ win0_2.index t 0 = 0 ∧ win0_2.index t 1 = 0 :=
  (by decide +kernel : ∀ t : Fin grid0.N, _)

theorem blk0 (c : Dev nD) (t : Fin cfg0.N) : iblk m c 0 t = padB (ar0 m c) := by
  funext y
  change S4096x128.Idx at y
  exact (congrArg (V m c main_v0) (emb_of win0_0 t y y (fall2 (toBlk0 rfl (idx_facts t).1) (toBlk0 rfl (idx_facts t).2.1)))).trans (congrFun (V_v0 m c) y)

theorem blk1 (c : Dev nD) (t : Fin cfg0.N) : iblk m c 1 t = padR (ar1 m c) := by
  funext y
  change S1x128.Idx at y
  exact (congrArg (V m c main_v1) (emb_of win0_1 t y y (fall2 (toBlk0 rfl (idx_facts t).2.2.1) (toBlk0 rfl (idx_facts t).2.2.2.1)))).trans (congrFun (V_v1 m c) y)

/-- The running sums of the logs of the gates. -/
def fOf (z : Vec Ideal S4096x8 .f32) (b : Vec Ideal S1x8 .f32) : Vec Ideal S4096x128 .f32 := fAt (padB z) (padR b)

theorem outs (c : Dev nD) (t : Fin cfg0.N) : outsAt0 m c t = fOf (ar0 m c) (ar1 m c) := by
  unfold outsAt0
  rw [blk0, blk1]
  exact out2_eq _ _ _ _ _ _ _ _ _

theorem cover2 (i : S4096x128.Idx) :
    ∃ t : Fin cfg0.N, (cfg0.win 2).flush t = true ∧ i ∈ ((cfg0.win 2).blk t).view.set := by
  have h0 : (i 0).val < 4096 := (i 0).isLt
  have h1 : (i 1).val < 128 := (i 1).isLt
  have hN : cfg0.N = 1 := N_0
  obtain ⟨t, ht⟩ : ∃ t : Fin cfg0.N, t.val = 0 := ⟨⟨_, by omega⟩, rfl⟩
  exact ⟨t, by revert t; decide +kernel, in_blk (b := main_v2) (fall2 (inBlk (i := (i 0).val) (n := 4096) (idx_facts t).2.2.2.2.1 (by omega)) (inBlk (i := (i 1).val) (n := 128) (idx_facts t).2.2.2.2.2 (by omega)))⟩

theorem final2 (c : Dev nD) : (dats m 0 c).arrAt 2 cfg0.N = fOf (ar0 m c) (ar1 m c) := by
  funext i
  refine (dats m 0 c).arrAt_forall_of_cover 2 (fun i v => v = fOf (ar0 m c) (ar1 m c) i) (fun t ht y => ?_) cover2 i
  generalize hi : ((cfg0.win 2).blk t).view.emb y = i'
  have k0 := ofBlk0 (emb_at win0_2 t y i' hi 0) (idx_facts t).2.2.2.2.1
  have k1 := ofBlk0 (emb_at win0_2 t y i' hi 1) (idx_facts t).2.2.2.2.2
  obtain rfl : i' = y := funext fun a => Fin.ext (match a with | ⟨0, _⟩ => k0 | ⟨1, _⟩ => k1)
  have hf : (dats m 0 c).flushed 2 t i' = outsAt0 m c t i' := by
    rw [Cert.Kernel13Ideal.Value.flushed2]
  exact hf.trans (congrFun (outs m c t) i')

theorem run :
    θ_run (Cert.Kernel13Ideal.defs (F := Ideal)) (onTc (τ := τ) (Cert.Kernel13Ideal.main (F := Ideal))) ⟨m, fun _ => 0, ρ⟩ fun r => ∀ c : Dev nD,
      r.2.mem ((c : Thread nD τ).loc main_v2) = fOf (ar0 m c) (ar1 m c)
      ∧ r.2.mem ((c : Thread nD τ).loc main_arg0) = ar0 m c
      ∧ r.2.mem ((c : Thread nD τ).loc main_arg1) = ar1 m c :=
  (θ_run _ _ _).mono (fun _ e c => ⟨(e c).1.trans (final2 m c), (e c).2⟩)
    (Cert.Kernel13Ideal.Value.run_blocks (F := Ideal) m ρ)

theorem ref_v3 (x0 : FVec Ideal S4096x8 .f32) (x1 : FVec Ideal S1x8 .f32) (j : S4096x128.Idx) :
    val_main_v3 (F := Ideal) x0 x1 j = padB x0 j + padR x1 (ix2 0 (j 1)) := by
  idx_vars j
  unfold val_main_v3 val_main_v2 val_main_v1 val_main_call1_v0 val_main_c_0 val_main_v0 val_main_call0_v0 val_main_c
  pointwise
  rw [zero_pad]
  rfl

theorem ref_v4 (x0 : FVec Ideal S4096x8 .f32) (x1 : FVec Ideal S1x8 .f32) (j : S4096x128.Idx) :
    val_main_v4 (F := Ideal) x0 x1 j = lgate (padB x0 j + padR x1 (ix2 0 (j 1))) := by
  rw [← ref_v3]
  idx_vars j
  unfold val_main_v4 val_main_call2_v1 val_main_call2_call0_v11 val_main_call2_call0_v10 val_main_call2_call0_v9 val_main_call2_call0_v8 val_main_call2_call0_v7 val_main_call2_call0_v6 val_main_call2_call0_v5 val_main_call2_call0_v4 val_main_call2_call0_v3 val_main_call2_call0_v2 val_main_call2_call0_v1 val_main_call2_call0_v0 val_main_call2_call0_cst val_main_call2_v0
  generalize val_main_v3 (F := Ideal) x0 x1 = z
  pointwise
  simp only [ne_eq, not_true, if_false]
  rfl

/-- A window that ends at the row takes the rows before it. -/
theorem pfx_window (F : Fin 4096 → EReal) (n : ℕ) (hn : n < 4096) :
    (∑ p : Fin 4096, if hs : 4095 ≤ n + p.val ∧ n + p.val - 4095 < 4096 then F ⟨n + p.val - 4095, hs.2⟩ else 0) = pfx (col F) (n + 1) := by
  have e : ∀ p : Fin 4096, (if hs : 4095 ≤ n + p.val ∧ n + p.val - 4095 < 4096 then F ⟨n + p.val - 4095, hs.2⟩ else 0)
      = if 4095 ≤ n + p.val then col F (n + p.val - 4095) else 0 := fun p => by
    have hp := p.isLt
    by_cases h : 4095 ≤ n + p.val
    · have h' : n + p.val - 4095 < 4096 := by omega
      rw [dif_pos ⟨h, h'⟩, if_pos h]
      exact (col_val F ⟨_, h'⟩).symm
    · rw [dif_neg fun k => h k.1, if_neg h]
  rw [Finset.sum_congr rfl fun p _ => e p, Fin.sum_univ_eq_sum_range (fun p => if 4095 ≤ n + p then col F (n + p - 4095) else 0) 4096,
    show 4096 = (4095 - n) + (n + 1) by omega, Finset.sum_range_add]
  refine (congrArg (· + _) (Finset.sum_eq_zero fun p hp => ?_)).trans ((zero_add _).trans (Finset.sum_congr rfl fun p _ => ?_))
  · rw [Finset.mem_range] at hp
    exact if_neg (by omega)
  · rw [if_pos (by omega)]
    exact congrArg (col F) (by omega)

theorem ref_v5 (x0 : FVec Ideal S4096x8 .f32) (x1 : FVec Ideal S1x8 .f32) : val_main_v5 (F := Ideal) x0 x1 = fOf x0 x1 := by
  funext j
  change S4096x128.Idx at j
  unfold val_main_v5
  unfold Host.reduceWindowAdd
  have hz : ∀ i, val_main_call3_call0_v0 (F := Ideal) i = (0 : EReal) := fun i => by
    unfold val_main_call3_call0_v0 val_main_call3_call0_cst
    pointwise
  rw [Ideal.hostReduceWindowAdd_def, hz]
  refine (Cert.Cum.window_any 4096 128 4095 0 (val_main_v4 (F := Ideal) x0 x1) j _).trans ((pfx_window (fun r => val_main_v4 (F := Ideal) x0 x1 (ix2 r (j 1))) (j 0).val (j 0).isLt).trans ?_)
  exact congrArg (fun F => pfx (col F) ((j 0).val + 1)) (funext fun r => ref_v4 x0 x1 (ix2 r (j 1)))

theorem frame_ref : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem algebraic : Cert.algebraic_Kernel13Ideal_Reference13Ideal := by
  intro m ρ m' ρ' _ hagree
  refine ⟨fun c => fOf (ar0 m c) (ar1 m c), run m ρ, ?_⟩
  refine (θ_run Cert.Reference13Ideal.defs _ _).mono (fun _ h c => ⟨(h c).1.trans ?_, (h c).2⟩) (Cert.Reference13Ideal.Value.run (F := Ideal) m' ρ')
  obtain ⟨a0, a1⟩ := hagree c
  rw [val_main_v5_eq, a0, a1]
  exact ref_v5 _ _

end Cert.CumF
-- ==== Proof.Adam.lean ====
module

public import proofs.«01_k».proof.Proof.Gen.Kernel14Ideal.Value
public import proofs.«01_k».proof.Proof.Gen.Reference14Ideal.Read
public import proofs.«01_k».proof.Proof.Common
public import proofs.«01_k».proof.Proof.Win

@[expose] public section

set_option maxRecDepth 16384

noncomputable section

namespace Cert.Adam

open Idealize.ShloMosaic Idealize.ShloMosaic.TcCoe Idealize.SL.Sem Cert.Common
open Cert.Reference14Ideal.Read Cert.Kernel14Ideal Cert.Kernel14Ideal.Value

abbrev Row := FVec Ideal S1x1024 .f32

theorem ref_v4 (g m : Row) : val_main_v4 (F := Ideal) g m = G5 g m := by
  funext j
  idx_vars j
  unfold val_main_v4 val_main_v3 val_main_v2 val_main_cst_0 val_main_v1 val_main_v0 val_main_cst G5
  pointwise []

theorem ref_v10 (g v : Row) : val_main_v10 (F := Ideal) g v = G6 g v := by
  funext j
  idx_vars j
  unfold val_main_v10 val_main_v9 val_main_v8 val_main_cst_2 val_main_v7 val_main_v6 val_main_v5 val_main_cst_1 G6
  pointwise []

theorem ref_v23 (w g m v : Row) : val_main_v23 (F := Ideal) w g m v = G4 g m v w := by
  funext j
  idx_vars j
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v10 val_main_v9 val_main_v8 val_main_cst_2 val_main_v7 val_main_v6 val_main_v5 val_main_cst_1 val_main_v4 val_main_v3 val_main_v2 val_main_cst_0 val_main_v1 val_main_v0 val_main_cst G4
  pointwise []

theorem frame_ref : Cert.quiescent_Reference14Ideal := fun m ρ _ =>
  (θ_run Cert.Reference14Ideal.defs _ _).mono (fun r h => ⟨fun c => (h c).2.2.2, Idealize.ShloMosaic.sem_eq_zero_of_no_sems (by decide) r.2⟩)
    (Cert.Reference14Ideal.Value.run (F := Ideal) m ρ)

theorem algebraic : Cert.algebraic_Kernel14Ideal_Reference14Ideal := by
  intro m ρ m' ρ' _ hagree
  refine ⟨_, _, _, run m ρ, ?_⟩
  refine (θ_run Cert.Reference14Ideal.defs _ _).mono (fun _ h c => ⟨((h c).1).trans ?_, ((h c).2.1).trans ?_, ((h c).2.2.1).trans ?_, (h c).2.2.2⟩) (Cert.Reference14Ideal.Value.run (F := Ideal) m' ρ')
  · obtain ⟨a0, a1, a2, a3⟩ := hagree c
    rw [val_main_v23_eq, a0, a1, a2, a3]
    exact ref_v23 _ _ _ _
  · obtain ⟨a0, a1, a2, a3⟩ := hagree c
    rw [val_main_v4_eq, a1, a2]
    exact ref_v4 _ _
  · obtain ⟨a0, a1, a2, a3⟩ := hagree c
    rw [val_main_v10_eq, a1, a3]
    exact ref_v10 _ _

end Cert.Adam
-- ==== Proof.Mm.lean ====
module

public import proofs.«01_k».proof.Proof.Gen.Kernel15Ideal.Value
public import proofs.«01_k».proof.Proof.Gen.Reference15Ideal.Read
public import proofs.«01_k».proof.Proof.Common
public import proofs.«01_k».proof.Proof.Win

@[expose] public section

set_option maxRecDepth 16384

noncomputable section

namespace Cert.Mm

open Idealize.ShloMosaic Idealize.ShloMosaic.TcCoe Idealize.SL.Sem Cert.Common
open Idealize.ShloMosaic.Pipeline (Dat RDat)
open Cert.Reference15Ideal.Read
open Cert.Kernel15Ideal Cert.Kernel15Ideal.Gen

variable (m : (ℓ : Loc nD τ sig) → Buf (Elt Ideal) ℓ) (ρ : Dev nD → PrngReg)

abbrev ar0 (c : Dev nD) := m ((c : Thread nD τ).loc main_arg0)
abbrev ar1 (c : Dev nD) := m ((c : Thread nD τ).loc main_arg1)

def dot (a w : Fin 1024 → EReal) : EReal := ∑ k, a k * w k
/-- The product of a block of rows and a block of columns. -/
def blk (x0 x1 : Vec Ideal S1024x1024 .bf16) : Vec Ideal S1024x1024 .bf16 :=
  fun j => dot (fun k => x0 (ix2 (j 0) k)) (fun k => x1 (ix2 k (j 1)))
/-- The product. -/
def res (x : FVec Ideal S4096x1024 .f32) (w : FVec Ideal S1024x2048 .f32) : FVec Ideal S4096x2048 .bf16 :=
  fun i => dot (fun k => x (ix2 (i 0) k)) (fun k => w (ix2 k (i 1)))

theorem pay (x0 x1 : Vec Ideal S1024x1024 .bf16) (j : S1024x1024.Idx) : k0_pay1 x0 x1 j = blk x0 x1 j := by
  idx_vars j
  unfold_payloads
  pointwise [blk, dot]

theorem out (x0 x1 : Vec Ideal S1024x1024 .bf16) (j : S1024x1024.Idx) : out0_2 x0 x1 j = blk x0 x1 j := by
  unfold out0_2
  rw [View.canon_unit_zero hz2, View.ld_unit_zero hz2, View.ld_unit_zero hz2]
  exact pay x0 x1 j

theorem V_v0 (c : Dev nD) (i : S4096x1024.Idx) : V m c main_v0 i = (ar0 m c) i := by
  unfold V
  after_reads_at
theorem V_v1 (c : Dev nD) (i : S1024x2048.Idx) : V m c main_v1 i = (ar1 m c) i := by
  unfold V
  after_reads_at

theorem idx : ∀ t : Fin cfg0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2 ∧ t.val < 8 :=
  (by decide +kernel : ∀ t : Fin grid0.N, _)

section
variable (c : Dev nD) (t : Fin cfg0.N)
theorem iblk0_at (y : S1024x1024.Idx) (i : S4096x1024.Idx) (h0 : (i 0).val = t.val / 2 * 1024 + (y 0).val) (h1 : (i 1).val = (y 1).val) :
    iblk m c 0 t y = ar0 m c i :=
  (congrArg (V m c main_v0) (emb_of win0_0 t y i (fall2 (toBlk h0 (idx t).1.1) (toBlk0 h1 (idx t).1.2)))).trans (V_v0 m c i)
theorem iblk1_at (y : S1024x1024.Idx) (i : S1024x2048.Idx) (h0 : (i 0).val = (y 0).val) (h1 : (i 1).val = t.val % 2 * 1024 + (y 1).val) :
    iblk m c 1 t y = ar1 m c i :=
  (congrArg (V m c main_v1) (emb_of win0_1 t y i (fall2 (toBlk0 h0 (idx t).2.1.1) (toBlk h1 (idx t).2.1.2)))).trans (V_v1 m c i)
theorem tile (p l : Fin 1024) (s : Fin 4096) (q : Fin 2048) (h : s.val = t.val / 2 * 1024 + p.val) (h' : q.val = t.val % 2 * 1024 + l.val) :
    blk (iblk m c 0 t) (iblk m c 1 t) (ix2 p l) = res (ar0 m c) (ar1 m c) (ix2 s q) :=
  congrArg₂ dot (funext fun k => iblk0_at m c t (ix2 p k) (ix2 s k) h rfl) (funext fun k => iblk1_at m c t (ix2 k l) (ix2 k q) rfl h')
end

theorem cover (i : S4096x2048.Idx) :
    ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 8 := N_0
  obtain ⟨t, ht⟩ : ∃ t : Fin cfg0.N, t.val = (i 0).val / 1024 * 2 + (i 1).val / 1024 := ⟨⟨_, by omega⟩, rfl⟩
  exact ⟨t, flush0_2 t, in_blk (b := main_v2) (fall2 (inBlk (i := (i 0).val) (n := 1024) (idx t).2.2.1 (by omega)) (inBlk (i := (i 1).val) (n := 1024) (idx t).2.2.2.1 (by omega)))⟩

theorem final (c : Dev nD) : (dats m 0 c).arrAt 2 cfg0.N = res (ar0 m c) (ar1 m c) := by
  funext i
  refine (dats m 0 c).arrAt_forall_of_cover 2 (fun i v => v = res (ar0 m c) (ar1 m c) i) (fun t _ y => ?_) cover i
  generalize hi : ((cfg0.win 2).blk t).view.emb y = i'
  have hf : (dats m 0 c).flushed 2 t y = blk (iblk m c 0 t) (iblk m c 1 t) y := by
    rw [Cert.Kernel15Ideal.Value.flushed2]
    exact out (iblk m c 0 t) (iblk m c 1 t) y
  refine (hf : _ = _).trans ?_
  exact by2 (tile m c t (y 0) (y 1) (i' 0) (i' 1) (ofBlk (emb_at win0_2 t y i' hi 0) (idx t).2.2.1) (ofBlk (emb_at win0_2 t y i' hi 1) (idx t).2.2.2.1))

theorem ref_v1 (x0 : FVec Ideal S4096x1024 .f32) (x1 : FVec Ideal S1024x2048 .f32) :
    val_main_v1 (F := Ideal) x0 x1 = res x0 x1 := by
  funext j
  idx_vars j
  unfold val_main_v1 val_main_v0
  pointwise [res, dot]

theorem frame_ref : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨fun c => res (ar0 m c) (ar1 m c), (θ_run _ _ _).mono (fun _ h c => ⟨((h c).1).trans (final m c), (h c).2⟩)
    (Cert.Kernel15Ideal.Value.run_blocks (F := Ideal) m ρ), ?_⟩
  refine (θ_run Cert.Reference15Ideal.defs _ _).mono (fun _ h c => ⟨((h c).1).trans ?_, (h c).2⟩) (Cert.Reference15Ideal.Value.run (F := Ideal) m' ρ')
  obtain ⟨a0, a1⟩ := hagree c
  rw [val_main_v1_eq, a0, a1]
  exact ref_v1 _ _

end Cert.Mm
-- ==== Proof.lean ====
module

public import proofs.«01_k».proof.Proof.Swiglu
public import proofs.«01_k».proof.Proof.FoxAlg
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.DH2
public import proofs.«01_k».proof.Proof.Gen.Kernel7.Frame
public import proofs.«01_k».proof.Proof.DH
public import proofs.«01_k».proof.Proof.Gen.Kernel8.Frame
public import proofs.«01_k».proof.Proof.Loss
public import proofs.«01_k».proof.Proof.Gen.Kernel9.Frame
public import proofs.«01_k».proof.Proof.Gen.Kernel10.Frame
public import proofs.«01_k».proof.Proof.GMix
public import proofs.«01_k».proof.Proof.Gen.Kernel11.Frame
public import proofs.«01_k».proof.Proof.FfnIn
public import proofs.«01_k».proof.Proof.Gen.Kernel12.Frame
public import proofs.«01_k».proof.Proof.DMix
public import proofs.«01_k».proof.Proof.Gen.Kernel13.Frame
public import proofs.«01_k».proof.Proof.CumF
public import proofs.«01_k».proof.Proof.Gen.Kernel14.Frame
public import proofs.«01_k».proof.Proof.Adam
public import proofs.«01_k».proof.Proof.Gen.Kernel15.Frame
public import proofs.«01_k».proof.Proof.Mm

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite_swiglu.Gen.facts, Cert.Pre_finite_fox.Gen.facts, Cert.Pre_finite_mix.Gen.facts, Cert.Pre_finite_gates.Gen.facts, Cert.Pre_finite_normed.Gen.facts, Cert.Pre_finite_projected.Gen.facts, Cert.Pre_finite_loss.Gen.facts, Cert.Pre_finite_lse.Gen.facts,
  fun m ρ _ => Cert.Kernel.Gen.frame m ρ,
  fun m ρ _ => Cert.KernelIdeal.Gen.frame m ρ,
  fun m ρ _ => ((fun m ρ _ => Cert.KernelIdeal.Gen.frame m ρ) : Cert.quiescent_KernelIdeal) m ρ trivial,
  Cert.Swiglu.frame_ref,
  fun m ρ _ => ((Cert.Swiglu.frame_ref) : Cert.quiescent_ReferenceIdeal) m ρ trivial,
  Cert.Fox.frame_bits,
  Cert.Fox.frame_ideal,
  fun m ρ _ => ((Cert.Fox.frame_ideal) : Cert.quiescent_Kernel2Ideal) m ρ trivial,
  Cert.Fox.frame_ref,
  fun m ρ _ => ((Cert.Fox.frame_ref) : Cert.quiescent_Reference2Ideal) m ρ trivial,
  fun m ρ _ => Cert.Kernel3.Gen.frame m ρ,
  fun m ρ _ => Cert.Kernel3Ideal.Gen.frame m ρ,
  fun m ρ _ => ((fun m ρ _ => Cert.Kernel3Ideal.Gen.frame m ρ) : Cert.quiescent_Kernel3Ideal) m ρ trivial,
  Cert.Mixb.frame_ref,
  fun m ρ _ => ((Cert.Mixb.frame_ref) : Cert.quiescent_Reference3Ideal) m ρ trivial,
  fun m ρ _ => Cert.Kernel4.Gen.frame m ρ,
  fun m ρ _ => Cert.Kernel4Ideal.Gen.frame m ρ,
  fun m ρ _ => ((fun m ρ _ => Cert.Kernel4Ideal.Gen.frame m ρ) : Cert.quiescent_Kernel4Ideal) m ρ trivial,
  Cert.Cum.frame_ref,
  fun m ρ _ => ((Cert.Cum.frame_ref) : Cert.quiescent_Reference4Ideal) m ρ trivial,
  fun m ρ _ => Cert.Kernel5.Gen.frame m ρ,
  fun m ρ _ => Cert.Kernel5Ideal.Gen.frame m ρ,
  Cert.Gate.frame_ref,
  fun m ρ _ => Cert.Kernel6.Gen.frame m ρ,
  fun m ρ _ => Cert.Kernel6Ideal.Gen.frame m ρ,
  fun m ρ _ => ((fun m ρ _ => Cert.Kernel6Ideal.Gen.frame m ρ) : Cert.quiescent_Kernel6Ideal) m ρ trivial,
  Cert.DH2.frame_ref,
  fun m ρ _ => ((Cert.DH2.frame_ref) : Cert.quiescent_Reference6Ideal) m ρ trivial,
  fun m ρ _ => Cert.Kernel7.Gen.frame m ρ,
  fun m ρ _ => Cert.Kernel7Ideal.Gen.frame m ρ,
  fun m ρ _ => ((fun m ρ _ => Cert.Kernel7Ideal.Gen.frame m ρ) : Cert.quiescent_Kernel7Ideal) m ρ trivial,
  Cert.DH.frame_ref,
  fun m ρ _ => ((Cert.DH.frame_ref) : Cert.quiescent_Reference7Ideal) m ρ trivial,
  fun m ρ _ => Cert.Kernel8.Gen.frame m ρ,
  fun m ρ _ => Cert.Kernel8Ideal.Gen.frame m ρ,
  fun m ρ _ => ((fun m ρ _ => Cert.Kernel8Ideal.Gen.frame m ρ) : Cert.quiescent_Kernel8Ideal) m ρ trivial,
  Cert.Loss.frame_ref,
  fun m ρ _ => ((Cert.Loss.frame_ref) : Cert.quiescent_Reference8Ideal) m ρ trivial,
  fun m ρ _ => Cert.Kernel9.Gen.frame m ρ,
  fun m ρ _ => Cert.Kernel9Ideal.Gen.frame m ρ,
  Cert.RmsF.frame_ref,
  fun m ρ _ => Cert.Kernel10.Gen.frame m ρ,
  fun m ρ _ => Cert.Kernel10Ideal.Gen.frame m ρ,
  Cert.GMix.frame_ref,
  fun m ρ _ => Cert.Kernel11.Gen.frame m ρ,
  fun m ρ _ => Cert.Kernel11Ideal.Gen.frame m ρ,
  Cert.FfnIn.frame_ref,
  fun m ρ _ => Cert.Kernel12.Gen.frame m ρ,
  fun m ρ _ => Cert.Kernel12Ideal.Gen.frame m ρ,
  fun m ρ _ => ((fun m ρ _ => Cert.Kernel12Ideal.Gen.frame m ρ) : Cert.quiescent_Kernel12Ideal) m ρ trivial,
  Cert.DMix.frame_ref,
  fun m ρ _ => ((Cert.DMix.frame_ref) : Cert.quiescent_Reference12Ideal) m ρ trivial,
  fun m ρ _ => Cert.Kernel13.Gen.frame m ρ,
  fun m ρ _ => Cert.Kernel13Ideal.Gen.frame m ρ,
  Cert.CumF.frame_ref,
  fun m ρ _ => Cert.Kernel14.Gen.frame m ρ,
  fun m ρ _ => Cert.Kernel14Ideal.Gen.frame m ρ,
  Cert.Adam.frame_ref,
  fun m ρ _ => Cert.Kernel15.Gen.frame m ρ,
  fun m ρ _ => Cert.Kernel15Ideal.Gen.frame m ρ,
  Cert.Mm.frame_ref,
  trivial,
  Cert.Swiglu.algebraic,
  trivial,
  Cert.Fox.algebraic,
  trivial,
  Cert.Mixb.algebraic,
  trivial,
  Cert.Cum.algebraic,
  trivial,
  Cert.Gate.algebraic,
  trivial,
  Cert.DH2.algebraic,
  trivial,
  Cert.DH.algebraic,
  trivial,
  Cert.Loss.algebraic,
  trivial,
  Cert.RmsF.algebraic,
  trivial,
  Cert.GMix.algebraic,
  trivial,
  Cert.FfnIn.algebraic,
  trivial,
  Cert.DMix.algebraic,
  trivial,
  Cert.CumF.algebraic,
  trivial,
  Cert.Adam.algebraic,
  trivial,
  Cert.Mm.algebraic⟩

end Cert.Proof

end
